-- ==== Defs.lean ====
def Pre_MemBwd (m : (ℓ : Loc Cert.MemBwd.nD Cert.MemBwd.τ Cert.MemBwd.sig) → Buf (Elt Bits) ℓ) : Prop :=
  True

def Pre_MemBwdIdeal (m : (ℓ : Loc Cert.MemBwdIdeal.nD Cert.MemBwdIdeal.τ Cert.MemBwdIdeal.sig) → Buf (Elt Ideal) ℓ) : Prop :=
  True

def Pre_MemBwdIdeal_mem_finite [hPre_mem_finite : Cert.Pre_mem_finite.Facts] (m : (ℓ : Loc Cert.MemBwdIdeal.nD Cert.MemBwdIdeal.τ Cert.MemBwdIdeal.sig) → Buf (Elt Ideal) ℓ) : Prop :=
  ∀ c : Dev Cert.MemBwdIdeal.nD,
    (Cert.Pre_mem_finite.fn (F := Ideal) (m ((c.tc : Thread Cert.MemBwdIdeal.nD Cert.MemBwdIdeal.τ).loc Cert.MemBwdIdeal.main_arg0)) (m ((c.tc : Thread Cert.MemBwdIdeal.nD Cert.MemBwdIdeal.τ).loc Cert.MemBwdIdeal.main_arg1)) (m ((c.tc : Thread Cert.MemBwdIdeal.nD Cert.MemBwdIdeal.τ).loc Cert.MemBwdIdeal.main_arg2))) = (fun _ => 1#1)

def Pre_MemGradIdeal (m : (ℓ : Loc Cert.MemGradIdeal.nD Cert.MemGradIdeal.τ Cert.MemGradIdeal.sig) → Buf (Elt Ideal) ℓ) : Prop :=
  True

def Pre_MemGradIdeal_mem_finite [hPre_mem_finite : Cert.Pre_mem_finite.Facts] (m : (ℓ : Loc Cert.MemGradIdeal.nD Cert.MemGradIdeal.τ Cert.MemGradIdeal.sig) → Buf (Elt Ideal) ℓ) : Prop :=
  ∀ c : Dev Cert.MemGradIdeal.nD,
    (Cert.Pre_mem_finite.fn (F := Ideal) (m ((c.tc : Thread Cert.MemGradIdeal.nD Cert.MemGradIdeal.τ).loc Cert.MemGradIdeal.main_arg0)) (m ((c.tc : Thread Cert.MemGradIdeal.nD Cert.MemGradIdeal.τ).loc Cert.MemGradIdeal.main_arg1)) (m ((c.tc : Thread Cert.MemGradIdeal.nD Cert.MemGradIdeal.τ).loc Cert.MemGradIdeal.main_arg2))) = (fun _ => 1#1)

def Pre_SguBwd (m : (ℓ : Loc Cert.SguBwd.nD Cert.SguBwd.τ Cert.SguBwd.sig) → Buf (Elt Bits) ℓ) : Prop :=
  True

def Pre_SguBwdIdeal (m : (ℓ : Loc Cert.SguBwdIdeal.nD Cert.SguBwdIdeal.τ Cert.SguBwdIdeal.sig) → Buf (Elt Ideal) ℓ) : Prop :=
  True

def Pre_SguBwdIdeal_sgu_finite [hPre_sgu_finite : Cert.Pre_sgu_finite.Facts] (m : (ℓ : Loc Cert.SguBwdIdeal.nD Cert.SguBwdIdeal.τ Cert.SguBwdIdeal.sig) → Buf (Elt Ideal) ℓ) : Prop :=
  ∀ c : Dev Cert.SguBwdIdeal.nD,
    (Cert.Pre_sgu_finite.fn (F := Ideal) (m ((c.tc : Thread Cert.SguBwdIdeal.nD Cert.SguBwdIdeal.τ).loc Cert.SguBwdIdeal.main_arg0)) (m ((c.tc : Thread Cert.SguBwdIdeal.nD Cert.SguBwdIdeal.τ).loc Cert.SguBwdIdeal.main_arg1)) (m ((c.tc : Thread Cert.SguBwdIdeal.nD Cert.SguBwdIdeal.τ).loc Cert.SguBwdIdeal.main_arg2)) (m ((c.tc : Thread Cert.SguBwdIdeal.nD Cert.SguBwdIdeal.τ).loc Cert.SguBwdIdeal.main_arg3)) (m ((c.tc : Thread Cert.SguBwdIdeal.nD Cert.SguBwdIdeal.τ).loc Cert.SguBwdIdeal.main_arg4)) (m ((c.tc : Thread Cert.SguBwdIdeal.nD Cert.SguBwdIdeal.τ).loc Cert.SguBwdIdeal.main_arg5))) = (fun _ => 1#1)

def Pre_SguGradIdeal (m : (ℓ : Loc Cert.SguGradIdeal.nD Cert.SguGradIdeal.τ Cert.SguGradIdeal.sig) → Buf (Elt Ideal) ℓ) : Prop :=
  True

def Pre_SguGradIdeal_sgu_finite [hPre_sgu_finite : Cert.Pre_sgu_finite.Facts] (m : (ℓ : Loc Cert.SguGradIdeal.nD Cert.SguGradIdeal.τ Cert.SguGradIdeal.sig) → Buf (Elt Ideal) ℓ) : Prop :=
  ∀ c : Dev Cert.SguGradIdeal.nD,
    (Cert.Pre_sgu_finite.fn (F := Ideal) (m ((c.tc : Thread Cert.SguGradIdeal.nD Cert.SguGradIdeal.τ).loc Cert.SguGradIdeal.main_arg0)) (m ((c.tc : Thread Cert.SguGradIdeal.nD Cert.SguGradIdeal.τ).loc Cert.SguGradIdeal.main_arg1)) (m ((c.tc : Thread Cert.SguGradIdeal.nD Cert.SguGradIdeal.τ).loc Cert.SguGradIdeal.main_arg2)) (m ((c.tc : Thread Cert.SguGradIdeal.nD Cert.SguGradIdeal.τ).loc Cert.SguGradIdeal.main_arg3)) (m ((c.tc : Thread Cert.SguGradIdeal.nD Cert.SguGradIdeal.τ).loc Cert.SguGradIdeal.main_arg4)) (m ((c.tc : Thread Cert.SguGradIdeal.nD Cert.SguGradIdeal.τ).loc Cert.SguGradIdeal.main_arg5))) = (fun _ => 1#1)

def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateBwdIdeal_gate_finite [hPre_gate_finite : Cert.Pre_gate_finite.Facts] (m : (ℓ : Loc Cert.GateBwdIdeal.nD Cert.GateBwdIdeal.τ Cert.GateBwdIdeal.sig) → Buf (Elt Ideal) ℓ) : Prop :=
  ∀ c : Dev Cert.GateBwdIdeal.nD,
    (Cert.Pre_gate_finite.fn (F := Ideal) (m ((c.tc : Thread Cert.GateBwdIdeal.nD Cert.GateBwdIdeal.τ).loc Cert.GateBwdIdeal.main_arg0)) (m ((c.tc : Thread Cert.GateBwdIdeal.nD Cert.GateBwdIdeal.τ).loc Cert.GateBwdIdeal.main_arg1)) (m ((c.tc : Thread Cert.GateBwdIdeal.nD Cert.GateBwdIdeal.τ).loc Cert.GateBwdIdeal.main_arg2)) (m ((c.tc : Thread Cert.GateBwdIdeal.nD Cert.GateBwdIdeal.τ).loc Cert.GateBwdIdeal.main_arg3)) (m ((c.tc : Thread Cert.GateBwdIdeal.nD Cert.GateBwdIdeal.τ).loc Cert.GateBwdIdeal.main_arg4))) = (fun _ => 1#1)

def Pre_GateGradIdeal (m : (ℓ : Loc Cert.GateGradIdeal.nD Cert.GateGradIdeal.τ Cert.GateGradIdeal.sig) → Buf (Elt Ideal) ℓ) : Prop :=
  True

def Pre_GateGradIdeal_gate_finite [hPre_gate_finite : Cert.Pre_gate_finite.Facts] (m : (ℓ : Loc Cert.GateGradIdeal.nD Cert.GateGradIdeal.τ Cert.GateGradIdeal.sig) → Buf (Elt Ideal) ℓ) : Prop :=
  ∀ c : Dev Cert.GateGradIdeal.nD,
    (Cert.Pre_gate_finite.fn (F := Ideal) (m ((c.tc : Thread Cert.GateGradIdeal.nD Cert.GateGradIdeal.τ).loc Cert.GateGradIdeal.main_arg0)) (m ((c.tc : Thread Cert.GateGradIdeal.nD Cert.GateGradIdeal.τ).loc Cert.GateGradIdeal.main_arg1)) (m ((c.tc : Thread Cert.GateGradIdeal.nD Cert.GateGradIdeal.τ).loc Cert.GateGradIdeal.main_arg2)) (m ((c.tc : Thread Cert.GateGradIdeal.nD Cert.GateGradIdeal.τ).loc Cert.GateGradIdeal.main_arg3)) (m ((c.tc : Thread Cert.GateGradIdeal.nD Cert.GateGradIdeal.τ).loc Cert.GateGradIdeal.main_arg4))) = (fun _ => 1#1)

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInIdeal_ffn_in_finite [hPre_ffn_in_finite : Cert.Pre_ffn_in_finite.Facts] (m : (ℓ : Loc Cert.FfnInIdeal.nD Cert.FfnInIdeal.τ Cert.FfnInIdeal.sig) → Buf (Elt Ideal) ℓ) : Prop :=
  ∀ c : Dev Cert.FfnInIdeal.nD,
    (Cert.Pre_ffn_in_finite.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5)) (m ((c.tc : Thread Cert.FfnInIdeal.nD Cert.FfnInIdeal.τ).loc Cert.FfnInIdeal.main_arg6)) (m ((c.tc : Thread Cert.FfnInIdeal.nD Cert.FfnInIdeal.τ).loc Cert.FfnInIdeal.main_arg7))) = (fun _ => 1#1)

def Pre_FfnGradIdeal (m : (ℓ : Loc Cert.FfnGradIdeal.nD Cert.FfnGradIdeal.τ Cert.FfnGradIdeal.sig) → Buf (Elt Ideal) ℓ) : Prop :=
  True

def Pre_FfnGradIdeal_ffn_in_finite [hPre_ffn_in_finite : Cert.Pre_ffn_in_finite.Facts] (m : (ℓ : Loc Cert.FfnGradIdeal.nD Cert.FfnGradIdeal.τ Cert.FfnGradIdeal.sig) → Buf (Elt Ideal) ℓ) : Prop :=
  ∀ c : Dev Cert.FfnGradIdeal.nD,
    (Cert.Pre_ffn_in_finite.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3)) (m ((c.tc : Thread Cert.FfnGradIdeal.nD Cert.FfnGradIdeal.τ).loc Cert.FfnGradIdeal.main_arg4)) (m ((c.tc : Thread Cert.FfnGradIdeal.nD Cert.FfnGradIdeal.τ).loc Cert.FfnGradIdeal.main_arg5)) (m ((c.tc : Thread Cert.FfnGradIdeal.nD Cert.FfnGradIdeal.τ).loc Cert.FfnGradIdeal.main_arg6)) (m ((c.tc : Thread Cert.FfnGradIdeal.nD Cert.FfnGradIdeal.τ).loc Cert.FfnGradIdeal.main_arg7))) = (fun _ => 1#1)

def Pre_ProjBwd (m : (ℓ : Loc Cert.ProjBwd.nD Cert.ProjBwd.τ Cert.ProjBwd.sig) → Buf (Elt Bits) ℓ) : Prop :=
  True

def Pre_ProjBwdIdeal (m : (ℓ : Loc Cert.ProjBwdIdeal.nD Cert.ProjBwdIdeal.τ Cert.ProjBwdIdeal.sig) → Buf (Elt Ideal) ℓ) : Prop :=
  True

def Pre_ProjBwdIdeal_proj_finite [hPre_proj_finite : Cert.Pre_proj_finite.Facts] (m : (ℓ : Loc Cert.ProjBwdIdeal.nD Cert.ProjBwdIdeal.τ Cert.ProjBwdIdeal.sig) → Buf (Elt Ideal) ℓ) : Prop :=
  ∀ c : Dev Cert.ProjBwdIdeal.nD,
    (Cert.Pre_proj_finite.fn (F := Ideal) (m ((c.tc : Thread Cert.ProjBwdIdeal.nD Cert.ProjBwdIdeal.τ).loc Cert.ProjBwdIdeal.main_arg0)) (m ((c.tc : Thread Cert.ProjBwdIdeal.nD Cert.ProjBwdIdeal.τ).loc Cert.ProjBwdIdeal.main_arg1)) (m ((c.tc : Thread Cert.ProjBwdIdeal.nD Cert.ProjBwdIdeal.τ).loc Cert.ProjBwdIdeal.main_arg2)) (m ((c.tc : Thread Cert.ProjBwdIdeal.nD Cert.ProjBwdIdeal.τ).loc Cert.ProjBwdIdeal.main_arg3)) (m ((c.tc : Thread Cert.ProjBwdIdeal.nD Cert.ProjBwdIdeal.τ).loc Cert.ProjBwdIdeal.main_arg4)) (m ((c.tc : Thread Cert.ProjBwdIdeal.nD Cert.ProjBwdIdeal.τ).loc Cert.ProjBwdIdeal.main_arg5)) (m ((c.tc : Thread Cert.ProjBwdIdeal.nD Cert.ProjBwdIdeal.τ).loc Cert.ProjBwdIdeal.main_arg6)) (m ((c.tc : Thread Cert.ProjBwdIdeal.nD Cert.ProjBwdIdeal.τ).loc Cert.ProjBwdIdeal.main_arg7)) (m ((c.tc : Thread Cert.ProjBwdIdeal.nD Cert.ProjBwdIdeal.τ).loc Cert.ProjBwdIdeal.main_arg8))) = (fun _ => 1#1)

def Pre_ProjGradIdeal (m : (ℓ : Loc Cert.ProjGradIdeal.nD Cert.ProjGradIdeal.τ Cert.ProjGradIdeal.sig) → Buf (Elt Ideal) ℓ) : Prop :=
  True

def Pre_ProjGradIdeal_proj_finite [hPre_proj_finite : Cert.Pre_proj_finite.Facts] (m : (ℓ : Loc Cert.ProjGradIdeal.nD Cert.ProjGradIdeal.τ Cert.ProjGradIdeal.sig) → Buf (Elt Ideal) ℓ) : Prop :=
  ∀ c : Dev Cert.ProjGradIdeal.nD,
    (Cert.Pre_proj_finite.fn (F := Ideal) (m ((c.tc : Thread Cert.ProjGradIdeal.nD Cert.ProjGradIdeal.τ).loc Cert.ProjGradIdeal.main_arg0)) (m ((c.tc : Thread Cert.ProjGradIdeal.nD Cert.ProjGradIdeal.τ).loc Cert.ProjGradIdeal.main_arg1)) (m ((c.tc : Thread Cert.ProjGradIdeal.nD Cert.ProjGradIdeal.τ).loc Cert.ProjGradIdeal.main_arg2)) (m ((c.tc : Thread Cert.ProjGradIdeal.nD Cert.ProjGradIdeal.τ).loc Cert.ProjGradIdeal.main_arg3)) (m ((c.tc : Thread Cert.ProjGradIdeal.nD Cert.ProjGradIdeal.τ).loc Cert.ProjGradIdeal.main_arg4)) (m ((c.tc : Thread Cert.ProjGradIdeal.nD Cert.ProjGradIdeal.τ).loc Cert.ProjGradIdeal.main_arg5)) (m ((c.tc : Thread Cert.ProjGradIdeal.nD Cert.ProjGradIdeal.τ).loc Cert.ProjGradIdeal.main_arg6)) (m ((c.tc : Thread Cert.ProjGradIdeal.nD Cert.ProjGradIdeal.τ).loc Cert.ProjGradIdeal.main_arg7)) (m ((c.tc : Thread Cert.ProjGradIdeal.nD Cert.ProjGradIdeal.τ).loc Cert.ProjGradIdeal.main_arg8))) = (fun _ => 1#1)

def Pre_LossBwd (m : (ℓ : Loc Cert.LossBwd.nD Cert.LossBwd.τ Cert.LossBwd.sig) → Buf (Elt Bits) ℓ) : Prop :=
  True

def Pre_LossBwdIdeal (m : (ℓ : Loc Cert.LossBwdIdeal.nD Cert.LossBwdIdeal.τ Cert.LossBwdIdeal.sig) → Buf (Elt Ideal) ℓ) : Prop :=
  True

def Pre_LossBwdIdeal_loss_finite [hPre_loss_finite : Cert.Pre_loss_finite.Facts] (m : (ℓ : Loc Cert.LossBwdIdeal.nD Cert.LossBwdIdeal.τ Cert.LossBwdIdeal.sig) → Buf (Elt Ideal) ℓ) : Prop :=
  ∀ c : Dev Cert.LossBwdIdeal.nD,
    (Cert.Pre_loss_finite.fn (F := Ideal) (m ((c.tc : Thread Cert.LossBwdIdeal.nD Cert.LossBwdIdeal.τ).loc Cert.LossBwdIdeal.main_arg0)) (m ((c.tc : Thread Cert.LossBwdIdeal.nD Cert.LossBwdIdeal.τ).loc Cert.LossBwdIdeal.main_arg1)) (m ((c.tc : Thread Cert.LossBwdIdeal.nD Cert.LossBwdIdeal.τ).loc Cert.LossBwdIdeal.main_arg2)) (m ((c.tc : Thread Cert.LossBwdIdeal.nD Cert.LossBwdIdeal.τ).loc Cert.LossBwdIdeal.main_arg3))) = (fun _ => 1#1)

def Pre_LossGradIdeal (m : (ℓ : Loc Cert.LossGradIdeal.nD Cert.LossGradIdeal.τ Cert.LossGradIdeal.sig) → Buf (Elt Ideal) ℓ) : Prop :=
  True

def Pre_LossGradIdeal_loss_finite [hPre_loss_finite : Cert.Pre_loss_finite.Facts] (m : (ℓ : Loc Cert.LossGradIdeal.nD Cert.LossGradIdeal.τ Cert.LossGradIdeal.sig) → Buf (Elt Ideal) ℓ) : Prop :=
  ∀ c : Dev Cert.LossGradIdeal.nD,
    (Cert.Pre_loss_finite.fn (F := Ideal) (m ((c.tc : Thread Cert.LossGradIdeal.nD Cert.LossGradIdeal.τ).loc Cert.LossGradIdeal.main_arg0)) (m ((c.tc : Thread Cert.LossGradIdeal.nD Cert.LossGradIdeal.τ).loc Cert.LossGradIdeal.main_arg1)) (m ((c.tc : Thread Cert.LossGradIdeal.nD Cert.LossGradIdeal.τ).loc Cert.LossGradIdeal.main_arg2)) (m ((c.tc : Thread Cert.LossGradIdeal.nD Cert.LossGradIdeal.τ).loc Cert.LossGradIdeal.main_arg3))) = (fun _ => 1#1)

def Pre_MemOddBwd (m : (ℓ : Loc Cert.MemOddBwd.nD Cert.MemOddBwd.τ Cert.MemOddBwd.sig) → Buf (Elt Bits) ℓ) : Prop :=
  True

def Pre_MemOddBwdIdeal (m : (ℓ : Loc Cert.MemOddBwdIdeal.nD Cert.MemOddBwdIdeal.τ Cert.MemOddBwdIdeal.sig) → Buf (Elt Ideal) ℓ) : Prop :=
  True

def Pre_MemOddBwdIdeal_mem_odd_finite [hPre_mem_odd_finite : Cert.Pre_mem_odd_finite.Facts] (m : (ℓ : Loc Cert.MemOddBwdIdeal.nD Cert.MemOddBwdIdeal.τ Cert.MemOddBwdIdeal.sig) → Buf (Elt Ideal) ℓ) : Prop :=
  ∀ c : Dev Cert.MemOddBwdIdeal.nD,
    (Cert.Pre_mem_odd_finite.fn (F := Ideal) (m ((c.tc : Thread Cert.MemOddBwdIdeal.nD Cert.MemOddBwdIdeal.τ).loc Cert.MemOddBwdIdeal.main_arg0)) (m ((c.tc : Thread Cert.MemOddBwdIdeal.nD Cert.MemOddBwdIdeal.τ).loc Cert.MemOddBwdIdeal.main_arg1)) (m ((c.tc : Thread Cert.MemOddBwdIdeal.nD Cert.MemOddBwdIdeal.τ).loc Cert.MemOddBwdIdeal.main_arg2))) = (fun _ => 1#1)

def Pre_MemOddGradIdeal (m : (ℓ : Loc Cert.MemOddGradIdeal.nD Cert.MemOddGradIdeal.τ Cert.MemOddGradIdeal.sig) → Buf (Elt Ideal) ℓ) : Prop :=
  True

def Pre_MemOddGradIdeal_mem_odd_finite [hPre_mem_odd_finite : Cert.Pre_mem_odd_finite.Facts] (m : (ℓ : Loc Cert.MemOddGradIdeal.nD Cert.MemOddGradIdeal.τ Cert.MemOddGradIdeal.sig) → Buf (Elt Ideal) ℓ) : Prop :=
  ∀ c : Dev Cert.MemOddGradIdeal.nD,
    (Cert.Pre_mem_odd_finite.fn (F := Ideal) (m ((c.tc : Thread Cert.MemOddGradIdeal.nD Cert.MemOddGradIdeal.τ).loc Cert.MemOddGradIdeal.main_arg0)) (m ((c.tc : Thread Cert.MemOddGradIdeal.nD Cert.MemOddGradIdeal.τ).loc Cert.MemOddGradIdeal.main_arg1)) (m ((c.tc : Thread Cert.MemOddGradIdeal.nD Cert.MemOddGradIdeal.τ).loc Cert.MemOddGradIdeal.main_arg2))) = (fun _ => 1#1)

def Pre_ProjOddBwd (m : (ℓ : Loc Cert.ProjOddBwd.nD Cert.ProjOddBwd.τ Cert.ProjOddBwd.sig) → Buf (Elt Bits) ℓ) : Prop :=
  True

def Pre_ProjOddBwdIdeal (m : (ℓ : Loc Cert.ProjOddBwdIdeal.nD Cert.ProjOddBwdIdeal.τ Cert.ProjOddBwdIdeal.sig) → Buf (Elt Ideal) ℓ) : Prop :=
  True

def Pre_ProjOddBwdIdeal_proj_odd_finite [hPre_proj_odd_finite : Cert.Pre_proj_odd_finite.Facts] (m : (ℓ : Loc Cert.ProjOddBwdIdeal.nD Cert.ProjOddBwdIdeal.τ Cert.ProjOddBwdIdeal.sig) → Buf (Elt Ideal) ℓ) : Prop :=
  ∀ c : Dev Cert.ProjOddBwdIdeal.nD,
    (Cert.Pre_proj_odd_finite.fn (F := Ideal) (m ((c.tc : Thread Cert.ProjOddBwdIdeal.nD Cert.ProjOddBwdIdeal.τ).loc Cert.ProjOddBwdIdeal.main_arg0)) (m ((c.tc : Thread Cert.ProjOddBwdIdeal.nD Cert.ProjOddBwdIdeal.τ).loc Cert.ProjOddBwdIdeal.main_arg1)) (m ((c.tc : Thread Cert.ProjOddBwdIdeal.nD Cert.ProjOddBwdIdeal.τ).loc Cert.ProjOddBwdIdeal.main_arg2)) (m ((c.tc : Thread Cert.ProjOddBwdIdeal.nD Cert.ProjOddBwdIdeal.τ).loc Cert.ProjOddBwdIdeal.main_arg3)) (m ((c.tc : Thread Cert.ProjOddBwdIdeal.nD Cert.ProjOddBwdIdeal.τ).loc Cert.ProjOddBwdIdeal.main_arg4)) (m ((c.tc : Thread Cert.ProjOddBwdIdeal.nD Cert.ProjOddBwdIdeal.τ).loc Cert.ProjOddBwdIdeal.main_arg5)) (m ((c.tc : Thread Cert.ProjOddBwdIdeal.nD Cert.ProjOddBwdIdeal.τ).loc Cert.ProjOddBwdIdeal.main_arg6)) (m ((c.tc : Thread Cert.ProjOddBwdIdeal.nD Cert.ProjOddBwdIdeal.τ).loc Cert.ProjOddBwdIdeal.main_arg7))) = (fun _ => 1#1)

def Pre_ProjOddGradIdeal (m : (ℓ : Loc Cert.ProjOddGradIdeal.nD Cert.ProjOddGradIdeal.τ Cert.ProjOddGradIdeal.sig) → Buf (Elt Ideal) ℓ) : Prop :=
  True

def Pre_ProjOddGradIdeal_proj_odd_finite [hPre_proj_odd_finite : Cert.Pre_proj_odd_finite.Facts] (m : (ℓ : Loc Cert.ProjOddGradIdeal.nD Cert.ProjOddGradIdeal.τ Cert.ProjOddGradIdeal.sig) → Buf (Elt Ideal) ℓ) : Prop :=
  ∀ c : Dev Cert.ProjOddGradIdeal.nD,
    (Cert.Pre_proj_odd_finite.fn (F := Ideal) (m ((c.tc : Thread Cert.ProjOddGradIdeal.nD Cert.ProjOddGradIdeal.τ).loc Cert.ProjOddGradIdeal.main_arg0)) (m ((c.tc : Thread Cert.ProjOddGradIdeal.nD Cert.ProjOddGradIdeal.τ).loc Cert.ProjOddGradIdeal.main_arg1)) (m ((c.tc : Thread Cert.ProjOddGradIdeal.nD Cert.ProjOddGradIdeal.τ).loc Cert.ProjOddGradIdeal.main_arg2)) (m ((c.tc : Thread Cert.ProjOddGradIdeal.nD Cert.ProjOddGradIdeal.τ).loc Cert.ProjOddGradIdeal.main_arg3)) (m ((c.tc : Thread Cert.ProjOddGradIdeal.nD Cert.ProjOddGradIdeal.τ).loc Cert.ProjOddGradIdeal.main_arg4)) (m ((c.tc : Thread Cert.ProjOddGradIdeal.nD Cert.ProjOddGradIdeal.τ).loc Cert.ProjOddGradIdeal.main_arg5)) (m ((c.tc : Thread Cert.ProjOddGradIdeal.nD Cert.ProjOddGradIdeal.τ).loc Cert.ProjOddGradIdeal.main_arg6)) (m ((c.tc : Thread Cert.ProjOddGradIdeal.nD Cert.ProjOddGradIdeal.τ).loc Cert.ProjOddGradIdeal.main_arg7))) = (fun _ => 1#1)

def Pre_MemFwd (m : (ℓ : Loc Cert.MemFwd.nD Cert.MemFwd.τ Cert.MemFwd.sig) → Buf (Elt Bits) ℓ) : Prop :=
  True

def Pre_MemFwdIdeal (m : (ℓ : Loc Cert.MemFwdIdeal.nD Cert.MemFwdIdeal.τ Cert.MemFwdIdeal.sig) → Buf (Elt Ideal) ℓ) : Prop :=
  True

def Pre_MemFwdIdeal_mem_fwd_finite [hPre_mem_fwd_finite : Cert.Pre_mem_fwd_finite.Facts] (m : (ℓ : Loc Cert.MemFwdIdeal.nD Cert.MemFwdIdeal.τ Cert.MemFwdIdeal.sig) → Buf (Elt Ideal) ℓ) : Prop :=
  ∀ c : Dev Cert.MemFwdIdeal.nD,
    (Cert.Pre_mem_fwd_finite.fn (F := Ideal) (m ((c.tc : Thread Cert.MemFwdIdeal.nD Cert.MemFwdIdeal.τ).loc Cert.MemFwdIdeal.main_arg0)) (m ((c.tc : Thread Cert.MemFwdIdeal.nD Cert.MemFwdIdeal.τ).loc Cert.MemFwdIdeal.main_arg1))) = (fun _ => 1#1)

def Pre_MemFwdRefIdeal (m : (ℓ : Loc Cert.MemFwdRefIdeal.nD Cert.MemFwdRefIdeal.τ Cert.MemFwdRefIdeal.sig) → Buf (Elt Ideal) ℓ) : Prop :=
  True

def Pre_MemFwdRefIdeal_mem_fwd_finite [hPre_mem_fwd_finite : Cert.Pre_mem_fwd_finite.Facts] (m : (ℓ : Loc Cert.MemFwdRefIdeal.nD Cert.MemFwdRefIdeal.τ Cert.MemFwdRefIdeal.sig) → Buf (Elt Ideal) ℓ) : Prop :=
  ∀ c : Dev Cert.MemFwdRefIdeal.nD,
    (Cert.Pre_mem_fwd_finite.fn (F := Ideal) (m ((c.tc : Thread Cert.MemFwdRefIdeal.nD Cert.MemFwdRefIdeal.τ).loc Cert.MemFwdRefIdeal.main_arg0)) (m ((c.tc : Thread Cert.MemFwdRefIdeal.nD Cert.MemFwdRefIdeal.τ).loc Cert.MemFwdRefIdeal.main_arg1))) = (fun _ => 1#1)

def Pre_MemFwdOdd (m : (ℓ : Loc Cert.MemFwdOdd.nD Cert.MemFwdOdd.τ Cert.MemFwdOdd.sig) → Buf (Elt Bits) ℓ) : Prop :=
  True

def Pre_MemFwdOddIdeal (m : (ℓ : Loc Cert.MemFwdOddIdeal.nD Cert.MemFwdOddIdeal.τ Cert.MemFwdOddIdeal.sig) → Buf (Elt Ideal) ℓ) : Prop :=
  True

def Pre_MemFwdOddIdeal_mem_fwd_odd_finite [hPre_mem_fwd_odd_finite : Cert.Pre_mem_fwd_odd_finite.Facts] (m : (ℓ : Loc Cert.MemFwdOddIdeal.nD Cert.MemFwdOddIdeal.τ Cert.MemFwdOddIdeal.sig) → Buf (Elt Ideal) ℓ) : Prop :=
  ∀ c : Dev Cert.MemFwdOddIdeal.nD,
    (Cert.Pre_mem_fwd_odd_finite.fn (F := Ideal) (m ((c.tc : Thread Cert.MemFwdOddIdeal.nD Cert.MemFwdOddIdeal.τ).loc Cert.MemFwdOddIdeal.main_arg0)) (m ((c.tc : Thread Cert.MemFwdOddIdeal.nD Cert.MemFwdOddIdeal.τ).loc Cert.MemFwdOddIdeal.main_arg1))) = (fun _ => 1#1)

def Pre_MemFwdOddRefIdeal (m : (ℓ : Loc Cert.MemFwdOddRefIdeal.nD Cert.MemFwdOddRefIdeal.τ Cert.MemFwdOddRefIdeal.sig) → Buf (Elt Ideal) ℓ) : Prop :=
  True

def Pre_MemFwdOddRefIdeal_mem_fwd_odd_finite [hPre_mem_fwd_odd_finite : Cert.Pre_mem_fwd_odd_finite.Facts] (m : (ℓ : Loc Cert.MemFwdOddRefIdeal.nD Cert.MemFwdOddRefIdeal.τ Cert.MemFwdOddRefIdeal.sig) → Buf (Elt Ideal) ℓ) : Prop :=
  ∀ c : Dev Cert.MemFwdOddRefIdeal.nD,
    (Cert.Pre_mem_fwd_odd_finite.fn (F := Ideal) (m ((c.tc : Thread Cert.MemFwdOddRefIdeal.nD Cert.MemFwdOddRefIdeal.τ).loc Cert.MemFwdOddRefIdeal.main_arg0)) (m ((c.tc : Thread Cert.MemFwdOddRefIdeal.nD Cert.MemFwdOddRefIdeal.τ).loc Cert.MemFwdOddRefIdeal.main_arg1))) = (fun _ => 1#1)

def Pre_SguFwd (m : (ℓ : Loc Cert.SguFwd.nD Cert.SguFwd.τ Cert.SguFwd.sig) → Buf (Elt Bits) ℓ) : Prop :=
  True

def Pre_SguFwdIdeal (m : (ℓ : Loc Cert.SguFwdIdeal.nD Cert.SguFwdIdeal.τ Cert.SguFwdIdeal.sig) → Buf (Elt Ideal) ℓ) : Prop :=
  True

def Pre_SguFwdIdeal_sgu_fwd_finite [hPre_sgu_fwd_finite : Cert.Pre_sgu_fwd_finite.Facts] (m : (ℓ : Loc Cert.SguFwdIdeal.nD Cert.SguFwdIdeal.τ Cert.SguFwdIdeal.sig) → Buf (Elt Ideal) ℓ) : Prop :=
  ∀ c : Dev Cert.SguFwdIdeal.nD,
    (Cert.Pre_sgu_fwd_finite.fn (F := Ideal) (m ((c.tc : Thread Cert.SguFwdIdeal.nD Cert.SguFwdIdeal.τ).loc Cert.SguFwdIdeal.main_arg0)) (m ((c.tc : Thread Cert.SguFwdIdeal.nD Cert.SguFwdIdeal.τ).loc Cert.SguFwdIdeal.main_arg1)) (m ((c.tc : Thread Cert.SguFwdIdeal.nD Cert.SguFwdIdeal.τ).loc Cert.SguFwdIdeal.main_arg2)) (m ((c.tc : Thread Cert.SguFwdIdeal.nD Cert.SguFwdIdeal.τ).loc Cert.SguFwdIdeal.main_arg3)) (m ((c.tc : Thread Cert.SguFwdIdeal.nD Cert.SguFwdIdeal.τ).loc Cert.SguFwdIdeal.main_arg4))) = (fun _ => 1#1)

def Pre_SguFwdRefIdeal (m : (ℓ : Loc Cert.SguFwdRefIdeal.nD Cert.SguFwdRefIdeal.τ Cert.SguFwdRefIdeal.sig) → Buf (Elt Ideal) ℓ) : Prop :=
  True

def Pre_SguFwdRefIdeal_sgu_fwd_finite [hPre_sgu_fwd_finite : Cert.Pre_sgu_fwd_finite.Facts] (m : (ℓ : Loc Cert.SguFwdRefIdeal.nD Cert.SguFwdRefIdeal.τ Cert.SguFwdRefIdeal.sig) → Buf (Elt Ideal) ℓ) : Prop :=
  ∀ c : Dev Cert.SguFwdRefIdeal.nD,
    (Cert.Pre_sgu_fwd_finite.fn (F := Ideal) (m ((c.tc : Thread Cert.SguFwdRefIdeal.nD Cert.SguFwdRefIdeal.τ).loc Cert.SguFwdRefIdeal.main_arg0)) (m ((c.tc : Thread Cert.SguFwdRefIdeal.nD Cert.SguFwdRefIdeal.τ).loc Cert.SguFwdRefIdeal.main_arg1)) (m ((c.tc : Thread Cert.SguFwdRefIdeal.nD Cert.SguFwdRefIdeal.τ).loc Cert.SguFwdRefIdeal.main_arg2)) (m ((c.tc : Thread Cert.SguFwdRefIdeal.nD Cert.SguFwdRefIdeal.τ).loc Cert.SguFwdRefIdeal.main_arg3)) (m ((c.tc : Thread Cert.SguFwdRefIdeal.nD Cert.SguFwdRefIdeal.τ).loc Cert.SguFwdRefIdeal.main_arg4))) = (fun _ => 1#1)

def Pre_UpFwd (m : (ℓ : Loc Cert.UpFwd.nD Cert.UpFwd.τ Cert.UpFwd.sig) → Buf (Elt Bits) ℓ) : Prop :=
  True

def Pre_UpFwdIdeal (m : (ℓ : Loc Cert.UpFwdIdeal.nD Cert.UpFwdIdeal.τ Cert.UpFwdIdeal.sig) → Buf (Elt Ideal) ℓ) : Prop :=
  True

def Pre_UpFwdIdeal_up_finite [hPre_up_finite : Cert.Pre_up_finite.Facts] (m : (ℓ : Loc Cert.UpFwdIdeal.nD Cert.UpFwdIdeal.τ Cert.UpFwdIdeal.sig) → Buf (Elt Ideal) ℓ) : Prop :=
  ∀ c : Dev Cert.UpFwdIdeal.nD,
    (Cert.Pre_up_finite.fn (F := Ideal) (m ((c.tc : Thread Cert.UpFwdIdeal.nD Cert.UpFwdIdeal.τ).loc Cert.UpFwdIdeal.main_arg0)) (m ((c.tc : Thread Cert.UpFwdIdeal.nD Cert.UpFwdIdeal.τ).loc Cert.UpFwdIdeal.main_arg1)) (m ((c.tc : Thread Cert.UpFwdIdeal.nD Cert.UpFwdIdeal.τ).loc Cert.UpFwdIdeal.main_arg2))) = (fun _ => 1#1)

def Pre_UpFwdRefIdeal (m : (ℓ : Loc Cert.UpFwdRefIdeal.nD Cert.UpFwdRefIdeal.τ Cert.UpFwdRefIdeal.sig) → Buf (Elt Ideal) ℓ) : Prop :=
  True

def Pre_UpFwdRefIdeal_up_finite [hPre_up_finite : Cert.Pre_up_finite.Facts] (m : (ℓ : Loc Cert.UpFwdRefIdeal.nD Cert.UpFwdRefIdeal.τ Cert.UpFwdRefIdeal.sig) → Buf (Elt Ideal) ℓ) : Prop :=
  ∀ c : Dev Cert.UpFwdRefIdeal.nD,
    (Cert.Pre_up_finite.fn (F := Ideal) (m ((c.tc : Thread Cert.UpFwdRefIdeal.nD Cert.UpFwdRefIdeal.τ).loc Cert.UpFwdRefIdeal.main_arg0)) (m ((c.tc : Thread Cert.UpFwdRefIdeal.nD Cert.UpFwdRefIdeal.τ).loc Cert.UpFwdRefIdeal.main_arg1)) (m ((c.tc : Thread Cert.UpFwdRefIdeal.nD Cert.UpFwdRefIdeal.τ).loc Cert.UpFwdRefIdeal.main_arg2))) = (fun _ => 1#1)

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdRefIdeal (m : (ℓ : Loc Cert.DownFwdRefIdeal.nD Cert.DownFwdRefIdeal.τ Cert.DownFwdRefIdeal.sig) → Buf (Elt Ideal) ℓ) : Prop :=
  True

def Pre_XBwd (m : (ℓ : Loc Cert.XBwd.nD Cert.XBwd.τ Cert.XBwd.sig) → Buf (Elt Bits) ℓ) : Prop :=
  True

def Pre_XBwdIdeal (m : (ℓ : Loc Cert.XBwdIdeal.nD Cert.XBwdIdeal.τ Cert.XBwdIdeal.sig) → Buf (Elt Ideal) ℓ) : Prop :=
  True

def Pre_XGradIdeal (m : (ℓ : Loc Cert.XGradIdeal.nD Cert.XGradIdeal.τ Cert.XGradIdeal.sig) → Buf (Elt Ideal) ℓ) : Prop :=
  True

def Pre_CatBwd (m : (ℓ : Loc Cert.CatBwd.nD Cert.CatBwd.τ Cert.CatBwd.sig) → Buf (Elt Bits) ℓ) : Prop :=
  True

def Pre_CatBwdIdeal (m : (ℓ : Loc Cert.CatBwdIdeal.nD Cert.CatBwdIdeal.τ Cert.CatBwdIdeal.sig) → Buf (Elt Ideal) ℓ) : Prop :=
  True

def Pre_CatGradIdeal (m : (ℓ : Loc Cert.CatGradIdeal.nD Cert.CatGradIdeal.τ Cert.CatGradIdeal.sig) → Buf (Elt Ideal) ℓ) : Prop :=
  True

def Pre_KvFwd (m : (ℓ : Loc Cert.KvFwd.nD Cert.KvFwd.τ Cert.KvFwd.sig) → Buf (Elt Bits) ℓ) : Prop :=
  True

def Pre_KvFwdIdeal (m : (ℓ : Loc Cert.KvFwdIdeal.nD Cert.KvFwdIdeal.τ Cert.KvFwdIdeal.sig) → Buf (Elt Ideal) ℓ) : Prop :=
  True

def Pre_KvFwdRefIdeal (m : (ℓ : Loc Cert.KvFwdRefIdeal.nD Cert.KvFwdRefIdeal.τ Cert.KvFwdRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_InOddFwd (m : (ℓ : Loc Cert.InOddFwd.nD Cert.InOddFwd.τ Cert.InOddFwd.sig) → Buf (Elt Bits) ℓ) : Prop :=
  True

def Pre_InOddFwdIdeal (m : (ℓ : Loc Cert.InOddFwdIdeal.nD Cert.InOddFwdIdeal.τ Cert.InOddFwdIdeal.sig) → Buf (Elt Ideal) ℓ) : Prop :=
  True

def Pre_InOddFwdRefIdeal (m : (ℓ : Loc Cert.InOddFwdRefIdeal.nD Cert.InOddFwdRefIdeal.τ Cert.InOddFwdRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_KvBwd (m : (ℓ : Loc Cert.KvBwd.nD Cert.KvBwd.τ Cert.KvBwd.sig) → Buf (Elt Bits) ℓ) : Prop :=
  True

def Pre_KvBwdIdeal (m : (ℓ : Loc Cert.KvBwdIdeal.nD Cert.KvBwdIdeal.τ Cert.KvBwdIdeal.sig) → Buf (Elt Ideal) ℓ) : Prop :=
  True

def Pre_KvGradIdeal (m : (ℓ : Loc Cert.KvGradIdeal.nD Cert.KvGradIdeal.τ Cert.KvGradIdeal.sig) → Buf (Elt Ideal) ℓ) : Prop :=
  True

def Pre_HidBwd (m : (ℓ : Loc Cert.HidBwd.nD Cert.HidBwd.τ Cert.HidBwd.sig) → Buf (Elt Bits) ℓ) : Prop :=
  True

def Pre_HidBwdIdeal (m : (ℓ : Loc Cert.HidBwdIdeal.nD Cert.HidBwdIdeal.τ Cert.HidBwdIdeal.sig) → Buf (Elt Ideal) ℓ) : Prop :=
  True

def Pre_HidGradIdeal (m : (ℓ : Loc Cert.HidGradIdeal.nD Cert.HidGradIdeal.τ Cert.HidGradIdeal.sig) → Buf (Elt Ideal) ℓ) : Prop :=
  True

def Pre_DownBwd (m : (ℓ : Loc Cert.DownBwd.nD Cert.DownBwd.τ Cert.DownBwd.sig) → Buf (Elt Bits) ℓ) : Prop :=
  True

def Pre_DownBwdIdeal (m : (ℓ : Loc Cert.DownBwdIdeal.nD Cert.DownBwdIdeal.τ Cert.DownBwdIdeal.sig) → Buf (Elt Ideal) ℓ) : Prop :=
  True

def Pre_DownGradIdeal (m : (ℓ : Loc Cert.DownGradIdeal.nD Cert.DownGradIdeal.τ Cert.DownGradIdeal.sig) → Buf (Elt Ideal) ℓ) : Prop :=
  True

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutGradIdeal (m : (ℓ : Loc Cert.OutGradIdeal.nD Cert.OutGradIdeal.τ Cert.OutGradIdeal.sig) → Buf (Elt Ideal) ℓ) : Prop :=
  True

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InGradIdeal (m : (ℓ : Loc Cert.InGradIdeal.nD Cert.InGradIdeal.τ Cert.InGradIdeal.sig) → Buf (Elt Ideal) ℓ) : Prop :=
  True

def Pre_InLateBwd (m : (ℓ : Loc Cert.InLateBwd.nD Cert.InLateBwd.τ Cert.InLateBwd.sig) → Buf (Elt Bits) ℓ) : Prop :=
  True

def Pre_InLateBwdIdeal (m : (ℓ : Loc Cert.InLateBwdIdeal.nD Cert.InLateBwdIdeal.τ Cert.InLateBwdIdeal.sig) → Buf (Elt Ideal) ℓ) : Prop :=
  True

def Pre_InLateGradIdeal (m : (ℓ : Loc Cert.InLateGradIdeal.nD Cert.InLateGradIdeal.τ Cert.InLateGradIdeal.sig) → Buf (Elt Ideal) ℓ) : Prop :=
  True

def Pre_InOddBwd (m : (ℓ : Loc Cert.InOddBwd.nD Cert.InOddBwd.τ Cert.InOddBwd.sig) → Buf (Elt Bits) ℓ) : Prop :=
  True

def Pre_InOddBwdIdeal (m : (ℓ : Loc Cert.InOddBwdIdeal.nD Cert.InOddBwdIdeal.τ Cert.InOddBwdIdeal.sig) → Buf (Elt Ideal) ℓ) : Prop :=
  True

def Pre_InOddGradIdeal (m : (ℓ : Loc Cert.InOddGradIdeal.nD Cert.InOddGradIdeal.τ Cert.InOddGradIdeal.sig) → Buf (Elt Ideal) ℓ) : Prop :=
  True

def Pre_InLateFwd (m : (ℓ : Loc Cert.InLateFwd.nD Cert.InLateFwd.τ Cert.InLateFwd.sig) → Buf (Elt Bits) ℓ) : Prop :=
  True

def Pre_InLateFwdIdeal (m : (ℓ : Loc Cert.InLateFwdIdeal.nD Cert.InLateFwdIdeal.τ Cert.InLateFwdIdeal.sig) → Buf (Elt Ideal) ℓ) : Prop :=
  True

def Pre_InLateFwdRefIdeal (m : (ℓ : Loc Cert.InLateFwdRefIdeal.nD Cert.InLateFwdRefIdeal.τ Cert.InLateFwdRefIdeal.sig) → Buf (Elt Ideal) ℓ) : Prop :=
  True

def Pre_AdamHid (m : (ℓ : Loc Cert.AdamHid.nD Cert.AdamHid.τ Cert.AdamHid.sig) → Buf (Elt Bits) ℓ) : Prop :=
  True

def Pre_AdamHidIdeal (m : (ℓ : Loc Cert.AdamHidIdeal.nD Cert.AdamHidIdeal.τ Cert.AdamHidIdeal.sig) → Buf (Elt Ideal) ℓ) : Prop :=
  True

def Pre_AdamHidRefIdeal (m : (ℓ : Loc Cert.AdamHidRefIdeal.nD Cert.AdamHidRefIdeal.τ Cert.AdamHidRefIdeal.sig) → Buf (Elt Ideal) ℓ) : Prop :=
  True

def quiescent_MemBwd [hMemBwd : Cert.MemBwd.Facts] : Prop :=
  ∀ (m : (ℓ : Loc Cert.MemBwd.nD Cert.MemBwd.τ Cert.MemBwd.sig) → Buf (Elt Bits) ℓ) (g : Dev Cert.MemBwd.nD → PrngReg), Pre_MemBwd m →
    θ_run (Cert.MemBwd.defs (F := Bits)) (onTc (τ := Cert.MemBwd.τ) (Cert.MemBwd.main (F := Bits))) ⟨m, fun _ => 0, g⟩ (fun r => (∀ c : Dev Cert.MemBwd.nD,
      r.2.mem ((c.tc : Thread Cert.MemBwd.nD Cert.MemBwd.τ).loc Cert.MemBwd.main_arg0) = m ((c.tc : Thread Cert.MemBwd.nD Cert.MemBwd.τ).loc Cert.MemBwd.main_arg0)
      ∧ r.2.mem ((c.tc : Thread Cert.MemBwd.nD Cert.MemBwd.τ).loc Cert.MemBwd.main_arg1) = m ((c.tc : Thread Cert.MemBwd.nD Cert.MemBwd.τ).loc Cert.MemBwd.main_arg1)
      ∧ r.2.mem ((c.tc : Thread Cert.MemBwd.nD Cert.MemBwd.τ).loc Cert.MemBwd.main_arg2) = m ((c.tc : Thread Cert.MemBwd.nD Cert.MemBwd.τ).loc Cert.MemBwd.main_arg2))
      ∧ r.2.sem = fun _ => 0)

def quiescent_MemBwdIdeal [hMemBwdIdeal : Cert.MemBwdIdeal.Facts] : Prop :=
  ∀ (m : (ℓ : Loc Cert.MemBwdIdeal.nD Cert.MemBwdIdeal.τ Cert.MemBwdIdeal.sig) → Buf (Elt Ideal) ℓ) (g : Dev Cert.MemBwdIdeal.nD → PrngReg), Pre_MemBwdIdeal m →
    θ_run (Cert.MemBwdIdeal.defs (F := Ideal)) (onTc (τ := Cert.MemBwdIdeal.τ) (Cert.MemBwdIdeal.main (F := Ideal))) ⟨m, fun _ => 0, g⟩ (fun r => (∀ c : Dev Cert.MemBwdIdeal.nD,
      r.2.mem ((c.tc : Thread Cert.MemBwdIdeal.nD Cert.MemBwdIdeal.τ).loc Cert.MemBwdIdeal.main_arg0) = m ((c.tc : Thread Cert.MemBwdIdeal.nD Cert.MemBwdIdeal.τ).loc Cert.MemBwdIdeal.main_arg0)
      ∧ r.2.mem ((c.tc : Thread Cert.MemBwdIdeal.nD Cert.MemBwdIdeal.τ).loc Cert.MemBwdIdeal.main_arg1) = m ((c.tc : Thread Cert.MemBwdIdeal.nD Cert.MemBwdIdeal.τ).loc Cert.MemBwdIdeal.main_arg1)
      ∧ r.2.mem ((c.tc : Thread Cert.MemBwdIdeal.nD Cert.MemBwdIdeal.τ).loc Cert.MemBwdIdeal.main_arg2) = m ((c.tc : Thread Cert.MemBwdIdeal.nD Cert.MemBwdIdeal.τ).loc Cert.MemBwdIdeal.main_arg2))
      ∧ r.2.sem = fun _ => 0)

def quiescent_MemBwdIdeal_pre_mem_finite [hMemBwdIdeal : Cert.MemBwdIdeal.Facts] [hPre_mem_finite : Cert.Pre_mem_finite.Facts] : Prop :=
  ∀ (m : (ℓ : Loc Cert.MemBwdIdeal.nD Cert.MemBwdIdeal.τ Cert.MemBwdIdeal.sig) → Buf (Elt Ideal) ℓ) (g : Dev Cert.MemBwdIdeal.nD → PrngReg), Pre_MemBwdIdeal_mem_finite m →
    θ_run (Cert.MemBwdIdeal.defs (F := Ideal)) (onTc (τ := Cert.MemBwdIdeal.τ) (Cert.MemBwdIdeal.main (F := Ideal))) ⟨m, fun _ => 0, g⟩ (fun r => (∀ c : Dev Cert.MemBwdIdeal.nD,
      r.2.mem ((c.tc : Thread Cert.MemBwdIdeal.nD Cert.MemBwdIdeal.τ).loc Cert.MemBwdIdeal.main_arg0) = m ((c.tc : Thread Cert.MemBwdIdeal.nD Cert.MemBwdIdeal.τ).loc Cert.MemBwdIdeal.main_arg0)
      ∧ r.2.mem ((c.tc : Thread Cert.MemBwdIdeal.nD Cert.MemBwdIdeal.τ).loc Cert.MemBwdIdeal.main_arg1) = m ((c.tc : Thread Cert.MemBwdIdeal.nD Cert.MemBwdIdeal.τ).loc Cert.MemBwdIdeal.main_arg1)
      ∧ r.2.mem ((c.tc : Thread Cert.MemBwdIdeal.nD Cert.MemBwdIdeal.τ).loc Cert.MemBwdIdeal.main_arg2) = m ((c.tc : Thread Cert.MemBwdIdeal.nD Cert.MemBwdIdeal.τ).loc Cert.MemBwdIdeal.main_arg2))
      ∧ r.2.sem = fun _ => 0)

def quiescent_MemGradIdeal [hMemGradIdeal : Cert.MemGradIdeal.Facts] : Prop :=
  ∀ (m : (ℓ : Loc Cert.MemGradIdeal.nD Cert.MemGradIdeal.τ Cert.MemGradIdeal.sig) → Buf (Elt Ideal) ℓ) (g : Dev Cert.MemGradIdeal.nD → PrngReg), Pre_MemGradIdeal m →
    θ_run (Cert.MemGradIdeal.defs (F := Ideal)) (onTc (τ := Cert.MemGradIdeal.τ) (Cert.MemGradIdeal.main (F := Ideal))) ⟨m, fun _ => 0, g⟩ (fun r => (∀ c : Dev Cert.MemGradIdeal.nD,
      r.2.mem ((c.tc : Thread Cert.MemGradIdeal.nD Cert.MemGradIdeal.τ).loc Cert.MemGradIdeal.main_arg0) = m ((c.tc : Thread Cert.MemGradIdeal.nD Cert.MemGradIdeal.τ).loc Cert.MemGradIdeal.main_arg0)
      ∧ r.2.mem ((c.tc : Thread Cert.MemGradIdeal.nD Cert.MemGradIdeal.τ).loc Cert.MemGradIdeal.main_arg1) = m ((c.tc : Thread Cert.MemGradIdeal.nD Cert.MemGradIdeal.τ).loc Cert.MemGradIdeal.main_arg1)
      ∧ r.2.mem ((c.tc : Thread Cert.MemGradIdeal.nD Cert.MemGradIdeal.τ).loc Cert.MemGradIdeal.main_arg2) = m ((c.tc : Thread Cert.MemGradIdeal.nD Cert.MemGradIdeal.τ).loc Cert.MemGradIdeal.main_arg2))
      ∧ r.2.sem = fun _ => 0)

def quiescent_MemGradIdeal_pre_mem_finite [hMemGradIdeal : Cert.MemGradIdeal.Facts] [hPre_mem_finite : Cert.Pre_mem_finite.Facts] : Prop :=
  ∀ (m : (ℓ : Loc Cert.MemGradIdeal.nD Cert.MemGradIdeal.τ Cert.MemGradIdeal.sig) → Buf (Elt Ideal) ℓ) (g : Dev Cert.MemGradIdeal.nD → PrngReg), Pre_MemGradIdeal_mem_finite m →
    θ_run (Cert.MemGradIdeal.defs (F := Ideal)) (onTc (τ := Cert.MemGradIdeal.τ) (Cert.MemGradIdeal.main (F := Ideal))) ⟨m, fun _ => 0, g⟩ (fun r => (∀ c : Dev Cert.MemGradIdeal.nD,
      r.2.mem ((c.tc : Thread Cert.MemGradIdeal.nD Cert.MemGradIdeal.τ).loc Cert.MemGradIdeal.main_arg0) = m ((c.tc : Thread Cert.MemGradIdeal.nD Cert.MemGradIdeal.τ).loc Cert.MemGradIdeal.main_arg0)
      ∧ r.2.mem ((c.tc : Thread Cert.MemGradIdeal.nD Cert.MemGradIdeal.τ).loc Cert.MemGradIdeal.main_arg1) = m ((c.tc : Thread Cert.MemGradIdeal.nD Cert.MemGradIdeal.τ).loc Cert.MemGradIdeal.main_arg1)
      ∧ r.2.mem ((c.tc : Thread Cert.MemGradIdeal.nD Cert.MemGradIdeal.τ).loc Cert.MemGradIdeal.main_arg2) = m ((c.tc : Thread Cert.MemGradIdeal.nD Cert.MemGradIdeal.τ).loc Cert.MemGradIdeal.main_arg2))
      ∧ r.2.sem = fun _ => 0)

def quiescent_SguBwd [hSguBwd : Cert.SguBwd.Facts] : Prop :=
  ∀ (m : (ℓ : Loc Cert.SguBwd.nD Cert.SguBwd.τ Cert.SguBwd.sig) → Buf (Elt Bits) ℓ) (g : Dev Cert.SguBwd.nD → PrngReg), Pre_SguBwd m →
    θ_run (Cert.SguBwd.defs (F := Bits)) (onTc (τ := Cert.SguBwd.τ) (Cert.SguBwd.main (F := Bits))) ⟨m, fun _ => 0, g⟩ (fun r => (∀ c : Dev Cert.SguBwd.nD,
      r.2.mem ((c.tc : Thread Cert.SguBwd.nD Cert.SguBwd.τ).loc Cert.SguBwd.main_arg0) = m ((c.tc : Thread Cert.SguBwd.nD Cert.SguBwd.τ).loc Cert.SguBwd.main_arg0)
      ∧ r.2.mem ((c.tc : Thread Cert.SguBwd.nD Cert.SguBwd.τ).loc Cert.SguBwd.main_arg1) = m ((c.tc : Thread Cert.SguBwd.nD Cert.SguBwd.τ).loc Cert.SguBwd.main_arg1)
      ∧ r.2.mem ((c.tc : Thread Cert.SguBwd.nD Cert.SguBwd.τ).loc Cert.SguBwd.main_arg2) = m ((c.tc : Thread Cert.SguBwd.nD Cert.SguBwd.τ).loc Cert.SguBwd.main_arg2)
      ∧ r.2.mem ((c.tc : Thread Cert.SguBwd.nD Cert.SguBwd.τ).loc Cert.SguBwd.main_arg3) = m ((c.tc : Thread Cert.SguBwd.nD Cert.SguBwd.τ).loc Cert.SguBwd.main_arg3)
      ∧ r.2.mem ((c.tc : Thread Cert.SguBwd.nD Cert.SguBwd.τ).loc Cert.SguBwd.main_arg4) = m ((c.tc : Thread Cert.SguBwd.nD Cert.SguBwd.τ).loc Cert.SguBwd.main_arg4)
      ∧ r.2.mem ((c.tc : Thread Cert.SguBwd.nD Cert.SguBwd.τ).loc Cert.SguBwd.main_arg5) = m ((c.tc : Thread Cert.SguBwd.nD Cert.SguBwd.τ).loc Cert.SguBwd.main_arg5))
      ∧ r.2.sem = fun _ => 0)

def quiescent_SguBwdIdeal [hSguBwdIdeal : Cert.SguBwdIdeal.Facts] : Prop :=
  ∀ (m : (ℓ : Loc Cert.SguBwdIdeal.nD Cert.SguBwdIdeal.τ Cert.SguBwdIdeal.sig) → Buf (Elt Ideal) ℓ) (g : Dev Cert.SguBwdIdeal.nD → PrngReg), Pre_SguBwdIdeal m →
    θ_run (Cert.SguBwdIdeal.defs (F := Ideal)) (onTc (τ := Cert.SguBwdIdeal.τ) (Cert.SguBwdIdeal.main (F := Ideal))) ⟨m, fun _ => 0, g⟩ (fun r => (∀ c : Dev Cert.SguBwdIdeal.nD,
      r.2.mem ((c.tc : Thread Cert.SguBwdIdeal.nD Cert.SguBwdIdeal.τ).loc Cert.SguBwdIdeal.main_arg0) = m ((c.tc : Thread Cert.SguBwdIdeal.nD Cert.SguBwdIdeal.τ).loc Cert.SguBwdIdeal.main_arg0)
      ∧ r.2.mem ((c.tc : Thread Cert.SguBwdIdeal.nD Cert.SguBwdIdeal.τ).loc Cert.SguBwdIdeal.main_arg1) = m ((c.tc : Thread Cert.SguBwdIdeal.nD Cert.SguBwdIdeal.τ).loc Cert.SguBwdIdeal.main_arg1)
      ∧ r.2.mem ((c.tc : Thread Cert.SguBwdIdeal.nD Cert.SguBwdIdeal.τ).loc Cert.SguBwdIdeal.main_arg2) = m ((c.tc : Thread Cert.SguBwdIdeal.nD Cert.SguBwdIdeal.τ).loc Cert.SguBwdIdeal.main_arg2)
      ∧ r.2.mem ((c.tc : Thread Cert.SguBwdIdeal.nD Cert.SguBwdIdeal.τ).loc Cert.SguBwdIdeal.main_arg3) = m ((c.tc : Thread Cert.SguBwdIdeal.nD Cert.SguBwdIdeal.τ).loc Cert.SguBwdIdeal.main_arg3)
      ∧ r.2.mem ((c.tc : Thread Cert.SguBwdIdeal.nD Cert.SguBwdIdeal.τ).loc Cert.SguBwdIdeal.main_arg4) = m ((c.tc : Thread Cert.SguBwdIdeal.nD Cert.SguBwdIdeal.τ).loc Cert.SguBwdIdeal.main_arg4)
      ∧ r.2.mem ((c.tc : Thread Cert.SguBwdIdeal.nD Cert.SguBwdIdeal.τ).loc Cert.SguBwdIdeal.main_arg5) = m ((c.tc : Thread Cert.SguBwdIdeal.nD Cert.SguBwdIdeal.τ).loc Cert.SguBwdIdeal.main_arg5))
      ∧ r.2.sem = fun _ => 0)

def quiescent_SguBwdIdeal_pre_sgu_finite [hSguBwdIdeal : Cert.SguBwdIdeal.Facts] [hPre_sgu_finite : Cert.Pre_sgu_finite.Facts] : Prop :=
  ∀ (m : (ℓ : Loc Cert.SguBwdIdeal.nD Cert.SguBwdIdeal.τ Cert.SguBwdIdeal.sig) → Buf (Elt Ideal) ℓ) (g : Dev Cert.SguBwdIdeal.nD → PrngReg), Pre_SguBwdIdeal_sgu_finite m →
    θ_run (Cert.SguBwdIdeal.defs (F := Ideal)) (onTc (τ := Cert.SguBwdIdeal.τ) (Cert.SguBwdIdeal.main (F := Ideal))) ⟨m, fun _ => 0, g⟩ (fun r => (∀ c : Dev Cert.SguBwdIdeal.nD,
      r.2.mem ((c.tc : Thread Cert.SguBwdIdeal.nD Cert.SguBwdIdeal.τ).loc Cert.SguBwdIdeal.main_arg0) = m ((c.tc : Thread Cert.SguBwdIdeal.nD Cert.SguBwdIdeal.τ).loc Cert.SguBwdIdeal.main_arg0)
      ∧ r.2.mem ((c.tc : Thread Cert.SguBwdIdeal.nD Cert.SguBwdIdeal.τ).loc Cert.SguBwdIdeal.main_arg1) = m ((c.tc : Thread Cert.SguBwdIdeal.nD Cert.SguBwdIdeal.τ).loc Cert.SguBwdIdeal.main_arg1)
      ∧ r.2.mem ((c.tc : Thread Cert.SguBwdIdeal.nD Cert.SguBwdIdeal.τ).loc Cert.SguBwdIdeal.main_arg2) = m ((c.tc : Thread Cert.SguBwdIdeal.nD Cert.SguBwdIdeal.τ).loc Cert.SguBwdIdeal.main_arg2)
      ∧ r.2.mem ((c.tc : Thread Cert.SguBwdIdeal.nD Cert.SguBwdIdeal.τ).loc Cert.SguBwdIdeal.main_arg3) = m ((c.tc : Thread Cert.SguBwdIdeal.nD Cert.SguBwdIdeal.τ).loc Cert.SguBwdIdeal.main_arg3)
      ∧ r.2.mem ((c.tc : Thread Cert.SguBwdIdeal.nD Cert.SguBwdIdeal.τ).loc Cert.SguBwdIdeal.main_arg4) = m ((c.tc : Thread Cert.SguBwdIdeal.nD Cert.SguBwdIdeal.τ).loc Cert.SguBwdIdeal.main_arg4)
      ∧ r.2.mem ((c.tc : Thread Cert.SguBwdIdeal.nD Cert.SguBwdIdeal.τ).loc Cert.SguBwdIdeal.main_arg5) = m ((c.tc : Thread Cert.SguBwdIdeal.nD Cert.SguBwdIdeal.τ).loc Cert.SguBwdIdeal.main_arg5))
      ∧ r.2.sem = fun _ => 0)

def quiescent_SguGradIdeal [hSguGradIdeal : Cert.SguGradIdeal.Facts] : Prop :=
  ∀ (m : (ℓ : Loc Cert.SguGradIdeal.nD Cert.SguGradIdeal.τ Cert.SguGradIdeal.sig) → Buf (Elt Ideal) ℓ) (g : Dev Cert.SguGradIdeal.nD → PrngReg), Pre_SguGradIdeal m →
    θ_run (Cert.SguGradIdeal.defs (F := Ideal)) (onTc (τ := Cert.SguGradIdeal.τ) (Cert.SguGradIdeal.main (F := Ideal))) ⟨m, fun _ => 0, g⟩ (fun r => (∀ c : Dev Cert.SguGradIdeal.nD,
      r.2.mem ((c.tc : Thread Cert.SguGradIdeal.nD Cert.SguGradIdeal.τ).loc Cert.SguGradIdeal.main_arg0) = m ((c.tc : Thread Cert.SguGradIdeal.nD Cert.SguGradIdeal.τ).loc Cert.SguGradIdeal.main_arg0)
      ∧ r.2.mem ((c.tc : Thread Cert.SguGradIdeal.nD Cert.SguGradIdeal.τ).loc Cert.SguGradIdeal.main_arg1) = m ((c.tc : Thread Cert.SguGradIdeal.nD Cert.SguGradIdeal.τ).loc Cert.SguGradIdeal.main_arg1)
      ∧ r.2.mem ((c.tc : Thread Cert.SguGradIdeal.nD Cert.SguGradIdeal.τ).loc Cert.SguGradIdeal.main_arg2) = m ((c.tc : Thread Cert.SguGradIdeal.nD Cert.SguGradIdeal.τ).loc Cert.SguGradIdeal.main_arg2)
      ∧ r.2.mem ((c.tc : Thread Cert.SguGradIdeal.nD Cert.SguGradIdeal.τ).loc Cert.SguGradIdeal.main_arg3) = m ((c.tc : Thread Cert.SguGradIdeal.nD Cert.SguGradIdeal.τ).loc Cert.SguGradIdeal.main_arg3)
      ∧ r.2.mem ((c.tc : Thread Cert.SguGradIdeal.nD Cert.SguGradIdeal.τ).loc Cert.SguGradIdeal.main_arg4) = m ((c.tc : Thread Cert.SguGradIdeal.nD Cert.SguGradIdeal.τ).loc Cert.SguGradIdeal.main_arg4)
      ∧ r.2.mem ((c.tc : Thread Cert.SguGradIdeal.nD Cert.SguGradIdeal.τ).loc Cert.SguGradIdeal.main_arg5) = m ((c.tc : Thread Cert.SguGradIdeal.nD Cert.SguGradIdeal.τ).loc Cert.SguGradIdeal.main_arg5))
      ∧ r.2.sem = fun _ => 0)

def quiescent_SguGradIdeal_pre_sgu_finite [hSguGradIdeal : Cert.SguGradIdeal.Facts] [hPre_sgu_finite : Cert.Pre_sgu_finite.Facts] : Prop :=
  ∀ (m : (ℓ : Loc Cert.SguGradIdeal.nD Cert.SguGradIdeal.τ Cert.SguGradIdeal.sig) → Buf (Elt Ideal) ℓ) (g : Dev Cert.SguGradIdeal.nD → PrngReg), Pre_SguGradIdeal_sgu_finite m →
    θ_run (Cert.SguGradIdeal.defs (F := Ideal)) (onTc (τ := Cert.SguGradIdeal.τ) (Cert.SguGradIdeal.main (F := Ideal))) ⟨m, fun _ => 0, g⟩ (fun r => (∀ c : Dev Cert.SguGradIdeal.nD,
      r.2.mem ((c.tc : Thread Cert.SguGradIdeal.nD Cert.SguGradIdeal.τ).loc Cert.SguGradIdeal.main_arg0) = m ((c.tc : Thread Cert.SguGradIdeal.nD Cert.SguGradIdeal.τ).loc Cert.SguGradIdeal.main_arg0)
      ∧ r.2.mem ((c.tc : Thread Cert.SguGradIdeal.nD Cert.SguGradIdeal.τ).loc Cert.SguGradIdeal.main_arg1) = m ((c.tc : Thread Cert.SguGradIdeal.nD Cert.SguGradIdeal.τ).loc Cert.SguGradIdeal.main_arg1)
      ∧ r.2.mem ((c.tc : Thread Cert.SguGradIdeal.nD Cert.SguGradIdeal.τ).loc Cert.SguGradIdeal.main_arg2) = m ((c.tc : Thread Cert.SguGradIdeal.nD Cert.SguGradIdeal.τ).loc Cert.SguGradIdeal.main_arg2)
      ∧ r.2.mem ((c.tc : Thread Cert.SguGradIdeal.nD Cert.SguGradIdeal.τ).loc Cert.SguGradIdeal.main_arg3) = m ((c.tc : Thread Cert.SguGradIdeal.nD Cert.SguGradIdeal.τ).loc Cert.SguGradIdeal.main_arg3)
      ∧ r.2.mem ((c.tc : Thread Cert.SguGradIdeal.nD Cert.SguGradIdeal.τ).loc Cert.SguGradIdeal.main_arg4) = m ((c.tc : Thread Cert.SguGradIdeal.nD Cert.SguGradIdeal.τ).loc Cert.SguGradIdeal.main_arg4)
      ∧ r.2.mem ((c.tc : Thread Cert.SguGradIdeal.nD Cert.SguGradIdeal.τ).loc Cert.SguGradIdeal.main_arg5) = m ((c.tc : Thread Cert.SguGradIdeal.nD Cert.SguGradIdeal.τ).loc Cert.SguGradIdeal.main_arg5))
      ∧ r.2.sem = fun _ => 0)

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2)
      ∧ r.2.mem ((c.tc : Thread Cert.GateBwd.nD Cert.GateBwd.τ).loc Cert.GateBwd.main_arg3) = m ((c.tc : Thread Cert.GateBwd.nD Cert.GateBwd.τ).loc Cert.GateBwd.main_arg3)
      ∧ r.2.mem ((c.tc : Thread Cert.GateBwd.nD Cert.GateBwd.τ).loc Cert.GateBwd.main_arg4) = m ((c.tc : Thread Cert.GateBwd.nD Cert.GateBwd.τ).loc Cert.GateBwd.main_arg4))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
      ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4))
      ∧ r.2.sem = fun _ => 0)

def quiescent_GateBwdIdeal_pre_gate_finite [hGateBwdIdeal : Cert.GateBwdIdeal.Facts] [hPre_gate_finite : Cert.Pre_gate_finite.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal_gate_finite m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
      ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4))
      ∧ r.2.sem = fun _ => 0)

def quiescent_GateGradIdeal [hGateGradIdeal : Cert.GateGradIdeal.Facts] : Prop :=
  ∀ (m : (ℓ : Loc Cert.GateGradIdeal.nD Cert.GateGradIdeal.τ Cert.GateGradIdeal.sig) → Buf (Elt Ideal) ℓ) (g : Dev Cert.GateGradIdeal.nD → PrngReg), Pre_GateGradIdeal m →
    θ_run (Cert.GateGradIdeal.defs (F := Ideal)) (onTc (τ := Cert.GateGradIdeal.τ) (Cert.GateGradIdeal.main (F := Ideal))) ⟨m, fun _ => 0, g⟩ (fun r => (∀ c : Dev Cert.GateGradIdeal.nD,
      r.2.mem ((c.tc : Thread Cert.GateGradIdeal.nD Cert.GateGradIdeal.τ).loc Cert.GateGradIdeal.main_arg0) = m ((c.tc : Thread Cert.GateGradIdeal.nD Cert.GateGradIdeal.τ).loc Cert.GateGradIdeal.main_arg0)
      ∧ r.2.mem ((c.tc : Thread Cert.GateGradIdeal.nD Cert.GateGradIdeal.τ).loc Cert.GateGradIdeal.main_arg1) = m ((c.tc : Thread Cert.GateGradIdeal.nD Cert.GateGradIdeal.τ).loc Cert.GateGradIdeal.main_arg1)
      ∧ r.2.mem ((c.tc : Thread Cert.GateGradIdeal.nD Cert.GateGradIdeal.τ).loc Cert.GateGradIdeal.main_arg2) = m ((c.tc : Thread Cert.GateGradIdeal.nD Cert.GateGradIdeal.τ).loc Cert.GateGradIdeal.main_arg2)
      ∧ r.2.mem ((c.tc : Thread Cert.GateGradIdeal.nD Cert.GateGradIdeal.τ).loc Cert.GateGradIdeal.main_arg3) = m ((c.tc : Thread Cert.GateGradIdeal.nD Cert.GateGradIdeal.τ).loc Cert.GateGradIdeal.main_arg3)
      ∧ r.2.mem ((c.tc : Thread Cert.GateGradIdeal.nD Cert.GateGradIdeal.τ).loc Cert.GateGradIdeal.main_arg4) = m ((c.tc : Thread Cert.GateGradIdeal.nD Cert.GateGradIdeal.τ).loc Cert.GateGradIdeal.main_arg4))
      ∧ r.2.sem = fun _ => 0)

def quiescent_GateGradIdeal_pre_gate_finite [hGateGradIdeal : Cert.GateGradIdeal.Facts] [hPre_gate_finite : Cert.Pre_gate_finite.Facts] : Prop :=
  ∀ (m : (ℓ : Loc Cert.GateGradIdeal.nD Cert.GateGradIdeal.τ Cert.GateGradIdeal.sig) → Buf (Elt Ideal) ℓ) (g : Dev Cert.GateGradIdeal.nD → PrngReg), Pre_GateGradIdeal_gate_finite m →
    θ_run (Cert.GateGradIdeal.defs (F := Ideal)) (onTc (τ := Cert.GateGradIdeal.τ) (Cert.GateGradIdeal.main (F := Ideal))) ⟨m, fun _ => 0, g⟩ (fun r => (∀ c : Dev Cert.GateGradIdeal.nD,
      r.2.mem ((c.tc : Thread Cert.GateGradIdeal.nD Cert.GateGradIdeal.τ).loc Cert.GateGradIdeal.main_arg0) = m ((c.tc : Thread Cert.GateGradIdeal.nD Cert.GateGradIdeal.τ).loc Cert.GateGradIdeal.main_arg0)
      ∧ r.2.mem ((c.tc : Thread Cert.GateGradIdeal.nD Cert.GateGradIdeal.τ).loc Cert.GateGradIdeal.main_arg1) = m ((c.tc : Thread Cert.GateGradIdeal.nD Cert.GateGradIdeal.τ).loc Cert.GateGradIdeal.main_arg1)
      ∧ r.2.mem ((c.tc : Thread Cert.GateGradIdeal.nD Cert.GateGradIdeal.τ).loc Cert.GateGradIdeal.main_arg2) = m ((c.tc : Thread Cert.GateGradIdeal.nD Cert.GateGradIdeal.τ).loc Cert.GateGradIdeal.main_arg2)
      ∧ r.2.mem ((c.tc : Thread Cert.GateGradIdeal.nD Cert.GateGradIdeal.τ).loc Cert.GateGradIdeal.main_arg3) = m ((c.tc : Thread Cert.GateGradIdeal.nD Cert.GateGradIdeal.τ).loc Cert.GateGradIdeal.main_arg3)
      ∧ r.2.mem ((c.tc : Thread Cert.GateGradIdeal.nD Cert.GateGradIdeal.τ).loc Cert.GateGradIdeal.main_arg4) = m ((c.tc : Thread Cert.GateGradIdeal.nD Cert.GateGradIdeal.τ).loc Cert.GateGradIdeal.main_arg4))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3)
      ∧ r.2.mem ((c.tc : Thread Cert.FfnIn.nD Cert.FfnIn.τ).loc Cert.FfnIn.main_arg4) = m ((c.tc : Thread Cert.FfnIn.nD Cert.FfnIn.τ).loc Cert.FfnIn.main_arg4)
      ∧ r.2.mem ((c.tc : Thread Cert.FfnIn.nD Cert.FfnIn.τ).loc Cert.FfnIn.main_arg5) = m ((c.tc : Thread Cert.FfnIn.nD Cert.FfnIn.τ).loc Cert.FfnIn.main_arg5)
      ∧ r.2.mem ((c.tc : Thread Cert.FfnIn.nD Cert.FfnIn.τ).loc Cert.FfnIn.main_arg6) = m ((c.tc : Thread Cert.FfnIn.nD Cert.FfnIn.τ).loc Cert.FfnIn.main_arg6)
      ∧ r.2.mem ((c.tc : Thread Cert.FfnIn.nD Cert.FfnIn.τ).loc Cert.FfnIn.main_arg7) = m ((c.tc : Thread Cert.FfnIn.nD Cert.FfnIn.τ).loc Cert.FfnIn.main_arg7))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
      ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6)
      ∧ r.2.mem ((c.tc : Thread Cert.FfnInIdeal.nD Cert.FfnInIdeal.τ).loc Cert.FfnInIdeal.main_arg7) = m ((c.tc : Thread Cert.FfnInIdeal.nD Cert.FfnInIdeal.τ).loc Cert.FfnInIdeal.main_arg7))
      ∧ r.2.sem = fun _ => 0)

def quiescent_FfnInIdeal_pre_ffn_in_finite [hFfnInIdeal : Cert.FfnInIdeal.Facts] [hPre_ffn_in_finite : Cert.Pre_ffn_in_finite.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal_ffn_in_finite m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
      ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6)
      ∧ r.2.mem ((c.tc : Thread Cert.FfnInIdeal.nD Cert.FfnInIdeal.τ).loc Cert.FfnInIdeal.main_arg7) = m ((c.tc : Thread Cert.FfnInIdeal.nD Cert.FfnInIdeal.τ).loc Cert.FfnInIdeal.main_arg7))
      ∧ r.2.sem = fun _ => 0)

def quiescent_FfnGradIdeal [hFfnGradIdeal : Cert.FfnGradIdeal.Facts] : Prop :=
  ∀ (m : (ℓ : Loc Cert.FfnGradIdeal.nD Cert.FfnGradIdeal.τ Cert.FfnGradIdeal.sig) → Buf (Elt Ideal) ℓ) (g : Dev Cert.FfnGradIdeal.nD → PrngReg), Pre_FfnGradIdeal m →
    θ_run (Cert.FfnGradIdeal.defs (F := Ideal)) (onTc (τ := Cert.FfnGradIdeal.τ) (Cert.FfnGradIdeal.main (F := Ideal))) ⟨m, fun _ => 0, g⟩ (fun r => (∀ c : Dev Cert.FfnGradIdeal.nD,
      r.2.mem ((c.tc : Thread Cert.FfnGradIdeal.nD Cert.FfnGradIdeal.τ).loc Cert.FfnGradIdeal.main_arg0) = m ((c.tc : Thread Cert.FfnGradIdeal.nD Cert.FfnGradIdeal.τ).loc Cert.FfnGradIdeal.main_arg0)
      ∧ r.2.mem ((c.tc : Thread Cert.FfnGradIdeal.nD Cert.FfnGradIdeal.τ).loc Cert.FfnGradIdeal.main_arg1) = m ((c.tc : Thread Cert.FfnGradIdeal.nD Cert.FfnGradIdeal.τ).loc Cert.FfnGradIdeal.main_arg1)
      ∧ r.2.mem ((c.tc : Thread Cert.FfnGradIdeal.nD Cert.FfnGradIdeal.τ).loc Cert.FfnGradIdeal.main_arg2) = m ((c.tc : Thread Cert.FfnGradIdeal.nD Cert.FfnGradIdeal.τ).loc Cert.FfnGradIdeal.main_arg2)
      ∧ r.2.mem ((c.tc : Thread Cert.FfnGradIdeal.nD Cert.FfnGradIdeal.τ).loc Cert.FfnGradIdeal.main_arg3) = m ((c.tc : Thread Cert.FfnGradIdeal.nD Cert.FfnGradIdeal.τ).loc Cert.FfnGradIdeal.main_arg3)
      ∧ r.2.mem ((c.tc : Thread Cert.FfnGradIdeal.nD Cert.FfnGradIdeal.τ).loc Cert.FfnGradIdeal.main_arg4) = m ((c.tc : Thread Cert.FfnGradIdeal.nD Cert.FfnGradIdeal.τ).loc Cert.FfnGradIdeal.main_arg4)
      ∧ r.2.mem ((c.tc : Thread Cert.FfnGradIdeal.nD Cert.FfnGradIdeal.τ).loc Cert.FfnGradIdeal.main_arg5) = m ((c.tc : Thread Cert.FfnGradIdeal.nD Cert.FfnGradIdeal.τ).loc Cert.FfnGradIdeal.main_arg5)
      ∧ r.2.mem ((c.tc : Thread Cert.FfnGradIdeal.nD Cert.FfnGradIdeal.τ).loc Cert.FfnGradIdeal.main_arg6) = m ((c.tc : Thread Cert.FfnGradIdeal.nD Cert.FfnGradIdeal.τ).loc Cert.FfnGradIdeal.main_arg6)
      ∧ r.2.mem ((c.tc : Thread Cert.FfnGradIdeal.nD Cert.FfnGradIdeal.τ).loc Cert.FfnGradIdeal.main_arg7) = m ((c.tc : Thread Cert.FfnGradIdeal.nD Cert.FfnGradIdeal.τ).loc Cert.FfnGradIdeal.main_arg7))
      ∧ r.2.sem = fun _ => 0)

def quiescent_FfnGradIdeal_pre_ffn_in_finite [hFfnGradIdeal : Cert.FfnGradIdeal.Facts] [hPre_ffn_in_finite : Cert.Pre_ffn_in_finite.Facts] : Prop :=
  ∀ (m : (ℓ : Loc Cert.FfnGradIdeal.nD Cert.FfnGradIdeal.τ Cert.FfnGradIdeal.sig) → Buf (Elt Ideal) ℓ) (g : Dev Cert.FfnGradIdeal.nD → PrngReg), Pre_FfnGradIdeal_ffn_in_finite m →
    θ_run (Cert.FfnGradIdeal.defs (F := Ideal)) (onTc (τ := Cert.FfnGradIdeal.τ) (Cert.FfnGradIdeal.main (F := Ideal))) ⟨m, fun _ => 0, g⟩ (fun r => (∀ c : Dev Cert.FfnGradIdeal.nD,
      r.2.mem ((c.tc : Thread Cert.FfnGradIdeal.nD Cert.FfnGradIdeal.τ).loc Cert.FfnGradIdeal.main_arg0) = m ((c.tc : Thread Cert.FfnGradIdeal.nD Cert.FfnGradIdeal.τ).loc Cert.FfnGradIdeal.main_arg0)
      ∧ r.2.mem ((c.tc : Thread Cert.FfnGradIdeal.nD Cert.FfnGradIdeal.τ).loc Cert.FfnGradIdeal.main_arg1) = m ((c.tc : Thread Cert.FfnGradIdeal.nD Cert.FfnGradIdeal.τ).loc Cert.FfnGradIdeal.main_arg1)
      ∧ r.2.mem ((c.tc : Thread Cert.FfnGradIdeal.nD Cert.FfnGradIdeal.τ).loc Cert.FfnGradIdeal.main_arg2) = m ((c.tc : Thread Cert.FfnGradIdeal.nD Cert.FfnGradIdeal.τ).loc Cert.FfnGradIdeal.main_arg2)
      ∧ r.2.mem ((c.tc : Thread Cert.FfnGradIdeal.nD Cert.FfnGradIdeal.τ).loc Cert.FfnGradIdeal.main_arg3) = m ((c.tc : Thread Cert.FfnGradIdeal.nD Cert.FfnGradIdeal.τ).loc Cert.FfnGradIdeal.main_arg3)
      ∧ r.2.mem ((c.tc : Thread Cert.FfnGradIdeal.nD Cert.FfnGradIdeal.τ).loc Cert.FfnGradIdeal.main_arg4) = m ((c.tc : Thread Cert.FfnGradIdeal.nD Cert.FfnGradIdeal.τ).loc Cert.FfnGradIdeal.main_arg4)
      ∧ r.2.mem ((c.tc : Thread Cert.FfnGradIdeal.nD Cert.FfnGradIdeal.τ).loc Cert.FfnGradIdeal.main_arg5) = m ((c.tc : Thread Cert.FfnGradIdeal.nD Cert.FfnGradIdeal.τ).loc Cert.FfnGradIdeal.main_arg5)
      ∧ r.2.mem ((c.tc : Thread Cert.FfnGradIdeal.nD Cert.FfnGradIdeal.τ).loc Cert.FfnGradIdeal.main_arg6) = m ((c.tc : Thread Cert.FfnGradIdeal.nD Cert.FfnGradIdeal.τ).loc Cert.FfnGradIdeal.main_arg6)
      ∧ r.2.mem ((c.tc : Thread Cert.FfnGradIdeal.nD Cert.FfnGradIdeal.τ).loc Cert.FfnGradIdeal.main_arg7) = m ((c.tc : Thread Cert.FfnGradIdeal.nD Cert.FfnGradIdeal.τ).loc Cert.FfnGradIdeal.main_arg7))
      ∧ r.2.sem = fun _ => 0)

def quiescent_ProjBwd [hProjBwd : Cert.ProjBwd.Facts] : Prop :=
  ∀ (m : (ℓ : Loc Cert.ProjBwd.nD Cert.ProjBwd.τ Cert.ProjBwd.sig) → Buf (Elt Bits) ℓ) (g : Dev Cert.ProjBwd.nD → PrngReg), Pre_ProjBwd m →
    θ_run (Cert.ProjBwd.defs (F := Bits)) (onTc (τ := Cert.ProjBwd.τ) (Cert.ProjBwd.main (F := Bits))) ⟨m, fun _ => 0, g⟩ (fun r => (∀ c : Dev Cert.ProjBwd.nD,
      r.2.mem ((c.tc : Thread Cert.ProjBwd.nD Cert.ProjBwd.τ).loc Cert.ProjBwd.main_arg0) = m ((c.tc : Thread Cert.ProjBwd.nD Cert.ProjBwd.τ).loc Cert.ProjBwd.main_arg0)
      ∧ r.2.mem ((c.tc : Thread Cert.ProjBwd.nD Cert.ProjBwd.τ).loc Cert.ProjBwd.main_arg1) = m ((c.tc : Thread Cert.ProjBwd.nD Cert.ProjBwd.τ).loc Cert.ProjBwd.main_arg1)
      ∧ r.2.mem ((c.tc : Thread Cert.ProjBwd.nD Cert.ProjBwd.τ).loc Cert.ProjBwd.main_arg2) = m ((c.tc : Thread Cert.ProjBwd.nD Cert.ProjBwd.τ).loc Cert.ProjBwd.main_arg2)
      ∧ r.2.mem ((c.tc : Thread Cert.ProjBwd.nD Cert.ProjBwd.τ).loc Cert.ProjBwd.main_arg3) = m ((c.tc : Thread Cert.ProjBwd.nD Cert.ProjBwd.τ).loc Cert.ProjBwd.main_arg3)
      ∧ r.2.mem ((c.tc : Thread Cert.ProjBwd.nD Cert.ProjBwd.τ).loc Cert.ProjBwd.main_arg4) = m ((c.tc : Thread Cert.ProjBwd.nD Cert.ProjBwd.τ).loc Cert.ProjBwd.main_arg4)
      ∧ r.2.mem ((c.tc : Thread Cert.ProjBwd.nD Cert.ProjBwd.τ).loc Cert.ProjBwd.main_arg5) = m ((c.tc : Thread Cert.ProjBwd.nD Cert.ProjBwd.τ).loc Cert.ProjBwd.main_arg5)
      ∧ r.2.mem ((c.tc : Thread Cert.ProjBwd.nD Cert.ProjBwd.τ).loc Cert.ProjBwd.main_arg6) = m ((c.tc : Thread Cert.ProjBwd.nD Cert.ProjBwd.τ).loc Cert.ProjBwd.main_arg6)
      ∧ r.2.mem ((c.tc : Thread Cert.ProjBwd.nD Cert.ProjBwd.τ).loc Cert.ProjBwd.main_arg7) = m ((c.tc : Thread Cert.ProjBwd.nD Cert.ProjBwd.τ).loc Cert.ProjBwd.main_arg7)
      ∧ r.2.mem ((c.tc : Thread Cert.ProjBwd.nD Cert.ProjBwd.τ).loc Cert.ProjBwd.main_arg8) = m ((c.tc : Thread Cert.ProjBwd.nD Cert.ProjBwd.τ).loc Cert.ProjBwd.main_arg8))
      ∧ r.2.sem = fun _ => 0)

def quiescent_ProjBwdIdeal [hProjBwdIdeal : Cert.ProjBwdIdeal.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg), Pre_ProjBwdIdeal m →
    θ_run (Cert.ProjBwdIdeal.defs (F := Ideal)) (onTc (τ := Cert.ProjBwdIdeal.τ) (Cert.ProjBwdIdeal.main (F := Ideal))) ⟨m, fun _ => 0, g⟩ (fun r => (∀ c : Dev Cert.ProjBwdIdeal.nD,
      r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
      ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
      ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
      ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
      ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4)
      ∧ r.2.mem ((c.tc : Thread Cert.ProjBwdIdeal.nD Cert.ProjBwdIdeal.τ).loc Cert.ProjBwdIdeal.main_arg5) = m ((c.tc : Thread Cert.ProjBwdIdeal.nD Cert.ProjBwdIdeal.τ).loc Cert.ProjBwdIdeal.main_arg5)
      ∧ r.2.mem ((c.tc : Thread Cert.ProjBwdIdeal.nD Cert.ProjBwdIdeal.τ).loc Cert.ProjBwdIdeal.main_arg6) = m ((c.tc : Thread Cert.ProjBwdIdeal.nD Cert.ProjBwdIdeal.τ).loc Cert.ProjBwdIdeal.main_arg6)
      ∧ r.2.mem ((c.tc : Thread Cert.ProjBwdIdeal.nD Cert.ProjBwdIdeal.τ).loc Cert.ProjBwdIdeal.main_arg7) = m ((c.tc : Thread Cert.ProjBwdIdeal.nD Cert.ProjBwdIdeal.τ).loc Cert.ProjBwdIdeal.main_arg7)
      ∧ r.2.mem ((c.tc : Thread Cert.ProjBwdIdeal.nD Cert.ProjBwdIdeal.τ).loc Cert.ProjBwdIdeal.main_arg8) = m ((c.tc : Thread Cert.ProjBwdIdeal.nD Cert.ProjBwdIdeal.τ).loc Cert.ProjBwdIdeal.main_arg8))
      ∧ r.2.sem = fun _ => 0)

def quiescent_ProjBwdIdeal_pre_proj_finite [hProjBwdIdeal : Cert.ProjBwdIdeal.Facts] [hPre_proj_finite : Cert.Pre_proj_finite.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg), Pre_ProjBwdIdeal_proj_finite m →
    θ_run (Cert.ProjBwdIdeal.defs (F := Ideal)) (onTc (τ := Cert.ProjBwdIdeal.τ) (Cert.ProjBwdIdeal.main (F := Ideal))) ⟨m, fun _ => 0, g⟩ (fun r => (∀ c : Dev Cert.ProjBwdIdeal.nD,
      r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
      ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
      ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
      ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
      ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4)
      ∧ r.2.mem ((c.tc : Thread Cert.ProjBwdIdeal.nD Cert.ProjBwdIdeal.τ).loc Cert.ProjBwdIdeal.main_arg5) = m ((c.tc : Thread Cert.ProjBwdIdeal.nD Cert.ProjBwdIdeal.τ).loc Cert.ProjBwdIdeal.main_arg5)
      ∧ r.2.mem ((c.tc : Thread Cert.ProjBwdIdeal.nD Cert.ProjBwdIdeal.τ).loc Cert.ProjBwdIdeal.main_arg6) = m ((c.tc : Thread Cert.ProjBwdIdeal.nD Cert.ProjBwdIdeal.τ).loc Cert.ProjBwdIdeal.main_arg6)
      ∧ r.2.mem ((c.tc : Thread Cert.ProjBwdIdeal.nD Cert.ProjBwdIdeal.τ).loc Cert.ProjBwdIdeal.main_arg7) = m ((c.tc : Thread Cert.ProjBwdIdeal.nD Cert.ProjBwdIdeal.τ).loc Cert.ProjBwdIdeal.main_arg7)
      ∧ r.2.mem ((c.tc : Thread Cert.ProjBwdIdeal.nD Cert.ProjBwdIdeal.τ).loc Cert.ProjBwdIdeal.main_arg8) = m ((c.tc : Thread Cert.ProjBwdIdeal.nD Cert.ProjBwdIdeal.τ).loc Cert.ProjBwdIdeal.main_arg8))
      ∧ r.2.sem = fun _ => 0)

def quiescent_ProjGradIdeal [hProjGradIdeal : Cert.ProjGradIdeal.Facts] : Prop :=
  ∀ (m : (ℓ : Loc Cert.ProjGradIdeal.nD Cert.ProjGradIdeal.τ Cert.ProjGradIdeal.sig) → Buf (Elt Ideal) ℓ) (g : Dev Cert.ProjGradIdeal.nD → PrngReg), Pre_ProjGradIdeal m →
    θ_run (Cert.ProjGradIdeal.defs (F := Ideal)) (onTc (τ := Cert.ProjGradIdeal.τ) (Cert.ProjGradIdeal.main (F := Ideal))) ⟨m, fun _ => 0, g⟩ (fun r => (∀ c : Dev Cert.ProjGradIdeal.nD,
      r.2.mem ((c.tc : Thread Cert.ProjGradIdeal.nD Cert.ProjGradIdeal.τ).loc Cert.ProjGradIdeal.main_arg0) = m ((c.tc : Thread Cert.ProjGradIdeal.nD Cert.ProjGradIdeal.τ).loc Cert.ProjGradIdeal.main_arg0)
      ∧ r.2.mem ((c.tc : Thread Cert.ProjGradIdeal.nD Cert.ProjGradIdeal.τ).loc Cert.ProjGradIdeal.main_arg1) = m ((c.tc : Thread Cert.ProjGradIdeal.nD Cert.ProjGradIdeal.τ).loc Cert.ProjGradIdeal.main_arg1)
      ∧ r.2.mem ((c.tc : Thread Cert.ProjGradIdeal.nD Cert.ProjGradIdeal.τ).loc Cert.ProjGradIdeal.main_arg2) = m ((c.tc : Thread Cert.ProjGradIdeal.nD Cert.ProjGradIdeal.τ).loc Cert.ProjGradIdeal.main_arg2)
      ∧ r.2.mem ((c.tc : Thread Cert.ProjGradIdeal.nD Cert.ProjGradIdeal.τ).loc Cert.ProjGradIdeal.main_arg3) = m ((c.tc : Thread Cert.ProjGradIdeal.nD Cert.ProjGradIdeal.τ).loc Cert.ProjGradIdeal.main_arg3)
      ∧ r.2.mem ((c.tc : Thread Cert.ProjGradIdeal.nD Cert.ProjGradIdeal.τ).loc Cert.ProjGradIdeal.main_arg4) = m ((c.tc : Thread Cert.ProjGradIdeal.nD Cert.ProjGradIdeal.τ).loc Cert.ProjGradIdeal.main_arg4)
      ∧ r.2.mem ((c.tc : Thread Cert.ProjGradIdeal.nD Cert.ProjGradIdeal.τ).loc Cert.ProjGradIdeal.main_arg5) = m ((c.tc : Thread Cert.ProjGradIdeal.nD Cert.ProjGradIdeal.τ).loc Cert.ProjGradIdeal.main_arg5)
      ∧ r.2.mem ((c.tc : Thread Cert.ProjGradIdeal.nD Cert.ProjGradIdeal.τ).loc Cert.ProjGradIdeal.main_arg6) = m ((c.tc : Thread Cert.ProjGradIdeal.nD Cert.ProjGradIdeal.τ).loc Cert.ProjGradIdeal.main_arg6)
      ∧ r.2.mem ((c.tc : Thread Cert.ProjGradIdeal.nD Cert.ProjGradIdeal.τ).loc Cert.ProjGradIdeal.main_arg7) = m ((c.tc : Thread Cert.ProjGradIdeal.nD Cert.ProjGradIdeal.τ).loc Cert.ProjGradIdeal.main_arg7)
      ∧ r.2.mem ((c.tc : Thread Cert.ProjGradIdeal.nD Cert.ProjGradIdeal.τ).loc Cert.ProjGradIdeal.main_arg8) = m ((c.tc : Thread Cert.ProjGradIdeal.nD Cert.ProjGradIdeal.τ).loc Cert.ProjGradIdeal.main_arg8))
      ∧ r.2.sem = fun _ => 0)

def quiescent_ProjGradIdeal_pre_proj_finite [hProjGradIdeal : Cert.ProjGradIdeal.Facts] [hPre_proj_finite : Cert.Pre_proj_finite.Facts] : Prop :=
  ∀ (m : (ℓ : Loc Cert.ProjGradIdeal.nD Cert.ProjGradIdeal.τ Cert.ProjGradIdeal.sig) → Buf (Elt Ideal) ℓ) (g : Dev Cert.ProjGradIdeal.nD → PrngReg), Pre_ProjGradIdeal_proj_finite m →
    θ_run (Cert.ProjGradIdeal.defs (F := Ideal)) (onTc (τ := Cert.ProjGradIdeal.τ) (Cert.ProjGradIdeal.main (F := Ideal))) ⟨m, fun _ => 0, g⟩ (fun r => (∀ c : Dev Cert.ProjGradIdeal.nD,
      r.2.mem ((c.tc : Thread Cert.ProjGradIdeal.nD Cert.ProjGradIdeal.τ).loc Cert.ProjGradIdeal.main_arg0) = m ((c.tc : Thread Cert.ProjGradIdeal.nD Cert.ProjGradIdeal.τ).loc Cert.ProjGradIdeal.main_arg0)
      ∧ r.2.mem ((c.tc : Thread Cert.ProjGradIdeal.nD Cert.ProjGradIdeal.τ).loc Cert.ProjGradIdeal.main_arg1) = m ((c.tc : Thread Cert.ProjGradIdeal.nD Cert.ProjGradIdeal.τ).loc Cert.ProjGradIdeal.main_arg1)
      ∧ r.2.mem ((c.tc : Thread Cert.ProjGradIdeal.nD Cert.ProjGradIdeal.τ).loc Cert.ProjGradIdeal.main_arg2) = m ((c.tc : Thread Cert.ProjGradIdeal.nD Cert.ProjGradIdeal.τ).loc Cert.ProjGradIdeal.main_arg2)
      ∧ r.2.mem ((c.tc : Thread Cert.ProjGradIdeal.nD Cert.ProjGradIdeal.τ).loc Cert.ProjGradIdeal.main_arg3) = m ((c.tc : Thread Cert.ProjGradIdeal.nD Cert.ProjGradIdeal.τ).loc Cert.ProjGradIdeal.main_arg3)
      ∧ r.2.mem ((c.tc : Thread Cert.ProjGradIdeal.nD Cert.ProjGradIdeal.τ).loc Cert.ProjGradIdeal.main_arg4) = m ((c.tc : Thread Cert.ProjGradIdeal.nD Cert.ProjGradIdeal.τ).loc Cert.ProjGradIdeal.main_arg4)
      ∧ r.2.mem ((c.tc : Thread Cert.ProjGradIdeal.nD Cert.ProjGradIdeal.τ).loc Cert.ProjGradIdeal.main_arg5) = m ((c.tc : Thread Cert.ProjGradIdeal.nD Cert.ProjGradIdeal.τ).loc Cert.ProjGradIdeal.main_arg5)
      ∧ r.2.mem ((c.tc : Thread Cert.ProjGradIdeal.nD Cert.ProjGradIdeal.τ).loc Cert.ProjGradIdeal.main_arg6) = m ((c.tc : Thread Cert.ProjGradIdeal.nD Cert.ProjGradIdeal.τ).loc Cert.ProjGradIdeal.main_arg6)
      ∧ r.2.mem ((c.tc : Thread Cert.ProjGradIdeal.nD Cert.ProjGradIdeal.τ).loc Cert.ProjGradIdeal.main_arg7) = m ((c.tc : Thread Cert.ProjGradIdeal.nD Cert.ProjGradIdeal.τ).loc Cert.ProjGradIdeal.main_arg7)
      ∧ r.2.mem ((c.tc : Thread Cert.ProjGradIdeal.nD Cert.ProjGradIdeal.τ).loc Cert.ProjGradIdeal.main_arg8) = m ((c.tc : Thread Cert.ProjGradIdeal.nD Cert.ProjGradIdeal.τ).loc Cert.ProjGradIdeal.main_arg8))
      ∧ r.2.sem = fun _ => 0)

def quiescent_LossBwd [hLossBwd : Cert.LossBwd.Facts] : Prop :=
  ∀ (m : (ℓ : Loc Cert.LossBwd.nD Cert.LossBwd.τ Cert.LossBwd.sig) → Buf (Elt Bits) ℓ) (g : Dev Cert.LossBwd.nD → PrngReg), Pre_LossBwd m →
    θ_run (Cert.LossBwd.defs (F := Bits)) (onTc (τ := Cert.LossBwd.τ) (Cert.LossBwd.main (F := Bits))) ⟨m, fun _ => 0, g⟩ (fun r => (∀ c : Dev Cert.LossBwd.nD,
      r.2.mem ((c.tc : Thread Cert.LossBwd.nD Cert.LossBwd.τ).loc Cert.LossBwd.main_arg0) = m ((c.tc : Thread Cert.LossBwd.nD Cert.LossBwd.τ).loc Cert.LossBwd.main_arg0)
      ∧ r.2.mem ((c.tc : Thread Cert.LossBwd.nD Cert.LossBwd.τ).loc Cert.LossBwd.main_arg1) = m ((c.tc : Thread Cert.LossBwd.nD Cert.LossBwd.τ).loc Cert.LossBwd.main_arg1)
      ∧ r.2.mem ((c.tc : Thread Cert.LossBwd.nD Cert.LossBwd.τ).loc Cert.LossBwd.main_arg2) = m ((c.tc : Thread Cert.LossBwd.nD Cert.LossBwd.τ).loc Cert.LossBwd.main_arg2)
      ∧ r.2.mem ((c.tc : Thread Cert.LossBwd.nD Cert.LossBwd.τ).loc Cert.LossBwd.main_arg3) = m ((c.tc : Thread Cert.LossBwd.nD Cert.LossBwd.τ).loc Cert.LossBwd.main_arg3))
      ∧ r.2.sem = fun _ => 0)

def quiescent_LossBwdIdeal [hLossBwdIdeal : Cert.LossBwdIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg), Pre_LossBwdIdeal m →
    θ_run (Cert.LossBwdIdeal.defs (F := Ideal)) (onTc (τ := Cert.LossBwdIdeal.τ) (Cert.LossBwdIdeal.main (F := Ideal))) ⟨m, fun _ => 0, g⟩ (fun r => (∀ c : Dev Cert.LossBwdIdeal.nD,
      r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
      ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
      ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
      ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3))
      ∧ r.2.sem = fun _ => 0)

def quiescent_LossBwdIdeal_pre_loss_finite [hLossBwdIdeal : Cert.LossBwdIdeal.Facts] [hPre_loss_finite : Cert.Pre_loss_finite.Facts] : Prop :=
  ∀ (m : (ℓ : Loc Cert.LossBwdIdeal.nD Cert.LossBwdIdeal.τ Cert.LossBwdIdeal.sig) → Buf (Elt Ideal) ℓ) (g : Dev Cert.LossBwdIdeal.nD → PrngReg), Pre_LossBwdIdeal_loss_finite m →
    θ_run (Cert.LossBwdIdeal.defs (F := Ideal)) (onTc (τ := Cert.LossBwdIdeal.τ) (Cert.LossBwdIdeal.main (F := Ideal))) ⟨m, fun _ => 0, g⟩ (fun r => (∀ c : Dev Cert.LossBwdIdeal.nD,
      r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
      ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
      ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
      ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3))
      ∧ r.2.sem = fun _ => 0)

def quiescent_LossGradIdeal [hLossGradIdeal : Cert.LossGradIdeal.Facts] : Prop :=
  ∀ (m : (ℓ : Loc Cert.LossGradIdeal.nD Cert.LossGradIdeal.τ Cert.LossGradIdeal.sig) → Buf (Elt Ideal) ℓ) (g : Dev Cert.LossGradIdeal.nD → PrngReg), Pre_LossGradIdeal m →
    θ_run (Cert.LossGradIdeal.defs (F := Ideal)) (onTc (τ := Cert.LossGradIdeal.τ) (Cert.LossGradIdeal.main (F := Ideal))) ⟨m, fun _ => 0, g⟩ (fun r => (∀ c : Dev Cert.LossGradIdeal.nD,
      r.2.mem ((c.tc : Thread Cert.LossGradIdeal.nD Cert.LossGradIdeal.τ).loc Cert.LossGradIdeal.main_arg0) = m ((c.tc : Thread Cert.LossGradIdeal.nD Cert.LossGradIdeal.τ).loc Cert.LossGradIdeal.main_arg0)
      ∧ r.2.mem ((c.tc : Thread Cert.LossGradIdeal.nD Cert.LossGradIdeal.τ).loc Cert.LossGradIdeal.main_arg1) = m ((c.tc : Thread Cert.LossGradIdeal.nD Cert.LossGradIdeal.τ).loc Cert.LossGradIdeal.main_arg1)
      ∧ r.2.mem ((c.tc : Thread Cert.LossGradIdeal.nD Cert.LossGradIdeal.τ).loc Cert.LossGradIdeal.main_arg2) = m ((c.tc : Thread Cert.LossGradIdeal.nD Cert.LossGradIdeal.τ).loc Cert.LossGradIdeal.main_arg2)
      ∧ r.2.mem ((c.tc : Thread Cert.LossGradIdeal.nD Cert.LossGradIdeal.τ).loc Cert.LossGradIdeal.main_arg3) = m ((c.tc : Thread Cert.LossGradIdeal.nD Cert.LossGradIdeal.τ).loc Cert.LossGradIdeal.main_arg3))
      ∧ r.2.sem = fun _ => 0)

def quiescent_LossGradIdeal_pre_loss_finite [hLossGradIdeal : Cert.LossGradIdeal.Facts] [hPre_loss_finite : Cert.Pre_loss_finite.Facts] : Prop :=
  ∀ (m : (ℓ : Loc Cert.LossGradIdeal.nD Cert.LossGradIdeal.τ Cert.LossGradIdeal.sig) → Buf (Elt Ideal) ℓ) (g : Dev Cert.LossGradIdeal.nD → PrngReg), Pre_LossGradIdeal_loss_finite m →
    θ_run (Cert.LossGradIdeal.defs (F := Ideal)) (onTc (τ := Cert.LossGradIdeal.τ) (Cert.LossGradIdeal.main (F := Ideal))) ⟨m, fun _ => 0, g⟩ (fun r => (∀ c : Dev Cert.LossGradIdeal.nD,
      r.2.mem ((c.tc : Thread Cert.LossGradIdeal.nD Cert.LossGradIdeal.τ).loc Cert.LossGradIdeal.main_arg0) = m ((c.tc : Thread Cert.LossGradIdeal.nD Cert.LossGradIdeal.τ).loc Cert.LossGradIdeal.main_arg0)
      ∧ r.2.mem ((c.tc : Thread Cert.LossGradIdeal.nD Cert.LossGradIdeal.τ).loc Cert.LossGradIdeal.main_arg1) = m ((c.tc : Thread Cert.LossGradIdeal.nD Cert.LossGradIdeal.τ).loc Cert.LossGradIdeal.main_arg1)
      ∧ r.2.mem ((c.tc : Thread Cert.LossGradIdeal.nD Cert.LossGradIdeal.τ).loc Cert.LossGradIdeal.main_arg2) = m ((c.tc : Thread Cert.LossGradIdeal.nD Cert.LossGradIdeal.τ).loc Cert.LossGradIdeal.main_arg2)
      ∧ r.2.mem ((c.tc : Thread Cert.LossGradIdeal.nD Cert.LossGradIdeal.τ).loc Cert.LossGradIdeal.main_arg3) = m ((c.tc : Thread Cert.LossGradIdeal.nD Cert.LossGradIdeal.τ).loc Cert.LossGradIdeal.main_arg3))
      ∧ r.2.sem = fun _ => 0)

def quiescent_MemOddBwd [hMemOddBwd : Cert.MemOddBwd.Facts] : Prop :=
  ∀ (m : (ℓ : Loc Cert.MemOddBwd.nD Cert.MemOddBwd.τ Cert.MemOddBwd.sig) → Buf (Elt Bits) ℓ) (g : Dev Cert.MemOddBwd.nD → PrngReg), Pre_MemOddBwd m →
    θ_run (Cert.MemOddBwd.defs (F := Bits)) (onTc (τ := Cert.MemOddBwd.τ) (Cert.MemOddBwd.main (F := Bits))) ⟨m, fun _ => 0, g⟩ (fun r => (∀ c : Dev Cert.MemOddBwd.nD,
      r.2.mem ((c.tc : Thread Cert.MemOddBwd.nD Cert.MemOddBwd.τ).loc Cert.MemOddBwd.main_arg0) = m ((c.tc : Thread Cert.MemOddBwd.nD Cert.MemOddBwd.τ).loc Cert.MemOddBwd.main_arg0)
      ∧ r.2.mem ((c.tc : Thread Cert.MemOddBwd.nD Cert.MemOddBwd.τ).loc Cert.MemOddBwd.main_arg1) = m ((c.tc : Thread Cert.MemOddBwd.nD Cert.MemOddBwd.τ).loc Cert.MemOddBwd.main_arg1)
      ∧ r.2.mem ((c.tc : Thread Cert.MemOddBwd.nD Cert.MemOddBwd.τ).loc Cert.MemOddBwd.main_arg2) = m ((c.tc : Thread Cert.MemOddBwd.nD Cert.MemOddBwd.τ).loc Cert.MemOddBwd.main_arg2))
      ∧ r.2.sem = fun _ => 0)

def quiescent_MemOddBwdIdeal [hMemOddBwdIdeal : Cert.MemOddBwdIdeal.Facts] : Prop :=
  ∀ (m : (ℓ : Loc Cert.MemOddBwdIdeal.nD Cert.MemOddBwdIdeal.τ Cert.MemOddBwdIdeal.sig) → Buf (Elt Ideal) ℓ) (g : Dev Cert.MemOddBwdIdeal.nD → PrngReg), Pre_MemOddBwdIdeal m →
    θ_run (Cert.MemOddBwdIdeal.defs (F := Ideal)) (onTc (τ := Cert.MemOddBwdIdeal.τ) (Cert.MemOddBwdIdeal.main (F := Ideal))) ⟨m, fun _ => 0, g⟩ (fun r => (∀ c : Dev Cert.MemOddBwdIdeal.nD,
      r.2.mem ((c.tc : Thread Cert.MemOddBwdIdeal.nD Cert.MemOddBwdIdeal.τ).loc Cert.MemOddBwdIdeal.main_arg0) = m ((c.tc : Thread Cert.MemOddBwdIdeal.nD Cert.MemOddBwdIdeal.τ).loc Cert.MemOddBwdIdeal.main_arg0)
      ∧ r.2.mem ((c.tc : Thread Cert.MemOddBwdIdeal.nD Cert.MemOddBwdIdeal.τ).loc Cert.MemOddBwdIdeal.main_arg1) = m ((c.tc : Thread Cert.MemOddBwdIdeal.nD Cert.MemOddBwdIdeal.τ).loc Cert.MemOddBwdIdeal.main_arg1)
      ∧ r.2.mem ((c.tc : Thread Cert.MemOddBwdIdeal.nD Cert.MemOddBwdIdeal.τ).loc Cert.MemOddBwdIdeal.main_arg2) = m ((c.tc : Thread Cert.MemOddBwdIdeal.nD Cert.MemOddBwdIdeal.τ).loc Cert.MemOddBwdIdeal.main_arg2))
      ∧ r.2.sem = fun _ => 0)

def quiescent_MemOddBwdIdeal_pre_mem_odd_finite [hMemOddBwdIdeal : Cert.MemOddBwdIdeal.Facts] [hPre_mem_odd_finite : Cert.Pre_mem_odd_finite.Facts] : Prop :=
  ∀ (m : (ℓ : Loc Cert.MemOddBwdIdeal.nD Cert.MemOddBwdIdeal.τ Cert.MemOddBwdIdeal.sig) → Buf (Elt Ideal) ℓ) (g : Dev Cert.MemOddBwdIdeal.nD → PrngReg), Pre_MemOddBwdIdeal_mem_odd_finite m →
    θ_run (Cert.MemOddBwdIdeal.defs (F := Ideal)) (onTc (τ := Cert.MemOddBwdIdeal.τ) (Cert.MemOddBwdIdeal.main (F := Ideal))) ⟨m, fun _ => 0, g⟩ (fun r => (∀ c : Dev Cert.MemOddBwdIdeal.nD,
      r.2.mem ((c.tc : Thread Cert.MemOddBwdIdeal.nD Cert.MemOddBwdIdeal.τ).loc Cert.MemOddBwdIdeal.main_arg0) = m ((c.tc : Thread Cert.MemOddBwdIdeal.nD Cert.MemOddBwdIdeal.τ).loc Cert.MemOddBwdIdeal.main_arg0)
      ∧ r.2.mem ((c.tc : Thread Cert.MemOddBwdIdeal.nD Cert.MemOddBwdIdeal.τ).loc Cert.MemOddBwdIdeal.main_arg1) = m ((c.tc : Thread Cert.MemOddBwdIdeal.nD Cert.MemOddBwdIdeal.τ).loc Cert.MemOddBwdIdeal.main_arg1)
      ∧ r.2.mem ((c.tc : Thread Cert.MemOddBwdIdeal.nD Cert.MemOddBwdIdeal.τ).loc Cert.MemOddBwdIdeal.main_arg2) = m ((c.tc : Thread Cert.MemOddBwdIdeal.nD Cert.MemOddBwdIdeal.τ).loc Cert.MemOddBwdIdeal.main_arg2))
      ∧ r.2.sem = fun _ => 0)

def quiescent_MemOddGradIdeal [hMemOddGradIdeal : Cert.MemOddGradIdeal.Facts] : Prop :=
  ∀ (m : (ℓ : Loc Cert.MemOddGradIdeal.nD Cert.MemOddGradIdeal.τ Cert.MemOddGradIdeal.sig) → Buf (Elt Ideal) ℓ) (g : Dev Cert.MemOddGradIdeal.nD → PrngReg), Pre_MemOddGradIdeal m →
    θ_run (Cert.MemOddGradIdeal.defs (F := Ideal)) (onTc (τ := Cert.MemOddGradIdeal.τ) (Cert.MemOddGradIdeal.main (F := Ideal))) ⟨m, fun _ => 0, g⟩ (fun r => (∀ c : Dev Cert.MemOddGradIdeal.nD,
      r.2.mem ((c.tc : Thread Cert.MemOddGradIdeal.nD Cert.MemOddGradIdeal.τ).loc Cert.MemOddGradIdeal.main_arg0) = m ((c.tc : Thread Cert.MemOddGradIdeal.nD Cert.MemOddGradIdeal.τ).loc Cert.MemOddGradIdeal.main_arg0)
      ∧ r.2.mem ((c.tc : Thread Cert.MemOddGradIdeal.nD Cert.MemOddGradIdeal.τ).loc Cert.MemOddGradIdeal.main_arg1) = m ((c.tc : Thread Cert.MemOddGradIdeal.nD Cert.MemOddGradIdeal.τ).loc Cert.MemOddGradIdeal.main_arg1)
      ∧ r.2.mem ((c.tc : Thread Cert.MemOddGradIdeal.nD Cert.MemOddGradIdeal.τ).loc Cert.MemOddGradIdeal.main_arg2) = m ((c.tc : Thread Cert.MemOddGradIdeal.nD Cert.MemOddGradIdeal.τ).loc Cert.MemOddGradIdeal.main_arg2))
      ∧ r.2.sem = fun _ => 0)

def quiescent_MemOddGradIdeal_pre_mem_odd_finite [hMemOddGradIdeal : Cert.MemOddGradIdeal.Facts] [hPre_mem_odd_finite : Cert.Pre_mem_odd_finite.Facts] : Prop :=
  ∀ (m : (ℓ : Loc Cert.MemOddGradIdeal.nD Cert.MemOddGradIdeal.τ Cert.MemOddGradIdeal.sig) → Buf (Elt Ideal) ℓ) (g : Dev Cert.MemOddGradIdeal.nD → PrngReg), Pre_MemOddGradIdeal_mem_odd_finite m →
    θ_run (Cert.MemOddGradIdeal.defs (F := Ideal)) (onTc (τ := Cert.MemOddGradIdeal.τ) (Cert.MemOddGradIdeal.main (F := Ideal))) ⟨m, fun _ => 0, g⟩ (fun r => (∀ c : Dev Cert.MemOddGradIdeal.nD,
      r.2.mem ((c.tc : Thread Cert.MemOddGradIdeal.nD Cert.MemOddGradIdeal.τ).loc Cert.MemOddGradIdeal.main_arg0) = m ((c.tc : Thread Cert.MemOddGradIdeal.nD Cert.MemOddGradIdeal.τ).loc Cert.MemOddGradIdeal.main_arg0)
      ∧ r.2.mem ((c.tc : Thread Cert.MemOddGradIdeal.nD Cert.MemOddGradIdeal.τ).loc Cert.MemOddGradIdeal.main_arg1) = m ((c.tc : Thread Cert.MemOddGradIdeal.nD Cert.MemOddGradIdeal.τ).loc Cert.MemOddGradIdeal.main_arg1)
      ∧ r.2.mem ((c.tc : Thread Cert.MemOddGradIdeal.nD Cert.MemOddGradIdeal.τ).loc Cert.MemOddGradIdeal.main_arg2) = m ((c.tc : Thread Cert.MemOddGradIdeal.nD Cert.MemOddGradIdeal.τ).loc Cert.MemOddGradIdeal.main_arg2))
      ∧ r.2.sem = fun _ => 0)

def quiescent_ProjOddBwd [hProjOddBwd : Cert.ProjOddBwd.Facts] : Prop :=
  ∀ (m : (ℓ : Loc Cert.ProjOddBwd.nD Cert.ProjOddBwd.τ Cert.ProjOddBwd.sig) → Buf (Elt Bits) ℓ) (g : Dev Cert.ProjOddBwd.nD → PrngReg), Pre_ProjOddBwd m →
    θ_run (Cert.ProjOddBwd.defs (F := Bits)) (onTc (τ := Cert.ProjOddBwd.τ) (Cert.ProjOddBwd.main (F := Bits))) ⟨m, fun _ => 0, g⟩ (fun r => (∀ c : Dev Cert.ProjOddBwd.nD,
      r.2.mem ((c.tc : Thread Cert.ProjOddBwd.nD Cert.ProjOddBwd.τ).loc Cert.ProjOddBwd.main_arg0) = m ((c.tc : Thread Cert.ProjOddBwd.nD Cert.ProjOddBwd.τ).loc Cert.ProjOddBwd.main_arg0)
      ∧ r.2.mem ((c.tc : Thread Cert.ProjOddBwd.nD Cert.ProjOddBwd.τ).loc Cert.ProjOddBwd.main_arg1) = m ((c.tc : Thread Cert.ProjOddBwd.nD Cert.ProjOddBwd.τ).loc Cert.ProjOddBwd.main_arg1)
      ∧ r.2.mem ((c.tc : Thread Cert.ProjOddBwd.nD Cert.ProjOddBwd.τ).loc Cert.ProjOddBwd.main_arg2) = m ((c.tc : Thread Cert.ProjOddBwd.nD Cert.ProjOddBwd.τ).loc Cert.ProjOddBwd.main_arg2)
      ∧ r.2.mem ((c.tc : Thread Cert.ProjOddBwd.nD Cert.ProjOddBwd.τ).loc Cert.ProjOddBwd.main_arg3) = m ((c.tc : Thread Cert.ProjOddBwd.nD Cert.ProjOddBwd.τ).loc Cert.ProjOddBwd.main_arg3)
      ∧ r.2.mem ((c.tc : Thread Cert.ProjOddBwd.nD Cert.ProjOddBwd.τ).loc Cert.ProjOddBwd.main_arg4) = m ((c.tc : Thread Cert.ProjOddBwd.nD Cert.ProjOddBwd.τ).loc Cert.ProjOddBwd.main_arg4)
      ∧ r.2.mem ((c.tc : Thread Cert.ProjOddBwd.nD Cert.ProjOddBwd.τ).loc Cert.ProjOddBwd.main_arg5) = m ((c.tc : Thread Cert.ProjOddBwd.nD Cert.ProjOddBwd.τ).loc Cert.ProjOddBwd.main_arg5)
      ∧ r.2.mem ((c.tc : Thread Cert.ProjOddBwd.nD Cert.ProjOddBwd.τ).loc Cert.ProjOddBwd.main_arg6) = m ((c.tc : Thread Cert.ProjOddBwd.nD Cert.ProjOddBwd.τ).loc Cert.ProjOddBwd.main_arg6)
      ∧ r.2.mem ((c.tc : Thread Cert.ProjOddBwd.nD Cert.ProjOddBwd.τ).loc Cert.ProjOddBwd.main_arg7) = m ((c.tc : Thread Cert.ProjOddBwd.nD Cert.ProjOddBwd.τ).loc Cert.ProjOddBwd.main_arg7))
      ∧ r.2.sem = fun _ => 0)

def quiescent_ProjOddBwdIdeal [hProjOddBwdIdeal : Cert.ProjOddBwdIdeal.Facts] : Prop :=
  ∀ (m : (ℓ : Loc Cert.ProjOddBwdIdeal.nD Cert.ProjOddBwdIdeal.τ Cert.ProjOddBwdIdeal.sig) → Buf (Elt Ideal) ℓ) (g : Dev Cert.ProjOddBwdIdeal.nD → PrngReg), Pre_ProjOddBwdIdeal m →
    θ_run (Cert.ProjOddBwdIdeal.defs (F := Ideal)) (onTc (τ := Cert.ProjOddBwdIdeal.τ) (Cert.ProjOddBwdIdeal.main (F := Ideal))) ⟨m, fun _ => 0, g⟩ (fun r => (∀ c : Dev Cert.ProjOddBwdIdeal.nD,
      r.2.mem ((c.tc : Thread Cert.ProjOddBwdIdeal.nD Cert.ProjOddBwdIdeal.τ).loc Cert.ProjOddBwdIdeal.main_arg0) = m ((c.tc : Thread Cert.ProjOddBwdIdeal.nD Cert.ProjOddBwdIdeal.τ).loc Cert.ProjOddBwdIdeal.main_arg0)
      ∧ r.2.mem ((c.tc : Thread Cert.ProjOddBwdIdeal.nD Cert.ProjOddBwdIdeal.τ).loc Cert.ProjOddBwdIdeal.main_arg1) = m ((c.tc : Thread Cert.ProjOddBwdIdeal.nD Cert.ProjOddBwdIdeal.τ).loc Cert.ProjOddBwdIdeal.main_arg1)
      ∧ r.2.mem ((c.tc : Thread Cert.ProjOddBwdIdeal.nD Cert.ProjOddBwdIdeal.τ).loc Cert.ProjOddBwdIdeal.main_arg2) = m ((c.tc : Thread Cert.ProjOddBwdIdeal.nD Cert.ProjOddBwdIdeal.τ).loc Cert.ProjOddBwdIdeal.main_arg2)
      ∧ r.2.mem ((c.tc : Thread Cert.ProjOddBwdIdeal.nD Cert.ProjOddBwdIdeal.τ).loc Cert.ProjOddBwdIdeal.main_arg3) = m ((c.tc : Thread Cert.ProjOddBwdIdeal.nD Cert.ProjOddBwdIdeal.τ).loc Cert.ProjOddBwdIdeal.main_arg3)
      ∧ r.2.mem ((c.tc : Thread Cert.ProjOddBwdIdeal.nD Cert.ProjOddBwdIdeal.τ).loc Cert.ProjOddBwdIdeal.main_arg4) = m ((c.tc : Thread Cert.ProjOddBwdIdeal.nD Cert.ProjOddBwdIdeal.τ).loc Cert.ProjOddBwdIdeal.main_arg4)
      ∧ r.2.mem ((c.tc : Thread Cert.ProjOddBwdIdeal.nD Cert.ProjOddBwdIdeal.τ).loc Cert.ProjOddBwdIdeal.main_arg5) = m ((c.tc : Thread Cert.ProjOddBwdIdeal.nD Cert.ProjOddBwdIdeal.τ).loc Cert.ProjOddBwdIdeal.main_arg5)
      ∧ r.2.mem ((c.tc : Thread Cert.ProjOddBwdIdeal.nD Cert.ProjOddBwdIdeal.τ).loc Cert.ProjOddBwdIdeal.main_arg6) = m ((c.tc : Thread Cert.ProjOddBwdIdeal.nD Cert.ProjOddBwdIdeal.τ).loc Cert.ProjOddBwdIdeal.main_arg6)
      ∧ r.2.mem ((c.tc : Thread Cert.ProjOddBwdIdeal.nD Cert.ProjOddBwdIdeal.τ).loc Cert.ProjOddBwdIdeal.main_arg7) = m ((c.tc : Thread Cert.ProjOddBwdIdeal.nD Cert.ProjOddBwdIdeal.τ).loc Cert.ProjOddBwdIdeal.main_arg7))
      ∧ r.2.sem = fun _ => 0)

def quiescent_ProjOddBwdIdeal_pre_proj_odd_finite [hProjOddBwdIdeal : Cert.ProjOddBwdIdeal.Facts] [hPre_proj_odd_finite : Cert.Pre_proj_odd_finite.Facts] : Prop :=
  ∀ (m : (ℓ : Loc Cert.ProjOddBwdIdeal.nD Cert.ProjOddBwdIdeal.τ Cert.ProjOddBwdIdeal.sig) → Buf (Elt Ideal) ℓ) (g : Dev Cert.ProjOddBwdIdeal.nD → PrngReg), Pre_ProjOddBwdIdeal_proj_odd_finite m →
    θ_run (Cert.ProjOddBwdIdeal.defs (F := Ideal)) (onTc (τ := Cert.ProjOddBwdIdeal.τ) (Cert.ProjOddBwdIdeal.main (F := Ideal))) ⟨m, fun _ => 0, g⟩ (fun r => (∀ c : Dev Cert.ProjOddBwdIdeal.nD,
      r.2.mem ((c.tc : Thread Cert.ProjOddBwdIdeal.nD Cert.ProjOddBwdIdeal.τ).loc Cert.ProjOddBwdIdeal.main_arg0) = m ((c.tc : Thread Cert.ProjOddBwdIdeal.nD Cert.ProjOddBwdIdeal.τ).loc Cert.ProjOddBwdIdeal.main_arg0)
      ∧ r.2.mem ((c.tc : Thread Cert.ProjOddBwdIdeal.nD Cert.ProjOddBwdIdeal.τ).loc Cert.ProjOddBwdIdeal.main_arg1) = m ((c.tc : Thread Cert.ProjOddBwdIdeal.nD Cert.ProjOddBwdIdeal.τ).loc Cert.ProjOddBwdIdeal.main_arg1)
      ∧ r.2.mem ((c.tc : Thread Cert.ProjOddBwdIdeal.nD Cert.ProjOddBwdIdeal.τ).loc Cert.ProjOddBwdIdeal.main_arg2) = m ((c.tc : Thread Cert.ProjOddBwdIdeal.nD Cert.ProjOddBwdIdeal.τ).loc Cert.ProjOddBwdIdeal.main_arg2)
      ∧ r.2.mem ((c.tc : Thread Cert.ProjOddBwdIdeal.nD Cert.ProjOddBwdIdeal.τ).loc Cert.ProjOddBwdIdeal.main_arg3) = m ((c.tc : Thread Cert.ProjOddBwdIdeal.nD Cert.ProjOddBwdIdeal.τ).loc Cert.ProjOddBwdIdeal.main_arg3)
      ∧ r.2.mem ((c.tc : Thread Cert.ProjOddBwdIdeal.nD Cert.ProjOddBwdIdeal.τ).loc Cert.ProjOddBwdIdeal.main_arg4) = m ((c.tc : Thread Cert.ProjOddBwdIdeal.nD Cert.ProjOddBwdIdeal.τ).loc Cert.ProjOddBwdIdeal.main_arg4)
      ∧ r.2.mem ((c.tc : Thread Cert.ProjOddBwdIdeal.nD Cert.ProjOddBwdIdeal.τ).loc Cert.ProjOddBwdIdeal.main_arg5) = m ((c.tc : Thread Cert.ProjOddBwdIdeal.nD Cert.ProjOddBwdIdeal.τ).loc Cert.ProjOddBwdIdeal.main_arg5)
      ∧ r.2.mem ((c.tc : Thread Cert.ProjOddBwdIdeal.nD Cert.ProjOddBwdIdeal.τ).loc Cert.ProjOddBwdIdeal.main_arg6) = m ((c.tc : Thread Cert.ProjOddBwdIdeal.nD Cert.ProjOddBwdIdeal.τ).loc Cert.ProjOddBwdIdeal.main_arg6)
      ∧ r.2.mem ((c.tc : Thread Cert.ProjOddBwdIdeal.nD Cert.ProjOddBwdIdeal.τ).loc Cert.ProjOddBwdIdeal.main_arg7) = m ((c.tc : Thread Cert.ProjOddBwdIdeal.nD Cert.ProjOddBwdIdeal.τ).loc Cert.ProjOddBwdIdeal.main_arg7))
      ∧ r.2.sem = fun _ => 0)

def quiescent_ProjOddGradIdeal [hProjOddGradIdeal : Cert.ProjOddGradIdeal.Facts] : Prop :=
  ∀ (m : (ℓ : Loc Cert.ProjOddGradIdeal.nD Cert.ProjOddGradIdeal.τ Cert.ProjOddGradIdeal.sig) → Buf (Elt Ideal) ℓ) (g : Dev Cert.ProjOddGradIdeal.nD → PrngReg), Pre_ProjOddGradIdeal m →
    θ_run (Cert.ProjOddGradIdeal.defs (F := Ideal)) (onTc (τ := Cert.ProjOddGradIdeal.τ) (Cert.ProjOddGradIdeal.main (F := Ideal))) ⟨m, fun _ => 0, g⟩ (fun r => (∀ c : Dev Cert.ProjOddGradIdeal.nD,
      r.2.mem ((c.tc : Thread Cert.ProjOddGradIdeal.nD Cert.ProjOddGradIdeal.τ).loc Cert.ProjOddGradIdeal.main_arg0) = m ((c.tc : Thread Cert.ProjOddGradIdeal.nD Cert.ProjOddGradIdeal.τ).loc Cert.ProjOddGradIdeal.main_arg0)
      ∧ r.2.mem ((c.tc : Thread Cert.ProjOddGradIdeal.nD Cert.ProjOddGradIdeal.τ).loc Cert.ProjOddGradIdeal.main_arg1) = m ((c.tc : Thread Cert.ProjOddGradIdeal.nD Cert.ProjOddGradIdeal.τ).loc Cert.ProjOddGradIdeal.main_arg1)
      ∧ r.2.mem ((c.tc : Thread Cert.ProjOddGradIdeal.nD Cert.ProjOddGradIdeal.τ).loc Cert.ProjOddGradIdeal.main_arg2) = m ((c.tc : Thread Cert.ProjOddGradIdeal.nD Cert.ProjOddGradIdeal.τ).loc Cert.ProjOddGradIdeal.main_arg2)
      ∧ r.2.mem ((c.tc : Thread Cert.ProjOddGradIdeal.nD Cert.ProjOddGradIdeal.τ).loc Cert.ProjOddGradIdeal.main_arg3) = m ((c.tc : Thread Cert.ProjOddGradIdeal.nD Cert.ProjOddGradIdeal.τ).loc Cert.ProjOddGradIdeal.main_arg3)
      ∧ r.2.mem ((c.tc : Thread Cert.ProjOddGradIdeal.nD Cert.ProjOddGradIdeal.τ).loc Cert.ProjOddGradIdeal.main_arg4) = m ((c.tc : Thread Cert.ProjOddGradIdeal.nD Cert.ProjOddGradIdeal.τ).loc Cert.ProjOddGradIdeal.main_arg4)
      ∧ r.2.mem ((c.tc : Thread Cert.ProjOddGradIdeal.nD Cert.ProjOddGradIdeal.τ).loc Cert.ProjOddGradIdeal.main_arg5) = m ((c.tc : Thread Cert.ProjOddGradIdeal.nD Cert.ProjOddGradIdeal.τ).loc Cert.ProjOddGradIdeal.main_arg5)
      ∧ r.2.mem ((c.tc : Thread Cert.ProjOddGradIdeal.nD Cert.ProjOddGradIdeal.τ).loc Cert.ProjOddGradIdeal.main_arg6) = m ((c.tc : Thread Cert.ProjOddGradIdeal.nD Cert.ProjOddGradIdeal.τ).loc Cert.ProjOddGradIdeal.main_arg6)
      ∧ r.2.mem ((c.tc : Thread Cert.ProjOddGradIdeal.nD Cert.ProjOddGradIdeal.τ).loc Cert.ProjOddGradIdeal.main_arg7) = m ((c.tc : Thread Cert.ProjOddGradIdeal.nD Cert.ProjOddGradIdeal.τ).loc Cert.ProjOddGradIdeal.main_arg7))
      ∧ r.2.sem = fun _ => 0)

def quiescent_ProjOddGradIdeal_pre_proj_odd_finite [hProjOddGradIdeal : Cert.ProjOddGradIdeal.Facts] [hPre_proj_odd_finite : Cert.Pre_proj_odd_finite.Facts] : Prop :=
  ∀ (m : (ℓ : Loc Cert.ProjOddGradIdeal.nD Cert.ProjOddGradIdeal.τ Cert.ProjOddGradIdeal.sig) → Buf (Elt Ideal) ℓ) (g : Dev Cert.ProjOddGradIdeal.nD → PrngReg), Pre_ProjOddGradIdeal_proj_odd_finite m →
    θ_run (Cert.ProjOddGradIdeal.defs (F := Ideal)) (onTc (τ := Cert.ProjOddGradIdeal.τ) (Cert.ProjOddGradIdeal.main (F := Ideal))) ⟨m, fun _ => 0, g⟩ (fun r => (∀ c : Dev Cert.ProjOddGradIdeal.nD,
      r.2.mem ((c.tc : Thread Cert.ProjOddGradIdeal.nD Cert.ProjOddGradIdeal.τ).loc Cert.ProjOddGradIdeal.main_arg0) = m ((c.tc : Thread Cert.ProjOddGradIdeal.nD Cert.ProjOddGradIdeal.τ).loc Cert.ProjOddGradIdeal.main_arg0)
      ∧ r.2.mem ((c.tc : Thread Cert.ProjOddGradIdeal.nD Cert.ProjOddGradIdeal.τ).loc Cert.ProjOddGradIdeal.main_arg1) = m ((c.tc : Thread Cert.ProjOddGradIdeal.nD Cert.ProjOddGradIdeal.τ).loc Cert.ProjOddGradIdeal.main_arg1)
      ∧ r.2.mem ((c.tc : Thread Cert.ProjOddGradIdeal.nD Cert.ProjOddGradIdeal.τ).loc Cert.ProjOddGradIdeal.main_arg2) = m ((c.tc : Thread Cert.ProjOddGradIdeal.nD Cert.ProjOddGradIdeal.τ).loc Cert.ProjOddGradIdeal.main_arg2)
      ∧ r.2.mem ((c.tc : Thread Cert.ProjOddGradIdeal.nD Cert.ProjOddGradIdeal.τ).loc Cert.ProjOddGradIdeal.main_arg3) = m ((c.tc : Thread Cert.ProjOddGradIdeal.nD Cert.ProjOddGradIdeal.τ).loc Cert.ProjOddGradIdeal.main_arg3)
      ∧ r.2.mem ((c.tc : Thread Cert.ProjOddGradIdeal.nD Cert.ProjOddGradIdeal.τ).loc Cert.ProjOddGradIdeal.main_arg4) = m ((c.tc : Thread Cert.ProjOddGradIdeal.nD Cert.ProjOddGradIdeal.τ).loc Cert.ProjOddGradIdeal.main_arg4)
      ∧ r.2.mem ((c.tc : Thread Cert.ProjOddGradIdeal.nD Cert.ProjOddGradIdeal.τ).loc Cert.ProjOddGradIdeal.main_arg5) = m ((c.tc : Thread Cert.ProjOddGradIdeal.nD Cert.ProjOddGradIdeal.τ).loc Cert.ProjOddGradIdeal.main_arg5)
      ∧ r.2.mem ((c.tc : Thread Cert.ProjOddGradIdeal.nD Cert.ProjOddGradIdeal.τ).loc Cert.ProjOddGradIdeal.main_arg6) = m ((c.tc : Thread Cert.ProjOddGradIdeal.nD Cert.ProjOddGradIdeal.τ).loc Cert.ProjOddGradIdeal.main_arg6)
      ∧ r.2.mem ((c.tc : Thread Cert.ProjOddGradIdeal.nD Cert.ProjOddGradIdeal.τ).loc Cert.ProjOddGradIdeal.main_arg7) = m ((c.tc : Thread Cert.ProjOddGradIdeal.nD Cert.ProjOddGradIdeal.τ).loc Cert.ProjOddGradIdeal.main_arg7))
      ∧ r.2.sem = fun _ => 0)

def quiescent_MemFwd [hMemFwd : Cert.MemFwd.Facts] : Prop :=
  ∀ (m : (ℓ : Loc Cert.MemFwd.nD Cert.MemFwd.τ Cert.MemFwd.sig) → Buf (Elt Bits) ℓ) (g : Dev Cert.MemFwd.nD → PrngReg), Pre_MemFwd m →
    θ_run (Cert.MemFwd.defs (F := Bits)) (onTc (τ := Cert.MemFwd.τ) (Cert.MemFwd.main (F := Bits))) ⟨m, fun _ => 0, g⟩ (fun r => (∀ c : Dev Cert.MemFwd.nD,
      r.2.mem ((c.tc : Thread Cert.MemFwd.nD Cert.MemFwd.τ).loc Cert.MemFwd.main_arg0) = m ((c.tc : Thread Cert.MemFwd.nD Cert.MemFwd.τ).loc Cert.MemFwd.main_arg0)
      ∧ r.2.mem ((c.tc : Thread Cert.MemFwd.nD Cert.MemFwd.τ).loc Cert.MemFwd.main_arg1) = m ((c.tc : Thread Cert.MemFwd.nD Cert.MemFwd.τ).loc Cert.MemFwd.main_arg1))
      ∧ r.2.sem = fun _ => 0)

def quiescent_MemFwdIdeal [hMemFwdIdeal : Cert.MemFwdIdeal.Facts] : Prop :=
  ∀ (m : (ℓ : Loc Cert.MemFwdIdeal.nD Cert.MemFwdIdeal.τ Cert.MemFwdIdeal.sig) → Buf (Elt Ideal) ℓ) (g : Dev Cert.MemFwdIdeal.nD → PrngReg), Pre_MemFwdIdeal m →
    θ_run (Cert.MemFwdIdeal.defs (F := Ideal)) (onTc (τ := Cert.MemFwdIdeal.τ) (Cert.MemFwdIdeal.main (F := Ideal))) ⟨m, fun _ => 0, g⟩ (fun r => (∀ c : Dev Cert.MemFwdIdeal.nD,
      r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
      ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1))
      ∧ r.2.sem = fun _ => 0)

def quiescent_MemFwdIdeal_pre_mem_fwd_finite [hMemFwdIdeal : Cert.MemFwdIdeal.Facts] [hPre_mem_fwd_finite : Cert.Pre_mem_fwd_finite.Facts] : Prop :=
  ∀ (m : (ℓ : Loc Cert.MemFwdIdeal.nD Cert.MemFwdIdeal.τ Cert.MemFwdIdeal.sig) → Buf (Elt Ideal) ℓ) (g : Dev Cert.MemFwdIdeal.nD → PrngReg), Pre_MemFwdIdeal_mem_fwd_finite m →
    θ_run (Cert.MemFwdIdeal.defs (F := Ideal)) (onTc (τ := Cert.MemFwdIdeal.τ) (Cert.MemFwdIdeal.main (F := Ideal))) ⟨m, fun _ => 0, g⟩ (fun r => (∀ c : Dev Cert.MemFwdIdeal.nD,
      r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
      ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1))
      ∧ r.2.sem = fun _ => 0)

def quiescent_MemFwdRefIdeal [hMemFwdRefIdeal : Cert.MemFwdRefIdeal.Facts] : Prop :=
  ∀ (m : (ℓ : Loc Cert.MemFwdRefIdeal.nD Cert.MemFwdRefIdeal.τ Cert.MemFwdRefIdeal.sig) → Buf (Elt Ideal) ℓ) (g : Dev Cert.MemFwdRefIdeal.nD → PrngReg), Pre_MemFwdRefIdeal m →
    θ_run (Cert.MemFwdRefIdeal.defs (F := Ideal)) (onTc (τ := Cert.MemFwdRefIdeal.τ) (Cert.MemFwdRefIdeal.main (F := Ideal))) ⟨m, fun _ => 0, g⟩ (fun r => (∀ c : Dev Cert.MemFwdRefIdeal.nD,
      r.2.mem ((c.tc : Thread Cert.MemFwdRefIdeal.nD Cert.MemFwdRefIdeal.τ).loc Cert.MemFwdRefIdeal.main_arg0) = m ((c.tc : Thread Cert.MemFwdRefIdeal.nD Cert.MemFwdRefIdeal.τ).loc Cert.MemFwdRefIdeal.main_arg0)
      ∧ r.2.mem ((c.tc : Thread Cert.MemFwdRefIdeal.nD Cert.MemFwdRefIdeal.τ).loc Cert.MemFwdRefIdeal.main_arg1) = m ((c.tc : Thread Cert.MemFwdRefIdeal.nD Cert.MemFwdRefIdeal.τ).loc Cert.MemFwdRefIdeal.main_arg1))
      ∧ r.2.sem = fun _ => 0)

def quiescent_MemFwdRefIdeal_pre_mem_fwd_finite [hMemFwdRefIdeal : Cert.MemFwdRefIdeal.Facts] [hPre_mem_fwd_finite : Cert.Pre_mem_fwd_finite.Facts] : Prop :=
  ∀ (m : (ℓ : Loc Cert.MemFwdRefIdeal.nD Cert.MemFwdRefIdeal.τ Cert.MemFwdRefIdeal.sig) → Buf (Elt Ideal) ℓ) (g : Dev Cert.MemFwdRefIdeal.nD → PrngReg), Pre_MemFwdRefIdeal_mem_fwd_finite m →
    θ_run (Cert.MemFwdRefIdeal.defs (F := Ideal)) (onTc (τ := Cert.MemFwdRefIdeal.τ) (Cert.MemFwdRefIdeal.main (F := Ideal))) ⟨m, fun _ => 0, g⟩ (fun r => (∀ c : Dev Cert.MemFwdRefIdeal.nD,
      r.2.mem ((c.tc : Thread Cert.MemFwdRefIdeal.nD Cert.MemFwdRefIdeal.τ).loc Cert.MemFwdRefIdeal.main_arg0) = m ((c.tc : Thread Cert.MemFwdRefIdeal.nD Cert.MemFwdRefIdeal.τ).loc Cert.MemFwdRefIdeal.main_arg0)
      ∧ r.2.mem ((c.tc : Thread Cert.MemFwdRefIdeal.nD Cert.MemFwdRefIdeal.τ).loc Cert.MemFwdRefIdeal.main_arg1) = m ((c.tc : Thread Cert.MemFwdRefIdeal.nD Cert.MemFwdRefIdeal.τ).loc Cert.MemFwdRefIdeal.main_arg1))
      ∧ r.2.sem = fun _ => 0)

def quiescent_MemFwdOdd [hMemFwdOdd : Cert.MemFwdOdd.Facts] : Prop :=
  ∀ (m : (ℓ : Loc Cert.MemFwdOdd.nD Cert.MemFwdOdd.τ Cert.MemFwdOdd.sig) → Buf (Elt Bits) ℓ) (g : Dev Cert.MemFwdOdd.nD → PrngReg), Pre_MemFwdOdd m →
    θ_run (Cert.MemFwdOdd.defs (F := Bits)) (onTc (τ := Cert.MemFwdOdd.τ) (Cert.MemFwdOdd.main (F := Bits))) ⟨m, fun _ => 0, g⟩ (fun r => (∀ c : Dev Cert.MemFwdOdd.nD,
      r.2.mem ((c.tc : Thread Cert.MemFwdOdd.nD Cert.MemFwdOdd.τ).loc Cert.MemFwdOdd.main_arg0) = m ((c.tc : Thread Cert.MemFwdOdd.nD Cert.MemFwdOdd.τ).loc Cert.MemFwdOdd.main_arg0)
      ∧ r.2.mem ((c.tc : Thread Cert.MemFwdOdd.nD Cert.MemFwdOdd.τ).loc Cert.MemFwdOdd.main_arg1) = m ((c.tc : Thread Cert.MemFwdOdd.nD Cert.MemFwdOdd.τ).loc Cert.MemFwdOdd.main_arg1))
      ∧ r.2.sem = fun _ => 0)

def quiescent_MemFwdOddIdeal [hMemFwdOddIdeal : Cert.MemFwdOddIdeal.Facts] : Prop :=
  ∀ (m : (ℓ : Loc Cert.MemFwdOddIdeal.nD Cert.MemFwdOddIdeal.τ Cert.MemFwdOddIdeal.sig) → Buf (Elt Ideal) ℓ) (g : Dev Cert.MemFwdOddIdeal.nD → PrngReg), Pre_MemFwdOddIdeal m →
    θ_run (Cert.MemFwdOddIdeal.defs (F := Ideal)) (onTc (τ := Cert.MemFwdOddIdeal.τ) (Cert.MemFwdOddIdeal.main (F := Ideal))) ⟨m, fun _ => 0, g⟩ (fun r => (∀ c : Dev Cert.MemFwdOddIdeal.nD,
      r.2.mem ((c.tc : Thread Cert.MemFwdOddIdeal.nD Cert.MemFwdOddIdeal.τ).loc Cert.MemFwdOddIdeal.main_arg0) = m ((c.tc : Thread Cert.MemFwdOddIdeal.nD Cert.MemFwdOddIdeal.τ).loc Cert.MemFwdOddIdeal.main_arg0)
      ∧ r.2.mem ((c.tc : Thread Cert.MemFwdOddIdeal.nD Cert.MemFwdOddIdeal.τ).loc Cert.MemFwdOddIdeal.main_arg1) = m ((c.tc : Thread Cert.MemFwdOddIdeal.nD Cert.MemFwdOddIdeal.τ).loc Cert.MemFwdOddIdeal.main_arg1))
      ∧ r.2.sem = fun _ => 0)

def quiescent_MemFwdOddIdeal_pre_mem_fwd_odd_finite [hMemFwdOddIdeal : Cert.MemFwdOddIdeal.Facts] [hPre_mem_fwd_odd_finite : Cert.Pre_mem_fwd_odd_finite.Facts] : Prop :=
  ∀ (m : (ℓ : Loc Cert.MemFwdOddIdeal.nD Cert.MemFwdOddIdeal.τ Cert.MemFwdOddIdeal.sig) → Buf (Elt Ideal) ℓ) (g : Dev Cert.MemFwdOddIdeal.nD → PrngReg), Pre_MemFwdOddIdeal_mem_fwd_odd_finite m →
    θ_run (Cert.MemFwdOddIdeal.defs (F := Ideal)) (onTc (τ := Cert.MemFwdOddIdeal.τ) (Cert.MemFwdOddIdeal.main (F := Ideal))) ⟨m, fun _ => 0, g⟩ (fun r => (∀ c : Dev Cert.MemFwdOddIdeal.nD,
      r.2.mem ((c.tc : Thread Cert.MemFwdOddIdeal.nD Cert.MemFwdOddIdeal.τ).loc Cert.MemFwdOddIdeal.main_arg0) = m ((c.tc : Thread Cert.MemFwdOddIdeal.nD Cert.MemFwdOddIdeal.τ).loc Cert.MemFwdOddIdeal.main_arg0)
      ∧ r.2.mem ((c.tc : Thread Cert.MemFwdOddIdeal.nD Cert.MemFwdOddIdeal.τ).loc Cert.MemFwdOddIdeal.main_arg1) = m ((c.tc : Thread Cert.MemFwdOddIdeal.nD Cert.MemFwdOddIdeal.τ).loc Cert.MemFwdOddIdeal.main_arg1))
      ∧ r.2.sem = fun _ => 0)

def quiescent_MemFwdOddRefIdeal [hMemFwdOddRefIdeal : Cert.MemFwdOddRefIdeal.Facts] : Prop :=
  ∀ (m : (ℓ : Loc Cert.MemFwdOddRefIdeal.nD Cert.MemFwdOddRefIdeal.τ Cert.MemFwdOddRefIdeal.sig) → Buf (Elt Ideal) ℓ) (g : Dev Cert.MemFwdOddRefIdeal.nD → PrngReg), Pre_MemFwdOddRefIdeal m →
    θ_run (Cert.MemFwdOddRefIdeal.defs (F := Ideal)) (onTc (τ := Cert.MemFwdOddRefIdeal.τ) (Cert.MemFwdOddRefIdeal.main (F := Ideal))) ⟨m, fun _ => 0, g⟩ (fun r => (∀ c : Dev Cert.MemFwdOddRefIdeal.nD,
      r.2.mem ((c.tc : Thread Cert.MemFwdOddRefIdeal.nD Cert.MemFwdOddRefIdeal.τ).loc Cert.MemFwdOddRefIdeal.main_arg0) = m ((c.tc : Thread Cert.MemFwdOddRefIdeal.nD Cert.MemFwdOddRefIdeal.τ).loc Cert.MemFwdOddRefIdeal.main_arg0)
      ∧ r.2.mem ((c.tc : Thread Cert.MemFwdOddRefIdeal.nD Cert.MemFwdOddRefIdeal.τ).loc Cert.MemFwdOddRefIdeal.main_arg1) = m ((c.tc : Thread Cert.MemFwdOddRefIdeal.nD Cert.MemFwdOddRefIdeal.τ).loc Cert.MemFwdOddRefIdeal.main_arg1))
      ∧ r.2.sem = fun _ => 0)

def quiescent_MemFwdOddRefIdeal_pre_mem_fwd_odd_finite [hMemFwdOddRefIdeal : Cert.MemFwdOddRefIdeal.Facts] [hPre_mem_fwd_odd_finite : Cert.Pre_mem_fwd_odd_finite.Facts] : Prop :=
  ∀ (m : (ℓ : Loc Cert.MemFwdOddRefIdeal.nD Cert.MemFwdOddRefIdeal.τ Cert.MemFwdOddRefIdeal.sig) → Buf (Elt Ideal) ℓ) (g : Dev Cert.MemFwdOddRefIdeal.nD → PrngReg), Pre_MemFwdOddRefIdeal_mem_fwd_odd_finite m →
    θ_run (Cert.MemFwdOddRefIdeal.defs (F := Ideal)) (onTc (τ := Cert.MemFwdOddRefIdeal.τ) (Cert.MemFwdOddRefIdeal.main (F := Ideal))) ⟨m, fun _ => 0, g⟩ (fun r => (∀ c : Dev Cert.MemFwdOddRefIdeal.nD,
      r.2.mem ((c.tc : Thread Cert.MemFwdOddRefIdeal.nD Cert.MemFwdOddRefIdeal.τ).loc Cert.MemFwdOddRefIdeal.main_arg0) = m ((c.tc : Thread Cert.MemFwdOddRefIdeal.nD Cert.MemFwdOddRefIdeal.τ).loc Cert.MemFwdOddRefIdeal.main_arg0)
      ∧ r.2.mem ((c.tc : Thread Cert.MemFwdOddRefIdeal.nD Cert.MemFwdOddRefIdeal.τ).loc Cert.MemFwdOddRefIdeal.main_arg1) = m ((c.tc : Thread Cert.MemFwdOddRefIdeal.nD Cert.MemFwdOddRefIdeal.τ).loc Cert.MemFwdOddRefIdeal.main_arg1))
      ∧ r.2.sem = fun _ => 0)

def quiescent_SguFwd [hSguFwd : Cert.SguFwd.Facts] : Prop :=
  ∀ (m : (ℓ : Loc Cert.SguFwd.nD Cert.SguFwd.τ Cert.SguFwd.sig) → Buf (Elt Bits) ℓ) (g : Dev Cert.SguFwd.nD → PrngReg), Pre_SguFwd m →
    θ_run (Cert.SguFwd.defs (F := Bits)) (onTc (τ := Cert.SguFwd.τ) (Cert.SguFwd.main (F := Bits))) ⟨m, fun _ => 0, g⟩ (fun r => (∀ c : Dev Cert.SguFwd.nD,
      r.2.mem ((c.tc : Thread Cert.SguFwd.nD Cert.SguFwd.τ).loc Cert.SguFwd.main_arg0) = m ((c.tc : Thread Cert.SguFwd.nD Cert.SguFwd.τ).loc Cert.SguFwd.main_arg0)
      ∧ r.2.mem ((c.tc : Thread Cert.SguFwd.nD Cert.SguFwd.τ).loc Cert.SguFwd.main_arg1) = m ((c.tc : Thread Cert.SguFwd.nD Cert.SguFwd.τ).loc Cert.SguFwd.main_arg1)
      ∧ r.2.mem ((c.tc : Thread Cert.SguFwd.nD Cert.SguFwd.τ).loc Cert.SguFwd.main_arg2) = m ((c.tc : Thread Cert.SguFwd.nD Cert.SguFwd.τ).loc Cert.SguFwd.main_arg2)
      ∧ r.2.mem ((c.tc : Thread Cert.SguFwd.nD Cert.SguFwd.τ).loc Cert.SguFwd.main_arg3) = m ((c.tc : Thread Cert.SguFwd.nD Cert.SguFwd.τ).loc Cert.SguFwd.main_arg3)
      ∧ r.2.mem ((c.tc : Thread Cert.SguFwd.nD Cert.SguFwd.τ).loc Cert.SguFwd.main_arg4) = m ((c.tc : Thread Cert.SguFwd.nD Cert.SguFwd.τ).loc Cert.SguFwd.main_arg4))
      ∧ r.2.sem = fun _ => 0)

def quiescent_SguFwdIdeal [hSguFwdIdeal : Cert.SguFwdIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg), Pre_SguFwdIdeal m →
    θ_run (Cert.SguFwdIdeal.defs (F := Ideal)) (onTc (τ := Cert.SguFwdIdeal.τ) (Cert.SguFwdIdeal.main (F := Ideal))) ⟨m, fun _ => 0, g⟩ (fun r => (∀ c : Dev Cert.SguFwdIdeal.nD,
      r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
      ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
      ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
      ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
      ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4))
      ∧ r.2.sem = fun _ => 0)

def quiescent_SguFwdIdeal_pre_sgu_fwd_finite [hSguFwdIdeal : Cert.SguFwdIdeal.Facts] [hPre_sgu_fwd_finite : Cert.Pre_sgu_fwd_finite.Facts] : Prop :=
  ∀ (m : (ℓ : Loc Cert.SguFwdIdeal.nD Cert.SguFwdIdeal.τ Cert.SguFwdIdeal.sig) → Buf (Elt Ideal) ℓ) (g : Dev Cert.SguFwdIdeal.nD → PrngReg), Pre_SguFwdIdeal_sgu_fwd_finite m →
    θ_run (Cert.SguFwdIdeal.defs (F := Ideal)) (onTc (τ := Cert.SguFwdIdeal.τ) (Cert.SguFwdIdeal.main (F := Ideal))) ⟨m, fun _ => 0, g⟩ (fun r => (∀ c : Dev Cert.SguFwdIdeal.nD,
      r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
      ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
      ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
      ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
      ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4))
      ∧ r.2.sem = fun _ => 0)

def quiescent_SguFwdRefIdeal [hSguFwdRefIdeal : Cert.SguFwdRefIdeal.Facts] : Prop :=
  ∀ (m : (ℓ : Loc Cert.SguFwdRefIdeal.nD Cert.SguFwdRefIdeal.τ Cert.SguFwdRefIdeal.sig) → Buf (Elt Ideal) ℓ) (g : Dev Cert.SguFwdRefIdeal.nD → PrngReg), Pre_SguFwdRefIdeal m →
    θ_run (Cert.SguFwdRefIdeal.defs (F := Ideal)) (onTc (τ := Cert.SguFwdRefIdeal.τ) (Cert.SguFwdRefIdeal.main (F := Ideal))) ⟨m, fun _ => 0, g⟩ (fun r => (∀ c : Dev Cert.SguFwdRefIdeal.nD,
      r.2.mem ((c.tc : Thread Cert.SguFwdRefIdeal.nD Cert.SguFwdRefIdeal.τ).loc Cert.SguFwdRefIdeal.main_arg0) = m ((c.tc : Thread Cert.SguFwdRefIdeal.nD Cert.SguFwdRefIdeal.τ).loc Cert.SguFwdRefIdeal.main_arg0)
      ∧ r.2.mem ((c.tc : Thread Cert.SguFwdRefIdeal.nD Cert.SguFwdRefIdeal.τ).loc Cert.SguFwdRefIdeal.main_arg1) = m ((c.tc : Thread Cert.SguFwdRefIdeal.nD Cert.SguFwdRefIdeal.τ).loc Cert.SguFwdRefIdeal.main_arg1)
      ∧ r.2.mem ((c.tc : Thread Cert.SguFwdRefIdeal.nD Cert.SguFwdRefIdeal.τ).loc Cert.SguFwdRefIdeal.main_arg2) = m ((c.tc : Thread Cert.SguFwdRefIdeal.nD Cert.SguFwdRefIdeal.τ).loc Cert.SguFwdRefIdeal.main_arg2)
      ∧ r.2.mem ((c.tc : Thread Cert.SguFwdRefIdeal.nD Cert.SguFwdRefIdeal.τ).loc Cert.SguFwdRefIdeal.main_arg3) = m ((c.tc : Thread Cert.SguFwdRefIdeal.nD Cert.SguFwdRefIdeal.τ).loc Cert.SguFwdRefIdeal.main_arg3)
      ∧ r.2.mem ((c.tc : Thread Cert.SguFwdRefIdeal.nD Cert.SguFwdRefIdeal.τ).loc Cert.SguFwdRefIdeal.main_arg4) = m ((c.tc : Thread Cert.SguFwdRefIdeal.nD Cert.SguFwdRefIdeal.τ).loc Cert.SguFwdRefIdeal.main_arg4))
      ∧ r.2.sem = fun _ => 0)

def quiescent_SguFwdRefIdeal_pre_sgu_fwd_finite [hSguFwdRefIdeal : Cert.SguFwdRefIdeal.Facts] [hPre_sgu_fwd_finite : Cert.Pre_sgu_fwd_finite.Facts] : Prop :=
  ∀ (m : (ℓ : Loc Cert.SguFwdRefIdeal.nD Cert.SguFwdRefIdeal.τ Cert.SguFwdRefIdeal.sig) → Buf (Elt Ideal) ℓ) (g : Dev Cert.SguFwdRefIdeal.nD → PrngReg), Pre_SguFwdRefIdeal_sgu_fwd_finite m →
    θ_run (Cert.SguFwdRefIdeal.defs (F := Ideal)) (onTc (τ := Cert.SguFwdRefIdeal.τ) (Cert.SguFwdRefIdeal.main (F := Ideal))) ⟨m, fun _ => 0, g⟩ (fun r => (∀ c : Dev Cert.SguFwdRefIdeal.nD,
      r.2.mem ((c.tc : Thread Cert.SguFwdRefIdeal.nD Cert.SguFwdRefIdeal.τ).loc Cert.SguFwdRefIdeal.main_arg0) = m ((c.tc : Thread Cert.SguFwdRefIdeal.nD Cert.SguFwdRefIdeal.τ).loc Cert.SguFwdRefIdeal.main_arg0)
      ∧ r.2.mem ((c.tc : Thread Cert.SguFwdRefIdeal.nD Cert.SguFwdRefIdeal.τ).loc Cert.SguFwdRefIdeal.main_arg1) = m ((c.tc : Thread Cert.SguFwdRefIdeal.nD Cert.SguFwdRefIdeal.τ).loc Cert.SguFwdRefIdeal.main_arg1)
      ∧ r.2.mem ((c.tc : Thread Cert.SguFwdRefIdeal.nD Cert.SguFwdRefIdeal.τ).loc Cert.SguFwdRefIdeal.main_arg2) = m ((c.tc : Thread Cert.SguFwdRefIdeal.nD Cert.SguFwdRefIdeal.τ).loc Cert.SguFwdRefIdeal.main_arg2)
      ∧ r.2.mem ((c.tc : Thread Cert.SguFwdRefIdeal.nD Cert.SguFwdRefIdeal.τ).loc Cert.SguFwdRefIdeal.main_arg3) = m ((c.tc : Thread Cert.SguFwdRefIdeal.nD Cert.SguFwdRefIdeal.τ).loc Cert.SguFwdRefIdeal.main_arg3)
      ∧ r.2.mem ((c.tc : Thread Cert.SguFwdRefIdeal.nD Cert.SguFwdRefIdeal.τ).loc Cert.SguFwdRefIdeal.main_arg4) = m ((c.tc : Thread Cert.SguFwdRefIdeal.nD Cert.SguFwdRefIdeal.τ).loc Cert.SguFwdRefIdeal.main_arg4))
      ∧ r.2.sem = fun _ => 0)

def quiescent_UpFwd [hUpFwd : Cert.UpFwd.Facts] : Prop :=
  ∀ (m : (ℓ : Loc Cert.UpFwd.nD Cert.UpFwd.τ Cert.UpFwd.sig) → Buf (Elt Bits) ℓ) (g : Dev Cert.UpFwd.nD → PrngReg), Pre_UpFwd m →
    θ_run (Cert.UpFwd.defs (F := Bits)) (onTc (τ := Cert.UpFwd.τ) (Cert.UpFwd.main (F := Bits))) ⟨m, fun _ => 0, g⟩ (fun r => (∀ c : Dev Cert.UpFwd.nD,
      r.2.mem ((c.tc : Thread Cert.UpFwd.nD Cert.UpFwd.τ).loc Cert.UpFwd.main_arg0) = m ((c.tc : Thread Cert.UpFwd.nD Cert.UpFwd.τ).loc Cert.UpFwd.main_arg0)
      ∧ r.2.mem ((c.tc : Thread Cert.UpFwd.nD Cert.UpFwd.τ).loc Cert.UpFwd.main_arg1) = m ((c.tc : Thread Cert.UpFwd.nD Cert.UpFwd.τ).loc Cert.UpFwd.main_arg1)
      ∧ r.2.mem ((c.tc : Thread Cert.UpFwd.nD Cert.UpFwd.τ).loc Cert.UpFwd.main_arg2) = m ((c.tc : Thread Cert.UpFwd.nD Cert.UpFwd.τ).loc Cert.UpFwd.main_arg2))
      ∧ r.2.sem = fun _ => 0)

def quiescent_UpFwdIdeal [hUpFwdIdeal : Cert.UpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1)
      ∧ r.2.mem ((c.tc : Thread Cert.UpFwdIdeal.nD Cert.UpFwdIdeal.τ).loc Cert.UpFwdIdeal.main_arg2) = m ((c.tc : Thread Cert.UpFwdIdeal.nD Cert.UpFwdIdeal.τ).loc Cert.UpFwdIdeal.main_arg2))
      ∧ r.2.sem = fun _ => 0)

def quiescent_UpFwdIdeal_pre_up_finite [hUpFwdIdeal : Cert.UpFwdIdeal.Facts] [hPre_up_finite : Cert.Pre_up_finite.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal_up_finite m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1)
      ∧ r.2.mem ((c.tc : Thread Cert.UpFwdIdeal.nD Cert.UpFwdIdeal.τ).loc Cert.UpFwdIdeal.main_arg2) = m ((c.tc : Thread Cert.UpFwdIdeal.nD Cert.UpFwdIdeal.τ).loc Cert.UpFwdIdeal.main_arg2))
      ∧ r.2.sem = fun _ => 0)

def quiescent_UpFwdRefIdeal [hUpFwdRefIdeal : Cert.UpFwdRefIdeal.Facts] : Prop :=
  ∀ (m : (ℓ : Loc Cert.UpFwdRefIdeal.nD Cert.UpFwdRefIdeal.τ Cert.UpFwdRefIdeal.sig) → Buf (Elt Ideal) ℓ) (g : Dev Cert.UpFwdRefIdeal.nD → PrngReg), Pre_UpFwdRefIdeal m →
    θ_run (Cert.UpFwdRefIdeal.defs (F := Ideal)) (onTc (τ := Cert.UpFwdRefIdeal.τ) (Cert.UpFwdRefIdeal.main (F := Ideal))) ⟨m, fun _ => 0, g⟩ (fun r => (∀ c : Dev Cert.UpFwdRefIdeal.nD,
      r.2.mem ((c.tc : Thread Cert.UpFwdRefIdeal.nD Cert.UpFwdRefIdeal.τ).loc Cert.UpFwdRefIdeal.main_arg0) = m ((c.tc : Thread Cert.UpFwdRefIdeal.nD Cert.UpFwdRefIdeal.τ).loc Cert.UpFwdRefIdeal.main_arg0)
      ∧ r.2.mem ((c.tc : Thread Cert.UpFwdRefIdeal.nD Cert.UpFwdRefIdeal.τ).loc Cert.UpFwdRefIdeal.main_arg1) = m ((c.tc : Thread Cert.UpFwdRefIdeal.nD Cert.UpFwdRefIdeal.τ).loc Cert.UpFwdRefIdeal.main_arg1)
      ∧ r.2.mem ((c.tc : Thread Cert.UpFwdRefIdeal.nD Cert.UpFwdRefIdeal.τ).loc Cert.UpFwdRefIdeal.main_arg2) = m ((c.tc : Thread Cert.UpFwdRefIdeal.nD Cert.UpFwdRefIdeal.τ).loc Cert.UpFwdRefIdeal.main_arg2))
      ∧ r.2.sem = fun _ => 0)

def quiescent_UpFwdRefIdeal_pre_up_finite [hUpFwdRefIdeal : Cert.UpFwdRefIdeal.Facts] [hPre_up_finite : Cert.Pre_up_finite.Facts] : Prop :=
  ∀ (m : (ℓ : Loc Cert.UpFwdRefIdeal.nD Cert.UpFwdRefIdeal.τ Cert.UpFwdRefIdeal.sig) → Buf (Elt Ideal) ℓ) (g : Dev Cert.UpFwdRefIdeal.nD → PrngReg), Pre_UpFwdRefIdeal_up_finite m →
    θ_run (Cert.UpFwdRefIdeal.defs (F := Ideal)) (onTc (τ := Cert.UpFwdRefIdeal.τ) (Cert.UpFwdRefIdeal.main (F := Ideal))) ⟨m, fun _ => 0, g⟩ (fun r => (∀ c : Dev Cert.UpFwdRefIdeal.nD,
      r.2.mem ((c.tc : Thread Cert.UpFwdRefIdeal.nD Cert.UpFwdRefIdeal.τ).loc Cert.UpFwdRefIdeal.main_arg0) = m ((c.tc : Thread Cert.UpFwdRefIdeal.nD Cert.UpFwdRefIdeal.τ).loc Cert.UpFwdRefIdeal.main_arg0)
      ∧ r.2.mem ((c.tc : Thread Cert.UpFwdRefIdeal.nD Cert.UpFwdRefIdeal.τ).loc Cert.UpFwdRefIdeal.main_arg1) = m ((c.tc : Thread Cert.UpFwdRefIdeal.nD Cert.UpFwdRefIdeal.τ).loc Cert.UpFwdRefIdeal.main_arg1)
      ∧ r.2.mem ((c.tc : Thread Cert.UpFwdRefIdeal.nD Cert.UpFwdRefIdeal.τ).loc Cert.UpFwdRefIdeal.main_arg2) = m ((c.tc : Thread Cert.UpFwdRefIdeal.nD Cert.UpFwdRefIdeal.τ).loc Cert.UpFwdRefIdeal.main_arg2))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3)
      ∧ r.2.mem ((c.tc : Thread Cert.OutFwd.nD Cert.OutFwd.τ).loc Cert.OutFwd.main_arg4) = m ((c.tc : Thread Cert.OutFwd.nD Cert.OutFwd.τ).loc Cert.OutFwd.main_arg4)
      ∧ r.2.mem ((c.tc : Thread Cert.OutFwd.nD Cert.OutFwd.τ).loc Cert.OutFwd.main_arg5) = m ((c.tc : Thread Cert.OutFwd.nD Cert.OutFwd.τ).loc Cert.OutFwd.main_arg5))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
      ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4)
      ∧ r.2.mem ((c.tc : Thread Cert.OutFwdIdeal.nD Cert.OutFwdIdeal.τ).loc Cert.OutFwdIdeal.main_arg5) = m ((c.tc : Thread Cert.OutFwdIdeal.nD Cert.OutFwdIdeal.τ).loc Cert.OutFwdIdeal.main_arg5))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2)
      ∧ r.2.mem ((c.tc : Thread Cert.OutFwdRefIdeal.nD Cert.OutFwdRefIdeal.τ).loc Cert.OutFwdRefIdeal.main_arg3) = m ((c.tc : Thread Cert.OutFwdRefIdeal.nD Cert.OutFwdRefIdeal.τ).loc Cert.OutFwdRefIdeal.main_arg3)
      ∧ r.2.mem ((c.tc : Thread Cert.OutFwdRefIdeal.nD Cert.OutFwdRefIdeal.τ).loc Cert.OutFwdRefIdeal.main_arg4) = m ((c.tc : Thread Cert.OutFwdRefIdeal.nD Cert.OutFwdRefIdeal.τ).loc Cert.OutFwdRefIdeal.main_arg4)
      ∧ r.2.mem ((c.tc : Thread Cert.OutFwdRefIdeal.nD Cert.OutFwdRefIdeal.τ).loc Cert.OutFwdRefIdeal.main_arg5) = m ((c.tc : Thread Cert.OutFwdRefIdeal.nD Cert.OutFwdRefIdeal.τ).loc Cert.OutFwdRefIdeal.main_arg5))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1)
      ∧ r.2.mem ((c.tc : Thread Cert.DownFwd.nD Cert.DownFwd.τ).loc Cert.DownFwd.main_arg2) = m ((c.tc : Thread Cert.DownFwd.nD Cert.DownFwd.τ).loc Cert.DownFwd.main_arg2)
      ∧ r.2.mem ((c.tc : Thread Cert.DownFwd.nD Cert.DownFwd.τ).loc Cert.DownFwd.main_arg3) = m ((c.tc : Thread Cert.DownFwd.nD Cert.DownFwd.τ).loc Cert.DownFwd.main_arg3)
      ∧ r.2.mem ((c.tc : Thread Cert.DownFwd.nD Cert.DownFwd.τ).loc Cert.DownFwd.main_arg4) = m ((c.tc : Thread Cert.DownFwd.nD Cert.DownFwd.τ).loc Cert.DownFwd.main_arg4))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
      ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2)
      ∧ r.2.mem ((c.tc : Thread Cert.DownFwdIdeal.nD Cert.DownFwdIdeal.τ).loc Cert.DownFwdIdeal.main_arg3) = m ((c.tc : Thread Cert.DownFwdIdeal.nD Cert.DownFwdIdeal.τ).loc Cert.DownFwdIdeal.main_arg3)
      ∧ r.2.mem ((c.tc : Thread Cert.DownFwdIdeal.nD Cert.DownFwdIdeal.τ).loc Cert.DownFwdIdeal.main_arg4) = m ((c.tc : Thread Cert.DownFwdIdeal.nD Cert.DownFwdIdeal.τ).loc Cert.DownFwdIdeal.main_arg4))
      ∧ r.2.sem = fun _ => 0)

def quiescent_DownFwdRefIdeal [hDownFwdRefIdeal : Cert.DownFwdRefIdeal.Facts] : Prop :=
  ∀ (m : (ℓ : Loc Cert.DownFwdRefIdeal.nD Cert.DownFwdRefIdeal.τ Cert.DownFwdRefIdeal.sig) → Buf (Elt Ideal) ℓ) (g : Dev Cert.DownFwdRefIdeal.nD → PrngReg), Pre_DownFwdRefIdeal m →
    θ_run (Cert.DownFwdRefIdeal.defs (F := Ideal)) (onTc (τ := Cert.DownFwdRefIdeal.τ) (Cert.DownFwdRefIdeal.main (F := Ideal))) ⟨m, fun _ => 0, g⟩ (fun r => (∀ c : Dev Cert.DownFwdRefIdeal.nD,
      r.2.mem ((c.tc : Thread Cert.DownFwdRefIdeal.nD Cert.DownFwdRefIdeal.τ).loc Cert.DownFwdRefIdeal.main_arg0) = m ((c.tc : Thread Cert.DownFwdRefIdeal.nD Cert.DownFwdRefIdeal.τ).loc Cert.DownFwdRefIdeal.main_arg0)
      ∧ r.2.mem ((c.tc : Thread Cert.DownFwdRefIdeal.nD Cert.DownFwdRefIdeal.τ).loc Cert.DownFwdRefIdeal.main_arg1) = m ((c.tc : Thread Cert.DownFwdRefIdeal.nD Cert.DownFwdRefIdeal.τ).loc Cert.DownFwdRefIdeal.main_arg1)
      ∧ r.2.mem ((c.tc : Thread Cert.DownFwdRefIdeal.nD Cert.DownFwdRefIdeal.τ).loc Cert.DownFwdRefIdeal.main_arg2) = m ((c.tc : Thread Cert.DownFwdRefIdeal.nD Cert.DownFwdRefIdeal.τ).loc Cert.DownFwdRefIdeal.main_arg2)
      ∧ r.2.mem ((c.tc : Thread Cert.DownFwdRefIdeal.nD Cert.DownFwdRefIdeal.τ).loc Cert.DownFwdRefIdeal.main_arg3) = m ((c.tc : Thread Cert.DownFwdRefIdeal.nD Cert.DownFwdRefIdeal.τ).loc Cert.DownFwdRefIdeal.main_arg3)
      ∧ r.2.mem ((c.tc : Thread Cert.DownFwdRefIdeal.nD Cert.DownFwdRefIdeal.τ).loc Cert.DownFwdRefIdeal.main_arg4) = m ((c.tc : Thread Cert.DownFwdRefIdeal.nD Cert.DownFwdRefIdeal.τ).loc Cert.DownFwdRefIdeal.main_arg4))
      ∧ r.2.sem = fun _ => 0)

def quiescent_XBwd [hXBwd : Cert.XBwd.Facts] : Prop :=
  ∀ (m : (ℓ : Loc Cert.XBwd.nD Cert.XBwd.τ Cert.XBwd.sig) → Buf (Elt Bits) ℓ) (g : Dev Cert.XBwd.nD → PrngReg), Pre_XBwd m →
    θ_run (Cert.XBwd.defs (F := Bits)) (onTc (τ := Cert.XBwd.τ) (Cert.XBwd.main (F := Bits))) ⟨m, fun _ => 0, g⟩ (fun r => (∀ c : Dev Cert.XBwd.nD,
      r.2.mem ((c.tc : Thread Cert.XBwd.nD Cert.XBwd.τ).loc Cert.XBwd.main_arg0) = m ((c.tc : Thread Cert.XBwd.nD Cert.XBwd.τ).loc Cert.XBwd.main_arg0)
      ∧ r.2.mem ((c.tc : Thread Cert.XBwd.nD Cert.XBwd.τ).loc Cert.XBwd.main_arg1) = m ((c.tc : Thread Cert.XBwd.nD Cert.XBwd.τ).loc Cert.XBwd.main_arg1)
      ∧ r.2.mem ((c.tc : Thread Cert.XBwd.nD Cert.XBwd.τ).loc Cert.XBwd.main_arg2) = m ((c.tc : Thread Cert.XBwd.nD Cert.XBwd.τ).loc Cert.XBwd.main_arg2)
      ∧ r.2.mem ((c.tc : Thread Cert.XBwd.nD Cert.XBwd.τ).loc Cert.XBwd.main_arg3) = m ((c.tc : Thread Cert.XBwd.nD Cert.XBwd.τ).loc Cert.XBwd.main_arg3)
      ∧ r.2.mem ((c.tc : Thread Cert.XBwd.nD Cert.XBwd.τ).loc Cert.XBwd.main_arg4) = m ((c.tc : Thread Cert.XBwd.nD Cert.XBwd.τ).loc Cert.XBwd.main_arg4)
      ∧ r.2.mem ((c.tc : Thread Cert.XBwd.nD Cert.XBwd.τ).loc Cert.XBwd.main_arg5) = m ((c.tc : Thread Cert.XBwd.nD Cert.XBwd.τ).loc Cert.XBwd.main_arg5))
      ∧ r.2.sem = fun _ => 0)

def quiescent_XBwdIdeal [hXBwdIdeal : Cert.XBwdIdeal.Facts] : Prop :=
  ∀ (m : (ℓ : Loc Cert.XBwdIdeal.nD Cert.XBwdIdeal.τ Cert.XBwdIdeal.sig) → Buf (Elt Ideal) ℓ) (g : Dev Cert.XBwdIdeal.nD → PrngReg), Pre_XBwdIdeal m →
    θ_run (Cert.XBwdIdeal.defs (F := Ideal)) (onTc (τ := Cert.XBwdIdeal.τ) (Cert.XBwdIdeal.main (F := Ideal))) ⟨m, fun _ => 0, g⟩ (fun r => (∀ c : Dev Cert.XBwdIdeal.nD,
      r.2.mem ((c.tc : Thread Cert.XBwdIdeal.nD Cert.XBwdIdeal.τ).loc Cert.XBwdIdeal.main_arg0) = m ((c.tc : Thread Cert.XBwdIdeal.nD Cert.XBwdIdeal.τ).loc Cert.XBwdIdeal.main_arg0)
      ∧ r.2.mem ((c.tc : Thread Cert.XBwdIdeal.nD Cert.XBwdIdeal.τ).loc Cert.XBwdIdeal.main_arg1) = m ((c.tc : Thread Cert.XBwdIdeal.nD Cert.XBwdIdeal.τ).loc Cert.XBwdIdeal.main_arg1)
      ∧ r.2.mem ((c.tc : Thread Cert.XBwdIdeal.nD Cert.XBwdIdeal.τ).loc Cert.XBwdIdeal.main_arg2) = m ((c.tc : Thread Cert.XBwdIdeal.nD Cert.XBwdIdeal.τ).loc Cert.XBwdIdeal.main_arg2)
      ∧ r.2.mem ((c.tc : Thread Cert.XBwdIdeal.nD Cert.XBwdIdeal.τ).loc Cert.XBwdIdeal.main_arg3) = m ((c.tc : Thread Cert.XBwdIdeal.nD Cert.XBwdIdeal.τ).loc Cert.XBwdIdeal.main_arg3)
      ∧ r.2.mem ((c.tc : Thread Cert.XBwdIdeal.nD Cert.XBwdIdeal.τ).loc Cert.XBwdIdeal.main_arg4) = m ((c.tc : Thread Cert.XBwdIdeal.nD Cert.XBwdIdeal.τ).loc Cert.XBwdIdeal.main_arg4)
      ∧ r.2.mem ((c.tc : Thread Cert.XBwdIdeal.nD Cert.XBwdIdeal.τ).loc Cert.XBwdIdeal.main_arg5) = m ((c.tc : Thread Cert.XBwdIdeal.nD Cert.XBwdIdeal.τ).loc Cert.XBwdIdeal.main_arg5))
      ∧ r.2.sem = fun _ => 0)

def quiescent_XGradIdeal [hXGradIdeal : Cert.XGradIdeal.Facts] : Prop :=
  ∀ (m : (ℓ : Loc Cert.XGradIdeal.nD Cert.XGradIdeal.τ Cert.XGradIdeal.sig) → Buf (Elt Ideal) ℓ) (g : Dev Cert.XGradIdeal.nD → PrngReg), Pre_XGradIdeal m →
    θ_run (Cert.XGradIdeal.defs (F := Ideal)) (onTc (τ := Cert.XGradIdeal.τ) (Cert.XGradIdeal.main (F := Ideal))) ⟨m, fun _ => 0, g⟩ (fun r => (∀ c : Dev Cert.XGradIdeal.nD,
      r.2.mem ((c.tc : Thread Cert.XGradIdeal.nD Cert.XGradIdeal.τ).loc Cert.XGradIdeal.main_arg0) = m ((c.tc : Thread Cert.XGradIdeal.nD Cert.XGradIdeal.τ).loc Cert.XGradIdeal.main_arg0)
      ∧ r.2.mem ((c.tc : Thread Cert.XGradIdeal.nD Cert.XGradIdeal.τ).loc Cert.XGradIdeal.main_arg1) = m ((c.tc : Thread Cert.XGradIdeal.nD Cert.XGradIdeal.τ).loc Cert.XGradIdeal.main_arg1)
      ∧ r.2.mem ((c.tc : Thread Cert.XGradIdeal.nD Cert.XGradIdeal.τ).loc Cert.XGradIdeal.main_arg2) = m ((c.tc : Thread Cert.XGradIdeal.nD Cert.XGradIdeal.τ).loc Cert.XGradIdeal.main_arg2)
      ∧ r.2.mem ((c.tc : Thread Cert.XGradIdeal.nD Cert.XGradIdeal.τ).loc Cert.XGradIdeal.main_arg3) = m ((c.tc : Thread Cert.XGradIdeal.nD Cert.XGradIdeal.τ).loc Cert.XGradIdeal.main_arg3)
      ∧ r.2.mem ((c.tc : Thread Cert.XGradIdeal.nD Cert.XGradIdeal.τ).loc Cert.XGradIdeal.main_arg4) = m ((c.tc : Thread Cert.XGradIdeal.nD Cert.XGradIdeal.τ).loc Cert.XGradIdeal.main_arg4)
      ∧ r.2.mem ((c.tc : Thread Cert.XGradIdeal.nD Cert.XGradIdeal.τ).loc Cert.XGradIdeal.main_arg5) = m ((c.tc : Thread Cert.XGradIdeal.nD Cert.XGradIdeal.τ).loc Cert.XGradIdeal.main_arg5))
      ∧ r.2.sem = fun _ => 0)

def quiescent_CatBwd [hCatBwd : Cert.CatBwd.Facts] : Prop :=
  ∀ (m : (ℓ : Loc Cert.CatBwd.nD Cert.CatBwd.τ Cert.CatBwd.sig) → Buf (Elt Bits) ℓ) (g : Dev Cert.CatBwd.nD → PrngReg), Pre_CatBwd m →
    θ_run (Cert.CatBwd.defs (F := Bits)) (onTc (τ := Cert.CatBwd.τ) (Cert.CatBwd.main (F := Bits))) ⟨m, fun _ => 0, g⟩ (fun r => (∀ c : Dev Cert.CatBwd.nD,
      r.2.mem ((c.tc : Thread Cert.CatBwd.nD Cert.CatBwd.τ).loc Cert.CatBwd.main_arg0) = m ((c.tc : Thread Cert.CatBwd.nD Cert.CatBwd.τ).loc Cert.CatBwd.main_arg0)
      ∧ r.2.mem ((c.tc : Thread Cert.CatBwd.nD Cert.CatBwd.τ).loc Cert.CatBwd.main_arg1) = m ((c.tc : Thread Cert.CatBwd.nD Cert.CatBwd.τ).loc Cert.CatBwd.main_arg1))
      ∧ r.2.sem = fun _ => 0)

def quiescent_CatBwdIdeal [hCatBwdIdeal : Cert.CatBwdIdeal.Facts] : Prop :=
  ∀ (m : (ℓ : Loc Cert.CatBwdIdeal.nD Cert.CatBwdIdeal.τ Cert.CatBwdIdeal.sig) → Buf (Elt Ideal) ℓ) (g : Dev Cert.CatBwdIdeal.nD → PrngReg), Pre_CatBwdIdeal m →
    θ_run (Cert.CatBwdIdeal.defs (F := Ideal)) (onTc (τ := Cert.CatBwdIdeal.τ) (Cert.CatBwdIdeal.main (F := Ideal))) ⟨m, fun _ => 0, g⟩ (fun r => (∀ c : Dev Cert.CatBwdIdeal.nD,
      r.2.mem ((c.tc : Thread Cert.CatBwdIdeal.nD Cert.CatBwdIdeal.τ).loc Cert.CatBwdIdeal.main_arg0) = m ((c.tc : Thread Cert.CatBwdIdeal.nD Cert.CatBwdIdeal.τ).loc Cert.CatBwdIdeal.main_arg0)
      ∧ r.2.mem ((c.tc : Thread Cert.CatBwdIdeal.nD Cert.CatBwdIdeal.τ).loc Cert.CatBwdIdeal.main_arg1) = m ((c.tc : Thread Cert.CatBwdIdeal.nD Cert.CatBwdIdeal.τ).loc Cert.CatBwdIdeal.main_arg1))
      ∧ r.2.sem = fun _ => 0)

def quiescent_CatGradIdeal [hCatGradIdeal : Cert.CatGradIdeal.Facts] : Prop :=
  ∀ (m : (ℓ : Loc Cert.CatGradIdeal.nD Cert.CatGradIdeal.τ Cert.CatGradIdeal.sig) → Buf (Elt Ideal) ℓ) (g : Dev Cert.CatGradIdeal.nD → PrngReg), Pre_CatGradIdeal m →
    θ_run (Cert.CatGradIdeal.defs (F := Ideal)) (onTc (τ := Cert.CatGradIdeal.τ) (Cert.CatGradIdeal.main (F := Ideal))) ⟨m, fun _ => 0, g⟩ (fun r => (∀ c : Dev Cert.CatGradIdeal.nD,
      r.2.mem ((c.tc : Thread Cert.CatGradIdeal.nD Cert.CatGradIdeal.τ).loc Cert.CatGradIdeal.main_arg0) = m ((c.tc : Thread Cert.CatGradIdeal.nD Cert.CatGradIdeal.τ).loc Cert.CatGradIdeal.main_arg0)
      ∧ r.2.mem ((c.tc : Thread Cert.CatGradIdeal.nD Cert.CatGradIdeal.τ).loc Cert.CatGradIdeal.main_arg1) = m ((c.tc : Thread Cert.CatGradIdeal.nD Cert.CatGradIdeal.τ).loc Cert.CatGradIdeal.main_arg1))
      ∧ r.2.sem = fun _ => 0)

def quiescent_KvFwd [hKvFwd : Cert.KvFwd.Facts] : Prop :=
  ∀ (m : (ℓ : Loc Cert.KvFwd.nD Cert.KvFwd.τ Cert.KvFwd.sig) → Buf (Elt Bits) ℓ) (g : Dev Cert.KvFwd.nD → PrngReg), Pre_KvFwd m →
    θ_run (Cert.KvFwd.defs (F := Bits)) (onTc (τ := Cert.KvFwd.τ) (Cert.KvFwd.main (F := Bits))) ⟨m, fun _ => 0, g⟩ (fun r => (∀ c : Dev Cert.KvFwd.nD,
      r.2.mem ((c.tc : Thread Cert.KvFwd.nD Cert.KvFwd.τ).loc Cert.KvFwd.main_arg0) = m ((c.tc : Thread Cert.KvFwd.nD Cert.KvFwd.τ).loc Cert.KvFwd.main_arg0)
      ∧ r.2.mem ((c.tc : Thread Cert.KvFwd.nD Cert.KvFwd.τ).loc Cert.KvFwd.main_arg1) = m ((c.tc : Thread Cert.KvFwd.nD Cert.KvFwd.τ).loc Cert.KvFwd.main_arg1))
      ∧ r.2.sem = fun _ => 0)

def quiescent_KvFwdIdeal [hKvFwdIdeal : Cert.KvFwdIdeal.Facts] : Prop :=
  ∀ (m : (ℓ : Loc Cert.KvFwdIdeal.nD Cert.KvFwdIdeal.τ Cert.KvFwdIdeal.sig) → Buf (Elt Ideal) ℓ) (g : Dev Cert.KvFwdIdeal.nD → PrngReg), Pre_KvFwdIdeal m →
    θ_run (Cert.KvFwdIdeal.defs (F := Ideal)) (onTc (τ := Cert.KvFwdIdeal.τ) (Cert.KvFwdIdeal.main (F := Ideal))) ⟨m, fun _ => 0, g⟩ (fun r => (∀ c : Dev Cert.KvFwdIdeal.nD,
      r.2.mem ((c.tc : Thread Cert.KvFwdIdeal.nD Cert.KvFwdIdeal.τ).loc Cert.KvFwdIdeal.main_arg0) = m ((c.tc : Thread Cert.KvFwdIdeal.nD Cert.KvFwdIdeal.τ).loc Cert.KvFwdIdeal.main_arg0)
      ∧ r.2.mem ((c.tc : Thread Cert.KvFwdIdeal.nD Cert.KvFwdIdeal.τ).loc Cert.KvFwdIdeal.main_arg1) = m ((c.tc : Thread Cert.KvFwdIdeal.nD Cert.KvFwdIdeal.τ).loc Cert.KvFwdIdeal.main_arg1))
      ∧ r.2.sem = fun _ => 0)

def quiescent_KvFwdRefIdeal [hKvFwdRefIdeal : Cert.KvFwdRefIdeal.Facts] : Prop :=
  ∀ (m : (ℓ : Loc Cert.KvFwdRefIdeal.nD Cert.KvFwdRefIdeal.τ Cert.KvFwdRefIdeal.sig) → Buf (Elt Ideal) ℓ) (g : Dev Cert.KvFwdRefIdeal.nD → PrngReg), Pre_KvFwdRefIdeal m →
    θ_run (Cert.KvFwdRefIdeal.defs (F := Ideal)) (onTc (τ := Cert.KvFwdRefIdeal.τ) (Cert.KvFwdRefIdeal.main (F := Ideal))) ⟨m, fun _ => 0, g⟩ (fun r => (∀ c : Dev Cert.KvFwdRefIdeal.nD,
      r.2.mem ((c.tc : Thread Cert.KvFwdRefIdeal.nD Cert.KvFwdRefIdeal.τ).loc Cert.KvFwdRefIdeal.main_arg0) = m ((c.tc : Thread Cert.KvFwdRefIdeal.nD Cert.KvFwdRefIdeal.τ).loc Cert.KvFwdRefIdeal.main_arg0)
      ∧ r.2.mem ((c.tc : Thread Cert.KvFwdRefIdeal.nD Cert.KvFwdRefIdeal.τ).loc Cert.KvFwdRefIdeal.main_arg1) = m ((c.tc : Thread Cert.KvFwdRefIdeal.nD Cert.KvFwdRefIdeal.τ).loc Cert.KvFwdRefIdeal.main_arg1))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1))
      ∧ r.2.sem = fun _ => 0)

def quiescent_InOddFwd [hInOddFwd : Cert.InOddFwd.Facts] : Prop :=
  ∀ (m : (ℓ : Loc Cert.InOddFwd.nD Cert.InOddFwd.τ Cert.InOddFwd.sig) → Buf (Elt Bits) ℓ) (g : Dev Cert.InOddFwd.nD → PrngReg), Pre_InOddFwd m →
    θ_run (Cert.InOddFwd.defs (F := Bits)) (onTc (τ := Cert.InOddFwd.τ) (Cert.InOddFwd.main (F := Bits))) ⟨m, fun _ => 0, g⟩ (fun r => (∀ c : Dev Cert.InOddFwd.nD,
      r.2.mem ((c.tc : Thread Cert.InOddFwd.nD Cert.InOddFwd.τ).loc Cert.InOddFwd.main_arg0) = m ((c.tc : Thread Cert.InOddFwd.nD Cert.InOddFwd.τ).loc Cert.InOddFwd.main_arg0)
      ∧ r.2.mem ((c.tc : Thread Cert.InOddFwd.nD Cert.InOddFwd.τ).loc Cert.InOddFwd.main_arg1) = m ((c.tc : Thread Cert.InOddFwd.nD Cert.InOddFwd.τ).loc Cert.InOddFwd.main_arg1))
      ∧ r.2.sem = fun _ => 0)

def quiescent_InOddFwdIdeal [hInOddFwdIdeal : Cert.InOddFwdIdeal.Facts] : Prop :=
  ∀ (m : (ℓ : Loc Cert.InOddFwdIdeal.nD Cert.InOddFwdIdeal.τ Cert.InOddFwdIdeal.sig) → Buf (Elt Ideal) ℓ) (g : Dev Cert.InOddFwdIdeal.nD → PrngReg), Pre_InOddFwdIdeal m →
    θ_run (Cert.InOddFwdIdeal.defs (F := Ideal)) (onTc (τ := Cert.InOddFwdIdeal.τ) (Cert.InOddFwdIdeal.main (F := Ideal))) ⟨m, fun _ => 0, g⟩ (fun r => (∀ c : Dev Cert.InOddFwdIdeal.nD,
      r.2.mem ((c.tc : Thread Cert.InOddFwdIdeal.nD Cert.InOddFwdIdeal.τ).loc Cert.InOddFwdIdeal.main_arg0) = m ((c.tc : Thread Cert.InOddFwdIdeal.nD Cert.InOddFwdIdeal.τ).loc Cert.InOddFwdIdeal.main_arg0)
      ∧ r.2.mem ((c.tc : Thread Cert.InOddFwdIdeal.nD Cert.InOddFwdIdeal.τ).loc Cert.InOddFwdIdeal.main_arg1) = m ((c.tc : Thread Cert.InOddFwdIdeal.nD Cert.InOddFwdIdeal.τ).loc Cert.InOddFwdIdeal.main_arg1))
      ∧ r.2.sem = fun _ => 0)

def quiescent_InOddFwdRefIdeal [hInOddFwdRefIdeal : Cert.InOddFwdRefIdeal.Facts] : Prop :=
  ∀ (m : (ℓ : Loc Cert.InOddFwdRefIdeal.nD Cert.InOddFwdRefIdeal.τ Cert.InOddFwdRefIdeal.sig) → Buf (Elt Ideal) ℓ) (g : Dev Cert.InOddFwdRefIdeal.nD → PrngReg), Pre_InOddFwdRefIdeal m →
    θ_run (Cert.InOddFwdRefIdeal.defs (F := Ideal)) (onTc (τ := Cert.InOddFwdRefIdeal.τ) (Cert.InOddFwdRefIdeal.main (F := Ideal))) ⟨m, fun _ => 0, g⟩ (fun r => (∀ c : Dev Cert.InOddFwdRefIdeal.nD,
      r.2.mem ((c.tc : Thread Cert.InOddFwdRefIdeal.nD Cert.InOddFwdRefIdeal.τ).loc Cert.InOddFwdRefIdeal.main_arg0) = m ((c.tc : Thread Cert.InOddFwdRefIdeal.nD Cert.InOddFwdRefIdeal.τ).loc Cert.InOddFwdRefIdeal.main_arg0)
      ∧ r.2.mem ((c.tc : Thread Cert.InOddFwdRefIdeal.nD Cert.InOddFwdRefIdeal.τ).loc Cert.InOddFwdRefIdeal.main_arg1) = m ((c.tc : Thread Cert.InOddFwdRefIdeal.nD Cert.InOddFwdRefIdeal.τ).loc Cert.InOddFwdRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_KvBwd [hKvBwd : Cert.KvBwd.Facts] : Prop :=
  ∀ (m : (ℓ : Loc Cert.KvBwd.nD Cert.KvBwd.τ Cert.KvBwd.sig) → Buf (Elt Bits) ℓ) (g : Dev Cert.KvBwd.nD → PrngReg), Pre_KvBwd m →
    θ_run (Cert.KvBwd.defs (F := Bits)) (onTc (τ := Cert.KvBwd.τ) (Cert.KvBwd.main (F := Bits))) ⟨m, fun _ => 0, g⟩ (fun r => (∀ c : Dev Cert.KvBwd.nD,
      r.2.mem ((c.tc : Thread Cert.KvBwd.nD Cert.KvBwd.τ).loc Cert.KvBwd.main_arg0) = m ((c.tc : Thread Cert.KvBwd.nD Cert.KvBwd.τ).loc Cert.KvBwd.main_arg0)
      ∧ r.2.mem ((c.tc : Thread Cert.KvBwd.nD Cert.KvBwd.τ).loc Cert.KvBwd.main_arg1) = m ((c.tc : Thread Cert.KvBwd.nD Cert.KvBwd.τ).loc Cert.KvBwd.main_arg1))
      ∧ r.2.sem = fun _ => 0)

def quiescent_KvBwdIdeal [hKvBwdIdeal : Cert.KvBwdIdeal.Facts] : Prop :=
  ∀ (m : (ℓ : Loc Cert.KvBwdIdeal.nD Cert.KvBwdIdeal.τ Cert.KvBwdIdeal.sig) → Buf (Elt Ideal) ℓ) (g : Dev Cert.KvBwdIdeal.nD → PrngReg), Pre_KvBwdIdeal m →
    θ_run (Cert.KvBwdIdeal.defs (F := Ideal)) (onTc (τ := Cert.KvBwdIdeal.τ) (Cert.KvBwdIdeal.main (F := Ideal))) ⟨m, fun _ => 0, g⟩ (fun r => (∀ c : Dev Cert.KvBwdIdeal.nD,
      r.2.mem ((c.tc : Thread Cert.KvBwdIdeal.nD Cert.KvBwdIdeal.τ).loc Cert.KvBwdIdeal.main_arg0) = m ((c.tc : Thread Cert.KvBwdIdeal.nD Cert.KvBwdIdeal.τ).loc Cert.KvBwdIdeal.main_arg0)
      ∧ r.2.mem ((c.tc : Thread Cert.KvBwdIdeal.nD Cert.KvBwdIdeal.τ).loc Cert.KvBwdIdeal.main_arg1) = m ((c.tc : Thread Cert.KvBwdIdeal.nD Cert.KvBwdIdeal.τ).loc Cert.KvBwdIdeal.main_arg1))
      ∧ r.2.sem = fun _ => 0)

def quiescent_KvGradIdeal [hKvGradIdeal : Cert.KvGradIdeal.Facts] : Prop :=
  ∀ (m : (ℓ : Loc Cert.KvGradIdeal.nD Cert.KvGradIdeal.τ Cert.KvGradIdeal.sig) → Buf (Elt Ideal) ℓ) (g : Dev Cert.KvGradIdeal.nD → PrngReg), Pre_KvGradIdeal m →
    θ_run (Cert.KvGradIdeal.defs (F := Ideal)) (onTc (τ := Cert.KvGradIdeal.τ) (Cert.KvGradIdeal.main (F := Ideal))) ⟨m, fun _ => 0, g⟩ (fun r => (∀ c : Dev Cert.KvGradIdeal.nD,
      r.2.mem ((c.tc : Thread Cert.KvGradIdeal.nD Cert.KvGradIdeal.τ).loc Cert.KvGradIdeal.main_arg0) = m ((c.tc : Thread Cert.KvGradIdeal.nD Cert.KvGradIdeal.τ).loc Cert.KvGradIdeal.main_arg0)
      ∧ r.2.mem ((c.tc : Thread Cert.KvGradIdeal.nD Cert.KvGradIdeal.τ).loc Cert.KvGradIdeal.main_arg1) = m ((c.tc : Thread Cert.KvGradIdeal.nD Cert.KvGradIdeal.τ).loc Cert.KvGradIdeal.main_arg1))
      ∧ r.2.sem = fun _ => 0)

def quiescent_HidBwd [hHidBwd : Cert.HidBwd.Facts] : Prop :=
  ∀ (m : (ℓ : Loc Cert.HidBwd.nD Cert.HidBwd.τ Cert.HidBwd.sig) → Buf (Elt Bits) ℓ) (g : Dev Cert.HidBwd.nD → PrngReg), Pre_HidBwd m →
    θ_run (Cert.HidBwd.defs (F := Bits)) (onTc (τ := Cert.HidBwd.τ) (Cert.HidBwd.main (F := Bits))) ⟨m, fun _ => 0, g⟩ (fun r => (∀ c : Dev Cert.HidBwd.nD,
      r.2.mem ((c.tc : Thread Cert.HidBwd.nD Cert.HidBwd.τ).loc Cert.HidBwd.main_arg0) = m ((c.tc : Thread Cert.HidBwd.nD Cert.HidBwd.τ).loc Cert.HidBwd.main_arg0)
      ∧ r.2.mem ((c.tc : Thread Cert.HidBwd.nD Cert.HidBwd.τ).loc Cert.HidBwd.main_arg1) = m ((c.tc : Thread Cert.HidBwd.nD Cert.HidBwd.τ).loc Cert.HidBwd.main_arg1))
      ∧ r.2.sem = fun _ => 0)

def quiescent_HidBwdIdeal [hHidBwdIdeal : Cert.HidBwdIdeal.Facts] : Prop :=
  ∀ (m : (ℓ : Loc Cert.HidBwdIdeal.nD Cert.HidBwdIdeal.τ Cert.HidBwdIdeal.sig) → Buf (Elt Ideal) ℓ) (g : Dev Cert.HidBwdIdeal.nD → PrngReg), Pre_HidBwdIdeal m →
    θ_run (Cert.HidBwdIdeal.defs (F := Ideal)) (onTc (τ := Cert.HidBwdIdeal.τ) (Cert.HidBwdIdeal.main (F := Ideal))) ⟨m, fun _ => 0, g⟩ (fun r => (∀ c : Dev Cert.HidBwdIdeal.nD,
      r.2.mem ((c.tc : Thread Cert.HidBwdIdeal.nD Cert.HidBwdIdeal.τ).loc Cert.HidBwdIdeal.main_arg0) = m ((c.tc : Thread Cert.HidBwdIdeal.nD Cert.HidBwdIdeal.τ).loc Cert.HidBwdIdeal.main_arg0)
      ∧ r.2.mem ((c.tc : Thread Cert.HidBwdIdeal.nD Cert.HidBwdIdeal.τ).loc Cert.HidBwdIdeal.main_arg1) = m ((c.tc : Thread Cert.HidBwdIdeal.nD Cert.HidBwdIdeal.τ).loc Cert.HidBwdIdeal.main_arg1))
      ∧ r.2.sem = fun _ => 0)

def quiescent_HidGradIdeal [hHidGradIdeal : Cert.HidGradIdeal.Facts] : Prop :=
  ∀ (m : (ℓ : Loc Cert.HidGradIdeal.nD Cert.HidGradIdeal.τ Cert.HidGradIdeal.sig) → Buf (Elt Ideal) ℓ) (g : Dev Cert.HidGradIdeal.nD → PrngReg), Pre_HidGradIdeal m →
    θ_run (Cert.HidGradIdeal.defs (F := Ideal)) (onTc (τ := Cert.HidGradIdeal.τ) (Cert.HidGradIdeal.main (F := Ideal))) ⟨m, fun _ => 0, g⟩ (fun r => (∀ c : Dev Cert.HidGradIdeal.nD,
      r.2.mem ((c.tc : Thread Cert.HidGradIdeal.nD Cert.HidGradIdeal.τ).loc Cert.HidGradIdeal.main_arg0) = m ((c.tc : Thread Cert.HidGradIdeal.nD Cert.HidGradIdeal.τ).loc Cert.HidGradIdeal.main_arg0)
      ∧ r.2.mem ((c.tc : Thread Cert.HidGradIdeal.nD Cert.HidGradIdeal.τ).loc Cert.HidGradIdeal.main_arg1) = m ((c.tc : Thread Cert.HidGradIdeal.nD Cert.HidGradIdeal.τ).loc Cert.HidGradIdeal.main_arg1))
      ∧ r.2.sem = fun _ => 0)

def quiescent_DownBwd [hDownBwd : Cert.DownBwd.Facts] : Prop :=
  ∀ (m : (ℓ : Loc Cert.DownBwd.nD Cert.DownBwd.τ Cert.DownBwd.sig) → Buf (Elt Bits) ℓ) (g : Dev Cert.DownBwd.nD → PrngReg), Pre_DownBwd m →
    θ_run (Cert.DownBwd.defs (F := Bits)) (onTc (τ := Cert.DownBwd.τ) (Cert.DownBwd.main (F := Bits))) ⟨m, fun _ => 0, g⟩ (fun r => (∀ c : Dev Cert.DownBwd.nD,
      r.2.mem ((c.tc : Thread Cert.DownBwd.nD Cert.DownBwd.τ).loc Cert.DownBwd.main_arg0) = m ((c.tc : Thread Cert.DownBwd.nD Cert.DownBwd.τ).loc Cert.DownBwd.main_arg0)
      ∧ r.2.mem ((c.tc : Thread Cert.DownBwd.nD Cert.DownBwd.τ).loc Cert.DownBwd.main_arg1) = m ((c.tc : Thread Cert.DownBwd.nD Cert.DownBwd.τ).loc Cert.DownBwd.main_arg1))
      ∧ r.2.sem = fun _ => 0)

def quiescent_DownBwdIdeal [hDownBwdIdeal : Cert.DownBwdIdeal.Facts] : Prop :=
  ∀ (m : (ℓ : Loc Cert.DownBwdIdeal.nD Cert.DownBwdIdeal.τ Cert.DownBwdIdeal.sig) → Buf (Elt Ideal) ℓ) (g : Dev Cert.DownBwdIdeal.nD → PrngReg), Pre_DownBwdIdeal m →
    θ_run (Cert.DownBwdIdeal.defs (F := Ideal)) (onTc (τ := Cert.DownBwdIdeal.τ) (Cert.DownBwdIdeal.main (F := Ideal))) ⟨m, fun _ => 0, g⟩ (fun r => (∀ c : Dev Cert.DownBwdIdeal.nD,
      r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
      ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1))
      ∧ r.2.sem = fun _ => 0)

def quiescent_DownGradIdeal [hDownGradIdeal : Cert.DownGradIdeal.Facts] : Prop :=
  ∀ (m : (ℓ : Loc Cert.DownGradIdeal.nD Cert.DownGradIdeal.τ Cert.DownGradIdeal.sig) → Buf (Elt Ideal) ℓ) (g : Dev Cert.DownGradIdeal.nD → PrngReg), Pre_DownGradIdeal m →
    θ_run (Cert.DownGradIdeal.defs (F := Ideal)) (onTc (τ := Cert.DownGradIdeal.τ) (Cert.DownGradIdeal.main (F := Ideal))) ⟨m, fun _ => 0, g⟩ (fun r => (∀ c : Dev Cert.DownGradIdeal.nD,
      r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
      ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1)
      ∧ r.2.mem ((c.tc : Thread Cert.OutBwd.nD Cert.OutBwd.τ).loc Cert.OutBwd.main_arg2) = m ((c.tc : Thread Cert.OutBwd.nD Cert.OutBwd.τ).loc Cert.OutBwd.main_arg2))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2))
      ∧ r.2.sem = fun _ => 0)

def quiescent_OutGradIdeal [hOutGradIdeal : Cert.OutGradIdeal.Facts] : Prop :=
  ∀ (m : (ℓ : Loc Cert.OutGradIdeal.nD Cert.OutGradIdeal.τ Cert.OutGradIdeal.sig) → Buf (Elt Ideal) ℓ) (g : Dev Cert.OutGradIdeal.nD → PrngReg), Pre_OutGradIdeal m →
    θ_run (Cert.OutGradIdeal.defs (F := Ideal)) (onTc (τ := Cert.OutGradIdeal.τ) (Cert.OutGradIdeal.main (F := Ideal))) ⟨m, fun _ => 0, g⟩ (fun r => (∀ c : Dev Cert.OutGradIdeal.nD,
      r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
      ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1)
      ∧ r.2.mem ((c.tc : Thread Cert.OutGradIdeal.nD Cert.OutGradIdeal.τ).loc Cert.OutGradIdeal.main_arg2) = m ((c.tc : Thread Cert.OutGradIdeal.nD Cert.OutGradIdeal.τ).loc Cert.OutGradIdeal.main_arg2))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ r.2.sem = fun _ => 0)

def quiescent_InGradIdeal [hInGradIdeal : Cert.InGradIdeal.Facts] : Prop :=
  ∀ (m : (ℓ : Loc Cert.InGradIdeal.nD Cert.InGradIdeal.τ Cert.InGradIdeal.sig) → Buf (Elt Ideal) ℓ) (g : Dev Cert.InGradIdeal.nD → PrngReg), Pre_InGradIdeal m →
    θ_run (Cert.InGradIdeal.defs (F := Ideal)) (onTc (τ := Cert.InGradIdeal.τ) (Cert.InGradIdeal.main (F := Ideal))) ⟨m, fun _ => 0, g⟩ (fun r => (∀ c : Dev Cert.InGradIdeal.nD,
      r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
      ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
      ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2)
      ∧ r.2.mem ((c.tc : Thread Cert.InGradIdeal.nD Cert.InGradIdeal.τ).loc Cert.InGradIdeal.main_arg3) = m ((c.tc : Thread Cert.InGradIdeal.nD Cert.InGradIdeal.τ).loc Cert.InGradIdeal.main_arg3)
      ∧ r.2.mem ((c.tc : Thread Cert.InGradIdeal.nD Cert.InGradIdeal.τ).loc Cert.InGradIdeal.main_arg4) = m ((c.tc : Thread Cert.InGradIdeal.nD Cert.InGradIdeal.τ).loc Cert.InGradIdeal.main_arg4))
      ∧ r.2.sem = fun _ => 0)

def quiescent_InLateBwd [hInLateBwd : Cert.InLateBwd.Facts] : Prop :=
  ∀ (m : (ℓ : Loc Cert.InLateBwd.nD Cert.InLateBwd.τ Cert.InLateBwd.sig) → Buf (Elt Bits) ℓ) (g : Dev Cert.InLateBwd.nD → PrngReg), Pre_InLateBwd m →
    θ_run (Cert.InLateBwd.defs (F := Bits)) (onTc (τ := Cert.InLateBwd.τ) (Cert.InLateBwd.main (F := Bits))) ⟨m, fun _ => 0, g⟩ (fun r => (∀ c : Dev Cert.InLateBwd.nD,
      r.2.mem ((c.tc : Thread Cert.InLateBwd.nD Cert.InLateBwd.τ).loc Cert.InLateBwd.main_arg0) = m ((c.tc : Thread Cert.InLateBwd.nD Cert.InLateBwd.τ).loc Cert.InLateBwd.main_arg0)
      ∧ r.2.mem ((c.tc : Thread Cert.InLateBwd.nD Cert.InLateBwd.τ).loc Cert.InLateBwd.main_arg1) = m ((c.tc : Thread Cert.InLateBwd.nD Cert.InLateBwd.τ).loc Cert.InLateBwd.main_arg1)
      ∧ r.2.mem ((c.tc : Thread Cert.InLateBwd.nD Cert.InLateBwd.τ).loc Cert.InLateBwd.main_arg2) = m ((c.tc : Thread Cert.InLateBwd.nD Cert.InLateBwd.τ).loc Cert.InLateBwd.main_arg2)
      ∧ r.2.mem ((c.tc : Thread Cert.InLateBwd.nD Cert.InLateBwd.τ).loc Cert.InLateBwd.main_arg3) = m ((c.tc : Thread Cert.InLateBwd.nD Cert.InLateBwd.τ).loc Cert.InLateBwd.main_arg3)
      ∧ r.2.mem ((c.tc : Thread Cert.InLateBwd.nD Cert.InLateBwd.τ).loc Cert.InLateBwd.main_arg4) = m ((c.tc : Thread Cert.InLateBwd.nD Cert.InLateBwd.τ).loc Cert.InLateBwd.main_arg4))
      ∧ r.2.sem = fun _ => 0)

def quiescent_InLateBwdIdeal [hInLateBwdIdeal : Cert.InLateBwdIdeal.Facts] : Prop :=
  ∀ (m : (ℓ : Loc Cert.InLateBwdIdeal.nD Cert.InLateBwdIdeal.τ Cert.InLateBwdIdeal.sig) → Buf (Elt Ideal) ℓ) (g : Dev Cert.InLateBwdIdeal.nD → PrngReg), Pre_InLateBwdIdeal m →
    θ_run (Cert.InLateBwdIdeal.defs (F := Ideal)) (onTc (τ := Cert.InLateBwdIdeal.τ) (Cert.InLateBwdIdeal.main (F := Ideal))) ⟨m, fun _ => 0, g⟩ (fun r => (∀ c : Dev Cert.InLateBwdIdeal.nD,
      r.2.mem ((c.tc : Thread Cert.InLateBwdIdeal.nD Cert.InLateBwdIdeal.τ).loc Cert.InLateBwdIdeal.main_arg0) = m ((c.tc : Thread Cert.InLateBwdIdeal.nD Cert.InLateBwdIdeal.τ).loc Cert.InLateBwdIdeal.main_arg0)
      ∧ r.2.mem ((c.tc : Thread Cert.InLateBwdIdeal.nD Cert.InLateBwdIdeal.τ).loc Cert.InLateBwdIdeal.main_arg1) = m ((c.tc : Thread Cert.InLateBwdIdeal.nD Cert.InLateBwdIdeal.τ).loc Cert.InLateBwdIdeal.main_arg1)
      ∧ r.2.mem ((c.tc : Thread Cert.InLateBwdIdeal.nD Cert.InLateBwdIdeal.τ).loc Cert.InLateBwdIdeal.main_arg2) = m ((c.tc : Thread Cert.InLateBwdIdeal.nD Cert.InLateBwdIdeal.τ).loc Cert.InLateBwdIdeal.main_arg2)
      ∧ r.2.mem ((c.tc : Thread Cert.InLateBwdIdeal.nD Cert.InLateBwdIdeal.τ).loc Cert.InLateBwdIdeal.main_arg3) = m ((c.tc : Thread Cert.InLateBwdIdeal.nD Cert.InLateBwdIdeal.τ).loc Cert.InLateBwdIdeal.main_arg3)
      ∧ r.2.mem ((c.tc : Thread Cert.InLateBwdIdeal.nD Cert.InLateBwdIdeal.τ).loc Cert.InLateBwdIdeal.main_arg4) = m ((c.tc : Thread Cert.InLateBwdIdeal.nD Cert.InLateBwdIdeal.τ).loc Cert.InLateBwdIdeal.main_arg4))
      ∧ r.2.sem = fun _ => 0)

def quiescent_InLateGradIdeal [hInLateGradIdeal : Cert.InLateGradIdeal.Facts] : Prop :=
  ∀ (m : (ℓ : Loc Cert.InLateGradIdeal.nD Cert.InLateGradIdeal.τ Cert.InLateGradIdeal.sig) → Buf (Elt Ideal) ℓ) (g : Dev Cert.InLateGradIdeal.nD → PrngReg), Pre_InLateGradIdeal m →
    θ_run (Cert.InLateGradIdeal.defs (F := Ideal)) (onTc (τ := Cert.InLateGradIdeal.τ) (Cert.InLateGradIdeal.main (F := Ideal))) ⟨m, fun _ => 0, g⟩ (fun r => (∀ c : Dev Cert.InLateGradIdeal.nD,
      r.2.mem ((c.tc : Thread Cert.InLateGradIdeal.nD Cert.InLateGradIdeal.τ).loc Cert.InLateGradIdeal.main_arg0) = m ((c.tc : Thread Cert.InLateGradIdeal.nD Cert.InLateGradIdeal.τ).loc Cert.InLateGradIdeal.main_arg0)
      ∧ r.2.mem ((c.tc : Thread Cert.InLateGradIdeal.nD Cert.InLateGradIdeal.τ).loc Cert.InLateGradIdeal.main_arg1) = m ((c.tc : Thread Cert.InLateGradIdeal.nD Cert.InLateGradIdeal.τ).loc Cert.InLateGradIdeal.main_arg1)
      ∧ r.2.mem ((c.tc : Thread Cert.InLateGradIdeal.nD Cert.InLateGradIdeal.τ).loc Cert.InLateGradIdeal.main_arg2) = m ((c.tc : Thread Cert.InLateGradIdeal.nD Cert.InLateGradIdeal.τ).loc Cert.InLateGradIdeal.main_arg2)
      ∧ r.2.mem ((c.tc : Thread Cert.InLateGradIdeal.nD Cert.InLateGradIdeal.τ).loc Cert.InLateGradIdeal.main_arg3) = m ((c.tc : Thread Cert.InLateGradIdeal.nD Cert.InLateGradIdeal.τ).loc Cert.InLateGradIdeal.main_arg3)
      ∧ r.2.mem ((c.tc : Thread Cert.InLateGradIdeal.nD Cert.InLateGradIdeal.τ).loc Cert.InLateGradIdeal.main_arg4) = m ((c.tc : Thread Cert.InLateGradIdeal.nD Cert.InLateGradIdeal.τ).loc Cert.InLateGradIdeal.main_arg4))
      ∧ r.2.sem = fun _ => 0)

def quiescent_InOddBwd [hInOddBwd : Cert.InOddBwd.Facts] : Prop :=
  ∀ (m : (ℓ : Loc Cert.InOddBwd.nD Cert.InOddBwd.τ Cert.InOddBwd.sig) → Buf (Elt Bits) ℓ) (g : Dev Cert.InOddBwd.nD → PrngReg), Pre_InOddBwd m →
    θ_run (Cert.InOddBwd.defs (F := Bits)) (onTc (τ := Cert.InOddBwd.τ) (Cert.InOddBwd.main (F := Bits))) ⟨m, fun _ => 0, g⟩ (fun r => (∀ c : Dev Cert.InOddBwd.nD,
      r.2.mem ((c.tc : Thread Cert.InOddBwd.nD Cert.InOddBwd.τ).loc Cert.InOddBwd.main_arg0) = m ((c.tc : Thread Cert.InOddBwd.nD Cert.InOddBwd.τ).loc Cert.InOddBwd.main_arg0)
      ∧ r.2.mem ((c.tc : Thread Cert.InOddBwd.nD Cert.InOddBwd.τ).loc Cert.InOddBwd.main_arg1) = m ((c.tc : Thread Cert.InOddBwd.nD Cert.InOddBwd.τ).loc Cert.InOddBwd.main_arg1)
      ∧ r.2.mem ((c.tc : Thread Cert.InOddBwd.nD Cert.InOddBwd.τ).loc Cert.InOddBwd.main_arg2) = m ((c.tc : Thread Cert.InOddBwd.nD Cert.InOddBwd.τ).loc Cert.InOddBwd.main_arg2)
      ∧ r.2.mem ((c.tc : Thread Cert.InOddBwd.nD Cert.InOddBwd.τ).loc Cert.InOddBwd.main_arg3) = m ((c.tc : Thread Cert.InOddBwd.nD Cert.InOddBwd.τ).loc Cert.InOddBwd.main_arg3))
      ∧ r.2.sem = fun _ => 0)

def quiescent_InOddBwdIdeal [hInOddBwdIdeal : Cert.InOddBwdIdeal.Facts] : Prop :=
  ∀ (m : (ℓ : Loc Cert.InOddBwdIdeal.nD Cert.InOddBwdIdeal.τ Cert.InOddBwdIdeal.sig) → Buf (Elt Ideal) ℓ) (g : Dev Cert.InOddBwdIdeal.nD → PrngReg), Pre_InOddBwdIdeal m →
    θ_run (Cert.InOddBwdIdeal.defs (F := Ideal)) (onTc (τ := Cert.InOddBwdIdeal.τ) (Cert.InOddBwdIdeal.main (F := Ideal))) ⟨m, fun _ => 0, g⟩ (fun r => (∀ c : Dev Cert.InOddBwdIdeal.nD,
      r.2.mem ((c.tc : Thread Cert.InOddBwdIdeal.nD Cert.InOddBwdIdeal.τ).loc Cert.InOddBwdIdeal.main_arg0) = m ((c.tc : Thread Cert.InOddBwdIdeal.nD Cert.InOddBwdIdeal.τ).loc Cert.InOddBwdIdeal.main_arg0)
      ∧ r.2.mem ((c.tc : Thread Cert.InOddBwdIdeal.nD Cert.InOddBwdIdeal.τ).loc Cert.InOddBwdIdeal.main_arg1) = m ((c.tc : Thread Cert.InOddBwdIdeal.nD Cert.InOddBwdIdeal.τ).loc Cert.InOddBwdIdeal.main_arg1)
      ∧ r.2.mem ((c.tc : Thread Cert.InOddBwdIdeal.nD Cert.InOddBwdIdeal.τ).loc Cert.InOddBwdIdeal.main_arg2) = m ((c.tc : Thread Cert.InOddBwdIdeal.nD Cert.InOddBwdIdeal.τ).loc Cert.InOddBwdIdeal.main_arg2)
      ∧ r.2.mem ((c.tc : Thread Cert.InOddBwdIdeal.nD Cert.InOddBwdIdeal.τ).loc Cert.InOddBwdIdeal.main_arg3) = m ((c.tc : Thread Cert.InOddBwdIdeal.nD Cert.InOddBwdIdeal.τ).loc Cert.InOddBwdIdeal.main_arg3))
      ∧ r.2.sem = fun _ => 0)

def quiescent_InOddGradIdeal [hInOddGradIdeal : Cert.InOddGradIdeal.Facts] : Prop :=
  ∀ (m : (ℓ : Loc Cert.InOddGradIdeal.nD Cert.InOddGradIdeal.τ Cert.InOddGradIdeal.sig) → Buf (Elt Ideal) ℓ) (g : Dev Cert.InOddGradIdeal.nD → PrngReg), Pre_InOddGradIdeal m →
    θ_run (Cert.InOddGradIdeal.defs (F := Ideal)) (onTc (τ := Cert.InOddGradIdeal.τ) (Cert.InOddGradIdeal.main (F := Ideal))) ⟨m, fun _ => 0, g⟩ (fun r => (∀ c : Dev Cert.InOddGradIdeal.nD,
      r.2.mem ((c.tc : Thread Cert.InOddGradIdeal.nD Cert.InOddGradIdeal.τ).loc Cert.InOddGradIdeal.main_arg0) = m ((c.tc : Thread Cert.InOddGradIdeal.nD Cert.InOddGradIdeal.τ).loc Cert.InOddGradIdeal.main_arg0)
      ∧ r.2.mem ((c.tc : Thread Cert.InOddGradIdeal.nD Cert.InOddGradIdeal.τ).loc Cert.InOddGradIdeal.main_arg1) = m ((c.tc : Thread Cert.InOddGradIdeal.nD Cert.InOddGradIdeal.τ).loc Cert.InOddGradIdeal.main_arg1)
      ∧ r.2.mem ((c.tc : Thread Cert.InOddGradIdeal.nD Cert.InOddGradIdeal.τ).loc Cert.InOddGradIdeal.main_arg2) = m ((c.tc : Thread Cert.InOddGradIdeal.nD Cert.InOddGradIdeal.τ).loc Cert.InOddGradIdeal.main_arg2)
      ∧ r.2.mem ((c.tc : Thread Cert.InOddGradIdeal.nD Cert.InOddGradIdeal.τ).loc Cert.InOddGradIdeal.main_arg3) = m ((c.tc : Thread Cert.InOddGradIdeal.nD Cert.InOddGradIdeal.τ).loc Cert.InOddGradIdeal.main_arg3))
      ∧ r.2.sem = fun _ => 0)

def quiescent_InLateFwd [hInLateFwd : Cert.InLateFwd.Facts] : Prop :=
  ∀ (m : (ℓ : Loc Cert.InLateFwd.nD Cert.InLateFwd.τ Cert.InLateFwd.sig) → Buf (Elt Bits) ℓ) (g : Dev Cert.InLateFwd.nD → PrngReg), Pre_InLateFwd m →
    θ_run (Cert.InLateFwd.defs (F := Bits)) (onTc (τ := Cert.InLateFwd.τ) (Cert.InLateFwd.main (F := Bits))) ⟨m, fun _ => 0, g⟩ (fun r => (∀ c : Dev Cert.InLateFwd.nD,
      r.2.mem ((c.tc : Thread Cert.InLateFwd.nD Cert.InLateFwd.τ).loc Cert.InLateFwd.main_arg0) = m ((c.tc : Thread Cert.InLateFwd.nD Cert.InLateFwd.τ).loc Cert.InLateFwd.main_arg0)
      ∧ r.2.mem ((c.tc : Thread Cert.InLateFwd.nD Cert.InLateFwd.τ).loc Cert.InLateFwd.main_arg1) = m ((c.tc : Thread Cert.InLateFwd.nD Cert.InLateFwd.τ).loc Cert.InLateFwd.main_arg1))
      ∧ r.2.sem = fun _ => 0)

def quiescent_InLateFwdIdeal [hInLateFwdIdeal : Cert.InLateFwdIdeal.Facts] : Prop :=
  ∀ (m : (ℓ : Loc Cert.InLateFwdIdeal.nD Cert.InLateFwdIdeal.τ Cert.InLateFwdIdeal.sig) → Buf (Elt Ideal) ℓ) (g : Dev Cert.InLateFwdIdeal.nD → PrngReg), Pre_InLateFwdIdeal m →
    θ_run (Cert.InLateFwdIdeal.defs (F := Ideal)) (onTc (τ := Cert.InLateFwdIdeal.τ) (Cert.InLateFwdIdeal.main (F := Ideal))) ⟨m, fun _ => 0, g⟩ (fun r => (∀ c : Dev Cert.InLateFwdIdeal.nD,
      r.2.mem ((c.tc : Thread Cert.InLateFwdIdeal.nD Cert.InLateFwdIdeal.τ).loc Cert.InLateFwdIdeal.main_arg0) = m ((c.tc : Thread Cert.InLateFwdIdeal.nD Cert.InLateFwdIdeal.τ).loc Cert.InLateFwdIdeal.main_arg0)
      ∧ r.2.mem ((c.tc : Thread Cert.InLateFwdIdeal.nD Cert.InLateFwdIdeal.τ).loc Cert.InLateFwdIdeal.main_arg1) = m ((c.tc : Thread Cert.InLateFwdIdeal.nD Cert.InLateFwdIdeal.τ).loc Cert.InLateFwdIdeal.main_arg1))
      ∧ r.2.sem = fun _ => 0)

def quiescent_InLateFwdRefIdeal [hInLateFwdRefIdeal : Cert.InLateFwdRefIdeal.Facts] : Prop :=
  ∀ (m : (ℓ : Loc Cert.InLateFwdRefIdeal.nD Cert.InLateFwdRefIdeal.τ Cert.InLateFwdRefIdeal.sig) → Buf (Elt Ideal) ℓ) (g : Dev Cert.InLateFwdRefIdeal.nD → PrngReg), Pre_InLateFwdRefIdeal m →
    θ_run (Cert.InLateFwdRefIdeal.defs (F := Ideal)) (onTc (τ := Cert.InLateFwdRefIdeal.τ) (Cert.InLateFwdRefIdeal.main (F := Ideal))) ⟨m, fun _ => 0, g⟩ (fun r => (∀ c : Dev Cert.InLateFwdRefIdeal.nD,
      r.2.mem ((c.tc : Thread Cert.InLateFwdRefIdeal.nD Cert.InLateFwdRefIdeal.τ).loc Cert.InLateFwdRefIdeal.main_arg0) = m ((c.tc : Thread Cert.InLateFwdRefIdeal.nD Cert.InLateFwdRefIdeal.τ).loc Cert.InLateFwdRefIdeal.main_arg0)
      ∧ r.2.mem ((c.tc : Thread Cert.InLateFwdRefIdeal.nD Cert.InLateFwdRefIdeal.τ).loc Cert.InLateFwdRefIdeal.main_arg1) = m ((c.tc : Thread Cert.InLateFwdRefIdeal.nD Cert.InLateFwdRefIdeal.τ).loc Cert.InLateFwdRefIdeal.main_arg1))
      ∧ r.2.sem = fun _ => 0)

def quiescent_AdamHid [hAdamHid : Cert.AdamHid.Facts] : Prop :=
  ∀ (m : (ℓ : Loc Cert.AdamHid.nD Cert.AdamHid.τ Cert.AdamHid.sig) → Buf (Elt Bits) ℓ) (g : Dev Cert.AdamHid.nD → PrngReg), Pre_AdamHid m →
    θ_run (Cert.AdamHid.defs (F := Bits)) (onTc (τ := Cert.AdamHid.τ) (Cert.AdamHid.main (F := Bits))) ⟨m, fun _ => 0, g⟩ (fun r => (∀ c : Dev Cert.AdamHid.nD,
      r.2.mem ((c.tc : Thread Cert.AdamHid.nD Cert.AdamHid.τ).loc Cert.AdamHid.main_arg0) = m ((c.tc : Thread Cert.AdamHid.nD Cert.AdamHid.τ).loc Cert.AdamHid.main_arg0)
      ∧ r.2.mem ((c.tc : Thread Cert.AdamHid.nD Cert.AdamHid.τ).loc Cert.AdamHid.main_arg1) = m ((c.tc : Thread Cert.AdamHid.nD Cert.AdamHid.τ).loc Cert.AdamHid.main_arg1)
      ∧ r.2.mem ((c.tc : Thread Cert.AdamHid.nD Cert.AdamHid.τ).loc Cert.AdamHid.main_arg2) = m ((c.tc : Thread Cert.AdamHid.nD Cert.AdamHid.τ).loc Cert.AdamHid.main_arg2)
      ∧ r.2.mem ((c.tc : Thread Cert.AdamHid.nD Cert.AdamHid.τ).loc Cert.AdamHid.main_arg3) = m ((c.tc : Thread Cert.AdamHid.nD Cert.AdamHid.τ).loc Cert.AdamHid.main_arg3))
      ∧ r.2.sem = fun _ => 0)

def quiescent_AdamHidIdeal [hAdamHidIdeal : Cert.AdamHidIdeal.Facts] : Prop :=
  ∀ (m : (ℓ : Loc Cert.AdamHidIdeal.nD Cert.AdamHidIdeal.τ Cert.AdamHidIdeal.sig) → Buf (Elt Ideal) ℓ) (g : Dev Cert.AdamHidIdeal.nD → PrngReg), Pre_AdamHidIdeal m →
    θ_run (Cert.AdamHidIdeal.defs (F := Ideal)) (onTc (τ := Cert.AdamHidIdeal.τ) (Cert.AdamHidIdeal.main (F := Ideal))) ⟨m, fun _ => 0, g⟩ (fun r => (∀ c : Dev Cert.AdamHidIdeal.nD,
      r.2.mem ((c.tc : Thread Cert.AdamHidIdeal.nD Cert.AdamHidIdeal.τ).loc Cert.AdamHidIdeal.main_arg0) = m ((c.tc : Thread Cert.AdamHidIdeal.nD Cert.AdamHidIdeal.τ).loc Cert.AdamHidIdeal.main_arg0)
      ∧ r.2.mem ((c.tc : Thread Cert.AdamHidIdeal.nD Cert.AdamHidIdeal.τ).loc Cert.AdamHidIdeal.main_arg1) = m ((c.tc : Thread Cert.AdamHidIdeal.nD Cert.AdamHidIdeal.τ).loc Cert.AdamHidIdeal.main_arg1)
      ∧ r.2.mem ((c.tc : Thread Cert.AdamHidIdeal.nD Cert.AdamHidIdeal.τ).loc Cert.AdamHidIdeal.main_arg2) = m ((c.tc : Thread Cert.AdamHidIdeal.nD Cert.AdamHidIdeal.τ).loc Cert.AdamHidIdeal.main_arg2)
      ∧ r.2.mem ((c.tc : Thread Cert.AdamHidIdeal.nD Cert.AdamHidIdeal.τ).loc Cert.AdamHidIdeal.main_arg3) = m ((c.tc : Thread Cert.AdamHidIdeal.nD Cert.AdamHidIdeal.τ).loc Cert.AdamHidIdeal.main_arg3))
      ∧ r.2.sem = fun _ => 0)

def quiescent_AdamHidRefIdeal [hAdamHidRefIdeal : Cert.AdamHidRefIdeal.Facts] : Prop :=
  ∀ (m : (ℓ : Loc Cert.AdamHidRefIdeal.nD Cert.AdamHidRefIdeal.τ Cert.AdamHidRefIdeal.sig) → Buf (Elt Ideal) ℓ) (g : Dev Cert.AdamHidRefIdeal.nD → PrngReg), Pre_AdamHidRefIdeal m →
    θ_run (Cert.AdamHidRefIdeal.defs (F := Ideal)) (onTc (τ := Cert.AdamHidRefIdeal.τ) (Cert.AdamHidRefIdeal.main (F := Ideal))) ⟨m, fun _ => 0, g⟩ (fun r => (∀ c : Dev Cert.AdamHidRefIdeal.nD,
      r.2.mem ((c.tc : Thread Cert.AdamHidRefIdeal.nD Cert.AdamHidRefIdeal.τ).loc Cert.AdamHidRefIdeal.main_arg0) = m ((c.tc : Thread Cert.AdamHidRefIdeal.nD Cert.AdamHidRefIdeal.τ).loc Cert.AdamHidRefIdeal.main_arg0)
      ∧ r.2.mem ((c.tc : Thread Cert.AdamHidRefIdeal.nD Cert.AdamHidRefIdeal.τ).loc Cert.AdamHidRefIdeal.main_arg1) = m ((c.tc : Thread Cert.AdamHidRefIdeal.nD Cert.AdamHidRefIdeal.τ).loc Cert.AdamHidRefIdeal.main_arg1)
      ∧ r.2.mem ((c.tc : Thread Cert.AdamHidRefIdeal.nD Cert.AdamHidRefIdeal.τ).loc Cert.AdamHidRefIdeal.main_arg2) = m ((c.tc : Thread Cert.AdamHidRefIdeal.nD Cert.AdamHidRefIdeal.τ).loc Cert.AdamHidRefIdeal.main_arg2)
      ∧ r.2.mem ((c.tc : Thread Cert.AdamHidRefIdeal.nD Cert.AdamHidRefIdeal.τ).loc Cert.AdamHidRefIdeal.main_arg3) = m ((c.tc : Thread Cert.AdamHidRefIdeal.nD Cert.AdamHidRefIdeal.τ).loc Cert.AdamHidRefIdeal.main_arg3))
      ∧ r.2.sem = fun _ => 0)

def preserves_MemBwd_MemBwdIdeal : Prop :=
  True

def algebraic_MemBwdIdeal_MemGradIdeal_pre_mem_finite [hMemBwdIdeal : Cert.MemBwdIdeal.Facts] [hMemGradIdeal : Cert.MemGradIdeal.Facts] [hPre_mem_finite : Cert.Pre_mem_finite.Facts] : Prop :=
  ∀ (m : (ℓ : Loc Cert.MemBwdIdeal.nD Cert.MemBwdIdeal.τ Cert.MemBwdIdeal.sig) → Buf (Elt Ideal) ℓ) (g : Dev Cert.MemBwdIdeal.nD → PrngReg)
    (m' : (ℓ : Loc Cert.MemGradIdeal.nD Cert.MemGradIdeal.τ Cert.MemGradIdeal.sig) → Buf (Elt Ideal) ℓ) (g' : Dev Cert.MemGradIdeal.nD → PrngReg), Pre_MemBwdIdeal_mem_finite m →
    (∀ c : Dev Cert.MemBwdIdeal.nD,
      m' ((c.tc : Thread Cert.MemGradIdeal.nD Cert.MemGradIdeal.τ).loc Cert.MemGradIdeal.main_arg0) = m ((c.tc : Thread Cert.MemBwdIdeal.nD Cert.MemBwdIdeal.τ).loc Cert.MemBwdIdeal.main_arg0)
      ∧ m' ((c.tc : Thread Cert.MemGradIdeal.nD Cert.MemGradIdeal.τ).loc Cert.MemGradIdeal.main_arg1) = m ((c.tc : Thread Cert.MemBwdIdeal.nD Cert.MemBwdIdeal.τ).loc Cert.MemBwdIdeal.main_arg1)
      ∧ m' ((c.tc : Thread Cert.MemGradIdeal.nD Cert.MemGradIdeal.τ).loc Cert.MemGradIdeal.main_arg2) = m ((c.tc : Thread Cert.MemBwdIdeal.nD Cert.MemBwdIdeal.τ).loc Cert.MemBwdIdeal.main_arg2)) →
    ∃ (v0 : (c : Dev Cert.MemBwdIdeal.nD) → Buf (Elt Ideal) ((c.tc : Thread Cert.MemBwdIdeal.nD Cert.MemBwdIdeal.τ).loc Cert.MemBwdIdeal.main_v0_0)) (v1 : (c : Dev Cert.MemBwdIdeal.nD) → Buf (Elt Ideal) ((c.tc : Thread Cert.MemBwdIdeal.nD Cert.MemBwdIdeal.τ).loc Cert.MemBwdIdeal.main_v0_1)),
      θ_run (Cert.MemBwdIdeal.defs (F := Ideal)) (onTc (τ := Cert.MemBwdIdeal.τ) (Cert.MemBwdIdeal.main (F := Ideal))) ⟨m, fun _ => 0, g⟩ (fun r => ∀ c : Dev Cert.MemBwdIdeal.nD,
          r.2.mem ((c.tc : Thread Cert.MemBwdIdeal.nD Cert.MemBwdIdeal.τ).loc Cert.MemBwdIdeal.main_v0_0) = v0 c
          ∧ r.2.mem ((c.tc : Thread Cert.MemBwdIdeal.nD Cert.MemBwdIdeal.τ).loc Cert.MemBwdIdeal.main_v0_1) = v1 c
          ∧ r.2.mem ((c.tc : Thread Cert.MemBwdIdeal.nD Cert.MemBwdIdeal.τ).loc Cert.MemBwdIdeal.main_arg0) = m ((c.tc : Thread Cert.MemBwdIdeal.nD Cert.MemBwdIdeal.τ).loc Cert.MemBwdIdeal.main_arg0)
          ∧ r.2.mem ((c.tc : Thread Cert.MemBwdIdeal.nD Cert.MemBwdIdeal.τ).loc Cert.MemBwdIdeal.main_arg1) = m ((c.tc : Thread Cert.MemBwdIdeal.nD Cert.MemBwdIdeal.τ).loc Cert.MemBwdIdeal.main_arg1)
          ∧ r.2.mem ((c.tc : Thread Cert.MemBwdIdeal.nD Cert.MemBwdIdeal.τ).loc Cert.MemBwdIdeal.main_arg2) = m ((c.tc : Thread Cert.MemBwdIdeal.nD Cert.MemBwdIdeal.τ).loc Cert.MemBwdIdeal.main_arg2))
      ∧ θ_run (Cert.MemGradIdeal.defs (F := Ideal)) (onTc (τ := Cert.MemGradIdeal.τ) (Cert.MemGradIdeal.main (F := Ideal))) ⟨m', fun _ => 0, g'⟩ (fun r => ∀ c : Dev Cert.MemGradIdeal.nD,
          r.2.mem ((c.tc : Thread Cert.MemGradIdeal.nD Cert.MemGradIdeal.τ).loc Cert.MemGradIdeal.main_v68) = v0 c
          ∧ r.2.mem ((c.tc : Thread Cert.MemGradIdeal.nD Cert.MemGradIdeal.τ).loc Cert.MemGradIdeal.main_v67) = v1 c
          ∧ r.2.mem ((c.tc : Thread Cert.MemGradIdeal.nD Cert.MemGradIdeal.τ).loc Cert.MemGradIdeal.main_arg0) = m' ((c.tc : Thread Cert.MemGradIdeal.nD Cert.MemGradIdeal.τ).loc Cert.MemGradIdeal.main_arg0)
          ∧ r.2.mem ((c.tc : Thread Cert.MemGradIdeal.nD Cert.MemGradIdeal.τ).loc Cert.MemGradIdeal.main_arg1) = m' ((c.tc : Thread Cert.MemGradIdeal.nD Cert.MemGradIdeal.τ).loc Cert.MemGradIdeal.main_arg1)
          ∧ r.2.mem ((c.tc : Thread Cert.MemGradIdeal.nD Cert.MemGradIdeal.τ).loc Cert.MemGradIdeal.main_arg2) = m' ((c.tc : Thread Cert.MemGradIdeal.nD Cert.MemGradIdeal.τ).loc Cert.MemGradIdeal.main_arg2))

def preserves_SguBwd_SguBwdIdeal : Prop :=
  IdealRules.named_const.Statement Cert.SguBwdIdeal.κ "cubic" .f32 0x3D372713#32 ((8943 / 200000 : ℝ) : EReal)
  ∧ IdealRules.named_const.Statement Cert.SguBwdIdeal.κ "cubic3" .f32 0x3E095D4F#32 ((26829 / 200000 : ℝ) : EReal)

def algebraic_SguBwdIdeal_SguGradIdeal_pre_sgu_finite [hSguBwdIdeal : Cert.SguBwdIdeal.Facts] [hSguGradIdeal : Cert.SguGradIdeal.Facts] [hPre_sgu_finite : Cert.Pre_sgu_finite.Facts] : Prop :=
  ∀ (m : (ℓ : Loc Cert.SguBwdIdeal.nD Cert.SguBwdIdeal.τ Cert.SguBwdIdeal.sig) → Buf (Elt Ideal) ℓ) (g : Dev Cert.SguBwdIdeal.nD → PrngReg)
    (m' : (ℓ : Loc Cert.SguGradIdeal.nD Cert.SguGradIdeal.τ Cert.SguGradIdeal.sig) → Buf (Elt Ideal) ℓ) (g' : Dev Cert.SguGradIdeal.nD → PrngReg), Pre_SguBwdIdeal_sgu_finite m →
    (∀ c : Dev Cert.SguBwdIdeal.nD,
      m' ((c.tc : Thread Cert.SguGradIdeal.nD Cert.SguGradIdeal.τ).loc Cert.SguGradIdeal.main_arg0) = m ((c.tc : Thread Cert.SguBwdIdeal.nD Cert.SguBwdIdeal.τ).loc Cert.SguBwdIdeal.main_arg0)
      ∧ m' ((c.tc : Thread Cert.SguGradIdeal.nD Cert.SguGradIdeal.τ).loc Cert.SguGradIdeal.main_arg1) = m ((c.tc : Thread Cert.SguBwdIdeal.nD Cert.SguBwdIdeal.τ).loc Cert.SguBwdIdeal.main_arg1)
      ∧ m' ((c.tc : Thread Cert.SguGradIdeal.nD Cert.SguGradIdeal.τ).loc Cert.SguGradIdeal.main_arg2) = m ((c.tc : Thread Cert.SguBwdIdeal.nD Cert.SguBwdIdeal.τ).loc Cert.SguBwdIdeal.main_arg2)
      ∧ m' ((c.tc : Thread Cert.SguGradIdeal.nD Cert.SguGradIdeal.τ).loc Cert.SguGradIdeal.main_arg3) = m ((c.tc : Thread Cert.SguBwdIdeal.nD Cert.SguBwdIdeal.τ).loc Cert.SguBwdIdeal.main_arg3)
      ∧ m' ((c.tc : Thread Cert.SguGradIdeal.nD Cert.SguGradIdeal.τ).loc Cert.SguGradIdeal.main_arg4) = m ((c.tc : Thread Cert.SguBwdIdeal.nD Cert.SguBwdIdeal.τ).loc Cert.SguBwdIdeal.main_arg4)
      ∧ m' ((c.tc : Thread Cert.SguGradIdeal.nD Cert.SguGradIdeal.τ).loc Cert.SguGradIdeal.main_arg5) = m ((c.tc : Thread Cert.SguBwdIdeal.nD Cert.SguBwdIdeal.τ).loc Cert.SguBwdIdeal.main_arg5)) →
    ∃ (v0 : (c : Dev Cert.SguBwdIdeal.nD) → Buf (Elt Ideal) ((c.tc : Thread Cert.SguBwdIdeal.nD Cert.SguBwdIdeal.τ).loc Cert.SguBwdIdeal.main_v7_0)) (v1 : (c : Dev Cert.SguBwdIdeal.nD) → Buf (Elt Ideal) ((c.tc : Thread Cert.SguBwdIdeal.nD Cert.SguBwdIdeal.τ).loc Cert.SguBwdIdeal.main_v7_1)) (v2 : (c : Dev Cert.SguBwdIdeal.nD) → Buf (Elt Ideal) ((c.tc : Thread Cert.SguBwdIdeal.nD Cert.SguBwdIdeal.τ).loc Cert.SguBwdIdeal.main_v7_2)) (v3 : (c : Dev Cert.SguBwdIdeal.nD) → Buf (Elt Ideal) ((c.tc : Thread Cert.SguBwdIdeal.nD Cert.SguBwdIdeal.τ).loc Cert.SguBwdIdeal.main_v7_3)) (v4 : (c : Dev Cert.SguBwdIdeal.nD) → Buf (Elt Ideal) ((c.tc : Thread Cert.SguBwdIdeal.nD Cert.SguBwdIdeal.τ).loc Cert.SguBwdIdeal.main_v7_4)) (v5 : (c : Dev Cert.SguBwdIdeal.nD) → Buf (Elt Ideal) ((c.tc : Thread Cert.SguBwdIdeal.nD Cert.SguBwdIdeal.τ).loc Cert.SguBwdIdeal.main_v7_5)),
      θ_run (Cert.SguBwdIdeal.defs (F := Ideal)) (onTc (τ := Cert.SguBwdIdeal.τ) (Cert.SguBwdIdeal.main (F := Ideal))) ⟨m, fun _ => 0, g⟩ (fun r => ∀ c : Dev Cert.SguBwdIdeal.nD,
          r.2.mem ((c.tc : Thread Cert.SguBwdIdeal.nD Cert.SguBwdIdeal.τ).loc Cert.SguBwdIdeal.main_v7_0) = v0 c
          ∧ r.2.mem ((c.tc : Thread Cert.SguBwdIdeal.nD Cert.SguBwdIdeal.τ).loc Cert.SguBwdIdeal.main_v7_1) = v1 c
          ∧ r.2.mem ((c.tc : Thread Cert.SguBwdIdeal.nD Cert.SguBwdIdeal.τ).loc Cert.SguBwdIdeal.main_v7_2) = v2 c
          ∧ r.2.mem ((c.tc : Thread Cert.SguBwdIdeal.nD Cert.SguBwdIdeal.τ).loc Cert.SguBwdIdeal.main_v7_3) = v3 c
          ∧ r.2.mem ((c.tc : Thread Cert.SguBwdIdeal.nD Cert.SguBwdIdeal.τ).loc Cert.SguBwdIdeal.main_v7_4) = v4 c
          ∧ r.2.mem ((c.tc : Thread Cert.SguBwdIdeal.nD Cert.SguBwdIdeal.τ).loc Cert.SguBwdIdeal.main_v7_5) = v5 c
          ∧ r.2.mem ((c.tc : Thread Cert.SguBwdIdeal.nD Cert.SguBwdIdeal.τ).loc Cert.SguBwdIdeal.main_arg0) = m ((c.tc : Thread Cert.SguBwdIdeal.nD Cert.SguBwdIdeal.τ).loc Cert.SguBwdIdeal.main_arg0)
          ∧ r.2.mem ((c.tc : Thread Cert.SguBwdIdeal.nD Cert.SguBwdIdeal.τ).loc Cert.SguBwdIdeal.main_arg1) = m ((c.tc : Thread Cert.SguBwdIdeal.nD Cert.SguBwdIdeal.τ).loc Cert.SguBwdIdeal.main_arg1)
          ∧ r.2.mem ((c.tc : Thread Cert.SguBwdIdeal.nD Cert.SguBwdIdeal.τ).loc Cert.SguBwdIdeal.main_arg2) = m ((c.tc : Thread Cert.SguBwdIdeal.nD Cert.SguBwdIdeal.τ).loc Cert.SguBwdIdeal.main_arg2)
          ∧ r.2.mem ((c.tc : Thread Cert.SguBwdIdeal.nD Cert.SguBwdIdeal.τ).loc Cert.SguBwdIdeal.main_arg3) = m ((c.tc : Thread Cert.SguBwdIdeal.nD Cert.SguBwdIdeal.τ).loc Cert.SguBwdIdeal.main_arg3)
          ∧ r.2.mem ((c.tc : Thread Cert.SguBwdIdeal.nD Cert.SguBwdIdeal.τ).loc Cert.SguBwdIdeal.main_arg4) = m ((c.tc : Thread Cert.SguBwdIdeal.nD Cert.SguBwdIdeal.τ).loc Cert.SguBwdIdeal.main_arg4)
          ∧ r.2.mem ((c.tc : Thread Cert.SguBwdIdeal.nD Cert.SguBwdIdeal.τ).loc Cert.SguBwdIdeal.main_arg5) = m ((c.tc : Thread Cert.SguBwdIdeal.nD Cert.SguBwdIdeal.τ).loc Cert.SguBwdIdeal.main_arg5))
      ∧ θ_run (Cert.SguGradIdeal.defs (F := Ideal)) (onTc (τ := Cert.SguGradIdeal.τ) (Cert.SguGradIdeal.main (F := Ideal))) ⟨m', fun _ => 0, g'⟩ (fun r => ∀ c : Dev Cert.SguGradIdeal.nD,
          r.2.mem ((c.tc : Thread Cert.SguGradIdeal.nD Cert.SguGradIdeal.τ).loc Cert.SguGradIdeal.main_v163) = v0 c
          ∧ r.2.mem ((c.tc : Thread Cert.SguGradIdeal.nD Cert.SguGradIdeal.τ).loc Cert.SguGradIdeal.main_v165) = v1 c
          ∧ r.2.mem ((c.tc : Thread Cert.SguGradIdeal.nD Cert.SguGradIdeal.τ).loc Cert.SguGradIdeal.main_v103) = v2 c
          ∧ r.2.mem ((c.tc : Thread Cert.SguGradIdeal.nD Cert.SguGradIdeal.τ).loc Cert.SguGradIdeal.main_v167) = v3 c
          ∧ r.2.mem ((c.tc : Thread Cert.SguGradIdeal.nD Cert.SguGradIdeal.τ).loc Cert.SguGradIdeal.main_v168) = v4 c
          ∧ r.2.mem ((c.tc : Thread Cert.SguGradIdeal.nD Cert.SguGradIdeal.τ).loc Cert.SguGradIdeal.main_v169) = v5 c
          ∧ r.2.mem ((c.tc : Thread Cert.SguGradIdeal.nD Cert.SguGradIdeal.τ).loc Cert.SguGradIdeal.main_arg0) = m' ((c.tc : Thread Cert.SguGradIdeal.nD Cert.SguGradIdeal.τ).loc Cert.SguGradIdeal.main_arg0)
          ∧ r.2.mem ((c.tc : Thread Cert.SguGradIdeal.nD Cert.SguGradIdeal.τ).loc Cert.SguGradIdeal.main_arg1) = m' ((c.tc : Thread Cert.SguGradIdeal.nD Cert.SguGradIdeal.τ).loc Cert.SguGradIdeal.main_arg1)
          ∧ r.2.mem ((c.tc : Thread Cert.SguGradIdeal.nD Cert.SguGradIdeal.τ).loc Cert.SguGradIdeal.main_arg2) = m' ((c.tc : Thread Cert.SguGradIdeal.nD Cert.SguGradIdeal.τ).loc Cert.SguGradIdeal.main_arg2)
          ∧ r.2.mem ((c.tc : Thread Cert.SguGradIdeal.nD Cert.SguGradIdeal.τ).loc Cert.SguGradIdeal.main_arg3) = m' ((c.tc : Thread Cert.SguGradIdeal.nD Cert.SguGradIdeal.τ).loc Cert.SguGradIdeal.main_arg3)
          ∧ r.2.mem ((c.tc : Thread Cert.SguGradIdeal.nD Cert.SguGradIdeal.τ).loc Cert.SguGradIdeal.main_arg4) = m' ((c.tc : Thread Cert.SguGradIdeal.nD Cert.SguGradIdeal.τ).loc Cert.SguGradIdeal.main_arg4)
          ∧ r.2.mem ((c.tc : Thread Cert.SguGradIdeal.nD Cert.SguGradIdeal.τ).loc Cert.SguGradIdeal.main_arg5) = m' ((c.tc : Thread Cert.SguGradIdeal.nD Cert.SguGradIdeal.τ).loc Cert.SguGradIdeal.main_arg5))

def preserves_GateBwd_GateBwdIdeal : Prop :=
  True

def algebraic_GateBwdIdeal_GateGradIdeal_pre_gate_finite [hGateBwdIdeal : Cert.GateBwdIdeal.Facts] [hGateGradIdeal : Cert.GateGradIdeal.Facts] [hPre_gate_finite : Cert.Pre_gate_finite.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.GateGradIdeal.nD Cert.GateGradIdeal.τ Cert.GateGradIdeal.sig) → Buf (Elt Ideal) ℓ) (g' : Dev Cert.GateGradIdeal.nD → PrngReg), Pre_GateBwdIdeal_gate_finite m →
    (∀ c : Dev Cert.GateBwdIdeal.nD,
      m' ((c.tc : Thread Cert.GateGradIdeal.nD Cert.GateGradIdeal.τ).loc Cert.GateGradIdeal.main_arg0) = m ((c.tc : Thread Cert.GateBwdIdeal.nD Cert.GateBwdIdeal.τ).loc Cert.GateBwdIdeal.main_arg0)
      ∧ m' ((c.tc : Thread Cert.GateGradIdeal.nD Cert.GateGradIdeal.τ).loc Cert.GateGradIdeal.main_arg1) = m ((c.tc : Thread Cert.GateBwdIdeal.nD Cert.GateBwdIdeal.τ).loc Cert.GateBwdIdeal.main_arg1)
      ∧ m' ((c.tc : Thread Cert.GateGradIdeal.nD Cert.GateGradIdeal.τ).loc Cert.GateGradIdeal.main_arg2) = m ((c.tc : Thread Cert.GateBwdIdeal.nD Cert.GateBwdIdeal.τ).loc Cert.GateBwdIdeal.main_arg2)
      ∧ m' ((c.tc : Thread Cert.GateGradIdeal.nD Cert.GateGradIdeal.τ).loc Cert.GateGradIdeal.main_arg3) = m ((c.tc : Thread Cert.GateBwdIdeal.nD Cert.GateBwdIdeal.τ).loc Cert.GateBwdIdeal.main_arg3)
      ∧ m' ((c.tc : Thread Cert.GateGradIdeal.nD Cert.GateGradIdeal.τ).loc Cert.GateGradIdeal.main_arg4) = m ((c.tc : Thread Cert.GateBwdIdeal.nD Cert.GateBwdIdeal.τ).loc Cert.GateBwdIdeal.main_arg4)) →
    ∃ (v0 : (c : Dev Cert.GateBwdIdeal.nD) → Buf (Elt Ideal) ((c.tc : Thread Cert.GateBwdIdeal.nD Cert.GateBwdIdeal.τ).loc Cert.GateBwdIdeal.main_v10_0)) (v1 : (c : Dev Cert.GateBwdIdeal.nD) → Buf (Elt Ideal) ((c.tc : Thread Cert.GateBwdIdeal.nD Cert.GateBwdIdeal.τ).loc Cert.GateBwdIdeal.main_v10_1)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v10_0) = v0 c
          ∧ r.2.mem ((c.tc : Thread Cert.GateBwdIdeal.nD Cert.GateBwdIdeal.τ).loc Cert.GateBwdIdeal.main_v10_1) = v1 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
          ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3)
          ∧ r.2.mem ((c.tc : Thread Cert.GateBwdIdeal.nD Cert.GateBwdIdeal.τ).loc Cert.GateBwdIdeal.main_arg4) = m ((c.tc : Thread Cert.GateBwdIdeal.nD Cert.GateBwdIdeal.τ).loc Cert.GateBwdIdeal.main_arg4))
      ∧ θ_run (Cert.GateGradIdeal.defs (F := Ideal)) (onTc (τ := Cert.GateGradIdeal.τ) (Cert.GateGradIdeal.main (F := Ideal))) ⟨m', fun _ => 0, g'⟩ (fun r => ∀ c : Dev Cert.GateGradIdeal.nD,
          r.2.mem ((c.tc : Thread Cert.GateGradIdeal.nD Cert.GateGradIdeal.τ).loc Cert.GateGradIdeal.main_v10) = v0 c
          ∧ r.2.mem ((c.tc : Thread Cert.GateGradIdeal.nD Cert.GateGradIdeal.τ).loc Cert.GateGradIdeal.main_v12) = v1 c
          ∧ r.2.mem ((c.tc : Thread Cert.GateGradIdeal.nD Cert.GateGradIdeal.τ).loc Cert.GateGradIdeal.main_arg0) = m' ((c.tc : Thread Cert.GateGradIdeal.nD Cert.GateGradIdeal.τ).loc Cert.GateGradIdeal.main_arg0)
          ∧ r.2.mem ((c.tc : Thread Cert.GateGradIdeal.nD Cert.GateGradIdeal.τ).loc Cert.GateGradIdeal.main_arg1) = m' ((c.tc : Thread Cert.GateGradIdeal.nD Cert.GateGradIdeal.τ).loc Cert.GateGradIdeal.main_arg1)
          ∧ r.2.mem ((c.tc : Thread Cert.GateGradIdeal.nD Cert.GateGradIdeal.τ).loc Cert.GateGradIdeal.main_arg2) = m' ((c.tc : Thread Cert.GateGradIdeal.nD Cert.GateGradIdeal.τ).loc Cert.GateGradIdeal.main_arg2)
          ∧ r.2.mem ((c.tc : Thread Cert.GateGradIdeal.nD Cert.GateGradIdeal.τ).loc Cert.GateGradIdeal.main_arg3) = m' ((c.tc : Thread Cert.GateGradIdeal.nD Cert.GateGradIdeal.τ).loc Cert.GateGradIdeal.main_arg3)
          ∧ r.2.mem ((c.tc : Thread Cert.GateGradIdeal.nD Cert.GateGradIdeal.τ).loc Cert.GateGradIdeal.main_arg4) = m' ((c.tc : Thread Cert.GateGradIdeal.nD Cert.GateGradIdeal.τ).loc Cert.GateGradIdeal.main_arg4))

def preserves_FfnIn_FfnInIdeal : Prop :=
  True

def algebraic_FfnInIdeal_FfnGradIdeal_pre_ffn_in_finite [hFfnInIdeal : Cert.FfnInIdeal.Facts] [hFfnGradIdeal : Cert.FfnGradIdeal.Facts] [hPre_ffn_in_finite : Cert.Pre_ffn_in_finite.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnGradIdeal.nD Cert.FfnGradIdeal.τ Cert.FfnGradIdeal.sig) → Buf (Elt Ideal) ℓ) (g' : Dev Cert.FfnGradIdeal.nD → PrngReg), Pre_FfnInIdeal_ffn_in_finite m →
    (∀ c : Dev Cert.FfnInIdeal.nD,
      m' ((c.tc : Thread Cert.FfnGradIdeal.nD Cert.FfnGradIdeal.τ).loc Cert.FfnGradIdeal.main_arg0) = m ((c.tc : Thread Cert.FfnInIdeal.nD Cert.FfnInIdeal.τ).loc Cert.FfnInIdeal.main_arg0)
      ∧ m' ((c.tc : Thread Cert.FfnGradIdeal.nD Cert.FfnGradIdeal.τ).loc Cert.FfnGradIdeal.main_arg1) = m ((c.tc : Thread Cert.FfnInIdeal.nD Cert.FfnInIdeal.τ).loc Cert.FfnInIdeal.main_arg1)
      ∧ m' ((c.tc : Thread Cert.FfnGradIdeal.nD Cert.FfnGradIdeal.τ).loc Cert.FfnGradIdeal.main_arg2) = m ((c.tc : Thread Cert.FfnInIdeal.nD Cert.FfnInIdeal.τ).loc Cert.FfnInIdeal.main_arg2)
      ∧ m' ((c.tc : Thread Cert.FfnGradIdeal.nD Cert.FfnGradIdeal.τ).loc Cert.FfnGradIdeal.main_arg3) = m ((c.tc : Thread Cert.FfnInIdeal.nD Cert.FfnInIdeal.τ).loc Cert.FfnInIdeal.main_arg3)
      ∧ m' ((c.tc : Thread Cert.FfnGradIdeal.nD Cert.FfnGradIdeal.τ).loc Cert.FfnGradIdeal.main_arg4) = m ((c.tc : Thread Cert.FfnInIdeal.nD Cert.FfnInIdeal.τ).loc Cert.FfnInIdeal.main_arg4)
      ∧ m' ((c.tc : Thread Cert.FfnGradIdeal.nD Cert.FfnGradIdeal.τ).loc Cert.FfnGradIdeal.main_arg5) = m ((c.tc : Thread Cert.FfnInIdeal.nD Cert.FfnInIdeal.τ).loc Cert.FfnInIdeal.main_arg5)
      ∧ m' ((c.tc : Thread Cert.FfnGradIdeal.nD Cert.FfnGradIdeal.τ).loc Cert.FfnGradIdeal.main_arg6) = m ((c.tc : Thread Cert.FfnInIdeal.nD Cert.FfnInIdeal.τ).loc Cert.FfnInIdeal.main_arg6)
      ∧ m' ((c.tc : Thread Cert.FfnGradIdeal.nD Cert.FfnGradIdeal.τ).loc Cert.FfnGradIdeal.main_arg7) = m ((c.tc : Thread Cert.FfnInIdeal.nD Cert.FfnInIdeal.τ).loc Cert.FfnInIdeal.main_arg7)) →
    ∃ (v0 : (c : Dev Cert.FfnInIdeal.nD) → Buf (Elt Ideal) ((c.tc : Thread Cert.FfnInIdeal.nD Cert.FfnInIdeal.τ).loc Cert.FfnInIdeal.main_v9_0)) (v1 : (c : Dev Cert.FfnInIdeal.nD) → Buf (Elt Ideal) ((c.tc : Thread Cert.FfnInIdeal.nD Cert.FfnInIdeal.τ).loc Cert.FfnInIdeal.main_v9_1)) (v2 : (c : Dev Cert.FfnInIdeal.nD) → Buf (Elt Ideal) ((c.tc : Thread Cert.FfnInIdeal.nD Cert.FfnInIdeal.τ).loc Cert.FfnInIdeal.main_v9_2)) (v3 : (c : Dev Cert.FfnInIdeal.nD) → Buf (Elt Ideal) ((c.tc : Thread Cert.FfnInIdeal.nD Cert.FfnInIdeal.τ).loc Cert.FfnInIdeal.main_v9_3)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v9_0) = v0 c
          ∧ r.2.mem ((c.tc : Thread Cert.FfnInIdeal.nD Cert.FfnInIdeal.τ).loc Cert.FfnInIdeal.main_v9_1) = v1 c
          ∧ r.2.mem ((c.tc : Thread Cert.FfnInIdeal.nD Cert.FfnInIdeal.τ).loc Cert.FfnInIdeal.main_v9_2) = v2 c
          ∧ r.2.mem ((c.tc : Thread Cert.FfnInIdeal.nD Cert.FfnInIdeal.τ).loc Cert.FfnInIdeal.main_v9_3) = v3 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
          ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
          ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5)
          ∧ r.2.mem ((c.tc : Thread Cert.FfnInIdeal.nD Cert.FfnInIdeal.τ).loc Cert.FfnInIdeal.main_arg6) = m ((c.tc : Thread Cert.FfnInIdeal.nD Cert.FfnInIdeal.τ).loc Cert.FfnInIdeal.main_arg6)
          ∧ r.2.mem ((c.tc : Thread Cert.FfnInIdeal.nD Cert.FfnInIdeal.τ).loc Cert.FfnInIdeal.main_arg7) = m ((c.tc : Thread Cert.FfnInIdeal.nD Cert.FfnInIdeal.τ).loc Cert.FfnInIdeal.main_arg7))
      ∧ θ_run (Cert.FfnGradIdeal.defs (F := Ideal)) (onTc (τ := Cert.FfnGradIdeal.τ) (Cert.FfnGradIdeal.main (F := Ideal))) ⟨m', fun _ => 0, g'⟩ (fun r => ∀ c : Dev Cert.FfnGradIdeal.nD,
          r.2.mem ((c.tc : Thread Cert.FfnGradIdeal.nD Cert.FfnGradIdeal.τ).loc Cert.FfnGradIdeal.main_v74) = v0 c
          ∧ r.2.mem ((c.tc : Thread Cert.FfnGradIdeal.nD Cert.FfnGradIdeal.τ).loc Cert.FfnGradIdeal.main_v76) = v1 c
          ∧ r.2.mem ((c.tc : Thread Cert.FfnGradIdeal.nD Cert.FfnGradIdeal.τ).loc Cert.FfnGradIdeal.main_v77) = v2 c
          ∧ r.2.mem ((c.tc : Thread Cert.FfnGradIdeal.nD Cert.FfnGradIdeal.τ).loc Cert.FfnGradIdeal.main_v78) = v3 c
          ∧ r.2.mem ((c.tc : Thread Cert.FfnGradIdeal.nD Cert.FfnGradIdeal.τ).loc Cert.FfnGradIdeal.main_arg0) = m' ((c.tc : Thread Cert.FfnGradIdeal.nD Cert.FfnGradIdeal.τ).loc Cert.FfnGradIdeal.main_arg0)
          ∧ r.2.mem ((c.tc : Thread Cert.FfnGradIdeal.nD Cert.FfnGradIdeal.τ).loc Cert.FfnGradIdeal.main_arg1) = m' ((c.tc : Thread Cert.FfnGradIdeal.nD Cert.FfnGradIdeal.τ).loc Cert.FfnGradIdeal.main_arg1)
          ∧ r.2.mem ((c.tc : Thread Cert.FfnGradIdeal.nD Cert.FfnGradIdeal.τ).loc Cert.FfnGradIdeal.main_arg2) = m' ((c.tc : Thread Cert.FfnGradIdeal.nD Cert.FfnGradIdeal.τ).loc Cert.FfnGradIdeal.main_arg2)
          ∧ r.2.mem ((c.tc : Thread Cert.FfnGradIdeal.nD Cert.FfnGradIdeal.τ).loc Cert.FfnGradIdeal.main_arg3) = m' ((c.tc : Thread Cert.FfnGradIdeal.nD Cert.FfnGradIdeal.τ).loc Cert.FfnGradIdeal.main_arg3)
          ∧ r.2.mem ((c.tc : Thread Cert.FfnGradIdeal.nD Cert.FfnGradIdeal.τ).loc Cert.FfnGradIdeal.main_arg4) = m' ((c.tc : Thread Cert.FfnGradIdeal.nD Cert.FfnGradIdeal.τ).loc Cert.FfnGradIdeal.main_arg4)
          ∧ r.2.mem ((c.tc : Thread Cert.FfnGradIdeal.nD Cert.FfnGradIdeal.τ).loc Cert.FfnGradIdeal.main_arg5) = m' ((c.tc : Thread Cert.FfnGradIdeal.nD Cert.FfnGradIdeal.τ).loc Cert.FfnGradIdeal.main_arg5)
          ∧ r.2.mem ((c.tc : Thread Cert.FfnGradIdeal.nD Cert.FfnGradIdeal.τ).loc Cert.FfnGradIdeal.main_arg6) = m' ((c.tc : Thread Cert.FfnGradIdeal.nD Cert.FfnGradIdeal.τ).loc Cert.FfnGradIdeal.main_arg6)
          ∧ r.2.mem ((c.tc : Thread Cert.FfnGradIdeal.nD Cert.FfnGradIdeal.τ).loc Cert.FfnGradIdeal.main_arg7) = m' ((c.tc : Thread Cert.FfnGradIdeal.nD Cert.FfnGradIdeal.τ).loc Cert.FfnGradIdeal.main_arg7))

def preserves_ProjBwd_ProjBwdIdeal : Prop :=
  True

def algebraic_ProjBwdIdeal_ProjGradIdeal_pre_proj_finite [hProjBwdIdeal : Cert.ProjBwdIdeal.Facts] [hProjGradIdeal : Cert.ProjGradIdeal.Facts] [hPre_proj_finite : Cert.Pre_proj_finite.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg)
    (m' : (ℓ : Loc Cert.ProjGradIdeal.nD Cert.ProjGradIdeal.τ Cert.ProjGradIdeal.sig) → Buf (Elt Ideal) ℓ) (g' : Dev Cert.ProjGradIdeal.nD → PrngReg), Pre_ProjBwdIdeal_proj_finite m →
    (∀ c : Dev Cert.ProjBwdIdeal.nD,
      m' ((c.tc : Thread Cert.ProjGradIdeal.nD Cert.ProjGradIdeal.τ).loc Cert.ProjGradIdeal.main_arg0) = m ((c.tc : Thread Cert.ProjBwdIdeal.nD Cert.ProjBwdIdeal.τ).loc Cert.ProjBwdIdeal.main_arg0)
      ∧ m' ((c.tc : Thread Cert.ProjGradIdeal.nD Cert.ProjGradIdeal.τ).loc Cert.ProjGradIdeal.main_arg1) = m ((c.tc : Thread Cert.ProjBwdIdeal.nD Cert.ProjBwdIdeal.τ).loc Cert.ProjBwdIdeal.main_arg1)
      ∧ m' ((c.tc : Thread Cert.ProjGradIdeal.nD Cert.ProjGradIdeal.τ).loc Cert.ProjGradIdeal.main_arg2) = m ((c.tc : Thread Cert.ProjBwdIdeal.nD Cert.ProjBwdIdeal.τ).loc Cert.ProjBwdIdeal.main_arg2)
      ∧ m' ((c.tc : Thread Cert.ProjGradIdeal.nD Cert.ProjGradIdeal.τ).loc Cert.ProjGradIdeal.main_arg3) = m ((c.tc : Thread Cert.ProjBwdIdeal.nD Cert.ProjBwdIdeal.τ).loc Cert.ProjBwdIdeal.main_arg3)
      ∧ m' ((c.tc : Thread Cert.ProjGradIdeal.nD Cert.ProjGradIdeal.τ).loc Cert.ProjGradIdeal.main_arg4) = m ((c.tc : Thread Cert.ProjBwdIdeal.nD Cert.ProjBwdIdeal.τ).loc Cert.ProjBwdIdeal.main_arg4)
      ∧ m' ((c.tc : Thread Cert.ProjGradIdeal.nD Cert.ProjGradIdeal.τ).loc Cert.ProjGradIdeal.main_arg5) = m ((c.tc : Thread Cert.ProjBwdIdeal.nD Cert.ProjBwdIdeal.τ).loc Cert.ProjBwdIdeal.main_arg5)
      ∧ m' ((c.tc : Thread Cert.ProjGradIdeal.nD Cert.ProjGradIdeal.τ).loc Cert.ProjGradIdeal.main_arg6) = m ((c.tc : Thread Cert.ProjBwdIdeal.nD Cert.ProjBwdIdeal.τ).loc Cert.ProjBwdIdeal.main_arg6)
      ∧ m' ((c.tc : Thread Cert.ProjGradIdeal.nD Cert.ProjGradIdeal.τ).loc Cert.ProjGradIdeal.main_arg7) = m ((c.tc : Thread Cert.ProjBwdIdeal.nD Cert.ProjBwdIdeal.τ).loc Cert.ProjBwdIdeal.main_arg7)
      ∧ m' ((c.tc : Thread Cert.ProjGradIdeal.nD Cert.ProjGradIdeal.τ).loc Cert.ProjGradIdeal.main_arg8) = m ((c.tc : Thread Cert.ProjBwdIdeal.nD Cert.ProjBwdIdeal.τ).loc Cert.ProjBwdIdeal.main_arg8)) →
    ∃ (v0 : (c : Dev Cert.ProjBwdIdeal.nD) → Buf (Elt Ideal) ((c.tc : Thread Cert.ProjBwdIdeal.nD Cert.ProjBwdIdeal.τ).loc Cert.ProjBwdIdeal.main_v10_0)) (v1 : (c : Dev Cert.ProjBwdIdeal.nD) → Buf (Elt Ideal) ((c.tc : Thread Cert.ProjBwdIdeal.nD Cert.ProjBwdIdeal.τ).loc Cert.ProjBwdIdeal.main_v10_1)) (v2 : (c : Dev Cert.ProjBwdIdeal.nD) → Buf (Elt Ideal) ((c.tc : Thread Cert.ProjBwdIdeal.nD Cert.ProjBwdIdeal.τ).loc Cert.ProjBwdIdeal.main_v10_2)) (v3 : (c : Dev Cert.ProjBwdIdeal.nD) → Buf (Elt Ideal) ((c.tc : Thread Cert.ProjBwdIdeal.nD Cert.ProjBwdIdeal.τ).loc Cert.ProjBwdIdeal.main_v10_3)),
      θ_run (Cert.ProjBwdIdeal.defs (F := Ideal)) (onTc (τ := Cert.ProjBwdIdeal.τ) (Cert.ProjBwdIdeal.main (F := Ideal))) ⟨m, fun _ => 0, g⟩ (fun r => ∀ c : Dev Cert.ProjBwdIdeal.nD,
          r.2.mem ((c.tc : Thread Cert.ProjBwdIdeal.nD Cert.ProjBwdIdeal.τ).loc Cert.ProjBwdIdeal.main_v10_0) = v0 c
          ∧ r.2.mem ((c.tc : Thread Cert.ProjBwdIdeal.nD Cert.ProjBwdIdeal.τ).loc Cert.ProjBwdIdeal.main_v10_1) = v1 c
          ∧ r.2.mem ((c.tc : Thread Cert.ProjBwdIdeal.nD Cert.ProjBwdIdeal.τ).loc Cert.ProjBwdIdeal.main_v10_2) = v2 c
          ∧ r.2.mem ((c.tc : Thread Cert.ProjBwdIdeal.nD Cert.ProjBwdIdeal.τ).loc Cert.ProjBwdIdeal.main_v10_3) = v3 c
          ∧ r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
          ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
          ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
          ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
          ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4)
          ∧ r.2.mem ((c.tc : Thread Cert.ProjBwdIdeal.nD Cert.ProjBwdIdeal.τ).loc Cert.ProjBwdIdeal.main_arg5) = m ((c.tc : Thread Cert.ProjBwdIdeal.nD Cert.ProjBwdIdeal.τ).loc Cert.ProjBwdIdeal.main_arg5)
          ∧ r.2.mem ((c.tc : Thread Cert.ProjBwdIdeal.nD Cert.ProjBwdIdeal.τ).loc Cert.ProjBwdIdeal.main_arg6) = m ((c.tc : Thread Cert.ProjBwdIdeal.nD Cert.ProjBwdIdeal.τ).loc Cert.ProjBwdIdeal.main_arg6)
          ∧ r.2.mem ((c.tc : Thread Cert.ProjBwdIdeal.nD Cert.ProjBwdIdeal.τ).loc Cert.ProjBwdIdeal.main_arg7) = m ((c.tc : Thread Cert.ProjBwdIdeal.nD Cert.ProjBwdIdeal.τ).loc Cert.ProjBwdIdeal.main_arg7)
          ∧ r.2.mem ((c.tc : Thread Cert.ProjBwdIdeal.nD Cert.ProjBwdIdeal.τ).loc Cert.ProjBwdIdeal.main_arg8) = m ((c.tc : Thread Cert.ProjBwdIdeal.nD Cert.ProjBwdIdeal.τ).loc Cert.ProjBwdIdeal.main_arg8))
      ∧ θ_run (Cert.ProjGradIdeal.defs (F := Ideal)) (onTc (τ := Cert.ProjGradIdeal.τ) (Cert.ProjGradIdeal.main (F := Ideal))) ⟨m', fun _ => 0, g'⟩ (fun r => ∀ c : Dev Cert.ProjGradIdeal.nD,
          r.2.mem ((c.tc : Thread Cert.ProjGradIdeal.nD Cert.ProjGradIdeal.τ).loc Cert.ProjGradIdeal.main_v78) = v0 c
          ∧ r.2.mem ((c.tc : Thread Cert.ProjGradIdeal.nD Cert.ProjGradIdeal.τ).loc Cert.ProjGradIdeal.main_v80) = v1 c
          ∧ r.2.mem ((c.tc : Thread Cert.ProjGradIdeal.nD Cert.ProjGradIdeal.τ).loc Cert.ProjGradIdeal.main_v81) = v2 c
          ∧ r.2.mem ((c.tc : Thread Cert.ProjGradIdeal.nD Cert.ProjGradIdeal.τ).loc Cert.ProjGradIdeal.main_v82) = v3 c
          ∧ r.2.mem ((c.tc : Thread Cert.ProjGradIdeal.nD Cert.ProjGradIdeal.τ).loc Cert.ProjGradIdeal.main_arg0) = m' ((c.tc : Thread Cert.ProjGradIdeal.nD Cert.ProjGradIdeal.τ).loc Cert.ProjGradIdeal.main_arg0)
          ∧ r.2.mem ((c.tc : Thread Cert.ProjGradIdeal.nD Cert.ProjGradIdeal.τ).loc Cert.ProjGradIdeal.main_arg1) = m' ((c.tc : Thread Cert.ProjGradIdeal.nD Cert.ProjGradIdeal.τ).loc Cert.ProjGradIdeal.main_arg1)
          ∧ r.2.mem ((c.tc : Thread Cert.ProjGradIdeal.nD Cert.ProjGradIdeal.τ).loc Cert.ProjGradIdeal.main_arg2) = m' ((c.tc : Thread Cert.ProjGradIdeal.nD Cert.ProjGradIdeal.τ).loc Cert.ProjGradIdeal.main_arg2)
          ∧ r.2.mem ((c.tc : Thread Cert.ProjGradIdeal.nD Cert.ProjGradIdeal.τ).loc Cert.ProjGradIdeal.main_arg3) = m' ((c.tc : Thread Cert.ProjGradIdeal.nD Cert.ProjGradIdeal.τ).loc Cert.ProjGradIdeal.main_arg3)
          ∧ r.2.mem ((c.tc : Thread Cert.ProjGradIdeal.nD Cert.ProjGradIdeal.τ).loc Cert.ProjGradIdeal.main_arg4) = m' ((c.tc : Thread Cert.ProjGradIdeal.nD Cert.ProjGradIdeal.τ).loc Cert.ProjGradIdeal.main_arg4)
          ∧ r.2.mem ((c.tc : Thread Cert.ProjGradIdeal.nD Cert.ProjGradIdeal.τ).loc Cert.ProjGradIdeal.main_arg5) = m' ((c.tc : Thread Cert.ProjGradIdeal.nD Cert.ProjGradIdeal.τ).loc Cert.ProjGradIdeal.main_arg5)
          ∧ r.2.mem ((c.tc : Thread Cert.ProjGradIdeal.nD Cert.ProjGradIdeal.τ).loc Cert.ProjGradIdeal.main_arg6) = m' ((c.tc : Thread Cert.ProjGradIdeal.nD Cert.ProjGradIdeal.τ).loc Cert.ProjGradIdeal.main_arg6)
          ∧ r.2.mem ((c.tc : Thread Cert.ProjGradIdeal.nD Cert.ProjGradIdeal.τ).loc Cert.ProjGradIdeal.main_arg7) = m' ((c.tc : Thread Cert.ProjGradIdeal.nD Cert.ProjGradIdeal.τ).loc Cert.ProjGradIdeal.main_arg7)
          ∧ r.2.mem ((c.tc : Thread Cert.ProjGradIdeal.nD Cert.ProjGradIdeal.τ).loc Cert.ProjGradIdeal.main_arg8) = m' ((c.tc : Thread Cert.ProjGradIdeal.nD Cert.ProjGradIdeal.τ).loc Cert.ProjGradIdeal.main_arg8))

def preserves_LossBwd_LossBwdIdeal : Prop :=
  True

def algebraic_LossBwdIdeal_LossGradIdeal_pre_loss_finite [hLossBwdIdeal : Cert.LossBwdIdeal.Facts] [hLossGradIdeal : Cert.LossGradIdeal.Facts] [hPre_loss_finite : Cert.Pre_loss_finite.Facts] : Prop :=
  ∀ (m : (ℓ : Loc Cert.LossBwdIdeal.nD Cert.LossBwdIdeal.τ Cert.LossBwdIdeal.sig) → Buf (Elt Ideal) ℓ) (g : Dev Cert.LossBwdIdeal.nD → PrngReg)
    (m' : (ℓ : Loc Cert.LossGradIdeal.nD Cert.LossGradIdeal.τ Cert.LossGradIdeal.sig) → Buf (Elt Ideal) ℓ) (g' : Dev Cert.LossGradIdeal.nD → PrngReg), Pre_LossBwdIdeal_loss_finite m →
    (∀ c : Dev Cert.LossBwdIdeal.nD,
      m' ((c.tc : Thread Cert.LossGradIdeal.nD Cert.LossGradIdeal.τ).loc Cert.LossGradIdeal.main_arg0) = m ((c.tc : Thread Cert.LossBwdIdeal.nD Cert.LossBwdIdeal.τ).loc Cert.LossBwdIdeal.main_arg0)
      ∧ m' ((c.tc : Thread Cert.LossGradIdeal.nD Cert.LossGradIdeal.τ).loc Cert.LossGradIdeal.main_arg1) = m ((c.tc : Thread Cert.LossBwdIdeal.nD Cert.LossBwdIdeal.τ).loc Cert.LossBwdIdeal.main_arg1)
      ∧ m' ((c.tc : Thread Cert.LossGradIdeal.nD Cert.LossGradIdeal.τ).loc Cert.LossGradIdeal.main_arg2) = m ((c.tc : Thread Cert.LossBwdIdeal.nD Cert.LossBwdIdeal.τ).loc Cert.LossBwdIdeal.main_arg2)
      ∧ m' ((c.tc : Thread Cert.LossGradIdeal.nD Cert.LossGradIdeal.τ).loc Cert.LossGradIdeal.main_arg3) = m ((c.tc : Thread Cert.LossBwdIdeal.nD Cert.LossBwdIdeal.τ).loc Cert.LossBwdIdeal.main_arg3)) →
    ∃ (v0 : (c : Dev Cert.LossBwdIdeal.nD) → Buf (Elt Ideal) ((c.tc : Thread Cert.LossBwdIdeal.nD Cert.LossBwdIdeal.τ).loc Cert.LossBwdIdeal.main_v28_0)) (v1 : (c : Dev Cert.LossBwdIdeal.nD) → Buf (Elt Ideal) ((c.tc : Thread Cert.LossBwdIdeal.nD Cert.LossBwdIdeal.τ).loc Cert.LossBwdIdeal.main_v28_1)) (v2 : (c : Dev Cert.LossBwdIdeal.nD) → Buf (Elt Ideal) ((c.tc : Thread Cert.LossBwdIdeal.nD Cert.LossBwdIdeal.τ).loc Cert.LossBwdIdeal.main_v28_2)) (v3 : (c : Dev Cert.LossBwdIdeal.nD) → Buf (Elt Ideal) ((c.tc : Thread Cert.LossBwdIdeal.nD Cert.LossBwdIdeal.τ).loc Cert.LossBwdIdeal.main_v28_3)) (v4 : (c : Dev Cert.LossBwdIdeal.nD) → Buf (Elt Ideal) ((c.tc : Thread Cert.LossBwdIdeal.nD Cert.LossBwdIdeal.τ).loc Cert.LossBwdIdeal.main_v28_4)),
      θ_run (Cert.LossBwdIdeal.defs (F := Ideal)) (onTc (τ := Cert.LossBwdIdeal.τ) (Cert.LossBwdIdeal.main (F := Ideal))) ⟨m, fun _ => 0, g⟩ (fun r => ∀ c : Dev Cert.LossBwdIdeal.nD,
          r.2.mem ((c.tc : Thread Cert.LossBwdIdeal.nD Cert.LossBwdIdeal.τ).loc Cert.LossBwdIdeal.main_v28_0) = v0 c
          ∧ r.2.mem ((c.tc : Thread Cert.LossBwdIdeal.nD Cert.LossBwdIdeal.τ).loc Cert.LossBwdIdeal.main_v28_1) = v1 c
          ∧ r.2.mem ((c.tc : Thread Cert.LossBwdIdeal.nD Cert.LossBwdIdeal.τ).loc Cert.LossBwdIdeal.main_v28_2) = v2 c
          ∧ r.2.mem ((c.tc : Thread Cert.LossBwdIdeal.nD Cert.LossBwdIdeal.τ).loc Cert.LossBwdIdeal.main_v28_3) = v3 c
          ∧ r.2.mem ((c.tc : Thread Cert.LossBwdIdeal.nD Cert.LossBwdIdeal.τ).loc Cert.LossBwdIdeal.main_v28_4) = v4 c
          ∧ r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
          ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
          ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2)
          ∧ r.2.mem ((c.tc : Thread Cert.LossBwdIdeal.nD Cert.LossBwdIdeal.τ).loc Cert.LossBwdIdeal.main_arg3) = m ((c.tc : Thread Cert.LossBwdIdeal.nD Cert.LossBwdIdeal.τ).loc Cert.LossBwdIdeal.main_arg3))
      ∧ θ_run (Cert.LossGradIdeal.defs (F := Ideal)) (onTc (τ := Cert.LossGradIdeal.τ) (Cert.LossGradIdeal.main (F := Ideal))) ⟨m', fun _ => 0, g'⟩ (fun r => ∀ c : Dev Cert.LossGradIdeal.nD,
          r.2.mem ((c.tc : Thread Cert.LossGradIdeal.nD Cert.LossGradIdeal.τ).loc Cert.LossGradIdeal.main_v77) = v0 c
          ∧ r.2.mem ((c.tc : Thread Cert.LossGradIdeal.nD Cert.LossGradIdeal.τ).loc Cert.LossGradIdeal.main_v78) = v1 c
          ∧ r.2.mem ((c.tc : Thread Cert.LossGradIdeal.nD Cert.LossGradIdeal.τ).loc Cert.LossGradIdeal.main_v80) = v2 c
          ∧ r.2.mem ((c.tc : Thread Cert.LossGradIdeal.nD Cert.LossGradIdeal.τ).loc Cert.LossGradIdeal.main_v81) = v3 c
          ∧ r.2.mem ((c.tc : Thread Cert.LossGradIdeal.nD Cert.LossGradIdeal.τ).loc Cert.LossGradIdeal.main_v82) = v4 c
          ∧ r.2.mem ((c.tc : Thread Cert.LossGradIdeal.nD Cert.LossGradIdeal.τ).loc Cert.LossGradIdeal.main_arg0) = m' ((c.tc : Thread Cert.LossGradIdeal.nD Cert.LossGradIdeal.τ).loc Cert.LossGradIdeal.main_arg0)
          ∧ r.2.mem ((c.tc : Thread Cert.LossGradIdeal.nD Cert.LossGradIdeal.τ).loc Cert.LossGradIdeal.main_arg1) = m' ((c.tc : Thread Cert.LossGradIdeal.nD Cert.LossGradIdeal.τ).loc Cert.LossGradIdeal.main_arg1)
          ∧ r.2.mem ((c.tc : Thread Cert.LossGradIdeal.nD Cert.LossGradIdeal.τ).loc Cert.LossGradIdeal.main_arg2) = m' ((c.tc : Thread Cert.LossGradIdeal.nD Cert.LossGradIdeal.τ).loc Cert.LossGradIdeal.main_arg2)
          ∧ r.2.mem ((c.tc : Thread Cert.LossGradIdeal.nD Cert.LossGradIdeal.τ).loc Cert.LossGradIdeal.main_arg3) = m' ((c.tc : Thread Cert.LossGradIdeal.nD Cert.LossGradIdeal.τ).loc Cert.LossGradIdeal.main_arg3))

def preserves_MemOddBwd_MemOddBwdIdeal : Prop :=
  True

def algebraic_MemOddBwdIdeal_MemOddGradIdeal_pre_mem_odd_finite [hMemOddBwdIdeal : Cert.MemOddBwdIdeal.Facts] [hMemOddGradIdeal : Cert.MemOddGradIdeal.Facts] [hPre_mem_odd_finite : Cert.Pre_mem_odd_finite.Facts] : Prop :=
  ∀ (m : (ℓ : Loc Cert.MemOddBwdIdeal.nD Cert.MemOddBwdIdeal.τ Cert.MemOddBwdIdeal.sig) → Buf (Elt Ideal) ℓ) (g : Dev Cert.MemOddBwdIdeal.nD → PrngReg)
    (m' : (ℓ : Loc Cert.MemOddGradIdeal.nD Cert.MemOddGradIdeal.τ Cert.MemOddGradIdeal.sig) → Buf (Elt Ideal) ℓ) (g' : Dev Cert.MemOddGradIdeal.nD → PrngReg), Pre_MemOddBwdIdeal_mem_odd_finite m →
    (∀ c : Dev Cert.MemOddBwdIdeal.nD,
      m' ((c.tc : Thread Cert.MemOddGradIdeal.nD Cert.MemOddGradIdeal.τ).loc Cert.MemOddGradIdeal.main_arg0) = m ((c.tc : Thread Cert.MemOddBwdIdeal.nD Cert.MemOddBwdIdeal.τ).loc Cert.MemOddBwdIdeal.main_arg0)
      ∧ m' ((c.tc : Thread Cert.MemOddGradIdeal.nD Cert.MemOddGradIdeal.τ).loc Cert.MemOddGradIdeal.main_arg1) = m ((c.tc : Thread Cert.MemOddBwdIdeal.nD Cert.MemOddBwdIdeal.τ).loc Cert.MemOddBwdIdeal.main_arg1)
      ∧ m' ((c.tc : Thread Cert.MemOddGradIdeal.nD Cert.MemOddGradIdeal.τ).loc Cert.MemOddGradIdeal.main_arg2) = m ((c.tc : Thread Cert.MemOddBwdIdeal.nD Cert.MemOddBwdIdeal.τ).loc Cert.MemOddBwdIdeal.main_arg2)) →
    ∃ (v0 : (c : Dev Cert.MemOddBwdIdeal.nD) → Buf (Elt Ideal) ((c.tc : Thread Cert.MemOddBwdIdeal.nD Cert.MemOddBwdIdeal.τ).loc Cert.MemOddBwdIdeal.main_v0_0)) (v1 : (c : Dev Cert.MemOddBwdIdeal.nD) → Buf (Elt Ideal) ((c.tc : Thread Cert.MemOddBwdIdeal.nD Cert.MemOddBwdIdeal.τ).loc Cert.MemOddBwdIdeal.main_v0_1)),
      θ_run (Cert.MemOddBwdIdeal.defs (F := Ideal)) (onTc (τ := Cert.MemOddBwdIdeal.τ) (Cert.MemOddBwdIdeal.main (F := Ideal))) ⟨m, fun _ => 0, g⟩ (fun r => ∀ c : Dev Cert.MemOddBwdIdeal.nD,
          r.2.mem ((c.tc : Thread Cert.MemOddBwdIdeal.nD Cert.MemOddBwdIdeal.τ).loc Cert.MemOddBwdIdeal.main_v0_0) = v0 c
          ∧ r.2.mem ((c.tc : Thread Cert.MemOddBwdIdeal.nD Cert.MemOddBwdIdeal.τ).loc Cert.MemOddBwdIdeal.main_v0_1) = v1 c
          ∧ r.2.mem ((c.tc : Thread Cert.MemOddBwdIdeal.nD Cert.MemOddBwdIdeal.τ).loc Cert.MemOddBwdIdeal.main_arg0) = m ((c.tc : Thread Cert.MemOddBwdIdeal.nD Cert.MemOddBwdIdeal.τ).loc Cert.MemOddBwdIdeal.main_arg0)
          ∧ r.2.mem ((c.tc : Thread Cert.MemOddBwdIdeal.nD Cert.MemOddBwdIdeal.τ).loc Cert.MemOddBwdIdeal.main_arg1) = m ((c.tc : Thread Cert.MemOddBwdIdeal.nD Cert.MemOddBwdIdeal.τ).loc Cert.MemOddBwdIdeal.main_arg1)
          ∧ r.2.mem ((c.tc : Thread Cert.MemOddBwdIdeal.nD Cert.MemOddBwdIdeal.τ).loc Cert.MemOddBwdIdeal.main_arg2) = m ((c.tc : Thread Cert.MemOddBwdIdeal.nD Cert.MemOddBwdIdeal.τ).loc Cert.MemOddBwdIdeal.main_arg2))
      ∧ θ_run (Cert.MemOddGradIdeal.defs (F := Ideal)) (onTc (τ := Cert.MemOddGradIdeal.τ) (Cert.MemOddGradIdeal.main (F := Ideal))) ⟨m', fun _ => 0, g'⟩ (fun r => ∀ c : Dev Cert.MemOddGradIdeal.nD,
          r.2.mem ((c.tc : Thread Cert.MemOddGradIdeal.nD Cert.MemOddGradIdeal.τ).loc Cert.MemOddGradIdeal.main_v68) = v0 c
          ∧ r.2.mem ((c.tc : Thread Cert.MemOddGradIdeal.nD Cert.MemOddGradIdeal.τ).loc Cert.MemOddGradIdeal.main_v67) = v1 c
          ∧ r.2.mem ((c.tc : Thread Cert.MemOddGradIdeal.nD Cert.MemOddGradIdeal.τ).loc Cert.MemOddGradIdeal.main_arg0) = m' ((c.tc : Thread Cert.MemOddGradIdeal.nD Cert.MemOddGradIdeal.τ).loc Cert.MemOddGradIdeal.main_arg0)
          ∧ r.2.mem ((c.tc : Thread Cert.MemOddGradIdeal.nD Cert.MemOddGradIdeal.τ).loc Cert.MemOddGradIdeal.main_arg1) = m' ((c.tc : Thread Cert.MemOddGradIdeal.nD Cert.MemOddGradIdeal.τ).loc Cert.MemOddGradIdeal.main_arg1)
          ∧ r.2.mem ((c.tc : Thread Cert.MemOddGradIdeal.nD Cert.MemOddGradIdeal.τ).loc Cert.MemOddGradIdeal.main_arg2) = m' ((c.tc : Thread Cert.MemOddGradIdeal.nD Cert.MemOddGradIdeal.τ).loc Cert.MemOddGradIdeal.main_arg2))

def preserves_ProjOddBwd_ProjOddBwdIdeal : Prop :=
  True

def algebraic_ProjOddBwdIdeal_ProjOddGradIdeal_pre_proj_odd_finite [hProjOddBwdIdeal : Cert.ProjOddBwdIdeal.Facts] [hProjOddGradIdeal : Cert.ProjOddGradIdeal.Facts] [hPre_proj_odd_finite : Cert.Pre_proj_odd_finite.Facts] : Prop :=
  ∀ (m : (ℓ : Loc Cert.ProjOddBwdIdeal.nD Cert.ProjOddBwdIdeal.τ Cert.ProjOddBwdIdeal.sig) → Buf (Elt Ideal) ℓ) (g : Dev Cert.ProjOddBwdIdeal.nD → PrngReg)
    (m' : (ℓ : Loc Cert.ProjOddGradIdeal.nD Cert.ProjOddGradIdeal.τ Cert.ProjOddGradIdeal.sig) → Buf (Elt Ideal) ℓ) (g' : Dev Cert.ProjOddGradIdeal.nD → PrngReg), Pre_ProjOddBwdIdeal_proj_odd_finite m →
    (∀ c : Dev Cert.ProjOddBwdIdeal.nD,
      m' ((c.tc : Thread Cert.ProjOddGradIdeal.nD Cert.ProjOddGradIdeal.τ).loc Cert.ProjOddGradIdeal.main_arg0) = m ((c.tc : Thread Cert.ProjOddBwdIdeal.nD Cert.ProjOddBwdIdeal.τ).loc Cert.ProjOddBwdIdeal.main_arg0)
      ∧ m' ((c.tc : Thread Cert.ProjOddGradIdeal.nD Cert.ProjOddGradIdeal.τ).loc Cert.ProjOddGradIdeal.main_arg1) = m ((c.tc : Thread Cert.ProjOddBwdIdeal.nD Cert.ProjOddBwdIdeal.τ).loc Cert.ProjOddBwdIdeal.main_arg1)
      ∧ m' ((c.tc : Thread Cert.ProjOddGradIdeal.nD Cert.ProjOddGradIdeal.τ).loc Cert.ProjOddGradIdeal.main_arg2) = m ((c.tc : Thread Cert.ProjOddBwdIdeal.nD Cert.ProjOddBwdIdeal.τ).loc Cert.ProjOddBwdIdeal.main_arg2)
      ∧ m' ((c.tc : Thread Cert.ProjOddGradIdeal.nD Cert.ProjOddGradIdeal.τ).loc Cert.ProjOddGradIdeal.main_arg3) = m ((c.tc : Thread Cert.ProjOddBwdIdeal.nD Cert.ProjOddBwdIdeal.τ).loc Cert.ProjOddBwdIdeal.main_arg3)
      ∧ m' ((c.tc : Thread Cert.ProjOddGradIdeal.nD Cert.ProjOddGradIdeal.τ).loc Cert.ProjOddGradIdeal.main_arg4) = m ((c.tc : Thread Cert.ProjOddBwdIdeal.nD Cert.ProjOddBwdIdeal.τ).loc Cert.ProjOddBwdIdeal.main_arg4)
      ∧ m' ((c.tc : Thread Cert.ProjOddGradIdeal.nD Cert.ProjOddGradIdeal.τ).loc Cert.ProjOddGradIdeal.main_arg5) = m ((c.tc : Thread Cert.ProjOddBwdIdeal.nD Cert.ProjOddBwdIdeal.τ).loc Cert.ProjOddBwdIdeal.main_arg5)
      ∧ m' ((c.tc : Thread Cert.ProjOddGradIdeal.nD Cert.ProjOddGradIdeal.τ).loc Cert.ProjOddGradIdeal.main_arg6) = m ((c.tc : Thread Cert.ProjOddBwdIdeal.nD Cert.ProjOddBwdIdeal.τ).loc Cert.ProjOddBwdIdeal.main_arg6)
      ∧ m' ((c.tc : Thread Cert.ProjOddGradIdeal.nD Cert.ProjOddGradIdeal.τ).loc Cert.ProjOddGradIdeal.main_arg7) = m ((c.tc : Thread Cert.ProjOddBwdIdeal.nD Cert.ProjOddBwdIdeal.τ).loc Cert.ProjOddBwdIdeal.main_arg7)) →
    ∃ (v0 : (c : Dev Cert.ProjOddBwdIdeal.nD) → Buf (Elt Ideal) ((c.tc : Thread Cert.ProjOddBwdIdeal.nD Cert.ProjOddBwdIdeal.τ).loc Cert.ProjOddBwdIdeal.main_v9_0)) (v1 : (c : Dev Cert.ProjOddBwdIdeal.nD) → Buf (Elt Ideal) ((c.tc : Thread Cert.ProjOddBwdIdeal.nD Cert.ProjOddBwdIdeal.τ).loc Cert.ProjOddBwdIdeal.main_v9_1)) (v2 : (c : Dev Cert.ProjOddBwdIdeal.nD) → Buf (Elt Ideal) ((c.tc : Thread Cert.ProjOddBwdIdeal.nD Cert.ProjOddBwdIdeal.τ).loc Cert.ProjOddBwdIdeal.main_v9_2)) (v3 : (c : Dev Cert.ProjOddBwdIdeal.nD) → Buf (Elt Ideal) ((c.tc : Thread Cert.ProjOddBwdIdeal.nD Cert.ProjOddBwdIdeal.τ).loc Cert.ProjOddBwdIdeal.main_v9_3)),
      θ_run (Cert.ProjOddBwdIdeal.defs (F := Ideal)) (onTc (τ := Cert.ProjOddBwdIdeal.τ) (Cert.ProjOddBwdIdeal.main (F := Ideal))) ⟨m, fun _ => 0, g⟩ (fun r => ∀ c : Dev Cert.ProjOddBwdIdeal.nD,
          r.2.mem ((c.tc : Thread Cert.ProjOddBwdIdeal.nD Cert.ProjOddBwdIdeal.τ).loc Cert.ProjOddBwdIdeal.main_v9_0) = v0 c
          ∧ r.2.mem ((c.tc : Thread Cert.ProjOddBwdIdeal.nD Cert.ProjOddBwdIdeal.τ).loc Cert.ProjOddBwdIdeal.main_v9_1) = v1 c
          ∧ r.2.mem ((c.tc : Thread Cert.ProjOddBwdIdeal.nD Cert.ProjOddBwdIdeal.τ).loc Cert.ProjOddBwdIdeal.main_v9_2) = v2 c
          ∧ r.2.mem ((c.tc : Thread Cert.ProjOddBwdIdeal.nD Cert.ProjOddBwdIdeal.τ).loc Cert.ProjOddBwdIdeal.main_v9_3) = v3 c
          ∧ r.2.mem ((c.tc : Thread Cert.ProjOddBwdIdeal.nD Cert.ProjOddBwdIdeal.τ).loc Cert.ProjOddBwdIdeal.main_arg0) = m ((c.tc : Thread Cert.ProjOddBwdIdeal.nD Cert.ProjOddBwdIdeal.τ).loc Cert.ProjOddBwdIdeal.main_arg0)
          ∧ r.2.mem ((c.tc : Thread Cert.ProjOddBwdIdeal.nD Cert.ProjOddBwdIdeal.τ).loc Cert.ProjOddBwdIdeal.main_arg1) = m ((c.tc : Thread Cert.ProjOddBwdIdeal.nD Cert.ProjOddBwdIdeal.τ).loc Cert.ProjOddBwdIdeal.main_arg1)
          ∧ r.2.mem ((c.tc : Thread Cert.ProjOddBwdIdeal.nD Cert.ProjOddBwdIdeal.τ).loc Cert.ProjOddBwdIdeal.main_arg2) = m ((c.tc : Thread Cert.ProjOddBwdIdeal.nD Cert.ProjOddBwdIdeal.τ).loc Cert.ProjOddBwdIdeal.main_arg2)
          ∧ r.2.mem ((c.tc : Thread Cert.ProjOddBwdIdeal.nD Cert.ProjOddBwdIdeal.τ).loc Cert.ProjOddBwdIdeal.main_arg3) = m ((c.tc : Thread Cert.ProjOddBwdIdeal.nD Cert.ProjOddBwdIdeal.τ).loc Cert.ProjOddBwdIdeal.main_arg3)
          ∧ r.2.mem ((c.tc : Thread Cert.ProjOddBwdIdeal.nD Cert.ProjOddBwdIdeal.τ).loc Cert.ProjOddBwdIdeal.main_arg4) = m ((c.tc : Thread Cert.ProjOddBwdIdeal.nD Cert.ProjOddBwdIdeal.τ).loc Cert.ProjOddBwdIdeal.main_arg4)
          ∧ r.2.mem ((c.tc : Thread Cert.ProjOddBwdIdeal.nD Cert.ProjOddBwdIdeal.τ).loc Cert.ProjOddBwdIdeal.main_arg5) = m ((c.tc : Thread Cert.ProjOddBwdIdeal.nD Cert.ProjOddBwdIdeal.τ).loc Cert.ProjOddBwdIdeal.main_arg5)
          ∧ r.2.mem ((c.tc : Thread Cert.ProjOddBwdIdeal.nD Cert.ProjOddBwdIdeal.τ).loc Cert.ProjOddBwdIdeal.main_arg6) = m ((c.tc : Thread Cert.ProjOddBwdIdeal.nD Cert.ProjOddBwdIdeal.τ).loc Cert.ProjOddBwdIdeal.main_arg6)
          ∧ r.2.mem ((c.tc : Thread Cert.ProjOddBwdIdeal.nD Cert.ProjOddBwdIdeal.τ).loc Cert.ProjOddBwdIdeal.main_arg7) = m ((c.tc : Thread Cert.ProjOddBwdIdeal.nD Cert.ProjOddBwdIdeal.τ).loc Cert.ProjOddBwdIdeal.main_arg7))
      ∧ θ_run (Cert.ProjOddGradIdeal.defs (F := Ideal)) (onTc (τ := Cert.ProjOddGradIdeal.τ) (Cert.ProjOddGradIdeal.main (F := Ideal))) ⟨m', fun _ => 0, g'⟩ (fun r => ∀ c : Dev Cert.ProjOddGradIdeal.nD,
          r.2.mem ((c.tc : Thread Cert.ProjOddGradIdeal.nD Cert.ProjOddGradIdeal.τ).loc Cert.ProjOddGradIdeal.main_v76) = v0 c
          ∧ r.2.mem ((c.tc : Thread Cert.ProjOddGradIdeal.nD Cert.ProjOddGradIdeal.τ).loc Cert.ProjOddGradIdeal.main_v78) = v1 c
          ∧ r.2.mem ((c.tc : Thread Cert.ProjOddGradIdeal.nD Cert.ProjOddGradIdeal.τ).loc Cert.ProjOddGradIdeal.main_v79) = v2 c
          ∧ r.2.mem ((c.tc : Thread Cert.ProjOddGradIdeal.nD Cert.ProjOddGradIdeal.τ).loc Cert.ProjOddGradIdeal.main_v80) = v3 c
          ∧ r.2.mem ((c.tc : Thread Cert.ProjOddGradIdeal.nD Cert.ProjOddGradIdeal.τ).loc Cert.ProjOddGradIdeal.main_arg0) = m' ((c.tc : Thread Cert.ProjOddGradIdeal.nD Cert.ProjOddGradIdeal.τ).loc Cert.ProjOddGradIdeal.main_arg0)
          ∧ r.2.mem ((c.tc : Thread Cert.ProjOddGradIdeal.nD Cert.ProjOddGradIdeal.τ).loc Cert.ProjOddGradIdeal.main_arg1) = m' ((c.tc : Thread Cert.ProjOddGradIdeal.nD Cert.ProjOddGradIdeal.τ).loc Cert.ProjOddGradIdeal.main_arg1)
          ∧ r.2.mem ((c.tc : Thread Cert.ProjOddGradIdeal.nD Cert.ProjOddGradIdeal.τ).loc Cert.ProjOddGradIdeal.main_arg2) = m' ((c.tc : Thread Cert.ProjOddGradIdeal.nD Cert.ProjOddGradIdeal.τ).loc Cert.ProjOddGradIdeal.main_arg2)
          ∧ r.2.mem ((c.tc : Thread Cert.ProjOddGradIdeal.nD Cert.ProjOddGradIdeal.τ).loc Cert.ProjOddGradIdeal.main_arg3) = m' ((c.tc : Thread Cert.ProjOddGradIdeal.nD Cert.ProjOddGradIdeal.τ).loc Cert.ProjOddGradIdeal.main_arg3)
          ∧ r.2.mem ((c.tc : Thread Cert.ProjOddGradIdeal.nD Cert.ProjOddGradIdeal.τ).loc Cert.ProjOddGradIdeal.main_arg4) = m' ((c.tc : Thread Cert.ProjOddGradIdeal.nD Cert.ProjOddGradIdeal.τ).loc Cert.ProjOddGradIdeal.main_arg4)
          ∧ r.2.mem ((c.tc : Thread Cert.ProjOddGradIdeal.nD Cert.ProjOddGradIdeal.τ).loc Cert.ProjOddGradIdeal.main_arg5) = m' ((c.tc : Thread Cert.ProjOddGradIdeal.nD Cert.ProjOddGradIdeal.τ).loc Cert.ProjOddGradIdeal.main_arg5)
          ∧ r.2.mem ((c.tc : Thread Cert.ProjOddGradIdeal.nD Cert.ProjOddGradIdeal.τ).loc Cert.ProjOddGradIdeal.main_arg6) = m' ((c.tc : Thread Cert.ProjOddGradIdeal.nD Cert.ProjOddGradIdeal.τ).loc Cert.ProjOddGradIdeal.main_arg6)
          ∧ r.2.mem ((c.tc : Thread Cert.ProjOddGradIdeal.nD Cert.ProjOddGradIdeal.τ).loc Cert.ProjOddGradIdeal.main_arg7) = m' ((c.tc : Thread Cert.ProjOddGradIdeal.nD Cert.ProjOddGradIdeal.τ).loc Cert.ProjOddGradIdeal.main_arg7))

def preserves_MemFwd_MemFwdIdeal : Prop :=
  True

def algebraic_MemFwdIdeal_MemFwdRefIdeal_pre_mem_fwd_finite [hMemFwdIdeal : Cert.MemFwdIdeal.Facts] [hMemFwdRefIdeal : Cert.MemFwdRefIdeal.Facts] [hPre_mem_fwd_finite : Cert.Pre_mem_fwd_finite.Facts] : Prop :=
  ∀ (m : (ℓ : Loc Cert.MemFwdIdeal.nD Cert.MemFwdIdeal.τ Cert.MemFwdIdeal.sig) → Buf (Elt Ideal) ℓ) (g : Dev Cert.MemFwdIdeal.nD → PrngReg)
    (m' : (ℓ : Loc Cert.MemFwdRefIdeal.nD Cert.MemFwdRefIdeal.τ Cert.MemFwdRefIdeal.sig) → Buf (Elt Ideal) ℓ) (g' : Dev Cert.MemFwdRefIdeal.nD → PrngReg), Pre_MemFwdIdeal_mem_fwd_finite m →
    (∀ c : Dev Cert.MemFwdIdeal.nD,
      m' ((c.tc : Thread Cert.MemFwdRefIdeal.nD Cert.MemFwdRefIdeal.τ).loc Cert.MemFwdRefIdeal.main_arg0) = m ((c.tc : Thread Cert.MemFwdIdeal.nD Cert.MemFwdIdeal.τ).loc Cert.MemFwdIdeal.main_arg0)
      ∧ m' ((c.tc : Thread Cert.MemFwdRefIdeal.nD Cert.MemFwdRefIdeal.τ).loc Cert.MemFwdRefIdeal.main_arg1) = m ((c.tc : Thread Cert.MemFwdIdeal.nD Cert.MemFwdIdeal.τ).loc Cert.MemFwdIdeal.main_arg1)) →
    ∃ (v0 : (c : Dev Cert.MemFwdIdeal.nD) → Buf (Elt Ideal) ((c.tc : Thread Cert.MemFwdIdeal.nD Cert.MemFwdIdeal.τ).loc Cert.MemFwdIdeal.main_v0)),
      θ_run (Cert.MemFwdIdeal.defs (F := Ideal)) (onTc (τ := Cert.MemFwdIdeal.τ) (Cert.MemFwdIdeal.main (F := Ideal))) ⟨m, fun _ => 0, g⟩ (fun r => ∀ c : Dev Cert.MemFwdIdeal.nD,
          r.2.mem ((c.tc : Thread Cert.MemFwdIdeal.nD Cert.MemFwdIdeal.τ).loc Cert.MemFwdIdeal.main_v0) = v0 c
          ∧ r.2.mem ((c.tc : Thread Cert.MemFwdIdeal.nD Cert.MemFwdIdeal.τ).loc Cert.MemFwdIdeal.main_arg0) = m ((c.tc : Thread Cert.MemFwdIdeal.nD Cert.MemFwdIdeal.τ).loc Cert.MemFwdIdeal.main_arg0)
          ∧ r.2.mem ((c.tc : Thread Cert.MemFwdIdeal.nD Cert.MemFwdIdeal.τ).loc Cert.MemFwdIdeal.main_arg1) = m ((c.tc : Thread Cert.MemFwdIdeal.nD Cert.MemFwdIdeal.τ).loc Cert.MemFwdIdeal.main_arg1))
      ∧ θ_run (Cert.MemFwdRefIdeal.defs (F := Ideal)) (onTc (τ := Cert.MemFwdRefIdeal.τ) (Cert.MemFwdRefIdeal.main (F := Ideal))) ⟨m', fun _ => 0, g'⟩ (fun r => ∀ c : Dev Cert.MemFwdRefIdeal.nD,
          r.2.mem ((c.tc : Thread Cert.MemFwdRefIdeal.nD Cert.MemFwdRefIdeal.τ).loc Cert.MemFwdRefIdeal.main_v23) = v0 c
          ∧ r.2.mem ((c.tc : Thread Cert.MemFwdRefIdeal.nD Cert.MemFwdRefIdeal.τ).loc Cert.MemFwdRefIdeal.main_arg0) = m' ((c.tc : Thread Cert.MemFwdRefIdeal.nD Cert.MemFwdRefIdeal.τ).loc Cert.MemFwdRefIdeal.main_arg0)
          ∧ r.2.mem ((c.tc : Thread Cert.MemFwdRefIdeal.nD Cert.MemFwdRefIdeal.τ).loc Cert.MemFwdRefIdeal.main_arg1) = m' ((c.tc : Thread Cert.MemFwdRefIdeal.nD Cert.MemFwdRefIdeal.τ).loc Cert.MemFwdRefIdeal.main_arg1))

def preserves_MemFwdOdd_MemFwdOddIdeal : Prop :=
  True

def algebraic_MemFwdOddIdeal_MemFwdOddRefIdeal_pre_mem_fwd_odd_finite [hMemFwdOddIdeal : Cert.MemFwdOddIdeal.Facts] [hMemFwdOddRefIdeal : Cert.MemFwdOddRefIdeal.Facts] [hPre_mem_fwd_odd_finite : Cert.Pre_mem_fwd_odd_finite.Facts] : Prop :=
  ∀ (m : (ℓ : Loc Cert.MemFwdOddIdeal.nD Cert.MemFwdOddIdeal.τ Cert.MemFwdOddIdeal.sig) → Buf (Elt Ideal) ℓ) (g : Dev Cert.MemFwdOddIdeal.nD → PrngReg)
    (m' : (ℓ : Loc Cert.MemFwdOddRefIdeal.nD Cert.MemFwdOddRefIdeal.τ Cert.MemFwdOddRefIdeal.sig) → Buf (Elt Ideal) ℓ) (g' : Dev Cert.MemFwdOddRefIdeal.nD → PrngReg), Pre_MemFwdOddIdeal_mem_fwd_odd_finite m →
    (∀ c : Dev Cert.MemFwdOddIdeal.nD,
      m' ((c.tc : Thread Cert.MemFwdOddRefIdeal.nD Cert.MemFwdOddRefIdeal.τ).loc Cert.MemFwdOddRefIdeal.main_arg0) = m ((c.tc : Thread Cert.MemFwdOddIdeal.nD Cert.MemFwdOddIdeal.τ).loc Cert.MemFwdOddIdeal.main_arg0)
      ∧ m' ((c.tc : Thread Cert.MemFwdOddRefIdeal.nD Cert.MemFwdOddRefIdeal.τ).loc Cert.MemFwdOddRefIdeal.main_arg1) = m ((c.tc : Thread Cert.MemFwdOddIdeal.nD Cert.MemFwdOddIdeal.τ).loc Cert.MemFwdOddIdeal.main_arg1)) →
    ∃ (v0 : (c : Dev Cert.MemFwdOddIdeal.nD) → Buf (Elt Ideal) ((c.tc : Thread Cert.MemFwdOddIdeal.nD Cert.MemFwdOddIdeal.τ).loc Cert.MemFwdOddIdeal.main_v0)),
      θ_run (Cert.MemFwdOddIdeal.defs (F := Ideal)) (onTc (τ := Cert.MemFwdOddIdeal.τ) (Cert.MemFwdOddIdeal.main (F := Ideal))) ⟨m, fun _ => 0, g⟩ (fun r => ∀ c : Dev Cert.MemFwdOddIdeal.nD,
          r.2.mem ((c.tc : Thread Cert.MemFwdOddIdeal.nD Cert.MemFwdOddIdeal.τ).loc Cert.MemFwdOddIdeal.main_v0) = v0 c
          ∧ r.2.mem ((c.tc : Thread Cert.MemFwdOddIdeal.nD Cert.MemFwdOddIdeal.τ).loc Cert.MemFwdOddIdeal.main_arg0) = m ((c.tc : Thread Cert.MemFwdOddIdeal.nD Cert.MemFwdOddIdeal.τ).loc Cert.MemFwdOddIdeal.main_arg0)
          ∧ r.2.mem ((c.tc : Thread Cert.MemFwdOddIdeal.nD Cert.MemFwdOddIdeal.τ).loc Cert.MemFwdOddIdeal.main_arg1) = m ((c.tc : Thread Cert.MemFwdOddIdeal.nD Cert.MemFwdOddIdeal.τ).loc Cert.MemFwdOddIdeal.main_arg1))
      ∧ θ_run (Cert.MemFwdOddRefIdeal.defs (F := Ideal)) (onTc (τ := Cert.MemFwdOddRefIdeal.τ) (Cert.MemFwdOddRefIdeal.main (F := Ideal))) ⟨m', fun _ => 0, g'⟩ (fun r => ∀ c : Dev Cert.MemFwdOddRefIdeal.nD,
          r.2.mem ((c.tc : Thread Cert.MemFwdOddRefIdeal.nD Cert.MemFwdOddRefIdeal.τ).loc Cert.MemFwdOddRefIdeal.main_v23) = v0 c
          ∧ r.2.mem ((c.tc : Thread Cert.MemFwdOddRefIdeal.nD Cert.MemFwdOddRefIdeal.τ).loc Cert.MemFwdOddRefIdeal.main_arg0) = m' ((c.tc : Thread Cert.MemFwdOddRefIdeal.nD Cert.MemFwdOddRefIdeal.τ).loc Cert.MemFwdOddRefIdeal.main_arg0)
          ∧ r.2.mem ((c.tc : Thread Cert.MemFwdOddRefIdeal.nD Cert.MemFwdOddRefIdeal.τ).loc Cert.MemFwdOddRefIdeal.main_arg1) = m' ((c.tc : Thread Cert.MemFwdOddRefIdeal.nD Cert.MemFwdOddRefIdeal.τ).loc Cert.MemFwdOddRefIdeal.main_arg1))

def preserves_SguFwd_SguFwdIdeal : Prop :=
  IdealRules.named_const.Statement Cert.SguFwdIdeal.κ "cubic" .f32 0x3D372713#32 ((8943 / 200000 : ℝ) : EReal)

def algebraic_SguFwdIdeal_SguFwdRefIdeal_pre_sgu_fwd_finite [hSguFwdIdeal : Cert.SguFwdIdeal.Facts] [hSguFwdRefIdeal : Cert.SguFwdRefIdeal.Facts] [hPre_sgu_fwd_finite : Cert.Pre_sgu_fwd_finite.Facts] : Prop :=
  ∀ (m : (ℓ : Loc Cert.SguFwdIdeal.nD Cert.SguFwdIdeal.τ Cert.SguFwdIdeal.sig) → Buf (Elt Ideal) ℓ) (g : Dev Cert.SguFwdIdeal.nD → PrngReg)
    (m' : (ℓ : Loc Cert.SguFwdRefIdeal.nD Cert.SguFwdRefIdeal.τ Cert.SguFwdRefIdeal.sig) → Buf (Elt Ideal) ℓ) (g' : Dev Cert.SguFwdRefIdeal.nD → PrngReg), Pre_SguFwdIdeal_sgu_fwd_finite m →
    (∀ c : Dev Cert.SguFwdIdeal.nD,
      m' ((c.tc : Thread Cert.SguFwdRefIdeal.nD Cert.SguFwdRefIdeal.τ).loc Cert.SguFwdRefIdeal.main_arg0) = m ((c.tc : Thread Cert.SguFwdIdeal.nD Cert.SguFwdIdeal.τ).loc Cert.SguFwdIdeal.main_arg0)
      ∧ m' ((c.tc : Thread Cert.SguFwdRefIdeal.nD Cert.SguFwdRefIdeal.τ).loc Cert.SguFwdRefIdeal.main_arg1) = m ((c.tc : Thread Cert.SguFwdIdeal.nD Cert.SguFwdIdeal.τ).loc Cert.SguFwdIdeal.main_arg1)
      ∧ m' ((c.tc : Thread Cert.SguFwdRefIdeal.nD Cert.SguFwdRefIdeal.τ).loc Cert.SguFwdRefIdeal.main_arg2) = m ((c.tc : Thread Cert.SguFwdIdeal.nD Cert.SguFwdIdeal.τ).loc Cert.SguFwdIdeal.main_arg2)
      ∧ m' ((c.tc : Thread Cert.SguFwdRefIdeal.nD Cert.SguFwdRefIdeal.τ).loc Cert.SguFwdRefIdeal.main_arg3) = m ((c.tc : Thread Cert.SguFwdIdeal.nD Cert.SguFwdIdeal.τ).loc Cert.SguFwdIdeal.main_arg3)
      ∧ m' ((c.tc : Thread Cert.SguFwdRefIdeal.nD Cert.SguFwdRefIdeal.τ).loc Cert.SguFwdRefIdeal.main_arg4) = m ((c.tc : Thread Cert.SguFwdIdeal.nD Cert.SguFwdIdeal.τ).loc Cert.SguFwdIdeal.main_arg4)) →
    ∃ (v0 : (c : Dev Cert.SguFwdIdeal.nD) → Buf (Elt Ideal) ((c.tc : Thread Cert.SguFwdIdeal.nD Cert.SguFwdIdeal.τ).loc Cert.SguFwdIdeal.main_v6)),
      θ_run (Cert.SguFwdIdeal.defs (F := Ideal)) (onTc (τ := Cert.SguFwdIdeal.τ) (Cert.SguFwdIdeal.main (F := Ideal))) ⟨m, fun _ => 0, g⟩ (fun r => ∀ c : Dev Cert.SguFwdIdeal.nD,
          r.2.mem ((c.tc : Thread Cert.SguFwdIdeal.nD Cert.SguFwdIdeal.τ).loc Cert.SguFwdIdeal.main_v6) = v0 c
          ∧ r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
          ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
          ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
          ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
          ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4))
      ∧ θ_run (Cert.SguFwdRefIdeal.defs (F := Ideal)) (onTc (τ := Cert.SguFwdRefIdeal.τ) (Cert.SguFwdRefIdeal.main (F := Ideal))) ⟨m', fun _ => 0, g'⟩ (fun r => ∀ c : Dev Cert.SguFwdRefIdeal.nD,
          r.2.mem ((c.tc : Thread Cert.SguFwdRefIdeal.nD Cert.SguFwdRefIdeal.τ).loc Cert.SguFwdRefIdeal.main_v70) = v0 c
          ∧ r.2.mem ((c.tc : Thread Cert.SguFwdRefIdeal.nD Cert.SguFwdRefIdeal.τ).loc Cert.SguFwdRefIdeal.main_arg0) = m' ((c.tc : Thread Cert.SguFwdRefIdeal.nD Cert.SguFwdRefIdeal.τ).loc Cert.SguFwdRefIdeal.main_arg0)
          ∧ r.2.mem ((c.tc : Thread Cert.SguFwdRefIdeal.nD Cert.SguFwdRefIdeal.τ).loc Cert.SguFwdRefIdeal.main_arg1) = m' ((c.tc : Thread Cert.SguFwdRefIdeal.nD Cert.SguFwdRefIdeal.τ).loc Cert.SguFwdRefIdeal.main_arg1)
          ∧ r.2.mem ((c.tc : Thread Cert.SguFwdRefIdeal.nD Cert.SguFwdRefIdeal.τ).loc Cert.SguFwdRefIdeal.main_arg2) = m' ((c.tc : Thread Cert.SguFwdRefIdeal.nD Cert.SguFwdRefIdeal.τ).loc Cert.SguFwdRefIdeal.main_arg2)
          ∧ r.2.mem ((c.tc : Thread Cert.SguFwdRefIdeal.nD Cert.SguFwdRefIdeal.τ).loc Cert.SguFwdRefIdeal.main_arg3) = m' ((c.tc : Thread Cert.SguFwdRefIdeal.nD Cert.SguFwdRefIdeal.τ).loc Cert.SguFwdRefIdeal.main_arg3)
          ∧ r.2.mem ((c.tc : Thread Cert.SguFwdRefIdeal.nD Cert.SguFwdRefIdeal.τ).loc Cert.SguFwdRefIdeal.main_arg4) = m' ((c.tc : Thread Cert.SguFwdRefIdeal.nD Cert.SguFwdRefIdeal.τ).loc Cert.SguFwdRefIdeal.main_arg4))

def preserves_UpFwd_UpFwdIdeal : Prop :=
  True

def algebraic_UpFwdIdeal_UpFwdRefIdeal_pre_up_finite [hUpFwdIdeal : Cert.UpFwdIdeal.Facts] [hUpFwdRefIdeal : Cert.UpFwdRefIdeal.Facts] [hPre_up_finite : Cert.Pre_up_finite.Facts] : Prop :=
  ∀ (m : (ℓ : Loc Cert.UpFwdIdeal.nD Cert.UpFwdIdeal.τ Cert.UpFwdIdeal.sig) → Buf (Elt Ideal) ℓ) (g : Dev Cert.UpFwdIdeal.nD → PrngReg)
    (m' : (ℓ : Loc Cert.UpFwdRefIdeal.nD Cert.UpFwdRefIdeal.τ Cert.UpFwdRefIdeal.sig) → Buf (Elt Ideal) ℓ) (g' : Dev Cert.UpFwdRefIdeal.nD → PrngReg), Pre_UpFwdIdeal_up_finite m →
    (∀ c : Dev Cert.UpFwdIdeal.nD,
      m' ((c.tc : Thread Cert.UpFwdRefIdeal.nD Cert.UpFwdRefIdeal.τ).loc Cert.UpFwdRefIdeal.main_arg0) = m ((c.tc : Thread Cert.UpFwdIdeal.nD Cert.UpFwdIdeal.τ).loc Cert.UpFwdIdeal.main_arg0)
      ∧ m' ((c.tc : Thread Cert.UpFwdRefIdeal.nD Cert.UpFwdRefIdeal.τ).loc Cert.UpFwdRefIdeal.main_arg1) = m ((c.tc : Thread Cert.UpFwdIdeal.nD Cert.UpFwdIdeal.τ).loc Cert.UpFwdIdeal.main_arg1)
      ∧ m' ((c.tc : Thread Cert.UpFwdRefIdeal.nD Cert.UpFwdRefIdeal.τ).loc Cert.UpFwdRefIdeal.main_arg2) = m ((c.tc : Thread Cert.UpFwdIdeal.nD Cert.UpFwdIdeal.τ).loc Cert.UpFwdIdeal.main_arg2)) →
    ∃ (v0 : (c : Dev Cert.UpFwdIdeal.nD) → Buf (Elt Ideal) ((c.tc : Thread Cert.UpFwdIdeal.nD Cert.UpFwdIdeal.τ).loc Cert.UpFwdIdeal.main_v6_0)) (v1 : (c : Dev Cert.UpFwdIdeal.nD) → Buf (Elt Ideal) ((c.tc : Thread Cert.UpFwdIdeal.nD Cert.UpFwdIdeal.τ).loc Cert.UpFwdIdeal.main_v6_1)) (v2 : (c : Dev Cert.UpFwdIdeal.nD) → Buf (Elt Ideal) ((c.tc : Thread Cert.UpFwdIdeal.nD Cert.UpFwdIdeal.τ).loc Cert.UpFwdIdeal.main_v6_2)),
      θ_run (Cert.UpFwdIdeal.defs (F := Ideal)) (onTc (τ := Cert.UpFwdIdeal.τ) (Cert.UpFwdIdeal.main (F := Ideal))) ⟨m, fun _ => 0, g⟩ (fun r => ∀ c : Dev Cert.UpFwdIdeal.nD,
          r.2.mem ((c.tc : Thread Cert.UpFwdIdeal.nD Cert.UpFwdIdeal.τ).loc Cert.UpFwdIdeal.main_v6_0) = v0 c
          ∧ r.2.mem ((c.tc : Thread Cert.UpFwdIdeal.nD Cert.UpFwdIdeal.τ).loc Cert.UpFwdIdeal.main_v6_1) = v1 c
          ∧ r.2.mem ((c.tc : Thread Cert.UpFwdIdeal.nD Cert.UpFwdIdeal.τ).loc Cert.UpFwdIdeal.main_v6_2) = v2 c
          ∧ r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
          ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1)
          ∧ r.2.mem ((c.tc : Thread Cert.UpFwdIdeal.nD Cert.UpFwdIdeal.τ).loc Cert.UpFwdIdeal.main_arg2) = m ((c.tc : Thread Cert.UpFwdIdeal.nD Cert.UpFwdIdeal.τ).loc Cert.UpFwdIdeal.main_arg2))
      ∧ θ_run (Cert.UpFwdRefIdeal.defs (F := Ideal)) (onTc (τ := Cert.UpFwdRefIdeal.τ) (Cert.UpFwdRefIdeal.main (F := Ideal))) ⟨m', fun _ => 0, g'⟩ (fun r => ∀ c : Dev Cert.UpFwdRefIdeal.nD,
          r.2.mem ((c.tc : Thread Cert.UpFwdRefIdeal.nD Cert.UpFwdRefIdeal.τ).loc Cert.UpFwdRefIdeal.main_v9) = v0 c
          ∧ r.2.mem ((c.tc : Thread Cert.UpFwdRefIdeal.nD Cert.UpFwdRefIdeal.τ).loc Cert.UpFwdRefIdeal.main_v11) = v1 c
          ∧ r.2.mem ((c.tc : Thread Cert.UpFwdRefIdeal.nD Cert.UpFwdRefIdeal.τ).loc Cert.UpFwdRefIdeal.main_v13) = v2 c
          ∧ r.2.mem ((c.tc : Thread Cert.UpFwdRefIdeal.nD Cert.UpFwdRefIdeal.τ).loc Cert.UpFwdRefIdeal.main_arg0) = m' ((c.tc : Thread Cert.UpFwdRefIdeal.nD Cert.UpFwdRefIdeal.τ).loc Cert.UpFwdRefIdeal.main_arg0)
          ∧ r.2.mem ((c.tc : Thread Cert.UpFwdRefIdeal.nD Cert.UpFwdRefIdeal.τ).loc Cert.UpFwdRefIdeal.main_arg1) = m' ((c.tc : Thread Cert.UpFwdRefIdeal.nD Cert.UpFwdRefIdeal.τ).loc Cert.UpFwdRefIdeal.main_arg1)
          ∧ r.2.mem ((c.tc : Thread Cert.UpFwdRefIdeal.nD Cert.UpFwdRefIdeal.τ).loc Cert.UpFwdRefIdeal.main_arg2) = m' ((c.tc : Thread Cert.UpFwdRefIdeal.nD Cert.UpFwdRefIdeal.τ).loc Cert.UpFwdRefIdeal.main_arg2))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)
      ∧ m' ((c.tc : Thread Cert.OutFwdRefIdeal.nD Cert.OutFwdRefIdeal.τ).loc Cert.OutFwdRefIdeal.main_arg3) = m ((c.tc : Thread Cert.OutFwdIdeal.nD Cert.OutFwdIdeal.τ).loc Cert.OutFwdIdeal.main_arg3)
      ∧ m' ((c.tc : Thread Cert.OutFwdRefIdeal.nD Cert.OutFwdRefIdeal.τ).loc Cert.OutFwdRefIdeal.main_arg4) = m ((c.tc : Thread Cert.OutFwdIdeal.nD Cert.OutFwdIdeal.τ).loc Cert.OutFwdIdeal.main_arg4)
      ∧ m' ((c.tc : Thread Cert.OutFwdRefIdeal.nD Cert.OutFwdRefIdeal.τ).loc Cert.OutFwdRefIdeal.main_arg5) = m ((c.tc : Thread Cert.OutFwdIdeal.nD Cert.OutFwdIdeal.τ).loc Cert.OutFwdIdeal.main_arg5)) →
    ∃ (v0 : (c : Dev Cert.OutFwdIdeal.nD) → Buf (Elt Ideal) ((c.tc : Thread Cert.OutFwdIdeal.nD Cert.OutFwdIdeal.τ).loc Cert.OutFwdIdeal.main_v7_0)) (v1 : (c : Dev Cert.OutFwdIdeal.nD) → Buf (Elt Ideal) ((c.tc : Thread Cert.OutFwdIdeal.nD Cert.OutFwdIdeal.τ).loc Cert.OutFwdIdeal.main_v7_1)) (v2 : (c : Dev Cert.OutFwdIdeal.nD) → Buf (Elt Ideal) ((c.tc : Thread Cert.OutFwdIdeal.nD Cert.OutFwdIdeal.τ).loc Cert.OutFwdIdeal.main_v7_2)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v7_0) = v0 c
          ∧ r.2.mem ((c.tc : Thread Cert.OutFwdIdeal.nD Cert.OutFwdIdeal.τ).loc Cert.OutFwdIdeal.main_v7_1) = v1 c
          ∧ r.2.mem ((c.tc : Thread Cert.OutFwdIdeal.nD Cert.OutFwdIdeal.τ).loc Cert.OutFwdIdeal.main_v7_2) = v2 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
          ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4)
          ∧ r.2.mem ((c.tc : Thread Cert.OutFwdIdeal.nD Cert.OutFwdIdeal.τ).loc Cert.OutFwdIdeal.main_arg5) = m ((c.tc : Thread Cert.OutFwdIdeal.nD Cert.OutFwdIdeal.τ).loc Cert.OutFwdIdeal.main_arg5))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v30) = v0 c
          ∧ r.2.mem ((c.tc : Thread Cert.OutFwdRefIdeal.nD Cert.OutFwdRefIdeal.τ).loc Cert.OutFwdRefIdeal.main_v31) = v1 c
          ∧ r.2.mem ((c.tc : Thread Cert.OutFwdRefIdeal.nD Cert.OutFwdRefIdeal.τ).loc Cert.OutFwdRefIdeal.main_v33) = v2 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2)
          ∧ r.2.mem ((c.tc : Thread Cert.OutFwdRefIdeal.nD Cert.OutFwdRefIdeal.τ).loc Cert.OutFwdRefIdeal.main_arg3) = m' ((c.tc : Thread Cert.OutFwdRefIdeal.nD Cert.OutFwdRefIdeal.τ).loc Cert.OutFwdRefIdeal.main_arg3)
          ∧ r.2.mem ((c.tc : Thread Cert.OutFwdRefIdeal.nD Cert.OutFwdRefIdeal.τ).loc Cert.OutFwdRefIdeal.main_arg4) = m' ((c.tc : Thread Cert.OutFwdRefIdeal.nD Cert.OutFwdRefIdeal.τ).loc Cert.OutFwdRefIdeal.main_arg4)
          ∧ r.2.mem ((c.tc : Thread Cert.OutFwdRefIdeal.nD Cert.OutFwdRefIdeal.τ).loc Cert.OutFwdRefIdeal.main_arg5) = m' ((c.tc : Thread Cert.OutFwdRefIdeal.nD Cert.OutFwdRefIdeal.τ).loc Cert.OutFwdRefIdeal.main_arg5))

def preserves_DownFwd_DownFwdIdeal : Prop :=
  True

def algebraic_DownFwdIdeal_DownFwdRefIdeal [hDownFwdIdeal : Cert.DownFwdIdeal.Facts] [hDownFwdRefIdeal : Cert.DownFwdRefIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdRefIdeal.nD Cert.DownFwdRefIdeal.τ Cert.DownFwdRefIdeal.sig) → Buf (Elt Ideal) ℓ) (g' : Dev Cert.DownFwdRefIdeal.nD → PrngReg), Pre_DownFwdIdeal m →
    (∀ c : Dev Cert.DownFwdIdeal.nD,
      m' ((c.tc : Thread Cert.DownFwdRefIdeal.nD Cert.DownFwdRefIdeal.τ).loc Cert.DownFwdRefIdeal.main_arg0) = m ((c.tc : Thread Cert.DownFwdIdeal.nD Cert.DownFwdIdeal.τ).loc Cert.DownFwdIdeal.main_arg0)
      ∧ m' ((c.tc : Thread Cert.DownFwdRefIdeal.nD Cert.DownFwdRefIdeal.τ).loc Cert.DownFwdRefIdeal.main_arg1) = m ((c.tc : Thread Cert.DownFwdIdeal.nD Cert.DownFwdIdeal.τ).loc Cert.DownFwdIdeal.main_arg1)
      ∧ m' ((c.tc : Thread Cert.DownFwdRefIdeal.nD Cert.DownFwdRefIdeal.τ).loc Cert.DownFwdRefIdeal.main_arg2) = m ((c.tc : Thread Cert.DownFwdIdeal.nD Cert.DownFwdIdeal.τ).loc Cert.DownFwdIdeal.main_arg2)
      ∧ m' ((c.tc : Thread Cert.DownFwdRefIdeal.nD Cert.DownFwdRefIdeal.τ).loc Cert.DownFwdRefIdeal.main_arg3) = m ((c.tc : Thread Cert.DownFwdIdeal.nD Cert.DownFwdIdeal.τ).loc Cert.DownFwdIdeal.main_arg3)
      ∧ m' ((c.tc : Thread Cert.DownFwdRefIdeal.nD Cert.DownFwdRefIdeal.τ).loc Cert.DownFwdRefIdeal.main_arg4) = m ((c.tc : Thread Cert.DownFwdIdeal.nD Cert.DownFwdIdeal.τ).loc Cert.DownFwdIdeal.main_arg4)) →
    ∃ (v0 : (c : Dev Cert.DownFwdIdeal.nD) → Buf (Elt Ideal) ((c.tc : Thread Cert.DownFwdIdeal.nD Cert.DownFwdIdeal.τ).loc Cert.DownFwdIdeal.main_v5_0)) (v1 : (c : Dev Cert.DownFwdIdeal.nD) → Buf (Elt Ideal) ((c.tc : Thread Cert.DownFwdIdeal.nD Cert.DownFwdIdeal.τ).loc Cert.DownFwdIdeal.main_v5_1)) (v2 : (c : Dev Cert.DownFwdIdeal.nD) → Buf (Elt Ideal) ((c.tc : Thread Cert.DownFwdIdeal.nD Cert.DownFwdIdeal.τ).loc Cert.DownFwdIdeal.main_v5_2)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v5_0) = v0 c
          ∧ r.2.mem ((c.tc : Thread Cert.DownFwdIdeal.nD Cert.DownFwdIdeal.τ).loc Cert.DownFwdIdeal.main_v5_1) = v1 c
          ∧ r.2.mem ((c.tc : Thread Cert.DownFwdIdeal.nD Cert.DownFwdIdeal.τ).loc Cert.DownFwdIdeal.main_v5_2) = v2 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
          ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2)
          ∧ r.2.mem ((c.tc : Thread Cert.DownFwdIdeal.nD Cert.DownFwdIdeal.τ).loc Cert.DownFwdIdeal.main_arg3) = m ((c.tc : Thread Cert.DownFwdIdeal.nD Cert.DownFwdIdeal.τ).loc Cert.DownFwdIdeal.main_arg3)
          ∧ r.2.mem ((c.tc : Thread Cert.DownFwdIdeal.nD Cert.DownFwdIdeal.τ).loc Cert.DownFwdIdeal.main_arg4) = m ((c.tc : Thread Cert.DownFwdIdeal.nD Cert.DownFwdIdeal.τ).loc Cert.DownFwdIdeal.main_arg4))
      ∧ θ_run (Cert.DownFwdRefIdeal.defs (F := Ideal)) (onTc (τ := Cert.DownFwdRefIdeal.τ) (Cert.DownFwdRefIdeal.main (F := Ideal))) ⟨m', fun _ => 0, g'⟩ (fun r => ∀ c : Dev Cert.DownFwdRefIdeal.nD,
          r.2.mem ((c.tc : Thread Cert.DownFwdRefIdeal.nD Cert.DownFwdRefIdeal.τ).loc Cert.DownFwdRefIdeal.main_v29) = v0 c
          ∧ r.2.mem ((c.tc : Thread Cert.DownFwdRefIdeal.nD Cert.DownFwdRefIdeal.τ).loc Cert.DownFwdRefIdeal.main_v30) = v1 c
          ∧ r.2.mem ((c.tc : Thread Cert.DownFwdRefIdeal.nD Cert.DownFwdRefIdeal.τ).loc Cert.DownFwdRefIdeal.main_v32) = v2 c
          ∧ r.2.mem ((c.tc : Thread Cert.DownFwdRefIdeal.nD Cert.DownFwdRefIdeal.τ).loc Cert.DownFwdRefIdeal.main_arg0) = m' ((c.tc : Thread Cert.DownFwdRefIdeal.nD Cert.DownFwdRefIdeal.τ).loc Cert.DownFwdRefIdeal.main_arg0)
          ∧ r.2.mem ((c.tc : Thread Cert.DownFwdRefIdeal.nD Cert.DownFwdRefIdeal.τ).loc Cert.DownFwdRefIdeal.main_arg1) = m' ((c.tc : Thread Cert.DownFwdRefIdeal.nD Cert.DownFwdRefIdeal.τ).loc Cert.DownFwdRefIdeal.main_arg1)
          ∧ r.2.mem ((c.tc : Thread Cert.DownFwdRefIdeal.nD Cert.DownFwdRefIdeal.τ).loc Cert.DownFwdRefIdeal.main_arg2) = m' ((c.tc : Thread Cert.DownFwdRefIdeal.nD Cert.DownFwdRefIdeal.τ).loc Cert.DownFwdRefIdeal.main_arg2)
          ∧ r.2.mem ((c.tc : Thread Cert.DownFwdRefIdeal.nD Cert.DownFwdRefIdeal.τ).loc Cert.DownFwdRefIdeal.main_arg3) = m' ((c.tc : Thread Cert.DownFwdRefIdeal.nD Cert.DownFwdRefIdeal.τ).loc Cert.DownFwdRefIdeal.main_arg3)
          ∧ r.2.mem ((c.tc : Thread Cert.DownFwdRefIdeal.nD Cert.DownFwdRefIdeal.τ).loc Cert.DownFwdRefIdeal.main_arg4) = m' ((c.tc : Thread Cert.DownFwdRefIdeal.nD Cert.DownFwdRefIdeal.τ).loc Cert.DownFwdRefIdeal.main_arg4))

def preserves_XBwd_XBwdIdeal : Prop :=
  True

def algebraic_XBwdIdeal_XGradIdeal [hXBwdIdeal : Cert.XBwdIdeal.Facts] [hXGradIdeal : Cert.XGradIdeal.Facts] : Prop :=
  ∀ (m : (ℓ : Loc Cert.XBwdIdeal.nD Cert.XBwdIdeal.τ Cert.XBwdIdeal.sig) → Buf (Elt Ideal) ℓ) (g : Dev Cert.XBwdIdeal.nD → PrngReg)
    (m' : (ℓ : Loc Cert.XGradIdeal.nD Cert.XGradIdeal.τ Cert.XGradIdeal.sig) → Buf (Elt Ideal) ℓ) (g' : Dev Cert.XGradIdeal.nD → PrngReg), Pre_XBwdIdeal m →
    (∀ c : Dev Cert.XBwdIdeal.nD,
      m' ((c.tc : Thread Cert.XGradIdeal.nD Cert.XGradIdeal.τ).loc Cert.XGradIdeal.main_arg0) = m ((c.tc : Thread Cert.XBwdIdeal.nD Cert.XBwdIdeal.τ).loc Cert.XBwdIdeal.main_arg0)
      ∧ m' ((c.tc : Thread Cert.XGradIdeal.nD Cert.XGradIdeal.τ).loc Cert.XGradIdeal.main_arg1) = m ((c.tc : Thread Cert.XBwdIdeal.nD Cert.XBwdIdeal.τ).loc Cert.XBwdIdeal.main_arg1)
      ∧ m' ((c.tc : Thread Cert.XGradIdeal.nD Cert.XGradIdeal.τ).loc Cert.XGradIdeal.main_arg2) = m ((c.tc : Thread Cert.XBwdIdeal.nD Cert.XBwdIdeal.τ).loc Cert.XBwdIdeal.main_arg2)
      ∧ m' ((c.tc : Thread Cert.XGradIdeal.nD Cert.XGradIdeal.τ).loc Cert.XGradIdeal.main_arg3) = m ((c.tc : Thread Cert.XBwdIdeal.nD Cert.XBwdIdeal.τ).loc Cert.XBwdIdeal.main_arg3)
      ∧ m' ((c.tc : Thread Cert.XGradIdeal.nD Cert.XGradIdeal.τ).loc Cert.XGradIdeal.main_arg4) = m ((c.tc : Thread Cert.XBwdIdeal.nD Cert.XBwdIdeal.τ).loc Cert.XBwdIdeal.main_arg4)
      ∧ m' ((c.tc : Thread Cert.XGradIdeal.nD Cert.XGradIdeal.τ).loc Cert.XGradIdeal.main_arg5) = m ((c.tc : Thread Cert.XBwdIdeal.nD Cert.XBwdIdeal.τ).loc Cert.XBwdIdeal.main_arg5)) →
    ∃ (v0 : (c : Dev Cert.XBwdIdeal.nD) → Buf (Elt Ideal) ((c.tc : Thread Cert.XBwdIdeal.nD Cert.XBwdIdeal.τ).loc Cert.XBwdIdeal.main_v8)),
      θ_run (Cert.XBwdIdeal.defs (F := Ideal)) (onTc (τ := Cert.XBwdIdeal.τ) (Cert.XBwdIdeal.main (F := Ideal))) ⟨m, fun _ => 0, g⟩ (fun r => ∀ c : Dev Cert.XBwdIdeal.nD,
          r.2.mem ((c.tc : Thread Cert.XBwdIdeal.nD Cert.XBwdIdeal.τ).loc Cert.XBwdIdeal.main_v8) = v0 c
          ∧ r.2.mem ((c.tc : Thread Cert.XBwdIdeal.nD Cert.XBwdIdeal.τ).loc Cert.XBwdIdeal.main_arg0) = m ((c.tc : Thread Cert.XBwdIdeal.nD Cert.XBwdIdeal.τ).loc Cert.XBwdIdeal.main_arg0)
          ∧ r.2.mem ((c.tc : Thread Cert.XBwdIdeal.nD Cert.XBwdIdeal.τ).loc Cert.XBwdIdeal.main_arg1) = m ((c.tc : Thread Cert.XBwdIdeal.nD Cert.XBwdIdeal.τ).loc Cert.XBwdIdeal.main_arg1)
          ∧ r.2.mem ((c.tc : Thread Cert.XBwdIdeal.nD Cert.XBwdIdeal.τ).loc Cert.XBwdIdeal.main_arg2) = m ((c.tc : Thread Cert.XBwdIdeal.nD Cert.XBwdIdeal.τ).loc Cert.XBwdIdeal.main_arg2)
          ∧ r.2.mem ((c.tc : Thread Cert.XBwdIdeal.nD Cert.XBwdIdeal.τ).loc Cert.XBwdIdeal.main_arg3) = m ((c.tc : Thread Cert.XBwdIdeal.nD Cert.XBwdIdeal.τ).loc Cert.XBwdIdeal.main_arg3)
          ∧ r.2.mem ((c.tc : Thread Cert.XBwdIdeal.nD Cert.XBwdIdeal.τ).loc Cert.XBwdIdeal.main_arg4) = m ((c.tc : Thread Cert.XBwdIdeal.nD Cert.XBwdIdeal.τ).loc Cert.XBwdIdeal.main_arg4)
          ∧ r.2.mem ((c.tc : Thread Cert.XBwdIdeal.nD Cert.XBwdIdeal.τ).loc Cert.XBwdIdeal.main_arg5) = m ((c.tc : Thread Cert.XBwdIdeal.nD Cert.XBwdIdeal.τ).loc Cert.XBwdIdeal.main_arg5))
      ∧ θ_run (Cert.XGradIdeal.defs (F := Ideal)) (onTc (τ := Cert.XGradIdeal.τ) (Cert.XGradIdeal.main (F := Ideal))) ⟨m', fun _ => 0, g'⟩ (fun r => ∀ c : Dev Cert.XGradIdeal.nD,
          r.2.mem ((c.tc : Thread Cert.XGradIdeal.nD Cert.XGradIdeal.τ).loc Cert.XGradIdeal.main_v17) = v0 c
          ∧ r.2.mem ((c.tc : Thread Cert.XGradIdeal.nD Cert.XGradIdeal.τ).loc Cert.XGradIdeal.main_arg0) = m' ((c.tc : Thread Cert.XGradIdeal.nD Cert.XGradIdeal.τ).loc Cert.XGradIdeal.main_arg0)
          ∧ r.2.mem ((c.tc : Thread Cert.XGradIdeal.nD Cert.XGradIdeal.τ).loc Cert.XGradIdeal.main_arg1) = m' ((c.tc : Thread Cert.XGradIdeal.nD Cert.XGradIdeal.τ).loc Cert.XGradIdeal.main_arg1)
          ∧ r.2.mem ((c.tc : Thread Cert.XGradIdeal.nD Cert.XGradIdeal.τ).loc Cert.XGradIdeal.main_arg2) = m' ((c.tc : Thread Cert.XGradIdeal.nD Cert.XGradIdeal.τ).loc Cert.XGradIdeal.main_arg2)
          ∧ r.2.mem ((c.tc : Thread Cert.XGradIdeal.nD Cert.XGradIdeal.τ).loc Cert.XGradIdeal.main_arg3) = m' ((c.tc : Thread Cert.XGradIdeal.nD Cert.XGradIdeal.τ).loc Cert.XGradIdeal.main_arg3)
          ∧ r.2.mem ((c.tc : Thread Cert.XGradIdeal.nD Cert.XGradIdeal.τ).loc Cert.XGradIdeal.main_arg4) = m' ((c.tc : Thread Cert.XGradIdeal.nD Cert.XGradIdeal.τ).loc Cert.XGradIdeal.main_arg4)
          ∧ r.2.mem ((c.tc : Thread Cert.XGradIdeal.nD Cert.XGradIdeal.τ).loc Cert.XGradIdeal.main_arg5) = m' ((c.tc : Thread Cert.XGradIdeal.nD Cert.XGradIdeal.τ).loc Cert.XGradIdeal.main_arg5))

def preserves_CatBwd_CatBwdIdeal : Prop :=
  True

def algebraic_CatBwdIdeal_CatGradIdeal [hCatBwdIdeal : Cert.CatBwdIdeal.Facts] [hCatGradIdeal : Cert.CatGradIdeal.Facts] : Prop :=
  ∀ (m : (ℓ : Loc Cert.CatBwdIdeal.nD Cert.CatBwdIdeal.τ Cert.CatBwdIdeal.sig) → Buf (Elt Ideal) ℓ) (g : Dev Cert.CatBwdIdeal.nD → PrngReg)
    (m' : (ℓ : Loc Cert.CatGradIdeal.nD Cert.CatGradIdeal.τ Cert.CatGradIdeal.sig) → Buf (Elt Ideal) ℓ) (g' : Dev Cert.CatGradIdeal.nD → PrngReg), Pre_CatBwdIdeal m →
    (∀ c : Dev Cert.CatBwdIdeal.nD,
      m' ((c.tc : Thread Cert.CatGradIdeal.nD Cert.CatGradIdeal.τ).loc Cert.CatGradIdeal.main_arg0) = m ((c.tc : Thread Cert.CatBwdIdeal.nD Cert.CatBwdIdeal.τ).loc Cert.CatBwdIdeal.main_arg0)
      ∧ m' ((c.tc : Thread Cert.CatGradIdeal.nD Cert.CatGradIdeal.τ).loc Cert.CatGradIdeal.main_arg1) = m ((c.tc : Thread Cert.CatBwdIdeal.nD Cert.CatBwdIdeal.τ).loc Cert.CatBwdIdeal.main_arg1)) →
    ∃ (v0 : (c : Dev Cert.CatBwdIdeal.nD) → Buf (Elt Ideal) ((c.tc : Thread Cert.CatBwdIdeal.nD Cert.CatBwdIdeal.τ).loc Cert.CatBwdIdeal.main_v3)),
      θ_run (Cert.CatBwdIdeal.defs (F := Ideal)) (onTc (τ := Cert.CatBwdIdeal.τ) (Cert.CatBwdIdeal.main (F := Ideal))) ⟨m, fun _ => 0, g⟩ (fun r => ∀ c : Dev Cert.CatBwdIdeal.nD,
          r.2.mem ((c.tc : Thread Cert.CatBwdIdeal.nD Cert.CatBwdIdeal.τ).loc Cert.CatBwdIdeal.main_v3) = v0 c
          ∧ r.2.mem ((c.tc : Thread Cert.CatBwdIdeal.nD Cert.CatBwdIdeal.τ).loc Cert.CatBwdIdeal.main_arg0) = m ((c.tc : Thread Cert.CatBwdIdeal.nD Cert.CatBwdIdeal.τ).loc Cert.CatBwdIdeal.main_arg0)
          ∧ r.2.mem ((c.tc : Thread Cert.CatBwdIdeal.nD Cert.CatBwdIdeal.τ).loc Cert.CatBwdIdeal.main_arg1) = m ((c.tc : Thread Cert.CatBwdIdeal.nD Cert.CatBwdIdeal.τ).loc Cert.CatBwdIdeal.main_arg1))
      ∧ θ_run (Cert.CatGradIdeal.defs (F := Ideal)) (onTc (τ := Cert.CatGradIdeal.τ) (Cert.CatGradIdeal.main (F := Ideal))) ⟨m', fun _ => 0, g'⟩ (fun r => ∀ c : Dev Cert.CatGradIdeal.nD,
          r.2.mem ((c.tc : Thread Cert.CatGradIdeal.nD Cert.CatGradIdeal.τ).loc Cert.CatGradIdeal.main_v3) = v0 c
          ∧ r.2.mem ((c.tc : Thread Cert.CatGradIdeal.nD Cert.CatGradIdeal.τ).loc Cert.CatGradIdeal.main_arg0) = m' ((c.tc : Thread Cert.CatGradIdeal.nD Cert.CatGradIdeal.τ).loc Cert.CatGradIdeal.main_arg0)
          ∧ r.2.mem ((c.tc : Thread Cert.CatGradIdeal.nD Cert.CatGradIdeal.τ).loc Cert.CatGradIdeal.main_arg1) = m' ((c.tc : Thread Cert.CatGradIdeal.nD Cert.CatGradIdeal.τ).loc Cert.CatGradIdeal.main_arg1))

def preserves_KvFwd_KvFwdIdeal : Prop :=
  True

def algebraic_KvFwdIdeal_KvFwdRefIdeal [hKvFwdIdeal : Cert.KvFwdIdeal.Facts] [hKvFwdRefIdeal : Cert.KvFwdRefIdeal.Facts] : Prop :=
  ∀ (m : (ℓ : Loc Cert.KvFwdIdeal.nD Cert.KvFwdIdeal.τ Cert.KvFwdIdeal.sig) → Buf (Elt Ideal) ℓ) (g : Dev Cert.KvFwdIdeal.nD → PrngReg)
    (m' : (ℓ : Loc Cert.KvFwdRefIdeal.nD Cert.KvFwdRefIdeal.τ Cert.KvFwdRefIdeal.sig) → Buf (Elt Ideal) ℓ) (g' : Dev Cert.KvFwdRefIdeal.nD → PrngReg), Pre_KvFwdIdeal m →
    (∀ c : Dev Cert.KvFwdIdeal.nD,
      m' ((c.tc : Thread Cert.KvFwdRefIdeal.nD Cert.KvFwdRefIdeal.τ).loc Cert.KvFwdRefIdeal.main_arg0) = m ((c.tc : Thread Cert.KvFwdIdeal.nD Cert.KvFwdIdeal.τ).loc Cert.KvFwdIdeal.main_arg0)
      ∧ m' ((c.tc : Thread Cert.KvFwdRefIdeal.nD Cert.KvFwdRefIdeal.τ).loc Cert.KvFwdRefIdeal.main_arg1) = m ((c.tc : Thread Cert.KvFwdIdeal.nD Cert.KvFwdIdeal.τ).loc Cert.KvFwdIdeal.main_arg1)) →
    ∃ (v0 : (c : Dev Cert.KvFwdIdeal.nD) → Buf (Elt Ideal) ((c.tc : Thread Cert.KvFwdIdeal.nD Cert.KvFwdIdeal.τ).loc Cert.KvFwdIdeal.main_v2)),
      θ_run (Cert.KvFwdIdeal.defs (F := Ideal)) (onTc (τ := Cert.KvFwdIdeal.τ) (Cert.KvFwdIdeal.main (F := Ideal))) ⟨m, fun _ => 0, g⟩ (fun r => ∀ c : Dev Cert.KvFwdIdeal.nD,
          r.2.mem ((c.tc : Thread Cert.KvFwdIdeal.nD Cert.KvFwdIdeal.τ).loc Cert.KvFwdIdeal.main_v2) = v0 c
          ∧ r.2.mem ((c.tc : Thread Cert.KvFwdIdeal.nD Cert.KvFwdIdeal.τ).loc Cert.KvFwdIdeal.main_arg0) = m ((c.tc : Thread Cert.KvFwdIdeal.nD Cert.KvFwdIdeal.τ).loc Cert.KvFwdIdeal.main_arg0)
          ∧ r.2.mem ((c.tc : Thread Cert.KvFwdIdeal.nD Cert.KvFwdIdeal.τ).loc Cert.KvFwdIdeal.main_arg1) = m ((c.tc : Thread Cert.KvFwdIdeal.nD Cert.KvFwdIdeal.τ).loc Cert.KvFwdIdeal.main_arg1))
      ∧ θ_run (Cert.KvFwdRefIdeal.defs (F := Ideal)) (onTc (τ := Cert.KvFwdRefIdeal.τ) (Cert.KvFwdRefIdeal.main (F := Ideal))) ⟨m', fun _ => 0, g'⟩ (fun r => ∀ c : Dev Cert.KvFwdRefIdeal.nD,
          r.2.mem ((c.tc : Thread Cert.KvFwdRefIdeal.nD Cert.KvFwdRefIdeal.τ).loc Cert.KvFwdRefIdeal.main_v1) = v0 c
          ∧ r.2.mem ((c.tc : Thread Cert.KvFwdRefIdeal.nD Cert.KvFwdRefIdeal.τ).loc Cert.KvFwdRefIdeal.main_arg0) = m' ((c.tc : Thread Cert.KvFwdRefIdeal.nD Cert.KvFwdRefIdeal.τ).loc Cert.KvFwdRefIdeal.main_arg0)
          ∧ r.2.mem ((c.tc : Thread Cert.KvFwdRefIdeal.nD Cert.KvFwdRefIdeal.τ).loc Cert.KvFwdRefIdeal.main_arg1) = m' ((c.tc : Thread Cert.KvFwdRefIdeal.nD Cert.KvFwdRefIdeal.τ).loc Cert.KvFwdRefIdeal.main_arg1))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)) →
    ∃ (v0 : (c : Dev Cert.InFwdIdeal.nD) → Buf (Elt Ideal) ((c.tc : Thread Cert.InFwdIdeal.nD Cert.InFwdIdeal.τ).loc Cert.InFwdIdeal.main_v3)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v3) = v0 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v1) = v0 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1))

def preserves_InOddFwd_InOddFwdIdeal : Prop :=
  True

def algebraic_InOddFwdIdeal_InOddFwdRefIdeal [hInOddFwdIdeal : Cert.InOddFwdIdeal.Facts] [hInOddFwdRefIdeal : Cert.InOddFwdRefIdeal.Facts] : Prop :=
  ∀ (m : (ℓ : Loc Cert.InOddFwdIdeal.nD Cert.InOddFwdIdeal.τ Cert.InOddFwdIdeal.sig) → Buf (Elt Ideal) ℓ) (g : Dev Cert.InOddFwdIdeal.nD → PrngReg)
    (m' : (ℓ : Loc Cert.InOddFwdRefIdeal.nD Cert.InOddFwdRefIdeal.τ Cert.InOddFwdRefIdeal.sig) → Buf (Elt Ideal) ℓ) (g' : Dev Cert.InOddFwdRefIdeal.nD → PrngReg), Pre_InOddFwdIdeal m →
    (∀ c : Dev Cert.InOddFwdIdeal.nD,
      m' ((c.tc : Thread Cert.InOddFwdRefIdeal.nD Cert.InOddFwdRefIdeal.τ).loc Cert.InOddFwdRefIdeal.main_arg0) = m ((c.tc : Thread Cert.InOddFwdIdeal.nD Cert.InOddFwdIdeal.τ).loc Cert.InOddFwdIdeal.main_arg0)
      ∧ m' ((c.tc : Thread Cert.InOddFwdRefIdeal.nD Cert.InOddFwdRefIdeal.τ).loc Cert.InOddFwdRefIdeal.main_arg1) = m ((c.tc : Thread Cert.InOddFwdIdeal.nD Cert.InOddFwdIdeal.τ).loc Cert.InOddFwdIdeal.main_arg1)) →
    ∃ (v0 : (c : Dev Cert.InOddFwdIdeal.nD) → Buf (Elt Ideal) ((c.tc : Thread Cert.InOddFwdIdeal.nD Cert.InOddFwdIdeal.τ).loc Cert.InOddFwdIdeal.main_v4)),
      θ_run (Cert.InOddFwdIdeal.defs (F := Ideal)) (onTc (τ := Cert.InOddFwdIdeal.τ) (Cert.InOddFwdIdeal.main (F := Ideal))) ⟨m, fun _ => 0, g⟩ (fun r => ∀ c : Dev Cert.InOddFwdIdeal.nD,
          r.2.mem ((c.tc : Thread Cert.InOddFwdIdeal.nD Cert.InOddFwdIdeal.τ).loc Cert.InOddFwdIdeal.main_v4) = v0 c
          ∧ r.2.mem ((c.tc : Thread Cert.InOddFwdIdeal.nD Cert.InOddFwdIdeal.τ).loc Cert.InOddFwdIdeal.main_arg0) = m ((c.tc : Thread Cert.InOddFwdIdeal.nD Cert.InOddFwdIdeal.τ).loc Cert.InOddFwdIdeal.main_arg0)
          ∧ r.2.mem ((c.tc : Thread Cert.InOddFwdIdeal.nD Cert.InOddFwdIdeal.τ).loc Cert.InOddFwdIdeal.main_arg1) = m ((c.tc : Thread Cert.InOddFwdIdeal.nD Cert.InOddFwdIdeal.τ).loc Cert.InOddFwdIdeal.main_arg1))
      ∧ θ_run (Cert.InOddFwdRefIdeal.defs (F := Ideal)) (onTc (τ := Cert.InOddFwdRefIdeal.τ) (Cert.InOddFwdRefIdeal.main (F := Ideal))) ⟨m', fun _ => 0, g'⟩ (fun r => ∀ c : Dev Cert.InOddFwdRefIdeal.nD,
          r.2.mem ((c.tc : Thread Cert.InOddFwdRefIdeal.nD Cert.InOddFwdRefIdeal.τ).loc Cert.InOddFwdRefIdeal.main_v1) = v0 c
          ∧ r.2.mem ((c.tc : Thread Cert.InOddFwdRefIdeal.nD Cert.InOddFwdRefIdeal.τ).loc Cert.InOddFwdRefIdeal.main_arg0) = m' ((c.tc : Thread Cert.InOddFwdRefIdeal.nD Cert.InOddFwdRefIdeal.τ).loc Cert.InOddFwdRefIdeal.main_arg0)
          ∧ r.2.mem ((c.tc : Thread Cert.InOddFwdRefIdeal.nD Cert.InOddFwdRefIdeal.τ).loc Cert.InOddFwdRefIdeal.main_arg1) = m' ((c.tc : Thread Cert.InOddFwdRefIdeal.nD Cert.InOddFwdRefIdeal.τ).loc Cert.InOddFwdRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v4_0)) (v1 : (c : Dev Cert.AdamIdeal.nD) → Buf (Elt Ideal) ((c.tc : Thread Cert.AdamIdeal.nD Cert.AdamIdeal.τ).loc Cert.AdamIdeal.main_v4_1)) (v2 : (c : Dev Cert.AdamIdeal.nD) → Buf (Elt Ideal) ((c.tc : Thread Cert.AdamIdeal.nD Cert.AdamIdeal.τ).loc Cert.AdamIdeal.main_v4_2)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v4_0) = v0 c
          ∧ r.2.mem ((c.tc : Thread Cert.AdamIdeal.nD Cert.AdamIdeal.τ).loc Cert.AdamIdeal.main_v4_1) = v1 c
          ∧ r.2.mem ((c.tc : Thread Cert.AdamIdeal.nD Cert.AdamIdeal.τ).loc Cert.AdamIdeal.main_v4_2) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v24) = v0 c
          ∧ r.2.mem ((c.tc : Thread Cert.AdamRefIdeal.nD Cert.AdamRefIdeal.τ).loc Cert.AdamRefIdeal.main_v25) = v1 c
          ∧ r.2.mem ((c.tc : Thread Cert.AdamRefIdeal.nD Cert.AdamRefIdeal.τ).loc Cert.AdamRefIdeal.main_v26) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_KvBwd_KvBwdIdeal : Prop :=
  True

def algebraic_KvBwdIdeal_KvGradIdeal [hKvBwdIdeal : Cert.KvBwdIdeal.Facts] [hKvGradIdeal : Cert.KvGradIdeal.Facts] : Prop :=
  ∀ (m : (ℓ : Loc Cert.KvBwdIdeal.nD Cert.KvBwdIdeal.τ Cert.KvBwdIdeal.sig) → Buf (Elt Ideal) ℓ) (g : Dev Cert.KvBwdIdeal.nD → PrngReg)
    (m' : (ℓ : Loc Cert.KvGradIdeal.nD Cert.KvGradIdeal.τ Cert.KvGradIdeal.sig) → Buf (Elt Ideal) ℓ) (g' : Dev Cert.KvGradIdeal.nD → PrngReg), Pre_KvBwdIdeal m →
    (∀ c : Dev Cert.KvBwdIdeal.nD,
      m' ((c.tc : Thread Cert.KvGradIdeal.nD Cert.KvGradIdeal.τ).loc Cert.KvGradIdeal.main_arg0) = m ((c.tc : Thread Cert.KvBwdIdeal.nD Cert.KvBwdIdeal.τ).loc Cert.KvBwdIdeal.main_arg0)
      ∧ m' ((c.tc : Thread Cert.KvGradIdeal.nD Cert.KvGradIdeal.τ).loc Cert.KvGradIdeal.main_arg1) = m ((c.tc : Thread Cert.KvBwdIdeal.nD Cert.KvBwdIdeal.τ).loc Cert.KvBwdIdeal.main_arg1)) →
    ∃ (v0 : (c : Dev Cert.KvBwdIdeal.nD) → Buf (Elt Ideal) ((c.tc : Thread Cert.KvBwdIdeal.nD Cert.KvBwdIdeal.τ).loc Cert.KvBwdIdeal.main_v2)),
      θ_run (Cert.KvBwdIdeal.defs (F := Ideal)) (onTc (τ := Cert.KvBwdIdeal.τ) (Cert.KvBwdIdeal.main (F := Ideal))) ⟨m, fun _ => 0, g⟩ (fun r => ∀ c : Dev Cert.KvBwdIdeal.nD,
          r.2.mem ((c.tc : Thread Cert.KvBwdIdeal.nD Cert.KvBwdIdeal.τ).loc Cert.KvBwdIdeal.main_v2) = v0 c
          ∧ r.2.mem ((c.tc : Thread Cert.KvBwdIdeal.nD Cert.KvBwdIdeal.τ).loc Cert.KvBwdIdeal.main_arg0) = m ((c.tc : Thread Cert.KvBwdIdeal.nD Cert.KvBwdIdeal.τ).loc Cert.KvBwdIdeal.main_arg0)
          ∧ r.2.mem ((c.tc : Thread Cert.KvBwdIdeal.nD Cert.KvBwdIdeal.τ).loc Cert.KvBwdIdeal.main_arg1) = m ((c.tc : Thread Cert.KvBwdIdeal.nD Cert.KvBwdIdeal.τ).loc Cert.KvBwdIdeal.main_arg1))
      ∧ θ_run (Cert.KvGradIdeal.defs (F := Ideal)) (onTc (τ := Cert.KvGradIdeal.τ) (Cert.KvGradIdeal.main (F := Ideal))) ⟨m', fun _ => 0, g'⟩ (fun r => ∀ c : Dev Cert.KvGradIdeal.nD,
          r.2.mem ((c.tc : Thread Cert.KvGradIdeal.nD Cert.KvGradIdeal.τ).loc Cert.KvGradIdeal.main_v3) = v0 c
          ∧ r.2.mem ((c.tc : Thread Cert.KvGradIdeal.nD Cert.KvGradIdeal.τ).loc Cert.KvGradIdeal.main_arg0) = m' ((c.tc : Thread Cert.KvGradIdeal.nD Cert.KvGradIdeal.τ).loc Cert.KvGradIdeal.main_arg0)
          ∧ r.2.mem ((c.tc : Thread Cert.KvGradIdeal.nD Cert.KvGradIdeal.τ).loc Cert.KvGradIdeal.main_arg1) = m' ((c.tc : Thread Cert.KvGradIdeal.nD Cert.KvGradIdeal.τ).loc Cert.KvGradIdeal.main_arg1))

def preserves_HidBwd_HidBwdIdeal : Prop :=
  True

def algebraic_HidBwdIdeal_HidGradIdeal [hHidBwdIdeal : Cert.HidBwdIdeal.Facts] [hHidGradIdeal : Cert.HidGradIdeal.Facts] : Prop :=
  ∀ (m : (ℓ : Loc Cert.HidBwdIdeal.nD Cert.HidBwdIdeal.τ Cert.HidBwdIdeal.sig) → Buf (Elt Ideal) ℓ) (g : Dev Cert.HidBwdIdeal.nD → PrngReg)
    (m' : (ℓ : Loc Cert.HidGradIdeal.nD Cert.HidGradIdeal.τ Cert.HidGradIdeal.sig) → Buf (Elt Ideal) ℓ) (g' : Dev Cert.HidGradIdeal.nD → PrngReg), Pre_HidBwdIdeal m →
    (∀ c : Dev Cert.HidBwdIdeal.nD,
      m' ((c.tc : Thread Cert.HidGradIdeal.nD Cert.HidGradIdeal.τ).loc Cert.HidGradIdeal.main_arg0) = m ((c.tc : Thread Cert.HidBwdIdeal.nD Cert.HidBwdIdeal.τ).loc Cert.HidBwdIdeal.main_arg0)
      ∧ m' ((c.tc : Thread Cert.HidGradIdeal.nD Cert.HidGradIdeal.τ).loc Cert.HidGradIdeal.main_arg1) = m ((c.tc : Thread Cert.HidBwdIdeal.nD Cert.HidBwdIdeal.τ).loc Cert.HidBwdIdeal.main_arg1)) →
    ∃ (v0 : (c : Dev Cert.HidBwdIdeal.nD) → Buf (Elt Ideal) ((c.tc : Thread Cert.HidBwdIdeal.nD Cert.HidBwdIdeal.τ).loc Cert.HidBwdIdeal.main_v3)),
      θ_run (Cert.HidBwdIdeal.defs (F := Ideal)) (onTc (τ := Cert.HidBwdIdeal.τ) (Cert.HidBwdIdeal.main (F := Ideal))) ⟨m, fun _ => 0, g⟩ (fun r => ∀ c : Dev Cert.HidBwdIdeal.nD,
          r.2.mem ((c.tc : Thread Cert.HidBwdIdeal.nD Cert.HidBwdIdeal.τ).loc Cert.HidBwdIdeal.main_v3) = v0 c
          ∧ r.2.mem ((c.tc : Thread Cert.HidBwdIdeal.nD Cert.HidBwdIdeal.τ).loc Cert.HidBwdIdeal.main_arg0) = m ((c.tc : Thread Cert.HidBwdIdeal.nD Cert.HidBwdIdeal.τ).loc Cert.HidBwdIdeal.main_arg0)
          ∧ r.2.mem ((c.tc : Thread Cert.HidBwdIdeal.nD Cert.HidBwdIdeal.τ).loc Cert.HidBwdIdeal.main_arg1) = m ((c.tc : Thread Cert.HidBwdIdeal.nD Cert.HidBwdIdeal.τ).loc Cert.HidBwdIdeal.main_arg1))
      ∧ θ_run (Cert.HidGradIdeal.defs (F := Ideal)) (onTc (τ := Cert.HidGradIdeal.τ) (Cert.HidGradIdeal.main (F := Ideal))) ⟨m', fun _ => 0, g'⟩ (fun r => ∀ c : Dev Cert.HidGradIdeal.nD,
          r.2.mem ((c.tc : Thread Cert.HidGradIdeal.nD Cert.HidGradIdeal.τ).loc Cert.HidGradIdeal.main_v5) = v0 c
          ∧ r.2.mem ((c.tc : Thread Cert.HidGradIdeal.nD Cert.HidGradIdeal.τ).loc Cert.HidGradIdeal.main_arg0) = m' ((c.tc : Thread Cert.HidGradIdeal.nD Cert.HidGradIdeal.τ).loc Cert.HidGradIdeal.main_arg0)
          ∧ r.2.mem ((c.tc : Thread Cert.HidGradIdeal.nD Cert.HidGradIdeal.τ).loc Cert.HidGradIdeal.main_arg1) = m' ((c.tc : Thread Cert.HidGradIdeal.nD Cert.HidGradIdeal.τ).loc Cert.HidGradIdeal.main_arg1))

def preserves_DownBwd_DownBwdIdeal : Prop :=
  True

def algebraic_DownBwdIdeal_DownGradIdeal [hDownBwdIdeal : Cert.DownBwdIdeal.Facts] [hDownGradIdeal : Cert.DownGradIdeal.Facts] : Prop :=
  ∀ (m : (ℓ : Loc Cert.DownBwdIdeal.nD Cert.DownBwdIdeal.τ Cert.DownBwdIdeal.sig) → Buf (Elt Ideal) ℓ) (g : Dev Cert.DownBwdIdeal.nD → PrngReg)
    (m' : (ℓ : Loc Cert.DownGradIdeal.nD Cert.DownGradIdeal.τ Cert.DownGradIdeal.sig) → Buf (Elt Ideal) ℓ) (g' : Dev Cert.DownGradIdeal.nD → PrngReg), Pre_DownBwdIdeal m →
    (∀ c : Dev Cert.DownBwdIdeal.nD,
      m' ((c.tc : Thread Cert.DownGradIdeal.nD Cert.DownGradIdeal.τ).loc Cert.DownGradIdeal.main_arg0) = m ((c.tc : Thread Cert.DownBwdIdeal.nD Cert.DownBwdIdeal.τ).loc Cert.DownBwdIdeal.main_arg0)
      ∧ m' ((c.tc : Thread Cert.DownGradIdeal.nD Cert.DownGradIdeal.τ).loc Cert.DownGradIdeal.main_arg1) = m ((c.tc : Thread Cert.DownBwdIdeal.nD Cert.DownBwdIdeal.τ).loc Cert.DownBwdIdeal.main_arg1)) →
    ∃ (v0 : (c : Dev Cert.DownBwdIdeal.nD) → Buf (Elt Ideal) ((c.tc : Thread Cert.DownBwdIdeal.nD Cert.DownBwdIdeal.τ).loc Cert.DownBwdIdeal.main_v3)),
      θ_run (Cert.DownBwdIdeal.defs (F := Ideal)) (onTc (τ := Cert.DownBwdIdeal.τ) (Cert.DownBwdIdeal.main (F := Ideal))) ⟨m, fun _ => 0, g⟩ (fun r => ∀ c : Dev Cert.DownBwdIdeal.nD,
          r.2.mem ((c.tc : Thread Cert.DownBwdIdeal.nD Cert.DownBwdIdeal.τ).loc Cert.DownBwdIdeal.main_v3) = v0 c
          ∧ r.2.mem ((c.tc : Thread Cert.DownBwdIdeal.nD Cert.DownBwdIdeal.τ).loc Cert.DownBwdIdeal.main_arg0) = m ((c.tc : Thread Cert.DownBwdIdeal.nD Cert.DownBwdIdeal.τ).loc Cert.DownBwdIdeal.main_arg0)
          ∧ r.2.mem ((c.tc : Thread Cert.DownBwdIdeal.nD Cert.DownBwdIdeal.τ).loc Cert.DownBwdIdeal.main_arg1) = m ((c.tc : Thread Cert.DownBwdIdeal.nD Cert.DownBwdIdeal.τ).loc Cert.DownBwdIdeal.main_arg1))
      ∧ θ_run (Cert.DownGradIdeal.defs (F := Ideal)) (onTc (τ := Cert.DownGradIdeal.τ) (Cert.DownGradIdeal.main (F := Ideal))) ⟨m', fun _ => 0, g'⟩ (fun r => ∀ c : Dev Cert.DownGradIdeal.nD,
          r.2.mem ((c.tc : Thread Cert.DownGradIdeal.nD Cert.DownGradIdeal.τ).loc Cert.DownGradIdeal.main_v4) = v0 c
          ∧ r.2.mem ((c.tc : Thread Cert.DownGradIdeal.nD Cert.DownGradIdeal.τ).loc Cert.DownGradIdeal.main_arg0) = m' ((c.tc : Thread Cert.DownGradIdeal.nD Cert.DownGradIdeal.τ).loc Cert.DownGradIdeal.main_arg0)
          ∧ r.2.mem ((c.tc : Thread Cert.DownGradIdeal.nD Cert.DownGradIdeal.τ).loc Cert.DownGradIdeal.main_arg1) = m' ((c.tc : Thread Cert.DownGradIdeal.nD Cert.DownGradIdeal.τ).loc Cert.DownGradIdeal.main_arg1))

def preserves_OutBwd_OutBwdIdeal : Prop :=
  True

def algebraic_OutBwdIdeal_OutGradIdeal [hOutBwdIdeal : Cert.OutBwdIdeal.Facts] [hOutGradIdeal : Cert.OutGradIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutGradIdeal.nD Cert.OutGradIdeal.τ Cert.OutGradIdeal.sig) → Buf (Elt Ideal) ℓ) (g' : Dev Cert.OutGradIdeal.nD → PrngReg), Pre_OutBwdIdeal m →
    (∀ c : Dev Cert.OutBwdIdeal.nD,
      m' ((c.tc : Thread Cert.OutGradIdeal.nD Cert.OutGradIdeal.τ).loc Cert.OutGradIdeal.main_arg0) = m ((c.tc : Thread Cert.OutBwdIdeal.nD Cert.OutBwdIdeal.τ).loc Cert.OutBwdIdeal.main_arg0)
      ∧ m' ((c.tc : Thread Cert.OutGradIdeal.nD Cert.OutGradIdeal.τ).loc Cert.OutGradIdeal.main_arg1) = m ((c.tc : Thread Cert.OutBwdIdeal.nD Cert.OutBwdIdeal.τ).loc Cert.OutBwdIdeal.main_arg1)
      ∧ m' ((c.tc : Thread Cert.OutGradIdeal.nD Cert.OutGradIdeal.τ).loc Cert.OutGradIdeal.main_arg2) = m ((c.tc : Thread Cert.OutBwdIdeal.nD Cert.OutBwdIdeal.τ).loc Cert.OutBwdIdeal.main_arg2)) →
    ∃ (v0 : (c : Dev Cert.OutBwdIdeal.nD) → Buf (Elt Ideal) ((c.tc : Thread Cert.OutBwdIdeal.nD Cert.OutBwdIdeal.τ).loc Cert.OutBwdIdeal.main_v5)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v5) = v0 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
          ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2))
      ∧ θ_run (Cert.OutGradIdeal.defs (F := Ideal)) (onTc (τ := Cert.OutGradIdeal.τ) (Cert.OutGradIdeal.main (F := Ideal))) ⟨m', fun _ => 0, g'⟩ (fun r => ∀ c : Dev Cert.OutGradIdeal.nD,
          r.2.mem ((c.tc : Thread Cert.OutGradIdeal.nD Cert.OutGradIdeal.τ).loc Cert.OutGradIdeal.main_v5) = v0 c
          ∧ r.2.mem ((c.tc : Thread Cert.OutGradIdeal.nD Cert.OutGradIdeal.τ).loc Cert.OutGradIdeal.main_arg0) = m' ((c.tc : Thread Cert.OutGradIdeal.nD Cert.OutGradIdeal.τ).loc Cert.OutGradIdeal.main_arg0)
          ∧ r.2.mem ((c.tc : Thread Cert.OutGradIdeal.nD Cert.OutGradIdeal.τ).loc Cert.OutGradIdeal.main_arg1) = m' ((c.tc : Thread Cert.OutGradIdeal.nD Cert.OutGradIdeal.τ).loc Cert.OutGradIdeal.main_arg1)
          ∧ r.2.mem ((c.tc : Thread Cert.OutGradIdeal.nD Cert.OutGradIdeal.τ).loc Cert.OutGradIdeal.main_arg2) = m' ((c.tc : Thread Cert.OutGradIdeal.nD Cert.OutGradIdeal.τ).loc Cert.OutGradIdeal.main_arg2))

def preserves_InBwd_InBwdIdeal : Prop :=
  True

def algebraic_InBwdIdeal_InGradIdeal [hInBwdIdeal : Cert.InBwdIdeal.Facts] [hInGradIdeal : Cert.InGradIdeal.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InGradIdeal.nD Cert.InGradIdeal.τ Cert.InGradIdeal.sig) → Buf (Elt Ideal) ℓ) (g' : Dev Cert.InGradIdeal.nD → PrngReg), Pre_InBwdIdeal m →
    (∀ c : Dev Cert.InBwdIdeal.nD,
      m' ((c.tc : Thread Cert.InGradIdeal.nD Cert.InGradIdeal.τ).loc Cert.InGradIdeal.main_arg0) = m ((c.tc : Thread Cert.InBwdIdeal.nD Cert.InBwdIdeal.τ).loc Cert.InBwdIdeal.main_arg0)
      ∧ m' ((c.tc : Thread Cert.InGradIdeal.nD Cert.InGradIdeal.τ).loc Cert.InGradIdeal.main_arg1) = m ((c.tc : Thread Cert.InBwdIdeal.nD Cert.InBwdIdeal.τ).loc Cert.InBwdIdeal.main_arg1)
      ∧ m' ((c.tc : Thread Cert.InGradIdeal.nD Cert.InGradIdeal.τ).loc Cert.InGradIdeal.main_arg2) = m ((c.tc : Thread Cert.InBwdIdeal.nD Cert.InBwdIdeal.τ).loc Cert.InBwdIdeal.main_arg2)
      ∧ m' ((c.tc : Thread Cert.InGradIdeal.nD Cert.InGradIdeal.τ).loc Cert.InGradIdeal.main_arg3) = m ((c.tc : Thread Cert.InBwdIdeal.nD Cert.InBwdIdeal.τ).loc Cert.InBwdIdeal.main_arg3)
      ∧ m' ((c.tc : Thread Cert.InGradIdeal.nD Cert.InGradIdeal.τ).loc Cert.InGradIdeal.main_arg4) = m ((c.tc : Thread Cert.InBwdIdeal.nD Cert.InBwdIdeal.τ).loc Cert.InBwdIdeal.main_arg4)) →
    ∃ (v0 : (c : Dev Cert.InBwdIdeal.nD) → Buf (Elt Ideal) ((c.tc : Thread Cert.InBwdIdeal.nD Cert.InBwdIdeal.τ).loc Cert.InBwdIdeal.main_v6)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v6) = v0 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ θ_run (Cert.InGradIdeal.defs (F := Ideal)) (onTc (τ := Cert.InGradIdeal.τ) (Cert.InGradIdeal.main (F := Ideal))) ⟨m', fun _ => 0, g'⟩ (fun r => ∀ c : Dev Cert.InGradIdeal.nD,
          r.2.mem ((c.tc : Thread Cert.InGradIdeal.nD Cert.InGradIdeal.τ).loc Cert.InGradIdeal.main_v13) = v0 c
          ∧ r.2.mem ((c.tc : Thread Cert.InGradIdeal.nD Cert.InGradIdeal.τ).loc Cert.InGradIdeal.main_arg0) = m' ((c.tc : Thread Cert.InGradIdeal.nD Cert.InGradIdeal.τ).loc Cert.InGradIdeal.main_arg0)
          ∧ r.2.mem ((c.tc : Thread Cert.InGradIdeal.nD Cert.InGradIdeal.τ).loc Cert.InGradIdeal.main_arg1) = m' ((c.tc : Thread Cert.InGradIdeal.nD Cert.InGradIdeal.τ).loc Cert.InGradIdeal.main_arg1)
          ∧ r.2.mem ((c.tc : Thread Cert.InGradIdeal.nD Cert.InGradIdeal.τ).loc Cert.InGradIdeal.main_arg2) = m' ((c.tc : Thread Cert.InGradIdeal.nD Cert.InGradIdeal.τ).loc Cert.InGradIdeal.main_arg2)
          ∧ r.2.mem ((c.tc : Thread Cert.InGradIdeal.nD Cert.InGradIdeal.τ).loc Cert.InGradIdeal.main_arg3) = m' ((c.tc : Thread Cert.InGradIdeal.nD Cert.InGradIdeal.τ).loc Cert.InGradIdeal.main_arg3)
          ∧ r.2.mem ((c.tc : Thread Cert.InGradIdeal.nD Cert.InGradIdeal.τ).loc Cert.InGradIdeal.main_arg4) = m' ((c.tc : Thread Cert.InGradIdeal.nD Cert.InGradIdeal.τ).loc Cert.InGradIdeal.main_arg4))

def preserves_InLateBwd_InLateBwdIdeal : Prop :=
  True

def algebraic_InLateBwdIdeal_InLateGradIdeal [hInLateBwdIdeal : Cert.InLateBwdIdeal.Facts] [hInLateGradIdeal : Cert.InLateGradIdeal.Facts] : Prop :=
  ∀ (m : (ℓ : Loc Cert.InLateBwdIdeal.nD Cert.InLateBwdIdeal.τ Cert.InLateBwdIdeal.sig) → Buf (Elt Ideal) ℓ) (g : Dev Cert.InLateBwdIdeal.nD → PrngReg)
    (m' : (ℓ : Loc Cert.InLateGradIdeal.nD Cert.InLateGradIdeal.τ Cert.InLateGradIdeal.sig) → Buf (Elt Ideal) ℓ) (g' : Dev Cert.InLateGradIdeal.nD → PrngReg), Pre_InLateBwdIdeal m →
    (∀ c : Dev Cert.InLateBwdIdeal.nD,
      m' ((c.tc : Thread Cert.InLateGradIdeal.nD Cert.InLateGradIdeal.τ).loc Cert.InLateGradIdeal.main_arg0) = m ((c.tc : Thread Cert.InLateBwdIdeal.nD Cert.InLateBwdIdeal.τ).loc Cert.InLateBwdIdeal.main_arg0)
      ∧ m' ((c.tc : Thread Cert.InLateGradIdeal.nD Cert.InLateGradIdeal.τ).loc Cert.InLateGradIdeal.main_arg1) = m ((c.tc : Thread Cert.InLateBwdIdeal.nD Cert.InLateBwdIdeal.τ).loc Cert.InLateBwdIdeal.main_arg1)
      ∧ m' ((c.tc : Thread Cert.InLateGradIdeal.nD Cert.InLateGradIdeal.τ).loc Cert.InLateGradIdeal.main_arg2) = m ((c.tc : Thread Cert.InLateBwdIdeal.nD Cert.InLateBwdIdeal.τ).loc Cert.InLateBwdIdeal.main_arg2)
      ∧ m' ((c.tc : Thread Cert.InLateGradIdeal.nD Cert.InLateGradIdeal.τ).loc Cert.InLateGradIdeal.main_arg3) = m ((c.tc : Thread Cert.InLateBwdIdeal.nD Cert.InLateBwdIdeal.τ).loc Cert.InLateBwdIdeal.main_arg3)
      ∧ m' ((c.tc : Thread Cert.InLateGradIdeal.nD Cert.InLateGradIdeal.τ).loc Cert.InLateGradIdeal.main_arg4) = m ((c.tc : Thread Cert.InLateBwdIdeal.nD Cert.InLateBwdIdeal.τ).loc Cert.InLateBwdIdeal.main_arg4)) →
    ∃ (v0 : (c : Dev Cert.InLateBwdIdeal.nD) → Buf (Elt Ideal) ((c.tc : Thread Cert.InLateBwdIdeal.nD Cert.InLateBwdIdeal.τ).loc Cert.InLateBwdIdeal.main_v7)),
      θ_run (Cert.InLateBwdIdeal.defs (F := Ideal)) (onTc (τ := Cert.InLateBwdIdeal.τ) (Cert.InLateBwdIdeal.main (F := Ideal))) ⟨m, fun _ => 0, g⟩ (fun r => ∀ c : Dev Cert.InLateBwdIdeal.nD,
          r.2.mem ((c.tc : Thread Cert.InLateBwdIdeal.nD Cert.InLateBwdIdeal.τ).loc Cert.InLateBwdIdeal.main_v7) = v0 c
          ∧ r.2.mem ((c.tc : Thread Cert.InLateBwdIdeal.nD Cert.InLateBwdIdeal.τ).loc Cert.InLateBwdIdeal.main_arg0) = m ((c.tc : Thread Cert.InLateBwdIdeal.nD Cert.InLateBwdIdeal.τ).loc Cert.InLateBwdIdeal.main_arg0)
          ∧ r.2.mem ((c.tc : Thread Cert.InLateBwdIdeal.nD Cert.InLateBwdIdeal.τ).loc Cert.InLateBwdIdeal.main_arg1) = m ((c.tc : Thread Cert.InLateBwdIdeal.nD Cert.InLateBwdIdeal.τ).loc Cert.InLateBwdIdeal.main_arg1)
          ∧ r.2.mem ((c.tc : Thread Cert.InLateBwdIdeal.nD Cert.InLateBwdIdeal.τ).loc Cert.InLateBwdIdeal.main_arg2) = m ((c.tc : Thread Cert.InLateBwdIdeal.nD Cert.InLateBwdIdeal.τ).loc Cert.InLateBwdIdeal.main_arg2)
          ∧ r.2.mem ((c.tc : Thread Cert.InLateBwdIdeal.nD Cert.InLateBwdIdeal.τ).loc Cert.InLateBwdIdeal.main_arg3) = m ((c.tc : Thread Cert.InLateBwdIdeal.nD Cert.InLateBwdIdeal.τ).loc Cert.InLateBwdIdeal.main_arg3)
          ∧ r.2.mem ((c.tc : Thread Cert.InLateBwdIdeal.nD Cert.InLateBwdIdeal.τ).loc Cert.InLateBwdIdeal.main_arg4) = m ((c.tc : Thread Cert.InLateBwdIdeal.nD Cert.InLateBwdIdeal.τ).loc Cert.InLateBwdIdeal.main_arg4))
      ∧ θ_run (Cert.InLateGradIdeal.defs (F := Ideal)) (onTc (τ := Cert.InLateGradIdeal.τ) (Cert.InLateGradIdeal.main (F := Ideal))) ⟨m', fun _ => 0, g'⟩ (fun r => ∀ c : Dev Cert.InLateGradIdeal.nD,
          r.2.mem ((c.tc : Thread Cert.InLateGradIdeal.nD Cert.InLateGradIdeal.τ).loc Cert.InLateGradIdeal.main_v13) = v0 c
          ∧ r.2.mem ((c.tc : Thread Cert.InLateGradIdeal.nD Cert.InLateGradIdeal.τ).loc Cert.InLateGradIdeal.main_arg0) = m' ((c.tc : Thread Cert.InLateGradIdeal.nD Cert.InLateGradIdeal.τ).loc Cert.InLateGradIdeal.main_arg0)
          ∧ r.2.mem ((c.tc : Thread Cert.InLateGradIdeal.nD Cert.InLateGradIdeal.τ).loc Cert.InLateGradIdeal.main_arg1) = m' ((c.tc : Thread Cert.InLateGradIdeal.nD Cert.InLateGradIdeal.τ).loc Cert.InLateGradIdeal.main_arg1)
          ∧ r.2.mem ((c.tc : Thread Cert.InLateGradIdeal.nD Cert.InLateGradIdeal.τ).loc Cert.InLateGradIdeal.main_arg2) = m' ((c.tc : Thread Cert.InLateGradIdeal.nD Cert.InLateGradIdeal.τ).loc Cert.InLateGradIdeal.main_arg2)
          ∧ r.2.mem ((c.tc : Thread Cert.InLateGradIdeal.nD Cert.InLateGradIdeal.τ).loc Cert.InLateGradIdeal.main_arg3) = m' ((c.tc : Thread Cert.InLateGradIdeal.nD Cert.InLateGradIdeal.τ).loc Cert.InLateGradIdeal.main_arg3)
          ∧ r.2.mem ((c.tc : Thread Cert.InLateGradIdeal.nD Cert.InLateGradIdeal.τ).loc Cert.InLateGradIdeal.main_arg4) = m' ((c.tc : Thread Cert.InLateGradIdeal.nD Cert.InLateGradIdeal.τ).loc Cert.InLateGradIdeal.main_arg4))

def preserves_InOddBwd_InOddBwdIdeal : Prop :=
  True

def algebraic_InOddBwdIdeal_InOddGradIdeal [hInOddBwdIdeal : Cert.InOddBwdIdeal.Facts] [hInOddGradIdeal : Cert.InOddGradIdeal.Facts] : Prop :=
  ∀ (m : (ℓ : Loc Cert.InOddBwdIdeal.nD Cert.InOddBwdIdeal.τ Cert.InOddBwdIdeal.sig) → Buf (Elt Ideal) ℓ) (g : Dev Cert.InOddBwdIdeal.nD → PrngReg)
    (m' : (ℓ : Loc Cert.InOddGradIdeal.nD Cert.InOddGradIdeal.τ Cert.InOddGradIdeal.sig) → Buf (Elt Ideal) ℓ) (g' : Dev Cert.InOddGradIdeal.nD → PrngReg), Pre_InOddBwdIdeal m →
    (∀ c : Dev Cert.InOddBwdIdeal.nD,
      m' ((c.tc : Thread Cert.InOddGradIdeal.nD Cert.InOddGradIdeal.τ).loc Cert.InOddGradIdeal.main_arg0) = m ((c.tc : Thread Cert.InOddBwdIdeal.nD Cert.InOddBwdIdeal.τ).loc Cert.InOddBwdIdeal.main_arg0)
      ∧ m' ((c.tc : Thread Cert.InOddGradIdeal.nD Cert.InOddGradIdeal.τ).loc Cert.InOddGradIdeal.main_arg1) = m ((c.tc : Thread Cert.InOddBwdIdeal.nD Cert.InOddBwdIdeal.τ).loc Cert.InOddBwdIdeal.main_arg1)
      ∧ m' ((c.tc : Thread Cert.InOddGradIdeal.nD Cert.InOddGradIdeal.τ).loc Cert.InOddGradIdeal.main_arg2) = m ((c.tc : Thread Cert.InOddBwdIdeal.nD Cert.InOddBwdIdeal.τ).loc Cert.InOddBwdIdeal.main_arg2)
      ∧ m' ((c.tc : Thread Cert.InOddGradIdeal.nD Cert.InOddGradIdeal.τ).loc Cert.InOddGradIdeal.main_arg3) = m ((c.tc : Thread Cert.InOddBwdIdeal.nD Cert.InOddBwdIdeal.τ).loc Cert.InOddBwdIdeal.main_arg3)) →
    ∃ (v0 : (c : Dev Cert.InOddBwdIdeal.nD) → Buf (Elt Ideal) ((c.tc : Thread Cert.InOddBwdIdeal.nD Cert.InOddBwdIdeal.τ).loc Cert.InOddBwdIdeal.main_v6)),
      θ_run (Cert.InOddBwdIdeal.defs (F := Ideal)) (onTc (τ := Cert.InOddBwdIdeal.τ) (Cert.InOddBwdIdeal.main (F := Ideal))) ⟨m, fun _ => 0, g⟩ (fun r => ∀ c : Dev Cert.InOddBwdIdeal.nD,
          r.2.mem ((c.tc : Thread Cert.InOddBwdIdeal.nD Cert.InOddBwdIdeal.τ).loc Cert.InOddBwdIdeal.main_v6) = v0 c
          ∧ r.2.mem ((c.tc : Thread Cert.InOddBwdIdeal.nD Cert.InOddBwdIdeal.τ).loc Cert.InOddBwdIdeal.main_arg0) = m ((c.tc : Thread Cert.InOddBwdIdeal.nD Cert.InOddBwdIdeal.τ).loc Cert.InOddBwdIdeal.main_arg0)
          ∧ r.2.mem ((c.tc : Thread Cert.InOddBwdIdeal.nD Cert.InOddBwdIdeal.τ).loc Cert.InOddBwdIdeal.main_arg1) = m ((c.tc : Thread Cert.InOddBwdIdeal.nD Cert.InOddBwdIdeal.τ).loc Cert.InOddBwdIdeal.main_arg1)
          ∧ r.2.mem ((c.tc : Thread Cert.InOddBwdIdeal.nD Cert.InOddBwdIdeal.τ).loc Cert.InOddBwdIdeal.main_arg2) = m ((c.tc : Thread Cert.InOddBwdIdeal.nD Cert.InOddBwdIdeal.τ).loc Cert.InOddBwdIdeal.main_arg2)
          ∧ r.2.mem ((c.tc : Thread Cert.InOddBwdIdeal.nD Cert.InOddBwdIdeal.τ).loc Cert.InOddBwdIdeal.main_arg3) = m ((c.tc : Thread Cert.InOddBwdIdeal.nD Cert.InOddBwdIdeal.τ).loc Cert.InOddBwdIdeal.main_arg3))
      ∧ θ_run (Cert.InOddGradIdeal.defs (F := Ideal)) (onTc (τ := Cert.InOddGradIdeal.τ) (Cert.InOddGradIdeal.main (F := Ideal))) ⟨m', fun _ => 0, g'⟩ (fun r => ∀ c : Dev Cert.InOddGradIdeal.nD,
          r.2.mem ((c.tc : Thread Cert.InOddGradIdeal.nD Cert.InOddGradIdeal.τ).loc Cert.InOddGradIdeal.main_v11) = v0 c
          ∧ r.2.mem ((c.tc : Thread Cert.InOddGradIdeal.nD Cert.InOddGradIdeal.τ).loc Cert.InOddGradIdeal.main_arg0) = m' ((c.tc : Thread Cert.InOddGradIdeal.nD Cert.InOddGradIdeal.τ).loc Cert.InOddGradIdeal.main_arg0)
          ∧ r.2.mem ((c.tc : Thread Cert.InOddGradIdeal.nD Cert.InOddGradIdeal.τ).loc Cert.InOddGradIdeal.main_arg1) = m' ((c.tc : Thread Cert.InOddGradIdeal.nD Cert.InOddGradIdeal.τ).loc Cert.InOddGradIdeal.main_arg1)
          ∧ r.2.mem ((c.tc : Thread Cert.InOddGradIdeal.nD Cert.InOddGradIdeal.τ).loc Cert.InOddGradIdeal.main_arg2) = m' ((c.tc : Thread Cert.InOddGradIdeal.nD Cert.InOddGradIdeal.τ).loc Cert.InOddGradIdeal.main_arg2)
          ∧ r.2.mem ((c.tc : Thread Cert.InOddGradIdeal.nD Cert.InOddGradIdeal.τ).loc Cert.InOddGradIdeal.main_arg3) = m' ((c.tc : Thread Cert.InOddGradIdeal.nD Cert.InOddGradIdeal.τ).loc Cert.InOddGradIdeal.main_arg3))

def preserves_InLateFwd_InLateFwdIdeal : Prop :=
  True

def algebraic_InLateFwdIdeal_InLateFwdRefIdeal [hInLateFwdIdeal : Cert.InLateFwdIdeal.Facts] [hInLateFwdRefIdeal : Cert.InLateFwdRefIdeal.Facts] : Prop :=
  ∀ (m : (ℓ : Loc Cert.InLateFwdIdeal.nD Cert.InLateFwdIdeal.τ Cert.InLateFwdIdeal.sig) → Buf (Elt Ideal) ℓ) (g : Dev Cert.InLateFwdIdeal.nD → PrngReg)
    (m' : (ℓ : Loc Cert.InLateFwdRefIdeal.nD Cert.InLateFwdRefIdeal.τ Cert.InLateFwdRefIdeal.sig) → Buf (Elt Ideal) ℓ) (g' : Dev Cert.InLateFwdRefIdeal.nD → PrngReg), Pre_InLateFwdIdeal m →
    (∀ c : Dev Cert.InLateFwdIdeal.nD,
      m' ((c.tc : Thread Cert.InLateFwdRefIdeal.nD Cert.InLateFwdRefIdeal.τ).loc Cert.InLateFwdRefIdeal.main_arg0) = m ((c.tc : Thread Cert.InLateFwdIdeal.nD Cert.InLateFwdIdeal.τ).loc Cert.InLateFwdIdeal.main_arg0)
      ∧ m' ((c.tc : Thread Cert.InLateFwdRefIdeal.nD Cert.InLateFwdRefIdeal.τ).loc Cert.InLateFwdRefIdeal.main_arg1) = m ((c.tc : Thread Cert.InLateFwdIdeal.nD Cert.InLateFwdIdeal.τ).loc Cert.InLateFwdIdeal.main_arg1)) →
    ∃ (v0 : (c : Dev Cert.InLateFwdIdeal.nD) → Buf (Elt Ideal) ((c.tc : Thread Cert.InLateFwdIdeal.nD Cert.InLateFwdIdeal.τ).loc Cert.InLateFwdIdeal.main_v4)),
      θ_run (Cert.InLateFwdIdeal.defs (F := Ideal)) (onTc (τ := Cert.InLateFwdIdeal.τ) (Cert.InLateFwdIdeal.main (F := Ideal))) ⟨m, fun _ => 0, g⟩ (fun r => ∀ c : Dev Cert.InLateFwdIdeal.nD,
          r.2.mem ((c.tc : Thread Cert.InLateFwdIdeal.nD Cert.InLateFwdIdeal.τ).loc Cert.InLateFwdIdeal.main_v4) = v0 c
          ∧ r.2.mem ((c.tc : Thread Cert.InLateFwdIdeal.nD Cert.InLateFwdIdeal.τ).loc Cert.InLateFwdIdeal.main_arg0) = m ((c.tc : Thread Cert.InLateFwdIdeal.nD Cert.InLateFwdIdeal.τ).loc Cert.InLateFwdIdeal.main_arg0)
          ∧ r.2.mem ((c.tc : Thread Cert.InLateFwdIdeal.nD Cert.InLateFwdIdeal.τ).loc Cert.InLateFwdIdeal.main_arg1) = m ((c.tc : Thread Cert.InLateFwdIdeal.nD Cert.InLateFwdIdeal.τ).loc Cert.InLateFwdIdeal.main_arg1))
      ∧ θ_run (Cert.InLateFwdRefIdeal.defs (F := Ideal)) (onTc (τ := Cert.InLateFwdRefIdeal.τ) (Cert.InLateFwdRefIdeal.main (F := Ideal))) ⟨m', fun _ => 0, g'⟩ (fun r => ∀ c : Dev Cert.InLateFwdRefIdeal.nD,
          r.2.mem ((c.tc : Thread Cert.InLateFwdRefIdeal.nD Cert.InLateFwdRefIdeal.τ).loc Cert.InLateFwdRefIdeal.main_v1) = v0 c
          ∧ r.2.mem ((c.tc : Thread Cert.InLateFwdRefIdeal.nD Cert.InLateFwdRefIdeal.τ).loc Cert.InLateFwdRefIdeal.main_arg0) = m' ((c.tc : Thread Cert.InLateFwdRefIdeal.nD Cert.InLateFwdRefIdeal.τ).loc Cert.InLateFwdRefIdeal.main_arg0)
          ∧ r.2.mem ((c.tc : Thread Cert.InLateFwdRefIdeal.nD Cert.InLateFwdRefIdeal.τ).loc Cert.InLateFwdRefIdeal.main_arg1) = m' ((c.tc : Thread Cert.InLateFwdRefIdeal.nD Cert.InLateFwdRefIdeal.τ).loc Cert.InLateFwdRefIdeal.main_arg1))

def preserves_AdamHid_AdamHidIdeal : Prop :=
  True

def algebraic_AdamHidIdeal_AdamHidRefIdeal [hAdamHidIdeal : Cert.AdamHidIdeal.Facts] [hAdamHidRefIdeal : Cert.AdamHidRefIdeal.Facts] : Prop :=
  ∀ (m : (ℓ : Loc Cert.AdamHidIdeal.nD Cert.AdamHidIdeal.τ Cert.AdamHidIdeal.sig) → Buf (Elt Ideal) ℓ) (g : Dev Cert.AdamHidIdeal.nD → PrngReg)
    (m' : (ℓ : Loc Cert.AdamHidRefIdeal.nD Cert.AdamHidRefIdeal.τ Cert.AdamHidRefIdeal.sig) → Buf (Elt Ideal) ℓ) (g' : Dev Cert.AdamHidRefIdeal.nD → PrngReg), Pre_AdamHidIdeal m →
    (∀ c : Dev Cert.AdamHidIdeal.nD,
      m' ((c.tc : Thread Cert.AdamHidRefIdeal.nD Cert.AdamHidRefIdeal.τ).loc Cert.AdamHidRefIdeal.main_arg0) = m ((c.tc : Thread Cert.AdamHidIdeal.nD Cert.AdamHidIdeal.τ).loc Cert.AdamHidIdeal.main_arg0)
      ∧ m' ((c.tc : Thread Cert.AdamHidRefIdeal.nD Cert.AdamHidRefIdeal.τ).loc Cert.AdamHidRefIdeal.main_arg1) = m ((c.tc : Thread Cert.AdamHidIdeal.nD Cert.AdamHidIdeal.τ).loc Cert.AdamHidIdeal.main_arg1)
      ∧ m' ((c.tc : Thread Cert.AdamHidRefIdeal.nD Cert.AdamHidRefIdeal.τ).loc Cert.AdamHidRefIdeal.main_arg2) = m ((c.tc : Thread Cert.AdamHidIdeal.nD Cert.AdamHidIdeal.τ).loc Cert.AdamHidIdeal.main_arg2)
      ∧ m' ((c.tc : Thread Cert.AdamHidRefIdeal.nD Cert.AdamHidRefIdeal.τ).loc Cert.AdamHidRefIdeal.main_arg3) = m ((c.tc : Thread Cert.AdamHidIdeal.nD Cert.AdamHidIdeal.τ).loc Cert.AdamHidIdeal.main_arg3)) →
    ∃ (v0 : (c : Dev Cert.AdamHidIdeal.nD) → Buf (Elt Ideal) ((c.tc : Thread Cert.AdamHidIdeal.nD Cert.AdamHidIdeal.τ).loc Cert.AdamHidIdeal.main_v4_0)) (v1 : (c : Dev Cert.AdamHidIdeal.nD) → Buf (Elt Ideal) ((c.tc : Thread Cert.AdamHidIdeal.nD Cert.AdamHidIdeal.τ).loc Cert.AdamHidIdeal.main_v4_1)) (v2 : (c : Dev Cert.AdamHidIdeal.nD) → Buf (Elt Ideal) ((c.tc : Thread Cert.AdamHidIdeal.nD Cert.AdamHidIdeal.τ).loc Cert.AdamHidIdeal.main_v4_2)),
      θ_run (Cert.AdamHidIdeal.defs (F := Ideal)) (onTc (τ := Cert.AdamHidIdeal.τ) (Cert.AdamHidIdeal.main (F := Ideal))) ⟨m, fun _ => 0, g⟩ (fun r => ∀ c : Dev Cert.AdamHidIdeal.nD,
          r.2.mem ((c.tc : Thread Cert.AdamHidIdeal.nD Cert.AdamHidIdeal.τ).loc Cert.AdamHidIdeal.main_v4_0) = v0 c
          ∧ r.2.mem ((c.tc : Thread Cert.AdamHidIdeal.nD Cert.AdamHidIdeal.τ).loc Cert.AdamHidIdeal.main_v4_1) = v1 c
          ∧ r.2.mem ((c.tc : Thread Cert.AdamHidIdeal.nD Cert.AdamHidIdeal.τ).loc Cert.AdamHidIdeal.main_v4_2) = v2 c
          ∧ r.2.mem ((c.tc : Thread Cert.AdamHidIdeal.nD Cert.AdamHidIdeal.τ).loc Cert.AdamHidIdeal.main_arg0) = m ((c.tc : Thread Cert.AdamHidIdeal.nD Cert.AdamHidIdeal.τ).loc Cert.AdamHidIdeal.main_arg0)
          ∧ r.2.mem ((c.tc : Thread Cert.AdamHidIdeal.nD Cert.AdamHidIdeal.τ).loc Cert.AdamHidIdeal.main_arg1) = m ((c.tc : Thread Cert.AdamHidIdeal.nD Cert.AdamHidIdeal.τ).loc Cert.AdamHidIdeal.main_arg1)
          ∧ r.2.mem ((c.tc : Thread Cert.AdamHidIdeal.nD Cert.AdamHidIdeal.τ).loc Cert.AdamHidIdeal.main_arg2) = m ((c.tc : Thread Cert.AdamHidIdeal.nD Cert.AdamHidIdeal.τ).loc Cert.AdamHidIdeal.main_arg2)
          ∧ r.2.mem ((c.tc : Thread Cert.AdamHidIdeal.nD Cert.AdamHidIdeal.τ).loc Cert.AdamHidIdeal.main_arg3) = m ((c.tc : Thread Cert.AdamHidIdeal.nD Cert.AdamHidIdeal.τ).loc Cert.AdamHidIdeal.main_arg3))
      ∧ θ_run (Cert.AdamHidRefIdeal.defs (F := Ideal)) (onTc (τ := Cert.AdamHidRefIdeal.τ) (Cert.AdamHidRefIdeal.main (F := Ideal))) ⟨m', fun _ => 0, g'⟩ (fun r => ∀ c : Dev Cert.AdamHidRefIdeal.nD,
          r.2.mem ((c.tc : Thread Cert.AdamHidRefIdeal.nD Cert.AdamHidRefIdeal.τ).loc Cert.AdamHidRefIdeal.main_v24) = v0 c
          ∧ r.2.mem ((c.tc : Thread Cert.AdamHidRefIdeal.nD Cert.AdamHidRefIdeal.τ).loc Cert.AdamHidRefIdeal.main_v25) = v1 c
          ∧ r.2.mem ((c.tc : Thread Cert.AdamHidRefIdeal.nD Cert.AdamHidRefIdeal.τ).loc Cert.AdamHidRefIdeal.main_v26) = v2 c
          ∧ r.2.mem ((c.tc : Thread Cert.AdamHidRefIdeal.nD Cert.AdamHidRefIdeal.τ).loc Cert.AdamHidRefIdeal.main_arg0) = m' ((c.tc : Thread Cert.AdamHidRefIdeal.nD Cert.AdamHidRefIdeal.τ).loc Cert.AdamHidRefIdeal.main_arg0)
          ∧ r.2.mem ((c.tc : Thread Cert.AdamHidRefIdeal.nD Cert.AdamHidRefIdeal.τ).loc Cert.AdamHidRefIdeal.main_arg1) = m' ((c.tc : Thread Cert.AdamHidRefIdeal.nD Cert.AdamHidRefIdeal.τ).loc Cert.AdamHidRefIdeal.main_arg1)
          ∧ r.2.mem ((c.tc : Thread Cert.AdamHidRefIdeal.nD Cert.AdamHidRefIdeal.τ).loc Cert.AdamHidRefIdeal.main_arg2) = m' ((c.tc : Thread Cert.AdamHidRefIdeal.nD Cert.AdamHidRefIdeal.τ).loc Cert.AdamHidRefIdeal.main_arg2)
          ∧ r.2.mem ((c.tc : Thread Cert.AdamHidRefIdeal.nD Cert.AdamHidRefIdeal.τ).loc Cert.AdamHidRefIdeal.main_arg3) = m' ((c.tc : Thread Cert.AdamHidRefIdeal.nD Cert.AdamHidRefIdeal.τ).loc Cert.AdamHidRefIdeal.main_arg3))

def Claim : Prop :=
  ∃ (hMemBwd : Cert.MemBwd.Facts) (hMemBwdIdeal : Cert.MemBwdIdeal.Facts) (hMemGradIdeal : Cert.MemGradIdeal.Facts) (hSguBwd : Cert.SguBwd.Facts) (hSguBwdIdeal : Cert.SguBwdIdeal.Facts) (hSguGradIdeal : Cert.SguGradIdeal.Facts) (hGateBwd : Cert.GateBwd.Facts) (hGateBwdIdeal : Cert.GateBwdIdeal.Facts) (hGateGradIdeal : Cert.GateGradIdeal.Facts) (hFfnIn : Cert.FfnIn.Facts) (hFfnInIdeal : Cert.FfnInIdeal.Facts) (hFfnGradIdeal : Cert.FfnGradIdeal.Facts) (hProjBwd : Cert.ProjBwd.Facts) (hProjBwdIdeal : Cert.ProjBwdIdeal.Facts) (hProjGradIdeal : Cert.ProjGradIdeal.Facts) (hLossBwd : Cert.LossBwd.Facts) (hLossBwdIdeal : Cert.LossBwdIdeal.Facts) (hLossGradIdeal : Cert.LossGradIdeal.Facts) (hMemOddBwd : Cert.MemOddBwd.Facts) (hMemOddBwdIdeal : Cert.MemOddBwdIdeal.Facts) (hMemOddGradIdeal : Cert.MemOddGradIdeal.Facts) (hProjOddBwd : Cert.ProjOddBwd.Facts) (hProjOddBwdIdeal : Cert.ProjOddBwdIdeal.Facts) (hProjOddGradIdeal : Cert.ProjOddGradIdeal.Facts) (hMemFwd : Cert.MemFwd.Facts) (hMemFwdIdeal : Cert.MemFwdIdeal.Facts) (hMemFwdRefIdeal : Cert.MemFwdRefIdeal.Facts) (hMemFwdOdd : Cert.MemFwdOdd.Facts) (hMemFwdOddIdeal : Cert.MemFwdOddIdeal.Facts) (hMemFwdOddRefIdeal : Cert.MemFwdOddRefIdeal.Facts) (hSguFwd : Cert.SguFwd.Facts) (hSguFwdIdeal : Cert.SguFwdIdeal.Facts) (hSguFwdRefIdeal : Cert.SguFwdRefIdeal.Facts) (hUpFwd : Cert.UpFwd.Facts) (hUpFwdIdeal : Cert.UpFwdIdeal.Facts) (hUpFwdRefIdeal : Cert.UpFwdRefIdeal.Facts) (hOutFwd : Cert.OutFwd.Facts) (hOutFwdIdeal : Cert.OutFwdIdeal.Facts) (hOutFwdRefIdeal : Cert.OutFwdRefIdeal.Facts) (hDownFwd : Cert.DownFwd.Facts) (hDownFwdIdeal : Cert.DownFwdIdeal.Facts) (hDownFwdRefIdeal : Cert.DownFwdRefIdeal.Facts) (hXBwd : Cert.XBwd.Facts) (hXBwdIdeal : Cert.XBwdIdeal.Facts) (hXGradIdeal : Cert.XGradIdeal.Facts) (hCatBwd : Cert.CatBwd.Facts) (hCatBwdIdeal : Cert.CatBwdIdeal.Facts) (hCatGradIdeal : Cert.CatGradIdeal.Facts) (hKvFwd : Cert.KvFwd.Facts) (hKvFwdIdeal : Cert.KvFwdIdeal.Facts) (hKvFwdRefIdeal : Cert.KvFwdRefIdeal.Facts) (hInFwd : Cert.InFwd.Facts) (hInFwdIdeal : Cert.InFwdIdeal.Facts) (hInFwdRefIdeal : Cert.InFwdRefIdeal.Facts) (hInOddFwd : Cert.InOddFwd.Facts) (hInOddFwdIdeal : Cert.InOddFwdIdeal.Facts) (hInOddFwdRefIdeal : Cert.InOddFwdRefIdeal.Facts) (hAdam : Cert.Adam.Facts) (hAdamIdeal : Cert.AdamIdeal.Facts) (hAdamRefIdeal : Cert.AdamRefIdeal.Facts) (hKvBwd : Cert.KvBwd.Facts) (hKvBwdIdeal : Cert.KvBwdIdeal.Facts) (hKvGradIdeal : Cert.KvGradIdeal.Facts) (hHidBwd : Cert.HidBwd.Facts) (hHidBwdIdeal : Cert.HidBwdIdeal.Facts) (hHidGradIdeal : Cert.HidGradIdeal.Facts) (hDownBwd : Cert.DownBwd.Facts) (hDownBwdIdeal : Cert.DownBwdIdeal.Facts) (hDownGradIdeal : Cert.DownGradIdeal.Facts) (hOutBwd : Cert.OutBwd.Facts) (hOutBwdIdeal : Cert.OutBwdIdeal.Facts) (hOutGradIdeal : Cert.OutGradIdeal.Facts) (hInBwd : Cert.InBwd.Facts) (hInBwdIdeal : Cert.InBwdIdeal.Facts) (hInGradIdeal : Cert.InGradIdeal.Facts) (hInLateBwd : Cert.InLateBwd.Facts) (hInLateBwdIdeal : Cert.InLateBwdIdeal.Facts) (hInLateGradIdeal : Cert.InLateGradIdeal.Facts) (hInOddBwd : Cert.InOddBwd.Facts) (hInOddBwdIdeal : Cert.InOddBwdIdeal.Facts) (hInOddGradIdeal : Cert.InOddGradIdeal.Facts) (hInLateFwd : Cert.InLateFwd.Facts) (hInLateFwdIdeal : Cert.InLateFwdIdeal.Facts) (hInLateFwdRefIdeal : Cert.InLateFwdRefIdeal.Facts) (hAdamHid : Cert.AdamHid.Facts) (hAdamHidIdeal : Cert.AdamHidIdeal.Facts) (hAdamHidRefIdeal : Cert.AdamHidRefIdeal.Facts) (hPre_mem_finite : Cert.Pre_mem_finite.Facts) (hPre_sgu_finite : Cert.Pre_sgu_finite.Facts) (hPre_gate_finite : Cert.Pre_gate_finite.Facts) (hPre_ffn_in_finite : Cert.Pre_ffn_in_finite.Facts) (hPre_proj_finite : Cert.Pre_proj_finite.Facts) (hPre_loss_finite : Cert.Pre_loss_finite.Facts) (hPre_mem_odd_finite : Cert.Pre_mem_odd_finite.Facts) (hPre_proj_odd_finite : Cert.Pre_proj_odd_finite.Facts) (hPre_mem_fwd_finite : Cert.Pre_mem_fwd_finite.Facts) (hPre_mem_fwd_odd_finite : Cert.Pre_mem_fwd_odd_finite.Facts) (hPre_sgu_fwd_finite : Cert.Pre_sgu_fwd_finite.Facts) (hPre_up_finite : Cert.Pre_up_finite.Facts),
    quiescent_MemBwd (hMemBwd := hMemBwd)
    ∧ quiescent_MemBwdIdeal (hMemBwdIdeal := hMemBwdIdeal)
    ∧ quiescent_MemBwdIdeal_pre_mem_finite (hMemBwdIdeal := hMemBwdIdeal) (hPre_mem_finite := hPre_mem_finite)
    ∧ quiescent_MemGradIdeal (hMemGradIdeal := hMemGradIdeal)
    ∧ quiescent_MemGradIdeal_pre_mem_finite (hMemGradIdeal := hMemGradIdeal) (hPre_mem_finite := hPre_mem_finite)
    ∧ quiescent_SguBwd (hSguBwd := hSguBwd)
    ∧ quiescent_SguBwdIdeal (hSguBwdIdeal := hSguBwdIdeal)
    ∧ quiescent_SguBwdIdeal_pre_sgu_finite (hSguBwdIdeal := hSguBwdIdeal) (hPre_sgu_finite := hPre_sgu_finite)
    ∧ quiescent_SguGradIdeal (hSguGradIdeal := hSguGradIdeal)
    ∧ quiescent_SguGradIdeal_pre_sgu_finite (hSguGradIdeal := hSguGradIdeal) (hPre_sgu_finite := hPre_sgu_finite)
    ∧ quiescent_GateBwd (hGateBwd := hGateBwd)
    ∧ quiescent_GateBwdIdeal (hGateBwdIdeal := hGateBwdIdeal)
    ∧ quiescent_GateBwdIdeal_pre_gate_finite (hGateBwdIdeal := hGateBwdIdeal) (hPre_gate_finite := hPre_gate_finite)
    ∧ quiescent_GateGradIdeal (hGateGradIdeal := hGateGradIdeal)
    ∧ quiescent_GateGradIdeal_pre_gate_finite (hGateGradIdeal := hGateGradIdeal) (hPre_gate_finite := hPre_gate_finite)
    ∧ quiescent_FfnIn (hFfnIn := hFfnIn)
    ∧ quiescent_FfnInIdeal (hFfnInIdeal := hFfnInIdeal)
    ∧ quiescent_FfnInIdeal_pre_ffn_in_finite (hFfnInIdeal := hFfnInIdeal) (hPre_ffn_in_finite := hPre_ffn_in_finite)
    ∧ quiescent_FfnGradIdeal (hFfnGradIdeal := hFfnGradIdeal)
    ∧ quiescent_FfnGradIdeal_pre_ffn_in_finite (hFfnGradIdeal := hFfnGradIdeal) (hPre_ffn_in_finite := hPre_ffn_in_finite)
    ∧ quiescent_ProjBwd (hProjBwd := hProjBwd)
    ∧ quiescent_ProjBwdIdeal (hProjBwdIdeal := hProjBwdIdeal)
    ∧ quiescent_ProjBwdIdeal_pre_proj_finite (hProjBwdIdeal := hProjBwdIdeal) (hPre_proj_finite := hPre_proj_finite)
    ∧ quiescent_ProjGradIdeal (hProjGradIdeal := hProjGradIdeal)
    ∧ quiescent_ProjGradIdeal_pre_proj_finite (hProjGradIdeal := hProjGradIdeal) (hPre_proj_finite := hPre_proj_finite)
    ∧ quiescent_LossBwd (hLossBwd := hLossBwd)
    ∧ quiescent_LossBwdIdeal (hLossBwdIdeal := hLossBwdIdeal)
    ∧ quiescent_LossBwdIdeal_pre_loss_finite (hLossBwdIdeal := hLossBwdIdeal) (hPre_loss_finite := hPre_loss_finite)
    ∧ quiescent_LossGradIdeal (hLossGradIdeal := hLossGradIdeal)
    ∧ quiescent_LossGradIdeal_pre_loss_finite (hLossGradIdeal := hLossGradIdeal) (hPre_loss_finite := hPre_loss_finite)
    ∧ quiescent_MemOddBwd (hMemOddBwd := hMemOddBwd)
    ∧ quiescent_MemOddBwdIdeal (hMemOddBwdIdeal := hMemOddBwdIdeal)
    ∧ quiescent_MemOddBwdIdeal_pre_mem_odd_finite (hMemOddBwdIdeal := hMemOddBwdIdeal) (hPre_mem_odd_finite := hPre_mem_odd_finite)
    ∧ quiescent_MemOddGradIdeal (hMemOddGradIdeal := hMemOddGradIdeal)
    ∧ quiescent_MemOddGradIdeal_pre_mem_odd_finite (hMemOddGradIdeal := hMemOddGradIdeal) (hPre_mem_odd_finite := hPre_mem_odd_finite)
    ∧ quiescent_ProjOddBwd (hProjOddBwd := hProjOddBwd)
    ∧ quiescent_ProjOddBwdIdeal (hProjOddBwdIdeal := hProjOddBwdIdeal)
    ∧ quiescent_ProjOddBwdIdeal_pre_proj_odd_finite (hProjOddBwdIdeal := hProjOddBwdIdeal) (hPre_proj_odd_finite := hPre_proj_odd_finite)
    ∧ quiescent_ProjOddGradIdeal (hProjOddGradIdeal := hProjOddGradIdeal)
    ∧ quiescent_ProjOddGradIdeal_pre_proj_odd_finite (hProjOddGradIdeal := hProjOddGradIdeal) (hPre_proj_odd_finite := hPre_proj_odd_finite)
    ∧ quiescent_MemFwd (hMemFwd := hMemFwd)
    ∧ quiescent_MemFwdIdeal (hMemFwdIdeal := hMemFwdIdeal)
    ∧ quiescent_MemFwdIdeal_pre_mem_fwd_finite (hMemFwdIdeal := hMemFwdIdeal) (hPre_mem_fwd_finite := hPre_mem_fwd_finite)
    ∧ quiescent_MemFwdRefIdeal (hMemFwdRefIdeal := hMemFwdRefIdeal)
    ∧ quiescent_MemFwdRefIdeal_pre_mem_fwd_finite (hMemFwdRefIdeal := hMemFwdRefIdeal) (hPre_mem_fwd_finite := hPre_mem_fwd_finite)
    ∧ quiescent_MemFwdOdd (hMemFwdOdd := hMemFwdOdd)
    ∧ quiescent_MemFwdOddIdeal (hMemFwdOddIdeal := hMemFwdOddIdeal)
    ∧ quiescent_MemFwdOddIdeal_pre_mem_fwd_odd_finite (hMemFwdOddIdeal := hMemFwdOddIdeal) (hPre_mem_fwd_odd_finite := hPre_mem_fwd_odd_finite)
    ∧ quiescent_MemFwdOddRefIdeal (hMemFwdOddRefIdeal := hMemFwdOddRefIdeal)
    ∧ quiescent_MemFwdOddRefIdeal_pre_mem_fwd_odd_finite (hMemFwdOddRefIdeal := hMemFwdOddRefIdeal) (hPre_mem_fwd_odd_finite := hPre_mem_fwd_odd_finite)
    ∧ quiescent_SguFwd (hSguFwd := hSguFwd)
    ∧ quiescent_SguFwdIdeal (hSguFwdIdeal := hSguFwdIdeal)
    ∧ quiescent_SguFwdIdeal_pre_sgu_fwd_finite (hSguFwdIdeal := hSguFwdIdeal) (hPre_sgu_fwd_finite := hPre_sgu_fwd_finite)
    ∧ quiescent_SguFwdRefIdeal (hSguFwdRefIdeal := hSguFwdRefIdeal)
    ∧ quiescent_SguFwdRefIdeal_pre_sgu_fwd_finite (hSguFwdRefIdeal := hSguFwdRefIdeal) (hPre_sgu_fwd_finite := hPre_sgu_fwd_finite)
    ∧ quiescent_UpFwd (hUpFwd := hUpFwd)
    ∧ quiescent_UpFwdIdeal (hUpFwdIdeal := hUpFwdIdeal)
    ∧ quiescent_UpFwdIdeal_pre_up_finite (hUpFwdIdeal := hUpFwdIdeal) (hPre_up_finite := hPre_up_finite)
    ∧ quiescent_UpFwdRefIdeal (hUpFwdRefIdeal := hUpFwdRefIdeal)
    ∧ quiescent_UpFwdRefIdeal_pre_up_finite (hUpFwdRefIdeal := hUpFwdRefIdeal) (hPre_up_finite := hPre_up_finite)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_DownFwd (hDownFwd := hDownFwd)
    ∧ quiescent_DownFwdIdeal (hDownFwdIdeal := hDownFwdIdeal)
    ∧ quiescent_DownFwdRefIdeal (hDownFwdRefIdeal := hDownFwdRefIdeal)
    ∧ quiescent_XBwd (hXBwd := hXBwd)
    ∧ quiescent_XBwdIdeal (hXBwdIdeal := hXBwdIdeal)
    ∧ quiescent_XGradIdeal (hXGradIdeal := hXGradIdeal)
    ∧ quiescent_CatBwd (hCatBwd := hCatBwd)
    ∧ quiescent_CatBwdIdeal (hCatBwdIdeal := hCatBwdIdeal)
    ∧ quiescent_CatGradIdeal (hCatGradIdeal := hCatGradIdeal)
    ∧ quiescent_KvFwd (hKvFwd := hKvFwd)
    ∧ quiescent_KvFwdIdeal (hKvFwdIdeal := hKvFwdIdeal)
    ∧ quiescent_KvFwdRefIdeal (hKvFwdRefIdeal := hKvFwdRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_InOddFwd (hInOddFwd := hInOddFwd)
    ∧ quiescent_InOddFwdIdeal (hInOddFwdIdeal := hInOddFwdIdeal)
    ∧ quiescent_InOddFwdRefIdeal (hInOddFwdRefIdeal := hInOddFwdRefIdeal)
    ∧ quiescent_Adam (hAdam := hAdam)
    ∧ quiescent_AdamIdeal (hAdamIdeal := hAdamIdeal)
    ∧ quiescent_AdamRefIdeal (hAdamRefIdeal := hAdamRefIdeal)
    ∧ quiescent_KvBwd (hKvBwd := hKvBwd)
    ∧ quiescent_KvBwdIdeal (hKvBwdIdeal := hKvBwdIdeal)
    ∧ quiescent_KvGradIdeal (hKvGradIdeal := hKvGradIdeal)
    ∧ quiescent_HidBwd (hHidBwd := hHidBwd)
    ∧ quiescent_HidBwdIdeal (hHidBwdIdeal := hHidBwdIdeal)
    ∧ quiescent_HidGradIdeal (hHidGradIdeal := hHidGradIdeal)
    ∧ quiescent_DownBwd (hDownBwd := hDownBwd)
    ∧ quiescent_DownBwdIdeal (hDownBwdIdeal := hDownBwdIdeal)
    ∧ quiescent_DownGradIdeal (hDownGradIdeal := hDownGradIdeal)
    ∧ quiescent_OutBwd (hOutBwd := hOutBwd)
    ∧ quiescent_OutBwdIdeal (hOutBwdIdeal := hOutBwdIdeal)
    ∧ quiescent_OutGradIdeal (hOutGradIdeal := hOutGradIdeal)
    ∧ quiescent_InBwd (hInBwd := hInBwd)
    ∧ quiescent_InBwdIdeal (hInBwdIdeal := hInBwdIdeal)
    ∧ quiescent_InGradIdeal (hInGradIdeal := hInGradIdeal)
    ∧ quiescent_InLateBwd (hInLateBwd := hInLateBwd)
    ∧ quiescent_InLateBwdIdeal (hInLateBwdIdeal := hInLateBwdIdeal)
    ∧ quiescent_InLateGradIdeal (hInLateGradIdeal := hInLateGradIdeal)
    ∧ quiescent_InOddBwd (hInOddBwd := hInOddBwd)
    ∧ quiescent_InOddBwdIdeal (hInOddBwdIdeal := hInOddBwdIdeal)
    ∧ quiescent_InOddGradIdeal (hInOddGradIdeal := hInOddGradIdeal)
    ∧ quiescent_InLateFwd (hInLateFwd := hInLateFwd)
    ∧ quiescent_InLateFwdIdeal (hInLateFwdIdeal := hInLateFwdIdeal)
    ∧ quiescent_InLateFwdRefIdeal (hInLateFwdRefIdeal := hInLateFwdRefIdeal)
    ∧ quiescent_AdamHid (hAdamHid := hAdamHid)
    ∧ quiescent_AdamHidIdeal (hAdamHidIdeal := hAdamHidIdeal)
    ∧ quiescent_AdamHidRefIdeal (hAdamHidRefIdeal := hAdamHidRefIdeal)
    ∧ preserves_MemBwd_MemBwdIdeal
    ∧ algebraic_MemBwdIdeal_MemGradIdeal_pre_mem_finite (hMemBwdIdeal := hMemBwdIdeal) (hMemGradIdeal := hMemGradIdeal) (hPre_mem_finite := hPre_mem_finite)
    ∧ preserves_SguBwd_SguBwdIdeal
    ∧ algebraic_SguBwdIdeal_SguGradIdeal_pre_sgu_finite (hSguBwdIdeal := hSguBwdIdeal) (hSguGradIdeal := hSguGradIdeal) (hPre_sgu_finite := hPre_sgu_finite)
    ∧ preserves_GateBwd_GateBwdIdeal
    ∧ algebraic_GateBwdIdeal_GateGradIdeal_pre_gate_finite (hGateBwdIdeal := hGateBwdIdeal) (hGateGradIdeal := hGateGradIdeal) (hPre_gate_finite := hPre_gate_finite)
    ∧ preserves_FfnIn_FfnInIdeal
    ∧ algebraic_FfnInIdeal_FfnGradIdeal_pre_ffn_in_finite (hFfnInIdeal := hFfnInIdeal) (hFfnGradIdeal := hFfnGradIdeal) (hPre_ffn_in_finite := hPre_ffn_in_finite)
    ∧ preserves_ProjBwd_ProjBwdIdeal
    ∧ algebraic_ProjBwdIdeal_ProjGradIdeal_pre_proj_finite (hProjBwdIdeal := hProjBwdIdeal) (hProjGradIdeal := hProjGradIdeal) (hPre_proj_finite := hPre_proj_finite)
    ∧ preserves_LossBwd_LossBwdIdeal
    ∧ algebraic_LossBwdIdeal_LossGradIdeal_pre_loss_finite (hLossBwdIdeal := hLossBwdIdeal) (hLossGradIdeal := hLossGradIdeal) (hPre_loss_finite := hPre_loss_finite)
    ∧ preserves_MemOddBwd_MemOddBwdIdeal
    ∧ algebraic_MemOddBwdIdeal_MemOddGradIdeal_pre_mem_odd_finite (hMemOddBwdIdeal := hMemOddBwdIdeal) (hMemOddGradIdeal := hMemOddGradIdeal) (hPre_mem_odd_finite := hPre_mem_odd_finite)
    ∧ preserves_ProjOddBwd_ProjOddBwdIdeal
    ∧ algebraic_ProjOddBwdIdeal_ProjOddGradIdeal_pre_proj_odd_finite (hProjOddBwdIdeal := hProjOddBwdIdeal) (hProjOddGradIdeal := hProjOddGradIdeal) (hPre_proj_odd_finite := hPre_proj_odd_finite)
    ∧ preserves_MemFwd_MemFwdIdeal
    ∧ algebraic_MemFwdIdeal_MemFwdRefIdeal_pre_mem_fwd_finite (hMemFwdIdeal := hMemFwdIdeal) (hMemFwdRefIdeal := hMemFwdRefIdeal) (hPre_mem_fwd_finite := hPre_mem_fwd_finite)
    ∧ preserves_MemFwdOdd_MemFwdOddIdeal
    ∧ algebraic_MemFwdOddIdeal_MemFwdOddRefIdeal_pre_mem_fwd_odd_finite (hMemFwdOddIdeal := hMemFwdOddIdeal) (hMemFwdOddRefIdeal := hMemFwdOddRefIdeal) (hPre_mem_fwd_odd_finite := hPre_mem_fwd_odd_finite)
    ∧ preserves_SguFwd_SguFwdIdeal
    ∧ algebraic_SguFwdIdeal_SguFwdRefIdeal_pre_sgu_fwd_finite (hSguFwdIdeal := hSguFwdIdeal) (hSguFwdRefIdeal := hSguFwdRefIdeal) (hPre_sgu_fwd_finite := hPre_sgu_fwd_finite)
    ∧ preserves_UpFwd_UpFwdIdeal
    ∧ algebraic_UpFwdIdeal_UpFwdRefIdeal_pre_up_finite (hUpFwdIdeal := hUpFwdIdeal) (hUpFwdRefIdeal := hUpFwdRefIdeal) (hPre_up_finite := hPre_up_finite)
    ∧ preserves_OutFwd_OutFwdIdeal
    ∧ algebraic_OutFwdIdeal_OutFwdRefIdeal (hOutFwdIdeal := hOutFwdIdeal) (hOutFwdRefIdeal := hOutFwdRefIdeal)
    ∧ preserves_DownFwd_DownFwdIdeal
    ∧ algebraic_DownFwdIdeal_DownFwdRefIdeal (hDownFwdIdeal := hDownFwdIdeal) (hDownFwdRefIdeal := hDownFwdRefIdeal)
    ∧ preserves_XBwd_XBwdIdeal
    ∧ algebraic_XBwdIdeal_XGradIdeal (hXBwdIdeal := hXBwdIdeal) (hXGradIdeal := hXGradIdeal)
    ∧ preserves_CatBwd_CatBwdIdeal
    ∧ algebraic_CatBwdIdeal_CatGradIdeal (hCatBwdIdeal := hCatBwdIdeal) (hCatGradIdeal := hCatGradIdeal)
    ∧ preserves_KvFwd_KvFwdIdeal
    ∧ algebraic_KvFwdIdeal_KvFwdRefIdeal (hKvFwdIdeal := hKvFwdIdeal) (hKvFwdRefIdeal := hKvFwdRefIdeal)
    ∧ preserves_InFwd_InFwdIdeal
    ∧ algebraic_InFwdIdeal_InFwdRefIdeal (hInFwdIdeal := hInFwdIdeal) (hInFwdRefIdeal := hInFwdRefIdeal)
    ∧ preserves_InOddFwd_InOddFwdIdeal
    ∧ algebraic_InOddFwdIdeal_InOddFwdRefIdeal (hInOddFwdIdeal := hInOddFwdIdeal) (hInOddFwdRefIdeal := hInOddFwdRefIdeal)
    ∧ preserves_Adam_AdamIdeal
    ∧ algebraic_AdamIdeal_AdamRefIdeal (hAdamIdeal := hAdamIdeal) (hAdamRefIdeal := hAdamRefIdeal)
    ∧ preserves_KvBwd_KvBwdIdeal
    ∧ algebraic_KvBwdIdeal_KvGradIdeal (hKvBwdIdeal := hKvBwdIdeal) (hKvGradIdeal := hKvGradIdeal)
    ∧ preserves_HidBwd_HidBwdIdeal
    ∧ algebraic_HidBwdIdeal_HidGradIdeal (hHidBwdIdeal := hHidBwdIdeal) (hHidGradIdeal := hHidGradIdeal)
    ∧ preserves_DownBwd_DownBwdIdeal
    ∧ algebraic_DownBwdIdeal_DownGradIdeal (hDownBwdIdeal := hDownBwdIdeal) (hDownGradIdeal := hDownGradIdeal)
    ∧ preserves_OutBwd_OutBwdIdeal
    ∧ algebraic_OutBwdIdeal_OutGradIdeal (hOutBwdIdeal := hOutBwdIdeal) (hOutGradIdeal := hOutGradIdeal)
    ∧ preserves_InBwd_InBwdIdeal
    ∧ algebraic_InBwdIdeal_InGradIdeal (hInBwdIdeal := hInBwdIdeal) (hInGradIdeal := hInGradIdeal)
    ∧ preserves_InLateBwd_InLateBwdIdeal
    ∧ algebraic_InLateBwdIdeal_InLateGradIdeal (hInLateBwdIdeal := hInLateBwdIdeal) (hInLateGradIdeal := hInLateGradIdeal)
    ∧ preserves_InOddBwd_InOddBwdIdeal
    ∧ algebraic_InOddBwdIdeal_InOddGradIdeal (hInOddBwdIdeal := hInOddBwdIdeal) (hInOddGradIdeal := hInOddGradIdeal)
    ∧ preserves_InLateFwd_InLateFwdIdeal
    ∧ algebraic_InLateFwdIdeal_InLateFwdRefIdeal (hInLateFwdIdeal := hInLateFwdIdeal) (hInLateFwdRefIdeal := hInLateFwdRefIdeal)
    ∧ preserves_AdamHid_AdamHidIdeal
    ∧ algebraic_AdamHidIdeal_AdamHidRefIdeal (hAdamHidIdeal := hAdamHidIdeal) (hAdamHidRefIdeal := hAdamHidRefIdeal)
-- ==== Pre_ffn_in_finite.lean ====
abbrev S4x2048x2816 : Shape := ⟨3, ![4, 2048, 2816]⟩
abbrev S1024x2816 : Shape := ⟨2, ![1024, 2816]⟩
abbrev S4x2048x1024 : Shape := ⟨3, ![4, 2048, 1024]⟩
abbrev S1024 : Shape := ⟨1, ![1024]⟩
abbrev S_ : Shape := ⟨0, ![]⟩

class Facts : Prop where
  bcast_S_S4x2048x2816 : S_.BroadcastsInDim S4x2048x2816 (![] : Fin 0 → Fin S4x2048x2816.rank)
  reducesTo_S4x2048x2816_S_d0_1_2 : S4x2048x2816.ReducesTo [0, 1, 2] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S4x2048x1024 : S_.BroadcastsInDim S4x2048x1024 (![] : Fin 0 → Fin S4x2048x1024.rank)
  reducesTo_S4x2048x1024_S_d0_1_2 : S4x2048x1024.ReducesTo [0, 1, 2] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg5 : FVec F S4x2048x1024 .f32) (main_arg6 : FVec F S1024 .f32) (main_v26 : IVec S_ 1) (main_v32 : IVec S_ 1) : IVec S_ 1 :=
  let main_v33 : IVec S_ 1 := andi main_v26 main_v32
  let main_cst_13 : FVec F S_ .f32 := constant S_ .f32 0xFF800000#32
  let main_v34 : FVec F S4x2048x1024 .f32 := broadcastInDim S4x2048x1024 ![] bcast_S_S4x2048x1024 main_cst_13
  let main_v35 : IVec S4x2048x1024 1 := cmpf .ogt main_arg5 main_v34
  let main_cst_14 : FVec F S_ .f32 := constant S_ .f32 0x7F800000#32
  let main_v36 : FVec F S4x2048x1024 .f32 := broadcastInDim S4x2048x1024 ![] bcast_S_S4x2048x1024 main_cst_14
  let main_v37 : IVec S4x2048x1024 1 := cmpf .olt main_arg5 main_v36
  let main_v38 : IVec S4x2048x1024 1 := andi main_v35 main_v37
  let main_c_15 : IVec S_ 1 := constantI S_ 1 1#1
  let main_v39 : IVec S_ 1 := (fun x v => Host.reduce IntOp.andi x v reducesTo_S4x2048x1024_S_d0_1_2 h_S_) main_v38 main_c_15
  let main_v40 : IVec S_ 1 := andi main_v33 main_v39
  let main_cst_16 : FVec F S_ .f32 := constant S_ .f32 0xFF800000#32
  let main_v41 : FVec F S1024 .f32 := broadcastInDim S1024 ![] bcast_S_S1024 main_cst_16
  let main_v42 : IVec S1024 1 := cmpf .ogt main_arg6 main_v41
  let main_cst_17 : FVec F S_ .f32 := constant S_ .f32 0x7F800000#32
  let main_v43 : FVec F S1024 .f32 := broadcastInDim S1024 ![] bcast_S_S1024 main_cst_17
  let main_v44 : IVec S1024 1 := cmpf .olt main_arg6 main_v43
  let main_v45 : IVec S1024 1 := andi main_v42 main_v44
  let main_c_18 : IVec S_ 1 := constantI S_ 1 1#1
  let main_v46 : IVec S_ 1 := (fun x v => Host.reduce IntOp.andi x v reducesTo_S1024_S_d0 h_S_) main_v45 main_c_18
  let main_v47 : IVec S_ 1 := andi main_v40 main_v46
  main_v47

def fn_part1 {F : FTy → Type} [FloatOps F] (main_arg2 : FVec F S1024x2816 .f32) (main_arg3 : FVec F S1024x2816 .f32) (main_arg4 : FVec F S4x2048x1024 .f32) (main_arg5 : FVec F S4x2048x1024 .f32) (main_arg6 : FVec F S1024 .f32) (main_v12 : IVec S_ 1) (main_v14 : IVec S1024x2816 1) (main_v15 : FVec F S1024x2816 .f32) : IVec S_ 1 :=
  let main_v16 : IVec S1024x2816 1 := cmpf .olt main_arg2 main_v15
  let main_v17 : IVec S1024x2816 1 := andi main_v14 main_v16
  let main_c_6 : IVec S_ 1 := constantI S_ 1 1#1
  let main_v18 : IVec S_ 1 := (fun x v => Host.reduce IntOp.andi x v reducesTo_S1024x2816_S_d0_1 h_S_) main_v17 main_c_6
  let main_v19 : IVec S_ 1 := andi main_v12 main_v18
  let main_cst_7 : FVec F S_ .f32 := constant S_ .f32 0xFF800000#32
  let main_v20 : FVec F S1024x2816 .f32 := broadcastInDim S1024x2816 ![] bcast_S_S1024x2816 main_cst_7
  let main_v21 : IVec S1024x2816 1 := cmpf .ogt main_arg3 main_v20
  let main_cst_8 : FVec F S_ .f32 := constant S_ .f32 0x7F800000#32
  let main_v22 : FVec F S1024x2816 .f32 := broadcastInDim S1024x2816 ![] bcast_S_S1024x2816 main_cst_8
  let main_v23 : IVec S1024x2816 1 := cmpf .olt main_arg3 main_v22
  let main_v24 : IVec S1024x2816 1 := andi main_v21 main_v23
  let main_c_9 : IVec S_ 1 := constantI S_ 1 1#1
  let main_v25 : IVec S_ 1 := (fun x v => Host.reduce IntOp.andi x v reducesTo_S1024x2816_S_d0_1 h_S_) main_v24 main_c_9
  let main_v26 : IVec S_ 1 := andi main_v19 main_v25
  let main_cst_10 : FVec F S_ .f32 := constant S_ .f32 0xFF800000#32
  let main_v27 : FVec F S4x2048x1024 .f32 := broadcastInDim S4x2048x1024 ![] bcast_S_S4x2048x1024 main_cst_10
  let main_v28 : IVec S4x2048x1024 1 := cmpf .ogt main_arg4 main_v27
  let main_cst_11 : FVec F S_ .f32 := constant S_ .f32 0x7F800000#32
  let main_v29 : FVec F S4x2048x1024 .f32 := broadcastInDim S4x2048x1024 ![] bcast_S_S4x2048x1024 main_cst_11
  let main_v30 : IVec S4x2048x1024 1 := cmpf .olt main_arg4 main_v29
  let main_v31 : IVec S4x2048x1024 1 := andi main_v28 main_v30
  let main_c_12 : IVec S_ 1 := constantI S_ 1 1#1
  let main_v32 : IVec S_ 1 := (fun x v => Host.reduce IntOp.andi x v reducesTo_S4x2048x1024_S_d0_1_2 h_S_) main_v31 main_c_12
  fn_part2 (F := F) main_arg5 main_arg6 main_v26 main_v32

def fn {F : FTy → Type} [FloatOps F] (main_arg0 : FVec F S4x2048x2816 .bf16) (main_arg1 : FVec F S4x2048x2816 .bf16) (main_arg2 : FVec F S1024x2816 .f32) (main_arg3 : FVec F S1024x2816 .f32) (main_arg4 : FVec F S4x2048x1024 .f32) (main_arg5 : FVec F S4x2048x1024 .f32) (main_arg6 : FVec F S1024 .f32) (main_arg7 : FVec F S1024 .f32) : IVec S_ 1 :=
  let main_cst : FVec F S_ .bf16 := constant S_ .bf16 0xFF80#16
  let main_v0 : FVec F S4x2048x2816 .bf16 := broadcastInDim S4x2048x2816 ![] bcast_S_S4x2048x2816 main_cst
  let main_v1 : IVec S4x2048x2816 1 := cmpf .ogt main_arg0 main_v0
  let main_cst_0 : FVec F S_ .bf16 := constant S_ .bf16 0x7F80#16
  let main_v2 : FVec F S4x2048x2816 .bf16 := broadcastInDim S4x2048x2816 ![] bcast_S_S4x2048x2816 main_cst_0
  let main_v3 : IVec S4x2048x2816 1 := cmpf .olt main_arg0 main_v2
  let main_v4 : IVec S4x2048x2816 1 := andi main_v1 main_v3
  let main_c : IVec S_ 1 := constantI S_ 1 1#1
  let main_v5 : IVec S_ 1 := (fun x v => Host.reduce IntOp.andi x v reducesTo_S4x2048x2816_S_d0_1_2 h_S_) main_v4 main_c
  let main_cst_1 : FVec F S_ .bf16 := constant S_ .bf16 0xFF80#16
  let main_v6 : FVec F S4x2048x2816 .bf16 := broadcastInDim S4x2048x2816 ![] bcast_S_S4x2048x2816 main_cst_1
  let main_v7 : IVec S4x2048x2816 1 := cmpf .ogt main_arg1 main_v6
  let main_cst_2 : FVec F S_ .bf16 := constant S_ .bf16 0x7F80#16
  let main_v8 : FVec F S4x2048x2816 .bf16 := broadcastInDim S4x2048x2816 ![] bcast_S_S4x2048x2816 main_cst_2
  let main_v9 : IVec S4x2048x2816 1 := cmpf .olt main_arg1 main_v8
  let main_v10 : IVec S4x2048x2816 1 := andi main_v7 main_v9
  let main_c_3 : IVec S_ 1 := constantI S_ 1 1#1
  let main_v11 : IVec S_ 1 := (fun x v => Host.reduce IntOp.andi x v reducesTo_S4x2048x2816_S_d0_1_2 h_S_) main_v10 main_c_3
  let main_v12 : IVec S_ 1 := andi main_v5 main_v11
  let main_cst_4 : FVec F S_ .f32 := constant S_ .f32 0xFF800000#32
  let main_v13 : FVec F S1024x2816 .f32 := broadcastInDim S1024x2816 ![] bcast_S_S1024x2816 main_cst_4
  let main_v14 : IVec S1024x2816 1 := cmpf .ogt main_arg2 main_v13
  let main_cst_5 : FVec F S_ .f32 := constant S_ .f32 0x7F800000#32
  let main_v15 : FVec F S1024x2816 .f32 := broadcastInDim S1024x2816 ![] bcast_S_S1024x2816 main_cst_5
  fn_part1 (F := F) main_arg2 main_arg3 main_arg4 main_arg5 main_arg6 main_v12 main_v14 main_v15
-- ==== Pre_gate_finite.lean ====
abbrev S4x2048x1024 : Shape := ⟨3, ![4, 2048, 1024]⟩
abbrev S1024x2816 : Shape := ⟨2, ![1024, 2816]⟩
abbrev S2816x1024 : Shape := ⟨2, ![2816, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_v26 : IVec S_ 1) (main_v32 : IVec S_ 1) : IVec S_ 1 :=
  let main_v33 : IVec S_ 1 := andi main_v26 main_v32
  main_v33

def fn_part1 {F : FTy → Type} [FloatOps F] (main_arg2 : FVec F S1024x2816 .f32) (main_arg3 : FVec F S2816x1024 .f32) (main_arg4 : FVec F S4x2048x1024 .f32) (main_v12 : IVec S_ 1) (main_v14 : IVec S1024x2816 1) (main_v15 : FVec F S1024x2816 .f32) : IVec S_ 1 :=
  let main_v16 : IVec S1024x2816 1 := cmpf .olt main_arg2 main_v15
  let main_v17 : IVec S1024x2816 1 := andi main_v14 main_v16
  let main_c_6 : IVec S_ 1 := constantI S_ 1 1#1
  let main_v18 : IVec S_ 1 := (fun x v => Host.reduce IntOp.andi x v reducesTo_S1024x2816_S_d0_1 h_S_) main_v17 main_c_6
  let main_v19 : IVec S_ 1 := andi main_v12 main_v18
  let main_cst_7 : FVec F S_ .f32 := constant S_ .f32 0xFF800000#32
  let main_v20 : FVec F S2816x1024 .f32 := broadcastInDim S2816x1024 ![] bcast_S_S2816x1024 main_cst_7
  let main_v21 : IVec S2816x1024 1 := cmpf .ogt main_arg3 main_v20
  let main_cst_8 : FVec F S_ .f32 := constant S_ .f32 0x7F800000#32
  let main_v22 : FVec F S2816x1024 .f32 := broadcastInDim S2816x1024 ![] bcast_S_S2816x1024 main_cst_8
  let main_v23 : IVec S2816x1024 1 := cmpf .olt main_arg3 main_v22
  let main_v24 : IVec S2816x1024 1 := andi main_v21 main_v23
  let main_c_9 : IVec S_ 1 := constantI S_ 1 1#1
  let main_v25 : IVec S_ 1 := (fun x v => Host.reduce IntOp.andi x v reducesTo_S2816x1024_S_d0_1 h_S_) main_v24 main_c_9
  let main_v26 : IVec S_ 1 := andi main_v19 main_v25
  let main_cst_10 : FVec F S_ .f32 := constant S_ .f32 0xFF800000#32
  let main_v27 : FVec F S4x2048x1024 .f32 := broadcastInDim S4x2048x1024 ![] bcast_S_S4x2048x1024 main_cst_10
  let main_v28 : IVec S4x2048x1024 1 := cmpf .ogt main_arg4 main_v27
  let main_cst_11 : FVec F S_ .f32 := constant S_ .f32 0x7F800000#32
  let main_v29 : FVec F S4x2048x1024 .f32 := broadcastInDim S4x2048x1024 ![] bcast_S_S4x2048x1024 main_cst_11
  let main_v30 : IVec S4x2048x1024 1 := cmpf .olt main_arg4 main_v29
  let main_v31 : IVec S4x2048x1024 1 := andi main_v28 main_v30
  let main_c_12 : IVec S_ 1 := constantI S_ 1 1#1
  let main_v32 : IVec S_ 1 := (fun x v => Host.reduce IntOp.andi x v reducesTo_S4x2048x1024_S_d0_1_2 h_S_) main_v31 main_c_12
  fn_part2 (F := F) main_v26 main_v32

def fn {F : FTy → Type} [FloatOps F] (main_arg0 : FVec F S4x2048x1024 .f32) (main_arg1 : FVec F S1024x2816 .f32) (main_arg2 : FVec F S1024x2816 .f32) (main_arg3 : FVec F S2816x1024 .f32) (main_arg4 : FVec F S4x2048x1024 .f32) : IVec S_ 1 :=
  let main_cst : FVec F S_ .f32 := constant S_ .f32 0xFF800000#32
  let main_v0 : FVec F S4x2048x1024 .f32 := broadcastInDim S4x2048x1024 ![] bcast_S_S4x2048x1024 main_cst
  let main_v1 : IVec S4x2048x1024 1 := cmpf .ogt main_arg0 main_v0
  let main_cst_0 : FVec F S_ .f32 := constant S_ .f32 0x7F800000#32
  let main_v2 : FVec F S4x2048x1024 .f32 := broadcastInDim S4x2048x1024 ![] bcast_S_S4x2048x1024 main_cst_0
  let main_v3 : IVec S4x2048x1024 1 := cmpf .olt main_arg0 main_v2
  let main_v4 : IVec S4x2048x1024 1 := andi main_v1 main_v3
  let main_c : IVec S_ 1 := constantI S_ 1 1#1
  let main_v5 : IVec S_ 1 := (fun x v => Host.reduce IntOp.andi x v reducesTo_S4x2048x1024_S_d0_1_2 h_S_) main_v4 main_c
  let main_cst_1 : FVec F S_ .f32 := constant S_ .f32 0xFF800000#32
  let main_v6 : FVec F S1024x2816 .f32 := broadcastInDim S1024x2816 ![] bcast_S_S1024x2816 main_cst_1
  let main_v7 : IVec S1024x2816 1 := cmpf .ogt main_arg1 main_v6
  let main_cst_2 : FVec F S_ .f32 := constant S_ .f32 0x7F800000#32
  let main_v8 : FVec F S1024x2816 .f32 := broadcastInDim S1024x2816 ![] bcast_S_S1024x2816 main_cst_2
  let main_v9 : IVec S1024x2816 1 := cmpf .olt main_arg1 main_v8
  let main_v10 : IVec S1024x2816 1 := andi main_v7 main_v9
  let main_c_3 : IVec S_ 1 := constantI S_ 1 1#1
  let main_v11 : IVec S_ 1 := (fun x v => Host.reduce IntOp.andi x v reducesTo_S1024x2816_S_d0_1 h_S_) main_v10 main_c_3
  let main_v12 : IVec S_ 1 := andi main_v5 main_v11
  let main_cst_4 : FVec F S_ .f32 := constant S_ .f32 0xFF800000#32
  let main_v13 : FVec F S1024x2816 .f32 := broadcastInDim S1024x2816 ![] bcast_S_S1024x2816 main_cst_4
  let main_v14 : IVec S1024x2816 1 := cmpf .ogt main_arg2 main_v13
  let main_cst_5 : FVec F S_ .f32 := constant S_ .f32 0x7F800000#32
  let main_v15 : FVec F S1024x2816 .f32 := broadcastInDim S1024x2816 ![] bcast_S_S1024x2816 main_cst_5
  fn_part1 (F := F) main_arg2 main_arg3 main_arg4 main_v12 main_v14 main_v15
-- ==== Pre_loss_finite.lean ====
abbrev S4x2048x1024 : Shape := ⟨3, ![4, 2048, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024 : S_.BroadcastsInDim S1024 (![] : Fin 0 → Fin S1024.rank)
  reducesTo_S1024_S_d0 : S1024.ReducesTo [0] S_

variable [Facts]

def fn_part1 {F : FTy → Type} [FloatOps F] (main_arg2 : FVec F S1024 .f32) (main_arg3 : FVec F S4x2048x1024 .f32) (main_v12 : IVec S_ 1) (main_v14 : IVec S1024 1) (main_v15 : FVec F S1024 .f32) : IVec S_ 1 :=
  let main_v16 : IVec S1024 1 := cmpf .olt main_arg2 main_v15
  let main_v17 : IVec S1024 1 := andi main_v14 main_v16
  let main_c_6 : IVec S_ 1 := constantI S_ 1 1#1
  let main_v18 : IVec S_ 1 := (fun x v => Host.reduce IntOp.andi x v reducesTo_S1024_S_d0 h_S_) main_v17 main_c_6
  let main_v19 : IVec S_ 1 := andi main_v12 main_v18
  let main_cst_7 : FVec F S_ .f32 := constant S_ .f32 0xFF800000#32
  let main_v20 : FVec F S4x2048x1024 .f32 := broadcastInDim S4x2048x1024 ![] bcast_S_S4x2048x1024 main_cst_7
  let main_v21 : IVec S4x2048x1024 1 := cmpf .ogt main_arg3 main_v20
  let main_cst_8 : FVec F S_ .f32 := constant S_ .f32 0x7F800000#32
  let main_v22 : FVec F S4x2048x1024 .f32 := broadcastInDim S4x2048x1024 ![] bcast_S_S4x2048x1024 main_cst_8
  let main_v23 : IVec S4x2048x1024 1 := cmpf .olt main_arg3 main_v22
  let main_v24 : IVec S4x2048x1024 1 := andi main_v21 main_v23
  let main_c_9 : IVec S_ 1 := constantI S_ 1 1#1
  let main_v25 : IVec S_ 1 := (fun x v => Host.reduce IntOp.andi x v reducesTo_S4x2048x1024_S_d0_1_2 h_S_) main_v24 main_c_9
  let main_v26 : IVec S_ 1 := andi main_v19 main_v25
  main_v26

def fn {F : FTy → Type} [FloatOps F] (main_arg0 : FVec F S4x2048x1024 .f32) (main_arg1 : FVec F S1024 .f32) (main_arg2 : FVec F S1024 .f32) (main_arg3 : FVec F S4x2048x1024 .f32) : IVec S_ 1 :=
  let main_cst : FVec F S_ .f32 := constant S_ .f32 0xFF800000#32
  let main_v0 : FVec F S4x2048x1024 .f32 := broadcastInDim S4x2048x1024 ![] bcast_S_S4x2048x1024 main_cst
  let main_v1 : IVec S4x2048x1024 1 := cmpf .ogt main_arg0 main_v0
  let main_cst_0 : FVec F S_ .f32 := constant S_ .f32 0x7F800000#32
  let main_v2 : FVec F S4x2048x1024 .f32 := broadcastInDim S4x2048x1024 ![] bcast_S_S4x2048x1024 main_cst_0
  let main_v3 : IVec S4x2048x1024 1 := cmpf .olt main_arg0 main_v2
  let main_v4 : IVec S4x2048x1024 1 := andi main_v1 main_v3
  let main_c : IVec S_ 1 := constantI S_ 1 1#1
  let main_v5 : IVec S_ 1 := (fun x v => Host.reduce IntOp.andi x v reducesTo_S4x2048x1024_S_d0_1_2 h_S_) main_v4 main_c
  let main_cst_1 : FVec F S_ .f32 := constant S_ .f32 0xFF800000#32
  let main_v6 : FVec F S1024 .f32 := broadcastInDim S1024 ![] bcast_S_S1024 main_cst_1
  let main_v7 : IVec S1024 1 := cmpf .ogt main_arg1 main_v6
  let main_cst_2 : FVec F S_ .f32 := constant S_ .f32 0x7F800000#32
  let main_v8 : FVec F S1024 .f32 := broadcastInDim S1024 ![] bcast_S_S1024 main_cst_2
  let main_v9 : IVec S1024 1 := cmpf .olt main_arg1 main_v8
  let main_v10 : IVec S1024 1 := andi main_v7 main_v9
  let main_c_3 : IVec S_ 1 := constantI S_ 1 1#1
  let main_v11 : IVec S_ 1 := (fun x v => Host.reduce IntOp.andi x v reducesTo_S1024_S_d0 h_S_) main_v10 main_c_3
  let main_v12 : IVec S_ 1 := andi main_v5 main_v11
  let main_cst_4 : FVec F S_ .f32 := constant S_ .f32 0xFF800000#32
  let main_v13 : FVec F S1024 .f32 := broadcastInDim S1024 ![] bcast_S_S1024 main_cst_4
  let main_v14 : IVec S1024 1 := cmpf .ogt main_arg2 main_v13
  let main_cst_5 : FVec F S_ .f32 := constant S_ .f32 0x7F800000#32
  let main_v15 : FVec F S1024 .f32 := broadcastInDim S1024 ![] bcast_S_S1024 main_cst_5
  fn_part1 (F := F) main_arg2 main_arg3 main_v12 main_v14 main_v15
-- ==== Pre_mem_finite.lean ====
abbrev S4x2048x2560 : Shape := ⟨3, ![4, 2048, 2560]⟩
abbrev S4x256x512 : Shape := ⟨3, ![4, 256, 512]⟩
abbrev S4x2048x1024 : Shape := ⟨3, ![4, 2048, 1024]⟩
abbrev S_ : Shape := ⟨0, ![]⟩

class Facts : Prop where
  bcast_S_S4x2048x2560 : S_.BroadcastsInDim S4x2048x2560 (![] : Fin 0 → Fin S4x2048x2560.rank)
  reducesTo_S4x2048x2560_S_d0_1_2 : S4x2048x2560.ReducesTo [0, 1, 2] S_
  h_S_ : 0 < S_.numel
  bcast_S_S4x256x512 : S_.BroadcastsInDim S4x256x512 (![] : Fin 0 → Fin S4x256x512.rank)
  reducesTo_S4x256x512_S_d0_1_2 : S4x256x512.ReducesTo [0, 1, 2] S_
  bcast_S_S4x2048x1024 : S_.BroadcastsInDim S4x2048x1024 (![] : Fin 0 → Fin S4x2048x1024.rank)
  reducesTo_S4x2048x1024_S_d0_1_2 : S4x2048x1024.ReducesTo [0, 1, 2] S_

variable [Facts]

def fn_part1 {F : FTy → Type} [FloatOps F] (main_arg2 : FVec F S4x2048x1024 .f32) (main_v12 : IVec S_ 1) (main_v14 : IVec S4x2048x1024 1) (main_v15 : FVec F S4x2048x1024 .f32) : IVec S_ 1 :=
  let main_v16 : IVec S4x2048x1024 1 := cmpf .olt main_arg2 main_v15
  let main_v17 : IVec S4x2048x1024 1 := andi main_v14 main_v16
  let main_c_6 : IVec S_ 1 := constantI S_ 1 1#1
  let main_v18 : IVec S_ 1 := (fun x v => Host.reduce IntOp.andi x v reducesTo_S4x2048x1024_S_d0_1_2 h_S_) main_v17 main_c_6
  let main_v19 : IVec S_ 1 := andi main_v12 main_v18
  main_v19

def fn {F : FTy → Type} [FloatOps F] (main_arg0 : FVec F S4x2048x2560 .f32) (main_arg1 : FVec F S4x256x512 .f32) (main_arg2 : FVec F S4x2048x1024 .f32) : IVec S_ 1 :=
  let main_cst : FVec F S_ .f32 := constant S_ .f32 0xFF800000#32
  let main_v0 : FVec F S4x2048x2560 .f32 := broadcastInDim S4x2048x2560 ![] bcast_S_S4x2048x2560 main_cst
  let main_v1 : IVec S4x2048x2560 1 := cmpf .ogt main_arg0 main_v0
  let main_cst_0 : FVec F S_ .f32 := constant S_ .f32 0x7F800000#32
  let main_v2 : FVec F S4x2048x2560 .f32 := broadcastInDim S4x2048x2560 ![] bcast_S_S4x2048x2560 main_cst_0
  let main_v3 : IVec S4x2048x2560 1 := cmpf .olt main_arg0 main_v2
  let main_v4 : IVec S4x2048x2560 1 := andi main_v1 main_v3
  let main_c : IVec S_ 1 := constantI S_ 1 1#1
  let main_v5 : IVec S_ 1 := (fun x v => Host.reduce IntOp.andi x v reducesTo_S4x2048x2560_S_d0_1_2 h_S_) main_v4 main_c
  let main_cst_1 : FVec F S_ .f32 := constant S_ .f32 0xFF800000#32
  let main_v6 : FVec F S4x256x512 .f32 := broadcastInDim S4x256x512 ![] bcast_S_S4x256x512 main_cst_1
  let main_v7 : IVec S4x256x512 1 := cmpf .ogt main_arg1 main_v6
  let main_cst_2 : FVec F S_ .f32 := constant S_ .f32 0x7F800000#32
  let main_v8 : FVec F S4x256x512 .f32 := broadcastInDim S4x256x512 ![] bcast_S_S4x256x512 main_cst_2
  let main_v9 : IVec S4x256x512 1 := cmpf .olt main_arg1 main_v8
  let main_v10 : IVec S4x256x512 1 := andi main_v7 main_v9
  let main_c_3 : IVec S_ 1 := constantI S_ 1 1#1
  let main_v11 : IVec S_ 1 := (fun x v => Host.reduce IntOp.andi x v reducesTo_S4x256x512_S_d0_1_2 h_S_) main_v10 main_c_3
  let main_v12 : IVec S_ 1 := andi main_v5 main_v11
  let main_cst_4 : FVec F S_ .f32 := constant S_ .f32 0xFF800000#32
  let main_v13 : FVec F S4x2048x1024 .f32 := broadcastInDim S4x2048x1024 ![] bcast_S_S4x2048x1024 main_cst_4
  let main_v14 : IVec S4x2048x1024 1 := cmpf .ogt main_arg2 main_v13
  let main_cst_5 : FVec F S_ .f32 := constant S_ .f32 0x7F800000#32
  let main_v15 : FVec F S4x2048x1024 .f32 := broadcastInDim S4x2048x1024 ![] bcast_S_S4x2048x1024 main_cst_5
  fn_part1 (F := F) main_arg2 main_v12 main_v14 main_v15
-- ==== Pre_mem_fwd_finite.lean ====
abbrev S4x2048x2560 : Shape := ⟨3, ![4, 2048, 2560]⟩
abbrev S4x256x512 : Shape := ⟨3, ![4, 256, 512]⟩
abbrev S_ : Shape := ⟨0, ![]⟩

class Facts : Prop where
  bcast_S_S4x2048x2560 : S_.BroadcastsInDim S4x2048x2560 (![] : Fin 0 → Fin S4x2048x2560.rank)
  reducesTo_S4x2048x2560_S_d0_1_2 : S4x2048x2560.ReducesTo [0, 1, 2] S_
  h_S_ : 0 < S_.numel
  bcast_S_S4x256x512 : S_.BroadcastsInDim S4x256x512 (![] : Fin 0 → Fin S4x256x512.rank)
  reducesTo_S4x256x512_S_d0_1_2 : S4x256x512.ReducesTo [0, 1, 2] S_

variable [Facts]

def fn {F : FTy → Type} [FloatOps F] (main_arg0 : FVec F S4x2048x2560 .f32) (main_arg1 : FVec F S4x256x512 .f32) : IVec S_ 1 :=
  let main_cst : FVec F S_ .f32 := constant S_ .f32 0xFF800000#32
  let main_v0 : FVec F S4x2048x2560 .f32 := broadcastInDim S4x2048x2560 ![] bcast_S_S4x2048x2560 main_cst
  let main_v1 : IVec S4x2048x2560 1 := cmpf .ogt main_arg0 main_v0
  let main_cst_0 : FVec F S_ .f32 := constant S_ .f32 0x7F800000#32
  let main_v2 : FVec F S4x2048x2560 .f32 := broadcastInDim S4x2048x2560 ![] bcast_S_S4x2048x2560 main_cst_0
  let main_v3 : IVec S4x2048x2560 1 := cmpf .olt main_arg0 main_v2
  let main_v4 : IVec S4x2048x2560 1 := andi main_v1 main_v3
  let main_c : IVec S_ 1 := constantI S_ 1 1#1
  let main_v5 : IVec S_ 1 := (fun x v => Host.reduce IntOp.andi x v reducesTo_S4x2048x2560_S_d0_1_2 h_S_) main_v4 main_c
  let main_cst_1 : FVec F S_ .f32 := constant S_ .f32 0xFF800000#32
  let main_v6 : FVec F S4x256x512 .f32 := broadcastInDim S4x256x512 ![] bcast_S_S4x256x512 main_cst_1
  let main_v7 : IVec S4x256x512 1 := cmpf .ogt main_arg1 main_v6
  let main_cst_2 : FVec F S_ .f32 := constant S_ .f32 0x7F800000#32
  let main_v8 : FVec F S4x256x512 .f32 := broadcastInDim S4x256x512 ![] bcast_S_S4x256x512 main_cst_2
  let main_v9 : IVec S4x256x512 1 := cmpf .olt main_arg1 main_v8
  let main_v10 : IVec S4x256x512 1 := andi main_v7 main_v9
  let main_c_3 : IVec S_ 1 := constantI S_ 1 1#1
  let main_v11 : IVec S_ 1 := (fun x v => Host.reduce IntOp.andi x v reducesTo_S4x256x512_S_d0_1_2 h_S_) main_v10 main_c_3
  let main_v12 : IVec S_ 1 := andi main_v5 main_v11
  main_v12
-- ==== Pre_mem_fwd_odd_finite.lean ====
abbrev S4x2048x1792 : Shape := ⟨3, ![4, 2048, 1792]⟩
abbrev S4x256x512 : Shape := ⟨3, ![4, 256, 512]⟩
abbrev S_ : Shape := ⟨0, ![]⟩

class Facts : Prop where
  bcast_S_S4x2048x1792 : S_.BroadcastsInDim S4x2048x1792 (![] : Fin 0 → Fin S4x2048x1792.rank)
  reducesTo_S4x2048x1792_S_d0_1_2 : S4x2048x1792.ReducesTo [0, 1, 2] S_
  h_S_ : 0 < S_.numel
  bcast_S_S4x256x512 : S_.BroadcastsInDim S4x256x512 (![] : Fin 0 → Fin S4x256x512.rank)
  reducesTo_S4x256x512_S_d0_1_2 : S4x256x512.ReducesTo [0, 1, 2] S_

variable [Facts]

def fn {F : FTy → Type} [FloatOps F] (main_arg0 : FVec F S4x2048x1792 .f32) (main_arg1 : FVec F S4x256x512 .f32) : IVec S_ 1 :=
  let main_cst : FVec F S_ .f32 := constant S_ .f32 0xFF800000#32
  let main_v0 : FVec F S4x2048x1792 .f32 := broadcastInDim S4x2048x1792 ![] bcast_S_S4x2048x1792 main_cst
  let main_v1 : IVec S4x2048x1792 1 := cmpf .ogt main_arg0 main_v0
  let main_cst_0 : FVec F S_ .f32 := constant S_ .f32 0x7F800000#32
  let main_v2 : FVec F S4x2048x1792 .f32 := broadcastInDim S4x2048x1792 ![] bcast_S_S4x2048x1792 main_cst_0
  let main_v3 : IVec S4x2048x1792 1 := cmpf .olt main_arg0 main_v2
  let main_v4 : IVec S4x2048x1792 1 := andi main_v1 main_v3
  let main_c : IVec S_ 1 := constantI S_ 1 1#1
  let main_v5 : IVec S_ 1 := (fun x v => Host.reduce IntOp.andi x v reducesTo_S4x2048x1792_S_d0_1_2 h_S_) main_v4 main_c
  let main_cst_1 : FVec F S_ .f32 := constant S_ .f32 0xFF800000#32
  let main_v6 : FVec F S4x256x512 .f32 := broadcastInDim S4x256x512 ![] bcast_S_S4x256x512 main_cst_1
  let main_v7 : IVec S4x256x512 1 := cmpf .ogt main_arg1 main_v6
  let main_cst_2 : FVec F S_ .f32 := constant S_ .f32 0x7F800000#32
  let main_v8 : FVec F S4x256x512 .f32 := broadcastInDim S4x256x512 ![] bcast_S_S4x256x512 main_cst_2
  let main_v9 : IVec S4x256x512 1 := cmpf .olt main_arg1 main_v8
  let main_v10 : IVec S4x256x512 1 := andi main_v7 main_v9
  let main_c_3 : IVec S_ 1 := constantI S_ 1 1#1
  let main_v11 : IVec S_ 1 := (fun x v => Host.reduce IntOp.andi x v reducesTo_S4x256x512_S_d0_1_2 h_S_) main_v10 main_c_3
  let main_v12 : IVec S_ 1 := andi main_v5 main_v11
  main_v12
-- ==== Pre_mem_odd_finite.lean ====
abbrev S4x2048x1792 : Shape := ⟨3, ![4, 2048, 1792]⟩
abbrev S4x256x512 : Shape := ⟨3, ![4, 256, 512]⟩
abbrev S4x2048x1024 : Shape := ⟨3, ![4, 2048, 1024]⟩
abbrev S_ : Shape := ⟨0, ![]⟩

class Facts : Prop where
  bcast_S_S4x2048x1792 : S_.BroadcastsInDim S4x2048x1792 (![] : Fin 0 → Fin S4x2048x1792.rank)
  reducesTo_S4x2048x1792_S_d0_1_2 : S4x2048x1792.ReducesTo [0, 1, 2] S_
  h_S_ : 0 < S_.numel
  bcast_S_S4x256x512 : S_.BroadcastsInDim S4x256x512 (![] : Fin 0 → Fin S4x256x512.rank)
  reducesTo_S4x256x512_S_d0_1_2 : S4x256x512.ReducesTo [0, 1, 2] S_
  bcast_S_S4x2048x1024 : S_.BroadcastsInDim S4x2048x1024 (![] : Fin 0 → Fin S4x2048x1024.rank)
  reducesTo_S4x2048x1024_S_d0_1_2 : S4x2048x1024.ReducesTo [0, 1, 2] S_

variable [Facts]

def fn_part1 {F : FTy → Type} [FloatOps F] (main_arg2 : FVec F S4x2048x1024 .f32) (main_v12 : IVec S_ 1) (main_v14 : IVec S4x2048x1024 1) (main_v15 : FVec F S4x2048x1024 .f32) : IVec S_ 1 :=
  let main_v16 : IVec S4x2048x1024 1 := cmpf .olt main_arg2 main_v15
  let main_v17 : IVec S4x2048x1024 1 := andi main_v14 main_v16
  let main_c_6 : IVec S_ 1 := constantI S_ 1 1#1
  let main_v18 : IVec S_ 1 := (fun x v => Host.reduce IntOp.andi x v reducesTo_S4x2048x1024_S_d0_1_2 h_S_) main_v17 main_c_6
  let main_v19 : IVec S_ 1 := andi main_v12 main_v18
  main_v19

def fn {F : FTy → Type} [FloatOps F] (main_arg0 : FVec F S4x2048x1792 .f32) (main_arg1 : FVec F S4x256x512 .f32) (main_arg2 : FVec F S4x2048x1024 .f32) : IVec S_ 1 :=
  let main_cst : FVec F S_ .f32 := constant S_ .f32 0xFF800000#32
  let main_v0 : FVec F S4x2048x1792 .f32 := broadcastInDim S4x2048x1792 ![] bcast_S_S4x2048x1792 main_cst
  let main_v1 : IVec S4x2048x1792 1 := cmpf .ogt main_arg0 main_v0
  let main_cst_0 : FVec F S_ .f32 := constant S_ .f32 0x7F800000#32
  let main_v2 : FVec F S4x2048x1792 .f32 := broadcastInDim S4x2048x1792 ![] bcast_S_S4x2048x1792 main_cst_0
  let main_v3 : IVec S4x2048x1792 1 := cmpf .olt main_arg0 main_v2
  let main_v4 : IVec S4x2048x1792 1 := andi main_v1 main_v3
  let main_c : IVec S_ 1 := constantI S_ 1 1#1
  let main_v5 : IVec S_ 1 := (fun x v => Host.reduce IntOp.andi x v reducesTo_S4x2048x1792_S_d0_1_2 h_S_) main_v4 main_c
  let main_cst_1 : FVec F S_ .f32 := constant S_ .f32 0xFF800000#32
  let main_v6 : FVec F S4x256x512 .f32 := broadcastInDim S4x256x512 ![] bcast_S_S4x256x512 main_cst_1
  let main_v7 : IVec S4x256x512 1 := cmpf .ogt main_arg1 main_v6
  let main_cst_2 : FVec F S_ .f32 := constant S_ .f32 0x7F800000#32
  let main_v8 : FVec F S4x256x512 .f32 := broadcastInDim S4x256x512 ![] bcast_S_S4x256x512 main_cst_2
  let main_v9 : IVec S4x256x512 1 := cmpf .olt main_arg1 main_v8
  let main_v10 : IVec S4x256x512 1 := andi main_v7 main_v9
  let main_c_3 : IVec S_ 1 := constantI S_ 1 1#1
  let main_v11 : IVec S_ 1 := (fun x v => Host.reduce IntOp.andi x v reducesTo_S4x256x512_S_d0_1_2 h_S_) main_v10 main_c_3
  let main_v12 : IVec S_ 1 := andi main_v5 main_v11
  let main_cst_4 : FVec F S_ .f32 := constant S_ .f32 0xFF800000#32
  let main_v13 : FVec F S4x2048x1024 .f32 := broadcastInDim S4x2048x1024 ![] bcast_S_S4x2048x1024 main_cst_4
  let main_v14 : IVec S4x2048x1024 1 := cmpf .ogt main_arg2 main_v13
  let main_cst_5 : FVec F S_ .f32 := constant S_ .f32 0x7F800000#32
  let main_v15 : FVec F S4x2048x1024 .f32 := broadcastInDim S4x2048x1024 ![] bcast_S_S4x2048x1024 main_cst_5
  fn_part1 (F := F) main_arg2 main_v12 main_v14 main_v15
-- ==== Pre_proj_finite.lean ====
abbrev S4x2048x768 : Shape := ⟨3, ![4, 2048, 768]⟩
abbrev S4x2048x256 : Shape := ⟨3, ![4, 2048, 256]⟩
abbrev S1024x2560 : Shape := ⟨2, ![1024, 2560]⟩
abbrev S4x2048x1024 : Shape := ⟨3, ![4, 2048, 1024]⟩
abbrev S1024 : Shape := ⟨1, ![1024]⟩
abbrev S_ : Shape := ⟨0, ![]⟩

class Facts : Prop where
  bcast_S_S4x2048x768 : S_.BroadcastsInDim S4x2048x768 (![] : Fin 0 → Fin S4x2048x768.rank)
  reducesTo_S4x2048x768_S_d0_1_2 : S4x2048x768.ReducesTo [0, 1, 2] S_
  h_S_ : 0 < S_.numel
  bcast_S_S4x2048x256 : S_.BroadcastsInDim S4x2048x256 (![] : Fin 0 → Fin S4x2048x256.rank)
  reducesTo_S4x2048x256_S_d0_1_2 : S4x2048x256.ReducesTo [0, 1, 2] S_
  bcast_S_S1024x2560 : S_.BroadcastsInDim S1024x2560 (![] : Fin 0 → Fin S1024x2560.rank)
  reducesTo_S1024x2560_S_d0_1 : S1024x2560.ReducesTo [0, 1] S_
  bcast_S_S4x2048x1024 : S_.BroadcastsInDim S4x2048x1024 (![] : Fin 0 → Fin S4x2048x1024.rank)
  reducesTo_S4x2048x1024_S_d0_1_2 : S4x2048x1024.ReducesTo [0, 1, 2] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg7 : FVec F S1024 .f32) (main_v47 : IVec S_ 1) (main_v49 : IVec S1024 1) : IVec S_ 1 :=
  let main_cst_20 : FVec F S_ .f32 := constant S_ .f32 0x7F800000#32
  let main_v50 : FVec F S1024 .f32 := broadcastInDim S1024 ![] bcast_S_S1024 main_cst_20
  let main_v51 : IVec S1024 1 := cmpf .olt main_arg7 main_v50
  let main_v52 : IVec S1024 1 := andi main_v49 main_v51
  let main_c_21 : IVec S_ 1 := constantI S_ 1 1#1
  let main_v53 : IVec S_ 1 := (fun x v => Host.reduce IntOp.andi x v reducesTo_S1024_S_d0 h_S_) main_v52 main_c_21
  let main_v54 : IVec S_ 1 := andi main_v47 main_v53
  main_v54

def fn_part2 {F : FTy → Type} [FloatOps F] (main_arg5 : FVec F S4x2048x1024 .f32) (main_arg6 : FVec F S4x2048x1024 .f32) (main_arg7 : FVec F S1024 .f32) (main_v26 : IVec S_ 1) (main_v32 : IVec S_ 1) : IVec S_ 1 :=
  let main_v33 : IVec S_ 1 := andi main_v26 main_v32
  let main_cst_13 : FVec F S_ .f32 := constant S_ .f32 0xFF800000#32
  let main_v34 : FVec F S4x2048x1024 .f32 := broadcastInDim S4x2048x1024 ![] bcast_S_S4x2048x1024 main_cst_13
  let main_v35 : IVec S4x2048x1024 1 := cmpf .ogt main_arg5 main_v34
  let main_cst_14 : FVec F S_ .f32 := constant S_ .f32 0x7F800000#32
  let main_v36 : FVec F S4x2048x1024 .f32 := broadcastInDim S4x2048x1024 ![] bcast_S_S4x2048x1024 main_cst_14
  let main_v37 : IVec S4x2048x1024 1 := cmpf .olt main_arg5 main_v36
  let main_v38 : IVec S4x2048x1024 1 := andi main_v35 main_v37
  let main_c_15 : IVec S_ 1 := constantI S_ 1 1#1
  let main_v39 : IVec S_ 1 := (fun x v => Host.reduce IntOp.andi x v reducesTo_S4x2048x1024_S_d0_1_2 h_S_) main_v38 main_c_15
  let main_v40 : IVec S_ 1 := andi main_v33 main_v39
  let main_cst_16 : FVec F S_ .f32 := constant S_ .f32 0xFF800000#32
  let main_v41 : FVec F S4x2048x1024 .f32 := broadcastInDim S4x2048x1024 ![] bcast_S_S4x2048x1024 main_cst_16
  let main_v42 : IVec S4x2048x1024 1 := cmpf .ogt main_arg6 main_v41
  let main_cst_17 : FVec F S_ .f32 := constant S_ .f32 0x7F800000#32
  let main_v43 : FVec F S4x2048x1024 .f32 := broadcastInDim S4x2048x1024 ![] bcast_S_S4x2048x1024 main_cst_17
  let main_v44 : IVec S4x2048x1024 1 := cmpf .olt main_arg6 main_v43
  let main_v45 : IVec S4x2048x1024 1 := andi main_v42 main_v44
  let main_c_18 : IVec S_ 1 := constantI S_ 1 1#1
  let main_v46 : IVec S_ 1 := (fun x v => Host.reduce IntOp.andi x v reducesTo_S4x2048x1024_S_d0_1_2 h_S_) main_v45 main_c_18
  let main_v47 : IVec S_ 1 := andi main_v40 main_v46
  let main_cst_19 : FVec F S_ .f32 := constant S_ .f32 0xFF800000#32
  let main_v48 : FVec F S1024 .f32 := broadcastInDim S1024 ![] bcast_S_S1024 main_cst_19
  let main_v49 : IVec S1024 1 := cmpf .ogt main_arg7 main_v48
  fn_part3 (F := F) main_arg7 main_v47 main_v49

def fn_part1 {F : FTy → Type} [FloatOps F] (main_arg2 : FVec F S4x2048x768 .bf16) (main_arg3 : FVec F S4x2048x256 .bf16) (main_arg4 : FVec F S1024x2560 .f32) (main_arg5 : FVec F S4x2048x1024 .f32) (main_arg6 : FVec F S4x2048x1024 .f32) (main_arg7 : FVec F S1024 .f32) (main_v12 : IVec S_ 1) (main_v14 : IVec S4x2048x768 1) (main_v15 : FVec F S4x2048x768 .bf16) : IVec S_ 1 :=
  let main_v16 : IVec S4x2048x768 1 := cmpf .olt main_arg2 main_v15
  let main_v17 : IVec S4x2048x768 1 := andi main_v14 main_v16
  let main_c_6 : IVec S_ 1 := constantI S_ 1 1#1
  let main_v18 : IVec S_ 1 := (fun x v => Host.reduce IntOp.andi x v reducesTo_S4x2048x768_S_d0_1_2 h_S_) main_v17 main_c_6
  let main_v19 : IVec S_ 1 := andi main_v12 main_v18
  let main_cst_7 : FVec F S_ .bf16 := constant S_ .bf16 0xFF80#16
  let main_v20 : FVec F S4x2048x256 .bf16 := broadcastInDim S4x2048x256 ![] bcast_S_S4x2048x256 main_cst_7
  let main_v21 : IVec S4x2048x256 1 := cmpf .ogt main_arg3 main_v20
  let main_cst_8 : FVec F S_ .bf16 := constant S_ .bf16 0x7F80#16
  let main_v22 : FVec F S4x2048x256 .bf16 := broadcastInDim S4x2048x256 ![] bcast_S_S4x2048x256 main_cst_8
  let main_v23 : IVec S4x2048x256 1 := cmpf .olt main_arg3 main_v22
  let main_v24 : IVec S4x2048x256 1 := andi main_v21 main_v23
  let main_c_9 : IVec S_ 1 := constantI S_ 1 1#1
  let main_v25 : IVec S_ 1 := (fun x v => Host.reduce IntOp.andi x v reducesTo_S4x2048x256_S_d0_1_2 h_S_) main_v24 main_c_9
  let main_v26 : IVec S_ 1 := andi main_v19 main_v25
  let main_cst_10 : FVec F S_ .f32 := constant S_ .f32 0xFF800000#32
  let main_v27 : FVec F S1024x2560 .f32 := broadcastInDim S1024x2560 ![] bcast_S_S1024x2560 main_cst_10
  let main_v28 : IVec S1024x2560 1 := cmpf .ogt main_arg4 main_v27
  let main_cst_11 : FVec F S_ .f32 := constant S_ .f32 0x7F800000#32
  let main_v29 : FVec F S1024x2560 .f32 := broadcastInDim S1024x2560 ![] bcast_S_S1024x2560 main_cst_11
  let main_v30 : IVec S1024x2560 1 := cmpf .olt main_arg4 main_v29
  let main_v31 : IVec S1024x2560 1 := andi main_v28 main_v30
  let main_c_12 : IVec S_ 1 := constantI S_ 1 1#1
  let main_v32 : IVec S_ 1 := (fun x v => Host.reduce IntOp.andi x v reducesTo_S1024x2560_S_d0_1 h_S_) main_v31 main_c_12
  fn_part2 (F := F) main_arg5 main_arg6 main_arg7 main_v26 main_v32

def fn {F : FTy → Type} [FloatOps F] (main_arg0 : FVec F S4x2048x768 .bf16) (main_arg1 : FVec F S4x2048x768 .bf16) (main_arg2 : FVec F S4x2048x768 .bf16) (main_arg3 : FVec F S4x2048x256 .bf16) (main_arg4 : FVec F S1024x2560 .f32) (main_arg5 : FVec F S4x2048x1024 .f32) (main_arg6 : FVec F S4x2048x1024 .f32) (main_arg7 : FVec F S1024 .f32) (main_arg8 : FVec F S1024 .f32) : IVec S_ 1 :=
  let main_cst : FVec F S_ .bf16 := constant S_ .bf16 0xFF80#16
  let main_v0 : FVec F S4x2048x768 .bf16 := broadcastInDim S4x2048x768 ![] bcast_S_S4x2048x768 main_cst
  let main_v1 : IVec S4x2048x768 1 := cmpf .ogt main_arg0 main_v0
  let main_cst_0 : FVec F S_ .bf16 := constant S_ .bf16 0x7F80#16
  let main_v2 : FVec F S4x2048x768 .bf16 := broadcastInDim S4x2048x768 ![] bcast_S_S4x2048x768 main_cst_0
  let main_v3 : IVec S4x2048x768 1 := cmpf .olt main_arg0 main_v2
  let main_v4 : IVec S4x2048x768 1 := andi main_v1 main_v3
  let main_c : IVec S_ 1 := constantI S_ 1 1#1
  let main_v5 : IVec S_ 1 := (fun x v => Host.reduce IntOp.andi x v reducesTo_S4x2048x768_S_d0_1_2 h_S_) main_v4 main_c
  let main_cst_1 : FVec F S_ .bf16 := constant S_ .bf16 0xFF80#16
  let main_v6 : FVec F S4x2048x768 .bf16 := broadcastInDim S4x2048x768 ![] bcast_S_S4x2048x768 main_cst_1
  let main_v7 : IVec S4x2048x768 1 := cmpf .ogt main_arg1 main_v6
  let main_cst_2 : FVec F S_ .bf16 := constant S_ .bf16 0x7F80#16
  let main_v8 : FVec F S4x2048x768 .bf16 := broadcastInDim S4x2048x768 ![] bcast_S_S4x2048x768 main_cst_2
  let main_v9 : IVec S4x2048x768 1 := cmpf .olt main_arg1 main_v8
  let main_v10 : IVec S4x2048x768 1 := andi main_v7 main_v9
  let main_c_3 : IVec S_ 1 := constantI S_ 1 1#1
  let main_v11 : IVec S_ 1 := (fun x v => Host.reduce IntOp.andi x v reducesTo_S4x2048x768_S_d0_1_2 h_S_) main_v10 main_c_3
  let main_v12 : IVec S_ 1 := andi main_v5 main_v11
  let main_cst_4 : FVec F S_ .bf16 := constant S_ .bf16 0xFF80#16
  let main_v13 : FVec F S4x2048x768 .bf16 := broadcastInDim S4x2048x768 ![] bcast_S_S4x2048x768 main_cst_4
  let main_v14 : IVec S4x2048x768 1 := cmpf .ogt main_arg2 main_v13
  let main_cst_5 : FVec F S_ .bf16 := constant S_ .bf16 0x7F80#16
  let main_v15 : FVec F S4x2048x768 .bf16 := broadcastInDim S4x2048x768 ![] bcast_S_S4x2048x768 main_cst_5
  fn_part1 (F := F) main_arg2 main_arg3 main_arg4 main_arg5 main_arg6 main_arg7 main_v12 main_v14 main_v15
-- ==== Pre_proj_odd_finite.lean ====
abbrev S4x2048x768 : Shape := ⟨3, ![4, 2048, 768]⟩
abbrev S4x2048x256 : Shape := ⟨3, ![4, 2048, 256]⟩
abbrev S1024x1792 : Shape := ⟨2, ![1024, 1792]⟩
abbrev S4x2048x1024 : Shape := ⟨3, ![4, 2048, 1024]⟩
abbrev S1024 : Shape := ⟨1, ![1024]⟩
abbrev S_ : Shape := ⟨0, ![]⟩

class Facts : Prop where
  bcast_S_S4x2048x768 : S_.BroadcastsInDim S4x2048x768 (![] : Fin 0 → Fin S4x2048x768.rank)
  reducesTo_S4x2048x768_S_d0_1_2 : S4x2048x768.ReducesTo [0, 1, 2] S_
  h_S_ : 0 < S_.numel
  bcast_S_S4x2048x256 : S_.BroadcastsInDim S4x2048x256 (![] : Fin 0 → Fin S4x2048x256.rank)
  reducesTo_S4x2048x256_S_d0_1_2 : S4x2048x256.ReducesTo [0, 1, 2] S_
  bcast_S_S1024x1792 : S_.BroadcastsInDim S1024x1792 (![] : Fin 0 → Fin S1024x1792.rank)
  reducesTo_S1024x1792_S_d0_1 : S1024x1792.ReducesTo [0, 1] S_
  bcast_S_S4x2048x1024 : S_.BroadcastsInDim S4x2048x1024 (![] : Fin 0 → Fin S4x2048x1024.rank)
  reducesTo_S4x2048x1024_S_d0_1_2 : S4x2048x1024.ReducesTo [0, 1, 2] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg5 : FVec F S4x2048x1024 .f32) (main_arg6 : FVec F S1024 .f32) (main_v26 : IVec S_ 1) (main_v32 : IVec S_ 1) : IVec S_ 1 :=
  let main_v33 : IVec S_ 1 := andi main_v26 main_v32
  let main_cst_13 : FVec F S_ .f32 := constant S_ .f32 0xFF800000#32
  let main_v34 : FVec F S4x2048x1024 .f32 := broadcastInDim S4x2048x1024 ![] bcast_S_S4x2048x1024 main_cst_13
  let main_v35 : IVec S4x2048x1024 1 := cmpf .ogt main_arg5 main_v34
  let main_cst_14 : FVec F S_ .f32 := constant S_ .f32 0x7F800000#32
  let main_v36 : FVec F S4x2048x1024 .f32 := broadcastInDim S4x2048x1024 ![] bcast_S_S4x2048x1024 main_cst_14
  let main_v37 : IVec S4x2048x1024 1 := cmpf .olt main_arg5 main_v36
  let main_v38 : IVec S4x2048x1024 1 := andi main_v35 main_v37
  let main_c_15 : IVec S_ 1 := constantI S_ 1 1#1
  let main_v39 : IVec S_ 1 := (fun x v => Host.reduce IntOp.andi x v reducesTo_S4x2048x1024_S_d0_1_2 h_S_) main_v38 main_c_15
  let main_v40 : IVec S_ 1 := andi main_v33 main_v39
  let main_cst_16 : FVec F S_ .f32 := constant S_ .f32 0xFF800000#32
  let main_v41 : FVec F S1024 .f32 := broadcastInDim S1024 ![] bcast_S_S1024 main_cst_16
  let main_v42 : IVec S1024 1 := cmpf .ogt main_arg6 main_v41
  let main_cst_17 : FVec F S_ .f32 := constant S_ .f32 0x7F800000#32
  let main_v43 : FVec F S1024 .f32 := broadcastInDim S1024 ![] bcast_S_S1024 main_cst_17
  let main_v44 : IVec S1024 1 := cmpf .olt main_arg6 main_v43
  let main_v45 : IVec S1024 1 := andi main_v42 main_v44
  let main_c_18 : IVec S_ 1 := constantI S_ 1 1#1
  let main_v46 : IVec S_ 1 := (fun x v => Host.reduce IntOp.andi x v reducesTo_S1024_S_d0 h_S_) main_v45 main_c_18
  let main_v47 : IVec S_ 1 := andi main_v40 main_v46
  main_v47

def fn_part1 {F : FTy → Type} [FloatOps F] (main_arg2 : FVec F S4x2048x256 .bf16) (main_arg3 : FVec F S1024x1792 .f32) (main_arg4 : FVec F S4x2048x1024 .f32) (main_arg5 : FVec F S4x2048x1024 .f32) (main_arg6 : FVec F S1024 .f32) (main_v12 : IVec S_ 1) (main_v14 : IVec S4x2048x256 1) (main_v15 : FVec F S4x2048x256 .bf16) : IVec S_ 1 :=
  let main_v16 : IVec S4x2048x256 1 := cmpf .olt main_arg2 main_v15
  let main_v17 : IVec S4x2048x256 1 := andi main_v14 main_v16
  let main_c_6 : IVec S_ 1 := constantI S_ 1 1#1
  let main_v18 : IVec S_ 1 := (fun x v => Host.reduce IntOp.andi x v reducesTo_S4x2048x256_S_d0_1_2 h_S_) main_v17 main_c_6
  let main_v19 : IVec S_ 1 := andi main_v12 main_v18
  let main_cst_7 : FVec F S_ .f32 := constant S_ .f32 0xFF800000#32
  let main_v20 : FVec F S1024x1792 .f32 := broadcastInDim S1024x1792 ![] bcast_S_S1024x1792 main_cst_7
  let main_v21 : IVec S1024x1792 1 := cmpf .ogt main_arg3 main_v20
  let main_cst_8 : FVec F S_ .f32 := constant S_ .f32 0x7F800000#32
  let main_v22 : FVec F S1024x1792 .f32 := broadcastInDim S1024x1792 ![] bcast_S_S1024x1792 main_cst_8
  let main_v23 : IVec S1024x1792 1 := cmpf .olt main_arg3 main_v22
  let main_v24 : IVec S1024x1792 1 := andi main_v21 main_v23
  let main_c_9 : IVec S_ 1 := constantI S_ 1 1#1
  let main_v25 : IVec S_ 1 := (fun x v => Host.reduce IntOp.andi x v reducesTo_S1024x1792_S_d0_1 h_S_) main_v24 main_c_9
  let main_v26 : IVec S_ 1 := andi main_v19 main_v25
  let main_cst_10 : FVec F S_ .f32 := constant S_ .f32 0xFF800000#32
  let main_v27 : FVec F S4x2048x1024 .f32 := broadcastInDim S4x2048x1024 ![] bcast_S_S4x2048x1024 main_cst_10
  let main_v28 : IVec S4x2048x1024 1 := cmpf .ogt main_arg4 main_v27
  let main_cst_11 : FVec F S_ .f32 := constant S_ .f32 0x7F800000#32
  let main_v29 : FVec F S4x2048x1024 .f32 := broadcastInDim S4x2048x1024 ![] bcast_S_S4x2048x1024 main_cst_11
  let main_v30 : IVec S4x2048x1024 1 := cmpf .olt main_arg4 main_v29
  let main_v31 : IVec S4x2048x1024 1 := andi main_v28 main_v30
  let main_c_12 : IVec S_ 1 := constantI S_ 1 1#1
  let main_v32 : IVec S_ 1 := (fun x v => Host.reduce IntOp.andi x v reducesTo_S4x2048x1024_S_d0_1_2 h_S_) main_v31 main_c_12
  fn_part2 (F := F) main_arg5 main_arg6 main_v26 main_v32

def fn {F : FTy → Type} [FloatOps F] (main_arg0 : FVec F S4x2048x768 .bf16) (main_arg1 : FVec F S4x2048x768 .bf16) (main_arg2 : FVec F S4x2048x256 .bf16) (main_arg3 : FVec F S1024x1792 .f32) (main_arg4 : FVec F S4x2048x1024 .f32) (main_arg5 : FVec F S4x2048x1024 .f32) (main_arg6 : FVec F S1024 .f32) (main_arg7 : FVec F S1024 .f32) : IVec S_ 1 :=
  let main_cst : FVec F S_ .bf16 := constant S_ .bf16 0xFF80#16
  let main_v0 : FVec F S4x2048x768 .bf16 := broadcastInDim S4x2048x768 ![] bcast_S_S4x2048x768 main_cst
  let main_v1 : IVec S4x2048x768 1 := cmpf .ogt main_arg0 main_v0
  let main_cst_0 : FVec F S_ .bf16 := constant S_ .bf16 0x7F80#16
  let main_v2 : FVec F S4x2048x768 .bf16 := broadcastInDim S4x2048x768 ![] bcast_S_S4x2048x768 main_cst_0
  let main_v3 : IVec S4x2048x768 1 := cmpf .olt main_arg0 main_v2
  let main_v4 : IVec S4x2048x768 1 := andi main_v1 main_v3
  let main_c : IVec S_ 1 := constantI S_ 1 1#1
  let main_v5 : IVec S_ 1 := (fun x v => Host.reduce IntOp.andi x v reducesTo_S4x2048x768_S_d0_1_2 h_S_) main_v4 main_c
  let main_cst_1 : FVec F S_ .bf16 := constant S_ .bf16 0xFF80#16
  let main_v6 : FVec F S4x2048x768 .bf16 := broadcastInDim S4x2048x768 ![] bcast_S_S4x2048x768 main_cst_1
  let main_v7 : IVec S4x2048x768 1 := cmpf .ogt main_arg1 main_v6
  let main_cst_2 : FVec F S_ .bf16 := constant S_ .bf16 0x7F80#16
  let main_v8 : FVec F S4x2048x768 .bf16 := broadcastInDim S4x2048x768 ![] bcast_S_S4x2048x768 main_cst_2
  let main_v9 : IVec S4x2048x768 1 := cmpf .olt main_arg1 main_v8
  let main_v10 : IVec S4x2048x768 1 := andi main_v7 main_v9
  let main_c_3 : IVec S_ 1 := constantI S_ 1 1#1
  let main_v11 : IVec S_ 1 := (fun x v => Host.reduce IntOp.andi x v reducesTo_S4x2048x768_S_d0_1_2 h_S_) main_v10 main_c_3
  let main_v12 : IVec S_ 1 := andi main_v5 main_v11
  let main_cst_4 : FVec F S_ .bf16 := constant S_ .bf16 0xFF80#16
  let main_v13 : FVec F S4x2048x256 .bf16 := broadcastInDim S4x2048x256 ![] bcast_S_S4x2048x256 main_cst_4
  let main_v14 : IVec S4x2048x256 1 := cmpf .ogt main_arg2 main_v13
  let main_cst_5 : FVec F S_ .bf16 := constant S_ .bf16 0x7F80#16
  let main_v15 : FVec F S4x2048x256 .bf16 := broadcastInDim S4x2048x256 ![] bcast_S_S4x2048x256 main_cst_5
  fn_part1 (F := F) main_arg2 main_arg3 main_arg4 main_arg5 main_arg6 main_v12 main_v14 main_v15
-- ==== Pre_sgu_finite.lean ====
abbrev S4x2048x1792 : Shape := ⟨3, ![4, 2048, 1792]⟩
abbrev S4x2048x1024 : Shape := ⟨3, ![4, 2048, 1024]⟩
abbrev S768 : Shape := ⟨1, ![768]⟩
abbrev S12x128x128 : Shape := ⟨3, ![12, 128, 128]⟩
abbrev S12x128 : Shape := ⟨2, ![12, 128]⟩
abbrev S_ : Shape := ⟨0, ![]⟩

class Facts : Prop where
  bcast_S_S4x2048x1792 : S_.BroadcastsInDim S4x2048x1792 (![] : Fin 0 → Fin S4x2048x1792.rank)
  reducesTo_S4x2048x1792_S_d0_1_2 : S4x2048x1792.ReducesTo [0, 1, 2] S_
  h_S_ : 0 < S_.numel
  bcast_S_S4x2048x1024 : S_.BroadcastsInDim S4x2048x1024 (![] : Fin 0 → Fin S4x2048x1024.rank)
  reducesTo_S4x2048x1024_S_d0_1_2 : S4x2048x1024.ReducesTo [0, 1, 2] S_
  bcast_S_S768 : S_.BroadcastsInDim S768 (![] : Fin 0 → Fin S768.rank)
  reducesTo_S768_S_d0 : S768.ReducesTo [0] S_
  bcast_S_S12x128x128 : S_.BroadcastsInDim S12x128x128 (![] : Fin 0 → Fin S12x128x128.rank)
  reducesTo_S12x128x128_S_d0_1_2 : S12x128x128.ReducesTo [0, 1, 2] S_
  bcast_S_S12x128 : S_.BroadcastsInDim S12x128 (![] : Fin 0 → Fin S12x128.rank)
  reducesTo_S12x128_S_d0_1 : S12x128.ReducesTo [0, 1] S_

variable [Facts]

def fn_part2 {F : FTy → Type} [FloatOps F] (main_arg5 : FVec F S12x128 .f32) (main_v26 : IVec S_ 1) (main_v32 : IVec S_ 1) : IVec S_ 1 :=
  let main_v33 : IVec S_ 1 := andi main_v26 main_v32
  let main_cst_13 : FVec F S_ .f32 := constant S_ .f32 0xFF800000#32
  let main_v34 : FVec F S12x128 .f32 := broadcastInDim S12x128 ![] bcast_S_S12x128 main_cst_13
  let main_v35 : IVec S12x128 1 := cmpf .ogt main_arg5 main_v34
  let main_cst_14 : FVec F S_ .f32 := constant S_ .f32 0x7F800000#32
  let main_v36 : FVec F S12x128 .f32 := broadcastInDim S12x128 ![] bcast_S_S12x128 main_cst_14
  let main_v37 : IVec S12x128 1 := cmpf .olt main_arg5 main_v36
  let main_v38 : IVec S12x128 1 := andi main_v35 main_v37
  let main_c_15 : IVec S_ 1 := constantI S_ 1 1#1
  let main_v39 : IVec S_ 1 := (fun x v => Host.reduce IntOp.andi x v reducesTo_S12x128_S_d0_1 h_S_) main_v38 main_c_15
  let main_v40 : IVec S_ 1 := andi main_v33 main_v39
  main_v40

def fn_part1 {F : FTy → Type} [FloatOps F] (main_arg2 : FVec F S768 .f32) (main_arg3 : FVec F S768 .f32) (main_arg4 : FVec F S12x128x128 .f32) (main_arg5 : FVec F S12x128 .f32) (main_v12 : IVec S_ 1) (main_v14 : IVec S768 1) (main_v15 : FVec F S768 .f32) : IVec S_ 1 :=
  let main_v16 : IVec S768 1 := cmpf .olt main_arg2 main_v15
  let main_v17 : IVec S768 1 := andi main_v14 main_v16
  let main_c_6 : IVec S_ 1 := constantI S_ 1 1#1
  let main_v18 : IVec S_ 1 := (fun x v => Host.reduce IntOp.andi x v reducesTo_S768_S_d0 h_S_) main_v17 main_c_6
  let main_v19 : IVec S_ 1 := andi main_v12 main_v18
  let main_cst_7 : FVec F S_ .f32 := constant S_ .f32 0xFF800000#32
  let main_v20 : FVec F S768 .f32 := broadcastInDim S768 ![] bcast_S_S768 main_cst_7
  let main_v21 : IVec S768 1 := cmpf .ogt main_arg3 main_v20
  let main_cst_8 : FVec F S_ .f32 := constant S_ .f32 0x7F800000#32
  let main_v22 : FVec F S768 .f32 := broadcastInDim S768 ![] bcast_S_S768 main_cst_8
  let main_v23 : IVec S768 1 := cmpf .olt main_arg3 main_v22
  let main_v24 : IVec S768 1 := andi main_v21 main_v23
  let main_c_9 : IVec S_ 1 := constantI S_ 1 1#1
  let main_v25 : IVec S_ 1 := (fun x v => Host.reduce IntOp.andi x v reducesTo_S768_S_d0 h_S_) main_v24 main_c_9
  let main_v26 : IVec S_ 1 := andi main_v19 main_v25
  let main_cst_10 : FVec F S_ .f32 := constant S_ .f32 0xFF800000#32
  let main_v27 : FVec F S12x128x128 .f32 := broadcastInDim S12x128x128 ![] bcast_S_S12x128x128 main_cst_10
  let main_v28 : IVec S12x128x128 1 := cmpf .ogt main_arg4 main_v27
  let main_cst_11 : FVec F S_ .f32 := constant S_ .f32 0x7F800000#32
  let main_v29 : FVec F S12x128x128 .f32 := broadcastInDim S12x128x128 ![] bcast_S_S12x128x128 main_cst_11
  let main_v30 : IVec S12x128x128 1 := cmpf .olt main_arg4 main_v29
  let main_v31 : IVec S12x128x128 1 := andi main_v28 main_v30
  let main_c_12 : IVec S_ 1 := constantI S_ 1 1#1
  let main_v32 : IVec S_ 1 := (fun x v => Host.reduce IntOp.andi x v reducesTo_S12x128x128_S_d0_1_2 h_S_) main_v31 main_c_12
  fn_part2 (F := F) main_arg5 main_v26 main_v32

def fn {F : FTy → Type} [FloatOps F] (main_arg0 : FVec F S4x2048x1792 .f32) (main_arg1 : FVec F S4x2048x1024 .f32) (main_arg2 : FVec F S768 .f32) (main_arg3 : FVec F S768 .f32) (main_arg4 : FVec F S12x128x128 .f32) (main_arg5 : FVec F S12x128 .f32) : IVec S_ 1 :=
  let main_cst : FVec F S_ .f32 := constant S_ .f32 0xFF800000#32
  let main_v0 : FVec F S4x2048x1792 .f32 := broadcastInDim S4x2048x1792 ![] bcast_S_S4x2048x1792 main_cst
  let main_v1 : IVec S4x2048x1792 1 := cmpf .ogt main_arg0 main_v0
  let main_cst_0 : FVec F S_ .f32 := constant S_ .f32 0x7F800000#32
  let main_v2 : FVec F S4x2048x1792 .f32 := broadcastInDim S4x2048x1792 ![] bcast_S_S4x2048x1792 main_cst_0
  let main_v3 : IVec S4x2048x1792 1 := cmpf .olt main_arg0 main_v2
  let main_v4 : IVec S4x2048x1792 1 := andi main_v1 main_v3
  let main_c : IVec S_ 1 := constantI S_ 1 1#1
  let main_v5 : IVec S_ 1 := (fun x v => Host.reduce IntOp.andi x v reducesTo_S4x2048x1792_S_d0_1_2 h_S_) main_v4 main_c
  let main_cst_1 : FVec F S_ .f32 := constant S_ .f32 0xFF800000#32
  let main_v6 : FVec F S4x2048x1024 .f32 := broadcastInDim S4x2048x1024 ![] bcast_S_S4x2048x1024 main_cst_1
  let main_v7 : IVec S4x2048x1024 1 := cmpf .ogt main_arg1 main_v6
  let main_cst_2 : FVec F S_ .f32 := constant S_ .f32 0x7F800000#32
  let main_v8 : FVec F S4x2048x1024 .f32 := broadcastInDim S4x2048x1024 ![] bcast_S_S4x2048x1024 main_cst_2
  let main_v9 : IVec S4x2048x1024 1 := cmpf .olt main_arg1 main_v8
  let main_v10 : IVec S4x2048x1024 1 := andi main_v7 main_v9
  let main_c_3 : IVec S_ 1 := constantI S_ 1 1#1
  let main_v11 : IVec S_ 1 := (fun x v => Host.reduce IntOp.andi x v reducesTo_S4x2048x1024_S_d0_1_2 h_S_) main_v10 main_c_3
  let main_v12 : IVec S_ 1 := andi main_v5 main_v11
  let main_cst_4 : FVec F S_ .f32 := constant S_ .f32 0xFF800000#32
  let main_v13 : FVec F S768 .f32 := broadcastInDim S768 ![] bcast_S_S768 main_cst_4
  let main_v14 : IVec S768 1 := cmpf .ogt main_arg2 main_v13
  let main_cst_5 : FVec F S_ .f32 := constant S_ .f32 0x7F800000#32
  let main_v15 : FVec F S768 .f32 := broadcastInDim S768 ![] bcast_S_S768 main_cst_5
  fn_part1 (F := F) main_arg2 main_arg3 main_arg4 main_arg5 main_v12 main_v14 main_v15
-- ==== Pre_sgu_fwd_finite.lean ====
abbrev S4x2048x1792 : Shape := ⟨3, ![4, 2048, 1792]⟩
abbrev S768 : Shape := ⟨1, ![768]⟩
abbrev S12x128x128 : Shape := ⟨3, ![12, 128, 128]⟩
abbrev S12x128 : Shape := ⟨2, ![12, 128]⟩
abbrev S_ : Shape := ⟨0, ![]⟩

class Facts : Prop where
  bcast_S_S4x2048x1792 : S_.BroadcastsInDim S4x2048x1792 (![] : Fin 0 → Fin S4x2048x1792.rank)
  reducesTo_S4x2048x1792_S_d0_1_2 : S4x2048x1792.ReducesTo [0, 1, 2] S_
  h_S_ : 0 < S_.numel
  bcast_S_S768 : S_.BroadcastsInDim S768 (![] : Fin 0 → Fin S768.rank)
  reducesTo_S768_S_d0 : S768.ReducesTo [0] S_
  bcast_S_S12x128x128 : S_.BroadcastsInDim S12x128x128 (![] : Fin 0 → Fin S12x128x128.rank)
  reducesTo_S12x128x128_S_d0_1_2 : S12x128x128.ReducesTo [0, 1, 2] S_
  bcast_S_S12x128 : S_.BroadcastsInDim S12x128 (![] : Fin 0 → Fin S12x128.rank)
  reducesTo_S12x128_S_d0_1 : S12x128.ReducesTo [0, 1] S_

variable [Facts]

def fn_part2 {F : FTy → Type} [FloatOps F] (main_v26 : IVec S_ 1) (main_v32 : IVec S_ 1) : IVec S_ 1 :=
  let main_v33 : IVec S_ 1 := andi main_v26 main_v32
  main_v33

def fn_part1 {F : FTy → Type} [FloatOps F] (main_arg2 : FVec F S768 .f32) (main_arg3 : FVec F S12x128x128 .f32) (main_arg4 : FVec F S12x128 .f32) (main_v12 : IVec S_ 1) (main_v14 : IVec S768 1) (main_v15 : FVec F S768 .f32) : IVec S_ 1 :=
  let main_v16 : IVec S768 1 := cmpf .olt main_arg2 main_v15
  let main_v17 : IVec S768 1 := andi main_v14 main_v16
  let main_c_6 : IVec S_ 1 := constantI S_ 1 1#1
  let main_v18 : IVec S_ 1 := (fun x v => Host.reduce IntOp.andi x v reducesTo_S768_S_d0 h_S_) main_v17 main_c_6
  let main_v19 : IVec S_ 1 := andi main_v12 main_v18
  let main_cst_7 : FVec F S_ .f32 := constant S_ .f32 0xFF800000#32
  let main_v20 : FVec F S12x128x128 .f32 := broadcastInDim S12x128x128 ![] bcast_S_S12x128x128 main_cst_7
  let main_v21 : IVec S12x128x128 1 := cmpf .ogt main_arg3 main_v20
  let main_cst_8 : FVec F S_ .f32 := constant S_ .f32 0x7F800000#32
  let main_v22 : FVec F S12x128x128 .f32 := broadcastInDim S12x128x128 ![] bcast_S_S12x128x128 main_cst_8
  let main_v23 : IVec S12x128x128 1 := cmpf .olt main_arg3 main_v22
  let main_v24 : IVec S12x128x128 1 := andi main_v21 main_v23
  let main_c_9 : IVec S_ 1 := constantI S_ 1 1#1
  let main_v25 : IVec S_ 1 := (fun x v => Host.reduce IntOp.andi x v reducesTo_S12x128x128_S_d0_1_2 h_S_) main_v24 main_c_9
  let main_v26 : IVec S_ 1 := andi main_v19 main_v25
  let main_cst_10 : FVec F S_ .f32 := constant S_ .f32 0xFF800000#32
  let main_v27 : FVec F S12x128 .f32 := broadcastInDim S12x128 ![] bcast_S_S12x128 main_cst_10
  let main_v28 : IVec S12x128 1 := cmpf .ogt main_arg4 main_v27
  let main_cst_11 : FVec F S_ .f32 := constant S_ .f32 0x7F800000#32
  let main_v29 : FVec F S12x128 .f32 := broadcastInDim S12x128 ![] bcast_S_S12x128 main_cst_11
  let main_v30 : IVec S12x128 1 := cmpf .olt main_arg4 main_v29
  let main_v31 : IVec S12x128 1 := andi main_v28 main_v30
  let main_c_12 : IVec S_ 1 := constantI S_ 1 1#1
  let main_v32 : IVec S_ 1 := (fun x v => Host.reduce IntOp.andi x v reducesTo_S12x128_S_d0_1 h_S_) main_v31 main_c_12
  fn_part2 (F := F) main_v26 main_v32

def fn {F : FTy → Type} [FloatOps F] (main_arg0 : FVec F S4x2048x1792 .f32) (main_arg1 : FVec F S768 .f32) (main_arg2 : FVec F S768 .f32) (main_arg3 : FVec F S12x128x128 .f32) (main_arg4 : FVec F S12x128 .f32) : IVec S_ 1 :=
  let main_cst : FVec F S_ .f32 := constant S_ .f32 0xFF800000#32
  let main_v0 : FVec F S4x2048x1792 .f32 := broadcastInDim S4x2048x1792 ![] bcast_S_S4x2048x1792 main_cst
  let main_v1 : IVec S4x2048x1792 1 := cmpf .ogt main_arg0 main_v0
  let main_cst_0 : FVec F S_ .f32 := constant S_ .f32 0x7F800000#32
  let main_v2 : FVec F S4x2048x1792 .f32 := broadcastInDim S4x2048x1792 ![] bcast_S_S4x2048x1792 main_cst_0
  let main_v3 : IVec S4x2048x1792 1 := cmpf .olt main_arg0 main_v2
  let main_v4 : IVec S4x2048x1792 1 := andi main_v1 main_v3
  let main_c : IVec S_ 1 := constantI S_ 1 1#1
  let main_v5 : IVec S_ 1 := (fun x v => Host.reduce IntOp.andi x v reducesTo_S4x2048x1792_S_d0_1_2 h_S_) main_v4 main_c
  let main_cst_1 : FVec F S_ .f32 := constant S_ .f32 0xFF800000#32
  let main_v6 : FVec F S768 .f32 := broadcastInDim S768 ![] bcast_S_S768 main_cst_1
  let main_v7 : IVec S768 1 := cmpf .ogt main_arg1 main_v6
  let main_cst_2 : FVec F S_ .f32 := constant S_ .f32 0x7F800000#32
  let main_v8 : FVec F S768 .f32 := broadcastInDim S768 ![] bcast_S_S768 main_cst_2
  let main_v9 : IVec S768 1 := cmpf .olt main_arg1 main_v8
  let main_v10 : IVec S768 1 := andi main_v7 main_v9
  let main_c_3 : IVec S_ 1 := constantI S_ 1 1#1
  let main_v11 : IVec S_ 1 := (fun x v => Host.reduce IntOp.andi x v reducesTo_S768_S_d0 h_S_) main_v10 main_c_3
  let main_v12 : IVec S_ 1 := andi main_v5 main_v11
  let main_cst_4 : FVec F S_ .f32 := constant S_ .f32 0xFF800000#32
  let main_v13 : FVec F S768 .f32 := broadcastInDim S768 ![] bcast_S_S768 main_cst_4
  let main_v14 : IVec S768 1 := cmpf .ogt main_arg2 main_v13
  let main_cst_5 : FVec F S_ .f32 := constant S_ .f32 0x7F800000#32
  let main_v15 : FVec F S768 .f32 := broadcastInDim S768 ![] bcast_S_S768 main_cst_5
  fn_part1 (F := F) main_arg2 main_arg3 main_arg4 main_v12 main_v14 main_v15
-- ==== Pre_up_finite.lean ====
abbrev S4x2048x1024 : Shape := ⟨3, ![4, 2048, 1024]⟩
abbrev S1024x2816 : Shape := ⟨2, ![1024, 2816]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x2816 : S_.BroadcastsInDim S1024x2816 (![] : Fin 0 → Fin S1024x2816.rank)
  reducesTo_S1024x2816_S_d0_1 : S1024x2816.ReducesTo [0, 1] S_

variable [Facts]

def fn_part1 {F : FTy → Type} [FloatOps F] (main_arg2 : FVec F S1024x2816 .f32) (main_v12 : IVec S_ 1) (main_v14 : IVec S1024x2816 1) (main_v15 : FVec F S1024x2816 .f32) : IVec S_ 1 :=
  let main_v16 : IVec S1024x2816 1 := cmpf .olt main_arg2 main_v15
  let main_v17 : IVec S1024x2816 1 := andi main_v14 main_v16
  let main_c_6 : IVec S_ 1 := constantI S_ 1 1#1
  let main_v18 : IVec S_ 1 := (fun x v => Host.reduce IntOp.andi x v reducesTo_S1024x2816_S_d0_1 h_S_) main_v17 main_c_6
  let main_v19 : IVec S_ 1 := andi main_v12 main_v18
  main_v19

def fn {F : FTy → Type} [FloatOps F] (main_arg0 : FVec F S4x2048x1024 .f32) (main_arg1 : FVec F S1024x2816 .f32) (main_arg2 : FVec F S1024x2816 .f32) : IVec S_ 1 :=
  let main_cst : FVec F S_ .f32 := constant S_ .f32 0xFF800000#32
  let main_v0 : FVec F S4x2048x1024 .f32 := broadcastInDim S4x2048x1024 ![] bcast_S_S4x2048x1024 main_cst
  let main_v1 : IVec S4x2048x1024 1 := cmpf .ogt main_arg0 main_v0
  let main_cst_0 : FVec F S_ .f32 := constant S_ .f32 0x7F800000#32
  let main_v2 : FVec F S4x2048x1024 .f32 := broadcastInDim S4x2048x1024 ![] bcast_S_S4x2048x1024 main_cst_0
  let main_v3 : IVec S4x2048x1024 1 := cmpf .olt main_arg0 main_v2
  let main_v4 : IVec S4x2048x1024 1 := andi main_v1 main_v3
  let main_c : IVec S_ 1 := constantI S_ 1 1#1
  let main_v5 : IVec S_ 1 := (fun x v => Host.reduce IntOp.andi x v reducesTo_S4x2048x1024_S_d0_1_2 h_S_) main_v4 main_c
  let main_cst_1 : FVec F S_ .f32 := constant S_ .f32 0xFF800000#32
  let main_v6 : FVec F S1024x2816 .f32 := broadcastInDim S1024x2816 ![] bcast_S_S1024x2816 main_cst_1
  let main_v7 : IVec S1024x2816 1 := cmpf .ogt main_arg1 main_v6
  let main_cst_2 : FVec F S_ .f32 := constant S_ .f32 0x7F800000#32
  let main_v8 : FVec F S1024x2816 .f32 := broadcastInDim S1024x2816 ![] bcast_S_S1024x2816 main_cst_2
  let main_v9 : IVec S1024x2816 1 := cmpf .olt main_arg1 main_v8
  let main_v10 : IVec S1024x2816 1 := andi main_v7 main_v9
  let main_c_3 : IVec S_ 1 := constantI S_ 1 1#1
  let main_v11 : IVec S_ 1 := (fun x v => Host.reduce IntOp.andi x v reducesTo_S1024x2816_S_d0_1 h_S_) main_v10 main_c_3
  let main_v12 : IVec S_ 1 := andi main_v5 main_v11
  let main_cst_4 : FVec F S_ .f32 := constant S_ .f32 0xFF800000#32
  let main_v13 : FVec F S1024x2816 .f32 := broadcastInDim S1024x2816 ![] bcast_S_S1024x2816 main_cst_4
  let main_v14 : IVec S1024x2816 1 := cmpf .ogt main_arg2 main_v13
  let main_cst_5 : FVec F S_ .f32 := constant S_ .f32 0x7F800000#32
  let main_v15 : FVec F S1024x2816 .f32 := broadcastInDim S1024x2816 ![] bcast_S_S1024x2816 main_cst_5
  fn_part1 (F := F) main_arg2 main_v12 main_v14 main_v15
-- ==== MemBwd.lean ====
abbrev S4x2048x2560 : Shape := ⟨3, ![4, 2048, 2560]⟩
abbrev S4x256x512 : Shape := ⟨3, ![4, 256, 512]⟩
abbrev S4x2048x1024 : Shape := ⟨3, ![4, 2048, 1024]⟩
abbrev S4x2048x256 : Shape := ⟨3, ![4, 2048, 256]⟩
abbrev S1x512x256 : Shape := ⟨3, ![1, 512, 256]⟩
abbrev S1x256x512 : Shape := ⟨3, ![1, 256, 512]⟩
abbrev S256x512 : Shape := ⟨2, ![256, 512]⟩
abbrev S512x128 : Shape := ⟨2, ![512, 128]⟩
abbrev S1x512x128 : Shape := ⟨3, ![1, 512, 128]⟩
abbrev S1x256x128 : Shape := ⟨3, ![1, 256, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 5
  | .vmem => 10
  | .smem => 0
  | _ => 0

abbrev bufTy : (tb : Table) → Fin (tcTables nBuf tb) → BufTy
  | .hbm, ⟨0, _⟩ => ⟨S4x2048x2560, .f32⟩
  | .hbm, ⟨1, _⟩ => ⟨S4x256x512, .f32⟩
  | .hbm, ⟨2, _⟩ => ⟨S4x2048x1024, .f32⟩
  | .hbm, ⟨3, _⟩ => ⟨S4x2048x256, .bf16⟩
  | .hbm, ⟨4, _⟩ => ⟨S4x256x512, .f32⟩
  | .local _ .vmem, ⟨0, _⟩ => ⟨S1x512x256, .f32⟩
  | .local _ .vmem, ⟨1, _⟩ => ⟨S1x512x256, .f32⟩
  | .local _ .vmem, ⟨2, _⟩ => ⟨S1x256x512, .f32⟩
  | .local _ .vmem, ⟨3, _⟩ => ⟨S1x256x512, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .bf16⟩
  | .local _ .vmem, ⟨7, _⟩ => ⟨S1x512x256, .bf16⟩
  | .local _ .vmem, ⟨8, _⟩ => ⟨S1x256x512, .f32⟩
  | .local _ .vmem, ⟨9, _⟩ => ⟨S1x256x512, .f32⟩
  | _, _ => ⟨S4x2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MemGradIdeal.lean ====
abbrev S4x2048x2560 : Shape := ⟨3, ![4, 2048, 2560]⟩
abbrev S4x256x512 : Shape := ⟨3, ![4, 256, 512]⟩
abbrev S4x2048x1024 : Shape := ⟨3, ![4, 2048, 1024]⟩
abbrev S4x2048x256 : Shape := ⟨3, ![4, 2048, 256]⟩
abbrev S4x256x256 : Shape := ⟨3, ![4, 256, 256]⟩
abbrev S4x256x4x64 : Shape := ⟨4, ![4, 256, 4, 64]⟩
abbrev S4x2048x4x64 : Shape := ⟨4, ![4, 2048, 4, 64]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x64x2048 : Shape := ⟨4, ![4, 4, 64, 2048]⟩
abbrev S4x4x64x256 : Shape := ⟨4, ![4, 4, 64, 256]⟩
abbrev S4x4x256x64 : Shape := ⟨4, ![4, 4, 256, 64]⟩
abbrev S4x4x2048x64 : Shape := ⟨4, ![4, 4, 2048, 64]⟩

abbrev nBuf : Space → Nat
  | .hbm => 86
  | .vmem => 0
  | .smem => 0
  | _ => 0

abbrev bufTy : (tb : Table) → Fin (tcTables nBuf tb) → BufTy
  | .hbm, ⟨0, _⟩ => ⟨S4x2048x2560, .f32⟩
  | .hbm, ⟨1, _⟩ => ⟨S4x256x512, .f32⟩
  | .hbm, ⟨2, _⟩ => ⟨S4x2048x1024, .f32⟩
  | .hbm, ⟨3, _⟩ => ⟨S4x2048x256, .f32⟩
  | .hbm, ⟨4, _⟩ => ⟨S4x256x256, .f32⟩
  | .hbm, ⟨5, _⟩ => ⟨S4x256x256, .f32⟩
  | .hbm, ⟨6, _⟩ => ⟨S4x256x4x64, .f32⟩
  | .hbm, ⟨7, _⟩ => ⟨S4x256x4x64, .f32⟩
  | .hbm, ⟨8, _⟩ => ⟨S4x2048x4x64, .f32⟩
  | .hbm, ⟨9, _⟩ => ⟨S4x4x2048x256, .f32⟩
  | .hbm, ⟨10, _⟩ => ⟨S_, .f32⟩
  | .hbm, ⟨11, _⟩ => ⟨S4x4x2048x256, .f32⟩
  | .hbm, ⟨12, _⟩ => ⟨S4x4x2048x256, .f32⟩
  | .hbm, ⟨13, _⟩ => ⟨S_, .f32⟩
  | .hbm, ⟨14, _⟩ => ⟨S4x4x2048, .f32⟩
  | .hbm, ⟨15, _⟩ => ⟨S4x4x2048x1, .f32⟩
  | .hbm, ⟨16, _⟩ => ⟨S4x4x2048x256, .f32⟩
  | .hbm, ⟨17, _⟩ => ⟨S4x4x2048x256, .i1⟩
  | .hbm, ⟨18, _⟩ => ⟨S4x4x2048x256, .f32⟩
  | .hbm, ⟨19, _⟩ => ⟨S_, .f32⟩
  | .hbm, ⟨20, _⟩ => ⟨S4x4x2048, .f32⟩
  | .hbm, ⟨21, _⟩ => ⟨S_, .f32⟩
  | .hbm, ⟨22, _⟩ => ⟨S4x4x2048, .f32⟩
  | .hbm, ⟨23, _⟩ => ⟨S4x4x2048, .f32⟩
  | .hbm, ⟨24, _⟩ => ⟨S_, .f32⟩
  | .hbm, ⟨25, _⟩ => ⟨S4x4x2048, .f32⟩
  | .hbm, ⟨26, _⟩ => ⟨S4x4x2048, .i1⟩
  | .hbm, ⟨27, _⟩ => ⟨S_, .f32⟩
  | .hbm, ⟨28, _⟩ => ⟨S4x4x2048, .f32⟩
  | .hbm, ⟨29, _⟩ => ⟨S4x4x2048, .i1⟩
  | .hbm, ⟨30, _⟩ => ⟨S_, .f32⟩
  | .hbm, ⟨31, _⟩ => ⟨S4x4x2048, .f32⟩
  | .hbm, ⟨32, _⟩ => ⟨S_, .f32⟩
  | .hbm, ⟨33, _⟩ => ⟨S4x4x2048, .f32⟩
  | .hbm, ⟨34, _⟩ => ⟨S_, .f32⟩
  | .hbm, ⟨35, _⟩ => ⟨S4x4x2048, .f32⟩
  | .hbm, ⟨36, _⟩ => ⟨S4x4x2048, .f32⟩
  | .hbm, ⟨37, _⟩ => ⟨S4x4x2048, .f32⟩
  | .hbm, ⟨38, _⟩ => ⟨S4x4x2048x1, .f32⟩
  | .hbm, ⟨39, _⟩ => ⟨S4x4x2048x256, .f32⟩
  | .hbm, ⟨40, _⟩ => ⟨S4x4x2048x256, .f32⟩
  | .hbm, ⟨41, _⟩ => ⟨S4x4x2048x256, .f32⟩
  | .hbm, ⟨42, _⟩ => ⟨S_, .f32⟩
  | .hbm, ⟨43, _⟩ => ⟨S4x4x2048, .f32⟩
  | .hbm, ⟨44, _⟩ => ⟨S4x4x2048x1, .f32⟩
  | .hbm, ⟨45, _⟩ => ⟨S4x4x2048x256, .f32⟩
  | .hbm, ⟨46, _⟩ => ⟨S4x4x2048x256, .f32⟩
  | .hbm, ⟨47, _⟩ => ⟨S4x4x2048x1, .f32⟩
  | .hbm, ⟨48, _⟩ => ⟨S_, .f32⟩
  | .hbm, ⟨49, _⟩ => ⟨S4x4x2048x1, .f32⟩
  | .hbm, ⟨50, _⟩ => ⟨S4x4x2048x1, .f32⟩
  | .hbm, ⟨51, _⟩ => ⟨S4x4x64x2048, .f32⟩
  | .hbm, ⟨52, _⟩ => ⟨S4x2048x4x64, .f32⟩
  | .hbm, ⟨53, _⟩ => ⟨S4x2048x256, .f32⟩
  | .hbm, ⟨54, _⟩ => ⟨S4x2048x256, .f32⟩
  | .hbm, ⟨55, _⟩ => ⟨S4x2048x4x64, .f32⟩
  | .hbm, ⟨56, _⟩ => ⟨S4x4x64x2048, .f32⟩
  | .hbm, ⟨57, _⟩ => ⟨S4x4x2048x256, .f32⟩
  | .hbm, ⟨58, _⟩ => ⟨S4x4x64x256, .f32⟩
  | .hbm, ⟨59, _⟩ => ⟨S4x256x4x64, .f32⟩
  | .hbm, ⟨60, _⟩ => ⟨S4x4x2048x256, .f32⟩
  | .hbm, ⟨61, _⟩ => ⟨S4x4x2048x256, .f32⟩
  | .hbm, ⟨62, _⟩ => ⟨S4x4x2048x256, .f32⟩
  | .hbm, ⟨63, _⟩ => ⟨S_, .f32⟩
  | .hbm, ⟨64, _⟩ => ⟨S4x4x2048, .f32⟩
  | .hbm, ⟨65, _⟩ => ⟨S4x4x2048x1, .f32⟩
  | .hbm, ⟨66, _⟩ => ⟨S4x4x2048x1, .f32⟩
  | .hbm, ⟨67, _⟩ => ⟨S4x4x2048x256, .f32⟩
  | .hbm, ⟨68, _⟩ => ⟨S4x4x2048x256, .f32⟩
  | .hbm, ⟨69, _⟩ => ⟨S_, .f32⟩
  | .hbm, ⟨70, _⟩ => ⟨S4x4x2048, .f32⟩
  | .hbm, ⟨71, _⟩ => ⟨S4x4x2048x256, .f32⟩
  | .hbm, ⟨72, _⟩ => ⟨S4x4x2048x256, .f32⟩
  | .hbm, ⟨73, _⟩ => ⟨S4x4x2048x256, .f32⟩
  | .hbm, ⟨74, _⟩ => ⟨S_, .f32⟩
  | .hbm, ⟨75, _⟩ => ⟨S4x4x2048x256, .f32⟩
  | .hbm, ⟨76, _⟩ => ⟨S4x4x2048x256, .f32⟩
  | .hbm, ⟨77, _⟩ => ⟨S4x4x256x64, .f32⟩
  | .hbm, ⟨78, _⟩ => ⟨S4x256x4x64, .f32⟩
  | .hbm, ⟨79, _⟩ => ⟨S4x4x2048x64, .f32⟩
  | .hbm, ⟨80, _⟩ => ⟨S4x2048x4x64, .f32⟩
  | .hbm, ⟨81, _⟩ => ⟨S4x2048x256, .f32⟩
  | .hbm, ⟨82, _⟩ => ⟨S4x256x256, .f32⟩
  | .hbm, ⟨83, _⟩ => ⟨S4x256x256, .f32⟩
  | .hbm, ⟨84, _⟩ => ⟨S4x256x512, .f32⟩
  | .hbm, ⟨85, _⟩ => ⟨S4x2048x256, .bf16⟩
  | _, _ => ⟨S4x2048x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_10 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_11 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩

abbrev nD : Nat := 1
abbrev τ : Topo := Topo.v7x

variable {F : FTy → Type} [FloatOps F]
-- ==== SguBwd.lean ====
abbrev S4x2048x1792 : Shape := ⟨3, ![4, 2048, 1792]⟩
abbrev S4x2048x1024 : Shape := ⟨3, ![4, 2048, 1024]⟩
abbrev S768 : Shape := ⟨1, ![768]⟩
abbrev S12x128x128 : Shape := ⟨3, ![12, 128, 128]⟩
abbrev S12x128 : Shape := ⟨2, ![12, 128]⟩
abbrev S8192x1792 : Shape := ⟨2, ![8192, 1792]⟩
abbrev S8192x1024 : Shape := ⟨2, ![8192, 1024]⟩
abbrev S1x768 : Shape := ⟨2, ![1, 768]⟩
abbrev S128x12 : Shape := ⟨2, ![128, 12]⟩
abbrev S128x12x64 : Shape := ⟨3, ![128, 12, 64]⟩
abbrev S128x768 : Shape := ⟨2, ![128, 768]⟩
abbrev S8192x768 : Shape := ⟨2, ![8192, 768]⟩
abbrev S128x128 : Shape := ⟨2, ![128, 128]⟩
abbrev S512x768 : Shape := ⟨2, ![512, 768]⟩
abbrev S512 : Shape := ⟨1, ![512]⟩
abbrev S512x1 : Shape := ⟨2, ![512, 1]⟩
abbrev S1x128x128 : Shape := ⟨3, ![1, 128, 128]⟩
abbrev S128 : Shape := ⟨1, ![128]⟩
abbrev S128x1 : Shape := ⟨2, ![128, 1]⟩

abbrev nBuf : Space → Nat
  | .hbm => 19
  | .vmem => 23
  | .smem => 0
  | _ => 0

abbrev bufTy : (tb : Table) → Fin (tcTables nBuf tb) → BufTy
  | .hbm, ⟨0, _⟩ => ⟨S4x2048x1792, .f32⟩
  | .hbm, ⟨1, _⟩ => ⟨S4x2048x1024, .f32⟩
  | .hbm, ⟨2, _⟩ => ⟨S768, .f32⟩
  | .hbm, ⟨3, _⟩ => ⟨S768, .f32⟩
  | .hbm, ⟨4, _⟩ => ⟨S12x128x128, .f32⟩
  | .hbm, ⟨5, _⟩ => ⟨S12x128, .f32⟩
  | .hbm, ⟨6, _⟩ => ⟨S8192x1792, .f32⟩
  | .hbm, ⟨7, _⟩ => ⟨S8192x1024, .f32⟩
  | .hbm, ⟨8, _⟩ => ⟨S1x768, .f32⟩
  | .hbm, ⟨9, _⟩ => ⟨S1x768, .f32⟩
  | .hbm, ⟨10, _⟩ => ⟨S128x12, .f32⟩
  | .hbm, ⟨11, _⟩ => ⟨S128x12x64, .f32⟩
  | .hbm, ⟨12, _⟩ => ⟨S128x768, .f32⟩
  | .hbm, ⟨13, _⟩ => ⟨S8192x768, .bf16⟩
  | .hbm, ⟨14, _⟩ => ⟨S8192x768, .bf16⟩
  | .hbm, ⟨15, _⟩ => ⟨S12x128x128, .f32⟩
  | .hbm, ⟨16, _⟩ => ⟨S128x128, .f32⟩
  | .hbm, ⟨17, _⟩ => ⟨S1x768, .f32⟩
  | .hbm, ⟨18, _⟩ => ⟨S1x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S1x768, .f32⟩
  | .local _ .vmem, ⟨7, _⟩ => ⟨S1x768, .f32⟩
  | .local _ .vmem, ⟨8, _⟩ => ⟨S12x128x128, .f32⟩
  | .local _ .vmem, ⟨9, _⟩ => ⟨S128x768, .f32⟩
  | .local _ .vmem, ⟨10, _⟩ => ⟨S512x768, .bf16⟩
  | .local _ .vmem, ⟨11, _⟩ => ⟨S512x768, .bf16⟩
  | .local _ .vmem, ⟨12, _⟩ => ⟨S512x768, .bf16⟩
  | .local _ .vmem, ⟨13, _⟩ => ⟨S512x768, .bf16⟩
  | .local _ .vmem, ⟨14, _⟩ => ⟨S12x128x128, .f32⟩
  | .local _ .vmem, ⟨15, _⟩ => ⟨S128x128, .f32⟩
  | .local _ .vmem, ⟨16, _⟩ => ⟨S1x768, .f32⟩
  | .local _ .vmem, ⟨17, _⟩ => ⟨S1x768, .f32⟩
  | .local _ .vmem, ⟨18, _⟩ => ⟨S512x768, .bf16⟩
  | .local _ .vmem, ⟨19, _⟩ => ⟨S512x768, .f32⟩
  | .local _ .vmem, ⟨20, _⟩ => ⟨S512x768, .f32⟩
  | .local _ .vmem, ⟨21, _⟩ => ⟨S512x768, .f32⟩
  | .local _ .vmem, ⟨22, _⟩ => ⟨S128x768, .f32⟩
  | _, _ => ⟨S4x2048x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev main_v7_4 : Ref sig .tc := ⟨.hbm, 17, rfl⟩
abbrev main_v7_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v964 : BitVec 1 := Scalar.cmpi .eq arg0 c15_i32
  let v965 : BitVec 32 := Scalar.extui v964
  let c0_i32_604 : BitVec 32 := 0#32
  let v966 : BitVec 1 := Scalar.cmpi .ne v965 c0_i32_604
  v966

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S12x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S12x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== SguBwdIdeal.lean ====
variable {F : FTy → Type} [FloatOps F] [Named F]
def κ : String → Option EReal := fun
  | "cubic" => some ((8943 / 200000 : ℝ) : EReal)
  | "cubic3" => some ((26829 / 200000 : ℝ) : EReal)
  | _ => none
-- ==== SguGradIdeal.lean ====
abbrev S4x2048x1792 : Shape := ⟨3, ![4, 2048, 1792]⟩
abbrev S4x2048x1024 : Shape := ⟨3, ![4, 2048, 1024]⟩
abbrev S768 : Shape := ⟨1, ![768]⟩
abbrev S12x128x128 : Shape := ⟨3, ![12, 128, 128]⟩
abbrev S12x128 : Shape := ⟨2, ![12, 128]⟩
abbrev S4x2048x768 : Shape := ⟨3, ![4, 2048, 768]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S1x1x768 : Shape := ⟨3, ![1, 1, 768]⟩
abbrev S4x16x128x12x64 : Shape := ⟨5, ![4, 16, 128, 12, 64]⟩
abbrev S128x128 : Shape := ⟨2, ![128, 128]⟩
abbrev S1x128x128 : Shape := ⟨3, ![1, 128, 128]⟩
abbrev S12x4x16x64x128 : Shape := ⟨5, ![12, 4, 16, 64, 128]⟩
abbrev S128x12 : Shape := ⟨2, ![128, 12]⟩
abbrev S1x1x128x12x1 : Shape := ⟨5, ![1, 1, 128, 12, 1]⟩
abbrev S8192x768 : Shape := ⟨2, ![8192, 768]⟩
abbrev S1x768 : Shape := ⟨2, ![1, 768]⟩

abbrev nBuf : Space → Nat
  | .hbm => 227
  | .vmem => 0
  | .smem => 0
  | _ => 0

abbrev hbmTy0_0 (i : Nat) : BufTy := match i % 128 with
  | 0 => ⟨S4x2048x1792, .f32⟩
  | 1 => ⟨S4x2048x1024, .f32⟩
  | 2 => ⟨S768, .f32⟩
  | 3 => ⟨S768, .f32⟩
  | 4 => ⟨S12x128x128, .f32⟩
  | 5 => ⟨S12x128, .f32⟩
  | 6 => ⟨S4x2048x768, .f32⟩
  | 7 => ⟨S4x2048x768, .f32⟩
  | 8 => ⟨S4x2048x256, .f32⟩
  | 9 => ⟨S_, .f32⟩
  | 10 => ⟨S_, .f32⟩
  | 11 => ⟨S_, .f32⟩
  | 12 => ⟨S4x2048x768, .f32⟩
  | 13 => ⟨S4x2048x768, .f32⟩
  | 14 => ⟨S4x2048x768, .f32⟩
  | 15 => ⟨S_, .f32⟩
  | 16 => ⟨S4x2048x768, .f32⟩
  | 17 => ⟨S4x2048x768, .f32⟩
  | 18 => ⟨S4x2048x768, .f32⟩
  | 19 => ⟨S4x2048x768, .f32⟩
  | 20 => ⟨S4x2048x768, .f32⟩
  | 21 => ⟨S_, .f32⟩
  | 22 => ⟨S4x2048x768, .f32⟩
  | 23 => ⟨S4x2048x768, .f32⟩
  | 24 => ⟨S4x2048x768, .f32⟩
  | 25 => ⟨S_, .f32⟩
  | 26 => ⟨S4x2048x768, .f32⟩
  | 27 => ⟨S4x2048x768, .f32⟩
  | 28 => ⟨S_, .f32⟩
  | 29 => ⟨S4x2048x768, .f32⟩
  | 30 => ⟨S4x2048x768, .f32⟩
  | 31 => ⟨S4x2048x768, .f32⟩
  | 32 => ⟨S_, .f32⟩
  | 33 => ⟨S4x2048x768, .f32⟩
  | 34 => ⟨S4x2048x768, .f32⟩
  | 35 => ⟨S_, .f32⟩
  | 36 => ⟨S4x2048x768, .f32⟩
  | 37 => ⟨S4x2048x768, .f32⟩
  | 38 => ⟨S4x2048x768, .f32⟩
  | 39 => ⟨S_, .f32⟩
  | 40 => ⟨S_, .f32⟩
  | 41 => ⟨S_, .f32⟩
  | 42 => ⟨S4x2048x768, .f32⟩
  | 43 => ⟨S4x2048x768, .f32⟩
  | 44 => ⟨S4x2048x768, .f32⟩
  | 45 => ⟨S_, .f32⟩
  | 46 => ⟨S4x2048x768, .f32⟩
  | 47 => ⟨S4x2048x768, .f32⟩
  | 48 => ⟨S4x2048x768, .f32⟩
  | 49 => ⟨S4x2048x768, .f32⟩
  | 50 => ⟨S4x2048x768, .f32⟩
  | 51 => ⟨S_, .f32⟩
  | 52 => ⟨S4x2048x768, .f32⟩
  | 53 => ⟨S4x2048x768, .f32⟩
  | 54 => ⟨S4x2048x768, .f32⟩
  | 55 => ⟨S_, .f32⟩
  | 56 => ⟨S4x2048x768, .f32⟩
  | 57 => ⟨S4x2048x768, .f32⟩
  | 58 => ⟨S_, .f32⟩
  | 59 => ⟨S4x2048x768, .f32⟩
  | 60 => ⟨S4x2048x768, .f32⟩
  | 61 => ⟨S4x2048x768, .f32⟩
  | 62 => ⟨S_, .f32⟩
  | 63 => ⟨S4x2048x768, .f32⟩
  | 64 => ⟨S4x2048x768, .f32⟩
  | 65 => ⟨S_, .f32⟩
  | 66 => ⟨S4x2048x768, .f32⟩
  | 67 => ⟨S4x2048x768, .f32⟩
  | 68 => ⟨S4x2048x768, .f32⟩
  | 69 => ⟨S_, .f32⟩
  | 70 => ⟨S4x2048, .f32⟩
  | 71 => ⟨S4x2048x1, .f32⟩
  | 72 => ⟨S_, .f32⟩
  | 73 => ⟨S4x2048x1, .f32⟩
  | 74 => ⟨S4x2048x1, .f32⟩
  | 75 => ⟨S4x2048x768, .f32⟩
  | 76 => ⟨S4x2048x768, .f32⟩
  | 77 => ⟨S4x2048x768, .f32⟩
  | 78 => ⟨S_, .f32⟩
  | 79 => ⟨S4x2048x768, .f32⟩
  | 80 => ⟨S4x2048x768, .f32⟩
  | 81 => ⟨S_, .f32⟩
  | 82 => ⟨S4x2048, .f32⟩
  | 83 => ⟨S4x2048x1, .f32⟩
  | 84 => ⟨S_, .f32⟩
  | 85 => ⟨S4x2048x1, .f32⟩
  | 86 => ⟨S4x2048x1, .f32⟩
  | 87 => ⟨S4x2048x768, .f32⟩
  | 88 => ⟨S4x2048x768, .f32⟩
  | 89 => ⟨S_, .f32⟩
  | 90 => ⟨S4x2048x1, .f32⟩
  | 91 => ⟨S4x2048x1, .f32⟩
  | 92 => ⟨S4x2048x1, .f32⟩
  | 93 => ⟨S4x2048x1, .f32⟩
  | 94 => ⟨S_, .f32⟩
  | 95 => ⟨S4x2048x1, .f32⟩
  | 96 => ⟨S4x2048x1, .f32⟩
  | 97 => ⟨S4x2048x768, .f32⟩
  | 98 => ⟨S4x2048x768, .f32⟩
  | 99 => ⟨S1x1x768, .f32⟩
  | 100 => ⟨S4x2048x768, .f32⟩
  | 101 => ⟨S4x2048x768, .f32⟩
  | 102 => ⟨S1x1x768, .f32⟩
  | 103 => ⟨S4x2048x768, .f32⟩
  | 104 => ⟨S4x2048x768, .f32⟩
  | 105 => ⟨S4x16x128x12x64, .f32⟩
  | 106 => ⟨S_, .f32⟩
  | 107 => ⟨S128x128, .f32⟩
  | 108 => ⟨S128x128, .i32⟩
  | 109 => ⟨S_, .i32⟩
  | 110 => ⟨S128x128, .i32⟩
  | 111 => ⟨S128x128, .i32⟩
  | 112 => ⟨S128x128, .i32⟩
  | 113 => ⟨S128x128, .i1⟩
  | 114 => ⟨S_, .f32⟩
  | 115 => ⟨S128x128, .f32⟩
  | 116 => ⟨S128x128, .f32⟩
  | 117 => ⟨S1x128x128, .f32⟩
  | 118 => ⟨S12x128x128, .f32⟩
  | 119 => ⟨S12x128x128, .f32⟩
  | 120 => ⟨S12x4x16x64x128, .f32⟩
  | 121 => ⟨S4x16x128x12x64, .f32⟩
  | 122 => ⟨S128x12, .f32⟩
  | 123 => ⟨S1x1x128x12x1, .f32⟩
  | 124 => ⟨S4x16x128x12x64, .f32⟩
  | 125 => ⟨S4x16x128x12x64, .f32⟩
  | 126 => ⟨S4x2048x768, .f32⟩
  | 127 => ⟨S4x2048x768, .f32⟩
  | _ => ⟨S4x2048x1792, .f32⟩

abbrev hbmTy0_1 (i : Nat) : BufTy := match i % 128 with
  | 0 => ⟨S4x2048x768, .f32⟩
  | 1 => ⟨S4x2048x768, .f32⟩
  | 2 => ⟨S4x2048x768, .f32⟩
  | 3 => ⟨S4x16x128x12x64, .f32⟩
  | 4 => ⟨S_, .f32⟩
  | 5 => ⟨S128x12, .f32⟩
  | 6 => ⟨S1x1x128x12x1, .f32⟩
  | 7 => ⟨S_, .f32⟩
  | 8 => ⟨S128x12, .f32⟩
  | 9 => ⟨S12x128, .f32⟩
  | 10 => ⟨S12x4x16x64x128, .f32⟩
  | 11 => ⟨S12x128x128, .f32⟩
  | 12 => ⟨S12x4x16x64x128, .f32⟩
  | 13 => ⟨S4x16x128x12x64, .f32⟩
  | 14 => ⟨S12x128x128, .f32⟩
  | 15 => ⟨S12x128x128, .f32⟩
  | 16 => ⟨S4x2048x768, .f32⟩
  | 17 => ⟨S_, .f32⟩
  | 18 => ⟨S768, .f32⟩
  | 19 => ⟨S1x1x768, .f32⟩
  | 20 => ⟨S_, .f32⟩
  | 21 => ⟨S768, .f32⟩
  | 22 => ⟨S4x2048x768, .f32⟩
  | 23 => ⟨S_, .f32⟩
  | 24 => ⟨S768, .f32⟩
  | 25 => ⟨S1x1x768, .f32⟩
  | 26 => ⟨S4x2048x768, .f32⟩
  | 27 => ⟨S4x2048x768, .f32⟩
  | 28 => ⟨S_, .f32⟩
  | 29 => ⟨S768, .f32⟩
  | 30 => ⟨S4x2048x768, .f32⟩
  | 31 => ⟨S_, .f32⟩
  | 32 => ⟨S4x2048, .f32⟩
  | 33 => ⟨S4x2048x1, .f32⟩
  | 34 => ⟨S4x2048x768, .f32⟩
  | 35 => ⟨S4x2048x768, .f32⟩
  | 36 => ⟨S4x2048x1, .f32⟩
  | 37 => ⟨S4x2048x768, .f32⟩
  | 38 => ⟨S_, .f32⟩
  | 39 => ⟨S4x2048, .f32⟩
  | 40 => ⟨S4x2048x1, .f32⟩
  | 41 => ⟨S_, .f32⟩
  | 42 => ⟨S4x2048x1, .f32⟩
  | 43 => ⟨S4x2048x1, .f32⟩
  | 44 => ⟨S_, .f32⟩
  | 45 => ⟨S4x2048, .f32⟩
  | 46 => ⟨S4x2048x768, .f32⟩
  | 47 => ⟨S4x2048x768, .f32⟩
  | 48 => ⟨S4x2048x768, .f32⟩
  | 49 => ⟨S_, .f32⟩
  | 50 => ⟨S4x2048, .f32⟩
  | 51 => ⟨S4x2048x1, .f32⟩
  | 52 => ⟨S4x2048x768, .f32⟩
  | 53 => ⟨S4x2048x1, .f32⟩
  | 54 => ⟨S_, .f32⟩
  | 55 => ⟨S4x2048x1, .f32⟩
  | 56 => ⟨S4x2048x1, .f32⟩
  | 57 => ⟨S_, .f32⟩
  | 58 => ⟨S4x2048, .f32⟩
  | 59 => ⟨S4x2048x768, .f32⟩
  | 60 => ⟨S4x2048x768, .f32⟩
  | 61 => ⟨S4x2048x768, .f32⟩
  | 62 => ⟨S4x2048x768, .f32⟩
  | 63 => ⟨S_, .f32⟩
  | 64 => ⟨S4x2048x768, .f32⟩
  | 65 => ⟨S4x2048x768, .f32⟩
  | 66 => ⟨S4x2048x768, .f32⟩
  | 67 => ⟨S_, .f32⟩
  | 68 => ⟨S4x2048x768, .f32⟩
  | 69 => ⟨S4x2048x768, .f32⟩
  | 70 => ⟨S4x2048x768, .f32⟩
  | 71 => ⟨S4x2048x768, .f32⟩
  | 72 => ⟨S4x2048x768, .f32⟩
  | 73 => ⟨S4x2048x768, .f32⟩
  | 74 => ⟨S4x2048x768, .f32⟩
  | 75 => ⟨S4x2048x768, .f32⟩
  | 76 => ⟨S4x2048x768, .f32⟩
  | 77 => ⟨S_, .f32⟩
  | 78 => ⟨S4x2048x768, .f32⟩
  | 79 => ⟨S4x2048x768, .f32⟩
  | 80 => ⟨S4x2048x768, .f32⟩
  | 81 => ⟨S_, .f32⟩
  | 82 => ⟨S4x2048x768, .f32⟩
  | 83 => ⟨S4x2048x768, .f32⟩
  | 84 => ⟨S4x2048x768, .f32⟩
  | 85 => ⟨S4x2048x768, .f32⟩
  | 86 => ⟨S4x2048x768, .f32⟩
  | 87 => ⟨S4x2048x768, .f32⟩
  | 88 => ⟨S4x2048x768, .f32⟩
  | 89 => ⟨S4x2048x768, .bf16⟩
  | 90 => ⟨S8192x768, .bf16⟩
  | 91 => ⟨S4x2048x768, .bf16⟩
  | 92 => ⟨S8192x768, .bf16⟩
  | 93 => ⟨S128x12, .f32⟩
  | 94 => ⟨S_, .i32⟩
  | 95 => ⟨S_, .f32⟩
  | 96 => ⟨S128x128, .f32⟩
  | 97 => ⟨S1x768, .f32⟩
  | 98 => ⟨S1x768, .f32⟩
  | _ => ⟨S4x2048x1792, .f32⟩

abbrev hbmTy (i : Nat) : BufTy := match i / 128 with
  | 0 => hbmTy0_0 i
  | 1 => hbmTy0_1 i
  | _ => ⟨S4x2048x1792, .f32⟩

abbrev bufTy : (tb : Table) → Fin (tcTables nBuf tb) → BufTy
  | .hbm, ⟨i, _⟩ => hbmTy i
  | _, _ => ⟨S4x2048x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_cst_8 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_9 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_10 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_11 : Ref sig .tc := ⟨.hbm, 55, rfl⟩
abbrev main_v37 : Ref sig .tc := ⟨.hbm, 56, rfl⟩
abbrev main_v38 : Ref sig .tc := ⟨.hbm, 57, rfl⟩
abbrev main_cst_12 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_13 : Ref sig .tc := ⟨.hbm, 62, rfl⟩
abbrev main_v42 : Ref sig .tc := ⟨.hbm, 63, rfl⟩
abbrev main_v43 : Ref sig .tc := ⟨.hbm, 64, rfl⟩
abbrev main_cst_14 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_15 : Ref sig .tc := ⟨.hbm, 69, rfl⟩
abbrev main_v47 : Ref sig .tc := ⟨.hbm, 70, rfl⟩
abbrev main_v48 : Ref sig .tc := ⟨.hbm, 71, rfl⟩
abbrev main_cst_16 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_17 : Ref sig .tc := ⟨.hbm, 78, rfl⟩
abbrev main_v54 : Ref sig .tc := ⟨.hbm, 79, rfl⟩
abbrev main_v55 : Ref sig .tc := ⟨.hbm, 80, rfl⟩
abbrev main_cst_18 : Ref sig .tc := ⟨.hbm, 81, rfl⟩
abbrev main_v56 : Ref sig .tc := ⟨.hbm, 82, rfl⟩
abbrev main_v57 : Ref sig .tc := ⟨.hbm, 83, rfl⟩
abbrev main_cst_19 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_20 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_21 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_22 : Ref sig .tc := ⟨.hbm, 106, rfl⟩
abbrev main_v77 : Ref sig .tc := ⟨.hbm, 107, rfl⟩
abbrev main_call0_v0 : Ref sig .tc := ⟨.hbm, 108, rfl⟩
abbrev main_call0_c : Ref sig .tc := ⟨.hbm, 109, rfl⟩
abbrev main_call0_v1 : Ref sig .tc := ⟨.hbm, 110, rfl⟩
abbrev main_call0_v2 : Ref sig .tc := ⟨.hbm, 111, rfl⟩
abbrev main_call0_v3 : Ref sig .tc := ⟨.hbm, 112, rfl⟩
abbrev main_call0_v4 : Ref sig .tc := ⟨.hbm, 113, rfl⟩
abbrev main_call0_cst : Ref sig .tc := ⟨.hbm, 114, rfl⟩
abbrev main_call0_v5 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_cst_23 : Ref sig .tc := ⟨.hbm, 132, rfl⟩
abbrev main_v94 : Ref sig .tc := ⟨.hbm, 133, rfl⟩
abbrev main_v95 : Ref sig .tc := ⟨.hbm, 134, rfl⟩
abbrev main_cst_24 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_cst_25 : Ref sig .tc := ⟨.hbm, 145, rfl⟩
abbrev main_v105 : Ref sig .tc := ⟨.hbm, 146, rfl⟩
abbrev main_v106 : Ref sig .tc := ⟨.hbm, 147, rfl⟩
abbrev main_cst_26 : Ref sig .tc := ⟨.hbm, 148, rfl⟩
abbrev main_v107 : Ref sig .tc := ⟨.hbm, 149, rfl⟩
abbrev main_v108 : Ref sig .tc := ⟨.hbm, 150, rfl⟩
abbrev main_cst_27 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_cst_28 : Ref sig .tc := ⟨.hbm, 156, rfl⟩
abbrev main_v113 : Ref sig .tc := ⟨.hbm, 157, rfl⟩
abbrev main_v114 : Ref sig .tc := ⟨.hbm, 158, rfl⟩
abbrev main_cst_29 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_cst_30 : Ref sig .tc := ⟨.hbm, 166, rfl⟩
abbrev main_v121 : Ref sig .tc := ⟨.hbm, 167, rfl⟩
abbrev main_v122 : Ref sig .tc := ⟨.hbm, 168, rfl⟩
abbrev main_cst_31 : Ref sig .tc := ⟨.hbm, 169, rfl⟩
abbrev main_v123 : Ref sig .tc := ⟨.hbm, 170, rfl⟩
abbrev main_v124 : Ref sig .tc := ⟨.hbm, 171, rfl⟩
abbrev main_cst_32 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_cst_33 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_cst_34 : Ref sig .tc := ⟨.hbm, 182, rfl⟩
abbrev main_v133 : Ref sig .tc := ⟨.hbm, 183, rfl⟩
abbrev main_v134 : Ref sig .tc := ⟨.hbm, 184, rfl⟩
abbrev main_cst_35 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_cst_36 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_cst_37 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_cst_38 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_cst_39 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩
abbrev main_v164 : Ref sig .tc := ⟨.hbm, 219, rfl⟩
abbrev main_v165 : Ref sig .tc := ⟨.hbm, 220, rfl⟩
abbrev main_v166 : Ref sig .tc := ⟨.hbm, 221, rfl⟩
abbrev main_c : Ref sig .tc := ⟨.hbm, 222, rfl⟩
abbrev main_call1_v0 : Ref sig .tc := ⟨.hbm, 223, rfl⟩
abbrev main_v167 : Ref sig .tc := ⟨.hbm, 224, rfl⟩
abbrev main_v168 : Ref sig .tc := ⟨.hbm, 225, rfl⟩
abbrev main_v169 : Ref sig .tc := ⟨.hbm, 226, rfl⟩

abbrev nD : Nat := 1
abbrev τ : Topo := Topo.v7x

variable {F : FTy → Type} [FloatOps F]
-- ==== GateBwd.lean ====
abbrev S4x2048x1024 : Shape := ⟨3, ![4, 2048, 1024]⟩
abbrev S1024x2816 : Shape := ⟨2, ![1024, 2816]⟩
abbrev S2816x1024 : Shape := ⟨2, ![2816, 1024]⟩
abbrev S8192x1024 : Shape := ⟨2, ![8192, 1024]⟩
abbrev S8192x2816 : Shape := ⟨2, ![8192, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 19
  | .vmem => 24
  | .smem => 0
  | _ => 0

abbrev bufTy : (tb : Table) → Fin (tcTables nBuf tb) → BufTy
  | .hbm, ⟨0, _⟩ => ⟨S4x2048x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4x2048x1024, .f32⟩
  | .hbm, ⟨5, _⟩ => ⟨S2816x1024, .f32⟩
  | .hbm, ⟨6, _⟩ => ⟨S2816x1024, .bf16⟩
  | .hbm, ⟨7, _⟩ => ⟨S2816x1024, .f32⟩
  | .hbm, ⟨8, _⟩ => ⟨S2816x1024, .bf16⟩
  | .hbm, ⟨9, _⟩ => ⟨S8192x1024, .f32⟩
  | .hbm, ⟨10, _⟩ => ⟨S8192x1024, .bf16⟩
  | .hbm, ⟨11, _⟩ => ⟨S8192x2816, .bf16⟩
  | .hbm, ⟨12, _⟩ => ⟨S8192x2816, .bf16⟩
  | .hbm, ⟨13, _⟩ => ⟨S8192x2816, .bf16⟩
  | .hbm, ⟨14, _⟩ => ⟨S8192x1024, .f32⟩
  | .hbm, ⟨15, _⟩ => ⟨S8192x1024, .bf16⟩
  | .hbm, ⟨16, _⟩ => ⟨S2816x1024, .bf16⟩
  | .hbm, ⟨17, _⟩ => ⟨S8192x2816, .bf16⟩
  | .hbm, ⟨18, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S512x1024, .bf16⟩
  | .local _ .vmem, ⟨13, _⟩ => ⟨S512x1024, .bf16⟩
  | .local _ .vmem, ⟨14, _⟩ => ⟨S1408x1024, .bf16⟩
  | .local _ .vmem, ⟨15, _⟩ => ⟨S1408x1024, .bf16⟩
  | .local _ .vmem, ⟨16, _⟩ => ⟨S512x1408, .bf16⟩
  | .local _ .vmem, ⟨17, _⟩ => ⟨S512x1408, .bf16⟩
  | .local _ .vmem, ⟨18, _⟩ => ⟨S512x1408, .bf16⟩
  | .local _ .vmem, ⟨19, _⟩ => ⟨S512x1408, .bf16⟩
  | .local _ .vmem, ⟨20, _⟩ => ⟨S512x1408, .bf16⟩
  | .local _ .vmem, ⟨21, _⟩ => ⟨S512x1408, .bf16⟩
  | .local _ .vmem, ⟨22, _⟩ => ⟨S512x1408, .bf16⟩
  | .local _ .vmem, ⟨23, _⟩ => ⟨S512x1408, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1408x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S512x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x1408 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x1408 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S512x1408 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== GateGradIdeal.lean ====
abbrev S4x2048x1024 : Shape := ⟨3, ![4, 2048, 1024]⟩
abbrev S1024x2816 : Shape := ⟨2, ![1024, 2816]⟩
abbrev S2816x1024 : Shape := ⟨2, ![2816, 1024]⟩
abbrev S4x2048x2816 : Shape := ⟨3, ![4, 2048, 2816]⟩
abbrev S_ : Shape := ⟨0, ![]⟩
abbrev S8192x2816 : Shape := ⟨2, ![8192, 2816]⟩

abbrev nBuf : Space → Nat
  | .hbm => 33
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4x2048x1024, .f32⟩
  | .hbm, ⟨5, _⟩ => ⟨S4x2048x2816, .f32⟩
  | .hbm, ⟨6, _⟩ => ⟨S4x2048x2816, .f32⟩
  | .hbm, ⟨7, _⟩ => ⟨S4x2048x2816, .f32⟩
  | .hbm, ⟨8, _⟩ => ⟨S4x2048x2816, .f32⟩
  | .hbm, ⟨9, _⟩ => ⟨S_, .f32⟩
  | .hbm, ⟨10, _⟩ => ⟨S4x2048x2816, .f32⟩
  | .hbm, ⟨11, _⟩ => ⟨S4x2048x2816, .f32⟩
  | .hbm, ⟨12, _⟩ => ⟨S_, .f32⟩
  | .hbm, ⟨13, _⟩ => ⟨S4x2048x2816, .f32⟩
  | .hbm, ⟨14, _⟩ => ⟨S4x2048x2816, .f32⟩
  | .hbm, ⟨15, _⟩ => ⟨S_, .f32⟩
  | .hbm, ⟨16, _⟩ => ⟨S4x2048x2816, .f32⟩
  | .hbm, ⟨17, _⟩ => ⟨S4x2048x2816, .f32⟩
  | .hbm, ⟨18, _⟩ => ⟨S4x2048x2816, .f32⟩
  | .hbm, ⟨19, _⟩ => ⟨S4x2048x2816, .f32⟩
  | .hbm, ⟨20, _⟩ => ⟨S4x2048x2816, .f32⟩
  | .hbm, ⟨21, _⟩ => ⟨S4x2048x1024, .f32⟩
  | .hbm, ⟨22, _⟩ => ⟨S4x2048x2816, .f32⟩
  | .hbm, ⟨23, _⟩ => ⟨S4x2048x2816, .f32⟩
  | .hbm, ⟨24, _⟩ => ⟨S4x2048x2816, .f32⟩
  | .hbm, ⟨25, _⟩ => ⟨S4x2048x2816, .f32⟩
  | .hbm, ⟨26, _⟩ => ⟨S4x2048x2816, .f32⟩
  | .hbm, ⟨27, _⟩ => ⟨S4x2048x2816, .f32⟩
  | .hbm, ⟨28, _⟩ => ⟨S4x2048x2816, .f32⟩
  | .hbm, ⟨29, _⟩ => ⟨S4x2048x2816, .bf16⟩
  | .hbm, ⟨30, _⟩ => ⟨S8192x2816, .bf16⟩
  | .hbm, ⟨31, _⟩ => ⟨S4x2048x2816, .bf16⟩
  | .hbm, ⟨32, _⟩ => ⟨S8192x2816, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩

abbrev nD : Nat := 1
abbrev τ : Topo := Topo.v7x

variable {F : FTy → Type} [FloatOps F]
-- ==== FfnIn.lean ====
abbrev S4x2048x2816 : Shape := ⟨3, ![4, 2048, 2816]⟩
abbrev S1024x2816 : Shape := ⟨2, ![1024, 2816]⟩
abbrev S4x2048x1024 : Shape := ⟨3, ![4, 2048, 1024]⟩
abbrev S1024 : Shape := ⟨1, ![1024]⟩
abbrev S2816x1024 : Shape := ⟨2, ![2816, 1024]⟩
abbrev S8192x2816 : Shape := ⟨2, ![8192, 2816]⟩
abbrev S8192x1024 : Shape := ⟨2, ![8192, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 21
  | .vmem => 17
  | .smem => 0
  | _ => 0

abbrev bufTy : (tb : Table) → Fin (tcTables nBuf tb) → BufTy
  | .hbm, ⟨0, _⟩ => ⟨S4x2048x2816, .bf16⟩
  | .hbm, ⟨1, _⟩ => ⟨S4x2048x2816, .bf16⟩
  | .hbm, ⟨2, _⟩ => ⟨S1024x2816, .f32⟩
  | .hbm, ⟨3, _⟩ => ⟨S1024x2816, .f32⟩
  | .hbm, ⟨4, _⟩ => ⟨S4x2048x1024, .f32⟩
  | .hbm, ⟨5, _⟩ => ⟨S4x2048x1024, .f32⟩
  | .hbm, ⟨6, _⟩ => ⟨S1024, .f32⟩
  | .hbm, ⟨7, _⟩ => ⟨S1024, .f32⟩
  | .hbm, ⟨8, _⟩ => ⟨S2816x1024, .f32⟩
  | .hbm, ⟨9, _⟩ => ⟨S2816x1024, .bf16⟩
  | .hbm, ⟨10, _⟩ => ⟨S2816x1024, .f32⟩
  | .hbm, ⟨11, _⟩ => ⟨S2816x1024, .bf16⟩
  | .hbm, ⟨12, _⟩ => ⟨S8192x2816, .bf16⟩
  | .hbm, ⟨13, _⟩ => ⟨S8192x2816, .bf16⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .bf16⟩
  | .hbm, ⟨19, _⟩ => ⟨S1x1024, .f32⟩
  | .hbm, ⟨20, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S2816x1024, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024, .f32⟩
  | _, _ => ⟨S4x2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== FfnGradIdeal.lean ====
abbrev S4x2048x2816 : Shape := ⟨3, ![4, 2048, 2816]⟩
abbrev S1024x2816 : Shape := ⟨2, ![1024, 2816]⟩
abbrev S4x2048x1024 : Shape := ⟨3, ![4, 2048, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S8192x1024 : Shape := ⟨2, ![8192, 1024]⟩
abbrev S1x1024 : Shape := ⟨2, ![1, 1024]⟩

abbrev nBuf : Space → Nat
  | .hbm => 107
  | .vmem => 0
  | .smem => 0
  | _ => 0

abbrev bufTy : (tb : Table) → Fin (tcTables nBuf tb) → BufTy
  | .hbm, ⟨0, _⟩ => ⟨S4x2048x2816, .bf16⟩
  | .hbm, ⟨1, _⟩ => ⟨S4x2048x2816, .bf16⟩
  | .hbm, ⟨2, _⟩ => ⟨S1024x2816, .f32⟩
  | .hbm, ⟨3, _⟩ => ⟨S1024x2816, .f32⟩
  | .hbm, ⟨4, _⟩ => ⟨S4x2048x1024, .f32⟩
  | .hbm, ⟨5, _⟩ => ⟨S4x2048x1024, .f32⟩
  | .hbm, ⟨6, _⟩ => ⟨S1024, .f32⟩
  | .hbm, ⟨7, _⟩ => ⟨S1024, .f32⟩
  | .hbm, ⟨8, _⟩ => ⟨S_, .f32⟩
  | .hbm, ⟨9, _⟩ => ⟨S4x2048, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1024, .f32⟩
  | .hbm, ⟨15, _⟩ => ⟨S4x2048x1024, .f32⟩
  | .hbm, ⟨16, _⟩ => ⟨S4x2048x1024, .f32⟩
  | .hbm, ⟨17, _⟩ => ⟨S_, .f32⟩
  | .hbm, ⟨18, _⟩ => ⟨S4x2048x1024, .f32⟩
  | .hbm, ⟨19, _⟩ => ⟨S4x2048x1024, .f32⟩
  | .hbm, ⟨20, _⟩ => ⟨S_, .f32⟩
  | .hbm, ⟨21, _⟩ => ⟨S4x2048, .f32⟩
  | .hbm, ⟨22, _⟩ => ⟨S4x2048x1, .f32⟩
  | .hbm, ⟨23, _⟩ => ⟨S_, .f32⟩
  | .hbm, ⟨24, _⟩ => ⟨S4x2048x1, .f32⟩
  | .hbm, ⟨25, _⟩ => ⟨S4x2048x1, .f32⟩
  | .hbm, ⟨26, _⟩ => ⟨S4x2048x1024, .f32⟩
  | .hbm, ⟨27, _⟩ => ⟨S4x2048x1024, .f32⟩
  | .hbm, ⟨28, _⟩ => ⟨S_, .f32⟩
  | .hbm, ⟨29, _⟩ => ⟨S4x2048x1, .f32⟩
  | .hbm, ⟨30, _⟩ => ⟨S4x2048x1, .f32⟩
  | .hbm, ⟨31, _⟩ => ⟨S4x2048x1, .f32⟩
  | .hbm, ⟨32, _⟩ => ⟨S4x2048x1, .f32⟩
  | .hbm, ⟨33, _⟩ => ⟨S_, .f32⟩
  | .hbm, ⟨34, _⟩ => ⟨S4x2048x1, .f32⟩
  | .hbm, ⟨35, _⟩ => ⟨S4x2048x1, .f32⟩
  | .hbm, ⟨36, _⟩ => ⟨S4x2048x1024, .f32⟩
  | .hbm, ⟨37, _⟩ => ⟨S4x2048x1024, .f32⟩
  | .hbm, ⟨38, _⟩ => ⟨S1x1x1024, .f32⟩
  | .hbm, ⟨39, _⟩ => ⟨S4x2048x1024, .f32⟩
  | .hbm, ⟨40, _⟩ => ⟨S4x2048x1024, .f32⟩
  | .hbm, ⟨41, _⟩ => ⟨S1x1x1024, .f32⟩
  | .hbm, ⟨42, _⟩ => ⟨S4x2048x1024, .f32⟩
  | .hbm, ⟨43, _⟩ => ⟨S4x2048x1024, .f32⟩
  | .hbm, ⟨44, _⟩ => ⟨S4x2048x2816, .f32⟩
  | .hbm, ⟨45, _⟩ => ⟨S4x2048x2816, .f32⟩
  | .hbm, ⟨46, _⟩ => ⟨S_, .f32⟩
  | .hbm, ⟨47, _⟩ => ⟨S4x2048x1024, .f32⟩
  | .hbm, ⟨48, _⟩ => ⟨S4x2048x1024, .f32⟩
  | .hbm, ⟨49, _⟩ => ⟨S4x2048x2816, .f32⟩
  | .hbm, ⟨50, _⟩ => ⟨S4x2048x2816, .f32⟩
  | .hbm, ⟨51, _⟩ => ⟨S_, .f32⟩
  | .hbm, ⟨52, _⟩ => ⟨S4x2048x1024, .f32⟩
  | .hbm, ⟨53, _⟩ => ⟨S4x2048x1024, .f32⟩
  | .hbm, ⟨54, _⟩ => ⟨S4x2048x1024, .f32⟩
  | .hbm, ⟨55, _⟩ => ⟨S4x2048x1024, .f32⟩
  | .hbm, ⟨56, _⟩ => ⟨S4x2048x1024, .f32⟩
  | .hbm, ⟨57, _⟩ => ⟨S4x2048x1024, .f32⟩
  | .hbm, ⟨58, _⟩ => ⟨S_, .f32⟩
  | .hbm, ⟨59, _⟩ => ⟨S1024, .f32⟩
  | .hbm, ⟨60, _⟩ => ⟨S1x1x1024, .f32⟩
  | .hbm, ⟨61, _⟩ => ⟨S_, .f32⟩
  | .hbm, ⟨62, _⟩ => ⟨S1024, .f32⟩
  | .hbm, ⟨63, _⟩ => ⟨S4x2048x1024, .f32⟩
  | .hbm, ⟨64, _⟩ => ⟨S_, .f32⟩
  | .hbm, ⟨65, _⟩ => ⟨S1024, .f32⟩
  | .hbm, ⟨66, _⟩ => ⟨S1x1x1024, .f32⟩
  | .hbm, ⟨67, _⟩ => ⟨S4x2048x1024, .f32⟩
  | .hbm, ⟨68, _⟩ => ⟨S4x2048x1024, .f32⟩
  | .hbm, ⟨69, _⟩ => ⟨S_, .f32⟩
  | .hbm, ⟨70, _⟩ => ⟨S1024, .f32⟩
  | .hbm, ⟨71, _⟩ => ⟨S4x2048x1024, .f32⟩
  | .hbm, ⟨72, _⟩ => ⟨S_, .f32⟩
  | .hbm, ⟨73, _⟩ => ⟨S4x2048, .f32⟩
  | .hbm, ⟨74, _⟩ => ⟨S4x2048x1, .f32⟩
  | .hbm, ⟨75, _⟩ => ⟨S4x2048x1024, .f32⟩
  | .hbm, ⟨76, _⟩ => ⟨S4x2048x1024, .f32⟩
  | .hbm, ⟨77, _⟩ => ⟨S4x2048x1, .f32⟩
  | .hbm, ⟨78, _⟩ => ⟨S4x2048x1024, .f32⟩
  | .hbm, ⟨79, _⟩ => ⟨S_, .f32⟩
  | .hbm, ⟨80, _⟩ => ⟨S4x2048, .f32⟩
  | .hbm, ⟨81, _⟩ => ⟨S4x2048x1, .f32⟩
  | .hbm, ⟨82, _⟩ => ⟨S_, .f32⟩
  | .hbm, ⟨83, _⟩ => ⟨S4x2048x1, .f32⟩
  | .hbm, ⟨84, _⟩ => ⟨S4x2048x1, .f32⟩
  | .hbm, ⟨85, _⟩ => ⟨S_, .f32⟩
  | .hbm, ⟨86, _⟩ => ⟨S4x2048, .f32⟩
  | .hbm, ⟨87, _⟩ => ⟨S4x2048x1024, .f32⟩
  | .hbm, ⟨88, _⟩ => ⟨S4x2048x1024, .f32⟩
  | .hbm, ⟨89, _⟩ => ⟨S4x2048x1024, .f32⟩
  | .hbm, ⟨90, _⟩ => ⟨S_, .f32⟩
  | .hbm, ⟨91, _⟩ => ⟨S4x2048, .f32⟩
  | .hbm, ⟨92, _⟩ => ⟨S4x2048x1, .f32⟩
  | .hbm, ⟨93, _⟩ => ⟨S4x2048x1024, .f32⟩
  | .hbm, ⟨94, _⟩ => ⟨S4x2048x1, .f32⟩
  | .hbm, ⟨95, _⟩ => ⟨S_, .f32⟩
  | .hbm, ⟨96, _⟩ => ⟨S4x2048x1, .f32⟩
  | .hbm, ⟨97, _⟩ => ⟨S4x2048x1, .f32⟩
  | .hbm, ⟨98, _⟩ => ⟨S_, .f32⟩
  | .hbm, ⟨99, _⟩ => ⟨S4x2048, .f32⟩
  | .hbm, ⟨100, _⟩ => ⟨S4x2048x1024, .f32⟩
  | .hbm, ⟨101, _⟩ => ⟨S4x2048x1024, .f32⟩
  | .hbm, ⟨102, _⟩ => ⟨S8192x1024, .f32⟩
  | .hbm, ⟨103, _⟩ => ⟨S8192x1024, .f32⟩
  | .hbm, ⟨104, _⟩ => ⟨S8192x1024, .bf16⟩
  | .hbm, ⟨105, _⟩ => ⟨S1x1024, .f32⟩
  | .hbm, ⟨106, _⟩ => ⟨S1x1024, .f32⟩
  | _, _ => ⟨S4x2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_cst_10 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_11 : Ref sig .tc := ⟨.hbm, 69, rfl⟩
abbrev main_v49 : Ref sig .tc := ⟨.hbm, 70, rfl⟩
abbrev main_v50 : Ref sig .tc := ⟨.hbm, 71, rfl⟩
abbrev main_cst_12 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_13 : Ref sig .tc := ⟨.hbm, 79, rfl⟩
abbrev main_v57 : Ref sig .tc := ⟨.hbm, 80, rfl⟩
abbrev main_v58 : Ref sig .tc := ⟨.hbm, 81, rfl⟩
abbrev main_cst_14 : Ref sig .tc := ⟨.hbm, 82, rfl⟩
abbrev main_v59 : Ref sig .tc := ⟨.hbm, 83, rfl⟩
abbrev main_v60 : Ref sig .tc := ⟨.hbm, 84, rfl⟩
abbrev main_cst_15 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_16 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_17 : Ref sig .tc := ⟨.hbm, 95, rfl⟩
abbrev main_v69 : Ref sig .tc := ⟨.hbm, 96, rfl⟩
abbrev main_v70 : Ref sig .tc := ⟨.hbm, 97, rfl⟩
abbrev main_cst_18 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩

abbrev nD : Nat := 1
abbrev τ : Topo := Topo.v7x

variable {F : FTy → Type} [FloatOps F]
-- ==== ProjBwd.lean ====
abbrev S4x2048x768 : Shape := ⟨3, ![4, 2048, 768]⟩
abbrev S4x2048x256 : Shape := ⟨3, ![4, 2048, 256]⟩
abbrev S1024x2560 : Shape := ⟨2, ![1024, 2560]⟩
abbrev S4x2048x1024 : Shape := ⟨3, ![4, 2048, 1024]⟩
abbrev S1024 : Shape := ⟨1, ![1024]⟩
abbrev S8192x768 : Shape := ⟨2, ![8192, 768]⟩
abbrev S8192x256 : Shape := ⟨2, ![8192, 256]⟩
abbrev S8192x2560 : Shape := ⟨2, ![8192, 2560]⟩
abbrev S2560x1024 : Shape := ⟨2, ![2560, 1024]⟩
abbrev S8192x1024 : Shape := ⟨2, ![8192, 1024]⟩
abbrev S1x1024 : Shape := ⟨2, ![1, 1024]⟩
abbrev S512x2560 : Shape := ⟨2, ![512, 2560]⟩
abbrev S512x1024 : Shape := ⟨2, ![512, 1024]⟩
abbrev S512 : Shape := ⟨1, ![512]⟩
abbrev S512x1 : Shape := ⟨2, ![512, 1]⟩

abbrev nBuf : Space → Nat
  | .hbm => 23
  | .vmem => 14
  | .smem => 0
  | _ => 0

abbrev bufTy : (tb : Table) → Fin (tcTables nBuf tb) → BufTy
  | .hbm, ⟨0, _⟩ => ⟨S4x2048x768, .bf16⟩
  | .hbm, ⟨1, _⟩ => ⟨S4x2048x768, .bf16⟩
  | .hbm, ⟨2, _⟩ => ⟨S4x2048x768, .bf16⟩
  | .hbm, ⟨3, _⟩ => ⟨S4x2048x256, .bf16⟩
  | .hbm, ⟨4, _⟩ => ⟨S1024x2560, .f32⟩
  | .hbm, ⟨5, _⟩ => ⟨S4x2048x1024, .f32⟩
  | .hbm, ⟨6, _⟩ => ⟨S4x2048x1024, .f32⟩
  | .hbm, ⟨7, _⟩ => ⟨S1024, .f32⟩
  | .hbm, ⟨8, _⟩ => ⟨S1024, .f32⟩
  | .hbm, ⟨9, _⟩ => ⟨S8192x768, .bf16⟩
  | .hbm, ⟨10, _⟩ => ⟨S8192x768, .bf16⟩
  | .hbm, ⟨11, _⟩ => ⟨S8192x768, .bf16⟩
  | .hbm, ⟨12, _⟩ => ⟨S8192x256, .bf16⟩
  | .hbm, ⟨13, _⟩ => ⟨S8192x2560, .bf16⟩
  | .hbm, ⟨14, _⟩ => ⟨S2560x1024, .f32⟩
  | .hbm, ⟨15, _⟩ => ⟨S2560x1024, .bf16⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .bf16⟩
  | .hbm, ⟨21, _⟩ => ⟨S1x1024, .f32⟩
  | .hbm, ⟨22, _⟩ => ⟨S1x1024, .f32⟩
  | .local _ .vmem, ⟨0, _⟩ => ⟨S512x2560, .bf16⟩
  | .local _ .vmem, ⟨1, _⟩ => ⟨S512x2560, .bf16⟩
  | .local _ .vmem, ⟨2, _⟩ => ⟨S2560x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S4x2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2560x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ProjGradIdeal.lean ====
abbrev S4x2048x768 : Shape := ⟨3, ![4, 2048, 768]⟩
abbrev S4x2048x256 : Shape := ⟨3, ![4, 2048, 256]⟩
abbrev S1024x2560 : Shape := ⟨2, ![1024, 2560]⟩
abbrev S4x2048x1024 : Shape := ⟨3, ![4, 2048, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x2560 : Shape := ⟨3, ![4, 2048, 2560]⟩
abbrev S8192x1024 : Shape := ⟨2, ![8192, 1024]⟩
abbrev S1x1024 : Shape := ⟨2, ![1, 1024]⟩

abbrev nBuf : Space → Nat
  | .hbm => 112
  | .vmem => 0
  | .smem => 0
  | _ => 0

abbrev bufTy : (tb : Table) → Fin (tcTables nBuf tb) → BufTy
  | .hbm, ⟨0, _⟩ => ⟨S4x2048x768, .bf16⟩
  | .hbm, ⟨1, _⟩ => ⟨S4x2048x768, .bf16⟩
  | .hbm, ⟨2, _⟩ => ⟨S4x2048x768, .bf16⟩
  | .hbm, ⟨3, _⟩ => ⟨S4x2048x256, .bf16⟩
  | .hbm, ⟨4, _⟩ => ⟨S1024x2560, .f32⟩
  | .hbm, ⟨5, _⟩ => ⟨S4x2048x1024, .f32⟩
  | .hbm, ⟨6, _⟩ => ⟨S4x2048x1024, .f32⟩
  | .hbm, ⟨7, _⟩ => ⟨S1024, .f32⟩
  | .hbm, ⟨8, _⟩ => ⟨S1024, .f32⟩
  | .hbm, ⟨9, _⟩ => ⟨S_, .f32⟩
  | .hbm, ⟨10, _⟩ => ⟨S4x2048, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1024, .f32⟩
  | .hbm, ⟨16, _⟩ => ⟨S4x2048x1024, .f32⟩
  | .hbm, ⟨17, _⟩ => ⟨S4x2048x1024, .f32⟩
  | .hbm, ⟨18, _⟩ => ⟨S_, .f32⟩
  | .hbm, ⟨19, _⟩ => ⟨S4x2048x1024, .f32⟩
  | .hbm, ⟨20, _⟩ => ⟨S4x2048x1024, .f32⟩
  | .hbm, ⟨21, _⟩ => ⟨S_, .f32⟩
  | .hbm, ⟨22, _⟩ => ⟨S4x2048, .f32⟩
  | .hbm, ⟨23, _⟩ => ⟨S4x2048x1, .f32⟩
  | .hbm, ⟨24, _⟩ => ⟨S_, .f32⟩
  | .hbm, ⟨25, _⟩ => ⟨S4x2048x1, .f32⟩
  | .hbm, ⟨26, _⟩ => ⟨S4x2048x1, .f32⟩
  | .hbm, ⟨27, _⟩ => ⟨S4x2048x1024, .f32⟩
  | .hbm, ⟨28, _⟩ => ⟨S4x2048x1024, .f32⟩
  | .hbm, ⟨29, _⟩ => ⟨S_, .f32⟩
  | .hbm, ⟨30, _⟩ => ⟨S4x2048x1, .f32⟩
  | .hbm, ⟨31, _⟩ => ⟨S4x2048x1, .f32⟩
  | .hbm, ⟨32, _⟩ => ⟨S4x2048x1, .f32⟩
  | .hbm, ⟨33, _⟩ => ⟨S4x2048x1, .f32⟩
  | .hbm, ⟨34, _⟩ => ⟨S_, .f32⟩
  | .hbm, ⟨35, _⟩ => ⟨S4x2048x1, .f32⟩
  | .hbm, ⟨36, _⟩ => ⟨S4x2048x1, .f32⟩
  | .hbm, ⟨37, _⟩ => ⟨S4x2048x1024, .f32⟩
  | .hbm, ⟨38, _⟩ => ⟨S4x2048x1024, .f32⟩
  | .hbm, ⟨39, _⟩ => ⟨S1x1x1024, .f32⟩
  | .hbm, ⟨40, _⟩ => ⟨S4x2048x1024, .f32⟩
  | .hbm, ⟨41, _⟩ => ⟨S4x2048x1024, .f32⟩
  | .hbm, ⟨42, _⟩ => ⟨S1x1x1024, .f32⟩
  | .hbm, ⟨43, _⟩ => ⟨S4x2048x1024, .f32⟩
  | .hbm, ⟨44, _⟩ => ⟨S4x2048x1024, .f32⟩
  | .hbm, ⟨45, _⟩ => ⟨S4x2048x2560, .f32⟩
  | .hbm, ⟨46, _⟩ => ⟨S4x2048x768, .f32⟩
  | .hbm, ⟨47, _⟩ => ⟨S4x2048x768, .f32⟩
  | .hbm, ⟨48, _⟩ => ⟨S4x2048x768, .f32⟩
  | .hbm, ⟨49, _⟩ => ⟨S4x2048x256, .f32⟩
  | .hbm, ⟨50, _⟩ => ⟨S_, .f32⟩
  | .hbm, ⟨51, _⟩ => ⟨S4x2048x1024, .f32⟩
  | .hbm, ⟨52, _⟩ => ⟨S4x2048x1024, .f32⟩
  | .hbm, ⟨53, _⟩ => ⟨S4x2048x768, .f32⟩
  | .hbm, ⟨54, _⟩ => ⟨S4x2048x768, .f32⟩
  | .hbm, ⟨55, _⟩ => ⟨S4x2048x768, .f32⟩
  | .hbm, ⟨56, _⟩ => ⟨S4x2048x256, .f32⟩
  | .hbm, ⟨57, _⟩ => ⟨S_, .f32⟩
  | .hbm, ⟨58, _⟩ => ⟨S4x2048x1024, .f32⟩
  | .hbm, ⟨59, _⟩ => ⟨S4x2048x1024, .f32⟩
  | .hbm, ⟨60, _⟩ => ⟨S4x2048x2560, .f32⟩
  | .hbm, ⟨61, _⟩ => ⟨S4x2048x1024, .f32⟩
  | .hbm, ⟨62, _⟩ => ⟨S4x2048x1024, .f32⟩
  | .hbm, ⟨63, _⟩ => ⟨S_, .f32⟩
  | .hbm, ⟨64, _⟩ => ⟨S1024, .f32⟩
  | .hbm, ⟨65, _⟩ => ⟨S1x1x1024, .f32⟩
  | .hbm, ⟨66, _⟩ => ⟨S_, .f32⟩
  | .hbm, ⟨67, _⟩ => ⟨S1024, .f32⟩
  | .hbm, ⟨68, _⟩ => ⟨S4x2048x1024, .f32⟩
  | .hbm, ⟨69, _⟩ => ⟨S_, .f32⟩
  | .hbm, ⟨70, _⟩ => ⟨S1024, .f32⟩
  | .hbm, ⟨71, _⟩ => ⟨S1x1x1024, .f32⟩
  | .hbm, ⟨72, _⟩ => ⟨S4x2048x1024, .f32⟩
  | .hbm, ⟨73, _⟩ => ⟨S4x2048x1024, .f32⟩
  | .hbm, ⟨74, _⟩ => ⟨S_, .f32⟩
  | .hbm, ⟨75, _⟩ => ⟨S1024, .f32⟩
  | .hbm, ⟨76, _⟩ => ⟨S4x2048x1024, .f32⟩
  | .hbm, ⟨77, _⟩ => ⟨S_, .f32⟩
  | .hbm, ⟨78, _⟩ => ⟨S4x2048, .f32⟩
  | .hbm, ⟨79, _⟩ => ⟨S4x2048x1, .f32⟩
  | .hbm, ⟨80, _⟩ => ⟨S4x2048x1024, .f32⟩
  | .hbm, ⟨81, _⟩ => ⟨S4x2048x1024, .f32⟩
  | .hbm, ⟨82, _⟩ => ⟨S4x2048x1, .f32⟩
  | .hbm, ⟨83, _⟩ => ⟨S4x2048x1024, .f32⟩
  | .hbm, ⟨84, _⟩ => ⟨S_, .f32⟩
  | .hbm, ⟨85, _⟩ => ⟨S4x2048, .f32⟩
  | .hbm, ⟨86, _⟩ => ⟨S4x2048x1, .f32⟩
  | .hbm, ⟨87, _⟩ => ⟨S_, .f32⟩
  | .hbm, ⟨88, _⟩ => ⟨S4x2048x1, .f32⟩
  | .hbm, ⟨89, _⟩ => ⟨S4x2048x1, .f32⟩
  | .hbm, ⟨90, _⟩ => ⟨S_, .f32⟩
  | .hbm, ⟨91, _⟩ => ⟨S4x2048, .f32⟩
  | .hbm, ⟨92, _⟩ => ⟨S4x2048x1024, .f32⟩
  | .hbm, ⟨93, _⟩ => ⟨S4x2048x1024, .f32⟩
  | .hbm, ⟨94, _⟩ => ⟨S4x2048x1024, .f32⟩
  | .hbm, ⟨95, _⟩ => ⟨S_, .f32⟩
  | .hbm, ⟨96, _⟩ => ⟨S4x2048, .f32⟩
  | .hbm, ⟨97, _⟩ => ⟨S4x2048x1, .f32⟩
  | .hbm, ⟨98, _⟩ => ⟨S4x2048x1024, .f32⟩
  | .hbm, ⟨99, _⟩ => ⟨S4x2048x1, .f32⟩
  | .hbm, ⟨100, _⟩ => ⟨S_, .f32⟩
  | .hbm, ⟨101, _⟩ => ⟨S4x2048x1, .f32⟩
  | .hbm, ⟨102, _⟩ => ⟨S4x2048x1, .f32⟩
  | .hbm, ⟨103, _⟩ => ⟨S_, .f32⟩
  | .hbm, ⟨104, _⟩ => ⟨S4x2048, .f32⟩
  | .hbm, ⟨105, _⟩ => ⟨S4x2048x1024, .f32⟩
  | .hbm, ⟨106, _⟩ => ⟨S4x2048x1024, .f32⟩
  | .hbm, ⟨107, _⟩ => ⟨S8192x1024, .f32⟩
  | .hbm, ⟨108, _⟩ => ⟨S8192x1024, .f32⟩
  | .hbm, ⟨109, _⟩ => ⟨S8192x1024, .bf16⟩
  | .hbm, ⟨110, _⟩ => ⟨S1x1024, .f32⟩
  | .hbm, ⟨111, _⟩ => ⟨S1x1024, .f32⟩
  | _, _ => ⟨S4x2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_cst_2 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_cst_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_13 : Ref sig .tc := ⟨.hbm, 84, rfl⟩
abbrev main_v61 : Ref sig .tc := ⟨.hbm, 85, rfl⟩
abbrev main_v62 : Ref sig .tc := ⟨.hbm, 86, rfl⟩
abbrev main_cst_14 : Ref sig .tc := ⟨.hbm, 87, rfl⟩
abbrev main_v63 : Ref sig .tc := ⟨.hbm, 88, rfl⟩
abbrev main_v64 : Ref sig .tc := ⟨.hbm, 89, rfl⟩
abbrev main_cst_15 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_16 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_17 : Ref sig .tc := ⟨.hbm, 100, rfl⟩
abbrev main_v73 : Ref sig .tc := ⟨.hbm, 101, rfl⟩
abbrev main_v74 : Ref sig .tc := ⟨.hbm, 102, rfl⟩
abbrev main_cst_18 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩

abbrev nD : Nat := 1
abbrev τ : Topo := Topo.v7x

variable {F : FTy → Type} [FloatOps F]
-- ==== LossBwd.lean ====
abbrev S4x2048x1024 : Shape := ⟨3, ![4, 2048, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S8192x1024 : Shape := ⟨2, ![8192, 1024]⟩
abbrev S1x1024 : Shape := ⟨2, ![1, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 42
  | .vmem => 14
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024, .f32⟩
  | .hbm, ⟨3, _⟩ => ⟨S4x2048x1024, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S4x2048x1024, .f32⟩
  | .hbm, ⟨11, _⟩ => ⟨S4x2048x1024, .f32⟩
  | .hbm, ⟨12, _⟩ => ⟨S4x2048x1024, .f32⟩
  | .hbm, ⟨13, _⟩ => ⟨S_, .f32⟩
  | .hbm, ⟨14, _⟩ => ⟨S4x2048, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S4x2048x1024, .f32⟩
  | .hbm, ⟨20, _⟩ => ⟨S4x2048x1024, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S4x2048x1, .f32⟩
  | .hbm, ⟨25, _⟩ => ⟨S4x2048x1024, .f32⟩
  | .hbm, ⟨26, _⟩ => ⟨S4x2048x1024, .f32⟩
  | .hbm, ⟨27, _⟩ => ⟨S1x1x1024, .f32⟩
  | .hbm, ⟨28, _⟩ => ⟨S4x2048x1024, .f32⟩
  | .hbm, ⟨29, _⟩ => ⟨S4x2048x1024, .f32⟩
  | .hbm, ⟨30, _⟩ => ⟨S1x1x1024, .f32⟩
  | .hbm, ⟨31, _⟩ => ⟨S4x2048x1024, .f32⟩
  | .hbm, ⟨32, _⟩ => ⟨S4x2048x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S1x1024, .f32⟩
  | .hbm, ⟨37, _⟩ => ⟨S8x128, .f32⟩
  | .hbm, ⟨38, _⟩ => ⟨S8192x1024, .f32⟩
  | .hbm, ⟨39, _⟩ => ⟨S8192x1024, .bf16⟩
  | .hbm, ⟨40, _⟩ => ⟨S1x1024, .f32⟩
  | .hbm, ⟨41, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S8x128, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28_0 : Ref sig .tc := ⟨.hbm, 37, rfl⟩
abbrev main_v28_1 : Ref sig .tc := ⟨.hbm, 38, rfl⟩
abbrev main_v28_2 : Ref sig .tc := ⟨.hbm, 39, rfl⟩
abbrev main_v28_3 : Ref sig .tc := ⟨.hbm, 40, rfl⟩
abbrev main_v28_4 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossGradIdeal.lean ====
abbrev S4x2048x1024 : Shape := ⟨3, ![4, 2048, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S8x128 : Shape := ⟨2, ![8, 128]⟩
abbrev S8192x1024 : Shape := ⟨2, ![8192, 1024]⟩
abbrev S1x1024 : Shape := ⟨2, ![1, 1024]⟩

abbrev nBuf : Space → Nat
  | .hbm => 113
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024, .f32⟩
  | .hbm, ⟨2, _⟩ => ⟨S1024, .f32⟩
  | .hbm, ⟨3, _⟩ => ⟨S4x2048x1024, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S4x2048x1024, .f32⟩
  | .hbm, ⟨11, _⟩ => ⟨S4x2048x1024, .f32⟩
  | .hbm, ⟨12, _⟩ => ⟨S4x2048x1024, .f32⟩
  | .hbm, ⟨13, _⟩ => ⟨S_, .f32⟩
  | .hbm, ⟨14, _⟩ => ⟨S4x2048x1024, .f32⟩
  | .hbm, ⟨15, _⟩ => ⟨S4x2048x1024, .f32⟩
  | .hbm, ⟨16, _⟩ => ⟨S_, .f32⟩
  | .hbm, ⟨17, _⟩ => ⟨S4x2048, .f32⟩
  | .hbm, ⟨18, _⟩ => ⟨S4x2048x1, .f32⟩
  | .hbm, ⟨19, _⟩ => ⟨S_, .f32⟩
  | .hbm, ⟨20, _⟩ => ⟨S4x2048x1, .f32⟩
  | .hbm, ⟨21, _⟩ => ⟨S4x2048x1, .f32⟩
  | .hbm, ⟨22, _⟩ => ⟨S4x2048x1024, .f32⟩
  | .hbm, ⟨23, _⟩ => ⟨S4x2048x1024, .f32⟩
  | .hbm, ⟨24, _⟩ => ⟨S_, .f32⟩
  | .hbm, ⟨25, _⟩ => ⟨S4x2048x1, .f32⟩
  | .hbm, ⟨26, _⟩ => ⟨S4x2048x1, .f32⟩
  | .hbm, ⟨27, _⟩ => ⟨S4x2048x1, .f32⟩
  | .hbm, ⟨28, _⟩ => ⟨S4x2048x1, .f32⟩
  | .hbm, ⟨29, _⟩ => ⟨S_, .f32⟩
  | .hbm, ⟨30, _⟩ => ⟨S4x2048x1, .f32⟩
  | .hbm, ⟨31, _⟩ => ⟨S4x2048x1, .f32⟩
  | .hbm, ⟨32, _⟩ => ⟨S4x2048x1024, .f32⟩
  | .hbm, ⟨33, _⟩ => ⟨S4x2048x1024, .f32⟩
  | .hbm, ⟨34, _⟩ => ⟨S1x1x1024, .f32⟩
  | .hbm, ⟨35, _⟩ => ⟨S4x2048x1024, .f32⟩
  | .hbm, ⟨36, _⟩ => ⟨S4x2048x1024, .f32⟩
  | .hbm, ⟨37, _⟩ => ⟨S1x1x1024, .f32⟩
  | .hbm, ⟨38, _⟩ => ⟨S4x2048x1024, .f32⟩
  | .hbm, ⟨39, _⟩ => ⟨S4x2048x1024, .f32⟩
  | .hbm, ⟨40, _⟩ => ⟨S4x2048x1024, .f32⟩
  | .hbm, ⟨41, _⟩ => ⟨S4x2048x1024, .f32⟩
  | .hbm, ⟨42, _⟩ => ⟨S_, .f32⟩
  | .hbm, ⟨43, _⟩ => ⟨S4x2048x1024, .f32⟩
  | .hbm, ⟨44, _⟩ => ⟨S4x2048x1024, .f32⟩
  | .hbm, ⟨45, _⟩ => ⟨S_, .f32⟩
  | .hbm, ⟨46, _⟩ => ⟨S4x2048, .f32⟩
  | .hbm, ⟨47, _⟩ => ⟨S_, .f32⟩
  | .hbm, ⟨48, _⟩ => ⟨S4x2048, .f32⟩
  | .hbm, ⟨49, _⟩ => ⟨S4x2048, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S4x2048, .f32⟩
  | .hbm, ⟨58, _⟩ => ⟨S_, .f32⟩
  | .hbm, ⟨59, _⟩ => ⟨S4x2048, .f32⟩
  | .hbm, ⟨60, _⟩ => ⟨S4x2048, .f32⟩
  | .hbm, ⟨61, _⟩ => ⟨S4x2048x1024, .f32⟩
  | .hbm, ⟨62, _⟩ => ⟨S4x2048x1024, .f32⟩
  | .hbm, ⟨63, _⟩ => ⟨S_, .f32⟩
  | .hbm, ⟨64, _⟩ => ⟨S1024, .f32⟩
  | .hbm, ⟨65, _⟩ => ⟨S1x1x1024, .f32⟩
  | .hbm, ⟨66, _⟩ => ⟨S_, .f32⟩
  | .hbm, ⟨67, _⟩ => ⟨S1024, .f32⟩
  | .hbm, ⟨68, _⟩ => ⟨S4x2048x1024, .f32⟩
  | .hbm, ⟨69, _⟩ => ⟨S_, .f32⟩
  | .hbm, ⟨70, _⟩ => ⟨S1024, .f32⟩
  | .hbm, ⟨71, _⟩ => ⟨S1x1x1024, .f32⟩
  | .hbm, ⟨72, _⟩ => ⟨S4x2048x1024, .f32⟩
  | .hbm, ⟨73, _⟩ => ⟨S4x2048x1024, .f32⟩
  | .hbm, ⟨74, _⟩ => ⟨S_, .f32⟩
  | .hbm, ⟨75, _⟩ => ⟨S1024, .f32⟩
  | .hbm, ⟨76, _⟩ => ⟨S4x2048x1024, .f32⟩
  | .hbm, ⟨77, _⟩ => ⟨S_, .f32⟩
  | .hbm, ⟨78, _⟩ => ⟨S4x2048, .f32⟩
  | .hbm, ⟨79, _⟩ => ⟨S4x2048x1, .f32⟩
  | .hbm, ⟨80, _⟩ => ⟨S4x2048x1024, .f32⟩
  | .hbm, ⟨81, _⟩ => ⟨S4x2048x1024, .f32⟩
  | .hbm, ⟨82, _⟩ => ⟨S4x2048x1, .f32⟩
  | .hbm, ⟨83, _⟩ => ⟨S4x2048x1024, .f32⟩
  | .hbm, ⟨84, _⟩ => ⟨S_, .f32⟩
  | .hbm, ⟨85, _⟩ => ⟨S4x2048, .f32⟩
  | .hbm, ⟨86, _⟩ => ⟨S4x2048x1, .f32⟩
  | .hbm, ⟨87, _⟩ => ⟨S_, .f32⟩
  | .hbm, ⟨88, _⟩ => ⟨S4x2048x1, .f32⟩
  | .hbm, ⟨89, _⟩ => ⟨S4x2048x1, .f32⟩
  | .hbm, ⟨90, _⟩ => ⟨S_, .f32⟩
  | .hbm, ⟨91, _⟩ => ⟨S4x2048, .f32⟩
  | .hbm, ⟨92, _⟩ => ⟨S4x2048x1024, .f32⟩
  | .hbm, ⟨93, _⟩ => ⟨S4x2048x1024, .f32⟩
  | .hbm, ⟨94, _⟩ => ⟨S4x2048x1024, .f32⟩
  | .hbm, ⟨95, _⟩ => ⟨S_, .f32⟩
  | .hbm, ⟨96, _⟩ => ⟨S4x2048, .f32⟩
  | .hbm, ⟨97, _⟩ => ⟨S4x2048x1, .f32⟩
  | .hbm, ⟨98, _⟩ => ⟨S4x2048x1024, .f32⟩
  | .hbm, ⟨99, _⟩ => ⟨S4x2048x1, .f32⟩
  | .hbm, ⟨100, _⟩ => ⟨S_, .f32⟩
  | .hbm, ⟨101, _⟩ => ⟨S4x2048x1, .f32⟩
  | .hbm, ⟨102, _⟩ => ⟨S4x2048x1, .f32⟩
  | .hbm, ⟨103, _⟩ => ⟨S_, .f32⟩
  | .hbm, ⟨104, _⟩ => ⟨S4x2048, .f32⟩
  | .hbm, ⟨105, _⟩ => ⟨S4x2048x1024, .f32⟩
  | .hbm, ⟨106, _⟩ => ⟨S4x2048x1024, .f32⟩
  | .hbm, ⟨107, _⟩ => ⟨S8x128, .f32⟩
  | .hbm, ⟨108, _⟩ => ⟨S8192x1024, .f32⟩
  | .hbm, ⟨109, _⟩ => ⟨S8192x1024, .f32⟩
  | .hbm, ⟨110, _⟩ => ⟨S8192x1024, .bf16⟩
  | .hbm, ⟨111, _⟩ => ⟨S1x1024, .f32⟩
  | .hbm, ⟨112, _⟩ => ⟨S1x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_cst_10 : Ref sig .tc := ⟨.hbm, 52, rfl⟩
abbrev main_v37 : Ref sig .tc := ⟨.hbm, 53, rfl⟩
abbrev main_cst_11 : Ref sig .tc := ⟨.hbm, 54, rfl⟩
abbrev main_cst_12 : Ref sig .tc := ⟨.hbm, 55, rfl⟩
abbrev main_v38 : Ref sig .tc := ⟨.hbm, 56, rfl⟩
abbrev main_v39 : Ref sig .tc := ⟨.hbm, 57, rfl⟩
abbrev main_cst_13 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_14 : Ref sig .tc := ⟨.hbm, 63, rfl⟩
abbrev main_v44 : Ref sig .tc := ⟨.hbm, 64, rfl⟩
abbrev main_v45 : Ref sig .tc := ⟨.hbm, 65, rfl⟩
abbrev main_cst_15 : Ref sig .tc := ⟨.hbm, 66, rfl⟩
abbrev main_v46 : Ref sig .tc := ⟨.hbm, 67, rfl⟩
abbrev main_v47 : Ref sig .tc := ⟨.hbm, 68, rfl⟩
abbrev main_cst_16 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_17 : Ref sig .tc := ⟨.hbm, 74, rfl⟩
abbrev main_v52 : Ref sig .tc := ⟨.hbm, 75, rfl⟩
abbrev main_v53 : Ref sig .tc := ⟨.hbm, 76, rfl⟩
abbrev main_cst_18 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_19 : Ref sig .tc := ⟨.hbm, 84, rfl⟩
abbrev main_v60 : Ref sig .tc := ⟨.hbm, 85, rfl⟩
abbrev main_v61 : Ref sig .tc := ⟨.hbm, 86, rfl⟩
abbrev main_cst_20 : Ref sig .tc := ⟨.hbm, 87, rfl⟩
abbrev main_v62 : Ref sig .tc := ⟨.hbm, 88, rfl⟩
abbrev main_v63 : Ref sig .tc := ⟨.hbm, 89, rfl⟩
abbrev main_cst_21 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_22 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_23 : Ref sig .tc := ⟨.hbm, 100, rfl⟩
abbrev main_v72 : Ref sig .tc := ⟨.hbm, 101, rfl⟩
abbrev main_v73 : Ref sig .tc := ⟨.hbm, 102, rfl⟩
abbrev main_cst_24 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩

abbrev nD : Nat := 1
abbrev τ : Topo := Topo.v7x

variable {F : FTy → Type} [FloatOps F]
-- ==== MemOddBwd.lean ====
abbrev S4x2048x1792 : Shape := ⟨3, ![4, 2048, 1792]⟩
abbrev S4x256x512 : Shape := ⟨3, ![4, 256, 512]⟩
abbrev S4x2048x1024 : Shape := ⟨3, ![4, 2048, 1024]⟩
abbrev S4x2048x256 : Shape := ⟨3, ![4, 2048, 256]⟩
abbrev S1x512x256 : Shape := ⟨3, ![1, 512, 256]⟩
abbrev S1x256x512 : Shape := ⟨3, ![1, 256, 512]⟩
abbrev S256x512 : Shape := ⟨2, ![256, 512]⟩
abbrev S512x128 : Shape := ⟨2, ![512, 128]⟩
abbrev S1x512x128 : Shape := ⟨3, ![1, 512, 128]⟩
abbrev S1x256x128 : Shape := ⟨3, ![1, 256, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 5
  | .vmem => 10
  | .smem => 0
  | _ => 0

abbrev bufTy : (tb : Table) → Fin (tcTables nBuf tb) → BufTy
  | .hbm, ⟨0, _⟩ => ⟨S4x2048x1792, .f32⟩
  | .hbm, ⟨1, _⟩ => ⟨S4x256x512, .f32⟩
  | .hbm, ⟨2, _⟩ => ⟨S4x2048x1024, .f32⟩
  | .hbm, ⟨3, _⟩ => ⟨S4x2048x256, .bf16⟩
  | .hbm, ⟨4, _⟩ => ⟨S4x256x512, .f32⟩
  | .local _ .vmem, ⟨0, _⟩ => ⟨S1x512x256, .f32⟩
  | .local _ .vmem, ⟨1, _⟩ => ⟨S1x512x256, .f32⟩
  | .local _ .vmem, ⟨2, _⟩ => ⟨S1x256x512, .f32⟩
  | .local _ .vmem, ⟨3, _⟩ => ⟨S1x256x512, .f32⟩
  | .local _ .vmem, ⟨4, _⟩ => ⟨S1x512x256, .f32⟩
  | .local _ .vmem, ⟨5, _⟩ => ⟨S1x512x256, .f32⟩
  | .local _ .vmem, ⟨6, _⟩ => ⟨S1x512x256, .bf16⟩
  | .local _ .vmem, ⟨7, _⟩ => ⟨S1x512x256, .bf16⟩
  | .local _ .vmem, ⟨8, _⟩ => ⟨S1x256x512, .f32⟩
  | .local _ .vmem, ⟨9, _⟩ => ⟨S1x256x512, .f32⟩
  | _, _ => ⟨S4x2048x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg0.toNat, arg1.toNat, c3_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MemOddGradIdeal.lean ====
abbrev S4x2048x1792 : Shape := ⟨3, ![4, 2048, 1792]⟩
abbrev S4x256x512 : Shape := ⟨3, ![4, 256, 512]⟩
abbrev S4x2048x1024 : Shape := ⟨3, ![4, 2048, 1024]⟩
abbrev S4x2048x256 : Shape := ⟨3, ![4, 2048, 256]⟩
abbrev S4x256x256 : Shape := ⟨3, ![4, 256, 256]⟩
abbrev S4x256x4x64 : Shape := ⟨4, ![4, 256, 4, 64]⟩
abbrev S4x2048x4x64 : Shape := ⟨4, ![4, 2048, 4, 64]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x64x2048 : Shape := ⟨4, ![4, 4, 64, 2048]⟩
abbrev S4x4x64x256 : Shape := ⟨4, ![4, 4, 64, 256]⟩
abbrev S4x4x256x64 : Shape := ⟨4, ![4, 4, 256, 64]⟩
abbrev S4x4x2048x64 : Shape := ⟨4, ![4, 4, 2048, 64]⟩

abbrev nBuf : Space → Nat
  | .hbm => 86
  | .vmem => 0
  | .smem => 0
  | _ => 0

abbrev bufTy : (tb : Table) → Fin (tcTables nBuf tb) → BufTy
  | .hbm, ⟨0, _⟩ => ⟨S4x2048x1792, .f32⟩
  | .hbm, ⟨1, _⟩ => ⟨S4x256x512, .f32⟩
  | .hbm, ⟨2, _⟩ => ⟨S4x2048x1024, .f32⟩
  | .hbm, ⟨3, _⟩ => ⟨S4x2048x256, .f32⟩
  | .hbm, ⟨4, _⟩ => ⟨S4x256x256, .f32⟩
  | .hbm, ⟨5, _⟩ => ⟨S4x256x256, .f32⟩
  | .hbm, ⟨6, _⟩ => ⟨S4x256x4x64, .f32⟩
  | .hbm, ⟨7, _⟩ => ⟨S4x256x4x64, .f32⟩
  | .hbm, ⟨8, _⟩ => ⟨S4x2048x4x64, .f32⟩
  | .hbm, ⟨9, _⟩ => ⟨S4x4x2048x256, .f32⟩
  | .hbm, ⟨10, _⟩ => ⟨S_, .f32⟩
  | .hbm, ⟨11, _⟩ => ⟨S4x4x2048x256, .f32⟩
  | .hbm, ⟨12, _⟩ => ⟨S4x4x2048x256, .f32⟩
  | .hbm, ⟨13, _⟩ => ⟨S_, .f32⟩
  | .hbm, ⟨14, _⟩ => ⟨S4x4x2048, .f32⟩
  | .hbm, ⟨15, _⟩ => ⟨S4x4x2048x1, .f32⟩
  | .hbm, ⟨16, _⟩ => ⟨S4x4x2048x256, .f32⟩
  | .hbm, ⟨17, _⟩ => ⟨S4x4x2048x256, .i1⟩
  | .hbm, ⟨18, _⟩ => ⟨S4x4x2048x256, .f32⟩
  | .hbm, ⟨19, _⟩ => ⟨S_, .f32⟩
  | .hbm, ⟨20, _⟩ => ⟨S4x4x2048, .f32⟩
  | .hbm, ⟨21, _⟩ => ⟨S_, .f32⟩
  | .hbm, ⟨22, _⟩ => ⟨S4x4x2048, .f32⟩
  | .hbm, ⟨23, _⟩ => ⟨S4x4x2048, .f32⟩
  | .hbm, ⟨24, _⟩ => ⟨S_, .f32⟩
  | .hbm, ⟨25, _⟩ => ⟨S4x4x2048, .f32⟩
  | .hbm, ⟨26, _⟩ => ⟨S4x4x2048, .i1⟩
  | .hbm, ⟨27, _⟩ => ⟨S_, .f32⟩
  | .hbm, ⟨28, _⟩ => ⟨S4x4x2048, .f32⟩
  | .hbm, ⟨29, _⟩ => ⟨S4x4x2048, .i1⟩
  | .hbm, ⟨30, _⟩ => ⟨S_, .f32⟩
  | .hbm, ⟨31, _⟩ => ⟨S4x4x2048, .f32⟩
  | .hbm, ⟨32, _⟩ => ⟨S_, .f32⟩
  | .hbm, ⟨33, _⟩ => ⟨S4x4x2048, .f32⟩
  | .hbm, ⟨34, _⟩ => ⟨S_, .f32⟩
  | .hbm, ⟨35, _⟩ => ⟨S4x4x2048, .f32⟩
  | .hbm, ⟨36, _⟩ => ⟨S4x4x2048, .f32⟩
  | .hbm, ⟨37, _⟩ => ⟨S4x4x2048, .f32⟩
  | .hbm, ⟨38, _⟩ => ⟨S4x4x2048x1, .f32⟩
  | .hbm, ⟨39, _⟩ => ⟨S4x4x2048x256, .f32⟩
  | .hbm, ⟨40, _⟩ => ⟨S4x4x2048x256, .f32⟩
  | .hbm, ⟨41, _⟩ => ⟨S4x4x2048x256, .f32⟩
  | .hbm, ⟨42, _⟩ => ⟨S_, .f32⟩
  | .hbm, ⟨43, _⟩ => ⟨S4x4x2048, .f32⟩
  | .hbm, ⟨44, _⟩ => ⟨S4x4x2048x1, .f32⟩
  | .hbm, ⟨45, _⟩ => ⟨S4x4x2048x256, .f32⟩
  | .hbm, ⟨46, _⟩ => ⟨S4x4x2048x256, .f32⟩
  | .hbm, ⟨47, _⟩ => ⟨S4x4x2048x1, .f32⟩
  | .hbm, ⟨48, _⟩ => ⟨S_, .f32⟩
  | .hbm, ⟨49, _⟩ => ⟨S4x4x2048x1, .f32⟩
  | .hbm, ⟨50, _⟩ => ⟨S4x4x2048x1, .f32⟩
  | .hbm, ⟨51, _⟩ => ⟨S4x4x64x2048, .f32⟩
  | .hbm, ⟨52, _⟩ => ⟨S4x2048x4x64, .f32⟩
  | .hbm, ⟨53, _⟩ => ⟨S4x2048x256, .f32⟩
  | .hbm, ⟨54, _⟩ => ⟨S4x2048x256, .f32⟩
  | .hbm, ⟨55, _⟩ => ⟨S4x2048x4x64, .f32⟩
  | .hbm, ⟨56, _⟩ => ⟨S4x4x64x2048, .f32⟩
  | .hbm, ⟨57, _⟩ => ⟨S4x4x2048x256, .f32⟩
  | .hbm, ⟨58, _⟩ => ⟨S4x4x64x256, .f32⟩
  | .hbm, ⟨59, _⟩ => ⟨S4x256x4x64, .f32⟩
  | .hbm, ⟨60, _⟩ => ⟨S4x4x2048x256, .f32⟩
  | .hbm, ⟨61, _⟩ => ⟨S4x4x2048x256, .f32⟩
  | .hbm, ⟨62, _⟩ => ⟨S4x4x2048x256, .f32⟩
  | .hbm, ⟨63, _⟩ => ⟨S_, .f32⟩
  | .hbm, ⟨64, _⟩ => ⟨S4x4x2048, .f32⟩
  | .hbm, ⟨65, _⟩ => ⟨S4x4x2048x1, .f32⟩
  | .hbm, ⟨66, _⟩ => ⟨S4x4x2048x1, .f32⟩
  | .hbm, ⟨67, _⟩ => ⟨S4x4x2048x256, .f32⟩
  | .hbm, ⟨68, _⟩ => ⟨S4x4x2048x256, .f32⟩
  | .hbm, ⟨69, _⟩ => ⟨S_, .f32⟩
  | .hbm, ⟨70, _⟩ => ⟨S4x4x2048, .f32⟩
  | .hbm, ⟨71, _⟩ => ⟨S4x4x2048x256, .f32⟩
  | .hbm, ⟨72, _⟩ => ⟨S4x4x2048x256, .f32⟩
  | .hbm, ⟨73, _⟩ => ⟨S4x4x2048x256, .f32⟩
  | .hbm, ⟨74, _⟩ => ⟨S_, .f32⟩
  | .hbm, ⟨75, _⟩ => ⟨S4x4x2048x256, .f32⟩
  | .hbm, ⟨76, _⟩ => ⟨S4x4x2048x256, .f32⟩
  | .hbm, ⟨77, _⟩ => ⟨S4x4x256x64, .f32⟩
  | .hbm, ⟨78, _⟩ => ⟨S4x256x4x64, .f32⟩
  | .hbm, ⟨79, _⟩ => ⟨S4x4x2048x64, .f32⟩
  | .hbm, ⟨80, _⟩ => ⟨S4x2048x4x64, .f32⟩
  | .hbm, ⟨81, _⟩ => ⟨S4x2048x256, .f32⟩
  | .hbm, ⟨82, _⟩ => ⟨S4x256x256, .f32⟩
  | .hbm, ⟨83, _⟩ => ⟨S4x256x256, .f32⟩
  | .hbm, ⟨84, _⟩ => ⟨S4x256x512, .f32⟩
  | .hbm, ⟨85, _⟩ => ⟨S4x2048x256, .bf16⟩
  | _, _ => ⟨S4x2048x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_8 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_9 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_cst_10 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_11 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_12 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩

abbrev nD : Nat := 1
abbrev τ : Topo := Topo.v7x

variable {F : FTy → Type} [FloatOps F]
-- ==== ProjOddBwd.lean ====
abbrev S4x2048x768 : Shape := ⟨3, ![4, 2048, 768]⟩
abbrev S4x2048x256 : Shape := ⟨3, ![4, 2048, 256]⟩
abbrev S1024x1792 : Shape := ⟨2, ![1024, 1792]⟩
abbrev S4x2048x1024 : Shape := ⟨3, ![4, 2048, 1024]⟩
abbrev S1024 : Shape := ⟨1, ![1024]⟩
abbrev S8192x768 : Shape := ⟨2, ![8192, 768]⟩
abbrev S8192x256 : Shape := ⟨2, ![8192, 256]⟩
abbrev S8192x1792 : Shape := ⟨2, ![8192, 1792]⟩
abbrev S1792x1024 : Shape := ⟨2, ![1792, 1024]⟩
abbrev S8192x1024 : Shape := ⟨2, ![8192, 1024]⟩
abbrev S1x1024 : Shape := ⟨2, ![1, 1024]⟩
abbrev S512x1792 : Shape := ⟨2, ![512, 1792]⟩
abbrev S512x1024 : Shape := ⟨2, ![512, 1024]⟩
abbrev S512 : Shape := ⟨1, ![512]⟩
abbrev S512x1 : Shape := ⟨2, ![512, 1]⟩

abbrev nBuf : Space → Nat
  | .hbm => 21
  | .vmem => 14
  | .smem => 0
  | _ => 0

abbrev bufTy : (tb : Table) → Fin (tcTables nBuf tb) → BufTy
  | .hbm, ⟨0, _⟩ => ⟨S4x2048x768, .bf16⟩
  | .hbm, ⟨1, _⟩ => ⟨S4x2048x768, .bf16⟩
  | .hbm, ⟨2, _⟩ => ⟨S4x2048x256, .bf16⟩
  | .hbm, ⟨3, _⟩ => ⟨S1024x1792, .f32⟩
  | .hbm, ⟨4, _⟩ => ⟨S4x2048x1024, .f32⟩
  | .hbm, ⟨5, _⟩ => ⟨S4x2048x1024, .f32⟩
  | .hbm, ⟨6, _⟩ => ⟨S1024, .f32⟩
  | .hbm, ⟨7, _⟩ => ⟨S1024, .f32⟩
  | .hbm, ⟨8, _⟩ => ⟨S8192x768, .bf16⟩
  | .hbm, ⟨9, _⟩ => ⟨S8192x768, .bf16⟩
  | .hbm, ⟨10, _⟩ => ⟨S8192x256, .bf16⟩
  | .hbm, ⟨11, _⟩ => ⟨S8192x1792, .bf16⟩
  | .hbm, ⟨12, _⟩ => ⟨S1792x1024, .f32⟩
  | .hbm, ⟨13, _⟩ => ⟨S1792x1024, .bf16⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .bf16⟩
  | .hbm, ⟨19, _⟩ => ⟨S1x1024, .f32⟩
  | .hbm, ⟨20, _⟩ => ⟨S1x1024, .f32⟩
  | .local _ .vmem, ⟨0, _⟩ => ⟨S512x1792, .bf16⟩
  | .local _ .vmem, ⟨1, _⟩ => ⟨S512x1792, .bf16⟩
  | .local _ .vmem, ⟨2, _⟩ => ⟨S1792x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x1024, .f32⟩
  | _, _ => ⟨S4x2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1792x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ProjOddGradIdeal.lean ====
abbrev S4x2048x768 : Shape := ⟨3, ![4, 2048, 768]⟩
abbrev S4x2048x256 : Shape := ⟨3, ![4, 2048, 256]⟩
abbrev S1024x1792 : Shape := ⟨2, ![1024, 1792]⟩
abbrev S4x2048x1024 : Shape := ⟨3, ![4, 2048, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S4x2048x1792 : Shape := ⟨3, ![4, 2048, 1792]⟩
abbrev S8192x1024 : Shape := ⟨2, ![8192, 1024]⟩
abbrev S1x1024 : Shape := ⟨2, ![1, 1024]⟩

abbrev nBuf : Space → Nat
  | .hbm => 109
  | .vmem => 0
  | .smem => 0
  | _ => 0

abbrev bufTy : (tb : Table) → Fin (tcTables nBuf tb) → BufTy
  | .hbm, ⟨0, _⟩ => ⟨S4x2048x768, .bf16⟩
  | .hbm, ⟨1, _⟩ => ⟨S4x2048x768, .bf16⟩
  | .hbm, ⟨2, _⟩ => ⟨S4x2048x256, .bf16⟩
  | .hbm, ⟨3, _⟩ => ⟨S1024x1792, .f32⟩
  | .hbm, ⟨4, _⟩ => ⟨S4x2048x1024, .f32⟩
  | .hbm, ⟨5, _⟩ => ⟨S4x2048x1024, .f32⟩
  | .hbm, ⟨6, _⟩ => ⟨S1024, .f32⟩
  | .hbm, ⟨7, _⟩ => ⟨S1024, .f32⟩
  | .hbm, ⟨8, _⟩ => ⟨S_, .f32⟩
  | .hbm, ⟨9, _⟩ => ⟨S4x2048, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1024, .f32⟩
  | .hbm, ⟨15, _⟩ => ⟨S4x2048x1024, .f32⟩
  | .hbm, ⟨16, _⟩ => ⟨S4x2048x1024, .f32⟩
  | .hbm, ⟨17, _⟩ => ⟨S_, .f32⟩
  | .hbm, ⟨18, _⟩ => ⟨S4x2048x1024, .f32⟩
  | .hbm, ⟨19, _⟩ => ⟨S4x2048x1024, .f32⟩
  | .hbm, ⟨20, _⟩ => ⟨S_, .f32⟩
  | .hbm, ⟨21, _⟩ => ⟨S4x2048, .f32⟩
  | .hbm, ⟨22, _⟩ => ⟨S4x2048x1, .f32⟩
  | .hbm, ⟨23, _⟩ => ⟨S_, .f32⟩
  | .hbm, ⟨24, _⟩ => ⟨S4x2048x1, .f32⟩
  | .hbm, ⟨25, _⟩ => ⟨S4x2048x1, .f32⟩
  | .hbm, ⟨26, _⟩ => ⟨S4x2048x1024, .f32⟩
  | .hbm, ⟨27, _⟩ => ⟨S4x2048x1024, .f32⟩
  | .hbm, ⟨28, _⟩ => ⟨S_, .f32⟩
  | .hbm, ⟨29, _⟩ => ⟨S4x2048x1, .f32⟩
  | .hbm, ⟨30, _⟩ => ⟨S4x2048x1, .f32⟩
  | .hbm, ⟨31, _⟩ => ⟨S4x2048x1, .f32⟩
  | .hbm, ⟨32, _⟩ => ⟨S4x2048x1, .f32⟩
  | .hbm, ⟨33, _⟩ => ⟨S_, .f32⟩
  | .hbm, ⟨34, _⟩ => ⟨S4x2048x1, .f32⟩
  | .hbm, ⟨35, _⟩ => ⟨S4x2048x1, .f32⟩
  | .hbm, ⟨36, _⟩ => ⟨S4x2048x1024, .f32⟩
  | .hbm, ⟨37, _⟩ => ⟨S4x2048x1024, .f32⟩
  | .hbm, ⟨38, _⟩ => ⟨S1x1x1024, .f32⟩
  | .hbm, ⟨39, _⟩ => ⟨S4x2048x1024, .f32⟩
  | .hbm, ⟨40, _⟩ => ⟨S4x2048x1024, .f32⟩
  | .hbm, ⟨41, _⟩ => ⟨S1x1x1024, .f32⟩
  | .hbm, ⟨42, _⟩ => ⟨S4x2048x1024, .f32⟩
  | .hbm, ⟨43, _⟩ => ⟨S4x2048x1024, .f32⟩
  | .hbm, ⟨44, _⟩ => ⟨S4x2048x1792, .f32⟩
  | .hbm, ⟨45, _⟩ => ⟨S4x2048x768, .f32⟩
  | .hbm, ⟨46, _⟩ => ⟨S4x2048x768, .f32⟩
  | .hbm, ⟨47, _⟩ => ⟨S4x2048x256, .f32⟩
  | .hbm, ⟨48, _⟩ => ⟨S_, .f32⟩
  | .hbm, ⟨49, _⟩ => ⟨S4x2048x1024, .f32⟩
  | .hbm, ⟨50, _⟩ => ⟨S4x2048x1024, .f32⟩
  | .hbm, ⟨51, _⟩ => ⟨S4x2048x768, .f32⟩
  | .hbm, ⟨52, _⟩ => ⟨S4x2048x768, .f32⟩
  | .hbm, ⟨53, _⟩ => ⟨S4x2048x256, .f32⟩
  | .hbm, ⟨54, _⟩ => ⟨S_, .f32⟩
  | .hbm, ⟨55, _⟩ => ⟨S4x2048x1024, .f32⟩
  | .hbm, ⟨56, _⟩ => ⟨S4x2048x1024, .f32⟩
  | .hbm, ⟨57, _⟩ => ⟨S4x2048x1792, .f32⟩
  | .hbm, ⟨58, _⟩ => ⟨S4x2048x1024, .f32⟩
  | .hbm, ⟨59, _⟩ => ⟨S4x2048x1024, .f32⟩
  | .hbm, ⟨60, _⟩ => ⟨S_, .f32⟩
  | .hbm, ⟨61, _⟩ => ⟨S1024, .f32⟩
  | .hbm, ⟨62, _⟩ => ⟨S1x1x1024, .f32⟩
  | .hbm, ⟨63, _⟩ => ⟨S_, .f32⟩
  | .hbm, ⟨64, _⟩ => ⟨S1024, .f32⟩
  | .hbm, ⟨65, _⟩ => ⟨S4x2048x1024, .f32⟩
  | .hbm, ⟨66, _⟩ => ⟨S_, .f32⟩
  | .hbm, ⟨67, _⟩ => ⟨S1024, .f32⟩
  | .hbm, ⟨68, _⟩ => ⟨S1x1x1024, .f32⟩
  | .hbm, ⟨69, _⟩ => ⟨S4x2048x1024, .f32⟩
  | .hbm, ⟨70, _⟩ => ⟨S4x2048x1024, .f32⟩
  | .hbm, ⟨71, _⟩ => ⟨S_, .f32⟩
  | .hbm, ⟨72, _⟩ => ⟨S1024, .f32⟩
  | .hbm, ⟨73, _⟩ => ⟨S4x2048x1024, .f32⟩
  | .hbm, ⟨74, _⟩ => ⟨S_, .f32⟩
  | .hbm, ⟨75, _⟩ => ⟨S4x2048, .f32⟩
  | .hbm, ⟨76, _⟩ => ⟨S4x2048x1, .f32⟩
  | .hbm, ⟨77, _⟩ => ⟨S4x2048x1024, .f32⟩
  | .hbm, ⟨78, _⟩ => ⟨S4x2048x1024, .f32⟩
  | .hbm, ⟨79, _⟩ => ⟨S4x2048x1, .f32⟩
  | .hbm, ⟨80, _⟩ => ⟨S4x2048x1024, .f32⟩
  | .hbm, ⟨81, _⟩ => ⟨S_, .f32⟩
  | .hbm, ⟨82, _⟩ => ⟨S4x2048, .f32⟩
  | .hbm, ⟨83, _⟩ => ⟨S4x2048x1, .f32⟩
  | .hbm, ⟨84, _⟩ => ⟨S_, .f32⟩
  | .hbm, ⟨85, _⟩ => ⟨S4x2048x1, .f32⟩
  | .hbm, ⟨86, _⟩ => ⟨S4x2048x1, .f32⟩
  | .hbm, ⟨87, _⟩ => ⟨S_, .f32⟩
  | .hbm, ⟨88, _⟩ => ⟨S4x2048, .f32⟩
  | .hbm, ⟨89, _⟩ => ⟨S4x2048x1024, .f32⟩
  | .hbm, ⟨90, _⟩ => ⟨S4x2048x1024, .f32⟩
  | .hbm, ⟨91, _⟩ => ⟨S4x2048x1024, .f32⟩
  | .hbm, ⟨92, _⟩ => ⟨S_, .f32⟩
  | .hbm, ⟨93, _⟩ => ⟨S4x2048, .f32⟩
  | .hbm, ⟨94, _⟩ => ⟨S4x2048x1, .f32⟩
  | .hbm, ⟨95, _⟩ => ⟨S4x2048x1024, .f32⟩
  | .hbm, ⟨96, _⟩ => ⟨S4x2048x1, .f32⟩
  | .hbm, ⟨97, _⟩ => ⟨S_, .f32⟩
  | .hbm, ⟨98, _⟩ => ⟨S4x2048x1, .f32⟩
  | .hbm, ⟨99, _⟩ => ⟨S4x2048x1, .f32⟩
  | .hbm, ⟨100, _⟩ => ⟨S_, .f32⟩
  | .hbm, ⟨101, _⟩ => ⟨S4x2048, .f32⟩
  | .hbm, ⟨102, _⟩ => ⟨S4x2048x1024, .f32⟩
  | .hbm, ⟨103, _⟩ => ⟨S4x2048x1024, .f32⟩
  | .hbm, ⟨104, _⟩ => ⟨S8192x1024, .f32⟩
  | .hbm, ⟨105, _⟩ => ⟨S8192x1024, .f32⟩
  | .hbm, ⟨106, _⟩ => ⟨S8192x1024, .bf16⟩
  | .hbm, ⟨107, _⟩ => ⟨S1x1024, .f32⟩
  | .hbm, ⟨108, _⟩ => ⟨S1x1024, .f32⟩
  | _, _ => ⟨S4x2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_cst_9 : Ref sig .tc := ⟨.hbm, 63, rfl⟩
abbrev main_v45 : Ref sig .tc := ⟨.hbm, 64, rfl⟩
abbrev main_v46 : Ref sig .tc := ⟨.hbm, 65, rfl⟩
abbrev main_cst_10 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_11 : Ref sig .tc := ⟨.hbm, 71, rfl⟩
abbrev main_v51 : Ref sig .tc := ⟨.hbm, 72, rfl⟩
abbrev main_v52 : Ref sig .tc := ⟨.hbm, 73, rfl⟩
abbrev main_cst_12 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_13 : Ref sig .tc := ⟨.hbm, 81, rfl⟩
abbrev main_v59 : Ref sig .tc := ⟨.hbm, 82, rfl⟩
abbrev main_v60 : Ref sig .tc := ⟨.hbm, 83, rfl⟩
abbrev main_cst_14 : Ref sig .tc := ⟨.hbm, 84, rfl⟩
abbrev main_v61 : Ref sig .tc := ⟨.hbm, 85, rfl⟩
abbrev main_v62 : Ref sig .tc := ⟨.hbm, 86, rfl⟩
abbrev main_cst_15 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_16 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_17 : Ref sig .tc := ⟨.hbm, 97, rfl⟩
abbrev main_v71 : Ref sig .tc := ⟨.hbm, 98, rfl⟩
abbrev main_v72 : Ref sig .tc := ⟨.hbm, 99, rfl⟩
abbrev main_cst_18 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩

abbrev nD : Nat := 1
abbrev τ : Topo := Topo.v7x

variable {F : FTy → Type} [FloatOps F]
-- ==== MemFwd.lean ====
abbrev S4x2048x2560 : Shape := ⟨3, ![4, 2048, 2560]⟩
abbrev S4x256x512 : Shape := ⟨3, ![4, 256, 512]⟩
abbrev S4x2048x256 : Shape := ⟨3, ![4, 2048, 256]⟩
abbrev S1x512x256 : Shape := ⟨3, ![1, 512, 256]⟩
abbrev S1x256x512 : Shape := ⟨3, ![1, 256, 512]⟩
abbrev S512x128 : Shape := ⟨2, ![512, 128]⟩
abbrev S1x512x128 : Shape := ⟨3, ![1, 512, 128]⟩
abbrev S1x256x128 : Shape := ⟨3, ![1, 256, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S4x2048x2560, .f32⟩
  | .hbm, ⟨1, _⟩ => ⟨S4x256x512, .f32⟩
  | .hbm, ⟨2, _⟩ => ⟨S4x2048x256, .bf16⟩
  | .local _ .vmem, ⟨0, _⟩ => ⟨S1x512x256, .f32⟩
  | .local _ .vmem, ⟨1, _⟩ => ⟨S1x512x256, .f32⟩
  | .local _ .vmem, ⟨2, _⟩ => ⟨S1x256x512, .f32⟩
  | .local _ .vmem, ⟨3, _⟩ => ⟨S1x256x512, .f32⟩
  | .local _ .vmem, ⟨4, _⟩ => ⟨S1x512x256, .bf16⟩
  | .local _ .vmem, ⟨5, _⟩ => ⟨S1x512x256, .bf16⟩
  | _, _ => ⟨S4x2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MemFwdRefIdeal.lean ====
abbrev S4x2048x2560 : Shape := ⟨3, ![4, 2048, 2560]⟩
abbrev S4x256x512 : Shape := ⟨3, ![4, 256, 512]⟩
abbrev S4x256x256 : Shape := ⟨3, ![4, 256, 256]⟩
abbrev S4x256x4x64 : Shape := ⟨4, ![4, 256, 4, 64]⟩
abbrev S4x2048x256 : Shape := ⟨3, ![4, 2048, 256]⟩
abbrev S4x2048x4x64 : Shape := ⟨4, ![4, 2048, 4, 64]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x64x2048 : Shape := ⟨4, ![4, 4, 64, 2048]⟩

abbrev nBuf : Space → Nat
  | .hbm => 30
  | .vmem => 0
  | .smem => 0
  | _ => 0

abbrev bufTy : (tb : Table) → Fin (tcTables nBuf tb) → BufTy
  | .hbm, ⟨0, _⟩ => ⟨S4x2048x2560, .f32⟩
  | .hbm, ⟨1, _⟩ => ⟨S4x256x512, .f32⟩
  | .hbm, ⟨2, _⟩ => ⟨S4x256x256, .f32⟩
  | .hbm, ⟨3, _⟩ => ⟨S4x256x256, .f32⟩
  | .hbm, ⟨4, _⟩ => ⟨S4x256x4x64, .f32⟩
  | .hbm, ⟨5, _⟩ => ⟨S4x256x4x64, .f32⟩
  | .hbm, ⟨6, _⟩ => ⟨S4x2048x256, .f32⟩
  | .hbm, ⟨7, _⟩ => ⟨S4x2048x4x64, .f32⟩
  | .hbm, ⟨8, _⟩ => ⟨S4x4x2048x256, .f32⟩
  | .hbm, ⟨9, _⟩ => ⟨S_, .f32⟩
  | .hbm, ⟨10, _⟩ => ⟨S4x4x2048x256, .f32⟩
  | .hbm, ⟨11, _⟩ => ⟨S4x4x2048x256, .f32⟩
  | .hbm, ⟨12, _⟩ => ⟨S_, .f32⟩
  | .hbm, ⟨13, _⟩ => ⟨S4x4x2048, .f32⟩
  | .hbm, ⟨14, _⟩ => ⟨S_, .f32⟩
  | .hbm, ⟨15, _⟩ => ⟨S4x4x2048, .f32⟩
  | .hbm, ⟨16, _⟩ => ⟨S4x4x2048, .f32⟩
  | .hbm, ⟨17, _⟩ => ⟨S4x4x2048x1, .f32⟩
  | .hbm, ⟨18, _⟩ => ⟨S4x4x2048x256, .f32⟩
  | .hbm, ⟨19, _⟩ => ⟨S4x4x2048x256, .f32⟩
  | .hbm, ⟨20, _⟩ => ⟨S4x4x2048x256, .f32⟩
  | .hbm, ⟨21, _⟩ => ⟨S_, .f32⟩
  | .hbm, ⟨22, _⟩ => ⟨S4x4x2048, .f32⟩
  | .hbm, ⟨23, _⟩ => ⟨S4x4x2048x1, .f32⟩
  | .hbm, ⟨24, _⟩ => ⟨S4x4x2048x256, .f32⟩
  | .hbm, ⟨25, _⟩ => ⟨S4x4x2048x256, .f32⟩
  | .hbm, ⟨26, _⟩ => ⟨S4x4x64x2048, .f32⟩
  | .hbm, ⟨27, _⟩ => ⟨S4x2048x4x64, .f32⟩
  | .hbm, ⟨28, _⟩ => ⟨S4x2048x256, .f32⟩
  | .hbm, ⟨29, _⟩ => ⟨S4x2048x256, .bf16⟩
  | _, _ => ⟨S4x2048x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== MemFwdOdd.lean ====
abbrev S4x2048x1792 : Shape := ⟨3, ![4, 2048, 1792]⟩
abbrev S4x256x512 : Shape := ⟨3, ![4, 256, 512]⟩
abbrev S4x2048x256 : Shape := ⟨3, ![4, 2048, 256]⟩
abbrev S1x512x256 : Shape := ⟨3, ![1, 512, 256]⟩
abbrev S1x256x512 : Shape := ⟨3, ![1, 256, 512]⟩
abbrev S512x128 : Shape := ⟨2, ![512, 128]⟩
abbrev S1x512x128 : Shape := ⟨3, ![1, 512, 128]⟩
abbrev S1x256x128 : Shape := ⟨3, ![1, 256, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S4x2048x1792, .f32⟩
  | .hbm, ⟨1, _⟩ => ⟨S4x256x512, .f32⟩
  | .hbm, ⟨2, _⟩ => ⟨S4x2048x256, .bf16⟩
  | .local _ .vmem, ⟨0, _⟩ => ⟨S1x512x256, .f32⟩
  | .local _ .vmem, ⟨1, _⟩ => ⟨S1x512x256, .f32⟩
  | .local _ .vmem, ⟨2, _⟩ => ⟨S1x256x512, .f32⟩
  | .local _ .vmem, ⟨3, _⟩ => ⟨S1x256x512, .f32⟩
  | .local _ .vmem, ⟨4, _⟩ => ⟨S1x512x256, .bf16⟩
  | .local _ .vmem, ⟨5, _⟩ => ⟨S1x512x256, .bf16⟩
  | _, _ => ⟨S4x2048x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MemFwdOddRefIdeal.lean ====
abbrev S4x2048x1792 : Shape := ⟨3, ![4, 2048, 1792]⟩
abbrev S4x256x512 : Shape := ⟨3, ![4, 256, 512]⟩
abbrev S4x256x256 : Shape := ⟨3, ![4, 256, 256]⟩
abbrev S4x256x4x64 : Shape := ⟨4, ![4, 256, 4, 64]⟩
abbrev S4x2048x256 : Shape := ⟨3, ![4, 2048, 256]⟩
abbrev S4x2048x4x64 : Shape := ⟨4, ![4, 2048, 4, 64]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x64x2048 : Shape := ⟨4, ![4, 4, 64, 2048]⟩

abbrev nBuf : Space → Nat
  | .hbm => 30
  | .vmem => 0
  | .smem => 0
  | _ => 0

abbrev bufTy : (tb : Table) → Fin (tcTables nBuf tb) → BufTy
  | .hbm, ⟨0, _⟩ => ⟨S4x2048x1792, .f32⟩
  | .hbm, ⟨1, _⟩ => ⟨S4x256x512, .f32⟩
  | .hbm, ⟨2, _⟩ => ⟨S4x256x256, .f32⟩
  | .hbm, ⟨3, _⟩ => ⟨S4x256x256, .f32⟩
  | .hbm, ⟨4, _⟩ => ⟨S4x256x4x64, .f32⟩
  | .hbm, ⟨5, _⟩ => ⟨S4x256x4x64, .f32⟩
  | .hbm, ⟨6, _⟩ => ⟨S4x2048x256, .f32⟩
  | .hbm, ⟨7, _⟩ => ⟨S4x2048x4x64, .f32⟩
  | .hbm, ⟨8, _⟩ => ⟨S4x4x2048x256, .f32⟩
  | .hbm, ⟨9, _⟩ => ⟨S_, .f32⟩
  | .hbm, ⟨10, _⟩ => ⟨S4x4x2048x256, .f32⟩
  | .hbm, ⟨11, _⟩ => ⟨S4x4x2048x256, .f32⟩
  | .hbm, ⟨12, _⟩ => ⟨S_, .f32⟩
  | .hbm, ⟨13, _⟩ => ⟨S4x4x2048, .f32⟩
  | .hbm, ⟨14, _⟩ => ⟨S_, .f32⟩
  | .hbm, ⟨15, _⟩ => ⟨S4x4x2048, .f32⟩
  | .hbm, ⟨16, _⟩ => ⟨S4x4x2048, .f32⟩
  | .hbm, ⟨17, _⟩ => ⟨S4x4x2048x1, .f32⟩
  | .hbm, ⟨18, _⟩ => ⟨S4x4x2048x256, .f32⟩
  | .hbm, ⟨19, _⟩ => ⟨S4x4x2048x256, .f32⟩
  | .hbm, ⟨20, _⟩ => ⟨S4x4x2048x256, .f32⟩
  | .hbm, ⟨21, _⟩ => ⟨S_, .f32⟩
  | .hbm, ⟨22, _⟩ => ⟨S4x4x2048, .f32⟩
  | .hbm, ⟨23, _⟩ => ⟨S4x4x2048x1, .f32⟩
  | .hbm, ⟨24, _⟩ => ⟨S4x4x2048x256, .f32⟩
  | .hbm, ⟨25, _⟩ => ⟨S4x4x2048x256, .f32⟩
  | .hbm, ⟨26, _⟩ => ⟨S4x4x64x2048, .f32⟩
  | .hbm, ⟨27, _⟩ => ⟨S4x2048x4x64, .f32⟩
  | .hbm, ⟨28, _⟩ => ⟨S4x2048x256, .f32⟩
  | .hbm, ⟨29, _⟩ => ⟨S4x2048x256, .bf16⟩
  | _, _ => ⟨S4x2048x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]
-- ==== SguFwd.lean ====
abbrev S4x2048x1792 : Shape := ⟨3, ![4, 2048, 1792]⟩
abbrev S768 : Shape := ⟨1, ![768]⟩
abbrev S12x128x128 : Shape := ⟨3, ![12, 128, 128]⟩
abbrev S12x128 : Shape := ⟨2, ![12, 128]⟩
abbrev S8192x1792 : Shape := ⟨2, ![8192, 1792]⟩
abbrev S1x768 : Shape := ⟨2, ![1, 768]⟩
abbrev S128x12 : Shape := ⟨2, ![128, 12]⟩
abbrev S128x12x64 : Shape := ⟨3, ![128, 12, 64]⟩
abbrev S128x768 : Shape := ⟨2, ![128, 768]⟩
abbrev S8192x768 : Shape := ⟨2, ![8192, 768]⟩
abbrev S512x768 : Shape := ⟨2, ![512, 768]⟩
abbrev S128x128 : Shape := ⟨2, ![128, 128]⟩
abbrev S512 : Shape := ⟨1, ![512]⟩
abbrev S512x1 : Shape := ⟨2, ![512, 1]⟩
abbrev S1x128x128 : Shape := ⟨3, ![1, 128, 128]⟩

abbrev nBuf : Space → Nat
  | .hbm => 12
  | .vmem => 11
  | .smem => 0
  | _ => 0

abbrev bufTy : (tb : Table) → Fin (tcTables nBuf tb) → BufTy
  | .hbm, ⟨0, _⟩ => ⟨S4x2048x1792, .f32⟩
  | .hbm, ⟨1, _⟩ => ⟨S768, .f32⟩
  | .hbm, ⟨2, _⟩ => ⟨S768, .f32⟩
  | .hbm, ⟨3, _⟩ => ⟨S12x128x128, .f32⟩
  | .hbm, ⟨4, _⟩ => ⟨S12x128, .f32⟩
  | .hbm, ⟨5, _⟩ => ⟨S8192x1792, .f32⟩
  | .hbm, ⟨6, _⟩ => ⟨S1x768, .f32⟩
  | .hbm, ⟨7, _⟩ => ⟨S1x768, .f32⟩
  | .hbm, ⟨8, _⟩ => ⟨S128x12, .f32⟩
  | .hbm, ⟨9, _⟩ => ⟨S128x12x64, .f32⟩
  | .hbm, ⟨10, _⟩ => ⟨S128x768, .f32⟩
  | .hbm, ⟨11, _⟩ => ⟨S8192x768, .bf16⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S1x768, .f32⟩
  | .local _ .vmem, ⟨5, _⟩ => ⟨S1x768, .f32⟩
  | .local _ .vmem, ⟨6, _⟩ => ⟨S12x128x128, .f32⟩
  | .local _ .vmem, ⟨7, _⟩ => ⟨S128x768, .f32⟩
  | .local _ .vmem, ⟨8, _⟩ => ⟨S512x768, .bf16⟩
  | .local _ .vmem, ⟨9, _⟩ => ⟨S512x768, .bf16⟩
  | .local _ .vmem, ⟨10, _⟩ => ⟨S512x768, .bf16⟩
  | _, _ => ⟨S4x2048x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S12x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SguFwdIdeal.lean ====
variable {F : FTy → Type} [FloatOps F] [Named F]
def κ : String → Option EReal := fun
  | "cubic" => some ((8943 / 200000 : ℝ) : EReal)
  | _ => none
-- ==== SguFwdRefIdeal.lean ====
abbrev S4x2048x1792 : Shape := ⟨3, ![4, 2048, 1792]⟩
abbrev S768 : Shape := ⟨1, ![768]⟩
abbrev S12x128x128 : Shape := ⟨3, ![12, 128, 128]⟩
abbrev S12x128 : Shape := ⟨2, ![12, 128]⟩
abbrev S4x2048x768 : Shape := ⟨3, ![4, 2048, 768]⟩
abbrev S4x2048x256 : Shape := ⟨3, ![4, 2048, 256]⟩
abbrev S_ : Shape := ⟨0, ![]⟩
abbrev S4x2048 : Shape := ⟨2, ![4, 2048]⟩
abbrev S4x2048x1 : Shape := ⟨3, ![4, 2048, 1]⟩
abbrev S1x1x768 : Shape := ⟨3, ![1, 1, 768]⟩
abbrev S4x16x128x12x64 : Shape := ⟨5, ![4, 16, 128, 12, 64]⟩
abbrev S128x128 : Shape := ⟨2, ![128, 128]⟩
abbrev S1x128x128 : Shape := ⟨3, ![1, 128, 128]⟩
abbrev S12x4x16x64x128 : Shape := ⟨5, ![12, 4, 16, 64, 128]⟩
abbrev S128x12 : Shape := ⟨2, ![128, 12]⟩
abbrev S1x1x128x12x1 : Shape := ⟨5, ![1, 1, 128, 12, 1]⟩
abbrev S8192x768 : Shape := ⟨2, ![8192, 768]⟩

abbrev nBuf : Space → Nat
  | .hbm => 100
  | .vmem => 0
  | .smem => 0
  | _ => 0

abbrev bufTy : (tb : Table) → Fin (tcTables nBuf tb) → BufTy
  | .hbm, ⟨0, _⟩ => ⟨S4x2048x1792, .f32⟩
  | .hbm, ⟨1, _⟩ => ⟨S768, .f32⟩
  | .hbm, ⟨2, _⟩ => ⟨S768, .f32⟩
  | .hbm, ⟨3, _⟩ => ⟨S12x128x128, .f32⟩
  | .hbm, ⟨4, _⟩ => ⟨S12x128, .f32⟩
  | .hbm, ⟨5, _⟩ => ⟨S4x2048x768, .f32⟩
  | .hbm, ⟨6, _⟩ => ⟨S4x2048x768, .f32⟩
  | .hbm, ⟨7, _⟩ => ⟨S4x2048x256, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4x2048x768, .f32⟩
  | .hbm, ⟨12, _⟩ => ⟨S4x2048x768, .f32⟩
  | .hbm, ⟨13, _⟩ => ⟨S4x2048x768, .f32⟩
  | .hbm, ⟨14, _⟩ => ⟨S4x2048x768, .f32⟩
  | .hbm, ⟨15, _⟩ => ⟨S4x2048x768, .f32⟩
  | .hbm, ⟨16, _⟩ => ⟨S_, .f32⟩
  | .hbm, ⟨17, _⟩ => ⟨S4x2048x768, .f32⟩
  | .hbm, ⟨18, _⟩ => ⟨S4x2048x768, .f32⟩
  | .hbm, ⟨19, _⟩ => ⟨S4x2048x768, .f32⟩
  | .hbm, ⟨20, _⟩ => ⟨S_, .f32⟩
  | .hbm, ⟨21, _⟩ => ⟨S4x2048x768, .f32⟩
  | .hbm, ⟨22, _⟩ => ⟨S4x2048x768, .f32⟩
  | .hbm, ⟨23, _⟩ => ⟨S_, .f32⟩
  | .hbm, ⟨24, _⟩ => ⟨S4x2048x768, .f32⟩
  | .hbm, ⟨25, _⟩ => ⟨S4x2048x768, .f32⟩
  | .hbm, ⟨26, _⟩ => ⟨S4x2048x768, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S4x2048x768, .f32⟩
  | .hbm, ⟨31, _⟩ => ⟨S4x2048x768, .f32⟩
  | .hbm, ⟨32, _⟩ => ⟨S4x2048x768, .f32⟩
  | .hbm, ⟨33, _⟩ => ⟨S4x2048x768, .f32⟩
  | .hbm, ⟨34, _⟩ => ⟨S4x2048x768, .f32⟩
  | .hbm, ⟨35, _⟩ => ⟨S_, .f32⟩
  | .hbm, ⟨36, _⟩ => ⟨S4x2048x768, .f32⟩
  | .hbm, ⟨37, _⟩ => ⟨S4x2048x768, .f32⟩
  | .hbm, ⟨38, _⟩ => ⟨S4x2048x768, .f32⟩
  | .hbm, ⟨39, _⟩ => ⟨S_, .f32⟩
  | .hbm, ⟨40, _⟩ => ⟨S4x2048x768, .f32⟩
  | .hbm, ⟨41, _⟩ => ⟨S4x2048x768, .f32⟩
  | .hbm, ⟨42, _⟩ => ⟨S_, .f32⟩
  | .hbm, ⟨43, _⟩ => ⟨S4x2048x768, .f32⟩
  | .hbm, ⟨44, _⟩ => ⟨S4x2048x768, .f32⟩
  | .hbm, ⟨45, _⟩ => ⟨S4x2048x768, .f32⟩
  | .hbm, ⟨46, _⟩ => ⟨S_, .f32⟩
  | .hbm, ⟨47, _⟩ => ⟨S4x2048, .f32⟩
  | .hbm, ⟨48, _⟩ => ⟨S4x2048x1, .f32⟩
  | .hbm, ⟨49, _⟩ => ⟨S_, .f32⟩
  | .hbm, ⟨50, _⟩ => ⟨S4x2048x1, .f32⟩
  | .hbm, ⟨51, _⟩ => ⟨S4x2048x1, .f32⟩
  | .hbm, ⟨52, _⟩ => ⟨S4x2048x768, .f32⟩
  | .hbm, ⟨53, _⟩ => ⟨S4x2048x768, .f32⟩
  | .hbm, ⟨54, _⟩ => ⟨S4x2048x768, .f32⟩
  | .hbm, ⟨55, _⟩ => ⟨S_, .f32⟩
  | .hbm, ⟨56, _⟩ => ⟨S4x2048, .f32⟩
  | .hbm, ⟨57, _⟩ => ⟨S4x2048x1, .f32⟩
  | .hbm, ⟨58, _⟩ => ⟨S_, .f32⟩
  | .hbm, ⟨59, _⟩ => ⟨S4x2048x1, .f32⟩
  | .hbm, ⟨60, _⟩ => ⟨S4x2048x1, .f32⟩
  | .hbm, ⟨61, _⟩ => ⟨S4x2048x768, .f32⟩
  | .hbm, ⟨62, _⟩ => ⟨S4x2048x768, .f32⟩
  | .hbm, ⟨63, _⟩ => ⟨S_, .f32⟩
  | .hbm, ⟨64, _⟩ => ⟨S4x2048x1, .f32⟩
  | .hbm, ⟨65, _⟩ => ⟨S4x2048x1, .f32⟩
  | .hbm, ⟨66, _⟩ => ⟨S4x2048x1, .f32⟩
  | .hbm, ⟨67, _⟩ => ⟨S4x2048x768, .f32⟩
  | .hbm, ⟨68, _⟩ => ⟨S4x2048x768, .f32⟩
  | .hbm, ⟨69, _⟩ => ⟨S1x1x768, .f32⟩
  | .hbm, ⟨70, _⟩ => ⟨S4x2048x768, .f32⟩
  | .hbm, ⟨71, _⟩ => ⟨S4x2048x768, .f32⟩
  | .hbm, ⟨72, _⟩ => ⟨S1x1x768, .f32⟩
  | .hbm, ⟨73, _⟩ => ⟨S4x2048x768, .f32⟩
  | .hbm, ⟨74, _⟩ => ⟨S4x2048x768, .f32⟩
  | .hbm, ⟨75, _⟩ => ⟨S4x16x128x12x64, .f32⟩
  | .hbm, ⟨76, _⟩ => ⟨S_, .f32⟩
  | .hbm, ⟨77, _⟩ => ⟨S128x128, .f32⟩
  | .hbm, ⟨78, _⟩ => ⟨S128x128, .i32⟩
  | .hbm, ⟨79, _⟩ => ⟨S_, .i32⟩
  | .hbm, ⟨80, _⟩ => ⟨S128x128, .i32⟩
  | .hbm, ⟨81, _⟩ => ⟨S128x128, .i32⟩
  | .hbm, ⟨82, _⟩ => ⟨S128x128, .i32⟩
  | .hbm, ⟨83, _⟩ => ⟨S128x128, .i1⟩
  | .hbm, ⟨84, _⟩ => ⟨S_, .f32⟩
  | .hbm, ⟨85, _⟩ => ⟨S128x128, .f32⟩
  | .hbm, ⟨86, _⟩ => ⟨S128x128, .f32⟩
  | .hbm, ⟨87, _⟩ => ⟨S1x128x128, .f32⟩
  | .hbm, ⟨88, _⟩ => ⟨S12x128x128, .f32⟩
  | .hbm, ⟨89, _⟩ => ⟨S12x128x128, .f32⟩
  | .hbm, ⟨90, _⟩ => ⟨S12x4x16x64x128, .f32⟩
  | .hbm, ⟨91, _⟩ => ⟨S4x16x128x12x64, .f32⟩
  | .hbm, ⟨92, _⟩ => ⟨S128x12, .f32⟩
  | .hbm, ⟨93, _⟩ => ⟨S1x1x128x12x1, .f32⟩
  | .hbm, ⟨94, _⟩ => ⟨S4x16x128x12x64, .f32⟩
  | .hbm, ⟨95, _⟩ => ⟨S4x16x128x12x64, .f32⟩
  | .hbm, ⟨96, _⟩ => ⟨S4x2048x768, .f32⟩
  | .hbm, ⟨97, _⟩ => ⟨S4x2048x768, .f32⟩
  | .hbm, ⟨98, _⟩ => ⟨S4x2048x768, .bf16⟩
  | .hbm, ⟨99, _⟩ => ⟨S8192x768, .bf16⟩
  | _, _ => ⟨S4x2048x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_9 : Ref sig .tc := ⟨.hbm, 46, rfl⟩
abbrev main_v31 : Ref sig .tc := ⟨.hbm, 47, rfl⟩
abbrev main_v32 : Ref sig .tc := ⟨.hbm, 48, rfl⟩
abbrev main_cst_10 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_11 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_13 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_14 : Ref sig .tc := ⟨.hbm, 76, rfl⟩
abbrev main_v56 : Ref sig .tc := ⟨.hbm, 77, rfl⟩
abbrev main_call0_v0 : Ref sig .tc := ⟨.hbm, 78, rfl⟩
abbrev main_call0_c : Ref sig .tc := ⟨.hbm, 79, rfl⟩
abbrev main_call0_v1 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_call0_cst : Ref sig .tc := ⟨.hbm, 84, rfl⟩
abbrev main_call0_v5 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩

abbrev nD : Nat := 1
abbrev τ : Topo := Topo.v7x

variable {F : FTy → Type} [FloatOps F]
-- ==== UpFwd.lean ====
abbrev S4x2048x1024 : Shape := ⟨3, ![4, 2048, 1024]⟩
abbrev S1024x2816 : Shape := ⟨2, ![1024, 2816]⟩
abbrev S2816x1024 : Shape := ⟨2, ![2816, 1024]⟩
abbrev S8192x1024 : Shape := ⟨2, ![8192, 1024]⟩
abbrev S8192x2816 : Shape := ⟨2, ![8192, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 12
  | .vmem => 12
  | .smem => 0
  | _ => 0

abbrev bufTy : (tb : Table) → Fin (tcTables nBuf tb) → BufTy
  | .hbm, ⟨0, _⟩ => ⟨S4x2048x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S2816x1024, .bf16⟩
  | .hbm, ⟨5, _⟩ => ⟨S2816x1024, .f32⟩
  | .hbm, ⟨6, _⟩ => ⟨S2816x1024, .bf16⟩
  | .hbm, ⟨7, _⟩ => ⟨S8192x1024, .f32⟩
  | .hbm, ⟨8, _⟩ => ⟨S8192x1024, .bf16⟩
  | .hbm, ⟨9, _⟩ => ⟨S8192x2816, .bf16⟩
  | .hbm, ⟨10, _⟩ => ⟨S8192x2816, .bf16⟩
  | .hbm, ⟨11, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6_0 : Ref sig .tc := ⟨.hbm, 9, rfl⟩
abbrev main_v6_1 : Ref sig .tc := ⟨.hbm, 10, rfl⟩
abbrev main_v6_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== UpFwdRefIdeal.lean ====
abbrev S4x2048x1024 : Shape := ⟨3, ![4, 2048, 1024]⟩
abbrev S1024x2816 : Shape := ⟨2, ![1024, 2816]⟩
abbrev S4x2048x2816 : Shape := ⟨3, ![4, 2048, 2816]⟩
abbrev S_ : Shape := ⟨0, ![]⟩
abbrev S8192x2816 : Shape := ⟨2, ![8192, 2816]⟩

abbrev nBuf : Space → Nat
  | .hbm => 33
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x2816, .f32⟩
  | .hbm, ⟨2, _⟩ => ⟨S1024x2816, .f32⟩
  | .hbm, ⟨3, _⟩ => ⟨S4x2048x2816, .f32⟩
  | .hbm, ⟨4, _⟩ => ⟨S4x2048x2816, .f32⟩
  | .hbm, ⟨5, _⟩ => ⟨S4x2048x2816, .f32⟩
  | .hbm, ⟨6, _⟩ => ⟨S4x2048x2816, .f32⟩
  | .hbm, ⟨7, _⟩ => ⟨S_, .f32⟩
  | .hbm, ⟨8, _⟩ => ⟨S4x2048x2816, .f32⟩
  | .hbm, ⟨9, _⟩ => ⟨S4x2048x2816, .f32⟩
  | .hbm, ⟨10, _⟩ => ⟨S_, .f32⟩
  | .hbm, ⟨11, _⟩ => ⟨S4x2048x2816, .f32⟩
  | .hbm, ⟨12, _⟩ => ⟨S4x2048x2816, .f32⟩
  | .hbm, ⟨13, _⟩ => ⟨S_, .f32⟩
  | .hbm, ⟨14, _⟩ => ⟨S4x2048x2816, .f32⟩
  | .hbm, ⟨15, _⟩ => ⟨S4x2048x2816, .f32⟩
  | .hbm, ⟨16, _⟩ => ⟨S4x2048x2816, .f32⟩
  | .hbm, ⟨17, _⟩ => ⟨S4x2048x2816, .f32⟩
  | .hbm, ⟨18, _⟩ => ⟨S4x2048x2816, .f32⟩
  | .hbm, ⟨19, _⟩ => ⟨S_, .f32⟩
  | .hbm, ⟨20, _⟩ => ⟨S4x2048x2816, .f32⟩
  | .hbm, ⟨21, _⟩ => ⟨S4x2048x2816, .f32⟩
  | .hbm, ⟨22, _⟩ => ⟨S4x2048x2816, .f32⟩
  | .hbm, ⟨23, _⟩ => ⟨S4x2048x2816, .f32⟩
  | .hbm, ⟨24, _⟩ => ⟨S4x2048x2816, .f32⟩
  | .hbm, ⟨25, _⟩ => ⟨S4x2048x2816, .f32⟩
  | .hbm, ⟨26, _⟩ => ⟨S4x2048x2816, .f32⟩
  | .hbm, ⟨27, _⟩ => ⟨S4x2048x2816, .bf16⟩
  | .hbm, ⟨28, _⟩ => ⟨S8192x2816, .bf16⟩
  | .hbm, ⟨29, _⟩ => ⟨S4x2048x2816, .bf16⟩
  | .hbm, ⟨30, _⟩ => ⟨S8192x2816, .bf16⟩
  | .hbm, ⟨31, _⟩ => ⟨S4x2048x2816, .bf16⟩
  | .hbm, ⟨32, _⟩ => ⟨S8192x2816, .bf16⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩

abbrev nD : Nat := 1
abbrev τ : Topo := Topo.v7x

variable {F : FTy → Type} [FloatOps F]
-- ==== OutFwd.lean ====
abbrev S4x2048x768 : Shape := ⟨3, ![4, 2048, 768]⟩
abbrev S4x2048x256 : Shape := ⟨3, ![4, 2048, 256]⟩
abbrev S1024x1024 : Shape := ⟨2, ![1024, 1024]⟩
abbrev S4x2048x1024 : Shape := ⟨3, ![4, 2048, 1024]⟩
abbrev S1024 : Shape := ⟨1, ![1024]⟩
abbrev S8192x768 : Shape := ⟨2, ![8192, 768]⟩
abbrev S8192x256 : Shape := ⟨2, ![8192, 256]⟩
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 16
  | .vmem => 14
  | .smem => 0
  | _ => 0

abbrev bufTy : (tb : Table) → Fin (tcTables nBuf tb) → BufTy
  | .hbm, ⟨0, _⟩ => ⟨S4x2048x768, .bf16⟩
  | .hbm, ⟨1, _⟩ => ⟨S4x2048x256, .bf16⟩
  | .hbm, ⟨2, _⟩ => ⟨S1024x1024, .f32⟩
  | .hbm, ⟨3, _⟩ => ⟨S4x2048x1024, .f32⟩
  | .hbm, ⟨4, _⟩ => ⟨S1024, .f32⟩
  | .hbm, ⟨5, _⟩ => ⟨S1024, .f32⟩
  | .hbm, ⟨6, _⟩ => ⟨S8192x768, .bf16⟩
  | .hbm, ⟨7, _⟩ => ⟨S8192x256, .bf16⟩
  | .hbm, ⟨8, _⟩ => ⟨S8192x1024, .bf16⟩
  | .hbm, ⟨9, _⟩ => ⟨S1024x1024, .bf16⟩
  | .hbm, ⟨10, _⟩ => ⟨S8192x1024, .f32⟩
  | .hbm, ⟨11, _⟩ => ⟨S1x1024, .f32⟩
  | .hbm, ⟨12, _⟩ => ⟨S1x1024, .f32⟩
  | .hbm, ⟨13, _⟩ => ⟨S8192x1024, .f32⟩
  | .hbm, ⟨14, _⟩ => ⟨S8192x1024, .f32⟩
  | .hbm, ⟨15, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | _, _ => ⟨S4x2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== OutFwdRefIdeal.lean ====
abbrev S4x2048x768 : Shape := ⟨3, ![4, 2048, 768]⟩
abbrev S4x2048x256 : Shape := ⟨3, ![4, 2048, 256]⟩
abbrev S1024x1024 : Shape := ⟨2, ![1024, 1024]⟩
abbrev S4x2048x1024 : Shape := ⟨3, ![4, 2048, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S8192x1024 : Shape := ⟨2, ![8192, 1024]⟩

abbrev nBuf : Space → Nat
  | .hbm => 46
  | .vmem => 0
  | .smem => 0
  | _ => 0

abbrev bufTy : (tb : Table) → Fin (tcTables nBuf tb) → BufTy
  | .hbm, ⟨0, _⟩ => ⟨S4x2048x768, .bf16⟩
  | .hbm, ⟨1, _⟩ => ⟨S4x2048x256, .bf16⟩
  | .hbm, ⟨2, _⟩ => ⟨S1024x1024, .f32⟩
  | .hbm, ⟨3, _⟩ => ⟨S4x2048x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S4x2048x1024, .f32⟩
  | .hbm, ⟨8, _⟩ => ⟨S4x2048x1024, .f32⟩
  | .hbm, ⟨9, _⟩ => ⟨S4x2048x1024, .bf16⟩
  | .hbm, ⟨10, _⟩ => ⟨S4x2048x1024, .f32⟩
  | .hbm, ⟨11, _⟩ => ⟨S4x2048x1024, .f32⟩
  | .hbm, ⟨12, _⟩ => ⟨S4x2048x1024, .f32⟩
  | .hbm, ⟨13, _⟩ => ⟨S_, .f32⟩
  | .hbm, ⟨14, _⟩ => ⟨S4x2048, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S4x2048x1024, .f32⟩
  | .hbm, ⟨20, _⟩ => ⟨S4x2048x1024, .f32⟩
  | .hbm, ⟨21, _⟩ => ⟨S4x2048x1024, .f32⟩
  | .hbm, ⟨22, _⟩ => ⟨S_, .f32⟩
  | .hbm, ⟨23, _⟩ => ⟨S4x2048, .f32⟩
  | .hbm, ⟨24, _⟩ => ⟨S4x2048x1, .f32⟩
  | .hbm, ⟨25, _⟩ => ⟨S_, .f32⟩
  | .hbm, ⟨26, _⟩ => ⟨S4x2048x1, .f32⟩
  | .hbm, ⟨27, _⟩ => ⟨S4x2048x1, .f32⟩
  | .hbm, ⟨28, _⟩ => ⟨S4x2048x1024, .f32⟩
  | .hbm, ⟨29, _⟩ => ⟨S4x2048x1024, .f32⟩
  | .hbm, ⟨30, _⟩ => ⟨S_, .f32⟩
  | .hbm, ⟨31, _⟩ => ⟨S4x2048x1, .f32⟩
  | .hbm, ⟨32, _⟩ => ⟨S4x2048x1, .f32⟩
  | .hbm, ⟨33, _⟩ => ⟨S4x2048x1, .f32⟩
  | .hbm, ⟨34, _⟩ => ⟨S4x2048x1024, .f32⟩
  | .hbm, ⟨35, _⟩ => ⟨S4x2048x1024, .f32⟩
  | .hbm, ⟨36, _⟩ => ⟨S1x1x1024, .f32⟩
  | .hbm, ⟨37, _⟩ => ⟨S4x2048x1024, .f32⟩
  | .hbm, ⟨38, _⟩ => ⟨S4x2048x1024, .f32⟩
  | .hbm, ⟨39, _⟩ => ⟨S1x1x1024, .f32⟩
  | .hbm, ⟨40, _⟩ => ⟨S4x2048x1024, .f32⟩
  | .hbm, ⟨41, _⟩ => ⟨S4x2048x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .bf16⟩
  | _, _ => ⟨S4x2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== DownFwd.lean ====
abbrev S4x2048x2816 : Shape := ⟨3, ![4, 2048, 2816]⟩
abbrev S2816x1024 : Shape := ⟨2, ![2816, 1024]⟩
abbrev S4x2048x1024 : Shape := ⟨3, ![4, 2048, 1024]⟩
abbrev S1024 : Shape := ⟨1, ![1024]⟩
abbrev S8192x2816 : Shape := ⟨2, ![8192, 2816]⟩
abbrev S8192x1024 : Shape := ⟨2, ![8192, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 14
  | .smem => 0
  | _ => 0

abbrev bufTy : (tb : Table) → Fin (tcTables nBuf tb) → BufTy
  | .hbm, ⟨0, _⟩ => ⟨S4x2048x2816, .bf16⟩
  | .hbm, ⟨1, _⟩ => ⟨S2816x1024, .f32⟩
  | .hbm, ⟨2, _⟩ => ⟨S4x2048x1024, .f32⟩
  | .hbm, ⟨3, _⟩ => ⟨S1024, .f32⟩
  | .hbm, ⟨4, _⟩ => ⟨S1024, .f32⟩
  | .hbm, ⟨5, _⟩ => ⟨S8192x2816, .bf16⟩
  | .hbm, ⟨6, _⟩ => ⟨S2816x1024, .bf16⟩
  | .hbm, ⟨7, _⟩ => ⟨S8192x1024, .f32⟩
  | .hbm, ⟨8, _⟩ => ⟨S1x1024, .f32⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S8192x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | _, _ => ⟨S4x2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 1], ![false, false]⟩

def k0_cond2 (i : grid0.Coords) : BitVec 1 :=
  let arg1 : BitVec 32 := BitVec.ofNat 32 (i 1).val
  let c0_i32_8 : BitVec 32 := 0#32
  let v13 : BitVec 1 := Scalar.cmpi .eq arg1 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== DownFwdRefIdeal.lean ====
abbrev S4x2048x2816 : Shape := ⟨3, ![4, 2048, 2816]⟩
abbrev S2816x1024 : Shape := ⟨2, ![2816, 1024]⟩
abbrev S4x2048x1024 : Shape := ⟨3, ![4, 2048, 1024]⟩
abbrev S1024 : Shape := ⟨1, ![1024]⟩
abbrev S_ : Shape := ⟨0, ![]⟩
abbrev S4x2048 : Shape := ⟨2, ![4, 2048]⟩
abbrev S4x2048x1 : Shape := ⟨3, ![4, 2048, 1]⟩
abbrev S1x1x1024 : Shape := ⟨3, ![1, 1, 1024]⟩
abbrev S8192x1024 : Shape := ⟨2, ![8192, 1024]⟩

abbrev nBuf : Space → Nat
  | .hbm => 44
  | .vmem => 0
  | .smem => 0
  | _ => 0

abbrev bufTy : (tb : Table) → Fin (tcTables nBuf tb) → BufTy
  | .hbm, ⟨0, _⟩ => ⟨S4x2048x2816, .bf16⟩
  | .hbm, ⟨1, _⟩ => ⟨S2816x1024, .f32⟩
  | .hbm, ⟨2, _⟩ => ⟨S4x2048x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S4x2048x1024, .f32⟩
  | .hbm, ⟨7, _⟩ => ⟨S4x2048x1024, .f32⟩
  | .hbm, ⟨8, _⟩ => ⟨S4x2048x2816, .f32⟩
  | .hbm, ⟨9, _⟩ => ⟨S4x2048x1024, .f32⟩
  | .hbm, ⟨10, _⟩ => ⟨S4x2048x1024, .f32⟩
  | .hbm, ⟨11, _⟩ => ⟨S_, .f32⟩
  | .hbm, ⟨12, _⟩ => ⟨S4x2048, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S4x2048x1024, .f32⟩
  | .hbm, ⟨18, _⟩ => ⟨S4x2048x1024, .f32⟩
  | .hbm, ⟨19, _⟩ => ⟨S4x2048x1024, .f32⟩
  | .hbm, ⟨20, _⟩ => ⟨S_, .f32⟩
  | .hbm, ⟨21, _⟩ => ⟨S4x2048, .f32⟩
  | .hbm, ⟨22, _⟩ => ⟨S4x2048x1, .f32⟩
  | .hbm, ⟨23, _⟩ => ⟨S_, .f32⟩
  | .hbm, ⟨24, _⟩ => ⟨S4x2048x1, .f32⟩
  | .hbm, ⟨25, _⟩ => ⟨S4x2048x1, .f32⟩
  | .hbm, ⟨26, _⟩ => ⟨S4x2048x1024, .f32⟩
  | .hbm, ⟨27, _⟩ => ⟨S4x2048x1024, .f32⟩
  | .hbm, ⟨28, _⟩ => ⟨S_, .f32⟩
  | .hbm, ⟨29, _⟩ => ⟨S4x2048x1, .f32⟩
  | .hbm, ⟨30, _⟩ => ⟨S4x2048x1, .f32⟩
  | .hbm, ⟨31, _⟩ => ⟨S4x2048x1, .f32⟩
  | .hbm, ⟨32, _⟩ => ⟨S4x2048x1024, .f32⟩
  | .hbm, ⟨33, _⟩ => ⟨S4x2048x1024, .f32⟩
  | .hbm, ⟨34, _⟩ => ⟨S1x1x1024, .f32⟩
  | .hbm, ⟨35, _⟩ => ⟨S4x2048x1024, .f32⟩
  | .hbm, ⟨36, _⟩ => ⟨S4x2048x1024, .f32⟩
  | .hbm, ⟨37, _⟩ => ⟨S1x1x1024, .f32⟩
  | .hbm, ⟨38, _⟩ => ⟨S4x2048x1024, .f32⟩
  | .hbm, ⟨39, _⟩ => ⟨S4x2048x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .bf16⟩
  | _, _ => ⟨S4x2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== XBwd.lean ====
abbrev S4x2048x768 : Shape := ⟨3, ![4, 2048, 768]⟩
abbrev S4x2048x256 : Shape := ⟨3, ![4, 2048, 256]⟩
abbrev S1024x2560 : Shape := ⟨2, ![1024, 2560]⟩
abbrev S4x2048x1024 : Shape := ⟨3, ![4, 2048, 1024]⟩
abbrev S8192x768 : Shape := ⟨2, ![8192, 768]⟩
abbrev S8192x256 : Shape := ⟨2, ![8192, 256]⟩
abbrev S8192x2560 : Shape := ⟨2, ![8192, 2560]⟩
abbrev S2560x1024 : Shape := ⟨2, ![2560, 1024]⟩
abbrev S8192x1024 : Shape := ⟨2, ![8192, 1024]⟩
abbrev S512x2560 : Shape := ⟨2, ![512, 2560]⟩
abbrev S512x1024 : Shape := ⟨2, ![512, 1024]⟩

abbrev nBuf : Space → Nat
  | .hbm => 15
  | .vmem => 8
  | .smem => 0
  | _ => 0

abbrev bufTy : (tb : Table) → Fin (tcTables nBuf tb) → BufTy
  | .hbm, ⟨0, _⟩ => ⟨S4x2048x768, .bf16⟩
  | .hbm, ⟨1, _⟩ => ⟨S4x2048x768, .bf16⟩
  | .hbm, ⟨2, _⟩ => ⟨S4x2048x768, .bf16⟩
  | .hbm, ⟨3, _⟩ => ⟨S4x2048x256, .bf16⟩
  | .hbm, ⟨4, _⟩ => ⟨S1024x2560, .f32⟩
  | .hbm, ⟨5, _⟩ => ⟨S4x2048x1024, .f32⟩
  | .hbm, ⟨6, _⟩ => ⟨S8192x768, .bf16⟩
  | .hbm, ⟨7, _⟩ => ⟨S8192x768, .bf16⟩
  | .hbm, ⟨8, _⟩ => ⟨S8192x768, .bf16⟩
  | .hbm, ⟨9, _⟩ => ⟨S8192x256, .bf16⟩
  | .hbm, ⟨10, _⟩ => ⟨S8192x2560, .bf16⟩
  | .hbm, ⟨11, _⟩ => ⟨S2560x1024, .f32⟩
  | .hbm, ⟨12, _⟩ => ⟨S2560x1024, .bf16⟩
  | .hbm, ⟨13, _⟩ => ⟨S8192x1024, .f32⟩
  | .hbm, ⟨14, _⟩ => ⟨S8192x1024, .f32⟩
  | .local _ .vmem, ⟨0, _⟩ => ⟨S512x2560, .bf16⟩
  | .local _ .vmem, ⟨1, _⟩ => ⟨S512x2560, .bf16⟩
  | .local _ .vmem, ⟨2, _⟩ => ⟨S2560x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S4x2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2560x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== XGradIdeal.lean ====
abbrev S4x2048x768 : Shape := ⟨3, ![4, 2048, 768]⟩
abbrev S4x2048x256 : Shape := ⟨3, ![4, 2048, 256]⟩
abbrev S1024x2560 : Shape := ⟨2, ![1024, 2560]⟩
abbrev S4x2048x1024 : Shape := ⟨3, ![4, 2048, 1024]⟩
abbrev S_ : Shape := ⟨0, ![]⟩
abbrev S4x2048x2560 : Shape := ⟨3, ![4, 2048, 2560]⟩
abbrev S8192x1024 : Shape := ⟨2, ![8192, 1024]⟩

abbrev nBuf : Space → Nat
  | .hbm => 27
  | .vmem => 0
  | .smem => 0
  | _ => 0

abbrev bufTy : (tb : Table) → Fin (tcTables nBuf tb) → BufTy
  | .hbm, ⟨0, _⟩ => ⟨S4x2048x768, .bf16⟩
  | .hbm, ⟨1, _⟩ => ⟨S4x2048x768, .bf16⟩
  | .hbm, ⟨2, _⟩ => ⟨S4x2048x768, .bf16⟩
  | .hbm, ⟨3, _⟩ => ⟨S4x2048x256, .bf16⟩
  | .hbm, ⟨4, _⟩ => ⟨S1024x2560, .f32⟩
  | .hbm, ⟨5, _⟩ => ⟨S4x2048x1024, .f32⟩
  | .hbm, ⟨6, _⟩ => ⟨S_, .f32⟩
  | .hbm, ⟨7, _⟩ => ⟨S4x2048x1024, .f32⟩
  | .hbm, ⟨8, _⟩ => ⟨S4x2048x2560, .f32⟩
  | .hbm, ⟨9, _⟩ => ⟨S4x2048x768, .f32⟩
  | .hbm, ⟨10, _⟩ => ⟨S4x2048x768, .f32⟩
  | .hbm, ⟨11, _⟩ => ⟨S4x2048x768, .f32⟩
  | .hbm, ⟨12, _⟩ => ⟨S4x2048x256, .f32⟩
  | .hbm, ⟨13, _⟩ => ⟨S_, .f32⟩
  | .hbm, ⟨14, _⟩ => ⟨S4x2048x1024, .f32⟩
  | .hbm, ⟨15, _⟩ => ⟨S4x2048x1024, .f32⟩
  | .hbm, ⟨16, _⟩ => ⟨S4x2048x768, .f32⟩
  | .hbm, ⟨17, _⟩ => ⟨S4x2048x768, .f32⟩
  | .hbm, ⟨18, _⟩ => ⟨S4x2048x768, .f32⟩
  | .hbm, ⟨19, _⟩ => ⟨S4x2048x256, .f32⟩
  | .hbm, ⟨20, _⟩ => ⟨S_, .f32⟩
  | .hbm, ⟨21, _⟩ => ⟨S4x2048x1024, .f32⟩
  | .hbm, ⟨22, _⟩ => ⟨S4x2048x1024, .f32⟩
  | .hbm, ⟨23, _⟩ => ⟨S4x2048x2560, .f32⟩
  | .hbm, ⟨24, _⟩ => ⟨S4x2048x1024, .f32⟩
  | .hbm, ⟨25, _⟩ => ⟨S4x2048x1024, .f32⟩
  | .hbm, ⟨26, _⟩ => ⟨S8192x1024, .f32⟩
  | _, _ => ⟨S4x2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== CatBwd.lean ====
abbrev S4x2048x1024 : Shape := ⟨3, ![4, 2048, 1024]⟩
abbrev S1024x1024 : Shape := ⟨2, ![1024, 1024]⟩
abbrev S8192x1024 : Shape := ⟨2, ![8192, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S8192x1024, .f32⟩
  | .hbm, ⟨3, _⟩ => ⟨S8192x1024, .bf16⟩
  | .hbm, ⟨4, _⟩ => ⟨S1024x1024, .bf16⟩
  | .hbm, ⟨5, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CatGradIdeal.lean ====
abbrev S4x2048x1024 : Shape := ⟨3, ![4, 2048, 1024]⟩
abbrev S1024x1024 : Shape := ⟨2, ![1024, 1024]⟩
abbrev S_ : Shape := ⟨0, ![]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S_, .f32⟩
  | .hbm, ⟨3, _⟩ => ⟨S4x2048x1024, .f32⟩
  | .hbm, ⟨4, _⟩ => ⟨S4x2048x1024, .f32⟩
  | .hbm, ⟨5, _⟩ => ⟨S4x2048x1024, .f32⟩
  | .hbm, ⟨6, _⟩ => ⟨S8192x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KvFwd.lean ====
abbrev S4x256x1024 : Shape := ⟨3, ![4, 256, 1024]⟩
abbrev S1024x512 : Shape := ⟨2, ![1024, 512]⟩
abbrev S1024x1024 : Shape := ⟨2, ![1024, 1024]⟩

abbrev nBuf : Space → Nat
  | .hbm => 5
  | .vmem => 4
  | .smem => 0
  | _ => 0

abbrev bufTy : (tb : Table) → Fin (tcTables nBuf tb) → BufTy
  | .hbm, ⟨0, _⟩ => ⟨S4x256x1024, .f32⟩
  | .hbm, ⟨1, _⟩ => ⟨S1024x512, .f32⟩
  | .hbm, ⟨2, _⟩ => ⟨S1024x1024, .f32⟩
  | .hbm, ⟨3, _⟩ => ⟨S1024x512, .bf16⟩
  | .hbm, ⟨4, _⟩ => ⟨S1024x512, .f32⟩
  | .local _ .vmem, ⟨0, _⟩ => ⟨S1024x1024, .f32⟩
  | .local _ .vmem, ⟨1, _⟩ => ⟨S1024x512, .bf16⟩
  | .local _ .vmem, ⟨2, _⟩ => ⟨S1024x512, .f32⟩
  | .local _ .vmem, ⟨3, _⟩ => ⟨S1024x512, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond2 (i : grid0.Coords) : BitVec 1 :=
  let arg2 : BitVec 32 := BitVec.ofNat 32 (i 2).val
  let c0_i32_8 : BitVec 32 := 0#32
  let v14 : BitVec 1 := Scalar.cmpi .eq arg2 c0_i32_8
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== KvFwdRefIdeal.lean ====
abbrev S4x256x1024 : Shape := ⟨3, ![4, 256, 1024]⟩
abbrev S1024x512 : Shape := ⟨2, ![1024, 512]⟩
abbrev S4x256x512 : Shape := ⟨3, ![4, 256, 512]⟩

abbrev nBuf : Space → Nat
  | .hbm => 4
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024x512, .f32⟩
  | .hbm, ⟨2, _⟩ => ⟨S4x256x512, .f32⟩
  | .hbm, ⟨3, _⟩ => ⟨S1024x512, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== InFwd.lean ====
abbrev S4x2048x1024 : Shape := ⟨3, ![4, 2048, 1024]⟩
abbrev S1024x2560 : Shape := ⟨2, ![1024, 2560]⟩
abbrev S2560x1024 : Shape := ⟨2, ![2560, 1024]⟩
abbrev S8192x1024 : Shape := ⟨2, ![8192, 1024]⟩
abbrev S8192x2560 : Shape := ⟨2, ![8192, 2560]⟩
abbrev S512x1024 : Shape := ⟨2, ![512, 1024]⟩
abbrev S512x2560 : Shape := ⟨2, ![512, 2560]⟩

abbrev nBuf : Space → Nat
  | .hbm => 6
  | .vmem => 6
  | .smem => 0
  | _ => 0

abbrev bufTy : (tb : Table) → Fin (tcTables nBuf tb) → BufTy
  | .hbm, ⟨0, _⟩ => ⟨S4x2048x1024, .f32⟩
  | .hbm, ⟨1, _⟩ => ⟨S1024x2560, .f32⟩
  | .hbm, ⟨2, _⟩ => ⟨S2560x1024, .f32⟩
  | .hbm, ⟨3, _⟩ => ⟨S2560x1024, .bf16⟩
  | .hbm, ⟨4, _⟩ => ⟨S8192x1024, .f32⟩
  | .hbm, ⟨5, _⟩ => ⟨S8192x2560, .f32⟩
  | .local _ .vmem, ⟨0, _⟩ => ⟨S512x1024, .f32⟩
  | .local _ .vmem, ⟨1, _⟩ => ⟨S512x1024, .f32⟩
  | .local _ .vmem, ⟨2, _⟩ => ⟨S2560x1024, .bf16⟩
  | .local _ .vmem, ⟨3, _⟩ => ⟨S512x2560, .f32⟩
  | .local _ .vmem, ⟨4, _⟩ => ⟨S512x2560, .f32⟩
  | .local _ .vmem, ⟨5, _⟩ => ⟨S512x2560, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v14 : BitVec 1 := Scalar.cmpi .eq arg2 c0_i32_8
  let v15 : BitVec 32 := Scalar.extui v14
  let c0_i32_9 : BitVec 32 := 0#32
  let v16 : BitVec 1 := Scalar.cmpi .ne v15 c0_i32_9
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2560x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InFwdRefIdeal.lean ====
abbrev S4x2048x1024 : Shape := ⟨3, ![4, 2048, 1024]⟩
abbrev S1024x2560 : Shape := ⟨2, ![1024, 2560]⟩
abbrev S4x2048x2560 : Shape := ⟨3, ![4, 2048, 2560]⟩
abbrev S8192x2560 : Shape := ⟨2, ![8192, 2560]⟩

abbrev nBuf : Space → Nat
  | .hbm => 4
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x2560, .f32⟩
  | .hbm, ⟨2, _⟩ => ⟨S4x2048x2560, .f32⟩
  | .hbm, ⟨3, _⟩ => ⟨S8192x2560, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== InOddFwd.lean ====
abbrev S4x2048x1024 : Shape := ⟨3, ![4, 2048, 1024]⟩
abbrev S1024x1792 : Shape := ⟨2, ![1024, 1792]⟩
abbrev S1792x1024 : Shape := ⟨2, ![1792, 1024]⟩
abbrev S8192x1024 : Shape := ⟨2, ![8192, 1024]⟩
abbrev S8192x1792 : Shape := ⟨2, ![8192, 1792]⟩
abbrev S512x1024 : Shape := ⟨2, ![512, 1024]⟩
abbrev S512x1792 : Shape := ⟨2, ![512, 1792]⟩

abbrev nBuf : Space → Nat
  | .hbm => 7
  | .vmem => 6
  | .smem => 0
  | _ => 0

abbrev bufTy : (tb : Table) → Fin (tcTables nBuf tb) → BufTy
  | .hbm, ⟨0, _⟩ => ⟨S4x2048x1024, .f32⟩
  | .hbm, ⟨1, _⟩ => ⟨S1024x1792, .f32⟩
  | .hbm, ⟨2, _⟩ => ⟨S1792x1024, .f32⟩
  | .hbm, ⟨3, _⟩ => ⟨S1792x1024, .bf16⟩
  | .hbm, ⟨4, _⟩ => ⟨S8192x1024, .f32⟩
  | .hbm, ⟨5, _⟩ => ⟨S8192x1024, .bf16⟩
  | .hbm, ⟨6, _⟩ => ⟨S8192x1792, .f32⟩
  | .local _ .vmem, ⟨0, _⟩ => ⟨S512x1024, .bf16⟩
  | .local _ .vmem, ⟨1, _⟩ => ⟨S512x1024, .bf16⟩
  | .local _ .vmem, ⟨2, _⟩ => ⟨S1792x1024, .bf16⟩
  | .local _ .vmem, ⟨3, _⟩ => ⟨S512x1792, .f32⟩
  | .local _ .vmem, ⟨4, _⟩ => ⟨S512x1792, .f32⟩
  | .local _ .vmem, ⟨5, _⟩ => ⟨S512x1792, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1792x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InOddFwdRefIdeal.lean ====
abbrev S4x2048x1024 : Shape := ⟨3, ![4, 2048, 1024]⟩
abbrev S1024x1792 : Shape := ⟨2, ![1024, 1792]⟩
abbrev S4x2048x1792 : Shape := ⟨3, ![4, 2048, 1792]⟩
abbrev S8192x1792 : Shape := ⟨2, ![8192, 1792]⟩

abbrev nBuf : Space → Nat
  | .hbm => 4
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1792, .f32⟩
  | .hbm, ⟨2, _⟩ => ⟨S4x2048x1792, .f32⟩
  | .hbm, ⟨3, _⟩ => ⟨S8192x1792, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Adam.lean ====
abbrev S4x256x1024 : Shape := ⟨3, ![4, 256, 1024]⟩
abbrev S1024x1024 : Shape := ⟨2, ![1024, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamRefIdeal.lean ====
abbrev S4x256x1024 : Shape := ⟨3, ![4, 256, 1024]⟩
abbrev S_ : Shape := ⟨0, ![]⟩
abbrev S1024x1024 : Shape := ⟨2, ![1024, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S_, .f32⟩
  | .hbm, ⟨5, _⟩ => ⟨S4x256x1024, .f32⟩
  | .hbm, ⟨6, _⟩ => ⟨S4x256x1024, .f32⟩
  | .hbm, ⟨7, _⟩ => ⟨S_, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S_, .f32⟩
  | .hbm, ⟨12, _⟩ => ⟨S4x256x1024, .f32⟩
  | .hbm, ⟨13, _⟩ => ⟨S4x256x1024, .f32⟩
  | .hbm, ⟨14, _⟩ => ⟨S4x256x1024, .f32⟩
  | .hbm, ⟨15, _⟩ => ⟨S_, .f32⟩
  | .hbm, ⟨16, _⟩ => ⟨S4x256x1024, .f32⟩
  | .hbm, ⟨17, _⟩ => ⟨S4x256x1024, .f32⟩
  | .hbm, ⟨18, _⟩ => ⟨S4x256x1024, .f32⟩
  | .hbm, ⟨19, _⟩ => ⟨S_, .f32⟩
  | .hbm, ⟨20, _⟩ => ⟨S4x256x1024, .f32⟩
  | .hbm, ⟨21, _⟩ => ⟨S4x256x1024, .f32⟩
  | .hbm, ⟨22, _⟩ => ⟨S_, .f32⟩
  | .hbm, ⟨23, _⟩ => ⟨S4x256x1024, .f32⟩
  | .hbm, ⟨24, _⟩ => ⟨S4x256x1024, .f32⟩
  | .hbm, ⟨25, _⟩ => ⟨S4x256x1024, .f32⟩
  | .hbm, ⟨26, _⟩ => ⟨S_, .f32⟩
  | .hbm, ⟨27, _⟩ => ⟨S4x256x1024, .f32⟩
  | .hbm, ⟨28, _⟩ => ⟨S4x256x1024, .f32⟩
  | .hbm, ⟨29, _⟩ => ⟨S4x256x1024, .f32⟩
  | .hbm, ⟨30, _⟩ => ⟨S_, .f32⟩
  | .hbm, ⟨31, _⟩ => ⟨S4x256x1024, .f32⟩
  | .hbm, ⟨32, _⟩ => ⟨S4x256x1024, .f32⟩
  | .hbm, ⟨33, _⟩ => ⟨S4x256x1024, .f32⟩
  | .hbm, ⟨34, _⟩ => ⟨S_, .f32⟩
  | .hbm, ⟨35, _⟩ => ⟨S4x256x1024, .f32⟩
  | .hbm, ⟨36, _⟩ => ⟨S4x256x1024, .f32⟩
  | .hbm, ⟨37, _⟩ => ⟨S1024x1024, .f32⟩
  | .hbm, ⟨38, _⟩ => ⟨S1024x1024, .f32⟩
  | .hbm, ⟨39, _⟩ => ⟨S1024x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== KvBwd.lean ====
abbrev S4x256x1024 : Shape := ⟨3, ![4, 256, 1024]⟩
abbrev S4x256x512 : Shape := ⟨3, ![4, 256, 512]⟩
abbrev S1024x1024 : Shape := ⟨2, ![1024, 1024]⟩
abbrev S1024x512 : Shape := ⟨2, ![1024, 512]⟩

abbrev nBuf : Space → Nat
  | .hbm => 5
  | .vmem => 4
  | .smem => 0
  | _ => 0

abbrev bufTy : (tb : Table) → Fin (tcTables nBuf tb) → BufTy
  | .hbm, ⟨0, _⟩ => ⟨S4x256x1024, .f32⟩
  | .hbm, ⟨1, _⟩ => ⟨S4x256x512, .f32⟩
  | .hbm, ⟨2, _⟩ => ⟨S1024x1024, .f32⟩
  | .hbm, ⟨3, _⟩ => ⟨S1024x512, .f32⟩
  | .hbm, ⟨4, _⟩ => ⟨S1024x512, .f32⟩
  | .local _ .vmem, ⟨0, _⟩ => ⟨S1024x1024, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond2 (i : grid0.Coords) : BitVec 1 :=
  let arg2 : BitVec 32 := BitVec.ofNat 32 (i 2).val
  let c0_i32_8 : BitVec 32 := 0#32
  let v15 : BitVec 1 := Scalar.cmpi .eq arg2 c0_i32_8
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== KvGradIdeal.lean ====
abbrev S4x256x1024 : Shape := ⟨3, ![4, 256, 1024]⟩
abbrev S4x256x512 : Shape := ⟨3, ![4, 256, 512]⟩
abbrev S_ : Shape := ⟨0, ![]⟩
abbrev S1024x512 : Shape := ⟨2, ![1024, 512]⟩
abbrev S512x1024 : Shape := ⟨2, ![512, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x512, .f32⟩
  | .hbm, ⟨2, _⟩ => ⟨S_, .f32⟩
  | .hbm, ⟨3, _⟩ => ⟨S1024x512, .f32⟩
  | .hbm, ⟨4, _⟩ => ⟨S4x256x512, .f32⟩
  | .hbm, ⟨5, _⟩ => ⟨S512x1024, .f32⟩
  | .hbm, ⟨6, _⟩ => ⟨S1024x512, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== HidBwd.lean ====
abbrev S4x2048x2816 : Shape := ⟨3, ![4, 2048, 2816]⟩
abbrev S4x2048x1024 : Shape := ⟨3, ![4, 2048, 1024]⟩
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4x2048x2816, .bf16⟩
  | .hbm, ⟨1, _⟩ => ⟨S4x2048x1024, .f32⟩
  | .hbm, ⟨2, _⟩ => ⟨S8192x2816, .bf16⟩
  | .hbm, ⟨3, _⟩ => ⟨S8192x1024, .f32⟩
  | .hbm, ⟨4, _⟩ => ⟨S8192x1024, .bf16⟩
  | .hbm, ⟨5, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4x2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== HidGradIdeal.lean ====
abbrev S4x2048x2816 : Shape := ⟨3, ![4, 2048, 2816]⟩
abbrev S4x2048x1024 : Shape := ⟨3, ![4, 2048, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4x2048x2816, .bf16⟩
  | .hbm, ⟨1, _⟩ => ⟨S4x2048x1024, .f32⟩
  | .hbm, ⟨2, _⟩ => ⟨S_, .f32⟩
  | .hbm, ⟨3, _⟩ => ⟨S1024x2816, .f32⟩
  | .hbm, ⟨4, _⟩ => ⟨S4x2048x2816, .f32⟩
  | .hbm, ⟨5, _⟩ => ⟨S4x2048x2816, .f32⟩
  | .hbm, ⟨6, _⟩ => ⟨S2816x1024, .f32⟩
  | .hbm, ⟨7, _⟩ => ⟨S1024x2816, .f32⟩
  | .hbm, ⟨8, _⟩ => ⟨S2816x1024, .f32⟩
  | _, _ => ⟨S4x2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DownBwd.lean ====
abbrev S4x2048x2816 : Shape := ⟨3, ![4, 2048, 2816]⟩
abbrev S4x2048x1024 : Shape := ⟨3, ![4, 2048, 1024]⟩
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4x2048x2816, .bf16⟩
  | .hbm, ⟨1, _⟩ => ⟨S4x2048x1024, .f32⟩
  | .hbm, ⟨2, _⟩ => ⟨S8192x2816, .bf16⟩
  | .hbm, ⟨3, _⟩ => ⟨S8192x1024, .f32⟩
  | .hbm, ⟨4, _⟩ => ⟨S8192x1024, .bf16⟩
  | .hbm, ⟨5, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S4x2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownGradIdeal.lean ====
abbrev S4x2048x2816 : Shape := ⟨3, ![4, 2048, 2816]⟩
abbrev S4x2048x1024 : Shape := ⟨3, ![4, 2048, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4x2048x2816, .bf16⟩
  | .hbm, ⟨1, _⟩ => ⟨S4x2048x1024, .f32⟩
  | .hbm, ⟨2, _⟩ => ⟨S_, .f32⟩
  | .hbm, ⟨3, _⟩ => ⟨S2816x1024, .f32⟩
  | .hbm, ⟨4, _⟩ => ⟨S4x2048x2816, .f32⟩
  | .hbm, ⟨5, _⟩ => ⟨S4x2048x1024, .f32⟩
  | .hbm, ⟨6, _⟩ => ⟨S1024x2816, .f32⟩
  | .hbm, ⟨7, _⟩ => ⟨S2816x1024, .f32⟩
  | _, _ => ⟨S4x2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutBwd.lean ====
abbrev S4x2048x768 : Shape := ⟨3, ![4, 2048, 768]⟩
abbrev S4x2048x256 : Shape := ⟨3, ![4, 2048, 256]⟩
abbrev S4x2048x1024 : Shape := ⟨3, ![4, 2048, 1024]⟩
abbrev S8192x768 : Shape := ⟨2, ![8192, 768]⟩
abbrev S8192x256 : Shape := ⟨2, ![8192, 256]⟩
abbrev S8192x1024 : Shape := ⟨2, ![8192, 1024]⟩
abbrev S1024x1024 : Shape := ⟨2, ![1024, 1024]⟩

abbrev nBuf : Space → Nat
  | .hbm => 9
  | .vmem => 6
  | .smem => 0
  | _ => 0

abbrev bufTy : (tb : Table) → Fin (tcTables nBuf tb) → BufTy
  | .hbm, ⟨0, _⟩ => ⟨S4x2048x768, .bf16⟩
  | .hbm, ⟨1, _⟩ => ⟨S4x2048x256, .bf16⟩
  | .hbm, ⟨2, _⟩ => ⟨S4x2048x1024, .f32⟩
  | .hbm, ⟨3, _⟩ => ⟨S8192x768, .bf16⟩
  | .hbm, ⟨4, _⟩ => ⟨S8192x256, .bf16⟩
  | .hbm, ⟨5, _⟩ => ⟨S8192x1024, .bf16⟩
  | .hbm, ⟨6, _⟩ => ⟨S8192x1024, .f32⟩
  | .hbm, ⟨7, _⟩ => ⟨S8192x1024, .bf16⟩
  | .hbm, ⟨8, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4x2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutGradIdeal.lean ====
abbrev S4x2048x768 : Shape := ⟨3, ![4, 2048, 768]⟩
abbrev S4x2048x256 : Shape := ⟨3, ![4, 2048, 256]⟩
abbrev S4x2048x1024 : Shape := ⟨3, ![4, 2048, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4x2048x768, .bf16⟩
  | .hbm, ⟨1, _⟩ => ⟨S4x2048x256, .bf16⟩
  | .hbm, ⟨2, _⟩ => ⟨S4x2048x1024, .f32⟩
  | .hbm, ⟨3, _⟩ => ⟨S_, .f32⟩
  | .hbm, ⟨4, _⟩ => ⟨S1024x1024, .f32⟩
  | .hbm, ⟨5, _⟩ => ⟨S4x2048x1024, .bf16⟩
  | .hbm, ⟨6, _⟩ => ⟨S4x2048x1024, .f32⟩
  | .hbm, ⟨7, _⟩ => ⟨S4x2048x1024, .f32⟩
  | .hbm, ⟨8, _⟩ => ⟨S1024x1024, .f32⟩
  | .hbm, ⟨9, _⟩ => ⟨S1024x1024, .f32⟩
  | _, _ => ⟨S4x2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== InBwd.lean ====
abbrev S4x2048x768 : Shape := ⟨3, ![4, 2048, 768]⟩
abbrev S4x2048x256 : Shape := ⟨3, ![4, 2048, 256]⟩
abbrev S4x2048x1024 : Shape := ⟨3, ![4, 2048, 1024]⟩
abbrev S8192x768 : Shape := ⟨2, ![8192, 768]⟩
abbrev S8192x256 : Shape := ⟨2, ![8192, 256]⟩
abbrev S8192x2560 : Shape := ⟨2, ![8192, 2560]⟩
abbrev S8192x1024 : Shape := ⟨2, ![8192, 1024]⟩
abbrev S2560x1024 : Shape := ⟨2, ![2560, 1024]⟩
abbrev S1024x1280 : Shape := ⟨2, ![1024, 1280]⟩
abbrev S1024x1024 : Shape := ⟨2, ![1024, 1024]⟩
abbrev S1280x1024 : Shape := ⟨2, ![1280, 1024]⟩

abbrev nBuf : Space → Nat
  | .hbm => 12
  | .vmem => 7
  | .smem => 0
  | _ => 0

abbrev bufTy : (tb : Table) → Fin (tcTables nBuf tb) → BufTy
  | .hbm, ⟨0, _⟩ => ⟨S4x2048x768, .bf16⟩
  | .hbm, ⟨1, _⟩ => ⟨S4x2048x768, .bf16⟩
  | .hbm, ⟨2, _⟩ => ⟨S4x2048x768, .bf16⟩
  | .hbm, ⟨3, _⟩ => ⟨S4x2048x256, .bf16⟩
  | .hbm, ⟨4, _⟩ => ⟨S4x2048x1024, .f32⟩
  | .hbm, ⟨5, _⟩ => ⟨S8192x768, .bf16⟩
  | .hbm, ⟨6, _⟩ => ⟨S8192x768, .bf16⟩
  | .hbm, ⟨7, _⟩ => ⟨S8192x768, .bf16⟩
  | .hbm, ⟨8, _⟩ => ⟨S8192x256, .bf16⟩
  | .hbm, ⟨9, _⟩ => ⟨S8192x2560, .bf16⟩
  | .hbm, ⟨10, _⟩ => ⟨S8192x1024, .f32⟩
  | .hbm, ⟨11, _⟩ => ⟨S2560x1024, .f32⟩
  | .local _ .vmem, ⟨0, _⟩ => ⟨S1024x1280, .bf16⟩
  | .local _ .vmem, ⟨1, _⟩ => ⟨S1024x1280, .bf16⟩
  | .local _ .vmem, ⟨2, _⟩ => ⟨S1024x1024, .f32⟩
  | .local _ .vmem, ⟨3, _⟩ => ⟨S1024x1024, .f32⟩
  | .local _ .vmem, ⟨4, _⟩ => ⟨S1280x1024, .f32⟩
  | .local _ .vmem, ⟨5, _⟩ => ⟨S1280x1024, .f32⟩
  | .local _ .vmem, ⟨6, _⟩ => ⟨S1280x1024, .f32⟩
  | _, _ => ⟨S4x2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v14 : BitVec 1 := Scalar.cmpi .eq arg2 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1280x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InGradIdeal.lean ====
abbrev S4x2048x768 : Shape := ⟨3, ![4, 2048, 768]⟩
abbrev S4x2048x256 : Shape := ⟨3, ![4, 2048, 256]⟩
abbrev S4x2048x1024 : Shape := ⟨3, ![4, 2048, 1024]⟩
abbrev S_ : Shape := ⟨0, ![]⟩
abbrev S1024x2560 : Shape := ⟨2, ![1024, 2560]⟩
abbrev S4x2048x2560 : Shape := ⟨3, ![4, 2048, 2560]⟩
abbrev S2560x1024 : Shape := ⟨2, ![2560, 1024]⟩

abbrev nBuf : Space → Nat
  | .hbm => 20
  | .vmem => 0
  | .smem => 0
  | _ => 0

abbrev bufTy : (tb : Table) → Fin (tcTables nBuf tb) → BufTy
  | .hbm, ⟨0, _⟩ => ⟨S4x2048x768, .bf16⟩
  | .hbm, ⟨1, _⟩ => ⟨S4x2048x768, .bf16⟩
  | .hbm, ⟨2, _⟩ => ⟨S4x2048x768, .bf16⟩
  | .hbm, ⟨3, _⟩ => ⟨S4x2048x256, .bf16⟩
  | .hbm, ⟨4, _⟩ => ⟨S4x2048x1024, .f32⟩
  | .hbm, ⟨5, _⟩ => ⟨S4x2048x768, .f32⟩
  | .hbm, ⟨6, _⟩ => ⟨S4x2048x768, .f32⟩
  | .hbm, ⟨7, _⟩ => ⟨S4x2048x768, .f32⟩
  | .hbm, ⟨8, _⟩ => ⟨S4x2048x256, .f32⟩
  | .hbm, ⟨9, _⟩ => ⟨S_, .f32⟩
  | .hbm, ⟨10, _⟩ => ⟨S1024x2560, .f32⟩
  | .hbm, ⟨11, _⟩ => ⟨S4x2048x2560, .f32⟩
  | .hbm, ⟨12, _⟩ => ⟨S4x2048x768, .f32⟩
  | .hbm, ⟨13, _⟩ => ⟨S4x2048x768, .f32⟩
  | .hbm, ⟨14, _⟩ => ⟨S4x2048x768, .f32⟩
  | .hbm, ⟨15, _⟩ => ⟨S4x2048x256, .f32⟩
  | .hbm, ⟨16, _⟩ => ⟨S4x2048x2560, .f32⟩
  | .hbm, ⟨17, _⟩ => ⟨S2560x1024, .f32⟩
  | .hbm, ⟨18, _⟩ => ⟨S1024x2560, .f32⟩
  | .hbm, ⟨19, _⟩ => ⟨S2560x1024, .f32⟩
  | _, _ => ⟨S4x2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== InLateBwd.lean ====
abbrev S4x2048x768 : Shape := ⟨3, ![4, 2048, 768]⟩
abbrev S4x2048x256 : Shape := ⟨3, ![4, 2048, 256]⟩
abbrev S4x2048x1024 : Shape := ⟨3, ![4, 2048, 1024]⟩
abbrev S8192x768 : Shape := ⟨2, ![8192, 768]⟩
abbrev S8192x256 : Shape := ⟨2, ![8192, 256]⟩
abbrev S8192x2560 : Shape := ⟨2, ![8192, 2560]⟩
abbrev S8192x1024 : Shape := ⟨2, ![8192, 1024]⟩
abbrev S2560x1024 : Shape := ⟨2, ![2560, 1024]⟩
abbrev S1024x1280 : Shape := ⟨2, ![1024, 1280]⟩
abbrev S1024x1024 : Shape := ⟨2, ![1024, 1024]⟩
abbrev S1280x1024 : Shape := ⟨2, ![1280, 1024]⟩

abbrev nBuf : Space → Nat
  | .hbm => 13
  | .vmem => 7
  | .smem => 0
  | _ => 0

abbrev bufTy : (tb : Table) → Fin (tcTables nBuf tb) → BufTy
  | .hbm, ⟨0, _⟩ => ⟨S4x2048x768, .bf16⟩
  | .hbm, ⟨1, _⟩ => ⟨S4x2048x768, .bf16⟩
  | .hbm, ⟨2, _⟩ => ⟨S4x2048x768, .bf16⟩
  | .hbm, ⟨3, _⟩ => ⟨S4x2048x256, .bf16⟩
  | .hbm, ⟨4, _⟩ => ⟨S4x2048x1024, .f32⟩
  | .hbm, ⟨5, _⟩ => ⟨S8192x768, .bf16⟩
  | .hbm, ⟨6, _⟩ => ⟨S8192x768, .bf16⟩
  | .hbm, ⟨7, _⟩ => ⟨S8192x768, .bf16⟩
  | .hbm, ⟨8, _⟩ => ⟨S8192x256, .bf16⟩
  | .hbm, ⟨9, _⟩ => ⟨S8192x2560, .bf16⟩
  | .hbm, ⟨10, _⟩ => ⟨S8192x1024, .f32⟩
  | .hbm, ⟨11, _⟩ => ⟨S8192x1024, .bf16⟩
  | .hbm, ⟨12, _⟩ => ⟨S2560x1024, .f32⟩
  | .local _ .vmem, ⟨0, _⟩ => ⟨S1024x1280, .bf16⟩
  | .local _ .vmem, ⟨1, _⟩ => ⟨S1024x1280, .bf16⟩
  | .local _ .vmem, ⟨2, _⟩ => ⟨S1024x1024, .bf16⟩
  | .local _ .vmem, ⟨3, _⟩ => ⟨S1024x1024, .bf16⟩
  | .local _ .vmem, ⟨4, _⟩ => ⟨S1280x1024, .f32⟩
  | .local _ .vmem, ⟨5, _⟩ => ⟨S1280x1024, .f32⟩
  | .local _ .vmem, ⟨6, _⟩ => ⟨S1280x1024, .f32⟩
  | _, _ => ⟨S4x2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1280x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InLateGradIdeal.lean ====
abbrev S4x2048x768 : Shape := ⟨3, ![4, 2048, 768]⟩
abbrev S4x2048x256 : Shape := ⟨3, ![4, 2048, 256]⟩
abbrev S4x2048x1024 : Shape := ⟨3, ![4, 2048, 1024]⟩
abbrev S_ : Shape := ⟨0, ![]⟩
abbrev S1024x2560 : Shape := ⟨2, ![1024, 2560]⟩
abbrev S4x2048x2560 : Shape := ⟨3, ![4, 2048, 2560]⟩
abbrev S2560x1024 : Shape := ⟨2, ![2560, 1024]⟩

abbrev nBuf : Space → Nat
  | .hbm => 20
  | .vmem => 0
  | .smem => 0
  | _ => 0

abbrev bufTy : (tb : Table) → Fin (tcTables nBuf tb) → BufTy
  | .hbm, ⟨0, _⟩ => ⟨S4x2048x768, .bf16⟩
  | .hbm, ⟨1, _⟩ => ⟨S4x2048x768, .bf16⟩
  | .hbm, ⟨2, _⟩ => ⟨S4x2048x768, .bf16⟩
  | .hbm, ⟨3, _⟩ => ⟨S4x2048x256, .bf16⟩
  | .hbm, ⟨4, _⟩ => ⟨S4x2048x1024, .f32⟩
  | .hbm, ⟨5, _⟩ => ⟨S4x2048x768, .f32⟩
  | .hbm, ⟨6, _⟩ => ⟨S4x2048x768, .f32⟩
  | .hbm, ⟨7, _⟩ => ⟨S4x2048x768, .f32⟩
  | .hbm, ⟨8, _⟩ => ⟨S4x2048x256, .f32⟩
  | .hbm, ⟨9, _⟩ => ⟨S_, .f32⟩
  | .hbm, ⟨10, _⟩ => ⟨S1024x2560, .f32⟩
  | .hbm, ⟨11, _⟩ => ⟨S4x2048x2560, .f32⟩
  | .hbm, ⟨12, _⟩ => ⟨S4x2048x768, .f32⟩
  | .hbm, ⟨13, _⟩ => ⟨S4x2048x768, .f32⟩
  | .hbm, ⟨14, _⟩ => ⟨S4x2048x768, .f32⟩
  | .hbm, ⟨15, _⟩ => ⟨S4x2048x256, .f32⟩
  | .hbm, ⟨16, _⟩ => ⟨S4x2048x2560, .f32⟩
  | .hbm, ⟨17, _⟩ => ⟨S2560x1024, .f32⟩
  | .hbm, ⟨18, _⟩ => ⟨S1024x2560, .f32⟩
  | .hbm, ⟨19, _⟩ => ⟨S2560x1024, .f32⟩
  | _, _ => ⟨S4x2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== InOddBwd.lean ====
abbrev S4x2048x768 : Shape := ⟨3, ![4, 2048, 768]⟩
abbrev S4x2048x256 : Shape := ⟨3, ![4, 2048, 256]⟩
abbrev S4x2048x1024 : Shape := ⟨3, ![4, 2048, 1024]⟩
abbrev S8192x768 : Shape := ⟨2, ![8192, 768]⟩
abbrev S8192x256 : Shape := ⟨2, ![8192, 256]⟩
abbrev S8192x1792 : Shape := ⟨2, ![8192, 1792]⟩
abbrev S8192x1024 : Shape := ⟨2, ![8192, 1024]⟩
abbrev S1792x1024 : Shape := ⟨2, ![1792, 1024]⟩
abbrev S1024x896 : Shape := ⟨2, ![1024, 896]⟩
abbrev S1024x1024 : Shape := ⟨2, ![1024, 1024]⟩
abbrev S896x1024 : Shape := ⟨2, ![896, 1024]⟩

abbrev nBuf : Space → Nat
  | .hbm => 11
  | .vmem => 7
  | .smem => 0
  | _ => 0

abbrev bufTy : (tb : Table) → Fin (tcTables nBuf tb) → BufTy
  | .hbm, ⟨0, _⟩ => ⟨S4x2048x768, .bf16⟩
  | .hbm, ⟨1, _⟩ => ⟨S4x2048x768, .bf16⟩
  | .hbm, ⟨2, _⟩ => ⟨S4x2048x256, .bf16⟩
  | .hbm, ⟨3, _⟩ => ⟨S4x2048x1024, .f32⟩
  | .hbm, ⟨4, _⟩ => ⟨S8192x768, .bf16⟩
  | .hbm, ⟨5, _⟩ => ⟨S8192x768, .bf16⟩
  | .hbm, ⟨6, _⟩ => ⟨S8192x256, .bf16⟩
  | .hbm, ⟨7, _⟩ => ⟨S8192x1792, .bf16⟩
  | .hbm, ⟨8, _⟩ => ⟨S8192x1024, .f32⟩
  | .hbm, ⟨9, _⟩ => ⟨S8192x1024, .bf16⟩
  | .hbm, ⟨10, _⟩ => ⟨S1792x1024, .f32⟩
  | .local _ .vmem, ⟨0, _⟩ => ⟨S1024x896, .bf16⟩
  | .local _ .vmem, ⟨1, _⟩ => ⟨S1024x896, .bf16⟩
  | .local _ .vmem, ⟨2, _⟩ => ⟨S1024x1024, .bf16⟩
  | .local _ .vmem, ⟨3, _⟩ => ⟨S1024x1024, .bf16⟩
  | .local _ .vmem, ⟨4, _⟩ => ⟨S896x1024, .f32⟩
  | .local _ .vmem, ⟨5, _⟩ => ⟨S896x1024, .f32⟩
  | .local _ .vmem, ⟨6, _⟩ => ⟨S896x1024, .f32⟩
  | _, _ => ⟨S4x2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S896x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InOddGradIdeal.lean ====
abbrev S4x2048x768 : Shape := ⟨3, ![4, 2048, 768]⟩
abbrev S4x2048x256 : Shape := ⟨3, ![4, 2048, 256]⟩
abbrev S4x2048x1024 : Shape := ⟨3, ![4, 2048, 1024]⟩
abbrev S_ : Shape := ⟨0, ![]⟩
abbrev S1024x1792 : Shape := ⟨2, ![1024, 1792]⟩
abbrev S4x2048x1792 : Shape := ⟨3, ![4, 2048, 1792]⟩
abbrev S1792x1024 : Shape := ⟨2, ![1792, 1024]⟩

abbrev nBuf : Space → Nat
  | .hbm => 17
  | .vmem => 0
  | .smem => 0
  | _ => 0

abbrev bufTy : (tb : Table) → Fin (tcTables nBuf tb) → BufTy
  | .hbm, ⟨0, _⟩ => ⟨S4x2048x768, .bf16⟩
  | .hbm, ⟨1, _⟩ => ⟨S4x2048x768, .bf16⟩
  | .hbm, ⟨2, _⟩ => ⟨S4x2048x256, .bf16⟩
  | .hbm, ⟨3, _⟩ => ⟨S4x2048x1024, .f32⟩
  | .hbm, ⟨4, _⟩ => ⟨S4x2048x768, .f32⟩
  | .hbm, ⟨5, _⟩ => ⟨S4x2048x768, .f32⟩
  | .hbm, ⟨6, _⟩ => ⟨S4x2048x256, .f32⟩
  | .hbm, ⟨7, _⟩ => ⟨S_, .f32⟩
  | .hbm, ⟨8, _⟩ => ⟨S1024x1792, .f32⟩
  | .hbm, ⟨9, _⟩ => ⟨S4x2048x1792, .f32⟩
  | .hbm, ⟨10, _⟩ => ⟨S4x2048x768, .f32⟩
  | .hbm, ⟨11, _⟩ => ⟨S4x2048x768, .f32⟩
  | .hbm, ⟨12, _⟩ => ⟨S4x2048x256, .f32⟩
  | .hbm, ⟨13, _⟩ => ⟨S4x2048x1792, .f32⟩
  | .hbm, ⟨14, _⟩ => ⟨S1792x1024, .f32⟩
  | .hbm, ⟨15, _⟩ => ⟨S1024x1792, .f32⟩
  | .hbm, ⟨16, _⟩ => ⟨S1792x1024, .f32⟩
  | _, _ => ⟨S4x2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== InLateFwd.lean ====
abbrev S4x2048x1024 : Shape := ⟨3, ![4, 2048, 1024]⟩
abbrev S1024x2560 : Shape := ⟨2, ![1024, 2560]⟩
abbrev S2560x1024 : Shape := ⟨2, ![2560, 1024]⟩
abbrev S8192x1024 : Shape := ⟨2, ![8192, 1024]⟩
abbrev S8192x2560 : Shape := ⟨2, ![8192, 2560]⟩
abbrev S512x1024 : Shape := ⟨2, ![512, 1024]⟩
abbrev S512x2560 : Shape := ⟨2, ![512, 2560]⟩

abbrev nBuf : Space → Nat
  | .hbm => 7
  | .vmem => 6
  | .smem => 0
  | _ => 0

abbrev bufTy : (tb : Table) → Fin (tcTables nBuf tb) → BufTy
  | .hbm, ⟨0, _⟩ => ⟨S4x2048x1024, .f32⟩
  | .hbm, ⟨1, _⟩ => ⟨S1024x2560, .f32⟩
  | .hbm, ⟨2, _⟩ => ⟨S2560x1024, .f32⟩
  | .hbm, ⟨3, _⟩ => ⟨S2560x1024, .bf16⟩
  | .hbm, ⟨4, _⟩ => ⟨S8192x1024, .f32⟩
  | .hbm, ⟨5, _⟩ => ⟨S8192x1024, .bf16⟩
  | .hbm, ⟨6, _⟩ => ⟨S8192x2560, .f32⟩
  | .local _ .vmem, ⟨0, _⟩ => ⟨S512x1024, .bf16⟩
  | .local _ .vmem, ⟨1, _⟩ => ⟨S512x1024, .bf16⟩
  | .local _ .vmem, ⟨2, _⟩ => ⟨S2560x1024, .bf16⟩
  | .local _ .vmem, ⟨3, _⟩ => ⟨S512x2560, .f32⟩
  | .local _ .vmem, ⟨4, _⟩ => ⟨S512x2560, .f32⟩
  | .local _ .vmem, ⟨5, _⟩ => ⟨S512x2560, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2560x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InLateFwdRefIdeal.lean ====
abbrev S4x2048x1024 : Shape := ⟨3, ![4, 2048, 1024]⟩
abbrev S1024x2560 : Shape := ⟨2, ![1024, 2560]⟩
abbrev S4x2048x2560 : Shape := ⟨3, ![4, 2048, 2560]⟩
abbrev S8192x2560 : Shape := ⟨2, ![8192, 2560]⟩

abbrev nBuf : Space → Nat
  | .hbm => 4
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x2560, .f32⟩
  | .hbm, ⟨2, _⟩ => ⟨S4x2048x2560, .f32⟩
  | .hbm, ⟨3, _⟩ => ⟨S8192x2560, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== AdamHid.lean ====
abbrev S4x1024x704 : Shape := ⟨3, ![4, 1024, 704]⟩
abbrev S4096x704 : Shape := ⟨2, ![4096, 704]⟩
abbrev S256x704 : Shape := ⟨2, ![256, 704]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x704, .f32⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S4096x704, .f32⟩
  | .hbm, ⟨5, _⟩ => ⟨S4096x704, .f32⟩
  | .hbm, ⟨6, _⟩ => ⟨S4096x704, .f32⟩
  | .hbm, ⟨7, _⟩ => ⟨S4096x704, .f32⟩
  | .hbm, ⟨8, _⟩ => ⟨S4096x704, .f32⟩
  | .hbm, ⟨9, _⟩ => ⟨S4096x704, .f32⟩
  | .hbm, ⟨10, _⟩ => ⟨S4096x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S4x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamHidRefIdeal.lean ====
abbrev S4x1024x704 : Shape := ⟨3, ![4, 1024, 704]⟩
abbrev S_ : Shape := ⟨0, ![]⟩
abbrev S4096x704 : Shape := ⟨2, ![4096, 704]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x704, .f32⟩
  | .hbm, ⟨1, _⟩ => ⟨S4x1024x704, .f32⟩
  | .hbm, ⟨2, _⟩ => ⟨S4x1024x704, .f32⟩
  | .hbm, ⟨3, _⟩ => ⟨S4x1024x704, .f32⟩
  | .hbm, ⟨4, _⟩ => ⟨S_, .f32⟩
  | .hbm, ⟨5, _⟩ => ⟨S4x1024x704, .f32⟩
  | .hbm, ⟨6, _⟩ => ⟨S4x1024x704, .f32⟩
  | .hbm, ⟨7, _⟩ => ⟨S_, .f32⟩
  | .hbm, ⟨8, _⟩ => ⟨S4x1024x704, .f32⟩
  | .hbm, ⟨9, _⟩ => ⟨S4x1024x704, .f32⟩
  | .hbm, ⟨10, _⟩ => ⟨S4x1024x704, .f32⟩
  | .hbm, ⟨11, _⟩ => ⟨S_, .f32⟩
  | .hbm, ⟨12, _⟩ => ⟨S4x1024x704, .f32⟩
  | .hbm, ⟨13, _⟩ => ⟨S4x1024x704, .f32⟩
  | .hbm, ⟨14, _⟩ => ⟨S4x1024x704, .f32⟩
  | .hbm, ⟨15, _⟩ => ⟨S_, .f32⟩
  | .hbm, ⟨16, _⟩ => ⟨S4x1024x704, .f32⟩
  | .hbm, ⟨17, _⟩ => ⟨S4x1024x704, .f32⟩
  | .hbm, ⟨18, _⟩ => ⟨S4x1024x704, .f32⟩
  | .hbm, ⟨19, _⟩ => ⟨S_, .f32⟩
  | .hbm, ⟨20, _⟩ => ⟨S4x1024x704, .f32⟩
  | .hbm, ⟨21, _⟩ => ⟨S4x1024x704, .f32⟩
  | .hbm, ⟨22, _⟩ => ⟨S_, .f32⟩
  | .hbm, ⟨23, _⟩ => ⟨S4x1024x704, .f32⟩
  | .hbm, ⟨24, _⟩ => ⟨S4x1024x704, .f32⟩
  | .hbm, ⟨25, _⟩ => ⟨S4x1024x704, .f32⟩
  | .hbm, ⟨26, _⟩ => ⟨S_, .f32⟩
  | .hbm, ⟨27, _⟩ => ⟨S4x1024x704, .f32⟩
  | .hbm, ⟨28, _⟩ => ⟨S4x1024x704, .f32⟩
  | .hbm, ⟨29, _⟩ => ⟨S4x1024x704, .f32⟩
  | .hbm, ⟨30, _⟩ => ⟨S_, .f32⟩
  | .hbm, ⟨31, _⟩ => ⟨S4x1024x704, .f32⟩
  | .hbm, ⟨32, _⟩ => ⟨S4x1024x704, .f32⟩
  | .hbm, ⟨33, _⟩ => ⟨S4x1024x704, .f32⟩
  | .hbm, ⟨34, _⟩ => ⟨S_, .f32⟩
  | .hbm, ⟨35, _⟩ => ⟨S4x1024x704, .f32⟩
  | .hbm, ⟨36, _⟩ => ⟨S4x1024x704, .f32⟩
  | .hbm, ⟨37, _⟩ => ⟨S4096x704, .f32⟩
  | .hbm, ⟨38, _⟩ => ⟨S4096x704, .f32⟩
  | .hbm, ⟨39, _⟩ => ⟨S4096x704, .f32⟩
  | _, _ => ⟨S4x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Proof.Frames.lean ====
/- Every program ends, leaves its arguments as they were and its semaphores at zero. -/
module

public import proofs.«01_k».proof.Defs
public import proofs.«01_k».proof.Proof.Gen.MemBwd.Frame
public import proofs.«01_k».proof.Proof.Gen.MemBwdIdeal.Frame
public import proofs.«01_k».proof.Proof.Gen.MemGradIdeal.Run
public import proofs.«01_k».proof.Proof.Gen.Pre_mem_finite
public import proofs.«01_k».proof.Proof.Gen.MemFwd.Frame
public import proofs.«01_k».proof.Proof.Gen.MemFwdIdeal.Frame
public import proofs.«01_k».proof.Proof.Gen.MemFwdIdeal.Value
public import proofs.«01_k».proof.Proof.Gen.MemFwdRefIdeal.Run
public import proofs.«01_k».proof.Proof.Gen.Pre_mem_fwd_finite
public import proofs.«01_k».proof.Proof.Gen.MemFwdOdd.Frame
public import proofs.«01_k».proof.Proof.Gen.MemFwdOddIdeal.Frame
public import proofs.«01_k».proof.Proof.Gen.MemFwdOddIdeal.Value
public import proofs.«01_k».proof.Proof.Gen.MemFwdOddRefIdeal.Run
public import proofs.«01_k».proof.Proof.Gen.Pre_mem_fwd_odd_finite
public import proofs.«01_k».proof.Proof.Gen.MemOddBwd.Frame
public import proofs.«01_k».proof.Proof.Gen.MemOddBwdIdeal.Frame
public import proofs.«01_k».proof.Proof.Gen.MemOddGradIdeal.Run
public import proofs.«01_k».proof.Proof.Gen.Pre_mem_odd_finite
public import proofs.«01_k».proof.Proof.Gen.SguBwd.Frame
public import proofs.«01_k».proof.Proof.Gen.SguBwdIdeal.Frame
public import proofs.«01_k».proof.Proof.Gen.SguGradIdeal.Run
public import proofs.«01_k».proof.Proof.Gen.Pre_sgu_finite
public import proofs.«01_k».proof.Proof.Gen.SguFwd.Frame
public import proofs.«01_k».proof.Proof.Gen.SguFwdIdeal.Frame
public import proofs.«01_k».proof.Proof.Gen.SguFwdRefIdeal.Run
public import proofs.«01_k».proof.Proof.Gen.Pre_sgu_fwd_finite
public import proofs.«01_k».proof.Proof.Gen.GateBwd.Frame
public import proofs.«01_k».proof.Proof.Gen.GateBwdIdeal.Frame
public import proofs.«01_k».proof.Proof.Gen.GateGradIdeal.Run
public import proofs.«01_k».proof.Proof.Gen.FfnIn.Frame
public import proofs.«01_k».proof.Proof.Gen.FfnInIdeal.Frame
public import proofs.«01_k».proof.Proof.Gen.FfnGradIdeal.Run
public import proofs.«01_k».proof.Proof.Gen.Pre_ffn_in_finite
public import proofs.«01_k».proof.Proof.Gen.ProjBwd.Frame
public import proofs.«01_k».proof.Proof.Gen.ProjBwdIdeal.Frame
public import proofs.«01_k».proof.Proof.Gen.ProjGradIdeal.Run
public import proofs.«01_k».proof.Proof.Gen.ProjOddBwd.Frame
public import proofs.«01_k».proof.Proof.Gen.ProjOddBwdIdeal.Frame
public import proofs.«01_k».proof.Proof.Gen.ProjOddGradIdeal.Run
public import proofs.«01_k».proof.Proof.Gen.Pre_proj_odd_finite
public import proofs.«01_k».proof.Proof.Gen.Pre_proj_finite
public import proofs.«01_k».proof.Proof.Gen.LossBwd.Frame
public import proofs.«01_k».proof.Proof.Gen.LossBwdIdeal.Frame
public import proofs.«01_k».proof.Proof.Gen.LossGradIdeal.Run
public import proofs.«01_k».proof.Proof.Gen.Pre_loss_finite
public import proofs.«01_k».proof.Proof.Gen.UpFwd.Frame
public import proofs.«01_k».proof.Proof.Gen.UpFwdIdeal.Frame
public import proofs.«01_k».proof.Proof.Gen.UpFwdIdeal.Value
public import proofs.«01_k».proof.Proof.Gen.UpFwdRefIdeal.Run
public import proofs.«01_k».proof.Proof.Gen.UpFwdRefIdeal.Read
public import proofs.«01_k».proof.Proof.Gen.OutFwd.Frame
public import proofs.«01_k».proof.Proof.Gen.OutFwdIdeal.Frame
public import proofs.«01_k».proof.Proof.Gen.OutFwdIdeal.Value
public import proofs.«01_k».proof.Proof.Gen.OutFwdRefIdeal.Run
public import proofs.«01_k».proof.Proof.Gen.OutFwdRefIdeal.Read
public import proofs.«01_k».proof.Proof.Gen.DownFwd.Frame
public import proofs.«01_k».proof.Proof.Gen.DownFwdIdeal.Frame
public import proofs.«01_k».proof.Proof.Gen.DownFwdIdeal.Value
public import proofs.«01_k».proof.Proof.Gen.DownFwdRefIdeal.Run
public import proofs.«01_k».proof.Proof.Gen.DownFwdRefIdeal.Read
public import proofs.«01_k».proof.Proof.Gen.XBwd.Frame
public import proofs.«01_k».proof.Proof.Gen.XBwdIdeal.Frame
public import proofs.«01_k».proof.Proof.Gen.XBwdIdeal.Value
public import proofs.«01_k».proof.Proof.Gen.XGradIdeal.Run
public import proofs.«01_k».proof.Proof.Gen.XGradIdeal.Read
public import proofs.«01_k».proof.Proof.Gen.CatBwd.Frame
public import proofs.«01_k».proof.Proof.Gen.CatBwdIdeal.Frame
public import proofs.«01_k».proof.Proof.Gen.CatBwdIdeal.Value
public import proofs.«01_k».proof.Proof.Gen.CatGradIdeal.Run
public import proofs.«01_k».proof.Proof.Gen.CatGradIdeal.Read
public import proofs.«01_k».proof.Proof.Gen.KvFwd.Frame
public import proofs.«01_k».proof.Proof.Gen.KvFwdIdeal.Frame
public import proofs.«01_k».proof.Proof.Gen.KvFwdIdeal.Value
public import proofs.«01_k».proof.Proof.Gen.KvFwdRefIdeal.Run
public import proofs.«01_k».proof.Proof.Gen.KvFwdRefIdeal.Read
public import proofs.«01_k».proof.Proof.Gen.InFwd.Frame
public import proofs.«01_k».proof.Proof.Gen.InFwdIdeal.Frame
public import proofs.«01_k».proof.Proof.Gen.InFwdIdeal.Value
public import proofs.«01_k».proof.Proof.Gen.InFwdRefIdeal.Run
public import proofs.«01_k».proof.Proof.Gen.InFwdRefIdeal.Read
public import proofs.«01_k».proof.Proof.Gen.InOddFwd.Frame
public import proofs.«01_k».proof.Proof.Gen.InOddFwdIdeal.Frame
public import proofs.«01_k».proof.Proof.Gen.InOddFwdIdeal.Value
public import proofs.«01_k».proof.Proof.Gen.InOddFwdRefIdeal.Run
public import proofs.«01_k».proof.Proof.Gen.InOddFwdRefIdeal.Read
public import proofs.«01_k».proof.Proof.Gen.Adam.Frame
public import proofs.«01_k».proof.Proof.Gen.AdamIdeal.Frame
public import proofs.«01_k».proof.Proof.Gen.AdamIdeal.Value
public import proofs.«01_k».proof.Proof.Gen.AdamRefIdeal.Run
public import proofs.«01_k».proof.Proof.Gen.AdamRefIdeal.Read
public import proofs.«01_k».proof.Proof.Gen.KvBwd.Frame
public import proofs.«01_k».proof.Proof.Gen.KvBwdIdeal.Frame
public import proofs.«01_k».proof.Proof.Gen.KvBwdIdeal.Value
public import proofs.«01_k».proof.Proof.Gen.KvGradIdeal.Run
public import proofs.«01_k».proof.Proof.Gen.KvGradIdeal.Read
public import proofs.«01_k».proof.Proof.Gen.HidBwd.Frame
public import proofs.«01_k».proof.Proof.Gen.HidBwdIdeal.Frame
public import proofs.«01_k».proof.Proof.Gen.HidBwdIdeal.Value
public import proofs.«01_k».proof.Proof.Gen.HidGradIdeal.Run
public import proofs.«01_k».proof.Proof.Gen.HidGradIdeal.Read
public import proofs.«01_k».proof.Proof.Gen.DownBwd.Frame
public import proofs.«01_k».proof.Proof.Gen.DownBwdIdeal.Frame
public import proofs.«01_k».proof.Proof.Gen.DownBwdIdeal.Value
public import proofs.«01_k».proof.Proof.Gen.DownGradIdeal.Run
public import proofs.«01_k».proof.Proof.Gen.DownGradIdeal.Read
public import proofs.«01_k».proof.Proof.Gen.OutBwd.Frame
public import proofs.«01_k».proof.Proof.Gen.OutBwdIdeal.Frame
public import proofs.«01_k».proof.Proof.Gen.OutBwdIdeal.Value
public import proofs.«01_k».proof.Proof.Gen.OutGradIdeal.Run
public import proofs.«01_k».proof.Proof.Gen.OutGradIdeal.Read
public import proofs.«01_k».proof.Proof.Gen.InBwd.Frame
public import proofs.«01_k».proof.Proof.Gen.InBwdIdeal.Frame
public import proofs.«01_k».proof.Proof.Gen.InBwdIdeal.Value
public import proofs.«01_k».proof.Proof.Gen.InGradIdeal.Run
public import proofs.«01_k».proof.Proof.Gen.InGradIdeal.Read
public import proofs.«01_k».proof.Proof.Gen.InLateBwd.Frame
public import proofs.«01_k».proof.Proof.Gen.InLateBwdIdeal.Frame
public import proofs.«01_k».proof.Proof.Gen.InLateBwdIdeal.Value
public import proofs.«01_k».proof.Proof.Gen.InLateGradIdeal.Run
public import proofs.«01_k».proof.Proof.Gen.InLateGradIdeal.Read
public import proofs.«01_k».proof.Proof.Gen.InOddBwd.Frame
public import proofs.«01_k».proof.Proof.Gen.InOddBwdIdeal.Frame
public import proofs.«01_k».proof.Proof.Gen.InOddBwdIdeal.Value
public import proofs.«01_k».proof.Proof.Gen.InOddGradIdeal.Run
public import proofs.«01_k».proof.Proof.Gen.InOddGradIdeal.Read
public import proofs.«01_k».proof.Proof.Gen.InLateFwd.Frame
public import proofs.«01_k».proof.Proof.Gen.InLateFwdIdeal.Frame
public import proofs.«01_k».proof.Proof.Gen.InLateFwdIdeal.Value
public import proofs.«01_k».proof.Proof.Gen.InLateFwdRefIdeal.Run
public import proofs.«01_k».proof.Proof.Gen.InLateFwdRefIdeal.Read
public import proofs.«01_k».proof.Proof.Gen.AdamHid.Frame
public import proofs.«01_k».proof.Proof.Gen.AdamHidIdeal.Frame
public import proofs.«01_k».proof.Proof.Gen.AdamHidIdeal.Value
public import proofs.«01_k».proof.Proof.Gen.AdamHidRefIdeal.Run
public import proofs.«01_k».proof.Proof.Gen.AdamHidRefIdeal.Read
public import proofs.«01_k».proof.Proof.Gen.Pre_up_finite

@[expose] public section

noncomputable section

namespace Cert.Frames

open Idealize.ShloMosaic Idealize.SL.Sem

/-- The kernel of the attention onto the memories, backward. -/
theorem mem_bits : Cert.quiescent_MemBwd (hMemBwd := Cert.MemBwd.Gen.facts) := fun m g _ => Cert.MemBwd.Gen.frame m g

/-- The same kernel over extended reals. -/
theorem mem_ideal : Cert.quiescent_MemBwdIdeal (hMemBwdIdeal := Cert.MemBwdIdeal.Gen.facts) := fun m g _ => Cert.MemBwdIdeal.Gen.frame m g

/-- Its reference over extended reals. -/
theorem mem_ref : Cert.quiescent_MemGradIdeal (hMemGradIdeal := Cert.MemGradIdeal.Gen.facts) := fun m g _ =>
  (θ_run Cert.MemGradIdeal.defs _ _).mono (fun r h => ⟨fun c => (h c).2.2, sem_eq_zero_of_no_sems (by decide) r.2⟩)
    (Cert.MemGradIdeal.Value.run (F := Ideal) m g)

/-- The kernel of the attention onto the memories, forward. -/
theorem mem_fwd_bits : Cert.quiescent_MemFwd (hMemFwd := Cert.MemFwd.Gen.facts) := fun m g _ => Cert.MemFwd.Gen.frame m g

/-- The same kernel over extended reals. -/
theorem mem_fwd_ideal : Cert.quiescent_MemFwdIdeal (hMemFwdIdeal := Cert.MemFwdIdeal.Gen.facts) := fun m g _ => Cert.MemFwdIdeal.Gen.frame m g

/-- Its reference over extended reals. -/
theorem mem_fwd_ref : Cert.quiescent_MemFwdRefIdeal (hMemFwdRefIdeal := Cert.MemFwdRefIdeal.Gen.facts) := fun m g _ =>
  (θ_run Cert.MemFwdRefIdeal.defs _ _).mono (fun r h => ⟨fun c => (h c).2, sem_eq_zero_of_no_sems (by decide) r.2⟩)
    (Cert.MemFwdRefIdeal.Value.run (F := Ideal) m g)

/-- The kernel of the attention onto the memories, forward. -/
theorem mem_fwd_odd_bits : Cert.quiescent_MemFwdOdd (hMemFwdOdd := Cert.MemFwdOdd.Gen.facts) := fun m g _ => Cert.MemFwdOdd.Gen.frame m g

/-- The same kernel over extended reals. -/
theorem mem_fwd_odd_ideal : Cert.quiescent_MemFwdOddIdeal (hMemFwdOddIdeal := Cert.MemFwdOddIdeal.Gen.facts) := fun m g _ => Cert.MemFwdOddIdeal.Gen.frame m g

/-- Its reference over extended reals. -/
theorem mem_fwd_odd_ref : Cert.quiescent_MemFwdOddRefIdeal (hMemFwdOddRefIdeal := Cert.MemFwdOddRefIdeal.Gen.facts) := fun m g _ =>
  (θ_run Cert.MemFwdOddRefIdeal.defs _ _).mono (fun r h => ⟨fun c => (h c).2, sem_eq_zero_of_no_sems (by decide) r.2⟩)
    (Cert.MemFwdOddRefIdeal.Value.run (F := Ideal) m g)

/-- The kernel of the attention onto the memories, backward, in the gMLP layers. -/
theorem mem_odd_bits : Cert.quiescent_MemOddBwd (hMemOddBwd := Cert.MemOddBwd.Gen.facts) := fun m g _ => Cert.MemOddBwd.Gen.frame m g

/-- The same kernel over extended reals. -/
theorem mem_odd_ideal : Cert.quiescent_MemOddBwdIdeal (hMemOddBwdIdeal := Cert.MemOddBwdIdeal.Gen.facts) := fun m g _ => Cert.MemOddBwdIdeal.Gen.frame m g

/-- Its reference over extended reals. -/
theorem mem_odd_ref : Cert.quiescent_MemOddGradIdeal (hMemOddGradIdeal := Cert.MemOddGradIdeal.Gen.facts) := fun m g _ =>
  (θ_run Cert.MemOddGradIdeal.defs _ _).mono (fun r h => ⟨fun c => (h c).2.2, sem_eq_zero_of_no_sems (by decide) r.2⟩)
    (Cert.MemOddGradIdeal.Value.run (F := Ideal) m g)

/-- The kernel of the spatial gating unit, backward. -/
theorem sgu_bits : Cert.quiescent_SguBwd (hSguBwd := Cert.SguBwd.Gen.facts) := fun m g _ => Cert.SguBwd.Gen.frame m g

/-- The same kernel over extended reals. -/
theorem sgu_ideal : Cert.quiescent_SguBwdIdeal (hSguBwdIdeal := Cert.SguBwdIdeal.Gen.facts) := fun m g _ => Cert.SguBwdIdeal.Gen.frame m g

/-- Its reference over extended reals. -/
theorem sgu_ref : Cert.quiescent_SguGradIdeal (hSguGradIdeal := Cert.SguGradIdeal.Gen.facts) := fun m g _ =>
  (θ_run Cert.SguGradIdeal.defs _ _).mono (fun r h => ⟨fun c => (h c).2.2.2.2.2.2, sem_eq_zero_of_no_sems (by decide) r.2⟩)
    (Cert.SguGradIdeal.Value.run (F := Ideal) m g)

/-- The kernel of the gated feed-forward layer, backward to its two hidden halves. -/
theorem gate_bits : Cert.quiescent_GateBwd (hGateBwd := Cert.GateBwd.Gen.facts) := fun m g _ => Cert.GateBwd.Gen.frame m g

/-- The same kernel over extended reals. -/
theorem gate_ideal : Cert.quiescent_GateBwdIdeal (hGateBwdIdeal := Cert.GateBwdIdeal.Gen.facts) := fun m g _ => Cert.GateBwdIdeal.Gen.frame m g

/-- Its reference over extended reals. -/
theorem gate_ref : Cert.quiescent_GateGradIdeal (hGateGradIdeal := Cert.GateGradIdeal.Gen.facts) := fun m g _ =>
  (θ_run Cert.GateGradIdeal.defs _ _).mono (fun r h => ⟨fun c => (h c).2.2, sem_eq_zero_of_no_sems (by decide) r.2⟩)
    (Cert.GateGradIdeal.Value.run (F := Ideal) m g)

/-- The kernel of the feed-forward layer's input and its normalisation, backward. -/
theorem ffn_bits : Cert.quiescent_FfnIn (hFfnIn := Cert.FfnIn.Gen.facts) := fun m g _ => Cert.FfnIn.Gen.frame m g

/-- The same kernel over extended reals. -/
theorem ffn_ideal : Cert.quiescent_FfnInIdeal (hFfnInIdeal := Cert.FfnInIdeal.Gen.facts) := fun m g _ => Cert.FfnInIdeal.Gen.frame m g

/-- Its reference over extended reals. -/
theorem ffn_ref : Cert.quiescent_FfnGradIdeal (hFfnGradIdeal := Cert.FfnGradIdeal.Gen.facts) := fun m g _ =>
  (θ_run Cert.FfnGradIdeal.defs _ _).mono (fun r h => ⟨fun c => (h c).2.2.2.2, sem_eq_zero_of_no_sems (by decide) r.2⟩)
    (Cert.FfnGradIdeal.Value.run (F := Ideal) m g)

/-- The kernel of the input projection and its normalisation, backward. -/
theorem proj_bits : Cert.quiescent_ProjBwd (hProjBwd := Cert.ProjBwd.Gen.facts) := fun m g _ => Cert.ProjBwd.Gen.frame m g

/-- The same kernel over extended reals. -/
theorem proj_ideal : Cert.quiescent_ProjBwdIdeal (hProjBwdIdeal := Cert.ProjBwdIdeal.Gen.facts) := fun m g _ => Cert.ProjBwdIdeal.Gen.frame m g

/-- Its reference over extended reals. -/
theorem proj_ref : Cert.quiescent_ProjGradIdeal (hProjGradIdeal := Cert.ProjGradIdeal.Gen.facts) := fun m g _ =>
  (θ_run Cert.ProjGradIdeal.defs _ _).mono (fun r h => ⟨fun c => (h c).2.2.2.2, sem_eq_zero_of_no_sems (by decide) r.2⟩)
    (Cert.ProjGradIdeal.Value.run (F := Ideal) m g)

/-- The kernel of the input projection and its normalisation, backward, in the gMLP layers. -/
theorem proj_odd_bits : Cert.quiescent_ProjOddBwd (hProjOddBwd := Cert.ProjOddBwd.Gen.facts) := fun m g _ => Cert.ProjOddBwd.Gen.frame m g

/-- The same kernel over extended reals. -/
theorem proj_odd_ideal : Cert.quiescent_ProjOddBwdIdeal (hProjOddBwdIdeal := Cert.ProjOddBwdIdeal.Gen.facts) := fun m g _ => Cert.ProjOddBwdIdeal.Gen.frame m g

/-- Its reference over extended reals. -/
theorem proj_odd_ref : Cert.quiescent_ProjOddGradIdeal (hProjOddGradIdeal := Cert.ProjOddGradIdeal.Gen.facts) := fun m g _ =>
  (θ_run Cert.ProjOddGradIdeal.defs _ _).mono (fun r h => ⟨fun c => (h c).2.2.2.2, sem_eq_zero_of_no_sems (by decide) r.2⟩)
    (Cert.ProjOddGradIdeal.Value.run (F := Ideal) m g)

/-- The kernel of the loss and the last normalisation, backward. -/
theorem loss_bits : Cert.quiescent_LossBwd (hLossBwd := Cert.LossBwd.Gen.facts) := fun m g _ => Cert.LossBwd.Gen.frame m g

/-- The same kernel over extended reals. -/
theorem loss_ideal : Cert.quiescent_LossBwdIdeal (hLossBwdIdeal := Cert.LossBwdIdeal.Gen.facts) := fun m g _ => Cert.LossBwdIdeal.Gen.frame m g

/-- Its reference over extended reals. -/
theorem loss_ref : Cert.quiescent_LossGradIdeal (hLossGradIdeal := Cert.LossGradIdeal.Gen.facts) := fun m g _ =>
  (θ_run Cert.LossGradIdeal.defs _ _).mono (fun r h => ⟨fun c => (h c).2.2.2.2.2, sem_eq_zero_of_no_sems (by decide) r.2⟩)
    (Cert.LossGradIdeal.Value.run (F := Ideal) m g)

/-- The kernel of the spatial gating unit, forward. -/
theorem sgu_fwd_bits : Cert.quiescent_SguFwd (hSguFwd := Cert.SguFwd.Gen.facts) := fun m g _ => Cert.SguFwd.Gen.frame m g

/-- The same kernel over extended reals. -/
theorem sgu_fwd_ideal : Cert.quiescent_SguFwdIdeal (hSguFwdIdeal := Cert.SguFwdIdeal.Gen.facts) := fun m g _ => Cert.SguFwdIdeal.Gen.frame m g

/-- Its reference over extended reals. -/
theorem sgu_fwd_ref : Cert.quiescent_SguFwdRefIdeal (hSguFwdRefIdeal := Cert.SguFwdRefIdeal.Gen.facts) := fun m g _ =>
  (θ_run Cert.SguFwdRefIdeal.defs _ _).mono (fun r h => ⟨fun c => (h c).2, sem_eq_zero_of_no_sems (by decide) r.2⟩)
    (Cert.SguFwdRefIdeal.Value.run (F := Ideal) m g)

/-- The kernel of the gated feed-forward layer, forward to its hidden product. -/
theorem up_fwd_bits : Cert.quiescent_UpFwd (hUpFwd := Cert.UpFwd.Gen.facts) := fun m g _ => Cert.UpFwd.Gen.frame m g

/-- The same kernel over extended reals. -/
theorem up_fwd_ideal : Cert.quiescent_UpFwdIdeal (hUpFwdIdeal := Cert.UpFwdIdeal.Gen.facts) := fun m g _ => Cert.UpFwdIdeal.Gen.frame m g

/-- Its reference over extended reals. -/
theorem up_fwd_ref : Cert.quiescent_UpFwdRefIdeal (hUpFwdRefIdeal := Cert.UpFwdRefIdeal.Gen.facts) := fun m g _ =>
  (θ_run Cert.UpFwdRefIdeal.defs _ _).mono (fun r h => ⟨fun c => (h c).2.2.2, sem_eq_zero_of_no_sems (by decide) r.2⟩)
    (Cert.UpFwdRefIdeal.Value.run (F := Ideal) m g)

/-- The kernel of the output projection and the normalisation after it, forward. -/
theorem out_fwd_bits : Cert.quiescent_OutFwd (hOutFwd := Cert.OutFwd.Gen.facts) := fun m g _ => Cert.OutFwd.Gen.frame m g

/-- The same kernel over extended reals. -/
theorem out_fwd_ideal : Cert.quiescent_OutFwdIdeal (hOutFwdIdeal := Cert.OutFwdIdeal.Gen.facts) := fun m g _ => Cert.OutFwdIdeal.Gen.frame m g

/-- Its reference over extended reals. -/
theorem out_fwd_ref : Cert.quiescent_OutFwdRefIdeal (hOutFwdRefIdeal := Cert.OutFwdRefIdeal.Gen.facts) := fun m g _ =>
  (θ_run Cert.OutFwdRefIdeal.defs _ _).mono (fun r h => ⟨fun c => (h c).2.2.2, sem_eq_zero_of_no_sems (by decide) r.2⟩)
    (Cert.OutFwdRefIdeal.Value.run (F := Ideal) m g)

/-- The kernel of the down projection and the normalisation after it, forward. -/
theorem down_fwd_bits : Cert.quiescent_DownFwd (hDownFwd := Cert.DownFwd.Gen.facts) := fun m g _ => Cert.DownFwd.Gen.frame m g

/-- The same kernel over extended reals. -/
theorem down_fwd_ideal : Cert.quiescent_DownFwdIdeal (hDownFwdIdeal := Cert.DownFwdIdeal.Gen.facts) := fun m g _ => Cert.DownFwdIdeal.Gen.frame m g

/-- Its reference over extended reals. -/
theorem down_fwd_ref : Cert.quiescent_DownFwdRefIdeal (hDownFwdRefIdeal := Cert.DownFwdRefIdeal.Gen.facts) := fun m g _ =>
  (θ_run Cert.DownFwdRefIdeal.defs _ _).mono (fun r h => ⟨fun c => (h c).2.2.2, sem_eq_zero_of_no_sems (by decide) r.2⟩)
    (Cert.DownFwdRefIdeal.Value.run (F := Ideal) m g)

/-- The kernel of the gradient of the step's input. -/
theorem x_bits : Cert.quiescent_XBwd (hXBwd := Cert.XBwd.Gen.facts) := fun m g _ => Cert.XBwd.Gen.frame m g

/-- The same kernel over extended reals. -/
theorem x_ideal : Cert.quiescent_XBwdIdeal (hXBwdIdeal := Cert.XBwdIdeal.Gen.facts) := fun m g _ => Cert.XBwdIdeal.Gen.frame m g

/-- Its reference over extended reals. -/
theorem x_ref : Cert.quiescent_XGradIdeal (hXGradIdeal := Cert.XGradIdeal.Gen.facts) := fun m g _ =>
  (θ_run Cert.XGradIdeal.defs _ _).mono (fun r h => ⟨fun c => (h c).2, sem_eq_zero_of_no_sems (by decide) r.2⟩)
    (Cert.XGradIdeal.Value.run (F := Ideal) m g)

/-- The kernel of the mixture's gradient. -/
theorem cat_bits : Cert.quiescent_CatBwd (hCatBwd := Cert.CatBwd.Gen.facts) := fun m g _ => Cert.CatBwd.Gen.frame m g

/-- The same kernel over extended reals. -/
theorem cat_ideal : Cert.quiescent_CatBwdIdeal (hCatBwdIdeal := Cert.CatBwdIdeal.Gen.facts) := fun m g _ => Cert.CatBwdIdeal.Gen.frame m g

/-- Its reference over extended reals. -/
theorem cat_ref : Cert.quiescent_CatGradIdeal (hCatGradIdeal := Cert.CatGradIdeal.Gen.facts) := fun m g _ =>
  (θ_run Cert.CatGradIdeal.defs _ _).mono (fun r h => ⟨fun c => (h c).2, sem_eq_zero_of_no_sems (by decide) r.2⟩)
    (Cert.CatGradIdeal.Value.run (F := Ideal) m g)

/-- The kernel of the memory's keys and values. -/
theorem kv_bits : Cert.quiescent_KvFwd (hKvFwd := Cert.KvFwd.Gen.facts) := fun m g _ => Cert.KvFwd.Gen.frame m g

/-- The same kernel over extended reals. -/
theorem kv_ideal : Cert.quiescent_KvFwdIdeal (hKvFwdIdeal := Cert.KvFwdIdeal.Gen.facts) := fun m g _ => Cert.KvFwdIdeal.Gen.frame m g

/-- Its reference over extended reals. -/
theorem kv_ref : Cert.quiescent_KvFwdRefIdeal (hKvFwdRefIdeal := Cert.KvFwdRefIdeal.Gen.facts) := fun m g _ =>
  (θ_run Cert.KvFwdRefIdeal.defs _ _).mono (fun r h => ⟨fun c => (h c).2, sem_eq_zero_of_no_sems (by decide) r.2⟩)
    (Cert.KvFwdRefIdeal.Value.run (F := Ideal) m g)

/-- The kernel of an attention layer's input projection. -/
theorem inp_bits : Cert.quiescent_InFwd (hInFwd := Cert.InFwd.Gen.facts) := fun m g _ => Cert.InFwd.Gen.frame m g

/-- The same kernel over extended reals. -/
theorem inp_ideal : Cert.quiescent_InFwdIdeal (hInFwdIdeal := Cert.InFwdIdeal.Gen.facts) := fun m g _ => Cert.InFwdIdeal.Gen.frame m g

/-- Its reference over extended reals. -/
theorem inp_ref : Cert.quiescent_InFwdRefIdeal (hInFwdRefIdeal := Cert.InFwdRefIdeal.Gen.facts) := fun m g _ =>
  (θ_run Cert.InFwdRefIdeal.defs _ _).mono (fun r h => ⟨fun c => (h c).2, sem_eq_zero_of_no_sems (by decide) r.2⟩)
    (Cert.InFwdRefIdeal.Value.run (F := Ideal) m g)

/-- The kernel of a gMLP layer's input projection. -/
theorem inp_odd_bits : Cert.quiescent_InOddFwd (hInOddFwd := Cert.InOddFwd.Gen.facts) := fun m g _ => Cert.InOddFwd.Gen.frame m g

/-- The same kernel over extended reals. -/
theorem inp_odd_ideal : Cert.quiescent_InOddFwdIdeal (hInOddFwdIdeal := Cert.InOddFwdIdeal.Gen.facts) := fun m g _ => Cert.InOddFwdIdeal.Gen.frame m g

/-- Its reference over extended reals. -/
theorem inp_odd_ref : Cert.quiescent_InOddFwdRefIdeal (hInOddFwdRefIdeal := Cert.InOddFwdRefIdeal.Gen.facts) := fun m g _ =>
  (θ_run Cert.InOddFwdRefIdeal.defs _ _).mono (fun r h => ⟨fun c => (h c).2, sem_eq_zero_of_no_sems (by decide) r.2⟩)
    (Cert.InOddFwdRefIdeal.Value.run (F := Ideal) m g)

/-- The kernel of the optimiser. -/
theorem adam_bits : Cert.quiescent_Adam (hAdam := Cert.Adam.Gen.facts) := fun m g _ => Cert.Adam.Gen.frame m g

/-- The same kernel over extended reals. -/
theorem adam_ideal : Cert.quiescent_AdamIdeal (hAdamIdeal := Cert.AdamIdeal.Gen.facts) := fun m g _ => Cert.AdamIdeal.Gen.frame m g

/-- Its reference over extended reals. -/
theorem adam_ref : Cert.quiescent_AdamRefIdeal (hAdamRefIdeal := Cert.AdamRefIdeal.Gen.facts) := fun m g _ =>
  (θ_run Cert.AdamRefIdeal.defs _ _).mono (fun r h => ⟨fun c => (h c).2.2.2, sem_eq_zero_of_no_sems (by decide) r.2⟩)
    (Cert.AdamRefIdeal.Value.run (F := Ideal) m g)

/-- The kernel of the gradient of the memory's weights. -/
theorem kv_grad_bits : Cert.quiescent_KvBwd (hKvBwd := Cert.KvBwd.Gen.facts) := fun m g _ => Cert.KvBwd.Gen.frame m g

/-- The same kernel over extended reals. -/
theorem kv_grad_ideal : Cert.quiescent_KvBwdIdeal (hKvBwdIdeal := Cert.KvBwdIdeal.Gen.facts) := fun m g _ => Cert.KvBwdIdeal.Gen.frame m g

/-- Its reference over extended reals. -/
theorem kv_grad_ref : Cert.quiescent_KvGradIdeal (hKvGradIdeal := Cert.KvGradIdeal.Gen.facts) := fun m g _ =>
  (θ_run Cert.KvGradIdeal.defs _ _).mono (fun r h => ⟨fun c => (h c).2, sem_eq_zero_of_no_sems (by decide) r.2⟩)
    (Cert.KvGradIdeal.Value.run (F := Ideal) m g)

/-- The kernel of the gradient of the hidden weights. -/
theorem hid_grad_bits : Cert.quiescent_HidBwd (hHidBwd := Cert.HidBwd.Gen.facts) := fun m g _ => Cert.HidBwd.Gen.frame m g

/-- The same kernel over extended reals. -/
theorem hid_grad_ideal : Cert.quiescent_HidBwdIdeal (hHidBwdIdeal := Cert.HidBwdIdeal.Gen.facts) := fun m g _ => Cert.HidBwdIdeal.Gen.frame m g

/-- Its reference over extended reals. -/
theorem hid_grad_ref : Cert.quiescent_HidGradIdeal (hHidGradIdeal := Cert.HidGradIdeal.Gen.facts) := fun m g _ =>
  (θ_run Cert.HidGradIdeal.defs _ _).mono (fun r h => ⟨fun c => (h c).2, sem_eq_zero_of_no_sems (by decide) r.2⟩)
    (Cert.HidGradIdeal.Value.run (F := Ideal) m g)

/-- The kernel of the gradient of the down projection's weights. -/
theorem down_grad_bits : Cert.quiescent_DownBwd (hDownBwd := Cert.DownBwd.Gen.facts) := fun m g _ => Cert.DownBwd.Gen.frame m g

/-- The same kernel over extended reals. -/
theorem down_grad_ideal : Cert.quiescent_DownBwdIdeal (hDownBwdIdeal := Cert.DownBwdIdeal.Gen.facts) := fun m g _ => Cert.DownBwdIdeal.Gen.frame m g

/-- Its reference over extended reals. -/
theorem down_grad_ref : Cert.quiescent_DownGradIdeal (hDownGradIdeal := Cert.DownGradIdeal.Gen.facts) := fun m g _ =>
  (θ_run Cert.DownGradIdeal.defs _ _).mono (fun r h => ⟨fun c => (h c).2, sem_eq_zero_of_no_sems (by decide) r.2⟩)
    (Cert.DownGradIdeal.Value.run (F := Ideal) m g)

/-- The kernel of the gradient of the output projection's weights. -/
theorem out_grad_bits : Cert.quiescent_OutBwd (hOutBwd := Cert.OutBwd.Gen.facts) := fun m g _ => Cert.OutBwd.Gen.frame m g

/-- The same kernel over extended reals. -/
theorem out_grad_ideal : Cert.quiescent_OutBwdIdeal (hOutBwdIdeal := Cert.OutBwdIdeal.Gen.facts) := fun m g _ => Cert.OutBwdIdeal.Gen.frame m g

/-- Its reference over extended reals. -/
theorem out_grad_ref : Cert.quiescent_OutGradIdeal (hOutGradIdeal := Cert.OutGradIdeal.Gen.facts) := fun m g _ =>
  (θ_run Cert.OutGradIdeal.defs _ _).mono (fun r h => ⟨fun c => (h c).2, sem_eq_zero_of_no_sems (by decide) r.2⟩)
    (Cert.OutGradIdeal.Value.run (F := Ideal) m g)

/-- The kernel of the gradient of the first input projection's weights. -/
theorem in_grad_bits : Cert.quiescent_InBwd (hInBwd := Cert.InBwd.Gen.facts) := fun m g _ => Cert.InBwd.Gen.frame m g

/-- The same kernel over extended reals. -/
theorem in_grad_ideal : Cert.quiescent_InBwdIdeal (hInBwdIdeal := Cert.InBwdIdeal.Gen.facts) := fun m g _ => Cert.InBwdIdeal.Gen.frame m g

/-- Its reference over extended reals. -/
theorem in_grad_ref : Cert.quiescent_InGradIdeal (hInGradIdeal := Cert.InGradIdeal.Gen.facts) := fun m g _ =>
  (θ_run Cert.InGradIdeal.defs _ _).mono (fun r h => ⟨fun c => (h c).2, sem_eq_zero_of_no_sems (by decide) r.2⟩)
    (Cert.InGradIdeal.Value.run (F := Ideal) m g)

/-- The kernel of the gradient of the later attention layer's input weights. -/
theorem in_late_grad_bits : Cert.quiescent_InLateBwd (hInLateBwd := Cert.InLateBwd.Gen.facts) := fun m g _ => Cert.InLateBwd.Gen.frame m g

/-- The same kernel over extended reals. -/
theorem in_late_grad_ideal : Cert.quiescent_InLateBwdIdeal (hInLateBwdIdeal := Cert.InLateBwdIdeal.Gen.facts) := fun m g _ => Cert.InLateBwdIdeal.Gen.frame m g

/-- Its reference over extended reals. -/
theorem in_late_grad_ref : Cert.quiescent_InLateGradIdeal (hInLateGradIdeal := Cert.InLateGradIdeal.Gen.facts) := fun m g _ =>
  (θ_run Cert.InLateGradIdeal.defs _ _).mono (fun r h => ⟨fun c => (h c).2, sem_eq_zero_of_no_sems (by decide) r.2⟩)
    (Cert.InLateGradIdeal.Value.run (F := Ideal) m g)

/-- The kernel of the gradient of a gMLP layer's input weights. -/
theorem in_odd_grad_bits : Cert.quiescent_InOddBwd (hInOddBwd := Cert.InOddBwd.Gen.facts) := fun m g _ => Cert.InOddBwd.Gen.frame m g

/-- The same kernel over extended reals. -/
theorem in_odd_grad_ideal : Cert.quiescent_InOddBwdIdeal (hInOddBwdIdeal := Cert.InOddBwdIdeal.Gen.facts) := fun m g _ => Cert.InOddBwdIdeal.Gen.frame m g

/-- Its reference over extended reals. -/
theorem in_odd_grad_ref : Cert.quiescent_InOddGradIdeal (hInOddGradIdeal := Cert.InOddGradIdeal.Gen.facts) := fun m g _ =>
  (θ_run Cert.InOddGradIdeal.defs _ _).mono (fun r h => ⟨fun c => (h c).2, sem_eq_zero_of_no_sems (by decide) r.2⟩)
    (Cert.InOddGradIdeal.Value.run (F := Ideal) m g)

/-- The kernel of the later attention layer's input projection. -/
theorem inp_late_bits : Cert.quiescent_InLateFwd (hInLateFwd := Cert.InLateFwd.Gen.facts) := fun m g _ => Cert.InLateFwd.Gen.frame m g

/-- The same kernel over extended reals. -/
theorem inp_late_ideal : Cert.quiescent_InLateFwdIdeal (hInLateFwdIdeal := Cert.InLateFwdIdeal.Gen.facts) := fun m g _ => Cert.InLateFwdIdeal.Gen.frame m g

/-- Its reference over extended reals. -/
theorem inp_late_ref : Cert.quiescent_InLateFwdRefIdeal (hInLateFwdRefIdeal := Cert.InLateFwdRefIdeal.Gen.facts) := fun m g _ =>
  (θ_run Cert.InLateFwdRefIdeal.defs _ _).mono (fun r h => ⟨fun c => (h c).2, sem_eq_zero_of_no_sems (by decide) r.2⟩)
    (Cert.InLateFwdRefIdeal.Value.run (F := Ideal) m g)

/-- The optimiser's kernel on the gate's hidden weights. -/
theorem adam_hid_bits : Cert.quiescent_AdamHid (hAdamHid := Cert.AdamHid.Gen.facts) := fun m g _ => Cert.AdamHid.Gen.frame m g

/-- The same kernel over extended reals. -/
theorem adam_hid_ideal : Cert.quiescent_AdamHidIdeal (hAdamHidIdeal := Cert.AdamHidIdeal.Gen.facts) := fun m g _ => Cert.AdamHidIdeal.Gen.frame m g

/-- Its reference over extended reals. -/
theorem adam_hid_ref : Cert.quiescent_AdamHidRefIdeal (hAdamHidRefIdeal := Cert.AdamHidRefIdeal.Gen.facts) := fun m g _ =>
  (θ_run Cert.AdamHidRefIdeal.defs _ _).mono
    (fun r h => ⟨fun c => (h c).2.2.2, sem_eq_zero_of_no_sems (by decide) r.2⟩)
    (Cert.AdamHidRefIdeal.Value.run (F := Ideal) m g)

end Cert.Frames

end
-- ==== Proof.RealLift.lean ====
/- Finite arrays over the extended reals, read as arrays of real numbers: how the operations of the idealized
   programs act on them, and the values of the float constants the programs name. -/
module

public import Idealize.ShloMosaic.Lib.Pointwise
public import Idealize.ShloMosaic.Lib.ReduceAll
public import Idealize.ShloMosaic.PureOps.Ideal.Laws

@[expose] public section

set_option maxRecDepth 16384

noncomputable section

open Idealize.ShloMosaic

namespace Cert.RealLift

/-- An array of real numbers, among the extended reals. -/
abbrev re {ι : Type} (x : ι → ℝ) : ι → EReal := fun i => ((x i : ℝ) : EReal)

/-- A row of an array of `a × b` rows. -/
abbrev row3 {a b k : ℕ} (z : (⟨3, ![a, b, k]⟩ : Shape).Idx → ℝ) (i : Fin a) (j : Fin b) : Fin k → ℝ := fun d => z (ix3 i j d)

/-- Which of the four sequences the row `r` of all 8192 lies in. -/
abbrev blockOf (r : Fin 8192) : Fin 4 := ⟨r.val / 2048, by omega⟩

/-- The place of the row `r` of all 8192 in its sequence. -/
abbrev placeOf (r : Fin 8192) : Fin 2048 := ⟨r.val % 2048, by omega⟩

/-- The rows of all sequences, one after another. -/
abbrev flat {k : ℕ} (z : (⟨3, ![4, 2048, k]⟩ : Shape).Idx → ℝ) : (⟨2, ![8192, k]⟩ : Shape).Idx → ℝ :=
  fun i => z (ix3 (blockOf (i 0)) (placeOf (i 0)) (i 1))

/-- A sum over the sequences and over the places in each is the sum over all rows. -/
theorem sum_blocks (f : Fin 4 → Fin 2048 → ℝ) : ∑ r : Fin 8192, f (blockOf r) (placeOf r) = ∑ i, ∑ j, f i j := by
  rw [← Fintype.sum_prod_type', ← (finProdFinEquiv (m := 4) (n := 2048)).sum_comp]
  refine Finset.sum_congr rfl fun p _ => ?_
  have h1 : blockOf (finProdFinEquiv p) = p.1 := by
    apply Fin.ext
    show (p.2.val + 2048 * p.1.val) / 2048 = p.1.val
    have := p.2.isLt
    omega
  have h2 : placeOf (finProdFinEquiv p) = p.2 := by
    apply Fin.ext
    show (p.2.val + 2048 * p.1.val) % 2048 = p.2.val
    have := p.2.isLt
    omega
  rw [h1, h2]

/-- A finite sum of real numbers is the same in the extended reals. -/
theorem coe_sum {ι : Type} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- Division of a real number by a real number that is not zero. -/
theorem div_real (a : ℝ) {b : ℝ} (hb : b ≠ 0) : Ideal.div (a : EReal) (b : EReal) = ((a / b : ℝ) : EReal) := by
  rw [Ideal.div_coe hb, ← EReal.coe_mul, mul_one_div]

/-- The reciprocal square root of a positive real number. -/
theorem rsqrt_real {x : ℝ} (hx : 0 < x) : Ideal.rsqrt (x : EReal) = (((Real.sqrt x)⁻¹ : ℝ) : EReal) := by
  rw [Ideal.rsqrt_coe, if_neg (not_lt.2 hx.le), if_neg hx.ne']

/-- The larger of two real numbers. -/
theorem max_real (a b : ℝ) : max (a : EReal) (b : EReal) = ((max a b : ℝ) : EReal) :=
  (EReal.coe_strictMono.monotone.map_max).symm

/-- An array none of whose elements is infinite is an array of real numbers. -/
theorem exists_real {ι : Type} (x : ι → EReal) (h : ∀ i, ⊥ < x i ∧ x i < ⊤) : ∃ y : ι → ℝ, x = fun i => ((y i : ℝ) : EReal) :=
  ⟨fun i => (x i).toReal, funext fun i => (EReal.coe_toReal (h i).2.ne (h i).1.ne').symm⟩

/-- The pattern of `+∞`. -/
theorem ofBits_top : Ideal.ofBits .f32 0x7F800000#32 = ⊤ := by simp [Ideal.ofBits, Ideal.ieee]

/-- The pattern of `-∞`. -/
theorem ofBits_bot : Ideal.ofBits .f32 0xFF800000#32 = ⊥ := by simp [Ideal.ofBits, Ideal.ieee]

/-- The pattern of `1024`. -/
theorem ofBits_1024 : Ideal.ofBits .f32 0x44800000#32 = ((1024 : ℝ) : EReal) := by
  simp [Ideal.ofBits, Ideal.ieee, -EReal.coe_mul]; norm_num

/-- Division by the pattern of `1024`. -/
theorem div_1024 (a : ℝ) : Ideal.div (a : EReal) (Ideal.ofBits .f32 0x44800000#32) = ((a / 1024 : ℝ) : EReal) := by
  rw [ofBits_1024, div_real a (by norm_num)]

/-- The pattern of `2`. -/
theorem ofBits_2 : Ideal.ofBits .f32 0x40000000#32 = ((2 : ℝ) : EReal) := by
  simp [Ideal.ofBits, Ideal.ieee, -EReal.coe_mul]; norm_num

/-- The pattern of `-1/2`. -/
theorem ofBits_neg_half : Ideal.ofBits .f32 0xBF000000#32 = ((-1 / 2 : ℝ) : EReal) := by
  simp [Ideal.ofBits, Ideal.ieee, -EReal.coe_mul]; norm_num

/-- The normalisation's small constant, as the float the programs hold (about `10⁻⁵`). -/
def eps : ℝ := 10995116 / 2 ^ 40

/-- The pattern of the normalisation's small constant. -/
theorem ofBits_eps : Ideal.ofBits .f32 0x3727C5AC#32 = ((eps : ℝ) : EReal) := by
  unfold eps
  simp [Ideal.ofBits, Ideal.ieee, -EReal.coe_mul]; norm_num

/-- The small constant is positive. -/
theorem eps_pos : 0 < eps := by unfold eps; norm_num

/-- The residual branch's weight, as the float the programs hold (about `8^(1/4)`). -/
def alpha : ℝ := 14107901 / 2 ^ 23

/-- The pattern of the residual branch's weight. -/
theorem ofBits_alpha : Ideal.ofBits .f32 0x3FD744FD#32 = ((alpha : ℝ) : EReal) := by
  unfold alpha
  simp [Ideal.ofBits, Ideal.ieee, -EReal.coe_mul]; norm_num

/-- The 16-bit pattern of `+∞`. -/
theorem ofBits_top16 : Ideal.ofBits .bf16 0x7F80#16 = ⊤ := by simp [Ideal.ofBits, Ideal.ieee]

/-- The 16-bit pattern of `-∞`. -/
theorem ofBits_bot16 : Ideal.ofBits .bf16 0xFF80#16 = ⊥ := by simp [Ideal.ofBits, Ideal.ieee]

/-- An array whose every element a program has found to lie strictly between the infinities is an array of real numbers. -/
theorem real_of_all {s t u : Shape} [Subsingleton t.Idx] {φ : FTy} {lo hi : BitVec φ.bits} (hlo : Ideal.ofBits φ lo = ⊥)
    (hhi : Ideal.ofBits φ hi = ⊤) {x : FVec Ideal s φ} {d d' : Fin u.rank → Fin s.rank}
    {hb : u.BroadcastsInDim s d} {hb' : u.BroadcastsInDim s d'} {axes : List (Fin s.rank)} {hr : s.ReducesTo axes t} {h0 : 0 < u.numel}
    {i : t.Idx}
    (h : Host.reduce IntOp.andi (andi (cmpf .ogt x (broadcastInDim s d hb (constant (F := Ideal) u φ lo)))
      (cmpf .olt x (broadcastInDim s d' hb' (constant (F := Ideal) u φ hi)))) (constantI u 1 1#1) hr h0 i = 1#1) :
    ∃ y : s.Idx → ℝ, x = fun j => ((y j : ℝ) : EReal) := by
  refine exists_real x fun j => ?_
  have hj := IntOp.andi_eq_one.1 (Host.reduce_andi_all _ _ hr h0 i h j)
  constructor
  · have := hj.1
    change Ideal.cmp .ogt (x j) (Ideal.ofBits φ lo) = 1#1 at this
    rw [hlo] at this
    by_contra hc
    rw [Ideal.cmp, decide_eq_false hc] at this
    exact absurd this (by decide)
  · have := hj.2
    change Ideal.cmp .olt (x j) (Ideal.ofBits φ hi) = 1#1 at this
    rw [hhi] at this
    by_contra hc
    rw [Ideal.cmp, decide_eq_false hc] at this
    exact absurd this (by decide)

section Axes01

variable {n0 n1 n2 : ℕ} {t : Shape} (h : (⟨3, ![n0, n1, n2]⟩ : Shape).ReducesTo [0, 1] t)
include h

theorem lt_axes01 : 0 < t.rank := by rw [show t.rank = 1 from h.1]; decide

theorem size_axes01 : t.size ⟨0, lt_axes01 h⟩ = n2 := h.2 ⟨0, lt_axes01 h⟩

/-- The coordinate of `j` on the axis that a sum over the first two of three axes keeps. -/
def keptAxis (j : t.Idx) : Fin n2 :=
  ⟨(j ⟨0, lt_axes01 h⟩).val, Shape.coordLt (j ⟨0, lt_axes01 h⟩) (size_axes01 h)⟩

/-- The indices summed into `j` by a sum over the first two of three axes. -/
theorem fiber_axes01 (j : t.Idx) (i : (⟨3, ![n0, n1, n2]⟩ : Shape).Idx) :
    h.drop i = j ↔ ∃ k : Fin n0 × Fin n1, ix3 k.1 k.2 (keptAxis h j) = i := by
  constructor
  · intro e
    refine ⟨(i 0, i 1), funext fun a => Fin.ext ?_⟩
    match a with
    | ⟨0, _⟩ => rfl
    | ⟨1, _⟩ => rfl
    | ⟨2, _⟩ => exact (congrArg Fin.val (congrFun e ⟨0, lt_axes01 h⟩)).symm
  · rintro ⟨k, rfl⟩
    refine funext fun b => Fin.ext ?_
    match b with
    | ⟨0, _⟩ => rfl
    | ⟨_ + 1, hb⟩ => exact absurd hb (by have : t.rank = 1 := h.1; omega)

/-- A host sum over the first two of three axes: the initial value plus the double sum. -/
theorem hostReduceAdd_axes01 (x : (⟨3, ![n0, n1, n2]⟩ : Shape).Idx → EReal) (init : EReal) (j : t.Idx) :
    Ideal.hostReduceAdd h x init j = init + ∑ a : Fin n0, ∑ b : Fin n1, x (ix3 a b (keptAxis h j)) := by
  refine congrArg (init + ·) ((Finset.sum_filter_eq_sum_of_fiber _
    (fun k : Fin n0 × Fin n1 => ix3 k.1 k.2 (keptAxis h j))
    (fun _ _ e => Prod.ext (congrFun e 0) (congrFun e 1)) (fiber_axes01 h j) x).trans ?_)
  simp only [Fintype.sum_prod_type]

end Axes01

end Cert.RealLift

end
-- ==== Proof.SoftMax.lean ====
/- The softmax of a row of real numbers and its derivative. -/
module

public import Mathlib.Analysis.SpecialFunctions.Exp
public import Mathlib.Data.EReal.Basic
public import Mathlib.Algebra.BigOperators.Field

@[expose] public section

noncomputable section

namespace Cert.SoftMax

variable {n : ℕ}

/-- The softmax of a row. -/
def prob (s : Fin n → ℝ) (k : Fin n) : ℝ := Real.exp (s k) / ∑ j, Real.exp (s j)

/-- The gradient of the scores from the gradient `u` of the softmax. -/
def dscore (s u : Fin n → ℝ) (k : Fin n) : ℝ := prob s k * (u k - ∑ j, prob s j * u j)

theorem sum_pos (s : Fin n → ℝ) (k : Fin n) (t : ℝ) : 0 < ∑ j, Real.exp (s j - t) :=
  Finset.sum_pos (fun _ _ => Real.exp_pos _) ⟨k, Finset.mem_univ _⟩

/-- A shift of all scores leaves the softmax as it is. -/
theorem prob_shift (s : Fin n → ℝ) (t : ℝ) (k : Fin n) : Real.exp (s k - t) / ∑ j, Real.exp (s j - t) = prob s k := by
  have h := (Real.exp_pos t).ne'
  simp only [Real.exp_sub, ← Finset.sum_div, prob]
  field_simp

/-- The derivative as the forward lines' derivative writes it, over the unnormalised exponentials. -/
theorem dscore_shift (s u : Fin n → ℝ) (t : ℝ) (k : Fin n) :
    (u k / (∑ j, Real.exp (s j - t)) + -∑ j, u j * (1 / ((∑ j, Real.exp (s j - t)) * ∑ j, Real.exp (s j - t))) * Real.exp (s j - t)) * Real.exp (s k - t)
      = dscore s u k := by
  have hD := (sum_pos s k t).ne'
  unfold dscore
  simp only [← prob_shift s t]
  generalize (∑ j, Real.exp (s j - t)) = D at hD
  have e : ∑ j, u j * (1 / (D * D)) * Real.exp (s j - t) = (∑ j, Real.exp (s j - t) / D * u j) / D := by
    rw [Finset.sum_div]
    refine Finset.sum_congr rfl fun j _ => ?_
    field_simp
  rw [e]
  field_simp
  ring

/-- The largest of finitely many real numbers is one of them. -/
theorem fold_max_real {ι : Type} [Fintype ι] [Nonempty ι] (f : ι → ℝ) :
    ∃ t : ℝ, Finset.fold max ⊥ (fun k => ((f k : ℝ) : EReal)) Finset.univ = (t : EReal) := by
  obtain ⟨k, -, h⟩ := Finset.exists_mem_eq_sup Finset.univ Finset.univ_nonempty (fun k => ((f k : ℝ) : EReal))
  exact ⟨f k, h⟩

end Cert.SoftMax

end
-- ==== Proof.MemPay.lean ====
/- The attention onto the memories, backward: what one block of queries contributes, at real numbers. -/
module

public import proofs.«01_k».proof.Proof.Gen.MemBwdIdeal.Skeleton
public import proofs.«01_k».proof.Proof.RealLift
public import proofs.«01_k».proof.Proof.SoftMax

@[expose] public section

set_option maxRecDepth 16384

noncomputable section

open Idealize.ShloMosaic Idealize.ShloMosaic.TcCoe Idealize.SL.Sem

namespace Cert.MemBwdIdeal.Pay

open Cert.MemBwdIdeal Cert.MemBwdIdeal.Gen Cert.RealLift

/-- The queries of the lanes a mask keeps, scaled. -/
def scaled (M : IVec S512x128 1) (q : FVec Ideal S512x128 .f32) : FVec Ideal S512x128 .bf16 :=
  truncf .bf16 (mulf (select M q (broadcast S512x128 (Scalar.ofBits .f32 0x00000000#32 : Ideal .f32)))
    (broadcast S512x128 (Scalar.ofBits .f32 0x3E000000#32 : Ideal .f32))) bitsLt_bf16_f32

/-- The lanes a mask keeps. -/
def kept (M : IVec S512x128 1) (d : FVec Ideal S512x128 .f32) : FVec Ideal S512x128 .bf16 :=
  truncf .bf16 (select M d (broadcast S512x128 (Scalar.ofBits .f32 0x00000000#32 : Ideal .f32))) bitsLt_bf16_f32

/-- The products of the queries with the memories. -/
def score (q : FVec Ideal S512x128 .bf16) (k : FVec Ideal S256x128 .bf16) : FVec Ideal S512x256 .f32 :=
  matmul dot_S512x128_S256x128_S512x256_1_1_0_0_n_n none q k (constant S512x256 .f32 0x00000000#32)

/-- The exponentials of a row's scores less its largest. -/
def weights (s : FVec Ideal S512x256 .f32) : FVec Ideal S512x256 .f32 :=
  exp (subf s (broadcastTo S512x256 (shapeCast S512x1 (multiReduction .maximumf [1] S512 s 0xFF800000#32 reduces_S512x256_S512 (.inl rfl) rfl)
    shapeCasts_S512_S512x1) broadcasts_S512x1_S512x256))

/-- Each row over its sum. -/
def normed (e : FVec Ideal S512x256 .f32) : FVec Ideal S512x256 .f32 :=
  divf e (broadcastTo S512x256 (shapeCast S512x1 (multiReduction .add [1] S512 e 0x00000000#32 reduces_S512x256_S512 (.inl rfl) rfl)
    shapeCasts_S512_S512x1) broadcasts_S512x1_S512x256)

/-- The gradient of the scores from that of the probabilities. -/
def dscore (p dp : FVec Ideal S512x256 .f32) : FVec Ideal S512x256 .bf16 :=
  truncf .bf16 (mulf p (subf dp (broadcastTo S512x256 (shapeCast S512x1 (multiReduction .add [1] S512
    (mulf (extf .f32 (truncf .bf16 p bitsLt_bf16_f32) bitsLt_bf16_f32) dp) 0x00000000#32 reduces_S512x256_S512 (.inl rfl) rfl)
    shapeCasts_S512_S512x1) broadcasts_S512x1_S512x256))) bitsLt_bf16_f32

/-- The gradient of the queries, on the lanes a mask keeps, added to what is there. -/
def dquery (M : IVec S512x128 1) (ds : FVec Ideal S512x256 .bf16) (k : FVec Ideal S256x128 .bf16) (acc : FVec Ideal S512x128 .f32) : FVec Ideal S512x128 .f32 :=
  addf acc (mulf (select M (matmul dot_S512x256_S256x128_S512x128_1_0_0_1_n_n none ds k (constant S512x128 .f32 0x00000000#32))
    (broadcast S512x128 (Scalar.ofBits .f32 0x00000000#32 : Ideal .f32))) (broadcast S512x128 (Scalar.ofBits .f32 0x3E000000#32 : Ideal .f32)))

/-- The gradient of the memories' keys or values, added to what is there. -/
def dmem (p : FVec Ideal S512x256 .bf16) (d : FVec Ideal S512x128 .bf16) (acc : FVec Ideal S256x128 .f32) : FVec Ideal S256x128 .f32 :=
  addf acc (matmul dot_S512x256_S512x128_S256x128_0_0_1_1_n_n none p d (constant S256x128 .f32 0x00000000#32))

theorem ofBits_eighth : Ideal.ofBits .f32 0x3E000000#32 = ((1 / 8 : ℝ) : EReal) := by
  simp [Ideal.ofBits, Ideal.ieee, -EReal.coe_mul]; norm_num

/-- The bit of a mask that keeps the lanes of half `j`. -/
def Keeps (M : IVec S512x128 1) (j : ℕ) : Prop := ∀ i, M i = if (i 1).val / 64 = j then 1#1 else 0#1

/-- The first mask keeps the lanes of the first half. -/
theorem keeps0 : Keeps k0_pay5 0 := by
  intro i
  idx_vars i
  pointwise [k0_pay5]
  exact (by decide +kernel : ∀ l : Fin 128, IntOp.cmpi .slt (BitVec.ofNat 32 l.val) 64#32 = if l.val / 64 = 0 then 1#1 else 0#1) i1

/-- Its complement keeps the lanes of the second half. -/
theorem keeps1 : Keeps (k0_pay22 k0_pay5) 1 := by
  intro i
  idx_vars i
  pointwise [k0_pay22, k0_pay5]
  exact (by decide +kernel : ∀ l : Fin 128, IntOp.xori (IntOp.cmpi .slt (BitVec.ofNat 32 l.val) 64#32) 1#1 = if l.val / 64 = 1 then 1#1 else 0#1) i1

/-- What a mask keeps of half `j`. -/
def pick (j : ℕ) (x : S512x128.Idx → ℝ) (i : S512x128.Idx) : ℝ := if (i 1).val / 64 = j then x i else 0

variable {M : IVec S512x128 1} {j : ℕ} (hM : Keeps M j)
include hM

theorem select_real (x : S512x128.Idx → ℝ) :
    (select M (re x) (broadcast S512x128 (Scalar.ofBits .f32 0x00000000#32 : Ideal .f32)) : FVec Ideal S512x128 .f32) = re (pick j x) := by
  funext i
  have h : Scalar.select (M i) (re x i) 0 = ((pick j x i : ℝ) : EReal) := by
    rw [hM, pick]
    by_cases h : (i 1).val / 64 = j <;> simp [h, Scalar.select]
  pointwise []
  exact h

theorem scaled_real (q : S512x128.Idx → ℝ) : scaled M (re q) = re fun i => pick j q i * (1 / 8) := by
  unfold scaled
  rw [select_real hM]
  funext i
  pointwise []
  rw [ofBits_eighth]
  exact (EReal.coe_mul _ _).symm

theorem kept_real (d : S512x128.Idx → ℝ) : kept M (re d) = re (pick j d) := by
  unfold kept
  rw [select_real hM]
  rfl

omit hM

theorem score_real (q : S512x128.Idx → ℝ) (k : S256x128.Idx → ℝ) :
    score (re q) (re k) = re fun i => ∑ l : Fin 128, q (ix2 (i 0) l) * k (ix2 (i 1) l) := by
  funext i
  idx_vars i
  pointwise [score]
  simp only [← EReal.coe_mul, coe_sum]
  rfl

theorem weights_real (s : S512x256.Idx → ℝ) : ∃ t : Fin 512 → ℝ, weights (re s) = re fun i => Real.exp (s i - t (i 0)) := by
  choose t ht using fun r : Fin 512 => Cert.SoftMax.fold_max_real fun k : Fin 256 => s (ix2 r k)
  refine ⟨t, ?_⟩
  funext i
  idx_vars i
  pointwise [weights]
  rw [ofBits_bot, ht i0, ← EReal.coe_sub, Ideal.exp_coe]
  rfl

/-- The softmax of each row of scores. -/
theorem normed_real (s : S512x256.Idx → ℝ) :
    normed (weights (re s)) = re fun i => Cert.SoftMax.prob (fun m => s (ix2 (i 0) m)) (i 1) := by
  obtain ⟨t, ht⟩ := weights_real s
  rw [ht]
  funext i
  idx_vars i
  pointwise [normed]
  simp only [coe_sum]
  refine (div_real (Real.exp (s (ix2 i0 i1) - t i0)) (Cert.SoftMax.sum_pos (fun m => s (ix2 i0 m)) i1 (t i0)).ne').trans ?_
  exact congrArg _ (Cert.SoftMax.prob_shift (fun m => s (ix2 i0 m)) (t i0) i1)

theorem dscore_real (s u : S512x256.Idx → ℝ) :
    dscore (re fun i => Cert.SoftMax.prob (fun m => s (ix2 (i 0) m)) (i 1)) (re u)
      = re fun i => Cert.SoftMax.dscore (fun m => s (ix2 (i 0) m)) (fun m => u (ix2 (i 0) m)) (i 1) := by
  funext i
  idx_vars i
  pointwise [dscore]
  simp only [← EReal.coe_mul, coe_sum, ← EReal.coe_sub]
  rfl

include hM in
theorem dquery_real (ds : S512x256.Idx → ℝ) (k : S256x128.Idx → ℝ) (acc : FVec Ideal S512x128 .f32) :
    dquery M (re ds) (re k) acc
      = fun i => acc i + ((pick j (fun i => ∑ m : Fin 256, ds (ix2 (i 0) m) * k (ix2 m (i 1))) i * (1 / 8) : ℝ) : EReal) := by
  have e : (matmul (F := Ideal) (φ₁ := .bf16) (φ₂ := .bf16) dot_S512x256_S256x128_S512x128_1_0_0_1_n_n none (re ds) (re k)
      (constant (F := Ideal) S512x128 .f32 0x00000000#32) : FVec Ideal S512x128 .f32)
      = re fun i => ∑ m : Fin 256, ds (ix2 (i 0) m) * k (ix2 m (i 1)) := by
    funext i
    idx_vars i
    pointwise []
    simp only [← EReal.coe_mul, coe_sum]
    rfl
  unfold dquery
  rw [e, select_real hM]
  funext i
  pointwise []
  rw [ofBits_eighth]
  exact congrArg (acc i + ·) (EReal.coe_mul _ _).symm

theorem dmem_real (p : S512x256.Idx → ℝ) (d : S512x128.Idx → ℝ) (acc : FVec Ideal S256x128 .f32) :
    dmem (re p) (re d) acc = fun i => acc i + ((∑ r : Fin 512, p (ix2 r (i 0)) * d (ix2 r (i 1)) : ℝ) : EReal) := by
  funext i
  idx_vars i
  pointwise [dmem]
  simp only [← EReal.coe_mul, coe_sum]

end Cert.MemBwdIdeal.Pay

end
-- ==== Proof.MemHead.lean ====
/- One pair of heads of the memory attention's backward kernel, at real numbers. -/
module

public import proofs.«01_k».proof.Proof.MemPay

@[expose] public section

set_option maxRecDepth 16384

noncomputable section

open Idealize.ShloMosaic Idealize.ShloMosaic.TcCoe Idealize.SL.Sem

namespace Cert.MemBwdIdeal.Pay

open Cert.MemBwdIdeal Cert.MemBwdIdeal.Gen Cert.RealLift

/-- The probabilities of the heads a mask keeps. -/
def soft (M : IVec S512x128 1) (q : FVec Ideal S512x128 .f32) (k : FVec Ideal S256x128 .bf16) : FVec Ideal S512x256 .f32 :=
  normed (weights (score (scaled M q) k))

/-- The gradient of the scores of the heads a mask keeps. -/
def grad (M : IVec S512x128 1) (q d : FVec Ideal S512x128 .f32) (k v : FVec Ideal S256x128 .bf16) : FVec Ideal S512x256 .bf16 :=
  dscore (soft M q k) (score (kept M d) v)

/-- The queries' gradient of a pair of heads, as stored. -/
def storeQ (q d : FVec Ideal S512x128 .f32) (k v : FVec Ideal S256x128 .bf16) : FVec Ideal S1x512x128 .bf16 :=
  shapeCast S1x512x128 (truncf .bf16 (dquery (k0_pay22 k0_pay5) (grad (k0_pay22 k0_pay5) q d k v) k
    (dquery k0_pay5 (grad k0_pay5 q d k v) k k0_pay10)) bitsLt_bf16_f32) shapeCasts_S512x128_S1x512x128

/-- The keys' gradient of a pair of heads, added to what is stored. -/
def storeK (q d : FVec Ideal S512x128 .f32) (k v : FVec Ideal S256x128 .bf16) (a : FVec Ideal S1x256x128 .f32) : FVec Ideal S1x256x128 .f32 :=
  shapeCast S1x256x128 (addf (shapeCast S256x128 a shapeCasts_S1x256x128_S256x128)
    (dmem (grad (k0_pay22 k0_pay5) q d k v) (scaled (k0_pay22 k0_pay5) q) (dmem (grad k0_pay5 q d k v) (scaled k0_pay5 q) k0_pay11)))
    shapeCasts_S256x128_S1x256x128

/-- The values' gradient of a pair of heads, added to what is stored. -/
def storeV (q d : FVec Ideal S512x128 .f32) (k : FVec Ideal S256x128 .bf16) (a : FVec Ideal S1x256x128 .f32) : FVec Ideal S1x256x128 .f32 :=
  shapeCast S1x256x128 (addf (shapeCast S256x128 a shapeCasts_S1x256x128_S256x128)
    (dmem (truncf .bf16 (soft (k0_pay22 k0_pay5) q k) bitsLt_bf16_f32) (kept (k0_pay22 k0_pay5) d)
      (dmem (truncf .bf16 (soft k0_pay5 q k) bitsLt_bf16_f32) (kept k0_pay5 d) k0_pay12)))
    shapeCasts_S256x128_S1x256x128

section words

variable (q d : Vec Ideal S1x512x128 .f32) (k v : Vec Ideal S1x256x128 .f32) (a : Vec Ideal S1x256x128 .f32)

theorem storeQ0 : k0_pay29 (F := Ideal) (k0_pay8 k) (k0_pay19 k0_pay5 (k0_pay8 k) (k0_pay9 v) k0_pay10 (k0_pay14 d) (k0_pay15 q k)) (k0_pay22 k0_pay5)
    (k0_pay25 k0_pay5 (k0_pay6 q) (k0_pay8 k)) (k0_pay26 k0_pay5 (k0_pay6 q) (k0_pay8 k)) (k0_pay27 k0_pay5 (k0_pay7 d) (k0_pay9 v))
    = storeQ (k0_pay6 q) (k0_pay6 d) (k0_pay8 k) (k0_pay8 v) := rfl

theorem storeQ1 : k0_pay1 (F := Ideal) (k0_pay45 k0_pay5 (k0_pay34 k) k0_pay36 (k0_pay41 k0_pay5 q k) (k0_pay43 k0_pay5 q d k v))
    (k0_pay54 k0_pay5 (k0_pay32 q) (k0_pay33 d) (k0_pay34 k) (k0_pay35 v))
    = storeQ (k0_pay6 q) (k0_pay6 d) (k0_pay8 k) (k0_pay8 v) := rfl

theorem storeK0 : k0_pay30 (F := Ideal) (k0_pay20 (k0_pay9 v) k0_pay11 (k0_pay13 q) (k0_pay14 d) (k0_pay15 q k)) (k0_pay23 k0_pay5 (k0_pay6 q))
    (k0_pay25 k0_pay5 (k0_pay6 q) (k0_pay8 k)) (k0_pay26 k0_pay5 (k0_pay6 q) (k0_pay8 k)) (k0_pay27 k0_pay5 (k0_pay7 d) (k0_pay9 v)) a
    = storeK (k0_pay6 q) (k0_pay6 d) (k0_pay8 k) (k0_pay8 v) a := rfl

theorem storeV0 : k0_pay31 (F := Ideal) (k0_pay21 k0_pay12 (k0_pay14 d) (k0_pay15 q k)) (k0_pay24 k0_pay5 (k0_pay7 d))
    (k0_pay26 k0_pay5 (k0_pay6 q) (k0_pay8 k)) a
    = storeV (k0_pay6 q) (k0_pay6 d) (k0_pay8 k) a := rfl

theorem storeK1 : k0_pay2 (F := Ideal) (k0_pay46 k0_pay37 (k0_pay39 k0_pay5 q) (k0_pay41 k0_pay5 q k) (k0_pay43 k0_pay5 q d k v))
    (k0_pay49 k0_pay5 (k0_pay32 q)) (k0_pay53 k0_pay5 (k0_pay32 q) (k0_pay33 d) (k0_pay34 k) (k0_pay35 v)) a
    = storeK (k0_pay6 q) (k0_pay6 d) (k0_pay8 k) (k0_pay8 v) a := rfl

theorem storeV1 : k0_pay3 (F := Ideal) (k0_pay47 k0_pay38 (k0_pay40 k0_pay5 d) (k0_pay42 k0_pay5 q k)) (k0_pay50 k0_pay5 (k0_pay33 d))
    (k0_pay52 k0_pay5 (k0_pay32 q) (k0_pay34 k)) a
    = storeV (k0_pay6 q) (k0_pay6 d) (k0_pay8 k) a := rfl

end words

/-- Lane `e` of half `j`. -/
def lane (j : Fin 2) (e : Fin 64) : Fin 128 := ⟨j.val * 64 + e.val, by omega⟩

/-- The half a lane lies in. -/
def half (l : Fin 128) : Fin 2 := ⟨l.val / 64, by omega⟩

/-- A sum over the lanes a mask keeps is the sum over the half's lanes. -/
theorem sum_half (j : Fin 2) (f : Fin 128 → ℝ) : (∑ l : Fin 128, if l.val / 64 = j.val then f l else 0) = ∑ e : Fin 64, f (lane j e) := by
  rw [Fin.sum_univ_tiles 2 64 (by norm_num) (fun l : Fin 128 => if l.val / 64 = j.val then f l else 0)]
  rw [Finset.sum_eq_single j]
  · refine Finset.sum_congr rfl fun e _ => ?_
    rw [if_pos (show (j.val * 64 + e.val) / 64 = j.val by omega)]
    rfl
  · intro i _ h
    refine Finset.sum_eq_zero fun e _ => ?_
    rw [if_neg]
    intro hh
    exact h (Fin.ext (by have : (i.val * 64 + e.val) / 64 = j.val := hh; omega))
  · intro h
    exact absurd (Finset.mem_univ j) h

section real

variable (Q D : S512x128.Idx → ℝ) (K W : S256x128.Idx → ℝ)

/-- The score of a query with a memory, of one head. -/
def sc (j : Fin 2) (r : Fin 512) (m : Fin 256) : ℝ := ∑ e : Fin 64, Q (ix2 r (lane j e)) * (1 / 8) * K (ix2 m (lane j e))

/-- The gradient that reaches a probability, of one head. -/
def up (j : Fin 2) (r : Fin 512) (m : Fin 256) : ℝ := ∑ e : Fin 64, D (ix2 r (lane j e)) * W (ix2 m (lane j e))

/-- A score's gradient, of one head. -/
def gs (j : Fin 2) (r : Fin 512) (m : Fin 256) : ℝ := Cert.SoftMax.dscore (sc Q K j r) (up D W j r) m

variable {M : IVec S512x128 1} {j : Fin 2} (hM : Keeps M j.val)

include hM

theorem soft_real : soft M (re Q) (re K) = re fun i => Cert.SoftMax.prob (sc Q K j (i 0)) (i 1) := by
  have h (r : Fin 512) (m : Fin 256) : ∑ l : Fin 128, pick j.val Q (ix2 r l) * (1 / 8) * K (ix2 m l) = sc Q K j r m :=
    (Finset.sum_congr rfl fun l _ => by
      show (if l.val / 64 = j.val then Q (ix2 r l) else 0) * (1 / 8) * K (ix2 m l)
        = if l.val / 64 = j.val then Q (ix2 r l) * (1 / 8) * K (ix2 m l) else 0
      split_ifs <;> simp).trans (sum_half j fun l => Q (ix2 r l) * (1 / 8) * K (ix2 m l))
  unfold soft
  rw [scaled_real hM, score_real, normed_real]
  funext i
  refine congrArg (fun s : Fin 256 → ℝ => ((Cert.SoftMax.prob s (i 1) : ℝ) : EReal)) (funext fun m => ?_)
  exact h (i 0) m

theorem grad_real : grad M (re Q) (re D) (re K) (re W) = re fun i => gs Q D K W j (i 0) (i 1) := by
  have h (r : Fin 512) (m : Fin 256) : ∑ l : Fin 128, pick j.val D (ix2 r l) * W (ix2 m l) = up D W j r m :=
    (Finset.sum_congr rfl fun l _ => by
      show (if l.val / 64 = j.val then D (ix2 r l) else 0) * W (ix2 m l)
        = if l.val / 64 = j.val then D (ix2 r l) * W (ix2 m l) else 0
      split_ifs <;> simp).trans (sum_half j fun l => D (ix2 r l) * W (ix2 m l))
  unfold grad
  rw [soft_real Q K hM, kept_real hM, score_real]
  refine (dscore_real (fun i => sc Q K j (i 0) (i 1)) _).trans ?_
  funext i
  refine congrArg (fun u : Fin 256 → ℝ => ((Cert.SoftMax.dscore (sc Q K j (i 0)) u (i 1) : ℝ) : EReal)) (funext fun m => ?_)
  exact h (i 0) m

omit hM

theorem two_halves (l : Fin 128) (f : Fin 2 → ℝ) :
    (if l.val / 64 = 0 then f 0 else 0) + (if l.val / 64 = 1 then f 1 else 0) = f (half l) := by
  by_cases h : l.val / 64 = 0
  · rw [if_pos h, if_neg (by omega), add_zero, show half l = 0 from Fin.ext h]
  · have h1 : l.val / 64 = 1 := by omega
    rw [if_neg h, if_pos h1, zero_add, show half l = 1 from Fin.ext h1]

/-- The queries' gradient. -/
theorem storeQ_real : storeQ (re Q) (re D) (re K) (re W) = fun i : S1x512x128.Idx =>
    ((((∑ m : Fin 256, gs Q D K W (half (i 2)) (i 1) m * K (ix2 m (i 2))) * (1 / 8) : ℝ)) : EReal) := by
  unfold storeQ
  rw [grad_real Q D K W (j := 0) keeps0, grad_real Q D K W (j := 1) keeps1, dquery_real keeps0, dquery_real keeps1]
  funext i
  idx_vars i
  pointwise [k0_pay10]
  rw [← EReal.coe_add]
  refine congrArg _ ((add_mul _ _ _).symm.trans (congrArg (· * (1 / 8 : ℝ)) ?_))
  exact two_halves i2 fun j => ∑ m : Fin 256, gs Q D K W j i1 m * K (ix2 m i2)

/-- The keys' gradient. -/
theorem storeK_real (a : FVec Ideal S1x256x128 .f32) : storeK (re Q) (re D) (re K) (re W) a = fun i : S1x256x128.Idx =>
    a i + ((∑ r : Fin 512, gs Q D K W (half (i 2)) r (i 1) * (Q (ix2 r (i 2)) * (1 / 8)) : ℝ) : EReal) := by
  unfold storeK
  rw [grad_real Q D K W (j := 0) keeps0, grad_real Q D K W (j := 1) keeps1, scaled_real (j := 0) keeps0, scaled_real (j := 1) keeps1, dmem_real, dmem_real]
  funext i
  idx_vars i
  pointwise [k0_pay11]
  rw [← EReal.coe_add]
  obtain rfl : i0 = 0 := Subsingleton.elim _ _
  refine congrArg (fun z : ℝ => a (ix3 0 i1 i2) + (z : EReal)) ?_
  refine Eq.trans ?_ (two_halves i2 fun j => ∑ r : Fin 512, gs Q D K W j r i1 * (Q (ix2 r i2) * (1 / 8)))
  congr 1
  · show ∑ r : Fin 512, gs Q D K W 0 r i1 * ((if i2.val / 64 = 0 then Q (ix2 r i2) else 0) * (1 / 8)) = _
    split_ifs <;> simp
  · show ∑ r : Fin 512, gs Q D K W 1 r i1 * ((if i2.val / 64 = 1 then Q (ix2 r i2) else 0) * (1 / 8)) = _
    split_ifs <;> simp

/-- The values' gradient. -/
theorem storeV_real (a : FVec Ideal S1x256x128 .f32) : storeV (re Q) (re D) (re K) a = fun i : S1x256x128.Idx =>
    a i + ((∑ r : Fin 512, Cert.SoftMax.prob (sc Q K (half (i 2)) r) (i 1) * D (ix2 r (i 2)) : ℝ) : EReal) := by
  unfold storeV
  rw [soft_real Q K (j := 0) keeps0, soft_real Q K (j := 1) keeps1, kept_real (j := 0) keeps0, kept_real (j := 1) keeps1]
  refine (congrArg (fun z => shapeCast S1x256x128 (addf (F := Ideal) (shapeCast S256x128 a shapeCasts_S1x256x128_S256x128) z) shapeCasts_S256x128_S1x256x128)
    ((congrArg (dmem _ _) (dmem_real _ _ _)).trans (dmem_real _ _ _))).trans ?_
  funext i
  idx_vars i
  pointwise [k0_pay12]
  rw [← EReal.coe_add]
  obtain rfl : i0 = 0 := Subsingleton.elim _ _
  refine congrArg (fun z : ℝ => a (ix3 0 i1 i2) + (z : EReal)) ?_
  refine Eq.trans ?_ (two_halves i2 fun j => ∑ r : Fin 512, Cert.SoftMax.prob (sc Q K j r) i1 * D (ix2 r i2))
  congr 1
  · show ∑ r : Fin 512, Cert.SoftMax.prob (sc Q K 0 r) i1 * (if i2.val / 64 = 0 then D (ix2 r i2) else 0) = _
    split_ifs <;> simp
  · show ∑ r : Fin 512, Cert.SoftMax.prob (sc Q K 1 r) i1 * (if i2.val / 64 = 1 then D (ix2 r i2) else 0) = _
    split_ifs <;> simp

end real

end Cert.MemBwdIdeal.Pay

end
-- ==== Proof.MemFinal.lean ====
/- The arrays the memory attention's backward kernel leaves, at real numbers. -/
module

public import proofs.«01_k».proof.Proof.Gen.MemBwdIdeal.Frame
public import proofs.«01_k».proof.Proof.Gen.MemBwdIdeal.Launch
public import Idealize.ShloMosaic.Lib.Pipeline.ValueKit
public import Idealize.ShloMosaic.Lib.Pipeline.ReadBack
public import Idealize.ShloMosaic.Lib.Claim
public import proofs.«01_k».proof.Proof.MemHead

@[expose] public section

set_option maxRecDepth 16384

noncomputable section

open Idealize.ShloMosaic Idealize.ShloMosaic.TcCoe Idealize.SL.Sem
open Idealize.ShloMosaic.Pipeline (Dat)

namespace Cert.MemBwdIdeal.Pay

open Cert.MemBwdIdeal Cert.MemBwdIdeal.Gen Cert.RealLift

variable (m : (ℓ : Loc nD τ sig) → Buf (Elt Ideal) ℓ) (c : Dev nD)

theorem idx : ∀ t : Fin cfg0.N, win0_0.index t = ![t.val / 4, t.val % 4, 9] ∧ win0_1.index t = ![t.val / 4, 0, 0]
    ∧ win0_2.index t = ![t.val / 4, t.val % 4, 3] ∧ win0_3.index t = ![t.val / 4, t.val % 4, 0] ∧ win0_4.index t = ![t.val / 4, 0, 0] :=
  (by decide +kernel : ∀ t : Fin grid0.N, _)

/-- The batch element of a point. -/
def bt (t : Fin cfg0.N) : Fin 4 := ⟨t.val / 4, by have := t.isLt; have h : cfg0.N = 16 := N_0; omega⟩

/-- Row `r` of a point's block in the whole array. -/
def gr (t : Fin cfg0.N) (r : Fin 512) : Fin 2048 := ⟨t.val % 4 * 512 + r.val, by omega⟩

/-- Lane `l` of the queries among all lanes of the projection. -/
def ql (l : Fin 256) : Fin 2560 := ⟨2304 + l.val, by omega⟩

/-- Lane `l` of the outputs' gradient among all lanes. -/
def dl (l : Fin 256) : Fin 1024 := ⟨768 + l.val, by omega⟩

/-- Lane `l` of the memories' keys. -/
def kl (l : Fin 256) : Fin 512 := ⟨l.val, by omega⟩

/-- Lane `l` of the memories' values. -/
def vl (l : Fin 256) : Fin 512 := ⟨256 + l.val, by omega⟩

/-- Lane `e` of head `h`. -/
def hl (h : Fin 4) (e : Fin 64) : Fin 256 := ⟨h.val * 64 + e.val, by omega⟩

/-- The head of a lane. -/
def hd (l : Fin 256) : Fin 4 := ⟨l.val / 64, by omega⟩

/-- Lane `l` of pair `g` of heads. -/
def pl (g : Fin 2) (l : Fin 128) : Fin 256 := ⟨g.val * 128 + l.val, by omega⟩

/-- Head `j` of pair `g`. -/
def ph (g j : Fin 2) : Fin 4 := ⟨g.val * 2 + j.val, by omega⟩

theorem pl_lane (g j : Fin 2) (e : Fin 64) : pl g (lane j e) = hl (ph g j) e := by
  apply Fin.ext
  show g.val * 128 + (j.val * 64 + e.val) = (g.val * 2 + j.val) * 64 + e.val
  omega

theorem hd_pl (g : Fin 2) (l : Fin 128) : hd (pl g l) = ph g (half l) := by
  apply Fin.ext
  show (g.val * 128 + l.val) / 64 = g.val * 2 + l.val / 64
  omega

variable (H : S4x2048x2560.Idx → ℝ) (C : S4x256x512.Idx → ℝ) (G : S4x2048x1024.Idx → ℝ)

/-- The score of a query with a memory. -/
def gsc (b : Fin 4) (h : Fin 4) (r : Fin 2048) (k : Fin 256) : ℝ :=
  ∑ e : Fin 64, H (ix3 b r (ql (hl h e))) * (1 / 8) * C (ix3 b k (kl (hl h e)))

/-- The gradient that reaches a probability. -/
def gup (b : Fin 4) (h : Fin 4) (r : Fin 2048) (k : Fin 256) : ℝ :=
  ∑ e : Fin 64, G (ix3 b r (dl (hl h e))) * C (ix3 b k (vl (hl h e)))

/-- A score's gradient. -/
def ggs (b : Fin 4) (h : Fin 4) (r : Fin 2048) (k : Fin 256) : ℝ :=
  Cert.SoftMax.dscore (gsc H C b h r) (gup C G b h r) k

/-- The queries' gradient. -/
def gq (b : Fin 4) (r : Fin 2048) (l : Fin 256) : ℝ := (∑ k : Fin 256, ggs H C G b (hd l) r k * C (ix3 b k (kl l))) * (1 / 8)

/-- One row's part of the keys' gradient. -/
def gk (b : Fin 4) (k : Fin 256) (l : Fin 256) (r : Fin 2048) : ℝ := ggs H C G b (hd l) r k * (H (ix3 b r (ql l)) * (1 / 8))

/-- One row's part of the values' gradient. -/
def gv (b : Fin 4) (k : Fin 256) (l : Fin 256) (r : Fin 2048) : ℝ := Cert.SoftMax.prob (gsc H C b (hd l) r) k * G (ix3 b r (dl l))

/-- One row's part of the memories' gradient, keys then values. -/
def gm (b : Fin 4) (k : Fin 256) (l : Fin 512) (r : Fin 2048) : ℝ :=
  if h : l.val < 256 then gk H C G b k ⟨l.val, h⟩ r else gv H C G b k ⟨l.val - 256, by omega⟩ r

/-- The queries of pair `g` of heads at a point. -/
def qB (t : Fin cfg0.N) (g : Fin 2) (i : S512x128.Idx) : ℝ := H (ix3 (bt t) (gr t (i 0)) (ql (pl g (i 1))))

/-- The outputs' gradient of pair `g` of heads at a point. -/
def dB (t : Fin cfg0.N) (g : Fin 2) (i : S512x128.Idx) : ℝ := G (ix3 (bt t) (gr t (i 0)) (dl (pl g (i 1))))

/-- The memories' keys of pair `g` of heads at a point. -/
def kB (t : Fin cfg0.N) (g : Fin 2) (i : S256x128.Idx) : ℝ := C (ix3 (bt t) (i 0) (kl (pl g (i 1))))

/-- The memories' values of pair `g` of heads at a point. -/
def vB (t : Fin cfg0.N) (g : Fin 2) (i : S256x128.Idx) : ℝ := C (ix3 (bt t) (i 0) (vl (pl g (i 1))))

theorem sc_eq (t : Fin cfg0.N) (g j : Fin 2) (r : Fin 512) : sc (qB H t g) (kB C t g) j r = gsc H C (bt t) (ph g j) (gr t r) := by
  funext k
  unfold sc gsc
  refine Finset.sum_congr rfl fun e _ => ?_
  rw [← pl_lane]
  rfl

theorem gs_eq (t : Fin cfg0.N) (g j : Fin 2) (r : Fin 512) (k : Fin 256) :
    gs (qB H t g) (dB G t g) (kB C t g) (vB C t g) j r k = ggs H C G (bt t) (ph g j) (gr t r) k := by
  have h : up (dB G t g) (vB C t g) j r = gup C G (bt t) (ph g j) (gr t r) := by
    funext k
    unfold up gup
    refine Finset.sum_congr rfl fun e _ => ?_
    rw [← pl_lane]
    rfl
  unfold gs ggs
  rw [sc_eq, h]

variable (hH : m ((c : Thread nD τ).loc main_arg0) = re H) (hC : m ((c : Thread nD τ).loc main_arg1) = re C) (hG : m ((c : Thread nD τ).loc main_arg2) = re G)

include hH in
/-- The block's first pair of heads. -/
theorem qB0 (t : Fin cfg0.N) : k0_pay6 (F := Ideal) (View.ld (iblk m c 0 t) (Rect.unit ![0, 0, 0] ![1, 512, 128] inb_S1x512x256_S1x512x128_0_0_0)) = re (qB H t 0) := by
  funext i
  idx_vars i
  pointwise [k0_pay6]
  blk_simp [iblk]
  rw [show V m c main_arg0 = _ from hH]
  refine congrArg (re H) ?_
  blk_ext [idx t, gr, bt, ql, pl]

include hH in
/-- The block's second pair of heads. -/
theorem qB1 (t : Fin cfg0.N) : k0_pay6 (F := Ideal) (View.ld (iblk m c 0 t) (Rect.unit ![0, 0, 128] ![1, 512, 128] inb_S1x512x256_S1x512x128_0_0_128)) = re (qB H t 1) := by
  funext i
  idx_vars i
  pointwise [k0_pay6]
  blk_simp [iblk]
  rw [show V m c main_arg0 = _ from hH]
  refine congrArg (re H) ?_
  blk_ext [idx t, gr, bt, ql, pl]

include hG in
/-- The block's first pair of heads. -/
theorem dB0 (t : Fin cfg0.N) : k0_pay6 (F := Ideal) (View.ld (iblk m c 2 t) (Rect.unit ![0, 0, 0] ![1, 512, 128] inb_S1x512x256_S1x512x128_0_0_0)) = re (dB G t 0) := by
  funext i
  idx_vars i
  pointwise [k0_pay6]
  blk_simp [iblk]
  rw [show V m c main_arg2 = _ from hG]
  refine congrArg (re G) ?_
  blk_ext [idx t, gr, bt, dl, pl]

include hG in
/-- The block's second pair of heads. -/
theorem dB1 (t : Fin cfg0.N) : k0_pay6 (F := Ideal) (View.ld (iblk m c 2 t) (Rect.unit ![0, 0, 128] ![1, 512, 128] inb_S1x512x256_S1x512x128_0_0_128)) = re (dB G t 1) := by
  funext i
  idx_vars i
  pointwise [k0_pay6]
  blk_simp [iblk]
  rw [show V m c main_arg2 = _ from hG]
  refine congrArg (re G) ?_
  blk_ext [idx t, gr, bt, dl, pl]

include hC in
/-- The block's first pair of heads. -/
theorem kB0 (t : Fin cfg0.N) : k0_pay8 (F := Ideal) (View.ld (iblk m c 1 t) (Rect.unit ![0, 0, 0] ![1, 256, 128] inb_S1x256x512_S1x256x128_0_0_0)) = re (kB C t 0) := by
  funext i
  idx_vars i
  pointwise [k0_pay8]
  blk_simp [iblk]
  rw [show V m c main_arg1 = _ from hC]
  refine congrArg (re C) ?_
  blk_ext [idx t, gr, bt, kl, pl]

include hC in
/-- The block's second pair of heads. -/
theorem kB1 (t : Fin cfg0.N) : k0_pay8 (F := Ideal) (View.ld (iblk m c 1 t) (Rect.unit ![0, 0, 128] ![1, 256, 128] inb_S1x256x512_S1x256x128_0_0_128)) = re (kB C t 1) := by
  funext i
  idx_vars i
  pointwise [k0_pay8]
  blk_simp [iblk]
  rw [show V m c main_arg1 = _ from hC]
  refine congrArg (re C) ?_
  blk_ext [idx t, gr, bt, kl, pl]

include hC in
/-- The block's first pair of heads. -/
theorem vB0 (t : Fin cfg0.N) : k0_pay8 (F := Ideal) (View.ld (iblk m c 1 t) (Rect.unit ![0, 0, 256] ![1, 256, 128] inb_S1x256x512_S1x256x128_0_0_256)) = re (vB C t 0) := by
  funext i
  idx_vars i
  pointwise [k0_pay8]
  blk_simp [iblk]
  rw [show V m c main_arg1 = _ from hC]
  refine congrArg (re C) ?_
  blk_ext [idx t, gr, bt, vl, pl]

include hC in
/-- The block's second pair of heads. -/
theorem vB1 (t : Fin cfg0.N) : k0_pay8 (F := Ideal) (View.ld (iblk m c 1 t) (Rect.unit ![0, 0, 384] ![1, 256, 128] inb_S1x256x512_S1x256x128_0_0_384)) = re (vB C t 1) := by
  funext i
  idx_vars i
  pointwise [k0_pay8]
  blk_simp [iblk]
  rw [show V m c main_arg1 = _ from hC]
  refine congrArg (re C) ?_
  blk_ext [idx t, gr, bt, vl, pl]

/-- Two stores side by side are one array. -/
theorem two_pieces (T : S1x512x256.Idx → EReal) (P1 P0 : S1x512x128.Idx → EReal)
    (H1 : ∀ i1 i2, P1 (ix3 0 i1 i2) = T (ix3 0 i1 (pl 1 i2))) (H0 : ∀ i1 i2, P0 (ix3 0 i1 i2) = T (ix3 0 i1 (pl 0 i2))) :
    (View.canon [⟨Rect.unit ![0, 0, 128] ![1, 512, 128] inb_S1x512x256_S1x512x128_0_0_128, P1⟩,
      ⟨Rect.unit ![0, 0, 0] ![1, 512, 128] inb_S1x512x256_S1x512x128_0_0_0, P0⟩] : Vec Ideal S1x512x256 .bf16) = T := by
  funext y
  canon_tiles x h
  · refine ((congrArg P1 ?_).trans (H1 (x 1) (x 2))).trans (congrArg T ?_)
    all_goals blk_ext [pl]
  · refine ((congrArg P0 ?_).trans (H0 (x 1) (x 2))).trans (congrArg T ?_)
    all_goals blk_ext [pl]

/-- The index of a store of 128 lanes in the whole block. -/
theorem emb_lanes (o : ℕ) (inb) (x : S1x256x128.Idx) (l : Fin 512) (hl : l.val = o + (x 2).val) :
    (Rect.unit (s := S1x256x512) ![0, 0, o] ![1, 256, 128] inb).emb x = ix3 0 (x 1) l := by
  have h (y z : S1x256x512.Idx) (h0 : (y 0).val = (z 0).val) (h1 : (y 1).val = (z 1).val) (h2 : (y 2).val = (z 2).val) : y = z := by
    funext a
    fin_cases a
    · exact Fin.ext h0
    · exact Fin.ext h1
    · exact Fin.ext h2
  refine h _ _ ?_ ?_ ?_
  · rw [Rect.emb_apply]
    have : (x 0).val < 1 := (x 0).isLt
    show 0 + 1 * (x 0).val = 0
    omega
  · rw [Rect.emb_apply]
    show 0 + 1 * (x 1).val = (x 1).val
    omega
  · rw [Rect.emb_apply]
    show o + 1 * (x 2).val = l.val
    omega

/-- A store of 128 lanes, where the array it is part of is known off it. -/
theorem piece_lanes (T : S1x256x512.Idx → EReal) (o : ℕ) (inb) (P : S1x256x128.Idx → EReal) (L : List (View.Piece (Elt Ideal) S1x256x512 .f32))
    (h : ∀ (i1 : Fin 256) (i2 : Fin 128) (l : Fin 512), l.val = o + i2.val → P (ix3 0 i1 i2) = T (ix3 0 i1 l)) (y : S1x256x512.Idx)
    (hL : ¬(o ≤ (y 2).val ∧ (y 2).val < o + 128) → (View.canon L : Vec Ideal S1x256x512 .f32) y = T y) :
    (View.canon (⟨Rect.unit ![0, 0, o] ![1, 256, 128] inb, P⟩ :: L) : Vec Ideal S1x256x512 .f32) y = T y := by
  by_cases hy : o ≤ (y 2).val ∧ (y 2).val < o + 128
  · have e : (Rect.unit (s := S1x256x512) ![0, 0, o] ![1, 256, 128] inb).emb (ix3 0 (y 1) (⟨(y 2).val - o, by omega⟩ : Fin 128) : S1x256x128.Idx) = y := by
      rw [emb_lanes o inb _ (y 2) (by show _ = o + ((y 2).val - o); omega)]
      idx_vars y
      obtain rfl : y0 = 0 := Subsingleton.elim _ _
      rfl
    rw [← e]
    refine (View.canon_cons_emb (Rect.unit (s := S1x256x512) ![0, 0, o] ![1, 256, 128] inb) P L _).trans ?_
    rw [emb_lanes o inb _ (y 2) (by show _ = o + ((y 2).val - o); omega)]
    exact h _ _ _ (by show _ = o + ((y 2).val - o); omega)
  · refine (View.canon_cons_of_not_mem _ L fun hm => hy ?_).trans (hL hy)
    exact (Rect.mem_set_unit (inb := inb)).mp hm 2

/-- Four stores side by side are one array, whatever was stored before. -/
theorem four_pieces (T : S1x256x512.Idx → EReal) (P3 P2 P1 P0 : S1x256x128.Idx → EReal) (L : List (View.Piece (Elt Ideal) S1x256x512 .f32))
    (H3 : ∀ (i1 : Fin 256) (i2 : Fin 128) (l : Fin 512), l.val = 384 + i2.val → P3 (ix3 0 i1 i2) = T (ix3 0 i1 l))
    (H2 : ∀ (i1 : Fin 256) (i2 : Fin 128) (l : Fin 512), l.val = 128 + i2.val → P2 (ix3 0 i1 i2) = T (ix3 0 i1 l))
    (H1 : ∀ (i1 : Fin 256) (i2 : Fin 128) (l : Fin 512), l.val = 256 + i2.val → P1 (ix3 0 i1 i2) = T (ix3 0 i1 l))
    (H0 : ∀ (i1 : Fin 256) (i2 : Fin 128) (l : Fin 512), l.val = 0 + i2.val → P0 (ix3 0 i1 i2) = T (ix3 0 i1 l)) :
    (View.canon (⟨Rect.unit ![0, 0, 384] ![1, 256, 128] inb_S1x256x512_S1x256x128_0_0_384, P3⟩
      :: ⟨Rect.unit ![0, 0, 128] ![1, 256, 128] inb_S1x256x512_S1x256x128_0_0_128, P2⟩
      :: ⟨Rect.unit ![0, 0, 256] ![1, 256, 128] inb_S1x256x512_S1x256x128_0_0_256, P1⟩
      :: ⟨Rect.unit ![0, 0, 0] ![1, 256, 128] inb_S1x256x512_S1x256x128_0_0_0, P0⟩ :: L) : Vec Ideal S1x256x512 .f32) = T := by
  funext y
  refine piece_lanes T 384 _ P3 _ H3 y fun h3 => piece_lanes T 128 _ P2 _ H2 y fun h2 => piece_lanes T 256 _ P1 _ H1 y fun h1 =>
    piece_lanes T 0 _ P0 _ H0 y fun h0 => ?_
  have : (y 2).val < 512 := (y 2).isLt
  omega

/-- A load of 128 lanes, read at an index. -/
theorem ld_at (X : Vec Ideal S1x256x512 .f32) (o : ℕ) (inb) (i1 : Fin 256) (i2 : Fin 128) (l : Fin 512) (h : l.val = o + i2.val) :
    View.ld X (Rect.unit ![0, 0, o] ![1, 256, 128] inb) (ix3 0 i1 i2) = X (ix3 0 i1 l) :=
  congrArg X (emb_lanes o inb (ix3 0 i1 i2) l h)

section words

variable (t : Fin cfg0.N) (g : Fin 2) {q d : Vec Ideal S1x512x128 .f32} {k v : Vec Ideal S1x256x128 .f32} (a : Vec Ideal S1x256x128 .f32)
  (hq : k0_pay6 (F := Ideal) q = re (qB H t g)) (hd' : k0_pay6 (F := Ideal) d = re (dB G t g))
  (hk : k0_pay8 (F := Ideal) k = re (kB C t g)) (hv : k0_pay8 (F := Ideal) v = re (vB C t g))
  (i1 : Fin 256) (i2 : Fin 128) (l : Fin 512) (x : EReal) (hx : a (ix3 0 i1 i2) = x)

include hq hd' hk hv in
/-- What a point adds to the keys' gradient. -/
theorem storeK_word (hl : l.val = g.val * 128 + i2.val) (hx : a (ix3 0 i1 i2) = x) :
    storeK (k0_pay6 q) (k0_pay6 d) (k0_pay8 k) (k0_pay8 v) a (ix3 0 i1 i2)
      = x + ((∑ r : Fin 512, gm H C G (bt t) i1 l (gr t r) : ℝ) : EReal) := by
  rw [hq, hd', hk, hv, storeK_real]
  refine congrArg₂ (fun (a : EReal) (z : ℝ) => a + (z : EReal)) hx (Finset.sum_congr rfl fun r _ => ?_)
  show gs (qB H t g) (dB G t g) (kB C t g) (vB C t g) (half i2) r i1 * (qB H t g (ix2 r i2) * (1 / 8)) = _
  rw [gs_eq, ← hd_pl]
  unfold gm
  rw [dif_pos (by omega), show (⟨l.val, by omega⟩ : Fin 256) = pl g i2 from Fin.ext hl]
  rfl

include hq hd' hk in
/-- What a point adds to the values' gradient. -/
theorem storeV_word (hl : l.val = 256 + (g.val * 128 + i2.val)) (hx : a (ix3 0 i1 i2) = x) :
    storeV (k0_pay6 q) (k0_pay6 d) (k0_pay8 k) a (ix3 0 i1 i2)
      = x + ((∑ r : Fin 512, gm H C G (bt t) i1 l (gr t r) : ℝ) : EReal) := by
  rw [hq, hd', hk, storeV_real]
  refine congrArg₂ (fun (a : EReal) (z : ℝ) => a + (z : EReal)) hx (Finset.sum_congr rfl fun r _ => ?_)
  show Cert.SoftMax.prob (sc (qB H t g) (kB C t g) (half i2) r) i1 * dB G t g (ix2 r i2) = _
  rw [sc_eq, ← hd_pl]
  unfold gm
  rw [dif_neg (by omega), show (⟨l.val - 256, by omega⟩ : Fin 256) = pl g i2 from Fin.ext (by show l.val - 256 = g.val * 128 + i2.val; omega)]
  rfl

end words

include hH hC hG

/-- The queries' gradient. -/
theorem final3 : (dats m 0 c).arrAt 3 cfg0.N = fun i : S4x2048x256.Idx => ((gq H C G (i 0) (i 1) (i 2) : ℝ) : EReal) := by
  have h (t : Fin cfg0.N) : (outsAt0 m c t.val t.isLt).1 = fun i : S1x512x256.Idx => ((gq H C G (bt t) (gr t (i 1)) (i 2) : ℝ) : EReal) := by
    have hs (g : Fin 2) (i1 : Fin 512) (i2 : Fin 128) : storeQ (re (qB H t g)) (re (dB G t g)) (re (kB C t g)) (re (vB C t g)) (ix3 0 i1 i2)
        = ((gq H C G (bt t) (gr t i1) (pl g i2) : ℝ) : EReal) := by
      rw [storeQ_real]
      show ((((∑ k : Fin 256, gs (qB H t g) (dB G t g) (kB C t g) (vB C t g) (half i2) i1 k * kB C t g (ix2 k i2)) * (1 / 8) : ℝ)) : EReal) = _
      simp only [gs_eq]
      rw [gq, hd_pl]
      rfl
    by_cases h : t.val % 4 = 0
    · rw [outsAt0_A m c t h]
      frame_out
      rw [storeQ1, storeQ0, qB0 m c H hH, qB1 m c H hH, dB0 m c G hG, dB1 m c G hG, kB0 m c C hC, kB1 m c C hC, vB0 m c C hC, vB1 m c C hC]
      exact two_pieces _ _ _ (hs 1) (hs 0)
    · rw [outsAt0_B m c t h]
      frame_out
      rw [storeQ1, storeQ0, qB0 m c H hH, qB1 m c H hH, dB0 m c G hG, dB1 m c G hG, kB0 m c C hC, kB1 m c C hC, vB0 m c C hC, vB1 m c C hC]
      exact two_pieces _ _ _ (hs 1) (hs 0)
  refine (dats m 0 c).arrAt_eq_of_covers 3 _ (by decide +kernel) fun t hf y => ?_
  blk_simp
  rw [after0_3, h t]
  have e : (win0_3.blk t).view.emb y = ix3 (bt t) (gr t (y 1)) (y 2) := by blk_ext [idx t, bt, gr]
  exact (congrArg (fun i : S4x2048x256.Idx => ((gq H C G (i 0) (i 1) (i 2) : ℝ) : EReal)) e).symm

/-- The memories' gradient after a run's first point. -/
theorem first4 (t : Fin cfg0.N) (h : t.val % 4 = 0) :
    (outsAt0 m c t.val t.isLt).2 = fun i : S1x256x512.Idx => k0_pay4 (F := Ideal) i + ((∑ r : Fin 512, gm H C G (bt t) (i 1) (i 2) (gr t r) : ℝ) : EReal) := by
  rw [outsAt0_A m c t h]
  frame_out
  simp (disch := decide) only [↓View.readCov_skip, ↓View.readCov_fill]
  refine four_pieces _ _ _ _ _ _ (fun i1 i2 l hl => ?_) (fun i1 i2 l hl => ?_) (fun i1 i2 l hl => ?_) (fun i1 i2 l hl => ?_)
  · exact (congrFun (storeV1 _ _ _ _) _).trans (storeV_word H C G t 1 _ (qB1 m c H hH t) (dB1 m c G hG t) (kB1 m c C hC t) i1 i2 l _
      (by show l.val = 256 + (1 * 128 + i2.val); omega) (ld_at (k0_pay4 (F := Ideal)) 384 _ i1 i2 l hl))
  · exact (congrFun (storeK1 _ _ _ _ _) _).trans (storeK_word H C G t 1 _ (qB1 m c H hH t) (dB1 m c G hG t) (kB1 m c C hC t) (vB1 m c C hC t) i1 i2 l _
      (by show l.val = 1 * 128 + i2.val; omega) (ld_at (k0_pay4 (F := Ideal)) 128 _ i1 i2 l hl))
  · exact (congrFun (storeV0 _ _ _ _) _).trans (storeV_word H C G t 0 _ (qB0 m c H hH t) (dB0 m c G hG t) (kB0 m c C hC t) i1 i2 l _
      (by show l.val = 256 + (0 * 128 + i2.val); omega) (ld_at (k0_pay4 (F := Ideal)) 256 _ i1 i2 l hl))
  · exact (congrFun (storeK0 _ _ _ _ _) _).trans (storeK_word H C G t 0 _ (qB0 m c H hH t) (dB0 m c G hG t) (kB0 m c C hC t) (vB0 m c C hC t) i1 i2 l _
      (by show l.val = 0 * 128 + i2.val; omega) (ld_at (k0_pay4 (F := Ideal)) 0 _ i1 i2 l hl))

/-- The memories' gradient after any other point. -/
theorem next4 (t : Fin cfg0.N) (h : ¬t.val % 4 = 0) :
    (outsAt0 m c t.val t.isLt).2 = fun i : S1x256x512.Idx => (outsAt0 m c (t.val - 1) (Nat.lt_of_le_of_lt (Nat.sub_le _ _) t.isLt)).2 i
      + ((∑ r : Fin 512, gm H C G (bt t) (i 1) (i 2) (gr t r) : ℝ) : EReal) := by
  rw [outsAt0_B m c t h]
  frame_out
  refine four_pieces _ _ _ _ _ _ (fun i1 i2 l hl => ?_) (fun i1 i2 l hl => ?_) (fun i1 i2 l hl => ?_) (fun i1 i2 l hl => ?_)
  · exact (congrFun (storeV1 _ _ _ _) _).trans (storeV_word H C G t 1 _ (qB1 m c H hH t) (dB1 m c G hG t) (kB1 m c C hC t) i1 i2 l _
      (by show l.val = 256 + (1 * 128 + i2.val); omega) (ld_at _ 384 _ i1 i2 l hl))
  · exact (congrFun (storeK1 _ _ _ _ _) _).trans (storeK_word H C G t 1 _ (qB1 m c H hH t) (dB1 m c G hG t) (kB1 m c C hC t) (vB1 m c C hC t) i1 i2 l _
      (by show l.val = 1 * 128 + i2.val; omega) (ld_at _ 128 _ i1 i2 l hl))
  · exact (congrFun (storeV0 _ _ _ _) _).trans (storeV_word H C G t 0 _ (qB0 m c H hH t) (dB0 m c G hG t) (kB0 m c C hC t) i1 i2 l _
      (by show l.val = 256 + (0 * 128 + i2.val); omega) (ld_at _ 256 _ i1 i2 l hl))
  · exact (congrFun (storeK0 _ _ _ _ _) _).trans (storeK_word H C G t 0 _ (qB0 m c H hH t) (dB0 m c G hG t) (kB0 m c C hC t) (vB0 m c C hC t) i1 i2 l _
      (by show l.val = 0 * 128 + i2.val; omega) (ld_at _ 0 _ i1 i2 l hl))

/-- The memories' gradient. -/
theorem final4 : (dats m 0 c).arrAt 4 cfg0.N = fun i : S4x256x512.Idx => ((∑ r : Fin 2048, gm H C G (i 0) (i 1) (i 2) r : ℝ) : EReal) := by
  refine (dats m 0 c).arrAt_eq_of_covers 4 _ (by decide +kernel) fun t hf y => ?_
  blk_simp
  rw [after0_4, Pipeline.eq_sum_fin_of_reset_step_apply_of_flush (fun n h => (outsAt0 m c n h).2) 4 (fun _ => 0)
    (fun t i => ((∑ r : Fin 512, gm H C G (bt t) (i 1) (i 2) (gr t r) : ℝ) : EReal))
    (fun t h j => (congrFun (first4 m c H C G hH hC hG t h) j).trans (congrArg (· + _) (by pointwise [k0_pay4])))
    (fun t h j => congrFun (next4 m c H C G hH hC hG t h) j)
    t ((flush0_4 t).mp hf) _, zero_add, coe_sum]
  have e : (win0_4.blk t).view.emb y = ix3 (bt t) (y 1) (y 2) := by blk_ext [idx t, bt]
  refine (congrArg (fun z : ℝ => (z : EReal)) ?_).trans (congrArg (fun i : S4x256x512.Idx => ((∑ r : Fin 2048, gm H C G (i 0) (i 1) (i 2) r : ℝ) : EReal)) e).symm
  refine Eq.trans ?_ (Fin.sum_univ_tiles 4 512 (by norm_num) fun r : Fin 2048 => gm H C G (bt t) (y 1) (y 2) r).symm
  refine Finset.sum_congr rfl fun s _ => Finset.sum_congr rfl fun r _ => ?_
  have hb : bt ⟨4 * (t.val / 4) + s.val, Pipeline.run_point_lt_of_flush t ((flush0_4 t).mp hf) s⟩ = bt t := Fin.ext (by show (4 * (t.val / 4) + s.val) / 4 = t.val / 4; omega)
  have hr : gr ⟨4 * (t.val / 4) + s.val, Pipeline.run_point_lt_of_flush t ((flush0_4 t).mp hf) s⟩ r = ⟨s.val * 512 + r.val, by omega⟩ :=
    Fin.ext (by show (4 * (t.val / 4) + s.val) % 4 * 512 + r.val = s.val * 512 + r.val; omega)
  rw [hb, hr]

end Cert.MemBwdIdeal.Pay

end
-- ==== Proof.MemRef.lean ====
/- The reference gradients of the memory attention, at real numbers. -/
module

public import proofs.«01_k».proof.Proof.Gen.MemGradIdeal.Run
public import Idealize.ShloMosaic.Lib.Pipeline.ValueKit
public import proofs.«01_k».proof.Proof.MemFinal

@[expose] public section

set_option maxRecDepth 16384

noncomputable section

open Idealize.ShloMosaic Idealize.ShloMosaic.TcCoe Idealize.SL.Sem

namespace Cert.MemGradIdeal.Ref

open Cert.MemGradIdeal Cert.MemGradIdeal.Gen Cert.RealLift
open Cert.MemBwdIdeal.Pay (ql dl kl vl hl hd gsc gup ggs gq gk gv gm)

/-- The scaled scores. -/
def scores (q : FVec Ideal S4x2048x4x64 .f32) (k : FVec Ideal S4x256x4x64 .f32) : FVec Ideal S4x4x2048x256 .f32 :=
  mulf (Host.dotGeneral dot_S4x2048x4x64_S4x256x4x64_S4x4x2048x256_3_3_1_1_02_02 none q k)
    (broadcastInDim S4x4x2048x256 ![] bcast_S_S4x4x2048x256 (constant (F := Ideal) S_ .f32 0x3E000000#32))

/-- The largest score of each row. -/
def tops (s : FVec Ideal S4x4x2048x256 .f32) : FVec Ideal S4x4x2048 .f32 :=
  maximumf (broadcastInDim S4x4x2048 ![] bcast_S_S4x4x2048 (constant (F := Ideal) S_ .f32 0xFF800000#32))
    (Host.reduce FloatOps.maximumf s (constant (F := Ideal) S_ .f32 0xFF800000#32) reducesTo_S4x4x2048x256_S4x4x2048_d3 h_S_)

/-- The exponentials of the scores less the largest of their row. -/
def expo (s : FVec Ideal S4x4x2048x256 .f32) : FVec Ideal S4x4x2048x256 .f32 :=
  Host.exp (subf s (broadcastInDim S4x4x2048x256 ![0, 1, 2, 3] bcast_S4x4x2048x1_S4x4x2048x256_0_1_2_3
    (broadcastInDim S4x4x2048x1 ![0, 1, 2] bcast_S4x4x2048_S4x4x2048x1_0_1_2 (tops s))))

/-- The rows' sums. -/
def den (e : FVec Ideal S4x4x2048x256 .f32) : FVec Ideal S4x4x2048x1 .f32 :=
  broadcastInDim S4x4x2048x1 ![0, 1, 2] bcast_S4x4x2048_S4x4x2048x1_0_1_2
    (Host.reduceAdd e (constant (F := Ideal) S_ .f32 0x00000000#32) reducesTo_S4x4x2048x256_S4x4x2048_d3 h_S_)

/-- The probabilities. -/
def probs (e : FVec Ideal S4x4x2048x256 .f32) : FVec Ideal S4x4x2048x256 .f32 :=
  Host.divf e (broadcastInDim S4x4x2048x256 ![0, 1, 2, 3] bcast_S4x4x2048x1_S4x4x2048x256_0_1_2_3 (den e))

/-- The gradient that reaches the rows' sums, negated back. -/
def dden (e dp : FVec Ideal S4x4x2048x256 .f32) : FVec Ideal S4x4x2048x1 .f32 :=
  Host.negf (shapeCast S4x4x2048x1 (Host.reduceAdd (mulf (mulf dp (broadcastInDim S4x4x2048x256 ![0, 1, 2, 3] bcast_S4x4x2048x1_S4x4x2048x256_0_1_2_3
    (Host.divf (broadcastInDim S4x4x2048x1 ![] bcast_S_S4x4x2048x1 (constant (F := Ideal) S_ .f32 0x3F800000#32)) (mulf (den e) (den e))))) e)
    (constant (F := Ideal) S_ .f32 0x00000000#32) reducesTo_S4x4x2048x256_S4x4x2048_d3 h_S_) shapeCasts_S4x4x2048_S4x4x2048x1)

/-- The gradient of the products, before the scale. -/
def dscores (e dp : FVec Ideal S4x4x2048x256 .f32) : FVec Ideal S4x4x2048x256 .f32 :=
  mulf (mulf (addf (Host.divf dp (broadcastInDim S4x4x2048x256 ![0, 1, 2, 3] bcast_S4x4x2048x1_S4x4x2048x256_0_1_2_3 (den e)))
    (broadcastInDim S4x4x2048x256 ![0, 1, 2] bcast_S4x4x2048_S4x4x2048x256_0_1_2
      (Host.reduceAdd (dden e dp) (constant (F := Ideal) S_ .f32 0x00000000#32) reducesTo_S4x4x2048x1_S4x4x2048_d3 h_S_))) e)
    (broadcastInDim S4x4x2048x256 ![] bcast_S_S4x4x2048x256 (constant (F := Ideal) S_ .f32 0x3E000000#32))

/-- The queries by head. -/
def qs (x : FVec Ideal S4x2048x2560 .f32) : FVec Ideal S4x2048x4x64 .f32 :=
  shapeCast S4x2048x4x64 (extractStridedSlice S4x2048x256 ![0, 0, 2304] x slices_S4x2048x2560_S4x2048x256_0_0_2304) shapeCasts_S4x2048x256_S4x2048x4x64

/-- The memories' keys by head. -/
def ks (x : FVec Ideal S4x256x512 .f32) : FVec Ideal S4x256x4x64 .f32 :=
  shapeCast S4x256x4x64 (extractStridedSlice S4x256x256 ![0, 0, 0] x slices_S4x256x512_S4x256x256_0_0_0) shapeCasts_S4x256x256_S4x256x4x64

/-- The memories' values by head. -/
def vs (x : FVec Ideal S4x256x512 .f32) : FVec Ideal S4x256x4x64 .f32 :=
  shapeCast S4x256x4x64 (extractStridedSlice S4x256x256 ![0, 0, 256] x slices_S4x256x512_S4x256x256_0_0_256) shapeCasts_S4x256x256_S4x256x4x64

/-- The outputs' gradient by head. -/
def ds (x : FVec Ideal S4x2048x1024 .f32) : FVec Ideal S4x4x64x2048 .f32 :=
  transpose S4x4x64x2048 [0, 2, 3, 1] (shapeCast S4x2048x4x64 (extractStridedSlice S4x2048x256 ![0, 0, 768] x slices_S4x2048x1024_S4x2048x256_0_0_768)
    shapeCasts_S4x2048x256_S4x2048x4x64) transposes_S4x2048x4x64_S4x4x64x2048_0_2_3_1

/-- The gradient that reaches the probabilities. -/
def ups (d : FVec Ideal S4x4x64x2048 .f32) (v : FVec Ideal S4x256x4x64 .f32) : FVec Ideal S4x4x2048x256 .f32 :=
  Host.dotGeneral dot_S4x4x64x2048_S4x256x4x64_S4x4x2048x256_2_3_3_1_01_02 none d v

/-- The queries' gradient. -/
def outQ (g : FVec Ideal S4x4x2048x256 .f32) (k : FVec Ideal S4x256x4x64 .f32) : FVec Ideal S4x2048x256 .bf16 :=
  truncf .bf16 (shapeCast S4x2048x256 (transpose S4x2048x4x64 [0, 2, 1, 3] (Host.dotGeneral dot_S4x4x2048x256_S4x256x4x64_S4x4x2048x64_3_1_2_3_01_02 none g k)
    transposes_S4x4x2048x64_S4x2048x4x64_0_2_1_3) shapeCasts_S4x2048x4x64_S4x2048x256) bitsLt_bf16_f32

/-- The keys' gradient. -/
def outK (g : FVec Ideal S4x4x2048x256 .f32) (q : FVec Ideal S4x2048x4x64 .f32) : FVec Ideal S4x256x256 .f32 :=
  shapeCast S4x256x256 (transpose S4x256x4x64 [0, 2, 1, 3] (Host.dotGeneral dot_S4x4x2048x256_S4x2048x4x64_S4x4x256x64_2_1_3_3_01_02 none g q)
    transposes_S4x4x256x64_S4x256x4x64_0_2_1_3) shapeCasts_S4x256x4x64_S4x256x256

/-- The values' gradient. -/
def outV (d : FVec Ideal S4x4x64x2048 .f32) (p : FVec Ideal S4x4x2048x256 .f32) : FVec Ideal S4x256x256 .f32 :=
  shapeCast S4x256x256 (transpose S4x256x4x64 [0, 3, 1, 2] (Host.dotGeneral dot_S4x4x64x2048_S4x4x2048x256_S4x4x64x256_3_2_2_3_01_01 none d p)
    transposes_S4x4x64x256_S4x256x4x64_0_3_1_2) shapeCasts_S4x256x4x64_S4x256x256

section words

variable (m : (ℓ : Loc nD τ sig) → Buf (Elt Ideal) ℓ) (c : Dev nD)
variable (x : FVec Ideal S4x2048x2560 .f32) (y : FVec Ideal S4x256x512 .f32) (z : FVec Ideal S4x2048x1024 .f32)

theorem res_q (hx : m ((c.tc : Thread nD τ).loc main_arg0) = x) (hy : m ((c.tc : Thread nD τ).loc main_arg1) = y) (hz : m ((c.tc : Thread nD τ).loc main_arg2) = z) :
    Value.res_main_v68 (F := Ideal) m c = outQ (dscores (expo (scores (qs x) (ks y))) (ups (ds z) (vs y))) (ks y) := by
  subst hx hy hz
  rfl

theorem res_m (hx : m ((c.tc : Thread nD τ).loc main_arg0) = x) (hy : m ((c.tc : Thread nD τ).loc main_arg1) = y) (hz : m ((c.tc : Thread nD τ).loc main_arg2) = z) :
    Value.res_main_v67 (F := Ideal) m c = Value.fn_main_v67 (F := Ideal) (outK (dscores (expo (scores (qs x) (ks y))) (ups (ds z) (vs y))) (qs x))
      (outV (ds z) (probs (expo (scores (qs x) (ks y))))) := by
  subst hx hy hz
  rfl

end words

section real

variable (H : S4x2048x2560.Idx → ℝ) (C : S4x256x512.Idx → ℝ) (G : S4x2048x1024.Idx → ℝ)

theorem qs_real : qs (re H) = re fun i : S4x2048x4x64.Idx => H (ix3 (i 0) (i 1) (ql (hl (i 2) (i 3)))) := by
  funext i
  idx_vars i
  pointwise [qs]
  refine congrArg (re H) ?_
  blk_ext [ql, hl]

theorem ks_real : ks (re C) = re fun i : S4x256x4x64.Idx => C (ix3 (i 0) (i 1) (kl (hl (i 2) (i 3)))) := by
  funext i
  idx_vars i
  pointwise [ks]
  refine congrArg (re C) ?_
  blk_ext [kl, hl]

theorem vs_real : vs (re C) = re fun i : S4x256x4x64.Idx => C (ix3 (i 0) (i 1) (vl (hl (i 2) (i 3)))) := by
  funext i
  idx_vars i
  pointwise [vs]
  refine congrArg (re C) ?_
  blk_ext [vl, hl]

theorem ds_real : ds (re G) = re fun i : S4x4x64x2048.Idx => G (ix3 (i 0) (i 3) (dl (hl (i 1) (i 2)))) := by
  funext i
  idx_vars i
  pointwise [ds]
  refine congrArg (re G) ?_
  blk_ext [dl, hl]

theorem scores_real : scores (qs (re H)) (ks (re C)) = re fun i : S4x4x2048x256.Idx => gsc H C (i 0) (i 1) (i 2) (i 3) := by
  rw [qs_real, ks_real]
  funext i
  idx_vars i
  pointwise [scores]
  rw [Cert.MemBwdIdeal.Pay.ofBits_eighth]
  simp only [← EReal.coe_mul, coe_sum]
  refine congrArg (fun z : ℝ => (z : EReal)) ?_
  show (∑ e : Fin 64, H (ix3 i0 i2 (ql (hl i1 e))) * C (ix3 i0 i3 (kl (hl i1 e)))) * (1 / 8) = gsc H C i0 i1 i2 i3
  rw [gsc, Finset.sum_mul]
  exact Finset.sum_congr rfl fun e _ => by ring

theorem ups_real : ups (ds (re G)) (vs (re C)) = re fun i : S4x4x2048x256.Idx => gup C G (i 0) (i 1) (i 2) (i 3) := by
  rw [ds_real, vs_real]
  funext i
  idx_vars i
  pointwise [ups]
  simp only [← EReal.coe_mul, coe_sum]
  rfl

theorem tops_fold (s : FVec Ideal S4x4x2048x256 .f32) (c : FVec Ideal S_ .f32) (i0 i1 : Fin 4) (i2 : Fin 2048) :
    Host.reduce FloatOps.maximumf s c reducesTo_S4x4x2048x256_S4x4x2048_d3 h_S_ (ix3 i0 i1 i2)
      = Finset.fold max (c (Shape.Idx.first h_S_)) (fun k => s (ix4 i0 i1 i2 k)) Finset.univ := by
  pointwise []

theorem max_bot (x y : FVec Ideal S4x4x2048 .f32) (hx : ∀ i, x i = ⊥) (i : S4x4x2048.Idx) : maximumf x y i = y i := by
  show max (x i) (y i) = y i
  rw [hx]
  exact bot_sup_eq _

theorem tops_apply (s : FVec Ideal S4x4x2048x256 .f32) (i0 i1 : Fin 4) (i2 : Fin 2048) :
    tops s (ix3 i0 i1 i2) = Finset.fold max (Ideal.ofBits .f32 0xFF800000#32) (fun k => s (ix4 i0 i1 i2 k)) Finset.univ :=
  (max_bot _ _ (fun _ => ofBits_bot) _).trans (tops_fold _ _ _ _ _)

theorem fold_row (s : S4x4x2048x256.Idx → ℝ) (i0 i1 : Fin 4) (i2 : Fin 2048) :
    ∃ t : ℝ, Finset.fold max (Ideal.ofBits .f32 0xFF800000#32) (fun k => re s (ix4 i0 i1 i2 k)) Finset.univ = (t : EReal) := by
  rw [ofBits_bot]
  exact Cert.SoftMax.fold_max_real fun k : Fin 256 => s (ix4 i0 i1 i2 k)

theorem tops_real (s : S4x4x2048x256.Idx → ℝ) : ∃ t : S4x4x2048.Idx → ℝ, tops (re s) = re t := by
  choose t ht using fold_row s
  refine ⟨fun i => t (i 0) (i 1) (i 2), ?_⟩
  funext i
  idx_vars i
  exact (tops_apply _ i0 i1 i2).trans (ht i0 i1 i2)

theorem expo_real (s : S4x4x2048x256.Idx → ℝ) : ∃ t : S4x4x2048.Idx → ℝ, expo (re s) = re fun i => Real.exp (s i - t (ix3 (i 0) (i 1) (i 2))) := by
  obtain ⟨t, ht⟩ := tops_real s
  refine ⟨t, ?_⟩
  unfold expo
  rw [ht]
  funext i
  idx_vars i
  pointwise []
  exact Ideal.exp_coe _

theorem den_real (e : S4x4x2048x256.Idx → ℝ) : den (re e) = re fun i : S4x4x2048x1.Idx => ∑ k : Fin 256, e (ix4 (i 0) (i 1) (i 2) k) := by
  funext i
  idx_vars i
  pointwise [den]
  simp only [coe_sum]
  rfl

theorem probs_real (s : S4x4x2048x256.Idx → ℝ) :
    probs (expo (re s)) = re fun i => Cert.SoftMax.prob (fun k => s (ix4 (i 0) (i 1) (i 2) k)) (i 3) := by
  obtain ⟨t, ht⟩ := expo_real s
  rw [ht]
  unfold probs
  rw [den_real]
  funext i
  idx_vars i
  pointwise []
  refine (div_real _ (Cert.SoftMax.sum_pos (fun k => s (ix4 i0 i1 i2 k)) i3 _).ne').trans ?_
  exact congrArg (fun z : ℝ => (z : EReal)) (Cert.SoftMax.prob_shift (fun k => s (ix4 i0 i1 i2 k)) _ i3)

theorem dden_real (e u : S4x4x2048x256.Idx → ℝ) (hD : ∀ a b r, ∑ k : Fin 256, e (ix4 a b r k) ≠ 0) : dden (re e) (re u) = re fun i : S4x4x2048x1.Idx =>
    -∑ k : Fin 256, u (ix4 (i 0) (i 1) (i 2) k) * (1 / ((∑ j : Fin 256, e (ix4 (i 0) (i 1) (i 2) j)) * ∑ j : Fin 256, e (ix4 (i 0) (i 1) (i 2) j))) * e (ix4 (i 0) (i 1) (i 2) k) := by
  unfold dden
  rw [den_real]
  funext i
  idx_vars i
  obtain rfl : i3 = 0 := Subsingleton.elim _ _
  pointwise []
  have h : ∀ k : Fin 256, ((u (ix4 i0 i1 i2 k) : ℝ) : EReal) * Ideal.div ((1 : ℝ) : EReal) (((∑ j : Fin 256, e (ix4 i0 i1 i2 j) : ℝ) : EReal) * ((∑ j : Fin 256, e (ix4 i0 i1 i2 j) : ℝ) : EReal))
      * ((e (ix4 i0 i1 i2 k) : ℝ) : EReal) = ((u (ix4 i0 i1 i2 k) * (1 / ((∑ j : Fin 256, e (ix4 i0 i1 i2 j)) * ∑ j : Fin 256, e (ix4 i0 i1 i2 j))) * e (ix4 i0 i1 i2 k) : ℝ) : EReal) := fun k => by
    rw [← EReal.coe_mul (∑ j : Fin 256, e (ix4 i0 i1 i2 j)), div_real _ (mul_ne_zero (hD _ _ _) (hD _ _ _)), ← EReal.coe_mul, ← EReal.coe_mul]
  refine (congrArg Neg.neg ((Finset.sum_congr rfl fun k _ => h k).trans (coe_sum _ _))).trans ?_
  exact (EReal.coe_neg _).symm

theorem dscore_words {n : ℕ} (s u : Fin n → ℝ) (t : ℝ) (k : Fin n) :
    (Ideal.div ((u k : ℝ) : EReal) ((∑ j, Real.exp (s j - t) : ℝ) : EReal)
      + ∑ _x : Fin 1, ((-∑ j, u j * (1 / ((∑ j, Real.exp (s j - t)) * ∑ j, Real.exp (s j - t))) * Real.exp (s j - t) : ℝ) : EReal))
        * ((Real.exp (s k - t) : ℝ) : EReal) * Ideal.ofBits .f32 0x3E000000#32 = ((Cert.SoftMax.dscore s u k * (1 / 8) : ℝ) : EReal) := by
  rw [Fin.sum_univ_one, div_real _ (Cert.SoftMax.sum_pos s k t).ne', Cert.MemBwdIdeal.Pay.ofBits_eighth, ← EReal.coe_add, ← EReal.coe_mul, ← EReal.coe_mul,
    Cert.SoftMax.dscore_shift]

theorem dscores_real (s u : S4x4x2048x256.Idx → ℝ) : dscores (expo (re s)) (re u) = re fun i =>
    Cert.SoftMax.dscore (fun k => s (ix4 (i 0) (i 1) (i 2) k)) (fun k => u (ix4 (i 0) (i 1) (i 2) k)) (i 3) * (1 / 8) := by
  obtain ⟨t, ht⟩ := expo_real s
  have hD : ∀ a b r, ∑ k : Fin 256, Real.exp (s (ix4 a b r k) - t (ix3 a b r)) ≠ 0 :=
    fun a b r => (Cert.SoftMax.sum_pos (fun k => s (ix4 a b r k)) 0 (t (ix3 a b r))).ne'
  rw [ht]
  unfold dscores
  rw [dden_real _ _ hD, den_real]
  funext i
  idx_vars i
  pointwise []
  exact dscore_words (fun k => s (ix4 i0 i1 i2 k)) (fun k => u (ix4 i0 i1 i2 k)) (t (ix3 i0 i1 i2)) i3

theorem hl_split (l : Fin 256) : hl (hd l) ⟨l.val % 64, Nat.mod_lt _ (by norm_num)⟩ = l := by
  ext
  show l.val / 64 * 64 + l.val % 64 = l.val
  omega

theorem outQ_real (g : S4x4x2048x256.Idx → ℝ) : outQ (re g) (ks (re C)) = re fun i : S4x2048x256.Idx =>
    ∑ k : Fin 256, g (ix4 (i 0) (hd (i 2)) (i 1) k) * C (ix3 (i 0) k (kl (i 2))) := by
  rw [ks_real]
  funext i
  idx_vars i
  pointwise [outQ]
  simp only [← EReal.coe_mul, coe_sum]
  refine congrArg (fun z : ℝ => (z : EReal)) (Finset.sum_congr rfl fun k _ => ?_)
  exact congrArg (fun l => g (ix4 i0 (hd i2) i1 k) * C (ix3 i0 k (kl l))) (hl_split i2)

theorem outK_real (g : S4x4x2048x256.Idx → ℝ) : outK (re g) (qs (re H)) = re fun i : S4x256x256.Idx =>
    ∑ r : Fin 2048, g (ix4 (i 0) (hd (i 2)) r (i 1)) * H (ix3 (i 0) r (ql (i 2))) := by
  rw [qs_real]
  funext i
  idx_vars i
  pointwise [outK]
  simp only [← EReal.coe_mul, coe_sum]
  refine congrArg (fun z : ℝ => (z : EReal)) (Finset.sum_congr rfl fun r _ => ?_)
  exact congrArg (fun l => g (ix4 i0 (hd i2) r i1) * H (ix3 i0 r (ql l))) (hl_split i2)

theorem outV_real (p : S4x4x2048x256.Idx → ℝ) : outV (ds (re G)) (re p) = re fun i : S4x256x256.Idx =>
    ∑ r : Fin 2048, G (ix3 (i 0) r (dl (i 2))) * p (ix4 (i 0) (hd (i 2)) r (i 1)) := by
  rw [ds_real]
  funext i
  idx_vars i
  pointwise [outV]
  simp only [← EReal.coe_mul, coe_sum]
  refine congrArg (fun z : ℝ => (z : EReal)) (Finset.sum_congr rfl fun r _ => ?_)
  exact congrArg (fun l => G (ix3 i0 r (dl l)) * p (ix4 i0 (hd i2) r i1)) (hl_split i2)

/-- The queries' gradient at real numbers. -/
theorem finalQ : outQ (dscores (expo (scores (qs (re H)) (ks (re C)))) (ups (ds (re G)) (vs (re C)))) (ks (re C))
    = fun i : S4x2048x256.Idx => ((gq H C G (i 0) (i 1) (i 2) : ℝ) : EReal) := by
  rw [scores_real, ups_real, dscores_real, outQ_real]
  funext i
  refine congrArg (fun z : ℝ => (z : EReal)) ?_
  refine Eq.trans ?_ (Finset.sum_mul _ _ _).symm
  exact Finset.sum_congr rfl fun k _ => mul_right_comm _ _ _

theorem gk_sum (b : Fin 4) (k l : Fin 256) : ∑ r : Fin 2048, Cert.MemBwdIdeal.Pay.ggs H C G b (hd l) r k * (1 / 8) * H (ix3 b r (ql l)) = ∑ r, gk H C G b k l r :=
  Finset.sum_congr rfl fun r _ => by rw [gk]; ring

theorem gv_sum (b : Fin 4) (k l : Fin 256) :
    ∑ r : Fin 2048, G (ix3 b r (dl l)) * Cert.SoftMax.prob (gsc H C b (hd l) r) k = ∑ r, gv H C G b k l r :=
  Finset.sum_congr rfl fun r _ => by rw [gv]; ring

/-- The memories' gradient at real numbers. -/
theorem finalM : Value.fn_main_v67 (F := Ideal) (outK (dscores (expo (scores (qs (re H)) (ks (re C)))) (ups (ds (re G)) (vs (re C)))) (qs (re H)))
      (outV (ds (re G)) (probs (expo (scores (qs (re H)) (ks (re C))))))
    = fun i : S4x256x512.Idx => ((∑ r : Fin 2048, gm H C G (i 0) (i 1) (i 2) r : ℝ) : EReal) := by
  rw [scores_real, ups_real, dscores_real, outK_real, probs_real, outV_real]
  funext i
  idx_vars i
  pointwise [Value.fn_main_v67]
  by_cases h : i2.val < 256
  · rw [dif_pos h]
    exact congrArg (fun z : ℝ => (z : EReal)) ((gk_sum H C G i0 i1 ⟨i2, h⟩).trans (Finset.sum_congr rfl fun r _ => by rw [gm, dif_pos h]))
  · rw [dif_neg h]
    exact congrArg (fun z : ℝ => (z : EReal)) ((gv_sum H C G i0 i1 ⟨i2 - 256, by omega⟩).trans (Finset.sum_congr rfl fun r _ => by rw [gm, dif_neg h]))

end real

end Cert.MemGradIdeal.Ref

end
-- ==== Proof.MemClaim.lean ====
/- The memory attention: the kernel computes the derivative of the forward lines. -/
module

public import proofs.«01_k».proof.Defs
public import proofs.«01_k».proof.Proof.Gen.MemGradIdeal.Run
public import proofs.«01_k».proof.Proof.MemFinal
public import proofs.«01_k».proof.Proof.MemRef

@[expose] public section

set_option maxRecDepth 16384

noncomputable section

open Idealize.ShloMosaic Idealize.ShloMosaic.TcCoe Idealize.SL.Sem

namespace Cert.MemBwdIdeal.Pay

open Cert.MemBwdIdeal Cert.MemBwdIdeal.Gen

variable (m : (ℓ : Loc nD τ sig) → Buf (Elt Ideal) ℓ) (ρ : Dev nD → PrngReg)

/-- A run ends with both gradients as the pipeline leaves them and with the arguments unchanged. -/
theorem run : θ_run defs (onTc (τ := τ) (main (F := Ideal))) ⟨m, fun _ => 0, ρ⟩ fun r => ∀ c : Dev nD,
    r.2.mem ((c : Thread nD τ).loc main_v0_0) = (dats m 0 c).arrAt 3 cfg0.N
    ∧ r.2.mem ((c : Thread nD τ).loc main_v0_1) = (dats m 0 c).arrAt 4 cfg0.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun _ h c => ⟨(h.1 c).1 3, (h.1 c).1 4, h.2 c⟩) (θ_run_and (run_main m ρ) (unchanged m ρ))

end Cert.MemBwdIdeal.Pay

namespace Cert.MemProof

open Cert.RealLift

/-- The side conditions of the precondition's operations. -/
instance facts : Cert.Pre_mem_finite.Facts :=
  ⟨by decide, by decide, by decide, by decide, by decide, by decide, by decide⟩

/-- Arrays the precondition holds of are arrays of real numbers. -/
theorem finite {x0 x1 x2} (h : Cert.Pre_mem_finite.fn (F := Ideal) x0 x1 x2 = fun _ => 1#1) :
    (∃ y, x0 = re y) ∧ (∃ y, x1 = re y) ∧ ∃ y, x2 = re y := by
  have h := congrFun h fun a => a.elim0
  unfold Cert.Pre_mem_finite.fn Cert.Pre_mem_finite.fn_part1 at h
  dsimp only at h
  obtain ⟨h, h2⟩ := IntOp.andi_eq_one.1 h
  obtain ⟨h0, h1⟩ := IntOp.andi_eq_one.1 h
  exact ⟨real_of_all ofBits_bot ofBits_top h0, real_of_all ofBits_bot ofBits_top h1, real_of_all ofBits_bot ofBits_top h2⟩

open Cert.MemBwdIdeal.Pay in
set_option maxHeartbeats 1600000 in
/-- The kernel and the derivative of the forward lines compute the same gradients of finite arrays. -/
theorem algebraic : Cert.algebraic_MemBwdIdeal_MemGradIdeal_pre_mem_finite (hMemBwdIdeal := Cert.MemBwdIdeal.Gen.facts)
    (hMemGradIdeal := Cert.MemGradIdeal.Gen.facts) (hPre_mem_finite := facts) := by
  intro m ρ m' ρ' hpre hag
  refine ⟨fun c => (Cert.MemBwdIdeal.Gen.dats m 0 c).arrAt 3 Cert.MemBwdIdeal.cfg0.N, fun c => (Cert.MemBwdIdeal.Gen.dats m 0 c).arrAt 4 Cert.MemBwdIdeal.cfg0.N,
    Cert.MemBwdIdeal.Pay.run m ρ, θ_run_mono (Cert.MemGradIdeal.Value.run m' ρ') fun r h c => ?_⟩
  obtain ⟨⟨H, hH⟩, ⟨C, hC⟩, ⟨G, hG⟩⟩ := finite (hpre c)
  obtain ⟨a0, a1, a2⟩ := hag c
  obtain ⟨h0, h1, hrest⟩ := h c
  rw [hH] at a0
  rw [hC] at a1
  rw [hG] at a2
  refine ⟨?_, ?_, hrest⟩
  · rw [h0]
    exact ((Cert.MemGradIdeal.Ref.res_q m' c _ _ _ a0 a1 a2).trans (Cert.MemGradIdeal.Ref.finalQ H C G)).trans (final3 m c H C G hH hC hG).symm
  · rw [h1]
    exact ((Cert.MemGradIdeal.Ref.res_m m' c _ _ _ a0 a1 a2).trans (Cert.MemGradIdeal.Ref.finalM H C G)).trans (final4 m c H C G hH hC hG).symm

end Cert.MemProof

end
-- ==== Proof.MemOddPay.lean ====
/- In the gMLP layers: the attention onto the memories, backward: what one block of queries contributes, at real numbers. -/
module

public import proofs.«01_k».proof.Proof.Gen.MemOddBwdIdeal.Skeleton
public import proofs.«01_k».proof.Proof.RealLift
public import proofs.«01_k».proof.Proof.SoftMax

@[expose] public section

set_option maxRecDepth 16384

noncomputable section

open Idealize.ShloMosaic Idealize.ShloMosaic.TcCoe Idealize.SL.Sem

namespace Cert.MemOddBwdIdeal.Pay

open Cert.MemOddBwdIdeal Cert.MemOddBwdIdeal.Gen Cert.RealLift

/-- The queries of the lanes a mask keeps, scaled. -/
def scaled (M : IVec S512x128 1) (q : FVec Ideal S512x128 .f32) : FVec Ideal S512x128 .bf16 :=
  truncf .bf16 (mulf (select M q (broadcast S512x128 (Scalar.ofBits .f32 0x00000000#32 : Ideal .f32)))
    (broadcast S512x128 (Scalar.ofBits .f32 0x3E000000#32 : Ideal .f32))) bitsLt_bf16_f32

/-- The lanes a mask keeps. -/
def kept (M : IVec S512x128 1) (d : FVec Ideal S512x128 .f32) : FVec Ideal S512x128 .bf16 :=
  truncf .bf16 (select M d (broadcast S512x128 (Scalar.ofBits .f32 0x00000000#32 : Ideal .f32))) bitsLt_bf16_f32

/-- The products of the queries with the memories. -/
def score (q : FVec Ideal S512x128 .bf16) (k : FVec Ideal S256x128 .bf16) : FVec Ideal S512x256 .f32 :=
  matmul dot_S512x128_S256x128_S512x256_1_1_0_0_n_n none q k (constant S512x256 .f32 0x00000000#32)

/-- The exponentials of a row's scores less its largest. -/
def weights (s : FVec Ideal S512x256 .f32) : FVec Ideal S512x256 .f32 :=
  exp (subf s (broadcastTo S512x256 (shapeCast S512x1 (multiReduction .maximumf [1] S512 s 0xFF800000#32 reduces_S512x256_S512 (.inl rfl) rfl)
    shapeCasts_S512_S512x1) broadcasts_S512x1_S512x256))

/-- Each row over its sum. -/
def normed (e : FVec Ideal S512x256 .f32) : FVec Ideal S512x256 .f32 :=
  divf e (broadcastTo S512x256 (shapeCast S512x1 (multiReduction .add [1] S512 e 0x00000000#32 reduces_S512x256_S512 (.inl rfl) rfl)
    shapeCasts_S512_S512x1) broadcasts_S512x1_S512x256)

/-- The gradient of the scores from that of the probabilities. -/
def dscore (p dp : FVec Ideal S512x256 .f32) : FVec Ideal S512x256 .bf16 :=
  truncf .bf16 (mulf p (subf dp (broadcastTo S512x256 (shapeCast S512x1 (multiReduction .add [1] S512
    (mulf (extf .f32 (truncf .bf16 p bitsLt_bf16_f32) bitsLt_bf16_f32) dp) 0x00000000#32 reduces_S512x256_S512 (.inl rfl) rfl)
    shapeCasts_S512_S512x1) broadcasts_S512x1_S512x256))) bitsLt_bf16_f32

/-- The gradient of the queries, on the lanes a mask keeps, added to what is there. -/
def dquery (M : IVec S512x128 1) (ds : FVec Ideal S512x256 .bf16) (k : FVec Ideal S256x128 .bf16) (acc : FVec Ideal S512x128 .f32) : FVec Ideal S512x128 .f32 :=
  addf acc (mulf (select M (matmul dot_S512x256_S256x128_S512x128_1_0_0_1_n_n none ds k (constant S512x128 .f32 0x00000000#32))
    (broadcast S512x128 (Scalar.ofBits .f32 0x00000000#32 : Ideal .f32))) (broadcast S512x128 (Scalar.ofBits .f32 0x3E000000#32 : Ideal .f32)))

/-- The gradient of the memories' keys or values, added to what is there. -/
def dmem (p : FVec Ideal S512x256 .bf16) (d : FVec Ideal S512x128 .bf16) (acc : FVec Ideal S256x128 .f32) : FVec Ideal S256x128 .f32 :=
  addf acc (matmul dot_S512x256_S512x128_S256x128_0_0_1_1_n_n none p d (constant S256x128 .f32 0x00000000#32))

theorem ofBits_eighth : Ideal.ofBits .f32 0x3E000000#32 = ((1 / 8 : ℝ) : EReal) := by
  simp [Ideal.ofBits, Ideal.ieee, -EReal.coe_mul]; norm_num

/-- The bit of a mask that keeps the lanes of half `j`. -/
def Keeps (M : IVec S512x128 1) (j : ℕ) : Prop := ∀ i, M i = if (i 1).val / 64 = j then 1#1 else 0#1

/-- The first mask keeps the lanes of the first half. -/
theorem keeps0 : Keeps k0_pay5 0 := by
  intro i
  idx_vars i
  pointwise [k0_pay5]
  exact (by decide +kernel : ∀ l : Fin 128, IntOp.cmpi .slt (BitVec.ofNat 32 l.val) 64#32 = if l.val / 64 = 0 then 1#1 else 0#1) i1

/-- Its complement keeps the lanes of the second half. -/
theorem keeps1 : Keeps (k0_pay22 k0_pay5) 1 := by
  intro i
  idx_vars i
  pointwise [k0_pay22, k0_pay5]
  exact (by decide +kernel : ∀ l : Fin 128, IntOp.xori (IntOp.cmpi .slt (BitVec.ofNat 32 l.val) 64#32) 1#1 = if l.val / 64 = 1 then 1#1 else 0#1) i1

/-- What a mask keeps of half `j`. -/
def pick (j : ℕ) (x : S512x128.Idx → ℝ) (i : S512x128.Idx) : ℝ := if (i 1).val / 64 = j then x i else 0

variable {M : IVec S512x128 1} {j : ℕ} (hM : Keeps M j)
include hM

theorem select_real (x : S512x128.Idx → ℝ) :
    (select M (re x) (broadcast S512x128 (Scalar.ofBits .f32 0x00000000#32 : Ideal .f32)) : FVec Ideal S512x128 .f32) = re (pick j x) := by
  funext i
  have h : Scalar.select (M i) (re x i) 0 = ((pick j x i : ℝ) : EReal) := by
    rw [hM, pick]
    by_cases h : (i 1).val / 64 = j <;> simp [h, Scalar.select]
  pointwise []
  exact h

theorem scaled_real (q : S512x128.Idx → ℝ) : scaled M (re q) = re fun i => pick j q i * (1 / 8) := by
  unfold scaled
  rw [select_real hM]
  funext i
  pointwise []
  rw [ofBits_eighth]
  exact (EReal.coe_mul _ _).symm

theorem kept_real (d : S512x128.Idx → ℝ) : kept M (re d) = re (pick j d) := by
  unfold kept
  rw [select_real hM]
  rfl

omit hM

theorem score_real (q : S512x128.Idx → ℝ) (k : S256x128.Idx → ℝ) :
    score (re q) (re k) = re fun i => ∑ l : Fin 128, q (ix2 (i 0) l) * k (ix2 (i 1) l) := by
  funext i
  idx_vars i
  pointwise [score]
  simp only [← EReal.coe_mul, coe_sum]
  rfl

theorem weights_real (s : S512x256.Idx → ℝ) : ∃ t : Fin 512 → ℝ, weights (re s) = re fun i => Real.exp (s i - t (i 0)) := by
  choose t ht using fun r : Fin 512 => Cert.SoftMax.fold_max_real fun k : Fin 256 => s (ix2 r k)
  refine ⟨t, ?_⟩
  funext i
  idx_vars i
  pointwise [weights]
  rw [ofBits_bot, ht i0, ← EReal.coe_sub, Ideal.exp_coe]
  rfl

/-- The softmax of each row of scores. -/
theorem normed_real (s : S512x256.Idx → ℝ) :
    normed (weights (re s)) = re fun i => Cert.SoftMax.prob (fun m => s (ix2 (i 0) m)) (i 1) := by
  obtain ⟨t, ht⟩ := weights_real s
  rw [ht]
  funext i
  idx_vars i
  pointwise [normed]
  simp only [coe_sum]
  refine (div_real (Real.exp (s (ix2 i0 i1) - t i0)) (Cert.SoftMax.sum_pos (fun m => s (ix2 i0 m)) i1 (t i0)).ne').trans ?_
  exact congrArg _ (Cert.SoftMax.prob_shift (fun m => s (ix2 i0 m)) (t i0) i1)

theorem dscore_real (s u : S512x256.Idx → ℝ) :
    dscore (re fun i => Cert.SoftMax.prob (fun m => s (ix2 (i 0) m)) (i 1)) (re u)
      = re fun i => Cert.SoftMax.dscore (fun m => s (ix2 (i 0) m)) (fun m => u (ix2 (i 0) m)) (i 1) := by
  funext i
  idx_vars i
  pointwise [dscore]
  simp only [← EReal.coe_mul, coe_sum, ← EReal.coe_sub]
  rfl

include hM in
theorem dquery_real (ds : S512x256.Idx → ℝ) (k : S256x128.Idx → ℝ) (acc : FVec Ideal S512x128 .f32) :
    dquery M (re ds) (re k) acc
      = fun i => acc i + ((pick j (fun i => ∑ m : Fin 256, ds (ix2 (i 0) m) * k (ix2 m (i 1))) i * (1 / 8) : ℝ) : EReal) := by
  have e : (matmul (F := Ideal) (φ₁ := .bf16) (φ₂ := .bf16) dot_S512x256_S256x128_S512x128_1_0_0_1_n_n none (re ds) (re k)
      (constant (F := Ideal) S512x128 .f32 0x00000000#32) : FVec Ideal S512x128 .f32)
      = re fun i => ∑ m : Fin 256, ds (ix2 (i 0) m) * k (ix2 m (i 1)) := by
    funext i
    idx_vars i
    pointwise []
    simp only [← EReal.coe_mul, coe_sum]
    rfl
  unfold dquery
  rw [e, select_real hM]
  funext i
  pointwise []
  rw [ofBits_eighth]
  exact congrArg (acc i + ·) (EReal.coe_mul _ _).symm

theorem dmem_real (p : S512x256.Idx → ℝ) (d : S512x128.Idx → ℝ) (acc : FVec Ideal S256x128 .f32) :
    dmem (re p) (re d) acc = fun i => acc i + ((∑ r : Fin 512, p (ix2 r (i 0)) * d (ix2 r (i 1)) : ℝ) : EReal) := by
  funext i
  idx_vars i
  pointwise [dmem]
  simp only [← EReal.coe_mul, coe_sum]

end Cert.MemOddBwdIdeal.Pay

end
-- ==== Proof.MemOddHead.lean ====
/- One pair of heads of the memory attention's backward kernel, at real numbers. -/
module

public import proofs.«01_k».proof.Proof.MemOddPay

@[expose] public section

set_option maxRecDepth 16384

noncomputable section

open Idealize.ShloMosaic Idealize.ShloMosaic.TcCoe Idealize.SL.Sem

namespace Cert.MemOddBwdIdeal.Pay

open Cert.MemOddBwdIdeal Cert.MemOddBwdIdeal.Gen Cert.RealLift

/-- The probabilities of the heads a mask keeps. -/
def soft (M : IVec S512x128 1) (q : FVec Ideal S512x128 .f32) (k : FVec Ideal S256x128 .bf16) : FVec Ideal S512x256 .f32 :=
  normed (weights (score (scaled M q) k))

/-- The gradient of the scores of the heads a mask keeps. -/
def grad (M : IVec S512x128 1) (q d : FVec Ideal S512x128 .f32) (k v : FVec Ideal S256x128 .bf16) : FVec Ideal S512x256 .bf16 :=
  dscore (soft M q k) (score (kept M d) v)

/-- The queries' gradient of a pair of heads, as stored. -/
def storeQ (q d : FVec Ideal S512x128 .f32) (k v : FVec Ideal S256x128 .bf16) : FVec Ideal S1x512x128 .bf16 :=
  shapeCast S1x512x128 (truncf .bf16 (dquery (k0_pay22 k0_pay5) (grad (k0_pay22 k0_pay5) q d k v) k
    (dquery k0_pay5 (grad k0_pay5 q d k v) k k0_pay10)) bitsLt_bf16_f32) shapeCasts_S512x128_S1x512x128

/-- The keys' gradient of a pair of heads, added to what is stored. -/
def storeK (q d : FVec Ideal S512x128 .f32) (k v : FVec Ideal S256x128 .bf16) (a : FVec Ideal S1x256x128 .f32) : FVec Ideal S1x256x128 .f32 :=
  shapeCast S1x256x128 (addf (shapeCast S256x128 a shapeCasts_S1x256x128_S256x128)
    (dmem (grad (k0_pay22 k0_pay5) q d k v) (scaled (k0_pay22 k0_pay5) q) (dmem (grad k0_pay5 q d k v) (scaled k0_pay5 q) k0_pay11)))
    shapeCasts_S256x128_S1x256x128

/-- The values' gradient of a pair of heads, added to what is stored. -/
def storeV (q d : FVec Ideal S512x128 .f32) (k : FVec Ideal S256x128 .bf16) (a : FVec Ideal S1x256x128 .f32) : FVec Ideal S1x256x128 .f32 :=
  shapeCast S1x256x128 (addf (shapeCast S256x128 a shapeCasts_S1x256x128_S256x128)
    (dmem (truncf .bf16 (soft (k0_pay22 k0_pay5) q k) bitsLt_bf16_f32) (kept (k0_pay22 k0_pay5) d)
      (dmem (truncf .bf16 (soft k0_pay5 q k) bitsLt_bf16_f32) (kept k0_pay5 d) k0_pay12)))
    shapeCasts_S256x128_S1x256x128

section words

variable (q d : Vec Ideal S1x512x128 .f32) (k v : Vec Ideal S1x256x128 .f32) (a : Vec Ideal S1x256x128 .f32)

theorem storeQ0 : k0_pay29 (F := Ideal) (k0_pay8 k) (k0_pay19 k0_pay5 (k0_pay8 k) (k0_pay9 v) k0_pay10 (k0_pay14 d) (k0_pay15 q k)) (k0_pay22 k0_pay5)
    (k0_pay25 k0_pay5 (k0_pay6 q) (k0_pay8 k)) (k0_pay26 k0_pay5 (k0_pay6 q) (k0_pay8 k)) (k0_pay27 k0_pay5 (k0_pay7 d) (k0_pay9 v))
    = storeQ (k0_pay6 q) (k0_pay6 d) (k0_pay8 k) (k0_pay8 v) := rfl

theorem storeQ1 : k0_pay1 (F := Ideal) (k0_pay45 k0_pay5 (k0_pay34 k) k0_pay36 (k0_pay41 k0_pay5 q k) (k0_pay43 k0_pay5 q d k v))
    (k0_pay54 k0_pay5 (k0_pay32 q) (k0_pay33 d) (k0_pay34 k) (k0_pay35 v))
    = storeQ (k0_pay6 q) (k0_pay6 d) (k0_pay8 k) (k0_pay8 v) := rfl

theorem storeK0 : k0_pay30 (F := Ideal) (k0_pay20 (k0_pay9 v) k0_pay11 (k0_pay13 q) (k0_pay14 d) (k0_pay15 q k)) (k0_pay23 k0_pay5 (k0_pay6 q))
    (k0_pay25 k0_pay5 (k0_pay6 q) (k0_pay8 k)) (k0_pay26 k0_pay5 (k0_pay6 q) (k0_pay8 k)) (k0_pay27 k0_pay5 (k0_pay7 d) (k0_pay9 v)) a
    = storeK (k0_pay6 q) (k0_pay6 d) (k0_pay8 k) (k0_pay8 v) a := rfl

theorem storeV0 : k0_pay31 (F := Ideal) (k0_pay21 k0_pay12 (k0_pay14 d) (k0_pay15 q k)) (k0_pay24 k0_pay5 (k0_pay7 d))
    (k0_pay26 k0_pay5 (k0_pay6 q) (k0_pay8 k)) a
    = storeV (k0_pay6 q) (k0_pay6 d) (k0_pay8 k) a := rfl

theorem storeK1 : k0_pay2 (F := Ideal) (k0_pay46 k0_pay37 (k0_pay39 k0_pay5 q) (k0_pay41 k0_pay5 q k) (k0_pay43 k0_pay5 q d k v))
    (k0_pay49 k0_pay5 (k0_pay32 q)) (k0_pay53 k0_pay5 (k0_pay32 q) (k0_pay33 d) (k0_pay34 k) (k0_pay35 v)) a
    = storeK (k0_pay6 q) (k0_pay6 d) (k0_pay8 k) (k0_pay8 v) a := rfl

theorem storeV1 : k0_pay3 (F := Ideal) (k0_pay47 k0_pay38 (k0_pay40 k0_pay5 d) (k0_pay42 k0_pay5 q k)) (k0_pay50 k0_pay5 (k0_pay33 d))
    (k0_pay52 k0_pay5 (k0_pay32 q) (k0_pay34 k)) a
    = storeV (k0_pay6 q) (k0_pay6 d) (k0_pay8 k) a := rfl

end words

/-- Lane `e` of half `j`. -/
def lane (j : Fin 2) (e : Fin 64) : Fin 128 := ⟨j.val * 64 + e.val, by omega⟩

/-- The half a lane lies in. -/
def half (l : Fin 128) : Fin 2 := ⟨l.val / 64, by omega⟩

/-- A sum over the lanes a mask keeps is the sum over the half's lanes. -/
theorem sum_half (j : Fin 2) (f : Fin 128 → ℝ) : (∑ l : Fin 128, if l.val / 64 = j.val then f l else 0) = ∑ e : Fin 64, f (lane j e) := by
  rw [Fin.sum_univ_tiles 2 64 (by norm_num) (fun l : Fin 128 => if l.val / 64 = j.val then f l else 0)]
  rw [Finset.sum_eq_single j]
  · refine Finset.sum_congr rfl fun e _ => ?_
    rw [if_pos (show (j.val * 64 + e.val) / 64 = j.val by omega)]
    rfl
  · intro i _ h
    refine Finset.sum_eq_zero fun e _ => ?_
    rw [if_neg]
    intro hh
    exact h (Fin.ext (by have : (i.val * 64 + e.val) / 64 = j.val := hh; omega))
  · intro h
    exact absurd (Finset.mem_univ j) h

section real

variable (Q D : S512x128.Idx → ℝ) (K W : S256x128.Idx → ℝ)

/-- The score of a query with a memory, of one head. -/
def sc (j : Fin 2) (r : Fin 512) (m : Fin 256) : ℝ := ∑ e : Fin 64, Q (ix2 r (lane j e)) * (1 / 8) * K (ix2 m (lane j e))

/-- The gradient that reaches a probability, of one head. -/
def up (j : Fin 2) (r : Fin 512) (m : Fin 256) : ℝ := ∑ e : Fin 64, D (ix2 r (lane j e)) * W (ix2 m (lane j e))

/-- A score's gradient, of one head. -/
def gs (j : Fin 2) (r : Fin 512) (m : Fin 256) : ℝ := Cert.SoftMax.dscore (sc Q K j r) (up D W j r) m

variable {M : IVec S512x128 1} {j : Fin 2} (hM : Keeps M j.val)

include hM

theorem soft_real : soft M (re Q) (re K) = re fun i => Cert.SoftMax.prob (sc Q K j (i 0)) (i 1) := by
  have h (r : Fin 512) (m : Fin 256) : ∑ l : Fin 128, pick j.val Q (ix2 r l) * (1 / 8) * K (ix2 m l) = sc Q K j r m :=
    (Finset.sum_congr rfl fun l _ => by
      show (if l.val / 64 = j.val then Q (ix2 r l) else 0) * (1 / 8) * K (ix2 m l)
        = if l.val / 64 = j.val then Q (ix2 r l) * (1 / 8) * K (ix2 m l) else 0
      split_ifs <;> simp).trans (sum_half j fun l => Q (ix2 r l) * (1 / 8) * K (ix2 m l))
  unfold soft
  rw [scaled_real hM, score_real, normed_real]
  funext i
  refine congrArg (fun s : Fin 256 → ℝ => ((Cert.SoftMax.prob s (i 1) : ℝ) : EReal)) (funext fun m => ?_)
  exact h (i 0) m

theorem grad_real : grad M (re Q) (re D) (re K) (re W) = re fun i => gs Q D K W j (i 0) (i 1) := by
  have h (r : Fin 512) (m : Fin 256) : ∑ l : Fin 128, pick j.val D (ix2 r l) * W (ix2 m l) = up D W j r m :=
    (Finset.sum_congr rfl fun l _ => by
      show (if l.val / 64 = j.val then D (ix2 r l) else 0) * W (ix2 m l)
        = if l.val / 64 = j.val then D (ix2 r l) * W (ix2 m l) else 0
      split_ifs <;> simp).trans (sum_half j fun l => D (ix2 r l) * W (ix2 m l))
  unfold grad
  rw [soft_real Q K hM, kept_real hM, score_real]
  refine (dscore_real (fun i => sc Q K j (i 0) (i 1)) _).trans ?_
  funext i
  refine congrArg (fun u : Fin 256 → ℝ => ((Cert.SoftMax.dscore (sc Q K j (i 0)) u (i 1) : ℝ) : EReal)) (funext fun m => ?_)
  exact h (i 0) m

omit hM

theorem two_halves (l : Fin 128) (f : Fin 2 → ℝ) :
    (if l.val / 64 = 0 then f 0 else 0) + (if l.val / 64 = 1 then f 1 else 0) = f (half l) := by
  by_cases h : l.val / 64 = 0
  · rw [if_pos h, if_neg (by omega), add_zero, show half l = 0 from Fin.ext h]
  · have h1 : l.val / 64 = 1 := by omega
    rw [if_neg h, if_pos h1, zero_add, show half l = 1 from Fin.ext h1]

/-- The queries' gradient. -/
theorem storeQ_real : storeQ (re Q) (re D) (re K) (re W) = fun i : S1x512x128.Idx =>
    ((((∑ m : Fin 256, gs Q D K W (half (i 2)) (i 1) m * K (ix2 m (i 2))) * (1 / 8) : ℝ)) : EReal) := by
  unfold storeQ
  rw [grad_real Q D K W (j := 0) keeps0, grad_real Q D K W (j := 1) keeps1, dquery_real keeps0, dquery_real keeps1]
  funext i
  idx_vars i
  pointwise [k0_pay10]
  rw [← EReal.coe_add]
  refine congrArg _ ((add_mul _ _ _).symm.trans (congrArg (· * (1 / 8 : ℝ)) ?_))
  exact two_halves i2 fun j => ∑ m : Fin 256, gs Q D K W j i1 m * K (ix2 m i2)

/-- The keys' gradient. -/
theorem storeK_real (a : FVec Ideal S1x256x128 .f32) : storeK (re Q) (re D) (re K) (re W) a = fun i : S1x256x128.Idx =>
    a i + ((∑ r : Fin 512, gs Q D K W (half (i 2)) r (i 1) * (Q (ix2 r (i 2)) * (1 / 8)) : ℝ) : EReal) := by
  unfold storeK
  rw [grad_real Q D K W (j := 0) keeps0, grad_real Q D K W (j := 1) keeps1, scaled_real (j := 0) keeps0, scaled_real (j := 1) keeps1, dmem_real, dmem_real]
  funext i
  idx_vars i
  pointwise [k0_pay11]
  rw [← EReal.coe_add]
  obtain rfl : i0 = 0 := Subsingleton.elim _ _
  refine congrArg (fun z : ℝ => a (ix3 0 i1 i2) + (z : EReal)) ?_
  refine Eq.trans ?_ (two_halves i2 fun j => ∑ r : Fin 512, gs Q D K W j r i1 * (Q (ix2 r i2) * (1 / 8)))
  congr 1
  · show ∑ r : Fin 512, gs Q D K W 0 r i1 * ((if i2.val / 64 = 0 then Q (ix2 r i2) else 0) * (1 / 8)) = _
    split_ifs <;> simp
  · show ∑ r : Fin 512, gs Q D K W 1 r i1 * ((if i2.val / 64 = 1 then Q (ix2 r i2) else 0) * (1 / 8)) = _
    split_ifs <;> simp

/-- The values' gradient. -/
theorem storeV_real (a : FVec Ideal S1x256x128 .f32) : storeV (re Q) (re D) (re K) a = fun i : S1x256x128.Idx =>
    a i + ((∑ r : Fin 512, Cert.SoftMax.prob (sc Q K (half (i 2)) r) (i 1) * D (ix2 r (i 2)) : ℝ) : EReal) := by
  unfold storeV
  rw [soft_real Q K (j := 0) keeps0, soft_real Q K (j := 1) keeps1, kept_real (j := 0) keeps0, kept_real (j := 1) keeps1]
  refine (congrArg (fun z => shapeCast S1x256x128 (addf (F := Ideal) (shapeCast S256x128 a shapeCasts_S1x256x128_S256x128) z) shapeCasts_S256x128_S1x256x128)
    ((congrArg (dmem _ _) (dmem_real _ _ _)).trans (dmem_real _ _ _))).trans ?_
  funext i
  idx_vars i
  pointwise [k0_pay12]
  rw [← EReal.coe_add]
  obtain rfl : i0 = 0 := Subsingleton.elim _ _
  refine congrArg (fun z : ℝ => a (ix3 0 i1 i2) + (z : EReal)) ?_
  refine Eq.trans ?_ (two_halves i2 fun j => ∑ r : Fin 512, Cert.SoftMax.prob (sc Q K j r) i1 * D (ix2 r i2))
  congr 1
  · show ∑ r : Fin 512, Cert.SoftMax.prob (sc Q K 0 r) i1 * (if i2.val / 64 = 0 then D (ix2 r i2) else 0) = _
    split_ifs <;> simp
  · show ∑ r : Fin 512, Cert.SoftMax.prob (sc Q K 1 r) i1 * (if i2.val / 64 = 1 then D (ix2 r i2) else 0) = _
    split_ifs <;> simp

end real

end Cert.MemOddBwdIdeal.Pay

end
-- ==== Proof.MemOddFinal.lean ====
/- In the gMLP layers: the arrays the memory attention's backward kernel leaves, at real numbers. -/
module

public import proofs.«01_k».proof.Proof.Gen.MemOddBwdIdeal.Frame
public import proofs.«01_k».proof.Proof.Gen.MemOddBwdIdeal.Launch
public import Idealize.ShloMosaic.Lib.Pipeline.ValueKit
public import Idealize.ShloMosaic.Lib.Pipeline.ReadBack
public import Idealize.ShloMosaic.Lib.Claim
public import proofs.«01_k».proof.Proof.MemOddHead

@[expose] public section

set_option maxRecDepth 16384

noncomputable section

open Idealize.ShloMosaic Idealize.ShloMosaic.TcCoe Idealize.SL.Sem
open Idealize.ShloMosaic.Pipeline (Dat)

namespace Cert.MemOddBwdIdeal.Pay

open Cert.MemOddBwdIdeal Cert.MemOddBwdIdeal.Gen Cert.RealLift

variable (m : (ℓ : Loc nD τ sig) → Buf (Elt Ideal) ℓ) (c : Dev nD)

theorem idx : ∀ t : Fin cfg0.N, win0_0.index t = ![t.val / 4, t.val % 4, 6] ∧ win0_1.index t = ![t.val / 4, 0, 0]
    ∧ win0_2.index t = ![t.val / 4, t.val % 4, 3] ∧ win0_3.index t = ![t.val / 4, t.val % 4, 0] ∧ win0_4.index t = ![t.val / 4, 0, 0] :=
  (by decide +kernel : ∀ t : Fin grid0.N, _)

/-- The batch element of a point. -/
def bt (t : Fin cfg0.N) : Fin 4 := ⟨t.val / 4, by have := t.isLt; have h : cfg0.N = 16 := N_0; omega⟩

/-- Row `r` of a point's block in the whole array. -/
def gr (t : Fin cfg0.N) (r : Fin 512) : Fin 2048 := ⟨t.val % 4 * 512 + r.val, by omega⟩

/-- Lane `l` of the queries among all lanes of the projection. -/
def ql (l : Fin 256) : Fin 1792 := ⟨1536 + l.val, by omega⟩

/-- Lane `l` of the outputs' gradient among all lanes. -/
def dl (l : Fin 256) : Fin 1024 := ⟨768 + l.val, by omega⟩

/-- Lane `l` of the memories' keys. -/
def kl (l : Fin 256) : Fin 512 := ⟨l.val, by omega⟩

/-- Lane `l` of the memories' values. -/
def vl (l : Fin 256) : Fin 512 := ⟨256 + l.val, by omega⟩

/-- Lane `e` of head `h`. -/
def hl (h : Fin 4) (e : Fin 64) : Fin 256 := ⟨h.val * 64 + e.val, by omega⟩

/-- The head of a lane. -/
def hd (l : Fin 256) : Fin 4 := ⟨l.val / 64, by omega⟩

/-- Lane `l` of pair `g` of heads. -/
def pl (g : Fin 2) (l : Fin 128) : Fin 256 := ⟨g.val * 128 + l.val, by omega⟩

/-- Head `j` of pair `g`. -/
def ph (g j : Fin 2) : Fin 4 := ⟨g.val * 2 + j.val, by omega⟩

theorem pl_lane (g j : Fin 2) (e : Fin 64) : pl g (lane j e) = hl (ph g j) e := by
  apply Fin.ext
  show g.val * 128 + (j.val * 64 + e.val) = (g.val * 2 + j.val) * 64 + e.val
  omega

theorem hd_pl (g : Fin 2) (l : Fin 128) : hd (pl g l) = ph g (half l) := by
  apply Fin.ext
  show (g.val * 128 + l.val) / 64 = g.val * 2 + l.val / 64
  omega

variable (H : S4x2048x1792.Idx → ℝ) (C : S4x256x512.Idx → ℝ) (G : S4x2048x1024.Idx → ℝ)

/-- The score of a query with a memory. -/
def gsc (b : Fin 4) (h : Fin 4) (r : Fin 2048) (k : Fin 256) : ℝ :=
  ∑ e : Fin 64, H (ix3 b r (ql (hl h e))) * (1 / 8) * C (ix3 b k (kl (hl h e)))

/-- The gradient that reaches a probability. -/
def gup (b : Fin 4) (h : Fin 4) (r : Fin 2048) (k : Fin 256) : ℝ :=
  ∑ e : Fin 64, G (ix3 b r (dl (hl h e))) * C (ix3 b k (vl (hl h e)))

/-- A score's gradient. -/
def ggs (b : Fin 4) (h : Fin 4) (r : Fin 2048) (k : Fin 256) : ℝ :=
  Cert.SoftMax.dscore (gsc H C b h r) (gup C G b h r) k

/-- The queries' gradient. -/
def gq (b : Fin 4) (r : Fin 2048) (l : Fin 256) : ℝ := (∑ k : Fin 256, ggs H C G b (hd l) r k * C (ix3 b k (kl l))) * (1 / 8)

/-- One row's part of the keys' gradient. -/
def gk (b : Fin 4) (k : Fin 256) (l : Fin 256) (r : Fin 2048) : ℝ := ggs H C G b (hd l) r k * (H (ix3 b r (ql l)) * (1 / 8))

/-- One row's part of the values' gradient. -/
def gv (b : Fin 4) (k : Fin 256) (l : Fin 256) (r : Fin 2048) : ℝ := Cert.SoftMax.prob (gsc H C b (hd l) r) k * G (ix3 b r (dl l))

/-- One row's part of the memories' gradient, keys then values. -/
def gm (b : Fin 4) (k : Fin 256) (l : Fin 512) (r : Fin 2048) : ℝ :=
  if h : l.val < 256 then gk H C G b k ⟨l.val, h⟩ r else gv H C G b k ⟨l.val - 256, by omega⟩ r

/-- The queries of pair `g` of heads at a point. -/
def qB (t : Fin cfg0.N) (g : Fin 2) (i : S512x128.Idx) : ℝ := H (ix3 (bt t) (gr t (i 0)) (ql (pl g (i 1))))

/-- The outputs' gradient of pair `g` of heads at a point. -/
def dB (t : Fin cfg0.N) (g : Fin 2) (i : S512x128.Idx) : ℝ := G (ix3 (bt t) (gr t (i 0)) (dl (pl g (i 1))))

/-- The memories' keys of pair `g` of heads at a point. -/
def kB (t : Fin cfg0.N) (g : Fin 2) (i : S256x128.Idx) : ℝ := C (ix3 (bt t) (i 0) (kl (pl g (i 1))))

/-- The memories' values of pair `g` of heads at a point. -/
def vB (t : Fin cfg0.N) (g : Fin 2) (i : S256x128.Idx) : ℝ := C (ix3 (bt t) (i 0) (vl (pl g (i 1))))

theorem sc_eq (t : Fin cfg0.N) (g j : Fin 2) (r : Fin 512) : sc (qB H t g) (kB C t g) j r = gsc H C (bt t) (ph g j) (gr t r) := by
  funext k
  unfold sc gsc
  refine Finset.sum_congr rfl fun e _ => ?_
  rw [← pl_lane]
  rfl

theorem gs_eq (t : Fin cfg0.N) (g j : Fin 2) (r : Fin 512) (k : Fin 256) :
    gs (qB H t g) (dB G t g) (kB C t g) (vB C t g) j r k = ggs H C G (bt t) (ph g j) (gr t r) k := by
  have h : up (dB G t g) (vB C t g) j r = gup C G (bt t) (ph g j) (gr t r) := by
    funext k
    unfold up gup
    refine Finset.sum_congr rfl fun e _ => ?_
    rw [← pl_lane]
    rfl
  unfold gs ggs
  rw [sc_eq, h]

variable (hH : m ((c : Thread nD τ).loc main_arg0) = re H) (hC : m ((c : Thread nD τ).loc main_arg1) = re C) (hG : m ((c : Thread nD τ).loc main_arg2) = re G)

include hH in
/-- The block's first pair of heads. -/
theorem qB0 (t : Fin cfg0.N) : k0_pay6 (F := Ideal) (View.ld (iblk m c 0 t) (Rect.unit ![0, 0, 0] ![1, 512, 128] inb_S1x512x256_S1x512x128_0_0_0)) = re (qB H t 0) := by
  funext i
  idx_vars i
  pointwise [k0_pay6]
  blk_simp [iblk]
  rw [show V m c main_arg0 = _ from hH]
  refine congrArg (re H) ?_
  blk_ext [idx t, gr, bt, ql, pl]

include hH in
/-- The block's second pair of heads. -/
theorem qB1 (t : Fin cfg0.N) : k0_pay6 (F := Ideal) (View.ld (iblk m c 0 t) (Rect.unit ![0, 0, 128] ![1, 512, 128] inb_S1x512x256_S1x512x128_0_0_128)) = re (qB H t 1) := by
  funext i
  idx_vars i
  pointwise [k0_pay6]
  blk_simp [iblk]
  rw [show V m c main_arg0 = _ from hH]
  refine congrArg (re H) ?_
  blk_ext [idx t, gr, bt, ql, pl]

include hG in
/-- The block's first pair of heads. -/
theorem dB0 (t : Fin cfg0.N) : k0_pay6 (F := Ideal) (View.ld (iblk m c 2 t) (Rect.unit ![0, 0, 0] ![1, 512, 128] inb_S1x512x256_S1x512x128_0_0_0)) = re (dB G t 0) := by
  funext i
  idx_vars i
  pointwise [k0_pay6]
  blk_simp [iblk]
  rw [show V m c main_arg2 = _ from hG]
  refine congrArg (re G) ?_
  blk_ext [idx t, gr, bt, dl, pl]

include hG in
/-- The block's second pair of heads. -/
theorem dB1 (t : Fin cfg0.N) : k0_pay6 (F := Ideal) (View.ld (iblk m c 2 t) (Rect.unit ![0, 0, 128] ![1, 512, 128] inb_S1x512x256_S1x512x128_0_0_128)) = re (dB G t 1) := by
  funext i
  idx_vars i
  pointwise [k0_pay6]
  blk_simp [iblk]
  rw [show V m c main_arg2 = _ from hG]
  refine congrArg (re G) ?_
  blk_ext [idx t, gr, bt, dl, pl]

include hC in
/-- The block's first pair of heads. -/
theorem kB0 (t : Fin cfg0.N) : k0_pay8 (F := Ideal) (View.ld (iblk m c 1 t) (Rect.unit ![0, 0, 0] ![1, 256, 128] inb_S1x256x512_S1x256x128_0_0_0)) = re (kB C t 0) := by
  funext i
  idx_vars i
  pointwise [k0_pay8]
  blk_simp [iblk]
  rw [show V m c main_arg1 = _ from hC]
  refine congrArg (re C) ?_
  blk_ext [idx t, gr, bt, kl, pl]

include hC in
/-- The block's second pair of heads. -/
theorem kB1 (t : Fin cfg0.N) : k0_pay8 (F := Ideal) (View.ld (iblk m c 1 t) (Rect.unit ![0, 0, 128] ![1, 256, 128] inb_S1x256x512_S1x256x128_0_0_128)) = re (kB C t 1) := by
  funext i
  idx_vars i
  pointwise [k0_pay8]
  blk_simp [iblk]
  rw [show V m c main_arg1 = _ from hC]
  refine congrArg (re C) ?_
  blk_ext [idx t, gr, bt, kl, pl]

include hC in
/-- The block's first pair of heads. -/
theorem vB0 (t : Fin cfg0.N) : k0_pay8 (F := Ideal) (View.ld (iblk m c 1 t) (Rect.unit ![0, 0, 256] ![1, 256, 128] inb_S1x256x512_S1x256x128_0_0_256)) = re (vB C t 0) := by
  funext i
  idx_vars i
  pointwise [k0_pay8]
  blk_simp [iblk]
  rw [show V m c main_arg1 = _ from hC]
  refine congrArg (re C) ?_
  blk_ext [idx t, gr, bt, vl, pl]

include hC in
/-- The block's second pair of heads. -/
theorem vB1 (t : Fin cfg0.N) : k0_pay8 (F := Ideal) (View.ld (iblk m c 1 t) (Rect.unit ![0, 0, 384] ![1, 256, 128] inb_S1x256x512_S1x256x128_0_0_384)) = re (vB C t 1) := by
  funext i
  idx_vars i
  pointwise [k0_pay8]
  blk_simp [iblk]
  rw [show V m c main_arg1 = _ from hC]
  refine congrArg (re C) ?_
  blk_ext [idx t, gr, bt, vl, pl]

/-- Two stores side by side are one array. -/
theorem two_pieces (T : S1x512x256.Idx → EReal) (P1 P0 : S1x512x128.Idx → EReal)
    (H1 : ∀ i1 i2, P1 (ix3 0 i1 i2) = T (ix3 0 i1 (pl 1 i2))) (H0 : ∀ i1 i2, P0 (ix3 0 i1 i2) = T (ix3 0 i1 (pl 0 i2))) :
    (View.canon [⟨Rect.unit ![0, 0, 128] ![1, 512, 128] inb_S1x512x256_S1x512x128_0_0_128, P1⟩,
      ⟨Rect.unit ![0, 0, 0] ![1, 512, 128] inb_S1x512x256_S1x512x128_0_0_0, P0⟩] : Vec Ideal S1x512x256 .bf16) = T := by
  funext y
  canon_tiles x h
  · refine ((congrArg P1 ?_).trans (H1 (x 1) (x 2))).trans (congrArg T ?_)
    all_goals blk_ext [pl]
  · refine ((congrArg P0 ?_).trans (H0 (x 1) (x 2))).trans (congrArg T ?_)
    all_goals blk_ext [pl]

/-- The index of a store of 128 lanes in the whole block. -/
theorem emb_lanes (o : ℕ) (inb) (x : S1x256x128.Idx) (l : Fin 512) (hl : l.val = o + (x 2).val) :
    (Rect.unit (s := S1x256x512) ![0, 0, o] ![1, 256, 128] inb).emb x = ix3 0 (x 1) l := by
  have h (y z : S1x256x512.Idx) (h0 : (y 0).val = (z 0).val) (h1 : (y 1).val = (z 1).val) (h2 : (y 2).val = (z 2).val) : y = z := by
    funext a
    fin_cases a
    · exact Fin.ext h0
    · exact Fin.ext h1
    · exact Fin.ext h2
  refine h _ _ ?_ ?_ ?_
  · rw [Rect.emb_apply]
    have : (x 0).val < 1 := (x 0).isLt
    show 0 + 1 * (x 0).val = 0
    omega
  · rw [Rect.emb_apply]
    show 0 + 1 * (x 1).val = (x 1).val
    omega
  · rw [Rect.emb_apply]
    show o + 1 * (x 2).val = l.val
    omega

/-- A store of 128 lanes, where the array it is part of is known off it. -/
theorem piece_lanes (T : S1x256x512.Idx → EReal) (o : ℕ) (inb) (P : S1x256x128.Idx → EReal) (L : List (View.Piece (Elt Ideal) S1x256x512 .f32))
    (h : ∀ (i1 : Fin 256) (i2 : Fin 128) (l : Fin 512), l.val = o + i2.val → P (ix3 0 i1 i2) = T (ix3 0 i1 l)) (y : S1x256x512.Idx)
    (hL : ¬(o ≤ (y 2).val ∧ (y 2).val < o + 128) → (View.canon L : Vec Ideal S1x256x512 .f32) y = T y) :
    (View.canon (⟨Rect.unit ![0, 0, o] ![1, 256, 128] inb, P⟩ :: L) : Vec Ideal S1x256x512 .f32) y = T y := by
  by_cases hy : o ≤ (y 2).val ∧ (y 2).val < o + 128
  · have e : (Rect.unit (s := S1x256x512) ![0, 0, o] ![1, 256, 128] inb).emb (ix3 0 (y 1) (⟨(y 2).val - o, by omega⟩ : Fin 128) : S1x256x128.Idx) = y := by
      rw [emb_lanes o inb _ (y 2) (by show _ = o + ((y 2).val - o); omega)]
      idx_vars y
      obtain rfl : y0 = 0 := Subsingleton.elim _ _
      rfl
    rw [← e]
    refine (View.canon_cons_emb (Rect.unit (s := S1x256x512) ![0, 0, o] ![1, 256, 128] inb) P L _).trans ?_
    rw [emb_lanes o inb _ (y 2) (by show _ = o + ((y 2).val - o); omega)]
    exact h _ _ _ (by show _ = o + ((y 2).val - o); omega)
  · refine (View.canon_cons_of_not_mem _ L fun hm => hy ?_).trans (hL hy)
    exact (Rect.mem_set_unit (inb := inb)).mp hm 2

/-- Four stores side by side are one array, whatever was stored before. -/
theorem four_pieces (T : S1x256x512.Idx → EReal) (P3 P2 P1 P0 : S1x256x128.Idx → EReal) (L : List (View.Piece (Elt Ideal) S1x256x512 .f32))
    (H3 : ∀ (i1 : Fin 256) (i2 : Fin 128) (l : Fin 512), l.val = 384 + i2.val → P3 (ix3 0 i1 i2) = T (ix3 0 i1 l))
    (H2 : ∀ (i1 : Fin 256) (i2 : Fin 128) (l : Fin 512), l.val = 128 + i2.val → P2 (ix3 0 i1 i2) = T (ix3 0 i1 l))
    (H1 : ∀ (i1 : Fin 256) (i2 : Fin 128) (l : Fin 512), l.val = 256 + i2.val → P1 (ix3 0 i1 i2) = T (ix3 0 i1 l))
    (H0 : ∀ (i1 : Fin 256) (i2 : Fin 128) (l : Fin 512), l.val = 0 + i2.val → P0 (ix3 0 i1 i2) = T (ix3 0 i1 l)) :
    (View.canon (⟨Rect.unit ![0, 0, 384] ![1, 256, 128] inb_S1x256x512_S1x256x128_0_0_384, P3⟩
      :: ⟨Rect.unit ![0, 0, 128] ![1, 256, 128] inb_S1x256x512_S1x256x128_0_0_128, P2⟩
      :: ⟨Rect.unit ![0, 0, 256] ![1, 256, 128] inb_S1x256x512_S1x256x128_0_0_256, P1⟩
      :: ⟨Rect.unit ![0, 0, 0] ![1, 256, 128] inb_S1x256x512_S1x256x128_0_0_0, P0⟩ :: L) : Vec Ideal S1x256x512 .f32) = T := by
  funext y
  refine piece_lanes T 384 _ P3 _ H3 y fun h3 => piece_lanes T 128 _ P2 _ H2 y fun h2 => piece_lanes T 256 _ P1 _ H1 y fun h1 =>
    piece_lanes T 0 _ P0 _ H0 y fun h0 => ?_
  have : (y 2).val < 512 := (y 2).isLt
  omega

/-- A load of 128 lanes, read at an index. -/
theorem ld_at (X : Vec Ideal S1x256x512 .f32) (o : ℕ) (inb) (i1 : Fin 256) (i2 : Fin 128) (l : Fin 512) (h : l.val = o + i2.val) :
    View.ld X (Rect.unit ![0, 0, o] ![1, 256, 128] inb) (ix3 0 i1 i2) = X (ix3 0 i1 l) :=
  congrArg X (emb_lanes o inb (ix3 0 i1 i2) l h)

section words

variable (t : Fin cfg0.N) (g : Fin 2) {q d : Vec Ideal S1x512x128 .f32} {k v : Vec Ideal S1x256x128 .f32} (a : Vec Ideal S1x256x128 .f32)
  (hq : k0_pay6 (F := Ideal) q = re (qB H t g)) (hd' : k0_pay6 (F := Ideal) d = re (dB G t g))
  (hk : k0_pay8 (F := Ideal) k = re (kB C t g)) (hv : k0_pay8 (F := Ideal) v = re (vB C t g))
  (i1 : Fin 256) (i2 : Fin 128) (l : Fin 512) (x : EReal) (hx : a (ix3 0 i1 i2) = x)

include hq hd' hk hv in
/-- What a point adds to the keys' gradient. -/
theorem storeK_word (hl : l.val = g.val * 128 + i2.val) (hx : a (ix3 0 i1 i2) = x) :
    storeK (k0_pay6 q) (k0_pay6 d) (k0_pay8 k) (k0_pay8 v) a (ix3 0 i1 i2)
      = x + ((∑ r : Fin 512, gm H C G (bt t) i1 l (gr t r) : ℝ) : EReal) := by
  rw [hq, hd', hk, hv, storeK_real]
  refine congrArg₂ (fun (a : EReal) (z : ℝ) => a + (z : EReal)) hx (Finset.sum_congr rfl fun r _ => ?_)
  show gs (qB H t g) (dB G t g) (kB C t g) (vB C t g) (half i2) r i1 * (qB H t g (ix2 r i2) * (1 / 8)) = _
  rw [gs_eq, ← hd_pl]
  unfold gm
  rw [dif_pos (by omega), show (⟨l.val, by omega⟩ : Fin 256) = pl g i2 from Fin.ext hl]
  rfl

include hq hd' hk in
/-- What a point adds to the values' gradient. -/
theorem storeV_word (hl : l.val = 256 + (g.val * 128 + i2.val)) (hx : a (ix3 0 i1 i2) = x) :
    storeV (k0_pay6 q) (k0_pay6 d) (k0_pay8 k) a (ix3 0 i1 i2)
      = x + ((∑ r : Fin 512, gm H C G (bt t) i1 l (gr t r) : ℝ) : EReal) := by
  rw [hq, hd', hk, storeV_real]
  refine congrArg₂ (fun (a : EReal) (z : ℝ) => a + (z : EReal)) hx (Finset.sum_congr rfl fun r _ => ?_)
  show Cert.SoftMax.prob (sc (qB H t g) (kB C t g) (half i2) r) i1 * dB G t g (ix2 r i2) = _
  rw [sc_eq, ← hd_pl]
  unfold gm
  rw [dif_neg (by omega), show (⟨l.val - 256, by omega⟩ : Fin 256) = pl g i2 from Fin.ext (by show l.val - 256 = g.val * 128 + i2.val; omega)]
  rfl

end words

include hH hC hG

/-- The queries' gradient. -/
theorem final3 : (dats m 0 c).arrAt 3 cfg0.N = fun i : S4x2048x256.Idx => ((gq H C G (i 0) (i 1) (i 2) : ℝ) : EReal) := by
  have h (t : Fin cfg0.N) : (outsAt0 m c t.val t.isLt).1 = fun i : S1x512x256.Idx => ((gq H C G (bt t) (gr t (i 1)) (i 2) : ℝ) : EReal) := by
    have hs (g : Fin 2) (i1 : Fin 512) (i2 : Fin 128) : storeQ (re (qB H t g)) (re (dB G t g)) (re (kB C t g)) (re (vB C t g)) (ix3 0 i1 i2)
        = ((gq H C G (bt t) (gr t i1) (pl g i2) : ℝ) : EReal) := by
      rw [storeQ_real]
      show ((((∑ k : Fin 256, gs (qB H t g) (dB G t g) (kB C t g) (vB C t g) (half i2) i1 k * kB C t g (ix2 k i2)) * (1 / 8) : ℝ)) : EReal) = _
      simp only [gs_eq]
      rw [gq, hd_pl]
      rfl
    by_cases h : t.val % 4 = 0
    · rw [outsAt0_A m c t h]
      frame_out
      rw [storeQ1, storeQ0, qB0 m c H hH, qB1 m c H hH, dB0 m c G hG, dB1 m c G hG, kB0 m c C hC, kB1 m c C hC, vB0 m c C hC, vB1 m c C hC]
      exact two_pieces _ _ _ (hs 1) (hs 0)
    · rw [outsAt0_B m c t h]
      frame_out
      rw [storeQ1, storeQ0, qB0 m c H hH, qB1 m c H hH, dB0 m c G hG, dB1 m c G hG, kB0 m c C hC, kB1 m c C hC, vB0 m c C hC, vB1 m c C hC]
      exact two_pieces _ _ _ (hs 1) (hs 0)
  refine (dats m 0 c).arrAt_eq_of_covers 3 _ (by decide +kernel) fun t hf y => ?_
  blk_simp
  rw [after0_3, h t]
  have e : (win0_3.blk t).view.emb y = ix3 (bt t) (gr t (y 1)) (y 2) := by blk_ext [idx t, bt, gr]
  exact (congrArg (fun i : S4x2048x256.Idx => ((gq H C G (i 0) (i 1) (i 2) : ℝ) : EReal)) e).symm

/-- The memories' gradient after a run's first point. -/
theorem first4 (t : Fin cfg0.N) (h : t.val % 4 = 0) :
    (outsAt0 m c t.val t.isLt).2 = fun i : S1x256x512.Idx => k0_pay4 (F := Ideal) i + ((∑ r : Fin 512, gm H C G (bt t) (i 1) (i 2) (gr t r) : ℝ) : EReal) := by
  rw [outsAt0_A m c t h]
  frame_out
  simp (disch := decide) only [↓View.readCov_skip, ↓View.readCov_fill]
  refine four_pieces _ _ _ _ _ _ (fun i1 i2 l hl => ?_) (fun i1 i2 l hl => ?_) (fun i1 i2 l hl => ?_) (fun i1 i2 l hl => ?_)
  · exact (congrFun (storeV1 _ _ _ _) _).trans (storeV_word H C G t 1 _ (qB1 m c H hH t) (dB1 m c G hG t) (kB1 m c C hC t) i1 i2 l _
      (by show l.val = 256 + (1 * 128 + i2.val); omega) (ld_at (k0_pay4 (F := Ideal)) 384 _ i1 i2 l hl))
  · exact (congrFun (storeK1 _ _ _ _ _) _).trans (storeK_word H C G t 1 _ (qB1 m c H hH t) (dB1 m c G hG t) (kB1 m c C hC t) (vB1 m c C hC t) i1 i2 l _
      (by show l.val = 1 * 128 + i2.val; omega) (ld_at (k0_pay4 (F := Ideal)) 128 _ i1 i2 l hl))
  · exact (congrFun (storeV0 _ _ _ _) _).trans (storeV_word H C G t 0 _ (qB0 m c H hH t) (dB0 m c G hG t) (kB0 m c C hC t) i1 i2 l _
      (by show l.val = 256 + (0 * 128 + i2.val); omega) (ld_at (k0_pay4 (F := Ideal)) 256 _ i1 i2 l hl))
  · exact (congrFun (storeK0 _ _ _ _ _) _).trans (storeK_word H C G t 0 _ (qB0 m c H hH t) (dB0 m c G hG t) (kB0 m c C hC t) (vB0 m c C hC t) i1 i2 l _
      (by show l.val = 0 * 128 + i2.val; omega) (ld_at (k0_pay4 (F := Ideal)) 0 _ i1 i2 l hl))

/-- The memories' gradient after any other point. -/
theorem next4 (t : Fin cfg0.N) (h : ¬t.val % 4 = 0) :
    (outsAt0 m c t.val t.isLt).2 = fun i : S1x256x512.Idx => (outsAt0 m c (t.val - 1) (Nat.lt_of_le_of_lt (Nat.sub_le _ _) t.isLt)).2 i
      + ((∑ r : Fin 512, gm H C G (bt t) (i 1) (i 2) (gr t r) : ℝ) : EReal) := by
  rw [outsAt0_B m c t h]
  frame_out
  refine four_pieces _ _ _ _ _ _ (fun i1 i2 l hl => ?_) (fun i1 i2 l hl => ?_) (fun i1 i2 l hl => ?_) (fun i1 i2 l hl => ?_)
  · exact (congrFun (storeV1 _ _ _ _) _).trans (storeV_word H C G t 1 _ (qB1 m c H hH t) (dB1 m c G hG t) (kB1 m c C hC t) i1 i2 l _
      (by show l.val = 256 + (1 * 128 + i2.val); omega) (ld_at _ 384 _ i1 i2 l hl))
  · exact (congrFun (storeK1 _ _ _ _ _) _).trans (storeK_word H C G t 1 _ (qB1 m c H hH t) (dB1 m c G hG t) (kB1 m c C hC t) (vB1 m c C hC t) i1 i2 l _
      (by show l.val = 1 * 128 + i2.val; omega) (ld_at _ 128 _ i1 i2 l hl))
  · exact (congrFun (storeV0 _ _ _ _) _).trans (storeV_word H C G t 0 _ (qB0 m c H hH t) (dB0 m c G hG t) (kB0 m c C hC t) i1 i2 l _
      (by show l.val = 256 + (0 * 128 + i2.val); omega) (ld_at _ 256 _ i1 i2 l hl))
  · exact (congrFun (storeK0 _ _ _ _ _) _).trans (storeK_word H C G t 0 _ (qB0 m c H hH t) (dB0 m c G hG t) (kB0 m c C hC t) (vB0 m c C hC t) i1 i2 l _
      (by show l.val = 0 * 128 + i2.val; omega) (ld_at _ 0 _ i1 i2 l hl))

/-- The memories' gradient. -/
theorem final4 : (dats m 0 c).arrAt 4 cfg0.N = fun i : S4x256x512.Idx => ((∑ r : Fin 2048, gm H C G (i 0) (i 1) (i 2) r : ℝ) : EReal) := by
  refine (dats m 0 c).arrAt_eq_of_covers 4 _ (by decide +kernel) fun t hf y => ?_
  blk_simp
  rw [after0_4, Pipeline.eq_sum_fin_of_reset_step_apply_of_flush (fun n h => (outsAt0 m c n h).2) 4 (fun _ => 0)
    (fun t i => ((∑ r : Fin 512, gm H C G (bt t) (i 1) (i 2) (gr t r) : ℝ) : EReal))
    (fun t h j => (congrFun (first4 m c H C G hH hC hG t h) j).trans (congrArg (· + _) (by pointwise [k0_pay4])))
    (fun t h j => congrFun (next4 m c H C G hH hC hG t h) j)
    t ((flush0_4 t).mp hf) _, zero_add, coe_sum]
  have e : (win0_4.blk t).view.emb y = ix3 (bt t) (y 1) (y 2) := by blk_ext [idx t, bt]
  refine (congrArg (fun z : ℝ => (z : EReal)) ?_).trans (congrArg (fun i : S4x256x512.Idx => ((∑ r : Fin 2048, gm H C G (i 0) (i 1) (i 2) r : ℝ) : EReal)) e).symm
  refine Eq.trans ?_ (Fin.sum_univ_tiles 4 512 (by norm_num) fun r : Fin 2048 => gm H C G (bt t) (y 1) (y 2) r).symm
  refine Finset.sum_congr rfl fun s _ => Finset.sum_congr rfl fun r _ => ?_
  have hb : bt ⟨4 * (t.val / 4) + s.val, Pipeline.run_point_lt_of_flush t ((flush0_4 t).mp hf) s⟩ = bt t := Fin.ext (by show (4 * (t.val / 4) + s.val) / 4 = t.val / 4; omega)
  have hr : gr ⟨4 * (t.val / 4) + s.val, Pipeline.run_point_lt_of_flush t ((flush0_4 t).mp hf) s⟩ r = ⟨s.val * 512 + r.val, by omega⟩ :=
    Fin.ext (by show (4 * (t.val / 4) + s.val) % 4 * 512 + r.val = s.val * 512 + r.val; omega)
  rw [hb, hr]

end Cert.MemOddBwdIdeal.Pay

end
-- ==== Proof.MemOddRef.lean ====
/- In the gMLP layers: the reference gradients of the memory attention, at real numbers. -/
module

public import proofs.«01_k».proof.Proof.Gen.MemOddGradIdeal.Run
public import Idealize.ShloMosaic.Lib.Pipeline.ValueKit
public import proofs.«01_k».proof.Proof.MemOddFinal

@[expose] public section

set_option maxRecDepth 16384

noncomputable section

open Idealize.ShloMosaic Idealize.ShloMosaic.TcCoe Idealize.SL.Sem

namespace Cert.MemOddGradIdeal.Ref

open Cert.MemOddGradIdeal Cert.MemOddGradIdeal.Gen Cert.RealLift
open Cert.MemOddBwdIdeal.Pay (ql dl kl vl hl hd gsc gup ggs gq gk gv gm)

/-- The scaled scores. -/
def scores (q : FVec Ideal S4x2048x4x64 .f32) (k : FVec Ideal S4x256x4x64 .f32) : FVec Ideal S4x4x2048x256 .f32 :=
  mulf (Host.dotGeneral dot_S4x2048x4x64_S4x256x4x64_S4x4x2048x256_3_3_1_1_02_02 none q k)
    (broadcastInDim S4x4x2048x256 ![] bcast_S_S4x4x2048x256 (constant (F := Ideal) S_ .f32 0x3E000000#32))

/-- The largest score of each row. -/
def tops (s : FVec Ideal S4x4x2048x256 .f32) : FVec Ideal S4x4x2048 .f32 :=
  maximumf (broadcastInDim S4x4x2048 ![] bcast_S_S4x4x2048 (constant (F := Ideal) S_ .f32 0xFF800000#32))
    (Host.reduce FloatOps.maximumf s (constant (F := Ideal) S_ .f32 0xFF800000#32) reducesTo_S4x4x2048x256_S4x4x2048_d3 h_S_)

/-- The exponentials of the scores less the largest of their row. -/
def expo (s : FVec Ideal S4x4x2048x256 .f32) : FVec Ideal S4x4x2048x256 .f32 :=
  Host.exp (subf s (broadcastInDim S4x4x2048x256 ![0, 1, 2, 3] bcast_S4x4x2048x1_S4x4x2048x256_0_1_2_3
    (broadcastInDim S4x4x2048x1 ![0, 1, 2] bcast_S4x4x2048_S4x4x2048x1_0_1_2 (tops s))))

/-- The rows' sums. -/
def den (e : FVec Ideal S4x4x2048x256 .f32) : FVec Ideal S4x4x2048x1 .f32 :=
  broadcastInDim S4x4x2048x1 ![0, 1, 2] bcast_S4x4x2048_S4x4x2048x1_0_1_2
    (Host.reduceAdd e (constant (F := Ideal) S_ .f32 0x00000000#32) reducesTo_S4x4x2048x256_S4x4x2048_d3 h_S_)

/-- The probabilities. -/
def probs (e : FVec Ideal S4x4x2048x256 .f32) : FVec Ideal S4x4x2048x256 .f32 :=
  Host.divf e (broadcastInDim S4x4x2048x256 ![0, 1, 2, 3] bcast_S4x4x2048x1_S4x4x2048x256_0_1_2_3 (den e))

/-- The gradient that reaches the rows' sums, negated back. -/
def dden (e dp : FVec Ideal S4x4x2048x256 .f32) : FVec Ideal S4x4x2048x1 .f32 :=
  Host.negf (shapeCast S4x4x2048x1 (Host.reduceAdd (mulf (mulf dp (broadcastInDim S4x4x2048x256 ![0, 1, 2, 3] bcast_S4x4x2048x1_S4x4x2048x256_0_1_2_3
    (Host.divf (broadcastInDim S4x4x2048x1 ![] bcast_S_S4x4x2048x1 (constant (F := Ideal) S_ .f32 0x3F800000#32)) (mulf (den e) (den e))))) e)
    (constant (F := Ideal) S_ .f32 0x00000000#32) reducesTo_S4x4x2048x256_S4x4x2048_d3 h_S_) shapeCasts_S4x4x2048_S4x4x2048x1)

/-- The gradient of the products, before the scale. -/
def dscores (e dp : FVec Ideal S4x4x2048x256 .f32) : FVec Ideal S4x4x2048x256 .f32 :=
  mulf (mulf (addf (Host.divf dp (broadcastInDim S4x4x2048x256 ![0, 1, 2, 3] bcast_S4x4x2048x1_S4x4x2048x256_0_1_2_3 (den e)))
    (broadcastInDim S4x4x2048x256 ![0, 1, 2] bcast_S4x4x2048_S4x4x2048x256_0_1_2
      (Host.reduceAdd (dden e dp) (constant (F := Ideal) S_ .f32 0x00000000#32) reducesTo_S4x4x2048x1_S4x4x2048_d3 h_S_))) e)
    (broadcastInDim S4x4x2048x256 ![] bcast_S_S4x4x2048x256 (constant (F := Ideal) S_ .f32 0x3E000000#32))

/-- The queries by head. -/
def qs (x : FVec Ideal S4x2048x1792 .f32) : FVec Ideal S4x2048x4x64 .f32 :=
  shapeCast S4x2048x4x64 (extractStridedSlice S4x2048x256 ![0, 0, 1536] x slices_S4x2048x1792_S4x2048x256_0_0_1536) shapeCasts_S4x2048x256_S4x2048x4x64

/-- The memories' keys by head. -/
def ks (x : FVec Ideal S4x256x512 .f32) : FVec Ideal S4x256x4x64 .f32 :=
  shapeCast S4x256x4x64 (extractStridedSlice S4x256x256 ![0, 0, 0] x slices_S4x256x512_S4x256x256_0_0_0) shapeCasts_S4x256x256_S4x256x4x64

/-- The memories' values by head. -/
def vs (x : FVec Ideal S4x256x512 .f32) : FVec Ideal S4x256x4x64 .f32 :=
  shapeCast S4x256x4x64 (extractStridedSlice S4x256x256 ![0, 0, 256] x slices_S4x256x512_S4x256x256_0_0_256) shapeCasts_S4x256x256_S4x256x4x64

/-- The outputs' gradient by head. -/
def ds (x : FVec Ideal S4x2048x1024 .f32) : FVec Ideal S4x4x64x2048 .f32 :=
  transpose S4x4x64x2048 [0, 2, 3, 1] (shapeCast S4x2048x4x64 (extractStridedSlice S4x2048x256 ![0, 0, 768] x slices_S4x2048x1024_S4x2048x256_0_0_768)
    shapeCasts_S4x2048x256_S4x2048x4x64) transposes_S4x2048x4x64_S4x4x64x2048_0_2_3_1

/-- The gradient that reaches the probabilities. -/
def ups (d : FVec Ideal S4x4x64x2048 .f32) (v : FVec Ideal S4x256x4x64 .f32) : FVec Ideal S4x4x2048x256 .f32 :=
  Host.dotGeneral dot_S4x4x64x2048_S4x256x4x64_S4x4x2048x256_2_3_3_1_01_02 none d v

/-- The queries' gradient. -/
def outQ (g : FVec Ideal S4x4x2048x256 .f32) (k : FVec Ideal S4x256x4x64 .f32) : FVec Ideal S4x2048x256 .bf16 :=
  truncf .bf16 (shapeCast S4x2048x256 (transpose S4x2048x4x64 [0, 2, 1, 3] (Host.dotGeneral dot_S4x4x2048x256_S4x256x4x64_S4x4x2048x64_3_1_2_3_01_02 none g k)
    transposes_S4x4x2048x64_S4x2048x4x64_0_2_1_3) shapeCasts_S4x2048x4x64_S4x2048x256) bitsLt_bf16_f32

/-- The keys' gradient. -/
def outK (g : FVec Ideal S4x4x2048x256 .f32) (q : FVec Ideal S4x2048x4x64 .f32) : FVec Ideal S4x256x256 .f32 :=
  shapeCast S4x256x256 (transpose S4x256x4x64 [0, 2, 1, 3] (Host.dotGeneral dot_S4x4x2048x256_S4x2048x4x64_S4x4x256x64_2_1_3_3_01_02 none g q)
    transposes_S4x4x256x64_S4x256x4x64_0_2_1_3) shapeCasts_S4x256x4x64_S4x256x256

/-- The values' gradient. -/
def outV (d : FVec Ideal S4x4x64x2048 .f32) (p : FVec Ideal S4x4x2048x256 .f32) : FVec Ideal S4x256x256 .f32 :=
  shapeCast S4x256x256 (transpose S4x256x4x64 [0, 3, 1, 2] (Host.dotGeneral dot_S4x4x64x2048_S4x4x2048x256_S4x4x64x256_3_2_2_3_01_01 none d p)
    transposes_S4x4x64x256_S4x256x4x64_0_3_1_2) shapeCasts_S4x256x4x64_S4x256x256

section words

variable (m : (ℓ : Loc nD τ sig) → Buf (Elt Ideal) ℓ) (c : Dev nD)
variable (x : FVec Ideal S4x2048x1792 .f32) (y : FVec Ideal S4x256x512 .f32) (z : FVec Ideal S4x2048x1024 .f32)

theorem res_q (hx : m ((c.tc : Thread nD τ).loc main_arg0) = x) (hy : m ((c.tc : Thread nD τ).loc main_arg1) = y) (hz : m ((c.tc : Thread nD τ).loc main_arg2) = z) :
    Value.res_main_v68 (F := Ideal) m c = outQ (dscores (expo (scores (qs x) (ks y))) (ups (ds z) (vs y))) (ks y) := by
  subst hx hy hz
  rfl

theorem res_m (hx : m ((c.tc : Thread nD τ).loc main_arg0) = x) (hy : m ((c.tc : Thread nD τ).loc main_arg1) = y) (hz : m ((c.tc : Thread nD τ).loc main_arg2) = z) :
    Value.res_main_v67 (F := Ideal) m c = Value.fn_main_v67 (F := Ideal) (outK (dscores (expo (scores (qs x) (ks y))) (ups (ds z) (vs y))) (qs x))
      (outV (ds z) (probs (expo (scores (qs x) (ks y))))) := by
  subst hx hy hz
  rfl

end words

section real

variable (H : S4x2048x1792.Idx → ℝ) (C : S4x256x512.Idx → ℝ) (G : S4x2048x1024.Idx → ℝ)

theorem qs_real : qs (re H) = re fun i : S4x2048x4x64.Idx => H (ix3 (i 0) (i 1) (ql (hl (i 2) (i 3)))) := by
  funext i
  idx_vars i
  pointwise [qs]
  refine congrArg (re H) ?_
  blk_ext [ql, hl]

theorem ks_real : ks (re C) = re fun i : S4x256x4x64.Idx => C (ix3 (i 0) (i 1) (kl (hl (i 2) (i 3)))) := by
  funext i
  idx_vars i
  pointwise [ks]
  refine congrArg (re C) ?_
  blk_ext [kl, hl]

theorem vs_real : vs (re C) = re fun i : S4x256x4x64.Idx => C (ix3 (i 0) (i 1) (vl (hl (i 2) (i 3)))) := by
  funext i
  idx_vars i
  pointwise [vs]
  refine congrArg (re C) ?_
  blk_ext [vl, hl]

theorem ds_real : ds (re G) = re fun i : S4x4x64x2048.Idx => G (ix3 (i 0) (i 3) (dl (hl (i 1) (i 2)))) := by
  funext i
  idx_vars i
  pointwise [ds]
  refine congrArg (re G) ?_
  blk_ext [dl, hl]

theorem scores_real : scores (qs (re H)) (ks (re C)) = re fun i : S4x4x2048x256.Idx => gsc H C (i 0) (i 1) (i 2) (i 3) := by
  rw [qs_real, ks_real]
  funext i
  idx_vars i
  pointwise [scores]
  rw [Cert.MemOddBwdIdeal.Pay.ofBits_eighth]
  simp only [← EReal.coe_mul, coe_sum]
  refine congrArg (fun z : ℝ => (z : EReal)) ?_
  show (∑ e : Fin 64, H (ix3 i0 i2 (ql (hl i1 e))) * C (ix3 i0 i3 (kl (hl i1 e)))) * (1 / 8) = gsc H C i0 i1 i2 i3
  rw [gsc, Finset.sum_mul]
  exact Finset.sum_congr rfl fun e _ => by ring

theorem ups_real : ups (ds (re G)) (vs (re C)) = re fun i : S4x4x2048x256.Idx => gup C G (i 0) (i 1) (i 2) (i 3) := by
  rw [ds_real, vs_real]
  funext i
  idx_vars i
  pointwise [ups]
  simp only [← EReal.coe_mul, coe_sum]
  rfl

theorem tops_fold (s : FVec Ideal S4x4x2048x256 .f32) (c : FVec Ideal S_ .f32) (i0 i1 : Fin 4) (i2 : Fin 2048) :
    Host.reduce FloatOps.maximumf s c reducesTo_S4x4x2048x256_S4x4x2048_d3 h_S_ (ix3 i0 i1 i2)
      = Finset.fold max (c (Shape.Idx.first h_S_)) (fun k => s (ix4 i0 i1 i2 k)) Finset.univ := by
  pointwise []

theorem max_bot (x y : FVec Ideal S4x4x2048 .f32) (hx : ∀ i, x i = ⊥) (i : S4x4x2048.Idx) : maximumf x y i = y i := by
  show max (x i) (y i) = y i
  rw [hx]
  exact bot_sup_eq _

theorem tops_apply (s : FVec Ideal S4x4x2048x256 .f32) (i0 i1 : Fin 4) (i2 : Fin 2048) :
    tops s (ix3 i0 i1 i2) = Finset.fold max (Ideal.ofBits .f32 0xFF800000#32) (fun k => s (ix4 i0 i1 i2 k)) Finset.univ :=
  (max_bot _ _ (fun _ => ofBits_bot) _).trans (tops_fold _ _ _ _ _)

theorem fold_row (s : S4x4x2048x256.Idx → ℝ) (i0 i1 : Fin 4) (i2 : Fin 2048) :
    ∃ t : ℝ, Finset.fold max (Ideal.ofBits .f32 0xFF800000#32) (fun k => re s (ix4 i0 i1 i2 k)) Finset.univ = (t : EReal) := by
  rw [ofBits_bot]
  exact Cert.SoftMax.fold_max_real fun k : Fin 256 => s (ix4 i0 i1 i2 k)

theorem tops_real (s : S4x4x2048x256.Idx → ℝ) : ∃ t : S4x4x2048.Idx → ℝ, tops (re s) = re t := by
  choose t ht using fold_row s
  refine ⟨fun i => t (i 0) (i 1) (i 2), ?_⟩
  funext i
  idx_vars i
  exact (tops_apply _ i0 i1 i2).trans (ht i0 i1 i2)

theorem expo_real (s : S4x4x2048x256.Idx → ℝ) : ∃ t : S4x4x2048.Idx → ℝ, expo (re s) = re fun i => Real.exp (s i - t (ix3 (i 0) (i 1) (i 2))) := by
  obtain ⟨t, ht⟩ := tops_real s
  refine ⟨t, ?_⟩
  unfold expo
  rw [ht]
  funext i
  idx_vars i
  pointwise []
  exact Ideal.exp_coe _

theorem den_real (e : S4x4x2048x256.Idx → ℝ) : den (re e) = re fun i : S4x4x2048x1.Idx => ∑ k : Fin 256, e (ix4 (i 0) (i 1) (i 2) k) := by
  funext i
  idx_vars i
  pointwise [den]
  simp only [coe_sum]
  rfl

theorem probs_real (s : S4x4x2048x256.Idx → ℝ) :
    probs (expo (re s)) = re fun i => Cert.SoftMax.prob (fun k => s (ix4 (i 0) (i 1) (i 2) k)) (i 3) := by
  obtain ⟨t, ht⟩ := expo_real s
  rw [ht]
  unfold probs
  rw [den_real]
  funext i
  idx_vars i
  pointwise []
  refine (div_real _ (Cert.SoftMax.sum_pos (fun k => s (ix4 i0 i1 i2 k)) i3 _).ne').trans ?_
  exact congrArg (fun z : ℝ => (z : EReal)) (Cert.SoftMax.prob_shift (fun k => s (ix4 i0 i1 i2 k)) _ i3)

theorem dden_real (e u : S4x4x2048x256.Idx → ℝ) (hD : ∀ a b r, ∑ k : Fin 256, e (ix4 a b r k) ≠ 0) : dden (re e) (re u) = re fun i : S4x4x2048x1.Idx =>
    -∑ k : Fin 256, u (ix4 (i 0) (i 1) (i 2) k) * (1 / ((∑ j : Fin 256, e (ix4 (i 0) (i 1) (i 2) j)) * ∑ j : Fin 256, e (ix4 (i 0) (i 1) (i 2) j))) * e (ix4 (i 0) (i 1) (i 2) k) := by
  unfold dden
  rw [den_real]
  funext i
  idx_vars i
  obtain rfl : i3 = 0 := Subsingleton.elim _ _
  pointwise []
  have h : ∀ k : Fin 256, ((u (ix4 i0 i1 i2 k) : ℝ) : EReal) * Ideal.div ((1 : ℝ) : EReal) (((∑ j : Fin 256, e (ix4 i0 i1 i2 j) : ℝ) : EReal) * ((∑ j : Fin 256, e (ix4 i0 i1 i2 j) : ℝ) : EReal))
      * ((e (ix4 i0 i1 i2 k) : ℝ) : EReal) = ((u (ix4 i0 i1 i2 k) * (1 / ((∑ j : Fin 256, e (ix4 i0 i1 i2 j)) * ∑ j : Fin 256, e (ix4 i0 i1 i2 j))) * e (ix4 i0 i1 i2 k) : ℝ) : EReal) := fun k => by
    rw [← EReal.coe_mul (∑ j : Fin 256, e (ix4 i0 i1 i2 j)), div_real _ (mul_ne_zero (hD _ _ _) (hD _ _ _)), ← EReal.coe_mul, ← EReal.coe_mul]
  refine (congrArg Neg.neg ((Finset.sum_congr rfl fun k _ => h k).trans (coe_sum _ _))).trans ?_
  exact (EReal.coe_neg _).symm

theorem dscore_words {n : ℕ} (s u : Fin n → ℝ) (t : ℝ) (k : Fin n) :
    (Ideal.div ((u k : ℝ) : EReal) ((∑ j, Real.exp (s j - t) : ℝ) : EReal)
      + ∑ _x : Fin 1, ((-∑ j, u j * (1 / ((∑ j, Real.exp (s j - t)) * ∑ j, Real.exp (s j - t))) * Real.exp (s j - t) : ℝ) : EReal))
        * ((Real.exp (s k - t) : ℝ) : EReal) * Ideal.ofBits .f32 0x3E000000#32 = ((Cert.SoftMax.dscore s u k * (1 / 8) : ℝ) : EReal) := by
  rw [Fin.sum_univ_one, div_real _ (Cert.SoftMax.sum_pos s k t).ne', Cert.MemOddBwdIdeal.Pay.ofBits_eighth, ← EReal.coe_add, ← EReal.coe_mul, ← EReal.coe_mul,
    Cert.SoftMax.dscore_shift]

theorem dscores_real (s u : S4x4x2048x256.Idx → ℝ) : dscores (expo (re s)) (re u) = re fun i =>
    Cert.SoftMax.dscore (fun k => s (ix4 (i 0) (i 1) (i 2) k)) (fun k => u (ix4 (i 0) (i 1) (i 2) k)) (i 3) * (1 / 8) := by
  obtain ⟨t, ht⟩ := expo_real s
  have hD : ∀ a b r, ∑ k : Fin 256, Real.exp (s (ix4 a b r k) - t (ix3 a b r)) ≠ 0 :=
    fun a b r => (Cert.SoftMax.sum_pos (fun k => s (ix4 a b r k)) 0 (t (ix3 a b r))).ne'
  rw [ht]
  unfold dscores
  rw [dden_real _ _ hD, den_real]
  funext i
  idx_vars i
  pointwise []
  exact dscore_words (fun k => s (ix4 i0 i1 i2 k)) (fun k => u (ix4 i0 i1 i2 k)) (t (ix3 i0 i1 i2)) i3

theorem hl_split (l : Fin 256) : hl (hd l) ⟨l.val % 64, Nat.mod_lt _ (by norm_num)⟩ = l := by
  ext
  show l.val / 64 * 64 + l.val % 64 = l.val
  omega

theorem outQ_real (g : S4x4x2048x256.Idx → ℝ) : outQ (re g) (ks (re C)) = re fun i : S4x2048x256.Idx =>
    ∑ k : Fin 256, g (ix4 (i 0) (hd (i 2)) (i 1) k) * C (ix3 (i 0) k (kl (i 2))) := by
  rw [ks_real]
  funext i
  idx_vars i
  pointwise [outQ]
  simp only [← EReal.coe_mul, coe_sum]
  refine congrArg (fun z : ℝ => (z : EReal)) (Finset.sum_congr rfl fun k _ => ?_)
  exact congrArg (fun l => g (ix4 i0 (hd i2) i1 k) * C (ix3 i0 k (kl l))) (hl_split i2)

theorem outK_real (g : S4x4x2048x256.Idx → ℝ) : outK (re g) (qs (re H)) = re fun i : S4x256x256.Idx =>
    ∑ r : Fin 2048, g (ix4 (i 0) (hd (i 2)) r (i 1)) * H (ix3 (i 0) r (ql (i 2))) := by
  rw [qs_real]
  funext i
  idx_vars i
  pointwise [outK]
  simp only [← EReal.coe_mul, coe_sum]
  refine congrArg (fun z : ℝ => (z : EReal)) (Finset.sum_congr rfl fun r _ => ?_)
  exact congrArg (fun l => g (ix4 i0 (hd i2) r i1) * H (ix3 i0 r (ql l))) (hl_split i2)

theorem outV_real (p : S4x4x2048x256.Idx → ℝ) : outV (ds (re G)) (re p) = re fun i : S4x256x256.Idx =>
    ∑ r : Fin 2048, G (ix3 (i 0) r (dl (i 2))) * p (ix4 (i 0) (hd (i 2)) r (i 1)) := by
  rw [ds_real]
  funext i
  idx_vars i
  pointwise [outV]
  simp only [← EReal.coe_mul, coe_sum]
  refine congrArg (fun z : ℝ => (z : EReal)) (Finset.sum_congr rfl fun r _ => ?_)
  exact congrArg (fun l => G (ix3 i0 r (dl l)) * p (ix4 i0 (hd i2) r i1)) (hl_split i2)

/-- The queries' gradient at real numbers. -/
theorem finalQ : outQ (dscores (expo (scores (qs (re H)) (ks (re C)))) (ups (ds (re G)) (vs (re C)))) (ks (re C))
    = fun i : S4x2048x256.Idx => ((gq H C G (i 0) (i 1) (i 2) : ℝ) : EReal) := by
  rw [scores_real, ups_real, dscores_real, outQ_real]
  funext i
  refine congrArg (fun z : ℝ => (z : EReal)) ?_
  refine Eq.trans ?_ (Finset.sum_mul _ _ _).symm
  exact Finset.sum_congr rfl fun k _ => mul_right_comm _ _ _

theorem gk_sum (b : Fin 4) (k l : Fin 256) : ∑ r : Fin 2048, Cert.MemOddBwdIdeal.Pay.ggs H C G b (hd l) r k * (1 / 8) * H (ix3 b r (ql l)) = ∑ r, gk H C G b k l r :=
  Finset.sum_congr rfl fun r _ => by rw [gk]; ring

theorem gv_sum (b : Fin 4) (k l : Fin 256) :
    ∑ r : Fin 2048, G (ix3 b r (dl l)) * Cert.SoftMax.prob (gsc H C b (hd l) r) k = ∑ r, gv H C G b k l r :=
  Finset.sum_congr rfl fun r _ => by rw [gv]; ring

/-- The memories' gradient at real numbers. -/
theorem finalM : Value.fn_main_v67 (F := Ideal) (outK (dscores (expo (scores (qs (re H)) (ks (re C)))) (ups (ds (re G)) (vs (re C)))) (qs (re H)))
      (outV (ds (re G)) (probs (expo (scores (qs (re H)) (ks (re C))))))
    = fun i : S4x256x512.Idx => ((∑ r : Fin 2048, gm H C G (i 0) (i 1) (i 2) r : ℝ) : EReal) := by
  rw [scores_real, ups_real, dscores_real, outK_real, probs_real, outV_real]
  funext i
  idx_vars i
  pointwise [Value.fn_main_v67]
  by_cases h : i2.val < 256
  · rw [dif_pos h]
    exact congrArg (fun z : ℝ => (z : EReal)) ((gk_sum H C G i0 i1 ⟨i2, h⟩).trans (Finset.sum_congr rfl fun r _ => by rw [gm, dif_pos h]))
  · rw [dif_neg h]
    exact congrArg (fun z : ℝ => (z : EReal)) ((gv_sum H C G i0 i1 ⟨i2 - 256, by omega⟩).trans (Finset.sum_congr rfl fun r _ => by rw [gm, dif_neg h]))

end real

end Cert.MemOddGradIdeal.Ref

end
-- ==== Proof.MemOddClaim.lean ====
/- The memory attention: the kernel computes the derivative of the forward lines. -/
module

public import proofs.«01_k».proof.Defs
public import proofs.«01_k».proof.Proof.Gen.MemOddGradIdeal.Run
public import proofs.«01_k».proof.Proof.MemOddFinal
public import proofs.«01_k».proof.Proof.MemOddRef

@[expose] public section

set_option maxRecDepth 16384

noncomputable section

open Idealize.ShloMosaic Idealize.ShloMosaic.TcCoe Idealize.SL.Sem

namespace Cert.MemOddBwdIdeal.Pay

open Cert.MemOddBwdIdeal Cert.MemOddBwdIdeal.Gen

variable (m : (ℓ : Loc nD τ sig) → Buf (Elt Ideal) ℓ) (ρ : Dev nD → PrngReg)

/-- A run ends with both gradients as the pipeline leaves them and with the arguments unchanged. -/
theorem run : θ_run defs (onTc (τ := τ) (main (F := Ideal))) ⟨m, fun _ => 0, ρ⟩ fun r => ∀ c : Dev nD,
    r.2.mem ((c : Thread nD τ).loc main_v0_0) = (dats m 0 c).arrAt 3 cfg0.N
    ∧ r.2.mem ((c : Thread nD τ).loc main_v0_1) = (dats m 0 c).arrAt 4 cfg0.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun _ h c => ⟨(h.1 c).1 3, (h.1 c).1 4, h.2 c⟩) (θ_run_and (run_main m ρ) (unchanged m ρ))

end Cert.MemOddBwdIdeal.Pay

namespace Cert.MemOddProof

open Cert.RealLift

/-- The side conditions of the precondition's operations. -/
instance facts : Cert.Pre_mem_odd_finite.Facts :=
  ⟨by decide, by decide, by decide, by decide, by decide, by decide, by decide⟩

/-- Arrays the precondition holds of are arrays of real numbers. -/
theorem finite {x0 x1 x2} (h : Cert.Pre_mem_odd_finite.fn (F := Ideal) x0 x1 x2 = fun _ => 1#1) :
    (∃ y, x0 = re y) ∧ (∃ y, x1 = re y) ∧ ∃ y, x2 = re y := by
  have h := congrFun h fun a => a.elim0
  unfold Cert.Pre_mem_odd_finite.fn Cert.Pre_mem_odd_finite.fn_part1 at h
  dsimp only at h
  obtain ⟨h, h2⟩ := IntOp.andi_eq_one.1 h
  obtain ⟨h0, h1⟩ := IntOp.andi_eq_one.1 h
  exact ⟨real_of_all ofBits_bot ofBits_top h0, real_of_all ofBits_bot ofBits_top h1, real_of_all ofBits_bot ofBits_top h2⟩

open Cert.MemOddBwdIdeal.Pay in
set_option maxHeartbeats 1600000 in
/-- The kernel and the derivative of the forward lines compute the same gradients of finite arrays. -/
theorem algebraic : Cert.algebraic_MemOddBwdIdeal_MemOddGradIdeal_pre_mem_odd_finite (hMemOddBwdIdeal := Cert.MemOddBwdIdeal.Gen.facts)
    (hMemOddGradIdeal := Cert.MemOddGradIdeal.Gen.facts) (hPre_mem_odd_finite := facts) := by
  intro m ρ m' ρ' hpre hag
  refine ⟨fun c => (Cert.MemOddBwdIdeal.Gen.dats m 0 c).arrAt 3 Cert.MemOddBwdIdeal.cfg0.N, fun c => (Cert.MemOddBwdIdeal.Gen.dats m 0 c).arrAt 4 Cert.MemOddBwdIdeal.cfg0.N,
    Cert.MemOddBwdIdeal.Pay.run m ρ, θ_run_mono (Cert.MemOddGradIdeal.Value.run m' ρ') fun r h c => ?_⟩
  obtain ⟨⟨H, hH⟩, ⟨C, hC⟩, ⟨G, hG⟩⟩ := finite (hpre c)
  obtain ⟨a0, a1, a2⟩ := hag c
  obtain ⟨h0, h1, hrest⟩ := h c
  rw [hH] at a0
  rw [hC] at a1
  rw [hG] at a2
  refine ⟨?_, ?_, hrest⟩
  · rw [h0]
    exact ((Cert.MemOddGradIdeal.Ref.res_q m' c _ _ _ a0 a1 a2).trans (Cert.MemOddGradIdeal.Ref.finalQ H C G)).trans (final3 m c H C G hH hC hG).symm
  · rw [h1]
    exact ((Cert.MemOddGradIdeal.Ref.res_m m' c _ _ _ a0 a1 a2).trans (Cert.MemOddGradIdeal.Ref.finalM H C G)).trans (final4 m c H C G hH hC hG).symm

end Cert.MemOddProof

end
-- ==== Proof.MemFwdHead.lean ====
/- One pair of heads of the memory attention's forward kernel, at real numbers. -/
module

public import proofs.«01_k».proof.Proof.Gen.MemFwdIdeal.Skeleton
public import proofs.«01_k».proof.Proof.MemHead

@[expose] public section

set_option maxRecDepth 16384

noncomputable section

open Idealize.ShloMosaic Idealize.ShloMosaic.TcCoe Idealize.SL.Sem

namespace Cert.MemFwdPay

open Cert.MemBwdIdeal Cert.MemBwdIdeal.Gen Cert.MemBwdIdeal.Pay Cert.RealLift

/-- The memories' values, mixed by the probabilities. -/
def mix (p : FVec Ideal S512x256 .f32) (v : FVec Ideal S256x128 .bf16) : FVec Ideal S512x128 .f32 :=
  matmul dot_S512x256_S256x128_S512x128_1_0_0_1_n_n none (truncf .bf16 p bitsLt_bf16_f32) v (constant S512x128 .f32 0x00000000#32)

/-- The outputs of a pair of heads, as stored. -/
def storeO (q : FVec Ideal S512x128 .f32) (k v : FVec Ideal S256x128 .bf16) : FVec Ideal S1x512x128 .bf16 :=
  shapeCast S1x512x128 (truncf .bf16 (select (k0_pay5 : IVec S512x128 1) (mix (soft k0_pay5 q k) v) (mix (soft (k0_pay22 k0_pay5) q k) v) : FVec Ideal S512x128 .f32)
    bitsLt_bf16_f32) shapeCasts_S512x128_S1x512x128

section words

variable (q : Vec Ideal S1x512x128 .f32) (k v : Vec Ideal S1x256x128 .f32)

theorem word0 : Cert.MemFwdIdeal.Gen.k0_pay9 (F := Ideal) Cert.MemFwdIdeal.Gen.k0_pay2 (Cert.MemFwdIdeal.Gen.k0_pay5 v)
    (Cert.MemFwdIdeal.Gen.k0_pay6 q k v) (Cert.MemFwdIdeal.Gen.k0_pay7 q k) (Cert.MemFwdIdeal.Gen.k0_pay8 q k)
    = storeO (Cert.MemFwdIdeal.Gen.k0_pay3 q) (Cert.MemFwdIdeal.Gen.k0_pay4 k) (Cert.MemFwdIdeal.Gen.k0_pay4 v) := rfl

theorem word1 : Cert.MemFwdIdeal.Gen.k0_pay1 (F := Ideal) Cert.MemFwdIdeal.Gen.k0_pay2 (Cert.MemFwdIdeal.Gen.k0_pay10 q) (Cert.MemFwdIdeal.Gen.k0_pay11 k)
    (Cert.MemFwdIdeal.Gen.k0_pay12 v) (Cert.MemFwdIdeal.Gen.k0_pay13 Cert.MemFwdIdeal.Gen.k0_pay2 q k v)
    = storeO (Cert.MemFwdIdeal.Gen.k0_pay3 q) (Cert.MemFwdIdeal.Gen.k0_pay4 k) (Cert.MemFwdIdeal.Gen.k0_pay4 v) := rfl

end words

variable (Q : S512x128.Idx → ℝ) (K W : S256x128.Idx → ℝ)

theorem mix_real (p : S512x256.Idx → ℝ) : mix (re p) (re W) = re fun i => ∑ k : Fin 256, p (ix2 (i 0) k) * W (ix2 k (i 1)) := by
  funext i
  idx_vars i
  pointwise [mix]
  simp only [← EReal.coe_mul, coe_sum]
  rfl

/-- Of two arrays the first mask takes the one of each lane's half. -/
theorem select_half (f : Fin 2 → S512x128.Idx → ℝ) :
    (select (k0_pay5 : IVec S512x128 1) (re (f 0)) (re (f 1)) : FVec Ideal S512x128 .f32) = re fun i => f (half (i 1)) i := by
  funext i
  show Scalar.select (k0_pay5 i) (re (f 0) i) (re (f 1) i) = ((f (half (i 1)) i : ℝ) : EReal)
  rw [keeps0]
  have hlt : (i 1).val < 128 := (i 1).isLt
  by_cases h : (i 1).val / 64 = 0
  · rw [if_pos h, show half (i 1) = 0 from Fin.ext h]
    rfl
  · rw [if_neg h, show half (i 1) = 1 from Fin.ext (by show (i 1).val / 64 = 1; omega)]
    rfl

/-- The outputs of a pair of heads. -/
theorem storeO_real : storeO (re Q) (re K) (re W) = fun i : S1x512x128.Idx =>
    ((∑ k : Fin 256, Cert.SoftMax.prob (sc Q K (half (i 2)) (i 1)) k * W (ix2 k (i 2)) : ℝ) : EReal) := by
  unfold storeO
  rw [soft_real Q K (j := 0) keeps0, soft_real Q K (j := 1) keeps1]
  have e := select_half fun j i => ∑ k : Fin 256, Cert.SoftMax.prob (sc Q K j (i 0)) k * W (ix2 k (i 1))
  refine (congrArg (fun z : FVec Ideal S512x128 .f32 => shapeCast S1x512x128 (truncf .bf16 z bitsLt_bf16_f32) shapeCasts_S512x128_S1x512x128)
    ((congrArg₂ (fun a b : FVec Ideal S512x128 .f32 => (select (k0_pay5 : IVec S512x128 1) a b : FVec Ideal S512x128 .f32)) (mix_real W _) (mix_real W _)).trans e)).trans ?_
  funext i
  idx_vars i
  pointwise []
  rfl

end Cert.MemFwdPay

end
-- ==== Proof.MemFwdFinal.lean ====
/- The array the memory attention's forward kernel leaves, at real numbers. -/
module

public import proofs.«01_k».proof.Proof.Gen.MemFwdIdeal.Frame
public import proofs.«01_k».proof.Proof.Gen.MemFwdIdeal.Value
public import Idealize.ShloMosaic.Lib.Pipeline.ValueKit
public import Idealize.ShloMosaic.Lib.Pipeline.ReadBack
public import proofs.«01_k».proof.Proof.MemFwdHead
public import proofs.«01_k».proof.Proof.MemFinal

@[expose] public section

set_option maxRecDepth 16384

noncomputable section

open Idealize.ShloMosaic Idealize.ShloMosaic.TcCoe Idealize.SL.Sem
open Idealize.ShloMosaic.Pipeline (Dat)

namespace Cert.MemFwdIdeal.Pay

open Cert.MemFwdIdeal Cert.MemFwdIdeal.Gen Cert.RealLift Cert.MemFwdPay
open Cert.MemBwdIdeal.Pay (ql kl vl hl hd pl ph pl_lane hd_pl half lane sc gsc two_pieces)

variable (m : (ℓ : Loc nD τ sig) → Buf (Elt Ideal) ℓ) (c : Dev nD)

theorem idx : ∀ t : Fin cfg0.N, win0_0.index t = ![t.val / 4, t.val % 4, 9] ∧ win0_1.index t = ![t.val / 4, 0, 0]
    ∧ win0_2.index t = ![t.val / 4, t.val % 4, 0] :=
  (by decide +kernel : ∀ t : Fin grid0.N, _)

/-- The batch element of a point. -/
def bt (t : Fin cfg0.N) : Fin 4 := ⟨t.val / 4, by have := t.isLt; have h : cfg0.N = 16 := N_0; omega⟩

/-- Row `r` of a point's block in the whole array. -/
def gr (t : Fin cfg0.N) (r : Fin 512) : Fin 2048 := ⟨t.val % 4 * 512 + r.val, by omega⟩

variable (H : S4x2048x2560.Idx → ℝ) (C : S4x256x512.Idx → ℝ)

/-- The outputs. -/
def go (b : Fin 4) (r : Fin 2048) (l : Fin 256) : ℝ := ∑ k : Fin 256, Cert.SoftMax.prob (gsc H C b (hd l) r) k * C (ix3 b k (vl l))

/-- The queries of pair `g` of heads at a point. -/
def qB (t : Fin cfg0.N) (g : Fin 2) (i : S512x128.Idx) : ℝ := H (ix3 (bt t) (gr t (i 0)) (ql (pl g (i 1))))

/-- The memories' keys of pair `g` of heads at a point. -/
def kB (t : Fin cfg0.N) (g : Fin 2) (i : S256x128.Idx) : ℝ := C (ix3 (bt t) (i 0) (kl (pl g (i 1))))

/-- The memories' values of pair `g` of heads at a point. -/
def vB (t : Fin cfg0.N) (g : Fin 2) (i : S256x128.Idx) : ℝ := C (ix3 (bt t) (i 0) (vl (pl g (i 1))))

theorem sc_eq (t : Fin cfg0.N) (g j : Fin 2) (r : Fin 512) : sc (qB H t g) (kB C t g) j r = gsc H C (bt t) (ph g j) (gr t r) := by
  funext k
  unfold sc gsc
  refine Finset.sum_congr rfl fun e _ => ?_
  rw [← pl_lane]
  rfl

variable (hH : m ((c : Thread nD τ).loc main_arg0) = re H) (hC : m ((c : Thread nD τ).loc main_arg1) = re C)

include hH in
/-- The block's first pair of heads. -/
theorem qB0 (t : Fin cfg0.N) : k0_pay3 (F := Ideal) (View.ld (iblk m c 0 t) (Rect.unit ![0, 0, 0] ![1, 512, 128] inb_S1x512x256_S1x512x128_0_0_0)) = re (qB H t 0) := by
  funext i
  idx_vars i
  pointwise [k0_pay3]
  blk_simp [iblk]
  rw [show V m c main_arg0 = _ from hH]
  refine congrArg (re H) ?_
  blk_ext [idx t, gr, bt, ql, pl]

include hH in
/-- The block's second pair of heads. -/
theorem qB1 (t : Fin cfg0.N) : k0_pay3 (F := Ideal) (View.ld (iblk m c 0 t) (Rect.unit ![0, 0, 128] ![1, 512, 128] inb_S1x512x256_S1x512x128_0_0_128)) = re (qB H t 1) := by
  funext i
  idx_vars i
  pointwise [k0_pay3]
  blk_simp [iblk]
  rw [show V m c main_arg0 = _ from hH]
  refine congrArg (re H) ?_
  blk_ext [idx t, gr, bt, ql, pl]

include hC in
/-- The block's first pair of heads. -/
theorem kB0 (t : Fin cfg0.N) : k0_pay4 (F := Ideal) (View.ld (iblk m c 1 t) (Rect.unit ![0, 0, 0] ![1, 256, 128] inb_S1x256x512_S1x256x128_0_0_0)) = re (kB C t 0) := by
  funext i
  idx_vars i
  pointwise [k0_pay4]
  blk_simp [iblk]
  rw [show V m c main_arg1 = _ from hC]
  refine congrArg (re C) ?_
  blk_ext [idx t, gr, bt, kl, pl]

include hC in
/-- The block's second pair of heads. -/
theorem kB1 (t : Fin cfg0.N) : k0_pay4 (F := Ideal) (View.ld (iblk m c 1 t) (Rect.unit ![0, 0, 128] ![1, 256, 128] inb_S1x256x512_S1x256x128_0_0_128)) = re (kB C t 1) := by
  funext i
  idx_vars i
  pointwise [k0_pay4]
  blk_simp [iblk]
  rw [show V m c main_arg1 = _ from hC]
  refine congrArg (re C) ?_
  blk_ext [idx t, gr, bt, kl, pl]

include hC in
/-- The block's first pair of heads. -/
theorem vB0 (t : Fin cfg0.N) : k0_pay4 (F := Ideal) (View.ld (iblk m c 1 t) (Rect.unit ![0, 0, 256] ![1, 256, 128] inb_S1x256x512_S1x256x128_0_0_256)) = re (vB C t 0) := by
  funext i
  idx_vars i
  pointwise [k0_pay4]
  blk_simp [iblk]
  rw [show V m c main_arg1 = _ from hC]
  refine congrArg (re C) ?_
  blk_ext [idx t, gr, bt, vl, pl]

include hC in
/-- The block's second pair of heads. -/
theorem vB1 (t : Fin cfg0.N) : k0_pay4 (F := Ideal) (View.ld (iblk m c 1 t) (Rect.unit ![0, 0, 384] ![1, 256, 128] inb_S1x256x512_S1x256x128_0_0_384)) = re (vB C t 1) := by
  funext i
  idx_vars i
  pointwise [k0_pay4]
  blk_simp [iblk]
  rw [show V m c main_arg1 = _ from hC]
  refine congrArg (re C) ?_
  blk_ext [idx t, gr, bt, vl, pl]

include hH hC

/-- The outputs a point leaves. -/
theorem point (t : Fin cfg0.N) : out0_2 (iblk m c 0 t) (iblk m c 1 t) = fun i : S1x512x256.Idx => ((go H C (bt t) (gr t (i 1)) (i 2) : ℝ) : EReal) := by
  have hs (g : Fin 2) (i1 : Fin 512) (i2 : Fin 128) : storeO (re (qB H t g)) (re (kB C t g)) (re (vB C t g)) (ix3 0 i1 i2)
      = ((go H C (bt t) (gr t i1) (pl g i2) : ℝ) : EReal) := by
    rw [storeO_real]
    show ((∑ k : Fin 256, Cert.SoftMax.prob (sc (qB H t g) (kB C t g) (half i2) i1) k * vB C t g (ix2 k i2) : ℝ) : EReal) = _
    rw [sc_eq, go, hd_pl]
    rfl
  unfold out0_2 k0_pay14
  rw [word1, word0]
  refine (congrArg₂ (fun P1 P0 : Vec Ideal S1x512x128 .bf16 => (View.canon [⟨r0_3, P1⟩, ⟨r0_0, P0⟩] : Vec Ideal S1x512x256 .bf16))
    (show _ = storeO (re (qB H t 1)) (re (kB C t 1)) (re (vB C t 1)) from ?_) (show _ = storeO (re (qB H t 0)) (re (kB C t 0)) (re (vB C t 0)) from ?_)).trans
    (two_pieces _ _ _ (hs 1) (hs 0))
  · rw [← qB1 m c H hH, ← kB1 m c C hC, ← vB1 m c C hC]
    rfl
  · rw [← qB0 m c H hH, ← kB0 m c C hC, ← vB0 m c C hC]
    rfl

/-- The outputs. -/
theorem final2 : (dats m 0 c).arrAt 2 cfg0.N = fun i : S4x2048x256.Idx => ((go H C (i 0) (i 1) (i 2) : ℝ) : EReal) := by
  refine (dats m 0 c).arrAt_eq_of_covers 2 _ (by decide +kernel) fun t hf y => ?_
  blk_simp
  rw [after0_2, point m c H C hH hC t]
  have e : (win0_2.blk t).view.emb y = ix3 (bt t) (gr t (y 1)) (y 2) := by blk_ext [idx t, bt, gr]
  exact (congrArg (fun i : S4x2048x256.Idx => ((go H C (i 0) (i 1) (i 2) : ℝ) : EReal)) e).symm

end Cert.MemFwdIdeal.Pay

end
-- ==== Proof.MemFwdClaim.lean ====
/- The memory attention, forward: the kernel computes the forward lines. -/
module

public import proofs.«01_k».proof.Defs
public import proofs.«01_k».proof.Proof.Gen.Pre_mem_fwd_finite
public import proofs.«01_k».proof.Proof.Gen.MemFwdRefIdeal.Run
public import proofs.«01_k».proof.Proof.MemFwdFinal
public import proofs.«01_k».proof.Proof.MemRef

@[expose] public section

set_option maxRecDepth 16384

noncomputable section

open Idealize.ShloMosaic Idealize.ShloMosaic.TcCoe Idealize.SL.Sem

namespace Cert.MemFwdProof

open Cert.RealLift

/-- Arrays the precondition holds of are arrays of real numbers. -/
theorem finite {x0 x1} (h : Cert.Pre_mem_fwd_finite.fn (F := Ideal) x0 x1 = fun _ => 1#1) : (∃ y, x0 = re y) ∧ ∃ y, x1 = re y := by
  have h := congrFun h fun a => a.elim0
  unfold Cert.Pre_mem_fwd_finite.fn at h
  dsimp only at h
  obtain ⟨h0, h1⟩ := IntOp.andi_eq_one.1 h
  exact ⟨real_of_all ofBits_bot ofBits_top h0, real_of_all ofBits_bot ofBits_top h1⟩

section reference

open Cert.MemFwdRefIdeal Cert.MemFwdRefIdeal.Gen Cert.MemGradIdeal.Ref
open Cert.MemBwdIdeal.Pay (vl hl hd gsc)
open Cert.MemFwdIdeal.Pay (go)

/-- The outputs from the memories' values and the probabilities. -/
def outO (v : FVec Ideal S4x256x4x64 .f32) (p : FVec Ideal S4x4x2048x256 .f32) : FVec Ideal S4x2048x256 .bf16 :=
  truncf .bf16 (shapeCast S4x2048x256 (transpose S4x2048x4x64 [0, 3, 1, 2] (Host.dotGeneral dot_S4x256x4x64_S4x4x2048x256_S4x4x64x2048_1_3_3_2_02_01 none v p)
    transposes_S4x4x64x2048_S4x2048x4x64_0_3_1_2) shapeCasts_S4x2048x4x64_S4x2048x256) bitsLt_bf16_f32

variable (H : S4x2048x2560.Idx → ℝ) (C : S4x256x512.Idx → ℝ)

theorem outO_real (p : S4x4x2048x256.Idx → ℝ) : outO (vs (re C)) (re p) = re fun i : S4x2048x256.Idx =>
    ∑ k : Fin 256, C (ix3 (i 0) k (vl (i 2))) * p (ix4 (i 0) (hd (i 2)) (i 1) k) := by
  rw [vs_real]
  funext i
  idx_vars i
  pointwise [outO]
  simp only [← EReal.coe_mul, coe_sum]
  refine congrArg (fun z : ℝ => (z : EReal)) (Finset.sum_congr rfl fun k _ => ?_)
  exact congrArg (fun l => C (ix3 i0 k (vl l)) * p (ix4 i0 (hd i2) i1 k)) (hl_split i2)

/-- The outputs at real numbers. -/
theorem finalO : outO (vs (re C)) (probs (expo (scores (qs (re H)) (ks (re C))))) = fun i : S4x2048x256.Idx => ((go H C (i 0) (i 1) (i 2) : ℝ) : EReal) := by
  rw [scores_real, probs_real, outO_real]
  funext i
  exact congrArg (fun z : ℝ => (z : EReal)) (Finset.sum_congr rfl fun k _ => mul_comm _ _)

end reference

set_option maxHeartbeats 1600000 in
/-- The kernel and the forward lines compute the same outputs of finite arrays. -/
theorem algebraic : Cert.algebraic_MemFwdIdeal_MemFwdRefIdeal_pre_mem_fwd_finite (hMemFwdIdeal := Cert.MemFwdIdeal.Gen.facts)
    (hMemFwdRefIdeal := Cert.MemFwdRefIdeal.Gen.facts) (hPre_mem_fwd_finite := Cert.Pre_mem_fwd_finite.Gen.facts) := by
  intro m ρ m' ρ' hpre hag
  refine ⟨fun c => (Cert.MemFwdIdeal.Gen.dats m 0 c).arrAt 2 Cert.MemFwdIdeal.cfg0.N,
    Cert.MemFwdIdeal.Value.run_blocks m ρ, θ_run_mono (Cert.MemFwdRefIdeal.Value.run m' ρ') fun r h c => ?_⟩
  obtain ⟨⟨H, hH⟩, ⟨C, hC⟩⟩ := finite (hpre c)
  obtain ⟨a0, a1⟩ := hag c
  obtain ⟨h0, hrest⟩ := h c
  rw [hH] at a0
  rw [hC] at a1
  refine ⟨?_, hrest⟩
  rw [h0, a0, a1]
  exact (show _ = outO (Cert.MemGradIdeal.Ref.vs (re C)) (Cert.MemGradIdeal.Ref.probs (Cert.MemGradIdeal.Ref.expo (Cert.MemGradIdeal.Ref.scores
    (Cert.MemGradIdeal.Ref.qs (re H)) (Cert.MemGradIdeal.Ref.ks (re C))))) from rfl).trans
    ((finalO H C).trans (Cert.MemFwdIdeal.Pay.final2 m c H C hH hC).symm)

end Cert.MemFwdProof

end
-- ==== Proof.MemFwdOddFinal.lean ====
/- In the gMLP layers: The array the memory attention's forward kernel leaves, at real numbers. -/
module

public import proofs.«01_k».proof.Proof.Gen.MemFwdOddIdeal.Frame
public import proofs.«01_k».proof.Proof.Gen.MemFwdOddIdeal.Value
public import Idealize.ShloMosaic.Lib.Pipeline.ValueKit
public import Idealize.ShloMosaic.Lib.Pipeline.ReadBack
public import proofs.«01_k».proof.Proof.MemFwdHead
public import proofs.«01_k».proof.Proof.MemOddFinal

@[expose] public section

set_option maxRecDepth 16384

noncomputable section

open Idealize.ShloMosaic Idealize.ShloMosaic.TcCoe Idealize.SL.Sem
open Idealize.ShloMosaic.Pipeline (Dat)

namespace Cert.MemFwdOddIdeal.Pay

open Cert.MemFwdOddIdeal Cert.MemFwdOddIdeal.Gen Cert.RealLift
open Cert.MemFwdPay hiding word0 word1
open Cert.MemOddBwdIdeal.Pay (ql kl vl hl hd pl ph pl_lane hd_pl half lane sc gsc two_pieces)

variable (m : (ℓ : Loc nD τ sig) → Buf (Elt Ideal) ℓ) (c : Dev nD)

section words

variable (q : Vec Ideal S1x512x128 .f32) (k v : Vec Ideal S1x256x128 .f32)

theorem word0 : Cert.MemFwdOddIdeal.Gen.k0_pay9 (F := Ideal) Cert.MemFwdOddIdeal.Gen.k0_pay2 (Cert.MemFwdOddIdeal.Gen.k0_pay5 v)
    (Cert.MemFwdOddIdeal.Gen.k0_pay6 q k v) (Cert.MemFwdOddIdeal.Gen.k0_pay7 q k) (Cert.MemFwdOddIdeal.Gen.k0_pay8 q k)
    = storeO (Cert.MemFwdOddIdeal.Gen.k0_pay3 q) (Cert.MemFwdOddIdeal.Gen.k0_pay4 k) (Cert.MemFwdOddIdeal.Gen.k0_pay4 v) := rfl

theorem word1 : Cert.MemFwdOddIdeal.Gen.k0_pay1 (F := Ideal) Cert.MemFwdOddIdeal.Gen.k0_pay2 (Cert.MemFwdOddIdeal.Gen.k0_pay10 q) (Cert.MemFwdOddIdeal.Gen.k0_pay11 k)
    (Cert.MemFwdOddIdeal.Gen.k0_pay12 v) (Cert.MemFwdOddIdeal.Gen.k0_pay13 Cert.MemFwdOddIdeal.Gen.k0_pay2 q k v)
    = storeO (Cert.MemFwdOddIdeal.Gen.k0_pay3 q) (Cert.MemFwdOddIdeal.Gen.k0_pay4 k) (Cert.MemFwdOddIdeal.Gen.k0_pay4 v) := rfl

end words

theorem idx : ∀ t : Fin cfg0.N, win0_0.index t = ![t.val / 4, t.val % 4, 6] ∧ win0_1.index t = ![t.val / 4, 0, 0]
    ∧ win0_2.index t = ![t.val / 4, t.val % 4, 0] :=
  (by decide +kernel : ∀ t : Fin grid0.N, _)

/-- The batch element of a point. -/
def bt (t : Fin cfg0.N) : Fin 4 := ⟨t.val / 4, by have := t.isLt; have h : cfg0.N = 16 := N_0; omega⟩

/-- Row `r` of a point's block in the whole array. -/
def gr (t : Fin cfg0.N) (r : Fin 512) : Fin 2048 := ⟨t.val % 4 * 512 + r.val, by omega⟩

variable (H : S4x2048x1792.Idx → ℝ) (C : S4x256x512.Idx → ℝ)

/-- The outputs. -/
def go (b : Fin 4) (r : Fin 2048) (l : Fin 256) : ℝ := ∑ k : Fin 256, Cert.SoftMax.prob (gsc H C b (hd l) r) k * C (ix3 b k (vl l))

/-- The queries of pair `g` of heads at a point. -/
def qB (t : Fin cfg0.N) (g : Fin 2) (i : S512x128.Idx) : ℝ := H (ix3 (bt t) (gr t (i 0)) (ql (pl g (i 1))))

/-- The memories' keys of pair `g` of heads at a point. -/
def kB (t : Fin cfg0.N) (g : Fin 2) (i : S256x128.Idx) : ℝ := C (ix3 (bt t) (i 0) (kl (pl g (i 1))))

/-- The memories' values of pair `g` of heads at a point. -/
def vB (t : Fin cfg0.N) (g : Fin 2) (i : S256x128.Idx) : ℝ := C (ix3 (bt t) (i 0) (vl (pl g (i 1))))

theorem sc_eq (t : Fin cfg0.N) (g j : Fin 2) (r : Fin 512) : sc (qB H t g) (kB C t g) j r = gsc H C (bt t) (ph g j) (gr t r) := by
  funext k
  unfold sc gsc
  refine Finset.sum_congr rfl fun e _ => ?_
  rw [← pl_lane]
  rfl

variable (hH : m ((c : Thread nD τ).loc main_arg0) = re H) (hC : m ((c : Thread nD τ).loc main_arg1) = re C)

include hH in
/-- The block's first pair of heads. -/
theorem qB0 (t : Fin cfg0.N) : k0_pay3 (F := Ideal) (View.ld (iblk m c 0 t) (Rect.unit ![0, 0, 0] ![1, 512, 128] inb_S1x512x256_S1x512x128_0_0_0)) = re (qB H t 0) := by
  funext i
  idx_vars i
  pointwise [k0_pay3]
  blk_simp [iblk]
  rw [show V m c main_arg0 = _ from hH]
  refine congrArg (re H) ?_
  blk_ext [idx t, gr, bt, ql, pl]

include hH in
/-- The block's second pair of heads. -/
theorem qB1 (t : Fin cfg0.N) : k0_pay3 (F := Ideal) (View.ld (iblk m c 0 t) (Rect.unit ![0, 0, 128] ![1, 512, 128] inb_S1x512x256_S1x512x128_0_0_128)) = re (qB H t 1) := by
  funext i
  idx_vars i
  pointwise [k0_pay3]
  blk_simp [iblk]
  rw [show V m c main_arg0 = _ from hH]
  refine congrArg (re H) ?_
  blk_ext [idx t, gr, bt, ql, pl]

include hC in
/-- The block's first pair of heads. -/
theorem kB0 (t : Fin cfg0.N) : k0_pay4 (F := Ideal) (View.ld (iblk m c 1 t) (Rect.unit ![0, 0, 0] ![1, 256, 128] inb_S1x256x512_S1x256x128_0_0_0)) = re (kB C t 0) := by
  funext i
  idx_vars i
  pointwise [k0_pay4]
  blk_simp [iblk]
  rw [show V m c main_arg1 = _ from hC]
  refine congrArg (re C) ?_
  blk_ext [idx t, gr, bt, kl, pl]

include hC in
/-- The block's second pair of heads. -/
theorem kB1 (t : Fin cfg0.N) : k0_pay4 (F := Ideal) (View.ld (iblk m c 1 t) (Rect.unit ![0, 0, 128] ![1, 256, 128] inb_S1x256x512_S1x256x128_0_0_128)) = re (kB C t 1) := by
  funext i
  idx_vars i
  pointwise [k0_pay4]
  blk_simp [iblk]
  rw [show V m c main_arg1 = _ from hC]
  refine congrArg (re C) ?_
  blk_ext [idx t, gr, bt, kl, pl]

include hC in
/-- The block's first pair of heads. -/
theorem vB0 (t : Fin cfg0.N) : k0_pay4 (F := Ideal) (View.ld (iblk m c 1 t) (Rect.unit ![0, 0, 256] ![1, 256, 128] inb_S1x256x512_S1x256x128_0_0_256)) = re (vB C t 0) := by
  funext i
  idx_vars i
  pointwise [k0_pay4]
  blk_simp [iblk]
  rw [show V m c main_arg1 = _ from hC]
  refine congrArg (re C) ?_
  blk_ext [idx t, gr, bt, vl, pl]

include hC in
/-- The block's second pair of heads. -/
theorem vB1 (t : Fin cfg0.N) : k0_pay4 (F := Ideal) (View.ld (iblk m c 1 t) (Rect.unit ![0, 0, 384] ![1, 256, 128] inb_S1x256x512_S1x256x128_0_0_384)) = re (vB C t 1) := by
  funext i
  idx_vars i
  pointwise [k0_pay4]
  blk_simp [iblk]
  rw [show V m c main_arg1 = _ from hC]
  refine congrArg (re C) ?_
  blk_ext [idx t, gr, bt, vl, pl]

include hH hC

/-- The outputs a point leaves. -/
theorem point (t : Fin cfg0.N) : out0_2 (iblk m c 0 t) (iblk m c 1 t) = fun i : S1x512x256.Idx => ((go H C (bt t) (gr t (i 1)) (i 2) : ℝ) : EReal) := by
  have hs (g : Fin 2) (i1 : Fin 512) (i2 : Fin 128) : storeO (re (qB H t g)) (re (kB C t g)) (re (vB C t g)) (ix3 0 i1 i2)
      = ((go H C (bt t) (gr t i1) (pl g i2) : ℝ) : EReal) := by
    rw [storeO_real]
    show ((∑ k : Fin 256, Cert.SoftMax.prob (sc (qB H t g) (kB C t g) (half i2) i1) k * vB C t g (ix2 k i2) : ℝ) : EReal) = _
    rw [sc_eq, go, hd_pl]
    rfl
  unfold out0_2 k0_pay14
  rw [word1, word0]
  refine (congrArg₂ (fun P1 P0 : Vec Ideal S1x512x128 .bf16 => (View.canon [⟨r0_3, P1⟩, ⟨r0_0, P0⟩] : Vec Ideal S1x512x256 .bf16))
    (show _ = storeO (re (qB H t 1)) (re (kB C t 1)) (re (vB C t 1)) from ?_) (show _ = storeO (re (qB H t 0)) (re (kB C t 0)) (re (vB C t 0)) from ?_)).trans
    (two_pieces _ _ _ (hs 1) (hs 0))
  · rw [← qB1 m c H hH, ← kB1 m c C hC, ← vB1 m c C hC]
    rfl
  · rw [← qB0 m c H hH, ← kB0 m c C hC, ← vB0 m c C hC]
    rfl

/-- The outputs. -/
theorem final2 : (dats m 0 c).arrAt 2 cfg0.N = fun i : S4x2048x256.Idx => ((go H C (i 0) (i 1) (i 2) : ℝ) : EReal) := by
  refine (dats m 0 c).arrAt_eq_of_covers 2 _ (by decide +kernel) fun t hf y => ?_
  blk_simp
  rw [after0_2, point m c H C hH hC t]
  have e : (win0_2.blk t).view.emb y = ix3 (bt t) (gr t (y 1)) (y 2) := by blk_ext [idx t, bt, gr]
  exact (congrArg (fun i : S4x2048x256.Idx => ((go H C (i 0) (i 1) (i 2) : ℝ) : EReal)) e).symm

end Cert.MemFwdOddIdeal.Pay

end
-- ==== Proof.MemFwdOddClaim.lean ====
/- In the gMLP layers: The memory attention, forward: the kernel computes the forward lines. -/
module

public import proofs.«01_k».proof.Defs
public import proofs.«01_k».proof.Proof.Gen.Pre_mem_fwd_odd_finite
public import proofs.«01_k».proof.Proof.Gen.MemFwdOddRefIdeal.Run
public import proofs.«01_k».proof.Proof.MemFwdOddFinal
public import proofs.«01_k».proof.Proof.MemOddRef

@[expose] public section

set_option maxRecDepth 16384

noncomputable section

open Idealize.ShloMosaic Idealize.ShloMosaic.TcCoe Idealize.SL.Sem

namespace Cert.MemFwdOddProof

open Cert.RealLift

/-- Arrays the precondition holds of are arrays of real numbers. -/
theorem finite {x0 x1} (h : Cert.Pre_mem_fwd_odd_finite.fn (F := Ideal) x0 x1 = fun _ => 1#1) : (∃ y, x0 = re y) ∧ ∃ y, x1 = re y := by
  have h := congrFun h fun a => a.elim0
  unfold Cert.Pre_mem_fwd_odd_finite.fn at h
  dsimp only at h
  obtain ⟨h0, h1⟩ := IntOp.andi_eq_one.1 h
  exact ⟨real_of_all ofBits_bot ofBits_top h0, real_of_all ofBits_bot ofBits_top h1⟩

section reference

open Cert.MemFwdOddRefIdeal Cert.MemFwdOddRefIdeal.Gen Cert.MemOddGradIdeal.Ref
open Cert.MemOddBwdIdeal.Pay (vl hl hd gsc)
open Cert.MemFwdOddIdeal.Pay (go)

/-- The outputs from the memories' values and the probabilities. -/
def outO (v : FVec Ideal S4x256x4x64 .f32) (p : FVec Ideal S4x4x2048x256 .f32) : FVec Ideal S4x2048x256 .bf16 :=
  truncf .bf16 (shapeCast S4x2048x256 (transpose S4x2048x4x64 [0, 3, 1, 2] (Host.dotGeneral dot_S4x256x4x64_S4x4x2048x256_S4x4x64x2048_1_3_3_2_02_01 none v p)
    transposes_S4x4x64x2048_S4x2048x4x64_0_3_1_2) shapeCasts_S4x2048x4x64_S4x2048x256) bitsLt_bf16_f32

variable (H : S4x2048x1792.Idx → ℝ) (C : S4x256x512.Idx → ℝ)

theorem outO_real (p : S4x4x2048x256.Idx → ℝ) : outO (vs (re C)) (re p) = re fun i : S4x2048x256.Idx =>
    ∑ k : Fin 256, C (ix3 (i 0) k (vl (i 2))) * p (ix4 (i 0) (hd (i 2)) (i 1) k) := by
  rw [vs_real]
  funext i
  idx_vars i
  pointwise [outO]
  simp only [← EReal.coe_mul, coe_sum]
  refine congrArg (fun z : ℝ => (z : EReal)) (Finset.sum_congr rfl fun k _ => ?_)
  exact congrArg (fun l => C (ix3 i0 k (vl l)) * p (ix4 i0 (hd i2) i1 k)) (hl_split i2)

/-- The outputs at real numbers. -/
theorem finalO : outO (vs (re C)) (probs (expo (scores (qs (re H)) (ks (re C))))) = fun i : S4x2048x256.Idx => ((go H C (i 0) (i 1) (i 2) : ℝ) : EReal) := by
  rw [scores_real, probs_real, outO_real]
  funext i
  exact congrArg (fun z : ℝ => (z : EReal)) (Finset.sum_congr rfl fun k _ => mul_comm _ _)

end reference

set_option maxHeartbeats 1600000 in
/-- The kernel and the forward lines compute the same outputs of finite arrays. -/
theorem algebraic : Cert.algebraic_MemFwdOddIdeal_MemFwdOddRefIdeal_pre_mem_fwd_odd_finite (hMemFwdOddIdeal := Cert.MemFwdOddIdeal.Gen.facts)
    (hMemFwdOddRefIdeal := Cert.MemFwdOddRefIdeal.Gen.facts) (hPre_mem_fwd_odd_finite := Cert.Pre_mem_fwd_odd_finite.Gen.facts) := by
  intro m ρ m' ρ' hpre hag
  refine ⟨fun c => (Cert.MemFwdOddIdeal.Gen.dats m 0 c).arrAt 2 Cert.MemFwdOddIdeal.cfg0.N,
    Cert.MemFwdOddIdeal.Value.run_blocks m ρ, θ_run_mono (Cert.MemFwdOddRefIdeal.Value.run m' ρ') fun r h c => ?_⟩
  obtain ⟨⟨H, hH⟩, ⟨C, hC⟩⟩ := finite (hpre c)
  obtain ⟨a0, a1⟩ := hag c
  obtain ⟨h0, hrest⟩ := h c
  rw [hH] at a0
  rw [hC] at a1
  refine ⟨?_, hrest⟩
  rw [h0, a0, a1]
  exact (show _ = outO (Cert.MemOddGradIdeal.Ref.vs (re C)) (Cert.MemOddGradIdeal.Ref.probs (Cert.MemOddGradIdeal.Ref.expo (Cert.MemOddGradIdeal.Ref.scores
    (Cert.MemOddGradIdeal.Ref.qs (re H)) (Cert.MemOddGradIdeal.Ref.ks (re C))))) from rfl).trans
    ((finalO H C).trans (Cert.MemFwdOddIdeal.Pay.final2 m c H C hH hC).symm)

end Cert.MemFwdOddProof

end
-- ==== Proof.SguTiles.lean ====
/- The spatial gate's backward kernel: what one point stores, tile by tile. -/
module

public import proofs.«01_k».proof.Proof.Gen.SguBwdIdeal.Frame
public import proofs.«01_k».proof.Proof.Gen.SguBwdIdeal.Launch
public import Idealize.ShloMosaic.Lib.Pipeline.ValueKit
public import Idealize.ShloMosaic.Lib.Pipeline.ReadBack
public import Idealize.ShloMosaic.Lib.Claim
public import proofs.«01_k».proof.Proof.RealLift

@[expose] public section

set_option maxRecDepth 16384

noncomputable section

open Idealize.ShloMosaic Idealize.ShloMosaic.TcCoe Idealize.SL.Sem
open Idealize.ShloMosaic.Pipeline (Dat)

namespace Cert.SguBwdIdeal.Pay

open Cert.SguBwdIdeal Cert.SguBwdIdeal.Gen Cert.RealLift

/-- A block of rows. -/
abbrev Blk : Type := FVec Ideal S512x768 .f32

/-- A tile. -/
abbrev Tile : Type := FVec Ideal S128x128 .f32

theorem inbT (c : Fin 4) (j : Fin 6) : ∀ a, (![128 * c.val, 128 * j.val] : Fin 2 → ℕ) a + S128x128.size a ≤ S512x768.size a := by
  intro a
  fin_cases a
  · show 128 * c.val + 128 ≤ 512
    omega
  · show 128 * j.val + 128 ≤ 768
    omega

theorem inbL (j : Fin 6) : ∀ a, (![0, 128 * j.val] : Fin 2 → ℕ) a + S128x128.size a ≤ S128x768.size a := by
  intro a
  fin_cases a
  · show 0 + 128 ≤ 128
    omega
  · show 128 * j.val + 128 ≤ 768
    omega

theorem inbG (g : Fin 12) : ∀ a, (![g.val, 0, 0] : Fin 3 → ℕ) a + S1x128x128.size a ≤ S12x128x128.size a := by
  intro a
  fin_cases a
  · show g.val + 1 ≤ 12
    omega
  · show 0 + 128 ≤ 128
    omega
  · show 0 + 128 ≤ 128
    omega

/-- Where tile `c`, `j` of a block of rows lies. -/
abbrev rT (c : Fin 4) (j : Fin 6) : Rect S512x768 := Rect.unit ![128 * c.val, 128 * j.val] S128x128.size (inbT c j)

/-- Where tile `j` of the lanes lies. -/
abbrev rL (j : Fin 6) : Rect S128x768 := Rect.unit ![0, 128 * j.val] S128x128.size (inbL j)

/-- Where group `g` lies. -/
abbrev rG (g : Fin 12) : Rect S12x128x128 := Rect.unit ![g.val, 0, 0] S1x128x128.size (inbG g)

/-- The whole block. -/
abbrev rW : Rect S512x768 := Rect.unit ![0, 0] S512x768.size inb_S512x768_S512x768_0_0

/-- The first group of a pair. -/
abbrev ga (j : Fin 6) : Fin 12 := ⟨2 * j.val, by omega⟩

/-- The second group of a pair. -/
abbrev gb (j : Fin 6) : Fin 12 := ⟨2 * j.val + 1, by omega⟩

abbrev zeroT : Tile := broadcast S128x128 (Scalar.ofBits .f32 0x00000000#32 : Ideal .f32)

/-- The weights of a group, on and below the diagonal. -/
def wT (W : Vec Ideal S12x128x128 .f32) (g : Fin 12) : FVec Ideal S128x128 .bf16 :=
  truncf .bf16 (select k0_pay25 (shapeCast S128x128 (View.ld W (rG g)) shapeCasts_S1x128x128_S128x128) zeroT) bitsLt_bf16_f32

/-- The bias of a pair of groups. -/
def bT (B : Vec Ideal S128x768 .f32) (j : Fin 6) : Tile := shapeCast S128x128 (View.ld B (rL j)) shapeCasts_S128x128_S128x128

/-- A tile of the normalised rows. -/
def vT (X : Vec Ideal S512x768 .bf16) (c : Fin 4) (j : Fin 6) : FVec Ideal S128x128 .bf16 :=
  (View.whole cc0_scratch0).readCov [⟨rW, X⟩] (rT c j).toLoadRect

/-- A tile of the gradient of the mixed rows. -/
def dT (X : Vec Ideal S512x768 .f32) (c : Fin 4) (j : Fin 6) : Tile :=
  (View.whole cc0_scratch1).readCov [⟨rW, X⟩] (rT c j).toLoadRect

/-- The lanes of the first group. -/
def lo (x : Tile) : FVec Ideal S128x128 .bf16 := truncf .bf16 (select k0_pay26 x zeroT) bitsLt_bf16_f32

/-- The lanes of the second group. -/
def hi (x : Tile) : FVec Ideal S128x128 .bf16 := truncf .bf16 (select k0_pay26 zeroT x) bitsLt_bf16_f32

/-- A tile of the mixed rows. -/
def mixP (W : Vec Ideal S12x128x128 .f32) (B : Vec Ideal S128x768 .f32) (X : Vec Ideal S512x768 .bf16) (j : Fin 6) (c : Fin 4) : Tile :=
  shapeCast S128x128 (addf (select k0_pay26
    (matmul dot_S128x128_S128x128_S128x128_1_0_0_1_n_n none (wT W (ga j)) (vT X c j) (constant S128x128 .f32 0x00000000#32))
    (matmul dot_S128x128_S128x128_S128x128_1_0_0_1_n_n none (wT W (gb j)) (vT X c j) (constant S128x128 .f32 0x00000000#32)))
    (bT B j)) shapeCasts_S128x128_S128x128

/-- A tile of the normalised rows' gradient. -/
def dvnP (W : Vec Ideal S12x128x128 .f32) (X : Vec Ideal S512x768 .f32) (j : Fin 6) (c : Fin 4) : Tile :=
  shapeCast S128x128 (addf
    (matmul dot_S128x128_S128x128_S128x128_0_0_1_1_n_n none (wT W (ga j)) (lo (dT X c j)) (constant S128x128 .f32 0x00000000#32))
    (matmul dot_S128x128_S128x128_S128x128_0_0_1_1_n_n none (wT W (gb j)) (hi (dT X c j)) (constant S128x128 .f32 0x00000000#32)))
    shapeCasts_S128x128_S128x128

/-- The tiles of a pair of groups, in the order they are stored, before what was stored earlier. -/
def quad (P : Fin 6 → Fin 4 → Tile) (j : Fin 6) (L : List (View.Piece (Elt Ideal) S512x768 .f32)) : List (View.Piece (Elt Ideal) S512x768 .f32) :=
  ⟨rT 3 j, P j 3⟩ :: ⟨rT 2 j, P j 2⟩ :: ⟨rT 1 j, P j 1⟩ :: ⟨rT 0 j, P j 0⟩ :: L

/-- All tiles. -/
def tiles (P : Fin 6 → Fin 4 → Tile) : List (View.Piece (Elt Ideal) S512x768 .f32) :=
  quad P 5 <| quad P 4 <| quad P 3 <| quad P 2 <| quad P 1 <| quad P 0 []

/-- The mixed rows. -/
def mixA (W : Vec Ideal S12x128x128 .f32) (B : Vec Ideal S128x768 .f32) (X : Vec Ideal S512x768 .bf16) : Blk :=
  (View.whole cc0_scratch3).readCov (tiles (mixP W B X)) rW.toLoadRect

/-- The gradient of the normalised rows. -/
def dvnA (W : Vec Ideal S12x128x128 .f32) (X : Vec Ideal S512x768 .f32) : Blk :=
  (View.whole cc0_scratch2).readCov (tiles (dvnP W X)) rW.toLoadRect

/-- The gradient of `u`. -/
def outU (u d mix : Blk) : FVec Ideal S512x768 .bf16 :=
  truncf .bf16 (mulf (mulf (k0_pay46 d) mix) (k0_pay45 (k0_pay41 u) (k0_pay42 u) (k0_pay43 u))) bitsLt_bf16_f32

/-- Rows times a row of weights. -/
def scaleB (x : Blk) (g : Vec Ideal S1x768 .f32) : Blk := mulf x (broadcastTo S512x768 (k0_pay39 g) broadcasts_S1x768_S512x768)

/-- The sums of the rows. -/
def rowsB (x : Blk) : FVec Ideal S512 .f32 := multiReduction .add [1] S512 x 0x00000000#32 reduces_S512x768_S512 (.inl rfl) rfl

/-- The gradient of `v`. -/
def outV (v dvn : Blk) (g : Vec Ideal S1x768 .f32) : FVec Ideal S512x768 .bf16 :=
  k0_pay256 (k0_pay35 v) (k0_pay37 (k0_pay34 v)) (k0_pay38 (k0_pay34 v)) (scaleB dvn g)
    (divf (shapeCast S512x1 (rowsB (scaleB dvn g)) shapeCasts_S512_S512x1) (broadcast S512x1 (Scalar.ofBits .f32 0x44400000#32 : Ideal .f32)))
    (rowsB (mulf (scaleB dvn g) (k0_pay38 (k0_pay34 v))))

/-- A step's part of the weights' gradient: the products of its tiles, added up. -/
def dwT (f : Tile → FVec Ideal S128x128 .bf16) (D : Vec Ideal S512x768 .f32) (X : Vec Ideal S512x768 .bf16) (j : Fin 6) : Tile :=
  addf (addf (addf (addf zeroT
    (matmul dot_S128x128_S128x128_S128x128_1_1_0_0_n_n none (f (dT D 0 j)) (vT X 0 j) (constant S128x128 .f32 0x00000000#32)))
    (matmul dot_S128x128_S128x128_S128x128_1_1_0_0_n_n none (f (dT D 1 j)) (vT X 1 j) (constant S128x128 .f32 0x00000000#32)))
    (matmul dot_S128x128_S128x128_S128x128_1_1_0_0_n_n none (f (dT D 2 j)) (vT X 2 j) (constant S128x128 .f32 0x00000000#32)))
    (matmul dot_S128x128_S128x128_S128x128_1_1_0_0_n_n none (f (dT D 3 j)) (vT X 3 j) (constant S128x128 .f32 0x00000000#32))

/-- A step's part of the bias's gradient. -/
def dbT (D : Vec Ideal S512x768 .f32) (j : Fin 6) : Tile :=
  addf (addf (addf (addf zeroT (dT D 0 j)) (dT D 1 j)) (dT D 2 j)) (dT D 3 j)

/-- What is stored over the groups. -/
abbrev GList : Type := List (View.Piece (Elt Ideal) S12x128x128 .f32)

/-- What is stored over the lanes. -/
abbrev LList : Type := List (View.Piece (Elt Ideal) S128x768 .f32)

/-- A group's gradient, added to what is read where it lies. -/
def gStep (R : GList → Fin 12 → Vec Ideal S1x128x128 .f32) (x : Tile) (g : Fin 12) (L : GList) : GList :=
  ⟨rG g, shapeCast S1x128x128 (addf (shapeCast S128x128 (R L g) shapeCasts_S1x128x128_S128x128) x) shapeCasts_S128x128_S1x128x128⟩ :: L

/-- The gradients of a pair of groups. -/
def gPair (R : GList → Fin 12 → Vec Ideal S1x128x128 .f32) (D : Vec Ideal S512x768 .f32) (X : Vec Ideal S512x768 .bf16) (j : Fin 6) (L : GList) : GList :=
  gStep R (dwT hi D X j) (gb j) (gStep R (dwT lo D X j) (ga j) L)

/-- The gradients of all groups. -/
def gAll (R : GList → Fin 12 → Vec Ideal S1x128x128 .f32) (D : Vec Ideal S512x768 .f32) (X : Vec Ideal S512x768 .bf16) (L : GList) : GList :=
  gPair R D X 5 <| gPair R D X 4 <| gPair R D X 3 <| gPair R D X 2 <| gPair R D X 1 <| gPair R D X 0 L

/-- A pair's lanes, added to what is read where they lie. -/
def lStep (R : LList → Fin 6 → Tile) (D : Vec Ideal S512x768 .f32) (j : Fin 6) (L : LList) : LList :=
  ⟨rL j, shapeCast S128x128 (addf (R L j) (dbT D j)) shapeCasts_S128x128_S128x128⟩ :: L

/-- All lanes. -/
def lAll (R : LList → Fin 6 → Tile) (D : Vec Ideal S512x768 .f32) (L : LList) : LList :=
  lStep R D 5 <| lStep R D 4 <| lStep R D 3 <| lStep R D 2 <| lStep R D 1 <| lStep R D 0 L

/-- A group's gradient, zeroed above the diagonal. -/
def mStep (R : GList → Fin 12 → Vec Ideal S1x128x128 .f32) (g : Fin 12) (L : GList) : GList :=
  ⟨rG g, shapeCast S1x128x128 (select k0_pay25 (shapeCast S128x128 (R L g) shapeCasts_S1x128x128_S128x128) zeroT) shapeCasts_S128x128_S1x128x128⟩ :: L

/-- All groups' gradients, zeroed above the diagonal. -/
def mAll (R : GList → Fin 12 → Vec Ideal S1x128x128 .f32) (L : GList) : GList :=
  mStep R 11 <| mStep R 10 <| mStep R 9 <| mStep R 8 <| mStep R 7 <| mStep R 6 <|
    mStep R 5 <| mStep R 4 <| mStep R 3 <| mStep R 2 <| mStep R 1 <| mStep R 0 L

/-- The lanes. -/
abbrev laneT : IVec S128x128 32 := iota .tc S128x128 32 [1] iota_S128x128_d1_w32

/-- A group's column of the bias's gradient. -/
def colT (keep : IVec S128x128 1) (n : BitVec 32) (x acc : Tile) : Tile :=
  select (cmpi .eq laneT (broadcast S128x128 n))
    (broadcastTo S128x128 (shapeCast S128x1 (shapeCast S128x1 (multiReduction .add [1] S128 (select keep x zeroT) 0x00000000#32
      reduces_S128x128_S128 (.inl rfl) rfl) shapeCasts_S128_S128x1) shapeCasts_S128x1_S128x1) broadcasts_S128x1_S128x128) acc

/-- The first half of the lanes. -/
abbrev fstT : IVec S128x128 1 := cmpi .slt laneT (broadcast S128x128 64#32)

/-- The second half of the lanes. -/
abbrev sndT : IVec S128x128 1 := cmpi .sge laneT (broadcast S128x128 64#32)

/-- The columns of a pair. -/
def colP (P : Fin 6 → Tile) (n0 n1 : BitVec 32) (j : Fin 6) (acc : Tile) : Tile := colT sndT n1 (P j) (colT fstT n0 (P j) acc)

/-- The bias's gradient. -/
def cols (P : Fin 6 → Tile) : Tile :=
  colP P 10#32 11#32 5 <| colP P 8#32 9#32 4 <| colP P 6#32 7#32 3 <| colP P 4#32 5#32 2 <| colP P 2#32 3#32 1 <| colP P 0#32 1#32 0 zeroT

variable (m : (ℓ : Loc nD τ sig) → Buf (Elt Ideal) ℓ) (c : Dev nD)

/-- The normalised rows of a point. -/
def vnB (t : Fin cfg0.N) : Vec Ideal S512x768 .bf16 := k0_pay40 (k0_pay34 (X0_1 m c t)) (iblk m c 3 t) (iblk m c 4 t)

/-- The gradient of the mixed rows of a point. -/
def dmB (t : Fin cfg0.N) : Vec Ideal S512x768 .f32 := k0_pay47 (k0_pay44 (X0_0 m c t)) (X0_2 m c t)

/-- What a point stores as the gradient of `u`. -/
theorem store7 (t : Fin cfg0.N) : (outsAt0 m c t.val t.isLt).1
    = outU (X0_0 m c t) (X0_2 m c t) (mixA (iblk m c 5 t) (iblk m c 6 t) (vnB m c t)) := by
  by_cases h0 : t.val % 16 = 0
  · rw [outsAt0_A m c t h0 (by omega)]
    frame_out
    rfl
  · by_cases h1 : t.val % 16 = 15
    · rw [outsAt0_C m c t h0 h1]
      frame_out
      rfl
    · rw [outsAt0_B m c t h0 h1]
      frame_out
      rfl

/-- What a point stores as the gradient of `v`. -/
theorem store8 (t : Fin cfg0.N) : (outsAt0 m c t.val t.isLt).2.1
    = outV (X0_1 m c t) (dvnA (iblk m c 5 t) (dmB m c t)) (iblk m c 3 t) := by
  by_cases h0 : t.val % 16 = 0
  · rw [outsAt0_A m c t h0 (by omega)]
    frame_out
    rfl
  · by_cases h1 : t.val % 16 = 15
    · rw [outsAt0_C m c t h0 h1]
      frame_out
      rfl
    · rw [outsAt0_B m c t h0 h1]
      frame_out
      rfl

/-- What the first point stores as the scale's gradient. -/
theorem store11_zero (t : Fin cfg0.N) (h0 : t.val % 16 = 0) : (outsAt0 m c t.val t.isLt).2.2.2.2.1
    = k0_pay257 (k0_pay38 (k0_pay34 (X0_1 m c t))) (dvnA (iblk m c 5 t) (dmB m c t)) (k0_pay28 (F := Ideal)) := by
  rw [outsAt0_A m c t h0 (by omega)]
  frame_out
  rfl

/-- What a later point stores as the scale's gradient. -/
theorem store11_succ (t : Fin cfg0.N) (h0 : ¬t.val % 16 = 0) : (outsAt0 m c t.val t.isLt).2.2.2.2.1
    = k0_pay257 (k0_pay38 (k0_pay34 (X0_1 m c t))) (dvnA (iblk m c 5 t) (dmB m c t)) (outsAt0 m c (t.val - 1) (by omega)).2.2.2.2.1 := by
  by_cases h1 : t.val % 16 = 15
  · rw [outsAt0_C m c t h0 h1]
    frame_out
    rfl
  · rw [outsAt0_B m c t h0 h1]
    frame_out
    rfl

/-- What the first point stores as the shift's gradient. -/
theorem store12_zero (t : Fin cfg0.N) (h0 : t.val % 16 = 0) : (outsAt0 m c t.val t.isLt).2.2.2.2.2.1
    = k0_pay1 (F := Ideal) (dvnA (iblk m c 5 t) (dmB m c t)) (k0_pay29 (F := Ideal)) := by
  rw [outsAt0_A m c t h0 (by omega)]
  frame_out
  rfl

/-- What a later point stores as the shift's gradient. -/
theorem store12_succ (t : Fin cfg0.N) (h0 : ¬t.val % 16 = 0) : (outsAt0 m c t.val t.isLt).2.2.2.2.2.1
    = k0_pay1 (F := Ideal) (dvnA (iblk m c 5 t) (dmB m c t)) (outsAt0 m c (t.val - 1) (by omega)).2.2.2.2.2.1 := by
  by_cases h1 : t.val % 16 = 15
  · rw [outsAt0_C m c t h0 h1]
    frame_out
    rfl
  · rw [outsAt0_B m c t h0 h1]
    frame_out
    rfl

end Cert.SguBwdIdeal.Pay

end
-- ==== Proof.LayerNorm.lean ====
/- The normalisation of a row of real numbers and its derivative: the form the kernels compute and the form that
   differentiating the forward lines one by one gives are the same function. -/
module

public import Mathlib.Analysis.SpecialFunctions.Pow.Real

@[expose] public section

noncomputable section

namespace Cert.LayerNorm

variable {n : ℕ}

/-- The mean of a row of length `n`. -/
def mean (n : ℕ) (x : Fin n → ℝ) : ℝ := (∑ k, x k) / n

/-- A row less its mean. -/
def cen (x : Fin n → ℝ) (d : Fin n) : ℝ := x d - mean n x

/-- The mean of the squared deviations. -/
def var (x : Fin n → ℝ) : ℝ := mean n fun k => cen x k * cen x k

/-- The reciprocal standard deviation, with the small constant `e` under the root. -/
def rstd (e : ℝ) (x : Fin n → ℝ) : ℝ := (Real.sqrt (var x + e))⁻¹

/-- The normalised row. -/
def xhat (e : ℝ) (x : Fin n → ℝ) (d : Fin n) : ℝ := cen x d * rstd e x

/-- The row's gradient as the kernels compute it from the gradient `h` of the normalised row. -/
def back (e : ℝ) (x h : Fin n → ℝ) (d : Fin n) : ℝ :=
  rstd e x * (h d - mean n h - xhat e x d * mean n fun k => h k * xhat e x k)

/-- The gradient that reaches the deviations through the variance. -/
def varGrad (e : ℝ) (x h : Fin n → ℝ) : ℝ :=
  (∑ k, cen x k * h k) * (-1 / 2 * (rstd e x / (var x + e))) / n

/-- The row's gradient as differentiating the forward lines one by one gives it. -/
def vjp (e : ℝ) (x h : Fin n → ℝ) (d : Fin n) : ℝ :=
  h d * rstd e x + varGrad e x h * (2 * cen x d)
    + (∑ k, -(h k * rstd e x) + ∑ k, -(varGrad e x h * (2 * cen x k))) / n

theorem var_nonneg (x : Fin n → ℝ) : 0 ≤ var x :=
  div_nonneg (Finset.sum_nonneg fun k _ => mul_self_nonneg _) n.cast_nonneg

theorem var_add_pos {e : ℝ} (he : 0 < e) (x : Fin n → ℝ) : 0 < var x + e := add_pos_of_nonneg_of_pos (var_nonneg x) he

/-- The deviations of a row from its mean sum to zero. -/
theorem sum_cen (hn : 0 < n) (x : Fin n → ℝ) : ∑ k, cen x k = 0 := by
  have : (n : ℝ) ≠ 0 := by positivity
  simp only [cen, mean, Finset.sum_sub_distrib, Finset.sum_const, Finset.card_univ, Fintype.card_fin, nsmul_eq_mul]
  field_simp
  ring

/-- The square of the reciprocal standard deviation. -/
theorem rstd_sq {e : ℝ} (he : 0 < e) (x : Fin n → ℝ) : rstd e x * rstd e x = (var x + e)⁻¹ := by
  rw [rstd, ← mul_inv, Real.mul_self_sqrt (var_add_pos he x).le]

/-- The two forms of the gradient agree. -/
theorem vjp_eq_back {e : ℝ} (he : 0 < e) (hn : 0 < n) (x h : Fin n → ℝ) (d : Fin n) : vjp e x h d = back e x h d := by
  have hn' : (n : ℝ) ≠ 0 := by positivity
  have h1 : ∑ k, -(h k * rstd e x) = -((∑ k, h k) * rstd e x) := by
    rw [Finset.sum_neg_distrib, Finset.sum_mul]
  have h2 : ∑ k, -(varGrad e x h * (2 * cen x k)) = 0 := by
    rw [Finset.sum_neg_distrib, ← Finset.mul_sum, ← Finset.mul_sum, sum_cen hn]; ring
  have h3 : ∑ k, h k * xhat e x k = (∑ k, cen x k * h k) * rstd e x := by
    rw [Finset.sum_mul]; exact Finset.sum_congr rfl fun k _ => by rw [xhat]; ring
  have h4 : rstd e x / (var x + e) = rstd e x * (rstd e x * rstd e x) := by rw [rstd_sq he, div_eq_mul_inv]
  rw [vjp, h1, h2, varGrad, h4, back, mean, mean, h3, xhat]
  field_simp
  ring

end Cert.LayerNorm

end
-- ==== Proof.SguMath.lean ====
/- The spatial gate at real numbers: the activation, its derivative, and the gradients over all rows. -/
module

public import proofs.«01_k».proof.Proof.RealLift
public import proofs.«01_k».proof.Proof.LayerNorm

@[expose] public section

noncomputable section

open Idealize.ShloMosaic

namespace Cert.SguMath

open Cert.RealLift Cert.LayerNorm

/-- The activation's outer constant, as the float the programs hold (about `√(2/π)`). -/
def outer : ℝ := 13386282 / 2 ^ 24

theorem ofBits_outer : Ideal.ofBits .f32 0x3F4C422A#32 = ((outer : ℝ) : EReal) := by
  unfold outer
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_three : Ideal.ofBits .f32 0x40400000#32 = ((3 : ℝ) : EReal) := by
  simp [Ideal.ofBits, Ideal.ieee, -EReal.coe_mul]; norm_num

theorem ofBits_num : Ideal.ofBits .f32 0x460BBC00#32 = ((8943 : ℝ) : EReal) := by
  simp [Ideal.ofBits, Ideal.ieee, -EReal.coe_mul]; norm_num

theorem ofBits_den : Ideal.ofBits .f32 0x48435000#32 = ((200000 : ℝ) : EReal) := by
  simp [Ideal.ofBits, Ideal.ieee, -EReal.coe_mul]; norm_num

theorem ofBits_768 : Ideal.ofBits .f32 0x44400000#32 = ((768 : ℝ) : EReal) := by
  simp [Ideal.ofBits, Ideal.ieee, -EReal.coe_mul]; norm_num

/-- Division by the pattern of `768`. -/
theorem div_768 (a : ℝ) : Ideal.div (a : EReal) (Ideal.ofBits .f32 0x44400000#32) = ((a / 768 : ℝ) : EReal) := by
  rw [ofBits_768, div_real a (by norm_num)]

/-- The hyperbolic tangent of a real number. -/
theorem tanh_real (a : ℝ) : Ideal.tanh (a : EReal) = ((Real.tanh a : ℝ) : EReal) := rfl

/-- The activation's inner tangent. -/
def th (x : ℝ) : ℝ := Real.tanh (outer * (x + 8943 / 200000 * x * (x * x)))

/-- The activation. -/
def gel (x : ℝ) : ℝ := 1 / 2 * x * (1 + th x)

/-- Its derivative. -/
def geld (x : ℝ) : ℝ := 1 / 2 * (1 + th x) + 1 / 2 * x * (1 - th x * th x) * (outer * (1 + 26829 / 200000 * (x * x)))

/-- The group of a column. -/
abbrev grp (l : Fin 768) : Fin 12 := ⟨l.val / 64, by omega⟩

/-- The place of a row in its chunk. -/
abbrev spot (r : Fin 8192) : Fin 128 := ⟨r.val % 128, by omega⟩

/-- Row `q` of the chunk that a row lies in. -/
abbrev mate (r : Fin 8192) (q : Fin 128) : Fin 8192 := ⟨r.val / 128 * 128 + q.val, by omega⟩

/-- The mixing weights, on and below the diagonal. -/
def tri (w : (⟨3, ![12, 128, 128]⟩ : Shape).Idx → ℝ) (g : Fin 12) (t s : Fin 128) : ℝ := if s.val ≤ t.val then w (ix3 g t s) else 0

/-- Lane `e` of a group. -/
abbrev lane (g : Fin 12) (e : Fin 64) : Fin 768 := ⟨64 * g.val + e.val, by omega⟩

/-- Row `t` of chunk `n`. -/
abbrev rowOf (n : Fin 64) (t : Fin 128) : Fin 8192 := ⟨128 * n.val + t.val, by omega⟩

/-- What the gradients are computed from: the rows `u` and `v`, the gradient of the gated rows, the normalisation's scale and shift, the
    mixing weights, and the mixing bias of each place and column. -/
structure Args where
  u : Fin 8192 → Fin 768 → ℝ
  v : Fin 8192 → Fin 768 → ℝ
  d : Fin 8192 → Fin 768 → ℝ
  g : Fin 768 → ℝ
  b : Fin 768 → ℝ
  w : (⟨3, ![12, 128, 128]⟩ : Shape).Idx → ℝ
  s : Fin 128 → Fin 768 → ℝ

variable (A : Args)

/-- The rows that are normalised. -/
def gv (r : Fin 8192) : Fin 768 → ℝ := fun l => gel (A.v r l)

/-- The normalised rows, scaled and shifted. -/
def vn (r : Fin 8192) (l : Fin 768) : ℝ := xhat eps (gv A r) l * A.g l + A.b l

/-- The gradient of the mixed rows. -/
def dmx (r : Fin 8192) (l : Fin 768) : ℝ := A.d r l * gel (A.u r l)

/-- The mixed rows. -/
def mix (r : Fin 8192) (l : Fin 768) : ℝ := ∑ q : Fin 128, tri A.w (grp l) (spot r) q * vn A (mate r q) l + A.s (spot r) l

/-- The gradient of the normalised rows. -/
def dvn (r : Fin 8192) (l : Fin 768) : ℝ := ∑ q : Fin 128, tri A.w (grp l) q (spot r) * dmx A (mate r q) l

/-- The gradient of `u`. -/
def du (r : Fin 8192) (l : Fin 768) : ℝ := A.d r l * mix A r l * geld (A.u r l)

/-- The gradient of `v`. -/
def dv (r : Fin 8192) (l : Fin 768) : ℝ := back eps (gv A r) (fun l => dvn A r l * A.g l) l * geld (A.v r l)

/-- The gradient of the mixing weights. -/
def dw (g : Fin 12) (t s : Fin 128) : ℝ :=
  if s.val ≤ t.val then ∑ n : Fin 64, ∑ e : Fin 64, dmx A (rowOf n t) (lane g e) * vn A (rowOf n s) (lane g e) else 0

/-- The gradient of the mixing bias. -/
def ds (g : Fin 12) (t : Fin 128) : ℝ := ∑ n : Fin 64, ∑ e : Fin 64, dmx A (rowOf n t) (lane g e)

/-- The gradient of the scale. -/
def dg (l : Fin 768) : ℝ := ∑ r : Fin 8192, dvn A r l * xhat eps (gv A r) l

/-- The gradient of the shift. -/
def db (l : Fin 768) : ℝ := ∑ r : Fin 8192, dvn A r l

end Cert.SguMath

end
-- ==== Proof.SguPay.lean ====
/- What the spatial gate's backward kernel computes in one block of rows, at real numbers. -/
module

public import proofs.«01_k».proof.Proof.SguTiles
public import proofs.«01_k».proof.Proof.SguMath
public import Idealize.ShloMosaic.PureOps.IdealRules

@[expose] public section

set_option maxRecDepth 16384

noncomputable section

open Idealize.ShloMosaic Idealize.ShloMosaic.TcCoe Idealize.SL.Sem

namespace Cert.SguBwdIdeal.Pay

open Cert.SguBwdIdeal Cert.SguBwdIdeal.Gen Cert.RealLift Cert.LayerNorm Cert.SguMath

/-- Row `r` of a block. -/
abbrev row {n k : ℕ} (z : (⟨2, ![n, k]⟩ : Shape).Idx → ℝ) (r : Fin n) : Fin k → ℝ := fun d => z (ix2 r d)

theorem cubic_real : Named.named (F := Ideal) κ "cubic" (φ := .f32) 0x3D372713#32 = ((8943 / 200000 : ℝ) : EReal) :=
  IdealRules.named_const.ideal_named_scalar κ "cubic" (φ := .f32) 0x3D372713#32 _ rfl

theorem cubic3_real : Named.named (F := Ideal) κ "cubic3" (φ := .f32) 0x3E095D4F#32 = ((26829 / 200000 : ℝ) : EReal) :=
  IdealRules.named_const.ideal_named_scalar κ "cubic3" (φ := .f32) 0x3E095D4F#32 _ rfl

theorem pay33_real (x : S512x768.Idx → ℝ) : k0_pay33 (F := Ideal) (re x) = re fun i => th (x i) := by
  funext i
  idx_vars i
  pointwise [k0_pay33, k0_pay32, k0_pay31]
  rw [cubic_real, ofBits_outer]
  simp only [← EReal.coe_mul, ← EReal.coe_add, tanh_real]
  rfl

/-- The activation. -/
theorem pay34_real (x : S512x768.Idx → ℝ) : k0_pay34 (F := Ideal) (re x) = re fun i => gel (x i) := by
  unfold k0_pay34
  rw [pay33_real]
  funext i
  idx_vars i
  pointwise [k0_pay31]
  rw [ofBits_half]
  simp only [← EReal.coe_one, ← EReal.coe_mul, ← EReal.coe_add]
  rfl

/-- The activation's derivative. -/
theorem pay35_real (x : S512x768.Idx → ℝ) : k0_pay35 (F := Ideal) (re x) = re fun i => geld (x i) := by
  unfold k0_pay35
  rw [pay33_real]
  funext i
  idx_vars i
  pointwise [k0_pay31, k0_pay32]
  rw [cubic3_real, ofBits_half, ofBits_outer]
  simp only [← EReal.coe_one, ← EReal.coe_mul, ← EReal.coe_add, ← EReal.coe_sub]
  rfl

theorem pay44_real (x : S512x768.Idx → ℝ) : k0_pay44 (F := Ideal) (re x) = re fun i => gel (x i) := pay34_real x

theorem pay45_real (x : S512x768.Idx → ℝ) :
    k0_pay45 (F := Ideal) (k0_pay41 (re x)) (k0_pay42 (re x)) (k0_pay43 (re x)) = re fun i => geld (x i) := pay35_real x

/-- The deviations of each row from its mean. -/
theorem pay36_real (z : S512x768.Idx → ℝ) : k0_pay36 (F := Ideal) (re z) = re fun i => cen (row z (i 0)) (i 1) := by
  funext i
  idx_vars i
  pointwise [k0_pay36]
  simp only [coe_sum, div_768, ← EReal.coe_sub, cen, mean, Nat.cast_ofNat]
  rfl

/-- The reciprocal standard deviation of each row. -/
theorem pay37_real (z : S512x768.Idx → ℝ) : k0_pay37 (F := Ideal) (re z) = re fun i => rstd eps (row z (i 0)) := by
  unfold k0_pay37
  rw [pay36_real]
  funext i
  idx_vars i
  pointwise []
  simp only [coe_sum, ← EReal.coe_mul, div_768, ofBits_eps, ← EReal.coe_add]
  have e : (∑ x : Fin 768, cen (row z i0) x * cen (row z i0) x) / 768 + eps = var (row z i0) + eps := by
    simp only [var, mean, Nat.cast_ofNat]
  exact (congrArg (fun a : ℝ => Ideal.rsqrt (a : EReal)) e).trans (rsqrt_real (var_add_pos eps_pos _))

/-- Each row normalised. -/
theorem pay38_real (z : S512x768.Idx → ℝ) : k0_pay38 (F := Ideal) (re z) = re fun i => xhat eps (row z (i 0)) (i 1) := by
  unfold k0_pay38
  rw [pay37_real, pay36_real]
  funext i
  idx_vars i
  pointwise []
  simp only [← EReal.coe_mul, xhat]
  rfl

/-- Each row normalised, scaled and shifted. -/
theorem pay40_real (z : S512x768.Idx → ℝ) (g b : S1x768.Idx → ℝ) :
    k0_pay40 (F := Ideal) (re z) (re g) (re b) = re fun i => xhat eps (row z (i 0)) (i 1) * g (ix2 0 (i 1)) + b (ix2 0 (i 1)) := by
  unfold k0_pay40
  rw [pay38_real]
  funext i
  idx_vars i
  pointwise [k0_pay39]
  simp only [← EReal.coe_mul, ← EReal.coe_add]
  rfl

/-- The gradient of the mixed rows. -/
theorem pay47_real (x d : S512x768.Idx → ℝ) : k0_pay47 (F := Ideal) (re x) (re d) = re fun i => d i * x i := by
  funext i
  idx_vars i
  pointwise [k0_pay47, k0_pay46]
  simp only [← EReal.coe_mul]

/-- The gradient of `u` in one block. -/
theorem outU_real (u d x : S512x768.Idx → ℝ) : outU (re u) (re d) (re x) = re fun i => d i * x i * geld (u i) := by
  unfold outU
  rw [pay45_real]
  funext i
  idx_vars i
  pointwise [k0_pay46]
  simp only [← EReal.coe_mul]

theorem scaleB_real (x : S512x768.Idx → ℝ) (g : S1x768.Idx → ℝ) : scaleB (re x) (re g) = re fun i => x i * g (ix2 0 (i 1)) := by
  funext i
  idx_vars i
  pointwise [scaleB, k0_pay39]
  simp only [← EReal.coe_mul]
  rfl

/-- The gradient of `v` in one block. -/
theorem outV_real (v d : S512x768.Idx → ℝ) (g : S1x768.Idx → ℝ) :
    outV (re v) (re d) (re g) = re fun i =>
      back eps (fun l => gel (v (ix2 (i 0) l))) (fun l => d (ix2 (i 0) l) * g (ix2 0 l)) (i 1) * geld (v i) := by
  unfold outV
  rw [pay34_real, pay35_real, pay37_real, pay38_real, scaleB_real]
  funext i
  idx_vars i
  pointwise [k0_pay256, rowsB]
  simp only [← EReal.coe_mul, coe_sum, div_768, ← EReal.coe_sub, back, mean, Nat.cast_ofNat]
  rfl

/-- The block's rows add to the running gradient of the scale. -/
theorem pay257_real (v d : S512x768.Idx → ℝ) (s : Vec Ideal S1x768 .f32) :
    k0_pay257 (F := Ideal) (k0_pay38 (k0_pay34 (re v))) (re d) s
      = fun i => s i + ((∑ r : Fin 512, d (ix2 r (i 1)) * xhat eps (fun l => gel (v (ix2 r l))) (i 1) : ℝ) : EReal) := by
  rw [pay34_real, pay38_real]
  funext i
  idx_vars i
  pointwise [k0_pay257]
  simp only [← EReal.coe_mul, coe_sum]
  rfl

/-- The block's rows add to the running gradient of the shift. -/
theorem pay1_real (d : S512x768.Idx → ℝ) (s : Vec Ideal S1x768 .f32) :
    k0_pay1 (F := Ideal) (re d) s = fun i => s i + ((∑ r : Fin 512, d (ix2 r (i 1)) : ℝ) : EReal) := by
  funext i
  idx_vars i
  pointwise [k0_pay1]
  simp only [coe_sum]

/-- The mask of the places on and below the diagonal. -/
theorem mask25 (t s : Fin 128) : k0_pay25 (ix2 t s) = if s.val ≤ t.val then 1#1 else 0#1 := by
  pointwise [k0_pay25]
  have h : ∀ a : Fin 128, (BitVec.ofNat 32 a.val).toInt = a.val := by decide +kernel
  unfold IntOp.cmpi
  simp only [BitVec.sle, h]
  by_cases hs : s.val ≤ t.val
  · simp [hs]
  · simp [hs]

/-- The mask of the first half of the lanes. -/
theorem mask26 (t l : Fin 128) : k0_pay26 (ix2 t l) = if l.val < 64 then 1#1 else 0#1 := by
  pointwise [k0_pay26]
  exact (by decide +kernel : ∀ l : Fin 128, IntOp.cmpi .slt (BitVec.ofNat 32 l.val) 64#32 = if l.val < 64 then 1#1 else 0#1) l

/-- A group read out of the array of all. -/
theorem ldG (W : Vec Ideal S12x128x128 .f32) (g : Fin 12) : View.ld W (rG g) = fun j : S1x128x128.Idx => W (ix3 g (j 1) (j 2)) := by
  funext j
  refine congrArg W (funext fun a => Fin.ext ?_)
  have h0 : (j 0).val = 0 := by have := (j 0).isLt; have e : (rG g).shape.size 0 = 1 := rfl; omega
  match a with
  | ⟨0, _⟩ => show g.val + 1 * (j 0).val = g.val; omega
  | ⟨1, _⟩ => show 0 + 1 * (j 1).val = (j 1).val; omega
  | ⟨2, _⟩ => show 0 + 1 * (j 2).val = (j 2).val; omega

/-- A pair's lanes read out of the array of all. -/
theorem ldL (B : Vec Ideal S128x768 .f32) (j : Fin 6) :
    View.ld B (rL j) = fun i : S128x128.Idx => B (ix2 (i 0) ⟨128 * j.val + (i 1).val, by have : (i 1).val < 128 := (i 1).isLt; omega⟩) := by
  funext i
  refine congrArg B (funext fun a => Fin.ext ?_)
  match a with
  | ⟨0, _⟩ => show 0 + 1 * (i 0).val = (i 0).val; omega
  | ⟨1, _⟩ => show 128 * j.val + 1 * (i 1).val = 128 * j.val + (i 1).val; omega

/-- A group's square, kept on and below the diagonal. -/
theorem keepG (X : Vec Ideal S1x128x128 .f32) (i0 i1 : Fin 128) :
    (truncf .bf16 (select k0_pay25 (shapeCast S128x128 X shapeCasts_S1x128x128_S128x128) zeroT) bitsLt_bf16_f32 : FVec Ideal S128x128 .bf16) (ix2 i0 i1)
      = Scalar.select (k0_pay25 (ix2 i0 i1)) (X (ix3 0 i0 i1)) (0 : EReal) := by
  pointwise []

/-- A group's weights. -/
theorem wT_real (w : S12x128x128.Idx → ℝ) (g : Fin 12) : wT (re w) g = re fun i => tri w g (i 0) (i 1) := by
  funext i
  idx_vars i
  refine (keepG _ i0 i1).trans ?_
  rw [ldG, mask25]
  by_cases h : i1.val ≤ i0.val
  · rw [if_pos h]
    show ((w (ix3 g i0 i1) : ℝ) : EReal) = ((tri w g i0 i1 : ℝ) : EReal)
    rw [tri, if_pos h]
  · rw [if_neg h]
    show (0 : EReal) = ((tri w g i0 i1 : ℝ) : EReal)
    rw [tri, if_neg h, EReal.coe_zero]

/-- Row `i` of the block's chunk `c`. -/
abbrev rowAt (c : Fin 4) (i : Fin 128) : Fin 512 := ⟨128 * c.val + i.val, by omega⟩

/-- Lane `l` of a pair of groups. -/
abbrev colAt (j : Fin 6) (l : Fin 128) : Fin 768 := ⟨128 * j.val + l.val, by omega⟩

theorem tile_idx (c : Fin 4) (j : Fin 6) (i : S128x128.Idx) : (rT c j).toLoadRect.idx i = (ix2 (rowAt c (i 0)) (colAt j (i 1)) : S512x768.Idx) := by
  funext a
  apply Fin.ext
  match a with
  | ⟨0, _⟩ => show 128 * c.val + 1 * (i 0).val = 128 * c.val + (i 0).val; omega
  | ⟨1, _⟩ => show 128 * j.val + 1 * (i 1).val = 128 * j.val + (i 1).val; omega

theorem vT_real (x : S512x768.Idx → ℝ) (c : Fin 4) (j : Fin 6) : vT (re x) c j = re fun i => x (ix2 (rowAt c (i 0)) (colAt j (i 1))) := by
  unfold vT
  rw [View.readCov_eq_canon']
  funext i
  exact (congrFun (View.canon_cons_unit_lit (Val := Elt Ideal) (e := .bf16) (S := S512x768) (off := ![0, 0]) inb_S512x768_S512x768_0_0 (re x) [] (by decide)) _).trans (congrArg (re x) (tile_idx c j i))

theorem dT_real (x : S512x768.Idx → ℝ) (c : Fin 4) (j : Fin 6) : dT (re x) c j = re fun i => x (ix2 (rowAt c (i 0)) (colAt j (i 1))) := by
  unfold dT
  rw [View.readCov_eq_canon']
  funext i
  exact (congrFun (View.canon_cons_unit_lit (Val := Elt Ideal) (e := .f32) (S := S512x768) (off := ![0, 0]) inb_S512x768_S512x768_0_0 (re x) [] (by decide)) _).trans (congrArg (re x) (tile_idx c j i))

theorem lo_real (x : S128x128.Idx → ℝ) : lo (re x) = re fun i => if (i 1).val < 64 then x i else 0 := by
  funext i
  idx_vars i
  pointwise [lo]
  rw [mask26]
  by_cases h : i1.val < 64
  · rw [if_pos h]
    show _ = (((if i1.val < 64 then x (ix2 i0 i1) else 0 : ℝ)) : EReal)
    rw [if_pos h]
    rfl
  · rw [if_neg h]
    show _ = (((if i1.val < 64 then x (ix2 i0 i1) else 0 : ℝ)) : EReal)
    rw [if_neg h, EReal.coe_zero]
    rfl

theorem hi_real (x : S128x128.Idx → ℝ) : hi (re x) = re fun i => if (i 1).val < 64 then 0 else x i := by
  funext i
  idx_vars i
  pointwise [hi]
  rw [mask26]
  by_cases h : i1.val < 64
  · rw [if_pos h]
    show _ = (((if i1.val < 64 then 0 else x (ix2 i0 i1) : ℝ)) : EReal)
    rw [if_pos h, EReal.coe_zero]
    rfl
  · rw [if_neg h]
    show _ = (((if i1.val < 64 then 0 else x (ix2 i0 i1) : ℝ)) : EReal)
    rw [if_neg h]
    rfl

/-- A product of tiles. -/
theorem mul_real (a b : S128x128.Idx → ℝ) :
    (matmul (F := Ideal) (φ₁ := .bf16) (φ₂ := .bf16) dot_S128x128_S128x128_S128x128_1_0_0_1_n_n none (re a) (re b)
      (constant (F := Ideal) S128x128 .f32 0x00000000#32) : Tile) = re fun i => ∑ q : Fin 128, a (ix2 (i 0) q) * b (ix2 q (i 1)) := by
  funext i
  idx_vars i
  pointwise []
  simp only [← EReal.coe_mul, coe_sum]
  rfl

/-- A product of tiles, the first transposed. -/
theorem mul_tn_real (a b : S128x128.Idx → ℝ) :
    (matmul (F := Ideal) (φ₁ := .bf16) (φ₂ := .bf16) dot_S128x128_S128x128_S128x128_0_0_1_1_n_n none (re a) (re b)
      (constant (F := Ideal) S128x128 .f32 0x00000000#32) : Tile) = re fun i => ∑ q : Fin 128, a (ix2 q (i 0)) * b (ix2 q (i 1)) := by
  funext i
  idx_vars i
  pointwise []
  simp only [← EReal.coe_mul, coe_sum]
  rfl

/-- A product of tiles, the second transposed. -/
theorem mul_nt_real (a b : S128x128.Idx → ℝ) :
    (matmul (F := Ideal) (φ₁ := .bf16) (φ₂ := .bf16) dot_S128x128_S128x128_S128x128_1_1_0_0_n_n none (re a) (re b)
      (constant (F := Ideal) S128x128 .f32 0x00000000#32) : Tile) = re fun i => ∑ l : Fin 128, a (ix2 (i 0) l) * b (ix2 (i 1) l) := by
  funext i
  idx_vars i
  pointwise []
  simp only [← EReal.coe_mul, coe_sum]
  rfl

/-- The bias of a pair of groups. -/
theorem bT_real (s : S128x768.Idx → ℝ) (j : Fin 6) : bT (re s) j = re fun i => s (ix2 (i 0) (colAt j (i 1))) := by
  unfold bT
  rw [ldL]
  funext i
  idx_vars i
  pointwise []
  rfl

/-- The group of a lane of a pair. -/
theorem grp_lo (j : Fin 6) (l : Fin 128) (h : l.val < 64) : grp (colAt j l) = ga j := by
  apply Fin.ext
  show (128 * j.val + l.val) / 64 = 2 * j.val
  omega

theorem grp_hi (j : Fin 6) (l : Fin 128) (h : ¬l.val < 64) : grp (colAt j l) = gb j := by
  apply Fin.ext
  show (128 * j.val + l.val) / 64 = 2 * j.val + 1
  have := l.isLt
  omega

/-- A tile of the mixed rows. -/
theorem mixP_real (w : S12x128x128.Idx → ℝ) (s : S128x768.Idx → ℝ) (x : S512x768.Idx → ℝ) (j : Fin 6) (c : Fin 4) :
    mixP (re w) (re s) (re x) j c = re fun i =>
      ∑ q : Fin 128, tri w (grp (colAt j (i 1))) (i 0) q * x (ix2 (rowAt c q) (colAt j (i 1))) + s (ix2 (i 0) (colAt j (i 1))) := by
  unfold mixP
  rw [wT_real, wT_real, vT_real, bT_real, mul_real, mul_real]
  funext i
  idx_vars i
  pointwise []
  rw [mask26]
  by_cases h : i1.val < 64
  · rw [if_pos h]
    show ((_ : ℝ) : EReal) + ((_ : ℝ) : EReal) = ((_ : ℝ) : EReal)
    rw [← EReal.coe_add]
    show _ = ((∑ q : Fin 128, tri w (grp (colAt j i1)) i0 q * x (ix2 (rowAt c q) (colAt j i1)) + s (ix2 i0 (colAt j i1)) : ℝ) : EReal)
    rw [grp_lo j i1 h]
    rfl
  · rw [if_neg h]
    show ((_ : ℝ) : EReal) + ((_ : ℝ) : EReal) = ((_ : ℝ) : EReal)
    rw [← EReal.coe_add]
    show _ = ((∑ q : Fin 128, tri w (grp (colAt j i1)) i0 q * x (ix2 (rowAt c q) (colAt j i1)) + s (ix2 i0 (colAt j i1)) : ℝ) : EReal)
    rw [grp_hi j i1 h]
    rfl

/-- A tile of the normalised rows' gradient. -/
theorem dvnP_real (w : S12x128x128.Idx → ℝ) (x : S512x768.Idx → ℝ) (j : Fin 6) (c : Fin 4) :
    dvnP (re w) (re x) j c = re fun i =>
      ∑ q : Fin 128, tri w (grp (colAt j (i 1))) q (i 0) * x (ix2 (rowAt c q) (colAt j (i 1))) := by
  unfold dvnP
  rw [wT_real, wT_real, dT_real, lo_real, hi_real, mul_tn_real, mul_tn_real]
  funext i
  idx_vars i
  pointwise []
  show ((_ : ℝ) : EReal) + ((_ : ℝ) : EReal) = ((∑ q : Fin 128, tri w (grp (colAt j i1)) q i0 * x (ix2 (rowAt c q) (colAt j i1)) : ℝ) : EReal)
  rw [← EReal.coe_add]
  refine congrArg _ ?_
  show ∑ q : Fin 128, tri w (ga j) q i0 * (if i1.val < 64 then x (ix2 (rowAt c q) (colAt j i1)) else 0)
    + ∑ q : Fin 128, tri w (gb j) q i0 * (if i1.val < 64 then 0 else x (ix2 (rowAt c q) (colAt j i1))) = _
  by_cases h : i1.val < 64
  · simp only [if_pos h, mul_zero, Finset.sum_const_zero, add_zero, grp_lo j i1 h]
  · simp only [if_neg h, mul_zero, Finset.sum_const_zero, zero_add, grp_hi j i1 h]

end Cert.SguBwdIdeal.Pay

end
-- ==== Proof.SguStore.lean ====
module

public import proofs.«01_k».proof.Proof.SguTiles

@[expose] public section

set_option maxRecDepth 16384

noncomputable section

open Idealize.ShloMosaic Idealize.ShloMosaic.TcCoe Idealize.SL.Sem
open Idealize.ShloMosaic.Pipeline (Dat)

namespace Cert.SguBwdIdeal.Pay

open Cert.SguBwdIdeal Cert.SguBwdIdeal.Gen Cert.RealLift

variable (m : (ℓ : Loc nD τ sig) → Buf (Elt Ideal) ℓ) (c : Dev nD)

/-- What a group reads of an earlier store. -/
abbrev gPrev (w : Vec Ideal S12x128x128 .f32) (_ : GList) (g : Fin 12) : Vec Ideal S1x128x128 .f32 := View.ld w (rG g)

/-- What a pair's lanes read of an earlier store. -/
abbrev lPrev (w : Vec Ideal S128x768 .f32) (_ : LList) (j : Fin 6) : Tile := View.ld w (rL j)

/-- What a group reads of what its point stored. -/
abbrev gBack (t : Fin cfg0.N) (L : GList) (g : Fin 12) : Vec Ideal S1x128x128 .f32 := (ms0_9 t).view.readCov L (rG g).toLoadRect

/-- What a pair's lanes read of what its point stored. -/
abbrev lBack (L : LList) (j : Fin 6) : Tile := (View.whole cc0_scratch4).readCov L (rL j).toLoadRect

set_option maxHeartbeats 3200000 in
theorem carry_mid (t : Fin cfg0.N) (h0 : ¬t.val % 16 = 0) : (outsAt0 m c t.val t.isLt).2.2.2.2.2.2
    = View.canon (lAll (lPrev (outsAt0 m c (t.val - 1) (by omega)).2.2.2.2.2.2) (dmB m c t) []) := by
  by_cases h1 : t.val % 16 = 15
  · rw [outsAt0_C m c t h0 h1]
    frame_out
    simp only [read_unread_whole]
    rfl
  · rw [outsAt0_B m c t h0 h1]
    frame_out
    simp only [read_unread_whole]
    rfl

set_option maxHeartbeats 3200000 in
theorem carry_zero (t : Fin cfg0.N) (h0 : t.val % 16 = 0) : (outsAt0 m c t.val t.isLt).2.2.2.2.2.2
    = View.canon (lAll lBack (dmB m c t) [⟨Rect.unit ![0, 0] S128x768.size inb_S128x768_S128x768_0_0, k0_pay30 (F := Ideal)⟩]) := by
  rw [outsAt0_A m c t h0 (by omega)]
  frame_out
  rfl

theorem store9_mid (t : Fin cfg0.N) (h0 : ¬t.val % 16 = 0) (h1 : ¬t.val % 16 = 15) : (outsAt0 m c t.val t.isLt).2.2.1
    = View.canon (gAll (gPrev (outsAt0 m c (t.val - 1) (by omega)).2.2.1) (dmB m c t) (vnB m c t) []) := by
  rw [outsAt0_B m c t h0 h1]
  frame_out
  rfl

set_option maxHeartbeats 3200000 in
theorem store9_zero (t : Fin cfg0.N) (h0 : t.val % 16 = 0) : (outsAt0 m c t.val t.isLt).2.2.1
    = View.canon (gAll (gBack t) (dmB m c t) (vnB m c t) [⟨Rect.unit ![0, 0, 0] S12x128x128.size inb_S12x128x128_S12x128x128_0_0_0, k0_pay27 (F := Ideal)⟩]) := by
  rw [outsAt0_A m c t h0 (by omega)]
  frame_out
  rfl

/-- One more group, zeroed above the diagonal. -/
theorem mCons (t : Fin cfg0.N) (g : Fin 12) {L L' : GList} (e : L = L') :
    ((⟨rG g, shapeCast S1x128x128 (select k0_pay25 (shapeCast S128x128 ((ms0_9 t).view.readCov L (rG g).toLoadRect) shapeCasts_S1x128x128_S128x128) zeroT) shapeCasts_S128x128_S1x128x128⟩ : View.Piece (Elt Ideal) S12x128x128 .f32) :: L) = mStep (gBack t) g L' := by
  subst e
  rfl

set_option maxHeartbeats 3200000 in
theorem store9_last (t : Fin cfg0.N) (h0 : ¬t.val % 16 = 0) (h1 : t.val % 16 = 15) : (outsAt0 m c t.val t.isLt).2.2.1
    = View.canon (mAll (gBack t) (gAll (gPrev (outsAt0 m c (t.val - 1) (by omega)).2.2.1) (dmB m c t) (vnB m c t) [])) := by
  rw [outsAt0_C m c t h0 h1]
  frame_out
  simp only [k0_pay2, k0_pay4, k0_pay5, k0_pay7, k0_pay8, k0_pay9, k0_pay11, k0_pay13, k0_pay14, k0_pay15, k0_pay17, k0_pay18, k0_pay19, k0_pay21, k0_pay22, k0_pay24]
  unfold mAll
  refine congrArg View.canon ?_
  refine mCons t 11 ?_
  refine mCons t 10 ?_
  refine mCons t 9 ?_
  refine mCons t 8 ?_
  refine mCons t 7 ?_
  refine mCons t 6 ?_
  refine mCons t 5 ?_
  refine mCons t 4 ?_
  refine mCons t 3 ?_
  refine mCons t 2 ?_
  refine mCons t 1 ?_
  refine mCons t 0 ?_
  rfl

set_option maxHeartbeats 3200000 in
theorem store10_last (t : Fin cfg0.N) (h0 : ¬t.val % 16 = 0) (h1 : t.val % 16 = 15) : (outsAt0 m c t.val t.isLt).2.2.2.1
    = cols (lBack (lAll (lPrev (outsAt0 m c (t.val - 1) (by omega)).2.2.2.2.2.2) (dmB m c t) [])) := by
  rw [outsAt0_C m c t h0 h1]
  frame_out
  simp only [read_unread_whole]
  rfl

end Cert.SguBwdIdeal.Pay

end
-- ==== Proof.SguAsm.lean ====
/- What the spatial gate's backward kernel assembles of its tiles, at real numbers. -/
module

public import proofs.«01_k».proof.Proof.SguPay
public import proofs.«01_k».proof.Proof.SguStore

@[expose] public section

set_option maxRecDepth 16384

noncomputable section

open Idealize.ShloMosaic Idealize.ShloMosaic.TcCoe Idealize.SL.Sem

namespace Cert.SguBwdIdeal.Pay

open Cert.SguBwdIdeal Cert.SguBwdIdeal.Gen Cert.RealLift Cert.LayerNorm Cert.SguMath

theorem mem_tiles (P : Fin 6 → Fin 4 → Tile) (j : Fin 6) (c : Fin 4) :
    (⟨rT c j, P j c⟩ : View.Piece (Elt Ideal) S512x768 .f32) ∈ tiles P := by
  fin_cases j <;> fin_cases c <;> simp [tiles, quad]

theorem of_mem_tiles (P : Fin 6 → Fin 4 → Tile) (p : View.Piece (Elt Ideal) S512x768 .f32) (h : p ∈ tiles P) :
    ∃ j c, p = ⟨rT c j, P j c⟩ := by
  simp only [tiles, quad, List.mem_cons, List.not_mem_nil, or_false] at h
  rcases h with h | h | h | h | h | h | h | h | h | h | h | h | h | h | h | h | h | h | h | h | h | h | h | h <;>
    exact ⟨_, _, h⟩

/-- Tiles that agree with one array make up that array. -/
theorem tiles_real (P : Fin 6 → Fin 4 → Tile) (T : S512x768.Idx → ℝ)
    (h : ∀ j c, P j c = re fun i : S128x128.Idx => T (ix2 (rowAt c (i 0)) (colAt j (i 1)))) (y : S512x768.Idx) :
    View.canon (tiles P) y = (re T y : EReal) := by
  refine View.canon_eq_of_allAt (Val := Elt Ideal) (e := .f32) _ _ _ ?_ ?_
  · have h0 : (y 0).val < 512 := (y 0).isLt
    have h1 : (y 1).val < 768 := (y 1).isLt
    refine ⟨_, mem_tiles P ⟨(y 1).val / 128, by omega⟩ ⟨(y 0).val / 128, by omega⟩, ?_⟩
    refine (Rect.mem_set_unit (inb := inbT ⟨(y 0).val / 128, by omega⟩ ⟨(y 1).val / 128, by omega⟩)).2 ?_
    intro a
    fin_cases a
    · show 128 * ((y 0).val / 128) ≤ (y 0).val ∧ (y 0).val < 128 * ((y 0).val / 128) + 128
      omega
    · show 128 * ((y 1).val / 128) ≤ (y 1).val ∧ (y 1).val < 128 * ((y 1).val / 128) + 128
      omega
  · intro p hp x hx
    obtain ⟨j, c, rfl⟩ := of_mem_tiles P p hp
    show P j c x = _
    rw [h j c, ← hx]
    exact congrArg (re T) (tile_idx c j x).symm

theorem mixA_real (w : S12x128x128.Idx → ℝ) (s : S128x768.Idx → ℝ) (x : S512x768.Idx → ℝ) :
    mixA (re w) (re s) (re x) = re fun y : S512x768.Idx =>
      ∑ q : Fin 128, tri w (grp (y 1)) ⟨(y 0).val % 128, by omega⟩ q * x (ix2 ⟨(y 0).val / 128 * 128 + q.val, by have : (y 0).val < 512 := (y 0).isLt; omega⟩ (y 1))
        + s (ix2 ⟨(y 0).val % 128, by omega⟩ (y 1)) := by
  unfold mixA
  rw [View.readCov_eq_canon']
  funext y
  refine (tiles_real _ (fun y : S512x768.Idx =>
      ∑ q : Fin 128, tri w (grp (y 1)) ⟨(y 0).val % 128, by omega⟩ q * x (ix2 ⟨(y 0).val / 128 * 128 + q.val, by have : (y 0).val < 512 := (y 0).isLt; omega⟩ (y 1))
        + s (ix2 ⟨(y 0).val % 128, by omega⟩ (y 1))) (fun j c => ?_) _).trans ?_
  · rw [mixP_real]
    funext i
    idx_vars i
    have e0 : (⟨(128 * c.val + i0.val) % 128, by omega⟩ : Fin 128) = i0 := Fin.ext (by simp only; omega)
    have e1 (q : Fin 128) : (⟨(128 * c.val + i0.val) / 128 * 128 + q.val, by omega⟩ : Fin 512) = rowAt c q := Fin.ext (by simp only; omega)
    refine congrArg (fun a : ℝ => (a : EReal)) ?_
    show _ = ∑ q : Fin 128, tri w (grp (colAt j i1)) ⟨(128 * c.val + i0.val) % 128, _⟩ q * x (ix2 ⟨(128 * c.val + i0.val) / 128 * 128 + q.val, _⟩ (colAt j i1))
      + s (ix2 ⟨(128 * c.val + i0.val) % 128, _⟩ (colAt j i1))
    simp only [e0, e1]
    rfl
  · refine congrArg _ ?_
    funext a
    apply Fin.ext
    match a with
    | ⟨0, _⟩ => show 0 + 1 * (y 0).val = (y 0).val; omega
    | ⟨1, _⟩ => show 0 + 1 * (y 1).val = (y 1).val; omega

theorem dvnA_real (w : S12x128x128.Idx → ℝ) (x : S512x768.Idx → ℝ) :
    dvnA (re w) (re x) = re fun y : S512x768.Idx =>
      ∑ q : Fin 128, tri w (grp (y 1)) q ⟨(y 0).val % 128, by omega⟩ * x (ix2 ⟨(y 0).val / 128 * 128 + q.val, by have : (y 0).val < 512 := (y 0).isLt; omega⟩ (y 1)) := by
  unfold dvnA
  rw [View.readCov_eq_canon']
  funext y
  refine (tiles_real _ (fun y : S512x768.Idx =>
      ∑ q : Fin 128, tri w (grp (y 1)) q ⟨(y 0).val % 128, by omega⟩ * x (ix2 ⟨(y 0).val / 128 * 128 + q.val, by have : (y 0).val < 512 := (y 0).isLt; omega⟩ (y 1)))
      (fun j c => ?_) _).trans ?_
  · rw [dvnP_real]
    funext i
    idx_vars i
    have e0 : (⟨(128 * c.val + i0.val) % 128, by omega⟩ : Fin 128) = i0 := Fin.ext (by simp only; omega)
    have e1 (q : Fin 128) : (⟨(128 * c.val + i0.val) / 128 * 128 + q.val, by omega⟩ : Fin 512) = rowAt c q := Fin.ext (by simp only; omega)
    refine congrArg (fun a : ℝ => (a : EReal)) ?_
    show _ = ∑ q : Fin 128, tri w (grp (colAt j i1)) q ⟨(128 * c.val + i0.val) % 128, _⟩ * x (ix2 ⟨(128 * c.val + i0.val) / 128 * 128 + q.val, _⟩ (colAt j i1))
    simp only [e0, e1]
    rfl
  · refine congrArg _ ?_
    funext a
    apply Fin.ext
    match a with
    | ⟨0, _⟩ => show 0 + 1 * (y 0).val = (y 0).val; omega
    | ⟨1, _⟩ => show 0 + 1 * (y 1).val = (y 1).val; omega

/-- A sum over a pair's lanes of what only the first half holds. -/
theorem sum_lo (f : Fin 128 → ℝ) : ∑ l : Fin 128, (if l.val < 64 then f l else 0) = ∑ e : Fin 64, f ⟨e.val, by omega⟩ := by
  rw [show (∑ l : Fin 128, (if l.val < 64 then f l else 0)) = ∑ l : Fin (64 + 64), (if l.val < 64 then f l else 0) from rfl, Fin.sum_univ_add]
  have h1 : ∑ e : Fin 64, (if (Fin.castAdd 64 e).val < 64 then f (Fin.castAdd 64 e) else 0) = ∑ e : Fin 64, f ⟨e.val, by omega⟩ :=
    Finset.sum_congr rfl fun e _ => if_pos e.isLt
  have h2 : ∑ e : Fin 64, (if (Fin.natAdd 64 e).val < 64 then f (Fin.natAdd 64 e) else 0) = 0 :=
    Finset.sum_eq_zero fun e _ => if_neg (by simp)
  exact (congrArg₂ (· + ·) h1 h2).trans (add_zero _)

/-- A sum over a pair's lanes of what only the second half holds. -/
theorem sum_hi (f : Fin 128 → ℝ) : ∑ l : Fin 128, (if l.val < 64 then 0 else f l) = ∑ e : Fin 64, f ⟨64 + e.val, by omega⟩ := by
  rw [show (∑ l : Fin 128, (if l.val < 64 then 0 else f l)) = ∑ l : Fin (64 + 64), (if l.val < 64 then 0 else f l) from rfl, Fin.sum_univ_add]
  have h1 : ∑ e : Fin 64, (if (Fin.castAdd 64 e).val < 64 then 0 else f (Fin.castAdd 64 e)) = 0 :=
    Finset.sum_eq_zero fun e _ => if_pos e.isLt
  have h2 : ∑ e : Fin 64, (if (Fin.natAdd 64 e).val < 64 then 0 else f (Fin.natAdd 64 e)) = ∑ e : Fin 64, f ⟨64 + e.val, by omega⟩ :=
    Finset.sum_congr rfl fun e _ => if_neg (by simp)
  exact (congrArg₂ (· + ·) h1 h2).trans (zero_add _)

/-- Four tiles added up. -/
theorem add4_real (x y z w : S128x128.Idx → ℝ) :
    (addf (F := Ideal) (φ := .f32) (addf (addf (addf zeroT (re x : Tile)) (re y : Tile)) (re z : Tile)) (re w : Tile) : Tile) = re fun i => x i + y i + z i + w i := by
  funext i
  idx_vars i
  pointwise []
  simp only [← EReal.coe_add]

theorem dwT_lo (d x : S512x768.Idx → ℝ) (j : Fin 6) :
    dwT lo (re d) (re x) j = re fun i =>
      ∑ c : Fin 4, ∑ e : Fin 64, d (ix2 (rowAt c (i 0)) (lane (ga j) e)) * x (ix2 (rowAt c (i 1)) (lane (ga j) e)) := by
  have k (c : Fin 4) (i0 i1 : Fin 128) :
      ∑ l : Fin 128, (if l.val < 64 then d (ix2 (rowAt c i0) (colAt j l)) else 0) * x (ix2 (rowAt c i1) (colAt j l))
        = ∑ e : Fin 64, d (ix2 (rowAt c i0) (lane (ga j) e)) * x (ix2 (rowAt c i1) (lane (ga j) e)) := by
    simp only [ite_mul, zero_mul]
    rw [sum_lo fun l => d (ix2 (rowAt c i0) (colAt j l)) * x (ix2 (rowAt c i1) (colAt j l))]
    have e1 (e : Fin 64) : colAt j ⟨e.val, by omega⟩ = lane (ga j) e := Fin.ext (by show 128 * j.val + e.val = 64 * (2 * j.val) + e.val; omega)
    simp only [e1]
  unfold dwT
  simp only [dT_real, vT_real, lo_real, mul_nt_real]
  rw [add4_real]
  funext i
  idx_vars i
  refine congrArg (fun a : ℝ => (a : EReal)) ?_
  refine Eq.trans ?_ (Fin.sum_univ_four _).symm
  exact congrArg₂ (· + ·) (congrArg₂ (· + ·) (congrArg₂ (· + ·) (k 0 i0 i1) (k 1 i0 i1)) (k 2 i0 i1)) (k 3 i0 i1)

theorem dwT_hi (d x : S512x768.Idx → ℝ) (j : Fin 6) :
    dwT hi (re d) (re x) j = re fun i =>
      ∑ c : Fin 4, ∑ e : Fin 64, d (ix2 (rowAt c (i 0)) (lane (gb j) e)) * x (ix2 (rowAt c (i 1)) (lane (gb j) e)) := by
  have k (c : Fin 4) (i0 i1 : Fin 128) :
      ∑ l : Fin 128, (if l.val < 64 then 0 else d (ix2 (rowAt c i0) (colAt j l))) * x (ix2 (rowAt c i1) (colAt j l))
        = ∑ e : Fin 64, d (ix2 (rowAt c i0) (lane (gb j) e)) * x (ix2 (rowAt c i1) (lane (gb j) e)) := by
    simp only [ite_mul, zero_mul]
    rw [sum_hi fun l => d (ix2 (rowAt c i0) (colAt j l)) * x (ix2 (rowAt c i1) (colAt j l))]
    have e1 (e : Fin 64) : colAt j ⟨64 + e.val, by omega⟩ = lane (gb j) e := Fin.ext (by show 128 * j.val + (64 + e.val) = 64 * (2 * j.val + 1) + e.val; omega)
    simp only [e1]
  unfold dwT
  simp only [dT_real, vT_real, hi_real, mul_nt_real]
  rw [add4_real]
  funext i
  idx_vars i
  refine congrArg (fun a : ℝ => (a : EReal)) ?_
  refine Eq.trans ?_ (Fin.sum_univ_four _).symm
  exact congrArg₂ (· + ·) (congrArg₂ (· + ·) (congrArg₂ (· + ·) (k 0 i0 i1) (k 1 i0 i1)) (k 2 i0 i1)) (k 3 i0 i1)

theorem dbT_real (d : S512x768.Idx → ℝ) (j : Fin 6) :
    dbT (re d) j = re fun i => ∑ c : Fin 4, d (ix2 (rowAt c (i 0)) (colAt j (i 1))) := by
  unfold dbT
  simp only [dT_real]
  rw [add4_real]
  funext i
  refine congrArg (fun a : ℝ => (a : EReal)) ?_
  exact (Fin.sum_univ_four fun c : Fin 4 => d (ix2 (rowAt c (i 0)) (colAt j (i 1)))).symm

/-- What is stored over a group, and what lies beside it. -/
theorem canonG (g' : Fin 12) (w : Vec Ideal S1x128x128 .f32) (L : GList) (g : Fin 12) (t s : Fin 128) :
    View.canon ((⟨rG g', w⟩ : View.Piece (Elt Ideal) S12x128x128 .f32) :: L) (ix3 g t s)
      = if g = g' then w (ix3 0 t s) else View.canon L (ix3 g t s) := by
  by_cases h : g = g'
  · subst h
    rw [if_pos rfl]
    have e : (rG g).emb (ix3 0 t s : S1x128x128.Idx) = (ix3 g t s : S12x128x128.Idx) := by
      funext a
      apply Fin.ext
      match a with
      | ⟨0, _⟩ => show g.val + 1 * 0 = g.val; omega
      | ⟨1, _⟩ => show 0 + 1 * t.val = t.val; omega
      | ⟨2, _⟩ => show 0 + 1 * s.val = s.val; omega
    rw [← e]
    exact View.canon_cons_emb _ _ _ _
  · rw [if_neg h]
    refine View.canon_cons_of_not_mem _ _ ?_
    intro hm
    have h2 : g'.val ≤ g.val ∧ g.val < g'.val + 1 := (Rect.mem_set_unit (inb := inbG g')).1 hm 0
    exact h (Fin.ext (by omega))

/-- What is stored over a pair's lanes, and what lies beside them. -/
theorem canonL (j' : Fin 6) (w : Tile) (L : LList) (t : Fin 128) (l : Fin 768) :
    View.canon ((⟨rL j', w⟩ : View.Piece (Elt Ideal) S128x768 .f32) :: L) (ix2 t l)
      = if l.val / 128 = j'.val then w (ix2 t ⟨l.val % 128, by omega⟩) else View.canon L (ix2 t l) := by
  by_cases h : l.val / 128 = j'.val
  · rw [if_pos h]
    have e : (rL j').emb (ix2 t ⟨l.val % 128, by omega⟩ : S128x128.Idx) = (ix2 t l : S128x768.Idx) := by
      funext a
      apply Fin.ext
      match a with
      | ⟨0, _⟩ => show 0 + 1 * t.val = t.val; omega
      | ⟨1, _⟩ => show 128 * j'.val + 1 * (l.val % 128) = l.val; omega
    rw [← e]
    exact View.canon_cons_emb _ _ _ _
  · rw [if_neg h]
    refine View.canon_cons_of_not_mem _ _ ?_
    intro hm
    have h2 : 128 * j'.val ≤ l.val ∧ l.val < 128 * j'.val + 128 := (Rect.mem_set_unit (inb := inbL j')).1 hm 1
    exact h (by omega)

/-- Everything a step adds to a group's gradient. -/
def gX (D : Vec Ideal S512x768 .f32) (X : Vec Ideal S512x768 .bf16) (g : Fin 12) : Tile :=
  if g.val % 2 = 0 then dwT lo D X ⟨g.val / 2, by omega⟩ else dwT hi D X ⟨g.val / 2, by omega⟩

theorem gX_real (d x : S512x768.Idx → ℝ) (g : Fin 12) (t s : Fin 128) : gX (re d) (re x) g (ix2 t s)
    = ((∑ c : Fin 4, ∑ e : Fin 64, d (ix2 (rowAt c t) (lane g e)) * x (ix2 (rowAt c s) (lane g e)) : ℝ) : EReal) := by
  unfold gX
  by_cases h : g.val % 2 = 0
  · have e : ga ⟨g.val / 2, by omega⟩ = g := Fin.ext (by show 2 * (g.val / 2) = g.val; omega)
    rw [if_pos h, dwT_lo, e]
    rfl
  · have e : gb ⟨g.val / 2, by omega⟩ = g := Fin.ext (by show 2 * (g.val / 2) + 1 = g.val; omega)
    rw [if_neg h, dwT_hi, e]
    rfl

theorem gStep_apply (R : GList → Fin 12 → Vec Ideal S1x128x128 .f32) (x : Tile) (g' : Fin 12) (L : GList) (g : Fin 12) (t s : Fin 128) :
    View.canon (gStep R x g' L) (ix3 g t s) = if g = g' then R L g' (ix3 0 t s) + x (ix2 t s) else View.canon L (ix3 g t s) := by
  have e (y : Vec Ideal S1x128x128 .f32) : (shapeCast S1x128x128 (addf (F := Ideal) (φ := .f32) (shapeCast S128x128 y shapeCasts_S1x128x128_S128x128) x) shapeCasts_S128x128_S1x128x128 : Vec Ideal S1x128x128 .f32) (ix3 0 t s)
      = y (ix3 0 t s) + x (ix2 t s) := by pointwise []
  unfold gStep
  rw [canonG, e]

theorem mStep_apply (R : GList → Fin 12 → Vec Ideal S1x128x128 .f32) (g' : Fin 12) (L : GList) (g : Fin 12) (t s : Fin 128) :
    View.canon (mStep R g' L) (ix3 g t s) = if g = g' then (if s.val ≤ t.val then R L g' (ix3 0 t s) else (0 : EReal)) else View.canon L (ix3 g t s) := by
  have e (y : Vec Ideal S1x128x128 .f32) : (shapeCast S1x128x128 (select k0_pay25 (shapeCast S128x128 y shapeCasts_S1x128x128_S128x128) zeroT) shapeCasts_S128x128_S1x128x128 : Vec Ideal S1x128x128 .f32) (ix3 0 t s)
      = Scalar.select (k0_pay25 (ix2 t s)) (y (ix3 0 t s)) (0 : EReal) := by pointwise []
  unfold mStep
  rw [canonG, e, mask25]
  by_cases h : s.val ≤ t.val
  · rw [if_pos h, if_pos h]
    rfl
  · rw [if_neg h, if_neg h]
    rfl

theorem lStep_apply (R : LList → Fin 6 → Tile) (D : Vec Ideal S512x768 .f32) (j' : Fin 6) (L : LList) (t : Fin 128) (l : Fin 768) :
    View.canon (lStep R D j' L) (ix2 t l) = if l.val / 128 = j'.val then R L j' (ix2 t ⟨l.val % 128, by omega⟩) + dbT D j' (ix2 t ⟨l.val % 128, by omega⟩)
      else View.canon L (ix2 t l) := by
  have e (x y : Tile) (i : S128x128.Idx) : (shapeCast S128x128 (addf (F := Ideal) (φ := .f32) x y) shapeCasts_S128x128_S128x128 : Tile) i = x i + y i := by
    idx_vars i
    pointwise []
  unfold lStep
  rw [canonL, e]

/-- A step's gradients of the groups, where each group's old value is read from `w`. -/
theorem gAll_apply (R : GList → Fin 12 → Vec Ideal S1x128x128 .f32) (D : Vec Ideal S512x768 .f32) (X : Vec Ideal S512x768 .bf16) (L : GList)
    (w : Vec Ideal S12x128x128 .f32) (g : Fin 12) (t s : Fin 128)
    (hR : ∀ K : GList, View.canon K (ix3 g t s) = View.canon L (ix3 g t s) → R K g (ix3 0 t s) = w (ix3 g t s)) :
    View.canon (gAll R D X L) (ix3 g t s) = w (ix3 g t s) + gX D X g (ix2 t s) := by
  have pass (j : Fin 6) (K : GList) (ha : g ≠ ga j) (hb : g ≠ gb j) : View.canon (gPair R D X j K) (ix3 g t s) = View.canon K (ix3 g t s) := by
    unfold gPair
    rw [gStep_apply, if_neg hb, gStep_apply, if_neg ha]
  have hit (j : Fin 6) (K : GList) (hj : g.val / 2 = j.val) (hK : View.canon K (ix3 g t s) = View.canon L (ix3 g t s)) :
      View.canon (gPair R D X j K) (ix3 g t s) = w (ix3 g t s) + gX D X g (ix2 t s) := by
    have ej : (⟨g.val / 2, by omega⟩ : Fin 6) = j := Fin.ext hj
    unfold gPair gX
    rw [gStep_apply, gStep_apply, ej]
    by_cases h : g.val % 2 = 0
    · have e : g = ga j := Fin.ext (by show g.val = 2 * j.val; omega)
      rw [if_neg (fun q : g = gb j => by have := congrArg Fin.val q; have h2 : g.val = 2 * j.val + 1 := this; omega), if_pos e, if_pos h, ← e, hR K hK]
    · have e : g = gb j := Fin.ext (by show g.val = 2 * j.val + 1; omega)
      rw [if_pos e, if_neg h, ← e, hR _ ((gStep_apply R _ _ _ _ _ _).trans (by
        rw [if_neg (fun q : g = ga j => by have := congrArg Fin.val q; have h2 : g.val = 2 * j.val := this; omega), hK]))]
  have step (j : Fin 6) (K : GList) (hK : g.val / 2 < j.val → View.canon K (ix3 g t s) = w (ix3 g t s) + gX D X g (ix2 t s))
      (hL : j.val ≤ g.val / 2 → View.canon K (ix3 g t s) = View.canon L (ix3 g t s)) :
      (g.val / 2 < j.val + 1 → View.canon (gPair R D X j K) (ix3 g t s) = w (ix3 g t s) + gX D X g (ix2 t s))
      ∧ (j.val + 1 ≤ g.val / 2 → View.canon (gPair R D X j K) (ix3 g t s) = View.canon L (ix3 g t s)) := by
    have na (h : g.val / 2 ≠ j.val) : g ≠ ga j := fun q => by have := congrArg Fin.val q; have h2 : g.val = 2 * j.val := this; omega
    have nb (h : g.val / 2 ≠ j.val) : g ≠ gb j := fun q => by have := congrArg Fin.val q; have h2 : g.val = 2 * j.val + 1 := this; omega
    refine ⟨fun h => ?_, fun h => ?_⟩
    · by_cases hj : g.val / 2 = j.val
      · exact hit j K hj (hL (le_of_eq hj.symm))
      · rw [pass j K (na hj) (nb hj)]
        exact hK (by omega)
    · rw [pass j K (na (by omega)) (nb (by omega))]
      exact hL (by omega)
  have s0 := step 0 L (fun h => absurd h (Nat.not_lt_zero _)) (fun _ => rfl)
  have s1 := step 1 _ s0.1 s0.2
  have s2 := step 2 _ s1.1 s1.2
  have s3 := step 3 _ s2.1 s2.2
  have s4 := step 4 _ s3.1 s3.2
  exact (step 5 _ s4.1 s4.2).1 (by have := g.isLt; show g.val / 2 < 6; omega)

/-- A step's lanes, where each lane's old value is read from `w`. -/
theorem lAll_apply (R : LList → Fin 6 → Tile) (D : Vec Ideal S512x768 .f32) (L : LList)
    (w : Vec Ideal S128x768 .f32) (t : Fin 128) (l : Fin 768)
    (hR : ∀ (K : LList) (j : Fin 6), l.val / 128 = j.val → View.canon K (ix2 t l) = View.canon L (ix2 t l) → R K j (ix2 t ⟨l.val % 128, by omega⟩) = w (ix2 t l)) :
    View.canon (lAll R D L) (ix2 t l) = w (ix2 t l) + dbT D ⟨l.val / 128, by omega⟩ (ix2 t ⟨l.val % 128, by omega⟩) := by
  have step (j : Fin 6) (K : LList)
      (hK : l.val / 128 < j.val → View.canon K (ix2 t l) = w (ix2 t l) + dbT D ⟨l.val / 128, by omega⟩ (ix2 t ⟨l.val % 128, by omega⟩))
      (hL : j.val ≤ l.val / 128 → View.canon K (ix2 t l) = View.canon L (ix2 t l)) :
      (l.val / 128 < j.val + 1 → View.canon (lStep R D j K) (ix2 t l) = w (ix2 t l) + dbT D ⟨l.val / 128, by omega⟩ (ix2 t ⟨l.val % 128, by omega⟩))
      ∧ (j.val + 1 ≤ l.val / 128 → View.canon (lStep R D j K) (ix2 t l) = View.canon L (ix2 t l)) := by
    rw [lStep_apply]
    refine ⟨fun h => ?_, fun h => ?_⟩
    · by_cases hj : l.val / 128 = j.val
      · have ej : (⟨l.val / 128, by omega⟩ : Fin 6) = j := Fin.ext hj
        rw [if_pos hj, ej, hR K j hj (hL (le_of_eq hj.symm))]
      · rw [if_neg hj]
        exact hK (by omega)
    · rw [if_neg (by omega)]
      exact hL (by omega)
  have s0 := step 0 L (fun h => absurd h (Nat.not_lt_zero _)) (fun _ => rfl)
  have s1 := step 1 _ s0.1 s0.2
  have s2 := step 2 _ s1.1 s1.2
  have s3 := step 3 _ s2.1 s2.2
  have s4 := step 4 _ s3.1 s3.2
  exact (step 5 _ s4.1 s4.2).1 (by have := l.isLt; show l.val / 128 < 6; omega)

/-- The groups' gradients, zeroed above the diagonal. -/
theorem mAll_apply (R : GList → Fin 12 → Vec Ideal S1x128x128 .f32) (L : GList) (g : Fin 12) (t s : Fin 128)
    (hR : ∀ K : GList, R K g (ix3 0 t s) = View.canon K (ix3 g t s)) :
    View.canon (mAll R L) (ix3 g t s) = if s.val ≤ t.val then View.canon L (ix3 g t s) else (0 : EReal) := by
  have step (k : Fin 12) (K : GList)
      (hK : g.val < k.val → View.canon K (ix3 g t s) = if s.val ≤ t.val then View.canon L (ix3 g t s) else (0 : EReal))
      (hL : k.val ≤ g.val → View.canon K (ix3 g t s) = View.canon L (ix3 g t s)) :
      (g.val < k.val + 1 → View.canon (mStep R k K) (ix3 g t s) = if s.val ≤ t.val then View.canon L (ix3 g t s) else (0 : EReal))
      ∧ (k.val + 1 ≤ g.val → View.canon (mStep R k K) (ix3 g t s) = View.canon L (ix3 g t s)) := by
    rw [mStep_apply]
    refine ⟨fun h => ?_, fun h => ?_⟩
    · by_cases hk : g = k
      · rw [if_pos hk, ← hk, hR, hL (le_of_eq (congrArg Fin.val hk.symm))]
      · rw [if_neg hk]
        exact hK (by have : g.val ≠ k.val := fun q => hk (Fin.ext q); omega)
    · rw [if_neg (fun q : g = k => by have := congrArg Fin.val q; omega)]
      exact hL (by omega)
  have s0 := step 0 L (fun h => absurd h (Nat.not_lt_zero _)) (fun _ => rfl)
  have s1 := step 1 _ s0.1 s0.2
  have s2 := step 2 _ s1.1 s1.2
  have s3 := step 3 _ s2.1 s2.2
  have s4 := step 4 _ s3.1 s3.2
  have s5 := step 5 _ s4.1 s4.2
  have s6 := step 6 _ s5.1 s5.2
  have s7 := step 7 _ s6.1 s6.2
  have s8 := step 8 _ s7.1 s7.2
  have s9 := step 9 _ s8.1 s8.2
  have s10 := step 10 _ s9.1 s9.2
  exact (step 11 _ s10.1 s10.2).1 g.isLt

theorem gPrev_apply (w : Vec Ideal S12x128x128 .f32) (K : GList) (g : Fin 12) (t s : Fin 128) : gPrev w K g (ix3 0 t s) = w (ix3 g t s) :=
  congrFun (ldG w g) _

theorem gBack_apply (p : Fin cfg0.N) (K : GList) (g : Fin 12) (t s : Fin 128) : gBack p K g (ix3 0 t s) = View.canon K (ix3 g t s) := by
  unfold gBack
  rw [View.readCov_eq_canon']
  exact congrFun (ldG (View.canon K) g) _

theorem lPrev_apply (w : Vec Ideal S128x768 .f32) (K : LList) (j : Fin 6) (i : S128x128.Idx) :
    lPrev w K j i = w (ix2 (i 0) (colAt j (i 1))) :=
  congrFun (ldL w j) _

theorem lBack_apply (K : LList) (j : Fin 6) (i : S128x128.Idx) : lBack K j i = View.canon K (ix2 (i 0) (colAt j (i 1))) := by
  unfold lBack
  rw [View.readCov_eq_canon']
  exact congrFun (ldL (View.canon K) j) _

theorem fst_apply (t l : Fin 128) : fstT (ix2 t l) = if l.val < 64 then 1#1 else 0#1 := mask26 t l

theorem snd_apply (t l : Fin 128) : sndT (ix2 t l) = if l.val < 64 then 0#1 else 1#1 := by
  pointwise []
  exact (by decide +kernel : ∀ l : Fin 128, IntOp.cmpi .sge (BitVec.ofNat 32 l.val) 64#32 = if l.val < 64 then 0#1 else 1#1) l

theorem lane_eq (k l : Fin 128) : IntOp.cmpi .eq (BitVec.ofNat 32 l.val) (BitVec.ofNat 32 k.val) = if l = k then 1#1 else 0#1 := by
  have h : (BitVec.ofNat 32 l.val = BitVec.ofNat 32 k.val) ↔ l = k := by
    constructor
    · intro e
      have e2 := congrArg BitVec.toNat e
      simp only [BitVec.toNat_ofNat] at e2
      exact Fin.ext (by omega)
    · rintro rfl
      rfl
  unfold IntOp.cmpi
  by_cases hk : l = k
  · rw [if_pos hk]
    simp [h.2 hk]
  · rw [if_neg hk]
    show BitVec.ofBool (BitVec.ofNat 32 l.val == BitVec.ofNat 32 k.val) = 0#1
    rw [beq_false_of_ne (mt h.1 hk)]
    rfl

theorem colT_apply (keep : IVec S128x128 1) (n : BitVec 32) (x acc : Tile) (t l : Fin 128) :
    colT keep n x acc (ix2 t l)
      = Scalar.select (IntOp.cmpi .eq (BitVec.ofNat 32 l.val) n) (∑ k : Fin 128, Scalar.select (keep (ix2 t k)) (x (ix2 t k)) (0 : EReal)) (acc (ix2 t l)) := by
  pointwise [colT]

/-- A pair's two columns. -/
theorem colP_apply (P : Fin 6 → Tile) (p : Fin 6 → S128x128.Idx → ℝ) (hP : ∀ j, P j = re (p j)) (j : Fin 6) (acc : Tile) (t l : Fin 128) :
    colP P (BitVec.ofNat 32 (2 * j.val)) (BitVec.ofNat 32 (2 * j.val + 1)) j acc (ix2 t l)
      = if l.val = 2 * j.val + 1 then ((∑ e : Fin 64, p j (ix2 t ⟨64 + e.val, by omega⟩) : ℝ) : EReal)
        else if l.val = 2 * j.val then ((∑ e : Fin 64, p j (ix2 t ⟨e.val, by omega⟩) : ℝ) : EReal) else acc (ix2 t l) := by
  have e0 : ∑ k : Fin 128, Scalar.select (fstT (ix2 t k)) (re (p j) (ix2 t k)) (0 : EReal) = ((∑ e : Fin 64, p j (ix2 t ⟨e.val, by omega⟩) : ℝ) : EReal) := by
    rw [← sum_lo fun k => p j (ix2 t k), ← coe_sum]
    refine Finset.sum_congr rfl fun k _ => ?_
    rw [fst_apply]
    by_cases h : k.val < 64
    · rw [if_pos h, if_pos h]
      rfl
    · rw [if_neg h, if_neg h, EReal.coe_zero]
      rfl
  have e1 : ∑ k : Fin 128, Scalar.select (sndT (ix2 t k)) (re (p j) (ix2 t k)) (0 : EReal) = ((∑ e : Fin 64, p j (ix2 t ⟨64 + e.val, by omega⟩) : ℝ) : EReal) := by
    rw [← sum_hi fun k => p j (ix2 t k), ← coe_sum]
    refine Finset.sum_congr rfl fun k _ => ?_
    rw [snd_apply]
    by_cases h : k.val < 64
    · rw [if_pos h, if_pos h, EReal.coe_zero]
      rfl
    · rw [if_neg h, if_neg h]
      rfl
  unfold colP
  rw [colT_apply, colT_apply, hP, e0, e1, lane_eq ⟨2 * j.val + 1, by omega⟩ l, lane_eq ⟨2 * j.val, by omega⟩ l]
  by_cases h1 : l.val = 2 * j.val + 1
  · rw [if_pos h1, if_pos (Fin.ext h1)]
    rfl
  · rw [if_neg h1, if_neg fun q => h1 (congrArg Fin.val q)]
    by_cases h0 : l.val = 2 * j.val
    · rw [if_pos h0, if_pos (Fin.ext h0)]
      rfl
    · rw [if_neg h0, if_neg fun q => h0 (congrArg Fin.val q)]
      rfl

/-- All columns. -/
theorem cols_real (P : Fin 6 → Tile) (p : Fin 6 → S128x128.Idx → ℝ) (hP : ∀ j, P j = re (p j)) (t l : Fin 128) :
    cols P (ix2 t l) = (((if h : l.val < 12 then ∑ e : Fin 64, p ⟨l.val / 2, by omega⟩ (ix2 t ⟨64 * (l.val % 2) + e.val, by omega⟩) else 0 : ℝ)) : EReal) := by
  have step (j : Fin 6) (acc : Tile)
      (hl : l.val < 2 * j.val → acc (ix2 t l) = (((if h : l.val < 12 then ∑ e : Fin 64, p ⟨l.val / 2, by omega⟩ (ix2 t ⟨64 * (l.val % 2) + e.val, by omega⟩) else 0 : ℝ)) : EReal))
      (hz : 2 * j.val ≤ l.val → acc (ix2 t l) = (0 : EReal)) :
      (l.val < 2 * j.val + 2 → colP P (BitVec.ofNat 32 (2 * j.val)) (BitVec.ofNat 32 (2 * j.val + 1)) j acc (ix2 t l)
        = (((if h : l.val < 12 then ∑ e : Fin 64, p ⟨l.val / 2, by omega⟩ (ix2 t ⟨64 * (l.val % 2) + e.val, by omega⟩) else 0 : ℝ)) : EReal))
      ∧ (2 * j.val + 2 ≤ l.val → colP P (BitVec.ofNat 32 (2 * j.val)) (BitVec.ofNat 32 (2 * j.val + 1)) j acc (ix2 t l) = (0 : EReal)) := by
    rw [colP_apply P p hP]
    refine ⟨fun h => ?_, fun h => ?_⟩
    · by_cases h1 : l.val = 2 * j.val + 1
      · rw [if_pos h1, dif_pos (show l.val < 12 by omega)]
        have ej : (⟨l.val / 2, by omega⟩ : Fin 6) = j := Fin.ext (by show l.val / 2 = j.val; omega)
        rw [ej]
        refine congrArg (fun a : ℝ => (a : EReal)) (Finset.sum_congr rfl fun e _ => congrArg (fun a => p j (ix2 t a)) (Fin.ext ?_))
        show 64 + e.val = 64 * (l.val % 2) + e.val
        omega
      · rw [if_neg h1]
        by_cases h0 : l.val = 2 * j.val
        · rw [if_pos h0, dif_pos (show l.val < 12 by omega)]
          have ej : (⟨l.val / 2, by omega⟩ : Fin 6) = j := Fin.ext (by show l.val / 2 = j.val; omega)
          rw [ej]
          refine congrArg (fun a : ℝ => (a : EReal)) (Finset.sum_congr rfl fun e _ => congrArg (fun a => p j (ix2 t a)) (Fin.ext ?_))
          show e.val = 64 * (l.val % 2) + e.val
          omega
        · rw [if_neg h0]
          exact hl (by omega)
    · rw [if_neg (by omega), if_neg (by omega)]
      exact hz (by omega)
  have hz0 : (zeroT (ix2 t l) : EReal) = 0 := by pointwise []
  have s0 := step 0 zeroT (fun h => absurd h (Nat.not_lt_zero _)) (fun _ => hz0)
  have s1 := step 1 _ s0.1 s0.2
  have s2 := step 2 _ s1.1 s1.2
  have s3 := step 3 _ s2.1 s2.2
  have s4 := step 4 _ s3.1 s3.2
  have s5 := step 5 _ s4.1 s4.2
  by_cases h : l.val < 12
  · exact s5.1 h
  · rw [dif_neg h, EReal.coe_zero]
    exact s5.2 (by show 12 ≤ l.val; omega)

end Cert.SguBwdIdeal.Pay

end
-- ==== Proof.SguFinal.lean ====
/- The arrays the spatial gate's backward kernel leaves, at real numbers. -/
module

public import proofs.«01_k».proof.Proof.SguAsm

@[expose] public section

set_option maxRecDepth 16384

noncomputable section

open Idealize.ShloMosaic Idealize.ShloMosaic.TcCoe Idealize.SL.Sem
open Idealize.ShloMosaic.Pipeline (Dat)

namespace Cert.SguBwdIdeal.Pay

open Cert.SguBwdIdeal Cert.SguBwdIdeal.Gen Cert.RealLift Cert.LayerNorm Cert.SguMath

variable (m : (ℓ : Loc nD τ sig) → Buf (Elt Ideal) ℓ) (c : Dev nD)

theorem idx : ∀ t : Fin cfg0.N, win0_0.index t = ![t.val, 0] ∧ win0_1.index t = ![t.val, 1] ∧ win0_2.index t = ![t.val, 0]
    ∧ win0_3.index t = ![0, 0] ∧ win0_4.index t = ![0, 0] ∧ win0_5.index t = ![0, 0, 0] ∧ win0_6.index t = ![0, 0]
    ∧ win0_7.index t = ![t.val, 0] ∧ win0_8.index t = ![t.val, 0] ∧ win0_9.index t = ![0, 0, 0] ∧ win0_10.index t = ![0, 0]
    ∧ win0_11.index t = ![0, 0] ∧ win0_12.index t = ![0, 0] :=
  (by decide +kernel : ∀ t : Fin grid0.N, _)

/-- Row `r` of block `t` in the whole array. -/
def gr (t : Fin cfg0.N) (r : Fin 512) : Fin 8192 := ⟨t.val * 512 + r.val, by have := t.isLt; have h : cfg0.N = 16 := N_0; omega⟩

/-- A sum over the blocks of the sums over each block's rows is the sum over all rows. -/
theorem sum_rows (f : Fin 8192 → ℝ) : ∑ t : Fin cfg0.N, ∑ r : Fin 512, f (gr t r) = ∑ r, f r :=
  (Fin.sum_univ_tiles cfg0.N 512 (by rw [show cfg0.N = 16 from N_0]) f).symm

/-- A sum over the blocks of the sums over each block's chunks is the sum over all chunks. -/
theorem sum_chunks (f : Fin 8192 → ℝ) (i : Fin 128) : ∑ t : Fin cfg0.N, ∑ k : Fin 4, f (gr t (rowAt k i)) = ∑ n : Fin 64, f (rowOf n i) := by
  rw [Fin.sum_univ_tiles cfg0.N 4 (by rw [show cfg0.N = 16 from N_0]) fun n : Fin 64 => f (rowOf n i)]
  refine Finset.sum_congr rfl fun t _ => Finset.sum_congr rfl fun k _ => congrArg f (Fin.ext ?_)
  show t.val * 512 + (128 * k.val + i.val) = 128 * (t.val * 4 + k.val) + i.val
  omega

/-- Two sums over the blocks' chunks. -/
theorem sum_chunks2 (f : Fin 8192 → Fin 8192 → ℝ) (i j : Fin 128) :
    ∑ t : Fin cfg0.N, ∑ k : Fin 4, f (gr t (rowAt k i)) (gr t (rowAt k j)) = ∑ n : Fin 64, f (rowOf n i) (rowOf n j) := by
  rw [Fin.sum_univ_tiles cfg0.N 4 (by rw [show cfg0.N = 16 from N_0]) fun n : Fin 64 => f (rowOf n i) (rowOf n j)]
  refine Finset.sum_congr rfl fun t _ => Finset.sum_congr rfl fun k _ => congrArg₂ f (Fin.ext ?_) (Fin.ext ?_)
  · show t.val * 512 + (128 * k.val + i.val) = 128 * (t.val * 4 + k.val) + i.val
    omega
  · show t.val * 512 + (128 * k.val + j.val) = 128 * (t.val * 4 + k.val) + j.val
    omega

theorem spot_gr (t : Fin cfg0.N) (r : Fin 512) : spot (gr t r) = ⟨r.val % 128, by omega⟩ :=
  Fin.ext (by show (t.val * 512 + r.val) % 128 = r.val % 128; omega)

theorem mate_gr (t : Fin cfg0.N) (r : Fin 512) (q : Fin 128) : mate (gr t r) q = gr t ⟨r.val / 128 * 128 + q.val, by omega⟩ :=
  Fin.ext (by show (t.val * 512 + r.val) / 128 * 128 + q.val = t.val * 512 + (r.val / 128 * 128 + q.val); omega)

theorem blk0 (H : S8192x1792.Idx → ℝ) (h : V m c main_v0 = re H) (t : Fin cfg0.N) :
    (X0_0 m c t : Vec Ideal S512x768 .f32) = re fun j => H (ix2 (gr t (j 0)) ⟨(j 1).val, by have : (j 1).val < 768 := (j 1).isLt; omega⟩) := by
  funext j
  unfold X0_0 Pipeline.Window.fill
  rw [dif_pos (moved0_0 t j)]
  blk_simp [iblk]
  rw [show V m c (Pipeline.arrRef spec0 0) = _ from h]
  refine congrArg (re H) ?_
  blk_ext [idx t, gr]

theorem blk1 (H : S8192x1792.Idx → ℝ) (h : V m c main_v0 = re H) (t : Fin cfg0.N) :
    (X0_1 m c t : Vec Ideal S512x768 .f32) = re fun j => H (ix2 (gr t (j 0)) ⟨768 + (j 1).val, by have : (j 1).val < 768 := (j 1).isLt; omega⟩) := by
  funext j
  unfold X0_1 Pipeline.Window.fill
  rw [dif_pos (moved0_1 t j)]
  blk_simp [iblk]
  rw [show V m c (Pipeline.arrRef spec0 1) = _ from h]
  refine congrArg (re H) ?_
  blk_ext [idx t, gr]

theorem blk2 (C : S8192x1024.Idx → ℝ) (h : V m c main_v1 = re C) (t : Fin cfg0.N) :
    (X0_2 m c t : Vec Ideal S512x768 .f32) = re fun j => C (ix2 (gr t (j 0)) ⟨(j 1).val, by have : (j 1).val < 768 := (j 1).isLt; omega⟩) := by
  funext j
  unfold X0_2 Pipeline.Window.fill
  rw [dif_pos (moved0_2 t j)]
  blk_simp [iblk]
  rw [show V m c (Pipeline.arrRef spec0 2) = _ from h]
  refine congrArg (re C) ?_
  blk_ext [idx t, gr]

theorem blk3 (G : S1x768.Idx → ℝ) (h : V m c main_v2 = re G) (t : Fin cfg0.N) : (iblk m c 3 t : Vec Ideal S1x768 .f32) = re G := by
  funext j
  blk_simp [iblk]
  rw [show V m c (Pipeline.arrRef spec0 3) = _ from h]
  refine congrArg (re G) ?_
  blk_ext [idx t]

theorem blk4 (B : S1x768.Idx → ℝ) (h : V m c main_v3 = re B) (t : Fin cfg0.N) : (iblk m c 4 t : Vec Ideal S1x768 .f32) = re B := by
  funext j
  blk_simp [iblk]
  rw [show V m c (Pipeline.arrRef spec0 4) = _ from h]
  refine congrArg (re B) ?_
  blk_ext [idx t]

theorem blk5 (W : S12x128x128.Idx → ℝ) (h : V m c main_arg4 = re W) (t : Fin cfg0.N) : (iblk m c 5 t : Vec Ideal S12x128x128 .f32) = re W := by
  funext j
  blk_simp [iblk]
  rw [show V m c (Pipeline.arrRef spec0 5) = _ from h]
  refine congrArg (re W) ?_
  blk_ext [idx t]

theorem blk6 (S : S128x768.Idx → ℝ) (h : V m c main_v6 = re S) (t : Fin cfg0.N) : (iblk m c 6 t : Vec Ideal S128x768 .f32) = re S := by
  funext j
  blk_simp [iblk]
  rw [show V m c (Pipeline.arrRef spec0 6) = _ from h]
  refine congrArg (re S) ?_
  blk_ext [idx t]

/-- The arrays the kernel is given. -/
def argsOf (H : S8192x1792.Idx → ℝ) (C : S8192x1024.Idx → ℝ) (G B : S1x768.Idx → ℝ) (W : S12x128x128.Idx → ℝ) (S : S128x768.Idx → ℝ) : Args where
  u r l := H (ix2 r ⟨l.val, by omega⟩)
  v r l := H (ix2 r ⟨768 + l.val, by omega⟩)
  d r l := C (ix2 r ⟨l.val, by omega⟩)
  g l := G (ix2 0 l)
  b l := B (ix2 0 l)
  w := W
  s t l := S (ix2 t l)

/-- The columns that the last step makes of the lanes it leaves. -/
theorem store10_cols (t : Fin cfg0.N) (h0 : ¬t.val % 16 = 0) (h1 : t.val % 16 = 15) : (outsAt0 m c t.val t.isLt).2.2.2.1
    = cols fun k i => (outsAt0 m c t.val t.isLt).2.2.2.2.2.2 (ix2 (i 0) (colAt k (i 1))) :=
  (store10_last m c t h0 h1).trans (congrArg cols (funext fun k => funext fun i =>
    (lBack_apply _ k i).trans (congrFun (carry_mid m c t h0).symm _)))

variable (H : S8192x1792.Idx → ℝ) (C : S8192x1024.Idx → ℝ) (G B : S1x768.Idx → ℝ) (W : S12x128x128.Idx → ℝ) (S : S128x768.Idx → ℝ)
  (hH : V m c main_v0 = re H) (hC : V m c main_v1 = re C) (hG : V m c main_v2 = re G) (hB : V m c main_v3 = re B)
  (hW : V m c main_arg4 = re W) (hS : V m c main_v6 = re S)
include hH hC hG hB hW hS

theorem vnB_real (t : Fin cfg0.N) : vnB m c t = re fun y : S512x768.Idx => vn (argsOf H C G B W S) (gr t (y 0)) (y 1) := by
  unfold vnB
  rw [blk1 m c H hH t, blk3 m c G hG t, blk4 m c B hB t, pay34_real, pay40_real]
  rfl

theorem dmB_real (t : Fin cfg0.N) : dmB m c t = re fun y : S512x768.Idx => dmx (argsOf H C G B W S) (gr t (y 0)) (y 1) := by
  unfold dmB
  rw [blk0 m c H hH t, blk2 m c C hC t, pay44_real, pay47_real]
  rfl

theorem mix_real (t : Fin cfg0.N) : mixA (iblk m c 5 t) (iblk m c 6 t) (vnB m c t)
    = re fun y : S512x768.Idx => mix (argsOf H C G B W S) (gr t (y 0)) (y 1) := by
  rw [blk5 m c W hW t, blk6 m c S hS t, vnB_real m c H C G B W S hH hC hG hB hW hS t]
  refine (mixA_real _ _ _).trans ?_
  funext y
  idx_vars y
  refine congrArg (fun a : ℝ => (a : EReal)) ?_
  show ∑ q : Fin 128, tri W (grp y1) ⟨y0.val % 128, _⟩ q * vn (argsOf H C G B W S) (gr t ⟨y0.val / 128 * 128 + q.val, _⟩) y1 + S (ix2 ⟨y0.val % 128, _⟩ y1)
    = ∑ q : Fin 128, tri W (grp y1) (spot (gr t y0)) q * vn (argsOf H C G B W S) (mate (gr t y0) q) y1 + S (ix2 (spot (gr t y0)) y1)
  simp only [spot_gr, mate_gr]

theorem dvn_real (t : Fin cfg0.N) : dvnA (iblk m c 5 t) (dmB m c t)
    = re fun y : S512x768.Idx => dvn (argsOf H C G B W S) (gr t (y 0)) (y 1) := by
  rw [blk5 m c W hW t, dmB_real m c H C G B W S hH hC hG hB hW hS t]
  refine (dvnA_real _ _).trans ?_
  funext y
  idx_vars y
  refine congrArg (fun a : ℝ => (a : EReal)) ?_
  show ∑ q : Fin 128, tri W (grp y1) q ⟨y0.val % 128, _⟩ * dmx (argsOf H C G B W S) (gr t ⟨y0.val / 128 * 128 + q.val, _⟩) y1
    = ∑ q : Fin 128, tri W (grp y1) q (spot (gr t y0)) * dmx (argsOf H C G B W S) (mate (gr t y0) q) y1
  simp only [spot_gr, mate_gr]

/-- The gradient of `u`. -/
theorem final7 : (dats m 0 c).arrAt 7 cfg0.N = fun i : S8192x768.Idx => ((du (argsOf H C G B W S) (i 0) (i 1) : ℝ) : EReal) := by
  refine (dats m 0 c).arrAt_eq_of_covers 7 _ (by decide +kernel) fun t hf y => ?_
  have e : ((cfg0.win 7).blk t).view.emb y = ix2 (gr t (y 0)) (y 1) := by blk_ext [idx t, gr]
  rw [e]
  blk_simp
  rw [after0_7, store7, mix_real m c H C G B W S hH hC hG hB hW hS t, blk0 m c H hH t, blk2 m c C hC t, outU_real]
  rfl

/-- The gradient of `v`. -/
theorem final8 : (dats m 0 c).arrAt 8 cfg0.N = fun i : S8192x768.Idx => ((dv (argsOf H C G B W S) (i 0) (i 1) : ℝ) : EReal) := by
  refine (dats m 0 c).arrAt_eq_of_covers 8 _ (by decide +kernel) fun t hf y => ?_
  have e : ((cfg0.win 8).blk t).view.emb y = ix2 (gr t (y 0)) (y 1) := by blk_ext [idx t, gr]
  rw [e]
  blk_simp
  rw [after0_8, store8, dvn_real m c H C G B W S hH hC hG hB hW hS t, blk1 m c H hH t, blk3 m c G hG t, outV_real]
  rfl

/-- The gradient of the scale. -/
theorem final11 : (dats m 0 c).arrAt 11 cfg0.N = fun i : S1x768.Idx => ((dg (argsOf H C G B W S) (i 1) : ℝ) : EReal) := by
  have hpay (t : Fin cfg0.N) (s : Vec Ideal S1x768 .f32) (i : S1x768.Idx) :
      k0_pay257 (F := Ideal) (k0_pay38 (k0_pay34 (X0_1 m c t))) (dvnA (iblk m c 5 t) (dmB m c t)) s i
        = s i + ((∑ r : Fin 512, dvn (argsOf H C G B W S) (gr t r) (i 1) * xhat eps (gv (argsOf H C G B W S) (gr t r)) (i 1) : ℝ) : EReal) := by
    rw [dvn_real m c H C G B W S hH hC hG hB hW hS t, blk1 m c H hH t]
    exact congrFun (pay257_real _ _ _) i
  have hzero (i : S1x768.Idx) : k0_pay28 (F := Ideal) i = 0 := by pointwise [k0_pay28]
  refine (dats m 0 c).arrAt_eq_of_after_last 11 t0_15 (by decide +kernel) _ fun j => ?_
  blk_simp
  rw [after0_11, Pipeline.eq_sum_fin_of_reset_step_apply_last (fun n h => (outsAt0 m c n h).2.2.2.2.1) 16 (fun _ => 0)
    (fun t i => ((∑ r : Fin 512, dvn (argsOf H C G B W S) (gr t r) (i 1) * xhat eps (gv (argsOf H C G B W S) (gr t r)) (i 1) : ℝ) : EReal))
    (fun t h i => by rw [store11_zero m c t h]; exact (hpay t _ i).trans (congrArg (· + _) (hzero i)))
    (fun t h i => by rw [store11_succ m c t h]; exact hpay t _ i) (le_of_eq N_0) t0_15 rfl j, zero_add, coe_sum]
  exact congrArg _ (sum_rows fun r => dvn (argsOf H C G B W S) r (j 1) * xhat eps (gv (argsOf H C G B W S) r) (j 1))

/-- The gradient of the shift. -/
theorem final12 : (dats m 0 c).arrAt 12 cfg0.N = fun i : S1x768.Idx => ((db (argsOf H C G B W S) (i 1) : ℝ) : EReal) := by
  have hpay (t : Fin cfg0.N) (s : Vec Ideal S1x768 .f32) (i : S1x768.Idx) :
      k0_pay1 (F := Ideal) (dvnA (iblk m c 5 t) (dmB m c t)) s i
        = s i + ((∑ r : Fin 512, dvn (argsOf H C G B W S) (gr t r) (i 1) : ℝ) : EReal) := by
    rw [dvn_real m c H C G B W S hH hC hG hB hW hS t]
    exact congrFun (pay1_real _ _) i
  have hzero (i : S1x768.Idx) : k0_pay29 (F := Ideal) i = 0 := by pointwise [k0_pay29]
  refine (dats m 0 c).arrAt_eq_of_after_last 12 t0_15 (by decide +kernel) _ fun j => ?_
  blk_simp
  rw [after0_12, Pipeline.eq_sum_fin_of_reset_step_apply_last (fun n h => (outsAt0 m c n h).2.2.2.2.2.1) 16 (fun _ => 0)
    (fun t i => ((∑ r : Fin 512, dvn (argsOf H C G B W S) (gr t r) (i 1) : ℝ) : EReal))
    (fun t h i => by rw [store12_zero m c t h]; exact (hpay t _ i).trans (congrArg (· + _) (hzero i)))
    (fun t h i => by rw [store12_succ m c t h]; exact hpay t _ i) (le_of_eq N_0) t0_15 rfl j, zero_add, coe_sum]
  exact congrArg _ (sum_rows fun r => dvn (argsOf H C G B W S) r (j 1))

/-- What a step adds to a group's gradient. -/
def wPart (A : Args) (t : Fin cfg0.N) (i : S12x128x128.Idx) : ℝ :=
  ∑ k : Fin 4, ∑ e : Fin 64, dmx A (gr t (rowAt k (i 1))) (lane (i 0) e) * vn A (gr t (rowAt k (i 2))) (lane (i 0) e)

theorem gX_blk (t : Fin cfg0.N) (g : Fin 12) (a b : Fin 128) :
    gX (dmB m c t) (vnB m c t) g (ix2 a b) = ((wPart (argsOf H C G B W S) t (ix3 g a b) : ℝ) : EReal) := by
  rw [dmB_real m c H C G B W S hH hC hG hB hW hS t, vnB_real m c H C G B W S hH hC hG hB hW hS t]
  exact gX_real _ _ g a b

/-- The running gradient of the weights after each step, before the last step's mask. -/
def wRun (n : ℕ) (h : n < cfg0.N) : Vec Ideal S12x128x128 .f32 :=
  if n % 16 = 15 then View.canon (gAll (gPrev (outsAt0 m c (n - 1) (by omega)).2.2.1) (dmB m c ⟨n, h⟩) (vnB m c ⟨n, h⟩) []) else (outsAt0 m c n h).2.2.1

theorem wRun_zero (t : Fin cfg0.N) (h : t.val % 16 = 0) (i : S12x128x128.Idx) :
    wRun m c t.val t.isLt i = 0 + ((wPart (argsOf H C G B W S) t i : ℝ) : EReal) := by
  idx_vars i
  unfold wRun
  rw [if_neg (by omega), store9_zero m c t h]
  have hz : (k0_pay27 (F := Ideal) (ix3 i0 i1 i2) : EReal) = 0 := by pointwise [k0_pay27]
  refine (gAll_apply _ _ _ _ (k0_pay27 (F := Ideal)) i0 i1 i2 fun K hK => ?_).trans ?_
  · rw [gBack_apply, hK]
    exact congrFun (View.canon_cons_unit_lit (Val := Elt Ideal) (e := .f32) (S := S12x128x128) (off := ![0, 0, 0]) inb_S12x128x128_S12x128x128_0_0_0 (k0_pay27 (F := Ideal)) [] (by decide)) _
  · rw [hz, gX_blk m c H C G B W S hH hC hG hB hW hS]

theorem wRun_step (t : Fin cfg0.N) (h : ¬t.val % 16 = 0) (i : S12x128x128.Idx) :
    wRun m c t.val t.isLt i = wRun m c (t.val - 1) (by omega) i + ((wPart (argsOf H C G B W S) t i : ℝ) : EReal) := by
  have e : wRun m c t.val t.isLt
      = View.canon (gAll (gPrev (outsAt0 m c (t.val - 1) (by omega)).2.2.1) (dmB m c t) (vnB m c t) []) := by
    unfold wRun
    by_cases h1 : t.val % 16 = 15
    · rw [if_pos h1]
    · rw [if_neg h1, store9_mid m c t h h1]
  have e' : wRun m c (t.val - 1) (by omega) = (outsAt0 m c (t.val - 1) (by omega)).2.2.1 := if_neg (by omega)
  idx_vars i
  rw [e, e']
  refine (gAll_apply _ _ _ _ (outsAt0 m c (t.val - 1) (by omega)).2.2.1 i0 i1 i2 fun K _ => gPrev_apply _ _ _ _ _).trans ?_
  rw [gX_blk m c H C G B W S hH hC hG hB hW hS]

/-- The gradient of the mixing weights. -/
theorem final9 : (dats m 0 c).arrAt 9 cfg0.N = fun i : S12x128x128.Idx => ((dw (argsOf H C G B W S) (i 0) (i 1) (i 2) : ℝ) : EReal) := by
  refine (dats m 0 c).arrAt_eq_of_after_last 9 t0_15 (by decide +kernel) _ fun j => ?_
  blk_simp
  rw [after0_9, store9_last m c t0_15 (by decide) (by decide)]
  idx_vars j
  refine (mAll_apply _ _ j0 j1 j2 fun K => gBack_apply _ _ _ _ _).trans ?_
  unfold dw
  by_cases hs : j2.val ≤ j1.val
  · have er : View.canon (gAll (gPrev (outsAt0 m c (t0_15.val - 1) (by decide)).2.2.1) (dmB m c t0_15) (vnB m c t0_15) []) (ix3 j0 j1 j2)
        = wRun m c t0_15.val t0_15.isLt (ix3 j0 j1 j2) := by
      unfold wRun
      rw [if_pos (by decide)]
    rw [if_pos hs]
    refine er.trans ?_
    rw [Pipeline.eq_sum_fin_of_reset_step_apply_last (fun n h => wRun m c n h) 16 (fun _ => 0)
      (fun t i => ((wPart (argsOf H C G B W S) t i : ℝ) : EReal))
      (fun t h i => wRun_zero m c H C G B W S hH hC hG hB hW hS t h i)
      (fun t h i => wRun_step m c H C G B W S hH hC hG hB hW hS t h i) (le_of_eq N_0) t0_15 rfl (ix3 j0 j1 j2), zero_add, coe_sum]
    refine congrArg (fun a : ℝ => (a : EReal)) ?_
    refine (sum_chunks2 (fun r r' => ∑ e : Fin 64, dmx (argsOf H C G B W S) r (lane j0 e) * vn (argsOf H C G B W S) r' (lane j0 e)) j1 j2).trans ?_
    exact (if_pos hs).symm
  · rw [if_neg hs]
    refine (EReal.coe_zero.symm).trans (congrArg (fun a : ℝ => (a : EReal)) ?_)
    exact (if_neg hs).symm

/-- What a step adds to a lane of the bias's gradient. -/
def sPart (A : Args) (t : Fin cfg0.N) (i : S128x768.Idx) : ℝ := ∑ k : Fin 4, dmx A (gr t (rowAt k (i 0))) (i 1)

theorem dbT_blk (t : Fin cfg0.N) (a : Fin 128) (l : Fin 768) :
    dbT (dmB m c t) ⟨l.val / 128, by omega⟩ (ix2 a ⟨l.val % 128, by omega⟩) = ((sPart (argsOf H C G B W S) t (ix2 a l) : ℝ) : EReal) := by
  rw [dmB_real m c H C G B W S hH hC hG hB hW hS t, dbT_real]
  have e : colAt ⟨l.val / 128, by omega⟩ ⟨l.val % 128, by omega⟩ = l := Fin.ext (by show 128 * (l.val / 128) + l.val % 128 = l.val; omega)
  refine congrArg (fun b : ℝ => (b : EReal)) ?_
  show ∑ k : Fin 4, dmx (argsOf H C G B W S) (gr t (rowAt k a)) (colAt ⟨l.val / 128, _⟩ ⟨l.val % 128, _⟩) = ∑ k : Fin 4, dmx (argsOf H C G B W S) (gr t (rowAt k a)) l
  rw [e]

theorem carry_step0 (t : Fin cfg0.N) (h : t.val % 16 = 0) (i : S128x768.Idx) :
    (outsAt0 m c t.val t.isLt).2.2.2.2.2.2 i = 0 + ((sPart (argsOf H C G B W S) t i : ℝ) : EReal) := by
  idx_vars i
  rw [carry_zero m c t h]
  have hz : (k0_pay30 (F := Ideal) (ix2 i0 i1) : EReal) = 0 := by pointwise [k0_pay30]
  refine (lAll_apply _ _ _ (k0_pay30 (F := Ideal)) i0 i1 fun K j hj hK => ?_).trans ?_
  · have ec : colAt j ⟨i1.val % 128, by omega⟩ = i1 := Fin.ext (by show 128 * j.val + i1.val % 128 = i1.val; omega)
    rw [lBack_apply]
    show View.canon K (ix2 i0 (colAt j ⟨i1.val % 128, _⟩)) = _
    rw [ec, hK]
    exact congrFun (View.canon_cons_unit_lit (Val := Elt Ideal) (e := .f32) (S := S128x768) (off := ![0, 0]) inb_S128x768_S128x768_0_0 (k0_pay30 (F := Ideal)) [] (by decide)) _
  · rw [hz, dbT_blk m c H C G B W S hH hC hG hB hW hS]

theorem carry_step (t : Fin cfg0.N) (h : ¬t.val % 16 = 0) (i : S128x768.Idx) :
    (outsAt0 m c t.val t.isLt).2.2.2.2.2.2 i = (outsAt0 m c (t.val - 1) (by omega)).2.2.2.2.2.2 i + ((sPart (argsOf H C G B W S) t i : ℝ) : EReal) := by
  idx_vars i
  rw [carry_mid m c t h]
  refine (lAll_apply _ _ _ (outsAt0 m c (t.val - 1) (by omega)).2.2.2.2.2.2 i0 i1 fun K j hj hK => ?_).trans ?_
  · have ec : colAt j ⟨i1.val % 128, by omega⟩ = i1 := Fin.ext (by show 128 * j.val + i1.val % 128 = i1.val; omega)
    rw [lPrev_apply]
    show (outsAt0 m c (t.val - 1) (by omega)).2.2.2.2.2.2 (ix2 i0 (colAt j ⟨i1.val % 128, _⟩)) = _
    rw [ec]
  · rw [dbT_blk m c H C G B W S hH hC hG hB hW hS]

/-- The lanes of the bias's gradient after the last step. -/
theorem carry_last (i : S128x768.Idx) :
    (outsAt0 m c t0_15.val t0_15.isLt).2.2.2.2.2.2 i = ((∑ n : Fin 64, dmx (argsOf H C G B W S) (rowOf n (i 0)) (i 1) : ℝ) : EReal) := by
  rw [Pipeline.eq_sum_fin_of_reset_step_apply_last (fun n h => (outsAt0 m c n h).2.2.2.2.2.2) 16 (fun _ => 0)
    (fun t i => ((sPart (argsOf H C G B W S) t i : ℝ) : EReal))
    (fun t h i => carry_step0 m c H C G B W S hH hC hG hB hW hS t h i)
    (fun t h i => carry_step m c H C G B W S hH hC hG hB hW hS t h i) (le_of_eq N_0) t0_15 rfl i, zero_add, coe_sum]
  exact congrArg (fun a : ℝ => (a : EReal)) (sum_chunks (fun r => dmx (argsOf H C G B W S) r (i 1)) (i 0))

/-- Their columns. -/
theorem carry_cols (a b : Fin 128) :
    cols (fun k i => (outsAt0 m c t0_15.val t0_15.isLt).2.2.2.2.2.2 (ix2 (i 0) (colAt k (i 1)))) (ix2 a b)
      = (((if h : b.val < 12 then ∑ e : Fin 64, ∑ n : Fin 64, dmx (argsOf H C G B W S) (rowOf n a) (colAt ⟨b.val / 2, by omega⟩ ⟨64 * (b.val % 2) + e.val, by omega⟩) else 0 : ℝ)) : EReal) := by
  have h := carry_last m c H C G B W S hH hC hG hB hW hS
  generalize (outsAt0 m c t0_15.val t0_15.isLt).2.2.2.2.2.2 = w at h ⊢
  exact cols_real _ (fun k (i : S128x128.Idx) => ∑ n : Fin 64, dmx (argsOf H C G B W S) (rowOf n (i 0)) (colAt k (i 1)))
    (fun k => funext fun i => h (ix2 (i 0) (colAt k (i 1)))) a b

/-- The gradient of the mixing bias, a column for each group. -/
theorem final10 : (dats m 0 c).arrAt 10 cfg0.N
    = fun i : S128x128.Idx => (((if h : (i 1).val < 12 then ds (argsOf H C G B W S) ⟨(i 1).val, h⟩ (i 0) else 0 : ℝ)) : EReal) := by
  refine (dats m 0 c).arrAt_eq_of_after_last 10 t0_15 (by decide +kernel) _ fun j => ?_
  blk_simp
  rw [after0_10, store10_cols m c t0_15 (by decide) (by decide)]
  idx_vars j
  refine (carry_cols m c H C G B W S hH hC hG hB hW hS j0 j1).trans (congrArg (fun a : ℝ => (a : EReal)) ?_)
  by_cases h : j1.val < 12
  · refine (dif_pos h).trans (Eq.trans ?_ (dif_pos h).symm)
    show ∑ e : Fin 64, ∑ n : Fin 64, dmx (argsOf H C G B W S) (rowOf n j0) (colAt ⟨j1.val / 2, _⟩ ⟨64 * (j1.val % 2) + e.val, _⟩)
      = ∑ n : Fin 64, ∑ e : Fin 64, dmx (argsOf H C G B W S) (rowOf n j0) (lane ⟨j1.val, h⟩ e)
    rw [Finset.sum_comm]
    refine Finset.sum_congr rfl fun n _ => Finset.sum_congr rfl fun e _ => congrArg _ (Fin.ext ?_)
    show 128 * (j1.val / 2) + (64 * (j1.val % 2) + e.val) = 64 * j1.val + e.val
    omega
  · refine (dif_neg h).trans ?_
    show (0 : ℝ) = if h : j1.val < 12 then ds (argsOf H C G B W S) ⟨j1.val, h⟩ j0 else 0
    rw [dif_neg h]

end Cert.SguBwdIdeal.Pay

end
-- ==== Proof.SguEntry.lean ====
/- The arrays the spatial gate's backward kernel is given, at real numbers. -/
module

public import proofs.«01_k».proof.Proof.SguFinal

@[expose] public section

set_option maxRecDepth 16384

noncomputable section

open Idealize.ShloMosaic Idealize.ShloMosaic.TcCoe Idealize.SL.Sem

namespace Cert.SguBwdIdeal.Pay

open Cert.SguBwdIdeal Cert.SguBwdIdeal.Gen Cert.RealLift Cert.SguMath

variable (m : (ℓ : Loc nD τ sig) → Buf (Elt Ideal) ℓ) (c : Dev nD)

/-- The rows of `u`, `v` and the memory's queries, row after row. -/
theorem entry0 (x : S4x2048x1792.Idx → ℝ) (h : m ((c : Thread nD τ).loc main_arg0) = re x) :
    V m c main_v0 = re fun i : S8192x1792.Idx => x (ix3 (blockOf (i 0)) (placeOf (i 0)) (i 1)) := by
  entry_read
  funext i
  idx_vars i
  pointwise []
  exact congrFun h _

/-- The gradient of the gated rows and the memory's, row after row. -/
theorem entry1 (x : S4x2048x1024.Idx → ℝ) (h : m ((c : Thread nD τ).loc main_arg1) = re x) :
    V m c main_v1 = re fun i : S8192x1024.Idx => x (ix3 (blockOf (i 0)) (placeOf (i 0)) (i 1)) := by
  entry_read
  funext i
  idx_vars i
  pointwise []
  exact congrFun h _

/-- The normalisation's scale, as one row. -/
theorem entry2 (x : S768.Idx → ℝ) (h : m ((c : Thread nD τ).loc main_arg2) = re x) :
    V m c main_v2 = re fun i : S1x768.Idx => x (ix1 (i 1)) := by
  entry_read
  funext i
  idx_vars i
  pointwise []
  exact congrFun h _

/-- The normalisation's shift, as one row. -/
theorem entry3 (x : S768.Idx → ℝ) (h : m ((c : Thread nD τ).loc main_arg3) = re x) :
    V m c main_v3 = re fun i : S1x768.Idx => x (ix1 (i 1)) := by
  entry_read
  funext i
  idx_vars i
  pointwise []
  exact congrFun h _

/-- The mixing weights. -/
theorem entryW (x : S12x128x128.Idx → ℝ) (h : m ((c : Thread nD τ).loc main_arg4) = re x) : V m c main_arg4 = re x := by
  entry_read
  exact h

/-- The mixing bias, its groups repeated along their lanes. -/
theorem entry6 (x : S12x128.Idx → ℝ) (h : m ((c : Thread nD τ).loc main_arg5) = re x) :
    V m c main_v6 = re fun i : S128x768.Idx => x (ix2 (grp (i 1)) (i 0)) := by
  entry_read
  funext i
  idx_vars i
  pointwise []
  exact congrFun h _

end Cert.SguBwdIdeal.Pay

end
-- ==== Proof.SguRef.lean ====
/- The reference gradients of the spatial gate, at real numbers. -/
module

public import proofs.«01_k».proof.Proof.Gen.SguGradIdeal.Run
public import Idealize.ShloMosaic.Lib.Pipeline.ValueKit
public import proofs.«01_k».proof.Proof.SguMath

@[expose] public section

set_option maxRecDepth 16384

noncomputable section

open Idealize.ShloMosaic Idealize.ShloMosaic.TcCoe Idealize.SL.Sem

namespace Cert.SguGradIdeal.Ref

open Cert.SguGradIdeal Cert.SguGradIdeal.Gen Cert.SguGradIdeal.Value Cert.RealLift Cert.LayerNorm Cert.SguMath

/-- Place `b` of sequence `a` among all rows. -/
abbrev at2 (a : Fin 4) (b : Fin 2048) : Fin 8192 := ⟨2048 * a.val + b.val, by omega⟩

/-- Rows, by sequence and place. -/
abbrev rows (f : Fin 8192 → Fin 768 → ℝ) : S4x2048x768.Idx → ℝ := fun i => f (at2 (i 0) (i 1)) (i 2)

/-- An array of all rows. -/
abbrev Rows : Type := FVec Ideal S4x2048x768 .f32

theorem muls (x y : Fin 8192 → Fin 768 → ℝ) : (mulf (F := Ideal) (re (rows x) : Rows) (re (rows y) : Rows) : Rows) = re (rows fun r l => x r l * y r l) := by
  funext i
  exact (EReal.coe_mul _ _).symm

theorem adds (x y : Fin 8192 → Fin 768 → ℝ) : (addf (F := Ideal) (re (rows x) : Rows) (re (rows y) : Rows) : Rows) = re (rows fun r l => x r l + y r l) := by
  funext i
  exact (EReal.coe_add _ _).symm

theorem subs (x y : Fin 8192 → Fin 768 → ℝ) : (subf (F := Ideal) (re (rows x) : Rows) (re (rows y) : Rows) : Rows) = re (rows fun r l => x r l - y r l) := by
  funext i
  exact (EReal.coe_sub _ _).symm

theorem tanhs (x : Fin 8192 → Fin 768 → ℝ) : (Host.tanh (F := Ideal) (re (rows x) : Rows) : Rows) = re (rows fun r l => Real.tanh (x r l)) := rfl

/-- One number everywhere. -/
theorem consts (w : BitVec 32) (a : ℝ) (h : Ideal.ofBits .f32 w = (a : EReal)) :
    (broadcastInDim S4x2048x768 ![] bcast_S_S4x2048x768 (constant (F := Ideal) S_ .f32 w) : Rows) = re (rows fun _ _ => a) := by
  funext i
  exact h

variable (V0 : Valuation τ sig (Elt Ideal)) (A : Args)

theorem cubic_u : (broadcastInDim S4x2048x768 ![] bcast_S_S4x2048x768 (res_main_v3 (F := Ideal) V0) : Rows) = re (rows fun _ _ => 8943 / 200000) := by
  funext i
  show Ideal.div (Ideal.ofBits .f32 0x460BBC00#32) (Ideal.ofBits .f32 0x48435000#32) = _
  rw [ofBits_num, ofBits_den, div_real _ (by norm_num)]

theorem cubic_v : (broadcastInDim S4x2048x768 ![] bcast_S_S4x2048x768 (res_main_v25 (F := Ideal) V0) : Rows) = re (rows fun _ _ => 8943 / 200000) := by
  funext i
  show Ideal.div (Ideal.ofBits .f32 0x460BBC00#32) (Ideal.ofBits .f32 0x48435000#32) = _
  rw [ofBits_num, ofBits_den, div_real _ (by norm_num)]

section values

variable (hu : res_main_v0 (F := Ideal) V0 = re (rows A.u)) (hv : res_main_v1 (F := Ideal) V0 = re (rows A.v))
  (hd : res_main_v90 (F := Ideal) V0 = re (rows A.d))
  (hg : V0 (Proc.devRef .tc main_arg2) = re fun i : S768.Idx => A.g (i 0))
  (hb : V0 (Proc.devRef .tc main_arg3) = re fun i : S768.Idx => A.b (i 0))
  (hw : V0 (Proc.devRef .tc main_arg4) = re A.w)
  (hs : V0 (Proc.devRef .tc main_arg5) = re fun i : S12x128.Idx => A.s (i 1) (lane (i 0) 0))
  (hs' : ∀ t l, A.s t l = A.s t (lane (grp l) 0))

section tu
include hu

theorem v14_real : res_main_v14 (F := Ideal) V0 = re (rows fun r l => th (A.u r l)) := by
  unfold res_main_v14
  rw [hu, cubic_u, consts _ _ ofBits_outer, muls, muls, muls, adds, muls, tanhs]
  refine congrArg re (funext fun i => ?_)
  show Real.tanh _ = Real.tanh _
  refine congrArg Real.tanh ?_
  ring

theorem v23_real : res_main_v23 (F := Ideal) V0 = re (rows fun r l => 1 / 2 * (1 + th (A.u r l))) := by
  unfold res_main_v23
  rw [v14_real V0 A hu, consts _ _ ofBits_half, consts _ _ ofBits_one, adds, muls]

theorem v24_real : res_main_v24 (F := Ideal) V0 = re (rows fun r l => gel (A.u r l)) := by
  unfold res_main_v24
  rw [v23_real V0 A hu, hu, muls]
  refine congrArg re (funext fun i => ?_)
  show _ = gel _
  unfold gel
  ring

end tu

section tv
include hv

theorem v36_real : res_main_v36 (F := Ideal) V0 = re (rows fun r l => th (A.v r l)) := by
  unfold res_main_v36
  rw [hv, cubic_v, consts _ _ ofBits_outer, muls, muls, muls, adds, muls, tanhs]
  refine congrArg re (funext fun i => ?_)
  show Real.tanh _ = Real.tanh _
  refine congrArg Real.tanh ?_
  ring

theorem v45_real : res_main_v45 (F := Ideal) V0 = re (rows fun r l => 1 / 2 * (1 + th (A.v r l))) := by
  unfold res_main_v45
  rw [v36_real V0 A hv, consts _ _ ofBits_half, consts _ _ ofBits_one, adds, muls]

theorem v46_real : res_main_v46 (F := Ideal) V0 = re (rows (gv A)) := by
  unfold res_main_v46
  rw [v45_real V0 A hv, hv, muls]
  refine congrArg re (funext fun i => ?_)
  show _ = gel _
  unfold gel
  ring

theorem v50_real : res_main_v50 (F := Ideal) V0 = re fun i : S4x2048x1.Idx => mean 768 (gv A (at2 (i 0) (i 1))) := by
  unfold res_main_v50
  rw [v46_real V0 A hv]
  funext i
  idx_vars i
  pointwise []
  simp only [coe_sum, div_768, zero_add]
  rfl

theorem v52_real : res_main_v52 (F := Ideal) V0 = re (rows fun r => cen (gv A r)) := by
  unfold res_main_v52
  rw [v50_real V0 A hv, v46_real V0 A hv]
  funext i
  idx_vars i
  pointwise []
  exact (EReal.coe_sub _ _).symm

theorem v61_real : res_main_v61 (F := Ideal) V0 = re (rows fun r => cen (gv A r)) := v52_real V0 A hv

theorem v63_real : res_main_v63 (F := Ideal) V0 = re fun i : S4x2048x1.Idx => var (gv A (at2 (i 0) (i 1))) + eps := by
  unfold res_main_v63
  rw [v52_real V0 A hv, muls]
  funext i
  idx_vars i
  pointwise []
  simp only [coe_sum, div_768, ofBits_eps, ← EReal.coe_add, zero_add]
  rfl

theorem v64_real : res_main_v64 (F := Ideal) V0 = re fun i : S4x2048x1.Idx => rstd eps (gv A (at2 (i 0) (i 1))) := by
  unfold res_main_v64
  rw [v63_real V0 A hv]
  funext i
  exact rsqrt_real (var_add_pos eps_pos _)

theorem v69_real : res_main_v69 (F := Ideal) V0 = re (rows fun r => xhat eps (gv A r)) := by
  unfold res_main_v69
  rw [v61_real V0 A hv, v64_real V0 A hv]
  funext i
  idx_vars i
  pointwise []
  exact (EReal.coe_mul _ _).symm

end tv

/-- Rows by sequence, chunk, place, group and lane. -/
abbrev split5 (f : Fin 8192 → Fin 768 → ℝ) : S4x16x128x12x64.Idx → ℝ := fun i =>
  f (at2 (i 0) ⟨128 * (i 1).val + (i 2).val, by have h1 : (i 1).val < 16 := (i 1).isLt; have h2 : (i 2).val < 128 := (i 2).isLt; omega⟩) (lane (i 3) (i 4))

theorem split_real (f : Fin 8192 → Fin 768 → ℝ) :
    (shapeCast S4x16x128x12x64 (re (rows f) : Rows) shapeCasts_S4x2048x768_S4x16x128x12x64 : FVec Ideal S4x16x128x12x64 .f32) = re (split5 f) := by
  funext i
  idx_vars i
  pointwise []
  show ((f _ _ : ℝ) : EReal) = ((f _ _ : ℝ) : EReal)
  have h1 : at2 i0 ⟨i1.val * 128 + i2.val, by omega⟩ = at2 i0 ⟨128 * i1.val + i2.val, by omega⟩ := Fin.ext (by show 2048 * _ + (_ + _) = _ + (_ + _); omega)
  have h2 : (⟨i3.val * 64 + i4.val, by omega⟩ : Fin 768) = lane i3 i4 := Fin.ext (by show _ + _ = _ + _; omega)
  exact congrArg₂ (fun r l => ((f r l : ℝ) : EReal)) h1 h2

theorem join_real (f : Fin 8192 → Fin 768 → ℝ) :
    (shapeCast S4x2048x768 (re (split5 f) : FVec Ideal S4x16x128x12x64 .f32) shapeCasts_S4x16x128x12x64_S4x2048x768 : Rows) = re (rows f) := by
  rw [← split_real]
  exact shapeCast_shapeCast _ _ _

section t76
include hv hg hb

theorem v76_real : res_main_v76 (F := Ideal) V0 = re (split5 (vn A)) := by
  unfold res_main_v76 res_main_v70
  rw [v69_real V0 A hv, hg, hb, ← split_real]
  refine congrArg (fun x : Rows => (shapeCast S4x16x128x12x64 x shapeCasts_S4x2048x768_S4x16x128x12x64 : FVec Ideal S4x16x128x12x64 .f32)) ?_
  funext i
  idx_vars i
  pointwise []
  simp only [← EReal.coe_mul, ← EReal.coe_add]
  rfl

end t76

theorem grp_lane (g : Fin 12) (e : Fin 64) : grp (lane g e) = g := Fin.ext (by show (_ + _) / _ = _; omega)

/-- Row `t` of chunk `n` of sequence `a`. -/
abbrev at3 (a : Fin 4) (n : Fin 16) (t : Fin 128) : Fin 8192 := at2 a ⟨128 * n.val + t.val, by omega⟩

theorem spot_at (a : Fin 4) (n : Fin 16) (t : Fin 128) : spot (at3 a n t) = t := Fin.ext (by show (_ + (_ + _)) % _ = _; omega)

theorem mate_at (a : Fin 4) (n : Fin 16) (t q : Fin 128) : mate (at3 a n t) q = at3 a n q :=
  Fin.ext (by show (_ + (_ + _)) / _ * _ + _ = _ + (_ + _); omega)

theorem v79_real : res_main_v79 (F := Ideal) V0 = re fun i : S1x128x128.Idx => if (i 2).val ≤ (i 1).val then 1 else 0 := by
  unfold res_main_v79
  funext i
  idx_vars i
  pointwise []
  have h : ∀ a : Fin 128, (IntOp.addi (BitVec.ofNat 32 a.val) 0#32).toInt = a.val ∧ (BitVec.ofNat 32 a.val).toInt = a.val := by decide +kernel
  show _ = (((if i2.val ≤ i1.val then 1 else 0 : ℝ)) : EReal)
  unfold IntOp.cmpi
  simp only [BitVec.sle, h]
  by_cases hs : i2.val ≤ i1.val
  · rw [if_pos hs]
    simp [hs, Scalar.select]
  · rw [if_neg hs]
    simp [hs, Scalar.select]

/-- A sum over the chunks of all sequences. -/
theorem sum_chunks (t : Fin 128) (f : Fin 8192 → ℝ) : ∑ a : Fin 4, ∑ n : Fin 16, f (at3 a n t) = ∑ n : Fin 64, f (rowOf n t) := by
  rw [Fin.sum_univ_tiles 4 16 (by norm_num) fun n : Fin 64 => f (rowOf n t)]
  refine Finset.sum_congr rfl fun a _ => Finset.sum_congr rfl fun n _ => congrArg f (Fin.ext ?_)
  show 2048 * a.val + (128 * n.val + t.val) = 128 * (a.val * 16 + n.val) + t.val
  omega

section t81
include hw

theorem v81_real : res_main_v81 (F := Ideal) V0 = re fun i : S12x128x128.Idx => tri A.w (i 0) (i 1) (i 2) := by
  unfold res_main_v81
  rw [v79_real, hw]
  funext i
  idx_vars i
  pointwise []
  rw [← EReal.coe_mul]
  refine congrArg (fun a : ℝ => (a : EReal)) ?_
  show A.w (ix3 i0 i1 i2) * (if i2.val ≤ i1.val then 1 else 0) = if i2.val ≤ i1.val then A.w (ix3 i0 i1 i2) else 0
  rw [mul_ite, mul_one, mul_zero]

include hv hg hb hs hs'

theorem v88_real : res_main_v88 (F := Ideal) V0 = re (rows (mix A)) := by
  unfold res_main_v88
  rw [v76_real V0 A hv hg hb, v81_real V0 A hw, hs, ← join_real]
  refine congrArg (fun x : FVec Ideal S4x16x128x12x64 .f32 => (shapeCast S4x2048x768 x shapeCasts_S4x16x128x12x64_S4x2048x768 : Rows)) ?_
  funext i
  idx_vars i
  pointwise []
  show ∑ x : Fin 128, ((vn A (at3 i0 i1 x) (lane i3 i4) : ℝ) : EReal) * ((tri A.w i3 i2 x : ℝ) : EReal) + ((A.s i2 (lane i3 0) : ℝ) : EReal)
    = ((mix A (at3 i0 i1 i2) (lane i3 i4) : ℝ) : EReal)
  simp only [← EReal.coe_mul, coe_sum, ← EReal.coe_add]
  refine congrArg (fun a : ℝ => (a : EReal)) ?_
  unfold mix
  rw [grp_lane, spot_at, hs' i2 (lane i3 i4), grp_lane]
  simp only [mate_at, mul_comm]

end t81

section td
include hu hd

theorem v93_real : res_main_v93 (F := Ideal) V0 = re (split5 (dmx A)) := by
  unfold res_main_v93
  rw [v24_real V0 A hu, hd, muls, ← split_real]
  refine congrArg (fun f => (shapeCast S4x16x128x12x64 (re (rows f) : Rows) shapeCasts_S4x2048x768_S4x16x128x12x64 : FVec Ideal S4x16x128x12x64 .f32)) ?_
  funext r l
  exact mul_comm _ _

include hw

theorem v104_real : res_main_v104 (F := Ideal) V0 = re (rows (dvn A)) := by
  unfold res_main_v104 res_main_v98
  rw [v93_real V0 A hu hd, v81_real V0 A hw, ← join_real]
  refine congrArg (fun x : FVec Ideal S4x16x128x12x64 .f32 => (shapeCast S4x2048x768 x shapeCasts_S4x16x128x12x64_S4x2048x768 : Rows)) ?_
  funext i
  idx_vars i
  pointwise []
  show ∑ x : Fin 128, ((dmx A (at3 i0 i1 x) (lane i3 i4) : ℝ) : EReal) * ((tri A.w i3 x i2 : ℝ) : EReal)
    = ((dvn A (at3 i0 i1 i2) (lane i3 i4) : ℝ) : EReal)
  simp only [← EReal.coe_mul, coe_sum]
  refine congrArg (fun a : ℝ => (a : EReal)) ?_
  unfold dvn
  rw [grp_lane, spot_at]
  simp only [mate_at, mul_comm]

include hg

theorem v112_real : res_main_v112 (F := Ideal) V0 = re (rows fun r l => dvn A r l * A.g l) := by
  unfold res_main_v112 res_main_v70
  rw [v104_real V0 A hu hd hw, hg]
  funext i
  idx_vars i
  pointwise []
  exact (EReal.coe_mul _ _).symm

end td

/-- One number a row. -/
abbrev Col : Type := FVec Ideal S4x2048x1 .f32

/-- One number a row, by sequence and place. -/
abbrev cols (f : Fin 8192 → ℝ) : S4x2048x1.Idx → ℝ := fun i => f (at2 (i 0) (i 1))

theorem rowSum_real (f : Fin 8192 → Fin 768 → ℝ) :
    (shapeCast S4x2048x1 (Host.reduceAdd (re (rows f) : Rows) (constant (F := Ideal) S_ .f32 0x00000000#32) reducesTo_S4x2048x768_S4x2048_d2 h_S_ :
      FVec Ideal S4x2048 .f32) shapeCasts_S4x2048_S4x2048x1 : Col) = re (cols fun r => ∑ l, f r l) := by
  funext i
  idx_vars i
  pointwise []
  simp only [coe_sum, zero_add]
  rfl

theorem spread_real (f : Fin 8192 → ℝ) :
    (broadcastInDim S4x2048x768 ![0, 1] bcast_S4x2048_S4x2048x768_0_1 (Host.reduceAdd (Host.divf (re (cols f) : Col)
      (broadcastInDim S4x2048x1 ![] bcast_S_S4x2048x1 (constant (F := Ideal) S_ .f32 0x44400000#32))) (constant (F := Ideal) S_ .f32 0x00000000#32)
      reducesTo_S4x2048x1_S4x2048_d2 h_S_ : FVec Ideal S4x2048 .f32) : Rows) = re (rows fun r _ => f r / 768) := by
  funext i
  idx_vars i
  pointwise []
  simp only [div_768, zero_add, Finset.univ_unique, Finset.sum_singleton]
  rfl

theorem negs (x : Fin 8192 → Fin 768 → ℝ) : (Host.negf (F := Ideal) (re (rows x) : Rows) : Rows) = re (rows fun r l => -x r l) := by
  funext i
  exact (EReal.coe_neg _).symm

theorem addc (x y : Fin 8192 → ℝ) : (addf (F := Ideal) (re (cols x) : Col) (re (cols y) : Col) : Col) = re (cols fun r => x r + y r) := by
  funext i
  exact (EReal.coe_add _ _).symm

theorem mulc (x y : Fin 8192 → ℝ) : (mulf (F := Ideal) (re (cols x) : Col) (re (cols y) : Col) : Col) = re (cols fun r => x r * y r) := by
  funext i
  exact (EReal.coe_mul _ _).symm

section tb
include hu hv hd hw hg

theorem v118_real : res_main_v118 (F := Ideal) V0 = re (rows fun r l => dvn A r l * A.g l * rstd eps (gv A r)) := by
  unfold res_main_v118
  rw [v112_real V0 A hu hd hg hw, v64_real V0 A hv]
  funext i
  idx_vars i
  pointwise []
  exact (EReal.coe_mul _ _).symm

theorem v127_real : res_main_v127 (F := Ideal) V0 = re (rows fun r l => varGrad eps (gv A r) (fun l => dvn A r l * A.g l) * (2 * cen (gv A r) l)) := by
  have h : (mulf (broadcastInDim S4x2048x1 ![] bcast_S_S4x2048x1 (constant (F := Ideal) S_ .f32 0xBF000000#32)) (Host.divf (res_main_v64 V0) (res_main_v63 V0)) : Col)
      = re (cols fun r => -1 / 2 * (rstd eps (gv A r) / (var (gv A r) + eps))) := by
    rw [v64_real V0 A hv, v63_real V0 A hv]
    funext i
    idx_vars i
    pointwise []
    rw [ofBits_neg_half, div_real _ (var_add_pos eps_pos _).ne', ← EReal.coe_mul]
  unfold res_main_v127
  rw [h, v112_real V0 A hu hd hg hw, v61_real V0 A hv, v52_real V0 A hv, muls, rowSum_real, mulc, spread_real, consts _ _ ofBits_2, muls, muls]
  rfl

theorem v137_real : res_main_v137 (F := Ideal) V0 = re (rows fun r l => back eps (gv A r) (fun l => dvn A r l * A.g l) l) := by
  unfold res_main_v137
  rw [v118_real V0 A hu hv hd hg hw, v127_real V0 A hu hv hd hg hw, negs, negs, rowSum_real, rowSum_real, addc, spread_real, adds, adds]
  refine congrArg (fun f => re (rows f)) ?_
  funext r l
  exact vjp_eq_back eps_pos (by norm_num) (gv A r) (fun l => dvn A r l * A.g l) l

theorem v144_real : res_main_v144 (F := Ideal) V0 = re (rows fun r l =>
    outer * (1 / 2 * (A.v r l * back eps (gv A r) (fun l => dvn A r l * A.g l) l) * ((1 + th (A.v r l)) * (1 - th (A.v r l))))) := by
  unfold res_main_v144
  rw [v137_real V0 A hu hv hd hg hw, hv, v36_real V0 A hv, consts _ _ ofBits_outer, consts _ _ ofBits_half, consts _ _ ofBits_one,
    muls, muls, adds, subs, muls, muls, muls]

/-- The rows flattened. -/
abbrev flat2 (f : Fin 8192 → Fin 768 → ℝ) : S8192x768.Idx → ℝ := fun i => f (i 0) (i 1)

omit hu hv hd hw hg in
theorem flat_real (f : Fin 8192 → Fin 768 → ℝ) :
    (shapeCast S8192x768 (re (rows f) : FVec Ideal S4x2048x768 .bf16) shapeCasts_S4x2048x768_S8192x768 : FVec Ideal S8192x768 .bf16) = re (flat2 f) := by
  funext i
  idx_vars i
  pointwise []
  show ((f _ _ : ℝ) : EReal) = ((f _ _ : ℝ) : EReal)
  refine congrArg (fun r => ((f r i1 : ℝ) : EReal)) (Fin.ext ?_)
  show 2048 * (i0.val / 2048) + i0.val % 2048 = i0.val
  omega

/-- The gradient of `v`. -/
theorem dv_real : (shapeCast S8192x768 (truncf .bf16 (addf (addf (mulf (res_main_v137 V0) (res_main_v45 V0)) (res_main_v144 V0))
      (mulf (mulf (broadcastInDim S4x2048x768 ![] bcast_S_S4x2048x768 (res_main_v25 V0)) (res_main_v144 V0))
        (mulf (broadcastInDim S4x2048x768 ![] bcast_S_S4x2048x768 (constant S_ .f32 0x40400000#32)) (mulf (res_main_v1 V0) (res_main_v1 V0))))) bitsLt_bf16_f32)
      shapeCasts_S4x2048x768_S8192x768 : FVec Ideal S8192x768 .bf16) = re (flat2 (dv A)) := by
  rw [v137_real V0 A hu hv hd hg hw, v45_real V0 A hv, v144_real V0 A hu hv hd hg hw, hv, cubic_v, consts _ _ ofBits_three,
    muls, muls, muls, muls, muls, adds, adds]
  refine (flat_real _).trans (congrArg (fun f => re (flat2 f)) ?_)
  funext r l
  unfold dv geld
  ring

include hb hs hs'

theorem v92_real : res_main_v92 (F := Ideal) V0 = re (rows fun r l => A.d r l * mix A r l) := by
  unfold res_main_v92
  rw [hd, v88_real V0 A hv hg hb hw hs hs', muls]

theorem v156_real : res_main_v156 (F := Ideal) V0 = re (rows fun r l =>
    outer * (1 / 2 * (A.u r l * (A.d r l * mix A r l)) * ((1 + th (A.u r l)) * (1 - th (A.u r l))))) := by
  unfold res_main_v156
  rw [v92_real V0 A hu hv hd hg hb hw hs hs', hu, v14_real V0 A hu, consts _ _ ofBits_outer, consts _ _ ofBits_half, consts _ _ ofBits_one,
    muls, muls, adds, subs, muls, muls, muls]

/-- The gradient of `u`. -/
theorem du_real : (shapeCast S8192x768 (truncf .bf16 (addf (addf (mulf (res_main_v92 V0) (res_main_v23 V0)) (res_main_v156 V0))
      (mulf (mulf (broadcastInDim S4x2048x768 ![] bcast_S_S4x2048x768 (res_main_v3 V0)) (res_main_v156 V0))
        (mulf (broadcastInDim S4x2048x768 ![] bcast_S_S4x2048x768 (constant S_ .f32 0x40400000#32)) (mulf (res_main_v0 V0) (res_main_v0 V0))))) bitsLt_bf16_f32)
      shapeCasts_S4x2048x768_S8192x768 : FVec Ideal S8192x768 .bf16) = re (flat2 (du A)) := by
  rw [v92_real V0 A hu hv hd hg hb hw hs hs', v23_real V0 A hu, v156_real V0 A hu hv hd hg hb hw hs hs', hu, cubic_u, consts _ _ ofBits_three,
    muls, muls, muls, muls, muls, adds, adds]
  refine (flat_real _).trans (congrArg (fun f => re (flat2 f)) ?_)
  funext r l
  unfold du geld
  ring

end tb

/-- The contraction of the mixing weights' gradient, over the sequences, the chunks and the lanes. -/
abbrev dotW := dot_S12x4x16x64x128_S4x16x128x12x64_S12x128x128_123_014_4_2_0_3

/-- Its indices, by sequence, chunk and lane. -/
def idxW (k : Fin 4 × Fin 16 × Fin 64) : dotW.contr.Idx := fun p =>
  match p with
  | ⟨0, _⟩ => (k.1 : Fin 4)
  | ⟨1, _⟩ => (k.2.1 : Fin 16)
  | ⟨2, _⟩ => (k.2.2 : Fin 64)

/-- The indices are the triples. -/
def equivW : Fin 4 × Fin 16 × Fin 64 ≃ dotW.contr.Idx where
  toFun := idxW
  invFun kk := (kk ⟨0, by decide⟩, kk ⟨1, by decide⟩, kk ⟨2, by decide⟩)
  left_inv _ := rfl
  right_inv kk := funext fun p =>
    match p with
    | ⟨0, _⟩ => rfl
    | ⟨1, _⟩ => rfl
    | ⟨2, _⟩ => rfl

theorem lhsW (g : Fin 12) (t s : Fin 128) (k : Fin 4 × Fin 16 × Fin 64) : dotW.lhsIdx (ix3 g t s) (idxW k) = ix5 g k.1 k.2.1 k.2.2 t :=
  funext fun p =>
    match p with
    | ⟨0, _⟩ => rfl
    | ⟨1, _⟩ => rfl
    | ⟨2, _⟩ => rfl
    | ⟨3, _⟩ => rfl
    | ⟨4, _⟩ => rfl

theorem rhsW (g : Fin 12) (t s : Fin 128) (k : Fin 4 × Fin 16 × Fin 64) : dotW.rhsIdx (ix3 g t s) (idxW k) = ix5 k.1 k.2.1 s g k.2.2 :=
  funext fun p =>
    match p with
    | ⟨0, _⟩ => rfl
    | ⟨1, _⟩ => rfl
    | ⟨2, _⟩ => rfl
    | ⟨3, _⟩ => rfl
    | ⟨4, _⟩ => rfl

theorem matW (x : S12x4x16x64x128.Idx → EReal) (y : S4x16x128x12x64.Idx → EReal) (acc : S12x128x128.Idx → EReal) (g : Fin 12) (t s : Fin 128) :
    Ideal.matmul dotW x y acc (ix3 g t s) = acc (ix3 g t s) + ∑ a : Fin 4, ∑ n : Fin 16, ∑ e : Fin 64, x (ix5 g a n e t) * y (ix5 a n s g e) := by
  unfold Ideal.matmul
  rw [← Equiv.sum_comp equivW]
  refine congrArg (acc (ix3 g t s) + ·) ?_
  simp only [Fintype.sum_prod_type]
  refine Finset.sum_congr rfl fun a _ => Finset.sum_congr rfl fun n _ => Finset.sum_congr rfl fun e _ => ?_
  exact congrArg₂ (fun i j => x i * y j) (lhsW g t s (a, n, e)) (rhsW g t s (a, n, e))

section tw
include hu hv hd hg hb

/-- The gradient of the mixing weights. -/
theorem dw_real : (mulf (Host.dotGeneral (φ₁ := .f32) (φ₂ := .f32) dot_S12x4x16x64x128_S4x16x128x12x64_S12x128x128_123_014_4_2_0_3 none (res_main_v98 (F := Ideal) V0) (res_main_v76 V0))
      (broadcastInDim S12x128x128 ![0, 1, 2] bcast_S1x128x128_S12x128x128_0_1_2 (res_main_v79 V0)) : FVec Ideal S12x128x128 .f32)
    = re fun i : S12x128x128.Idx => dw A (i 0) (i 1) (i 2) := by
  unfold res_main_v98
  rw [v93_real V0 A hu hd, v76_real V0 A hv hg hb, v79_real]
  funext i
  idx_vars i
  pointwise []
  rw [matW, zero_add]
  pointwise []
  show (∑ a : Fin 4, ∑ n : Fin 16, ∑ e : Fin 64, ((dmx A (at3 a n i1) (lane i0 e) : ℝ) : EReal) * ((vn A (at3 a n i2) (lane i0 e) : ℝ) : EReal))
    * (((if i2.val ≤ i1.val then 1 else 0 : ℝ)) : EReal) = ((dw A i0 i1 i2 : ℝ) : EReal)
  simp only [← EReal.coe_mul, coe_sum]
  refine congrArg (fun a : ℝ => (a : EReal)) ?_
  rw [mul_ite, mul_one, mul_zero]
  unfold dw
  refine if_congr Iff.rfl ?_ rfl
  rw [Fin.sum_univ_tiles 4 16 (by norm_num) fun n : Fin 64 => ∑ e : Fin 64, dmx A (rowOf n i1) (lane i0 e) * vn A (rowOf n i2) (lane i0 e)]
  have h (a : Fin 4) (n : Fin 16) (t : Fin 128) : at3 a n t = rowOf ⟨a.val * 16 + n.val, by omega⟩ t :=
    Fin.ext (by show 2048 * a.val + (128 * n.val + t.val) = 128 * (a.val * 16 + n.val) + t.val; omega)
  simp only [h]

end tw

section ts
include hu hd

omit hu hd in
/-- A host sum over the sequences, the chunks and the lanes. -/
theorem sum_axes014 {n0 n1 n4 : ℕ} (h : (⟨5, ![n0, n1, 128, 12, n4]⟩ : Shape).ReducesTo [0, 1, 4] S128x12)
    (x : (⟨5, ![n0, n1, 128, 12, n4]⟩ : Shape).Idx → EReal) (init : EReal) (t : Fin 128) (g : Fin 12) :
    Ideal.hostReduceAdd h x init (ix2 t g) = init + ∑ a : Fin n0, ∑ n : Fin n1, ∑ e : Fin n4, x (ix5 a n t g e) := by
  refine congrArg (init + ·) ((Finset.sum_filter_eq_sum_of_fiber _
    (fun k : Fin n0 × Fin n1 × Fin n4 => ix5 k.1 k.2.1 t g k.2.2)
    (fun _ _ e => Prod.ext (congrFun e 0) (Prod.ext (congrFun e 1) (congrFun e 4))) (fun i => ?_) x).trans ?_)
  · constructor
    · intro e
      refine ⟨(i 0, i 1, i 4), funext fun a => Fin.ext ?_⟩
      match a with
      | ⟨0, _⟩ => rfl
      | ⟨1, _⟩ => rfl
      | ⟨2, _⟩ => exact (congrArg Fin.val (congrFun e 0)).symm
      | ⟨3, _⟩ => exact (congrArg Fin.val (congrFun e 1)).symm
      | ⟨4, _⟩ => rfl
    · rintro ⟨k, rfl⟩
      refine funext fun b => Fin.ext ?_
      match b with
      | ⟨0, _⟩ => rfl
      | ⟨1, _⟩ => rfl
  · simp only [Fintype.sum_prod_type]

/-- The gradient of the mixing bias. -/
theorem ds_real : (pad S128x128 ![0, 0] ![0, 116] ![0, 0] (transpose S128x12 [1, 0] (transpose S12x128 [1, 0] (Host.reduceAdd (shapeCast S1x1x128x12x1
        (Host.reduceAdd (res_main_v93 (F := Ideal) V0) (constant S_ .f32 0x00000000#32) reducesTo_S4x16x128x12x64_S128x12_d0_1_4 h_S_ : FVec Ideal S128x12 .f32) shapeCasts_S128x12_S1x1x128x12x1)
        (constant S_ .f32 0x00000000#32) reducesTo_S1x1x128x12x1_S128x12_d0_1_4 h_S_ : FVec Ideal S128x12 .f32) transposes_S128x12_S12x128_1_0) transposes_S12x128_S128x12_1_0)
        (sitofp .f32 (constantI S_ 32 0#32)) pads_S128x12_S128x128_000_01160 h_S_ : FVec Ideal S128x128 .f32)
    = re fun i : S128x128.Idx => if h : (i 1).val < 12 then ds A ⟨(i 1).val, h⟩ (i 0) else 0 := by
  rw [v93_real V0 A hu hd]
  funext i
  idx_vars i
  pointwise []
  show _ = ((if h : i1.val < 12 then ds A ⟨i1.val, h⟩ i0 else 0 : ℝ) : EReal)
  by_cases h : i1.val < 12
  · rw [dif_pos h, dif_pos h]
    refine (sum_axes014 reducesTo_S1x1x128x12x1_S128x12_d0_1_4 _ _ _ _).trans ?_
    simp only [Finset.univ_unique, Finset.sum_singleton, zero_add]
    pointwise []
    refine (sum_axes014 reducesTo_S4x16x128x12x64_S128x12_d0_1_4 _ _ _ _).trans ?_
    rw [zero_add]
    show ∑ a : Fin 4, ∑ n : Fin 16, ∑ e : Fin 64, ((dmx A (at3 a n i0) (lane ⟨i1.val, h⟩ e) : ℝ) : EReal) = _
    simp only [coe_sum]
    exact congrArg (fun a : ℝ => (a : EReal)) (sum_chunks i0 fun r => ∑ e : Fin 64, dmx A r (lane ⟨i1.val, h⟩ e))
  · rw [dif_neg h, dif_neg h]
    show (((0#32 : BitVec 32).toInt : ℝ) : EReal) = ((0 : ℝ) : EReal)
    norm_num

end ts

theorem colSum_real (f : Fin 8192 → Fin 768 → ℝ) :
    (broadcastInDim S1x768 ![1] bcast_S768_S1x768_1 (Host.reduceAdd (shapeCast S1x1x768 (Host.reduceAdd (re (rows f) : Rows) (constant (F := Ideal) S_ .f32 0x00000000#32)
      reducesTo_S4x2048x768_S768_d0_1 h_S_ : FVec Ideal S768 .f32) shapeCasts_S768_S1x1x768) (constant (F := Ideal) S_ .f32 0x00000000#32) reducesTo_S1x1x768_S768_d0_1 h_S_ :
      FVec Ideal S768 .f32) : FVec Ideal S1x768 .f32) = re fun i : S1x768.Idx => ∑ r, f r (i 1) := by
  funext i
  idx_vars i
  refine (congrFun (congrArg _ rfl) _).trans ?_
  pointwise []
  refine (hostReduceAdd_axes01 reducesTo_S1x1x768_S768_d0_1 _ _ _).trans ?_
  simp only [Finset.univ_unique, Finset.sum_singleton, zero_add]
  pointwise []
  refine (hostReduceAdd_axes01 reducesTo_S4x2048x768_S768_d0_1 _ _ _).trans ?_
  rw [zero_add]
  show ∑ a : Fin 4, ∑ b : Fin 2048, ((f (at2 a b) i1 : ℝ) : EReal) = ((∑ r, f r i1 : ℝ) : EReal)
  simp only [coe_sum]
  refine congrArg (fun a : ℝ => (a : EReal)) ?_
  rw [Fin.sum_univ_tiles 4 2048 (by norm_num) fun r : Fin 8192 => f r i1]
  refine Finset.sum_congr rfl fun a _ => Finset.sum_congr rfl fun b _ => congrArg (fun r => f r i1) (Fin.ext ?_)
  show 2048 * a.val + b.val = a.val * 2048 + b.val
  omega

section tg
include hu hd hw

/-- The gradient of the shift. -/
theorem db_real : (broadcastInDim S1x768 ![1] bcast_S768_S1x768_1 (Host.reduceAdd (shapeCast S1x1x768 (Host.reduceAdd (res_main_v104 (F := Ideal) V0)
      (constant (F := Ideal) S_ .f32 0x00000000#32) reducesTo_S4x2048x768_S768_d0_1 h_S_ : FVec Ideal S768 .f32) shapeCasts_S768_S1x1x768)
      (constant (F := Ideal) S_ .f32 0x00000000#32) reducesTo_S1x1x768_S768_d0_1 h_S_ : FVec Ideal S768 .f32) : FVec Ideal S1x768 .f32)
    = re fun i : S1x768.Idx => db A (i 1) := by
  rw [v104_real V0 A hu hd hw, colSum_real]
  rfl

include hv

/-- The gradient of the scale. -/
theorem dg_real : (broadcastInDim S1x768 ![1] bcast_S768_S1x768_1 (Host.reduceAdd (shapeCast S1x1x768 (Host.reduceAdd
      (mulf (res_main_v69 (F := Ideal) V0) (res_main_v104 V0) : Rows)
      (constant (F := Ideal) S_ .f32 0x00000000#32) reducesTo_S4x2048x768_S768_d0_1 h_S_ : FVec Ideal S768 .f32) shapeCasts_S768_S1x1x768)
      (constant (F := Ideal) S_ .f32 0x00000000#32) reducesTo_S1x1x768_S768_d0_1 h_S_ : FVec Ideal S768 .f32) : FVec Ideal S1x768 .f32)
    = re fun i : S1x768.Idx => dg A (i 1) := by
  rw [v69_real V0 A hv, v104_real V0 A hu hd hw, muls, colSum_real]
  refine congrArg re (funext fun i => ?_)
  show _ = dg A (i 1)
  exact Finset.sum_congr rfl fun r _ => mul_comm _ _

end tg

end values

end Cert.SguGradIdeal.Ref

end
-- ==== Proof.SguClaim.lean ====
/- The spatial gate: the kernel computes the derivative of the forward lines. -/
module

public import proofs.«01_k».proof.Defs
public import proofs.«01_k».proof.Proof.Gen.Pre_sgu_finite
public import proofs.«01_k».proof.Proof.SguEntry
public import proofs.«01_k».proof.Proof.SguRef

@[expose] public section

set_option maxRecDepth 16384

noncomputable section

open Idealize.ShloMosaic Idealize.ShloMosaic.TcCoe Idealize.SL.Sem

namespace Cert.SguBwdIdeal.Pay

open Cert.SguBwdIdeal Cert.SguBwdIdeal.Gen

variable (m : (ℓ : Loc nD τ sig) → Buf (Elt Ideal) ℓ) (ρ : Dev nD → PrngReg)

/-- A run ends with the six gradients as the pipeline leaves them and with the arguments unchanged. -/
theorem run : θ_run defs (onTc (τ := τ) (main (F := Ideal))) ⟨m, fun _ => 0, ρ⟩ fun r => ∀ c : Dev nD,
    r.2.mem ((c : Thread nD τ).loc main_v7_0) = (dats m 0 c).arrAt 7 cfg0.N
    ∧ r.2.mem ((c : Thread nD τ).loc main_v7_1) = (dats m 0 c).arrAt 8 cfg0.N
    ∧ r.2.mem ((c : Thread nD τ).loc main_v7_2) = (dats m 0 c).arrAt 9 cfg0.N
    ∧ r.2.mem ((c : Thread nD τ).loc main_v7_3) = (dats m 0 c).arrAt 10 cfg0.N
    ∧ r.2.mem ((c : Thread nD τ).loc main_v7_4) = (dats m 0 c).arrAt 11 cfg0.N
    ∧ r.2.mem ((c : Thread nD τ).loc main_v7_5) = (dats m 0 c).arrAt 12 cfg0.N
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5) :=
  (θ_run defs _ _).mono (fun _ h c => ⟨(h.1 c).1 7, (h.1 c).1 8, (h.1 c).1 9, (h.1 c).1 10, (h.1 c).1 11, (h.1 c).1 12, h.2 c⟩)
    (θ_run_and (run_main m ρ) (unchanged m ρ))

end Cert.SguBwdIdeal.Pay

namespace Cert.SguProof

open Cert.RealLift Cert.SguMath

/-- Arrays the precondition holds of are arrays of real numbers. -/
theorem finite {x0 x1 x2 x3 x4 x5} (h : Cert.Pre_sgu_finite.fn (F := Ideal) x0 x1 x2 x3 x4 x5 = fun _ => 1#1) :
    (∃ y, x0 = re y) ∧ (∃ y, x1 = re y) ∧ (∃ y, x2 = re y) ∧ (∃ y, x3 = re y) ∧ (∃ y, x4 = re y) ∧ ∃ y, x5 = re y := by
  have h := congrFun h fun a => a.elim0
  unfold Cert.Pre_sgu_finite.fn Cert.Pre_sgu_finite.fn_part1 Cert.Pre_sgu_finite.fn_part2 at h
  dsimp only at h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨real_of_all ofBits_bot ofBits_top h0, real_of_all ofBits_bot ofBits_top h1, real_of_all ofBits_bot ofBits_top h2,
    real_of_all ofBits_bot ofBits_top h3, real_of_all ofBits_bot ofBits_top h4, real_of_all ofBits_bot ofBits_top h5⟩

section args

variable (x : (⟨3, ![4, 2048, 1792]⟩ : Shape).Idx → ℝ) (y : (⟨3, ![4, 2048, 1024]⟩ : Shape).Idx → ℝ) (g b : (⟨1, ![768]⟩ : Shape).Idx → ℝ)
  (w : (⟨3, ![12, 128, 128]⟩ : Shape).Idx → ℝ) (s : (⟨2, ![12, 128]⟩ : Shape).Idx → ℝ)

/-- What the gradients are computed from, from the programs' arguments. -/
abbrev args : Args := Cert.SguBwdIdeal.Pay.argsOf (fun i => x (ix3 (blockOf (i 0)) (placeOf (i 0)) (i 1)))
  (fun i => y (ix3 (blockOf (i 0)) (placeOf (i 0)) (i 1))) (fun i => g (ix1 (i 1))) (fun i => b (ix1 (i 1))) w (fun i => s (ix2 (grp (i 1)) (i 0)))

open Cert.SguGradIdeal Cert.SguGradIdeal.Value Cert.SguGradIdeal.Ref

theorem block_at (p : Fin 4) (q : Fin 2048) : blockOf (at2 p q) = p := Fin.ext (by show (2048 * p.val + q.val) / 2048 = p.val; omega)

theorem place_at (p : Fin 4) (q : Fin 2048) : placeOf (at2 p q) = q := Fin.ext (by show (2048 * p.val + q.val) % 2048 = q.val; omega)

variable (V0 : Valuation τ sig (Elt Ideal))

theorem u_real (h : V0 (Proc.devRef .tc main_arg0) = re x) : res_main_v0 (F := Ideal) V0 = re (rows (args x y g b w s).u) := by
  unfold res_main_v0
  rw [h]
  funext i
  idx_vars i
  pointwise []
  show ((x _ : ℝ) : EReal) = ((x (ix3 (blockOf (at2 i0 i1)) (placeOf (at2 i0 i1)) ⟨i2.val, _⟩) : ℝ) : EReal)
  rw [block_at, place_at]

theorem v_real (h : V0 (Proc.devRef .tc main_arg0) = re x) : res_main_v1 (F := Ideal) V0 = re (rows (args x y g b w s).v) := by
  unfold res_main_v1
  rw [h]
  funext i
  idx_vars i
  pointwise []
  show ((x _ : ℝ) : EReal) = ((x (ix3 (blockOf (at2 i0 i1)) (placeOf (at2 i0 i1)) ⟨768 + i2.val, _⟩) : ℝ) : EReal)
  rw [block_at, place_at]

theorem d_real (h : V0 (Proc.devRef .tc main_arg1) = re y) : res_main_v90 (F := Ideal) V0 = re (rows (args x y g b w s).d) := by
  unfold res_main_v90
  rw [h]
  funext i
  idx_vars i
  pointwise []
  show ((y _ : ℝ) : EReal) = ((y (ix3 (blockOf (at2 i0 i1)) (placeOf (at2 i0 i1)) ⟨i2.val, _⟩) : ℝ) : EReal)
  rw [block_at, place_at]

theorem line_real (z : S768.Idx → ℝ) (v : FVec Ideal S768 .f32) (h : v = re z) : v = re fun i : S768.Idx => z (ix1 (i 0)) := by
  rw [h]
  funext i
  idx_vars i
  rfl

theorem bias_real (v : FVec Ideal S12x128 .f32) (h : v = re s) : v = re fun i : S12x128.Idx => (args x y g b w s).s (i 1) (lane (i 0) 0) := by
  rw [h]
  funext i
  idx_vars i
  show ((s (ix2 i0 i1) : ℝ) : EReal) = ((s (ix2 (grp (lane i0 0)) i1) : ℝ) : EReal)
  rw [grp_lane]

theorem bias_lane (t : Fin 128) (l : Fin 768) : (args x y g b w s).s t l = (args x y g b w s).s t (lane (grp l) 0) := by
  show s (ix2 (grp l) t) = s (ix2 (grp (lane (grp l) 0)) t)
  rw [grp_lane]

end args

open Cert.SguBwdIdeal.Pay in
set_option maxHeartbeats 1600000 in
/-- The kernel and the derivative of the forward lines compute the same gradients of finite arrays. -/
theorem algebraic : Cert.algebraic_SguBwdIdeal_SguGradIdeal_pre_sgu_finite (hSguBwdIdeal := Cert.SguBwdIdeal.Gen.facts)
    (hSguGradIdeal := Cert.SguGradIdeal.Gen.facts) (hPre_sgu_finite := Cert.Pre_sgu_finite.Gen.facts) := by
  intro m ρ m' ρ' hpre hag
  refine ⟨fun c => (Cert.SguBwdIdeal.Gen.dats m 0 c).arrAt 7 Cert.SguBwdIdeal.cfg0.N, fun c => (Cert.SguBwdIdeal.Gen.dats m 0 c).arrAt 8 Cert.SguBwdIdeal.cfg0.N,
    fun c => (Cert.SguBwdIdeal.Gen.dats m 0 c).arrAt 9 Cert.SguBwdIdeal.cfg0.N, fun c => (Cert.SguBwdIdeal.Gen.dats m 0 c).arrAt 10 Cert.SguBwdIdeal.cfg0.N,
    fun c => (Cert.SguBwdIdeal.Gen.dats m 0 c).arrAt 11 Cert.SguBwdIdeal.cfg0.N, fun c => (Cert.SguBwdIdeal.Gen.dats m 0 c).arrAt 12 Cert.SguBwdIdeal.cfg0.N,
    Cert.SguBwdIdeal.Pay.run m ρ, θ_run_mono (Cert.SguGradIdeal.Value.run m' ρ') fun r h c => ?_⟩
  obtain ⟨⟨x, hx⟩, ⟨y, hy⟩, ⟨g, hg⟩, ⟨b, hb⟩, ⟨w, hw⟩, ⟨s, hs⟩⟩ := finite (hpre c)
  obtain ⟨a0, a1, a2, a3, a4, a5⟩ := hag c
  obtain ⟨h0, h1, h2, h3, h4, h5, hrest⟩ := h c
  rw [hx] at a0
  rw [hy] at a1
  rw [hg] at a2
  rw [hb] at a3
  rw [hw] at a4
  rw [hs] at a5
  have E0 := entry0 m c x hx
  have E1 := entry1 m c y hy
  have E2 := entry2 m c g hg
  have E3 := entry3 m c b hb
  have E4 := entryW m c w hw
  have E6 := entry6 m c s hs
  have U := u_real x y g b w s (StableHlo.launchContents m' c) a0
  have Vv := v_real x y g b w s (StableHlo.launchContents m' c) a0
  have D := d_real x y g b w s (StableHlo.launchContents m' c) a1
  have G : StableHlo.launchContents m' c (Proc.devRef .tc Cert.SguGradIdeal.main_arg2) = re fun i => (args x y g b w s).g (i 0) := line_real g _ a2
  have B : StableHlo.launchContents m' c (Proc.devRef .tc Cert.SguGradIdeal.main_arg3) = re fun i => (args x y g b w s).b (i 0) := line_real b _ a3
  have W : StableHlo.launchContents m' c (Proc.devRef .tc Cert.SguGradIdeal.main_arg4) = re (args x y g b w s).w := a4
  have S := bias_real x y g b w s (StableHlo.launchContents m' c (Proc.devRef .tc Cert.SguGradIdeal.main_arg5)) a5
  have L := bias_lane x y g b w s
  refine ⟨?_, ?_, ?_, ?_, ?_, ?_, hrest⟩
  · exact (h0.trans (Cert.SguGradIdeal.Ref.du_real (StableHlo.launchContents m' c) _ U Vv D G B W S L)).trans (final7 m c _ _ _ _ _ _ E0 E1 E2 E3 E4 E6).symm
  · exact (h1.trans (Cert.SguGradIdeal.Ref.dv_real (StableHlo.launchContents m' c) _ U Vv D G W)).trans (final8 m c _ _ _ _ _ _ E0 E1 E2 E3 E4 E6).symm
  · exact (h2.trans (Cert.SguGradIdeal.Ref.dw_real (StableHlo.launchContents m' c) _ U Vv D G B)).trans (final9 m c _ _ _ _ _ _ E0 E1 E2 E3 E4 E6).symm
  · exact (h3.trans (Cert.SguGradIdeal.Ref.ds_real (StableHlo.launchContents m' c) _ U D)).trans (final10 m c _ _ _ _ _ _ E0 E1 E2 E3 E4 E6).symm
  · exact (h4.trans (Cert.SguGradIdeal.Ref.dg_real (StableHlo.launchContents m' c) _ U Vv D W)).trans (final11 m c _ _ _ _ _ _ E0 E1 E2 E3 E4 E6).symm
  · exact (h5.trans (Cert.SguGradIdeal.Ref.db_real (StableHlo.launchContents m' c) _ U D W)).trans (final12 m c _ _ _ _ _ _ E0 E1 E2 E3 E4 E6).symm

end Cert.SguProof

end
-- ==== Proof.SguFwdPay.lean ====
/- The spatial gate's forward kernel, at real numbers. -/
module

public import proofs.«01_k».proof.Proof.Gen.SguFwdIdeal.Value
public import proofs.«01_k».proof.Proof.SguAsm

@[expose] public section

set_option maxRecDepth 16384

noncomputable section

open Idealize.ShloMosaic Idealize.ShloMosaic.TcCoe Idealize.SL.Sem
open Idealize.ShloMosaic.Pipeline (Dat)

namespace Cert.SguFwdIdeal.Pay

open Cert.SguFwdIdeal Cert.SguFwdIdeal.Gen Cert.RealLift Cert.LayerNorm Cert.SguMath
open Cert.SguBwdIdeal.Pay (Blk Tile wT bT vT mixP rT rW ga gb zeroT rowAt colAt)

/-- The activation as the kernel computes it. -/
def gelS (s : Shape) (x : FVec Ideal s .f32) : FVec Ideal s .f32 :=
  mulf (mulf (broadcast s (Scalar.ofBits .f32 0x3F000000#32 : Ideal .f32)) x)
    (addf (broadcast s (Scalar.ofBits .f32 0x3F800000#32 : Ideal .f32))
      (tanh (mulf (broadcast s (Scalar.ofBits .f32 0x3F4C422A#32 : Ideal .f32))
        (addf x (mulf (mulf (mulf (broadcast s (Named.named κ "cubic" 0x3D372713#32 : Ideal .f32)) x) x) x)))))

theorem cubic_real : Named.named (F := Ideal) κ "cubic" (φ := .f32) 0x3D372713#32 = ((8943 / 200000 : ℝ) : EReal) :=
  IdealRules.named_const.ideal_named_scalar κ "cubic" (φ := .f32) 0x3D372713#32 _ rfl

theorem gelS_real (s : Shape) (x : s.Idx → ℝ) : gelS s (re x) = re fun i => gel (x i) := by
  funext i
  show Ideal.ofBits .f32 0x3F000000#32 * (x i : EReal) * (Ideal.ofBits .f32 0x3F800000#32 + Ideal.tanh (Ideal.ofBits .f32 0x3F4C422A#32
    * ((x i : EReal) + Named.named (F := Ideal) κ "cubic" (φ := .f32) 0x3D372713#32 * (x i : EReal) * (x i : EReal) * (x i : EReal)))) = ((gel (x i) : ℝ) : EReal)
  rw [cubic_real, ofBits_outer, ofBits_half, ofBits_one]
  simp only [← EReal.coe_mul, ← EReal.coe_add, tanh_real]
  unfold gel th
  rw [mul_assoc (8943 / 200000 * x i) (x i) (x i)]

/-- The normalised rows, before rounding to their storage format. -/
def vnF (v : Vec Ideal S512x768 .f32) (g b : Vec Ideal S1x768 .f32) : Vec Ideal S512x768 .bf16 := k0_pay5 (k0_pay3 v g) (k0_pay4 b)

theorem vnF_real (v : S512x768.Idx → ℝ) (g b : S1x768.Idx → ℝ) :
    vnF (re v) (re g) (re b) = re fun i => xhat eps (fun l => gel (v (ix2 (i 0) l))) (i 1) * g (ix2 0 (i 1)) + b (ix2 0 (i 1)) := by
  have e : vnF (re v) (re g) (re b)
      = Cert.SguBwdIdeal.Gen.k0_pay40 (F := Ideal) (gelS S512x768 (shapeCast S512x768 (re v : Vec Ideal S512x768 .f32) shapeCasts_S512x768_S512x768)) (re g) (re b) := rfl
  rw [e, shapeCast_self, gelS_real]
  exact Cert.SguBwdIdeal.Pay.pay40_real _ _ _

/-- A tile of the normalised rows. -/
def vF (X : Vec Ideal S512x768 .bf16) (c : Fin 4) (j : Fin 6) : FVec Ideal S128x128 .bf16 :=
  (View.whole cc0_scratch0).readCov [⟨rW, X⟩] (rT c j).toLoadRect

theorem vF_eq (X : Vec Ideal S512x768 .bf16) (c : Fin 4) (j : Fin 6) : vF X c j = vT X c j := by
  unfold vF vT
  rw [View.readCov_eq_canon', View.readCov_eq_canon']
  rfl

/-- A tile of the mixed rows. -/
def mixF (W : Vec Ideal S12x128x128 .f32) (B : Vec Ideal S128x768 .f32) (X : Vec Ideal S512x768 .bf16) (j : Fin 6) (c : Fin 4) : Tile :=
  addf (select k0_pay2
    (matmul dot_S128x128_S128x128_S128x128_1_0_0_1_n_n none (wT W (ga j)) (vF X c j) (constant S128x128 .f32 0x00000000#32))
    (matmul dot_S128x128_S128x128_S128x128_1_0_0_1_n_n none (wT W (gb j)) (vF X c j) (constant S128x128 .f32 0x00000000#32)))
    (bT B j)

theorem mixF_eq (W : Vec Ideal S12x128x128 .f32) (B : Vec Ideal S128x768 .f32) (X : Vec Ideal S512x768 .bf16) (j : Fin 6) (c : Fin 4) :
    mixF W B X j c = mixP W B X j c := by
  unfold mixF
  rw [vF_eq]
  exact (shapeCast_self _ shapeCasts_S128x128_S128x128).symm

/-- A tile of the activated `u`. -/
def uF (U : Vec Ideal S512x768 .f32) (j : Fin 6) (c : Fin 4) : Tile :=
  gelS S128x128 (shapeCast S128x128 (View.ld U (rT c j)) shapeCasts_S128x128_S128x128)

theorem uF_real (u : S512x768.Idx → ℝ) (j : Fin 6) (c : Fin 4) :
    uF (re u) j c = re fun i => gel (u (ix2 (rowAt c (i 0)) (colAt j (i 1)))) := by
  have e : View.ld (Val := Elt Ideal) (e' := .f32) (re u) (rT c j) = re fun i : S128x128.Idx => u (ix2 (rowAt c (i 0)) (colAt j (i 1))) := by
    funext i
    exact congrArg (re u) (Cert.SguBwdIdeal.Pay.tile_idx c j i)
  exact (congrArg (gelS S128x128) ((shapeCast_self _ _).trans e)).trans (gelS_real S128x128 _)

/-- A tile of the output. -/
def outP (U : Vec Ideal S512x768 .f32) (W : Vec Ideal S12x128x128 .f32) (B : Vec Ideal S128x768 .f32) (X : Vec Ideal S512x768 .bf16)
    (j : Fin 6) (c : Fin 4) : FVec Ideal S128x128 .bf16 :=
  truncf .bf16 (mulf (uF U j c) (mixF W B X j c)) bitsLt_bf16_f32

/-- All tiles of the output, in the order they are stored. -/
def tilesF (P : Fin 6 → Fin 4 → FVec Ideal S128x128 .bf16) : List (View.Piece (Elt Ideal) S512x768 .bf16) :=
  Cert.SguBwdIdeal.Pay.tiles P

variable (m : (ℓ : Loc nD τ sig) → Buf (Elt Ideal) ℓ) (c : Dev nD)

/-- What a point stores. -/
theorem store6 (t : Fin cfg0.N) : outsAt0 m c t = View.canon (tilesF (outP (X0_0 m c t) (iblk m c 4 t) (iblk m c 5 t)
    (vnF (X0_1 m c t) (iblk m c 2 t) (iblk m c 3 t)))) := by
  unfold outsAt0
  frame_out
  rfl

/-- The output of a block. -/
theorem outP_real (u : S512x768.Idx → ℝ) (w : S12x128x128.Idx → ℝ) (s : S128x768.Idx → ℝ) (x : S512x768.Idx → ℝ) (y : S512x768.Idx) :
    View.canon (tilesF (outP (re u) (re w) (re s) (re x))) y = ((gel (u y) *
      (∑ q : Fin 128, tri w (grp (y 1)) ⟨(y 0).val % 128, by omega⟩ q * x (ix2 ⟨(y 0).val / 128 * 128 + q.val, by have : (y 0).val < 512 := (y 0).isLt; omega⟩ (y 1))
        + s (ix2 ⟨(y 0).val % 128, by omega⟩ (y 1))) : ℝ) : EReal) := by
  refine Cert.SguBwdIdeal.Pay.tiles_real _ (fun y : S512x768.Idx => gel (u y) *
      (∑ q : Fin 128, tri w (grp (y 1)) ⟨(y 0).val % 128, by omega⟩ q * x (ix2 ⟨(y 0).val / 128 * 128 + q.val, by have : (y 0).val < 512 := (y 0).isLt; omega⟩ (y 1))
        + s (ix2 ⟨(y 0).val % 128, by omega⟩ (y 1)))) (fun j k => ?_) y
  unfold outP
  rw [mixF_eq, Cert.SguBwdIdeal.Pay.mixP_real, uF_real]
  funext i
  idx_vars i
  have e0 : (⟨(128 * k.val + i0.val) % 128, by omega⟩ : Fin 128) = i0 := Fin.ext (by simp only; omega)
  have e1 (q : Fin 128) : (⟨(128 * k.val + i0.val) / 128 * 128 + q.val, by omega⟩ : Fin 512) = rowAt k q := Fin.ext (by simp only; omega)
  refine (EReal.coe_mul _ _).symm.trans (congrArg (fun a : ℝ => (a : EReal)) ?_)
  show _ = gel (u (ix2 (rowAt k i0) (colAt j i1))) * (∑ q : Fin 128, tri w (grp (colAt j i1)) ⟨(128 * k.val + i0.val) % 128, _⟩ q
    * x (ix2 ⟨(128 * k.val + i0.val) / 128 * 128 + q.val, _⟩ (colAt j i1)) + s (ix2 ⟨(128 * k.val + i0.val) % 128, _⟩ (colAt j i1)))
  simp only [e0, e1]
  rfl

end Cert.SguFwdIdeal.Pay

end
-- ==== Proof.SguFwdClaim.lean ====
/- The spatial gate's forward kernel computes the forward lines. -/
module

public import proofs.«01_k».proof.Defs
public import proofs.«01_k».proof.Proof.Gen.Pre_sgu_fwd_finite
public import proofs.«01_k».proof.Proof.Gen.SguFwdRefIdeal.Run
public import proofs.«01_k».proof.Proof.SguFwdPay
public import proofs.«01_k».proof.Proof.SguClaim

@[expose] public section

set_option maxRecDepth 16384

noncomputable section

open Idealize.ShloMosaic Idealize.ShloMosaic.TcCoe Idealize.SL.Sem
open Idealize.ShloMosaic.Pipeline (Dat)

namespace Cert.SguFwdIdeal.Pay

open Cert.SguFwdIdeal Cert.SguFwdIdeal.Gen Cert.RealLift Cert.LayerNorm Cert.SguMath
open Cert.SguBwdIdeal.Pay (gr argsOf spot_gr mate_gr)

variable (m : (ℓ : Loc nD τ sig) → Buf (Elt Ideal) ℓ) (c : Dev nD)

theorem idx : ∀ t : Fin cfg0.N, win0_0.index t = ![t.val, 0] ∧ win0_1.index t = ![t.val, 1] ∧ win0_2.index t = ![0, 0]
    ∧ win0_3.index t = ![0, 0] ∧ win0_4.index t = ![0, 0, 0] ∧ win0_5.index t = ![0, 0] ∧ win0_6.index t = ![t.val, 0] :=
  (by decide +kernel : ∀ t : Fin grid0.N, _)

theorem entry0 (x : S4x2048x1792.Idx → ℝ) (h : m ((c : Thread nD τ).loc main_arg0) = re x) :
    V m c main_v0 = re fun i : S8192x1792.Idx => x (ix3 (blockOf (i 0)) (placeOf (i 0)) (i 1)) := by
  entry_read
  funext i
  idx_vars i
  pointwise []
  exact congrFun h _

theorem entry1 (x : S768.Idx → ℝ) (h : m ((c : Thread nD τ).loc main_arg1) = re x) :
    V m c main_v1 = re fun i : S1x768.Idx => x (ix1 (i 1)) := by
  entry_read
  funext i
  idx_vars i
  pointwise []
  exact congrFun h _

theorem entry2 (x : S768.Idx → ℝ) (h : m ((c : Thread nD τ).loc main_arg2) = re x) :
    V m c main_v2 = re fun i : S1x768.Idx => x (ix1 (i 1)) := by
  entry_read
  funext i
  idx_vars i
  pointwise []
  exact congrFun h _

theorem entryW (x : S12x128x128.Idx → ℝ) (h : m ((c : Thread nD τ).loc main_arg3) = re x) : V m c main_arg3 = re x := by
  entry_read
  exact h

theorem entry5 (x : S12x128.Idx → ℝ) (h : m ((c : Thread nD τ).loc main_arg4) = re x) :
    V m c main_v5 = re fun i : S128x768.Idx => x (ix2 (grp (i 1)) (i 0)) := by
  entry_read
  funext i
  idx_vars i
  pointwise []
  exact congrFun h _

theorem blk0 (H : S8192x1792.Idx → ℝ) (h : V m c main_v0 = re H) (t : Fin cfg0.N) :
    (X0_0 m c t : Vec Ideal S512x768 .f32) = re fun j => H (ix2 (gr t (j 0)) ⟨(j 1).val, by have : (j 1).val < 768 := (j 1).isLt; omega⟩) := by
  funext j
  unfold X0_0 Pipeline.Window.fill
  rw [dif_pos (moved0_0 t j)]
  blk_simp [iblk]
  rw [show V m c (Pipeline.arrRef spec0 0) = _ from h]
  refine congrArg (re H) ?_
  blk_ext [idx t, gr]

theorem blk1 (H : S8192x1792.Idx → ℝ) (h : V m c main_v0 = re H) (t : Fin cfg0.N) :
    (X0_1 m c t : Vec Ideal S512x768 .f32) = re fun j => H (ix2 (gr t (j 0)) ⟨768 + (j 1).val, by have : (j 1).val < 768 := (j 1).isLt; omega⟩) := by
  funext j
  unfold X0_1 Pipeline.Window.fill
  rw [dif_pos (moved0_1 t j)]
  blk_simp [iblk]
  rw [show V m c (Pipeline.arrRef spec0 1) = _ from h]
  refine congrArg (re H) ?_
  blk_ext [idx t, gr]

theorem blk2 (G : S1x768.Idx → ℝ) (h : V m c main_v1 = re G) (t : Fin cfg0.N) : (iblk m c 2 t : Vec Ideal S1x768 .f32) = re G := by
  funext j
  blk_simp [iblk]
  rw [show V m c (Pipeline.arrRef spec0 2) = _ from h]
  refine congrArg (re G) ?_
  blk_ext [idx t]

theorem blk3 (B : S1x768.Idx → ℝ) (h : V m c main_v2 = re B) (t : Fin cfg0.N) : (iblk m c 3 t : Vec Ideal S1x768 .f32) = re B := by
  funext j
  blk_simp [iblk]
  rw [show V m c (Pipeline.arrRef spec0 3) = _ from h]
  refine congrArg (re B) ?_
  blk_ext [idx t]

theorem blk4 (W : S12x128x128.Idx → ℝ) (h : V m c main_arg3 = re W) (t : Fin cfg0.N) : (iblk m c 4 t : Vec Ideal S12x128x128 .f32) = re W := by
  funext j
  blk_simp [iblk]
  rw [show V m c (Pipeline.arrRef spec0 4) = _ from h]
  refine congrArg (re W) ?_
  blk_ext [idx t]

theorem blk5 (S : S128x768.Idx → ℝ) (h : V m c main_v5 = re S) (t : Fin cfg0.N) : (iblk m c 5 t : Vec Ideal S128x768 .f32) = re S := by
  funext j
  blk_simp [iblk]
  rw [show V m c (Pipeline.arrRef spec0 5) = _ from h]
  refine congrArg (re S) ?_
  blk_ext [idx t]

/-- The gated rows. -/
def gated (A : Args) (r : Fin 8192) (l : Fin 768) : ℝ := gel (A.u r l) * mix A r l

/-- The gated rows as the pipeline leaves them. -/
theorem final6 (H : S8192x1792.Idx → ℝ) (C : (⟨2, ![8192, 1024]⟩ : Shape).Idx → ℝ) (G B : S1x768.Idx → ℝ) (W : S12x128x128.Idx → ℝ) (S : S128x768.Idx → ℝ)
    (hH : V m c main_v0 = re H) (hG : V m c main_v1 = re G) (hB : V m c main_v2 = re B) (hW : V m c main_arg3 = re W) (hS : V m c main_v5 = re S) :
    (dats m 0 c).arrAt 6 cfg0.N = fun i : S8192x768.Idx => ((gated (argsOf H C G B W S) (i 0) (i 1) : ℝ) : EReal) := by
  refine (dats m 0 c).arrAt_eq_of_covers 6 _ (by decide +kernel) fun t hf y => ?_
  have e : ((cfg0.win 6).blk t).view.emb y = ix2 (gr t (y 0)) (y 1) := by blk_ext [idx t, gr]
  rw [e]
  blk_simp
  rw [after0_6, store6, blk0 m c H hH t, blk1 m c H hH t, blk2 m c G hG t, blk3 m c B hB t, blk4 m c W hW t, blk5 m c S hS t, vnF_real]
  refine (outP_real _ _ _ _ y).trans (congrArg (fun a : ℝ => (a : EReal)) ?_)
  idx_vars y
  show gel (H (ix2 (gr t y0) ⟨y1.val, _⟩)) * (∑ q : Fin 128, tri W (grp y1) ⟨y0.val % 128, _⟩ q * vn (argsOf H C G B W S) (gr t ⟨y0.val / 128 * 128 + q.val, _⟩) y1
      + S (ix2 ⟨y0.val % 128, _⟩ y1))
    = gel (H (ix2 (gr t y0) ⟨y1.val, _⟩)) * (∑ q : Fin 128, tri W (grp y1) (spot (gr t y0)) q * vn (argsOf H C G B W S) (mate (gr t y0) q) y1
      + S (ix2 (spot (gr t y0)) y1))
  simp only [spot_gr, mate_gr]

end Cert.SguFwdIdeal.Pay

namespace Cert.SguFwdProof

open Cert.RealLift Cert.SguMath

/-- Arrays the precondition holds of are arrays of real numbers. -/
theorem finite {x0 x1 x2 x3 x4} (h : Cert.Pre_sgu_fwd_finite.fn (F := Ideal) x0 x1 x2 x3 x4 = fun _ => 1#1) :
    (∃ y, x0 = re y) ∧ (∃ y, x1 = re y) ∧ (∃ y, x2 = re y) ∧ (∃ y, x3 = re y) ∧ ∃ y, x4 = re y := by
  have h := congrFun h fun a => a.elim0
  unfold Cert.Pre_sgu_fwd_finite.fn Cert.Pre_sgu_fwd_finite.fn_part1 at h
  dsimp only at h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨real_of_all ofBits_bot ofBits_top h0, real_of_all ofBits_bot ofBits_top h1, real_of_all ofBits_bot ofBits_top h2,
    real_of_all ofBits_bot ofBits_top h3, real_of_all ofBits_bot ofBits_top h4⟩

open Classical in
/-- The arguments of the forward lines, as arguments of the lines their derivative was taken of. -/
theorem valuation (x : FVec Ideal Cert.SguGradIdeal.S4x2048x1792 .f32) (g b : FVec Ideal Cert.SguGradIdeal.S768 .f32)
    (w : FVec Ideal Cert.SguGradIdeal.S12x128x128 .f32) (s : FVec Ideal Cert.SguGradIdeal.S12x128 .f32) :
    ∃ V0 : Valuation Cert.SguGradIdeal.τ Cert.SguGradIdeal.sig (Elt Ideal), V0 (Proc.devRef .tc Cert.SguGradIdeal.main_arg0) = x
      ∧ V0 (Proc.devRef .tc Cert.SguGradIdeal.main_arg2) = g ∧ V0 (Proc.devRef .tc Cert.SguGradIdeal.main_arg3) = b
      ∧ V0 (Proc.devRef .tc Cert.SguGradIdeal.main_arg4) = w ∧ V0 (Proc.devRef .tc Cert.SguGradIdeal.main_arg5) = s := by
  refine ⟨Function.update (Function.update (Function.update (Function.update (Function.update (fun _ _ => Classical.choice inferInstance)
    (Proc.devRef .tc Cert.SguGradIdeal.main_arg0) x) (Proc.devRef .tc Cert.SguGradIdeal.main_arg2) g) (Proc.devRef .tc Cert.SguGradIdeal.main_arg3) b)
    (Proc.devRef .tc Cert.SguGradIdeal.main_arg4) w) (Proc.devRef .tc Cert.SguGradIdeal.main_arg5) s, ?_, ?_, ?_, ?_, Function.update_self ..⟩
  · rw [Function.update_of_ne (by decide), Function.update_of_ne (by decide), Function.update_of_ne (by decide), Function.update_of_ne (by decide), Function.update_self]
  · rw [Function.update_of_ne (by decide), Function.update_of_ne (by decide), Function.update_of_ne (by decide), Function.update_self]
  · rw [Function.update_of_ne (by decide), Function.update_of_ne (by decide), Function.update_self]
  · rw [Function.update_of_ne (by decide), Function.update_self]

section reference

open Cert.SguGradIdeal Cert.SguGradIdeal.Gen Cert.SguGradIdeal.Value Cert.SguGradIdeal.Ref

variable (m : (ℓ : Loc Cert.SguFwdRefIdeal.nD Cert.SguFwdRefIdeal.τ Cert.SguFwdRefIdeal.sig) → Buf (Elt Ideal) ℓ) (c : Dev Cert.SguFwdRefIdeal.nD)
  (V0 : Valuation τ sig (Elt Ideal))

/-- The forward lines' result is the product that the derivative's lines take of the activated `u` and the mixed rows. -/
theorem result (h0 : V0 (Proc.devRef .tc main_arg0) = m ((c.tc : Thread Cert.SguFwdRefIdeal.nD Cert.SguFwdRefIdeal.τ).loc Cert.SguFwdRefIdeal.main_arg0))
    (h1 : V0 (Proc.devRef .tc main_arg2) = m ((c.tc : Thread Cert.SguFwdRefIdeal.nD Cert.SguFwdRefIdeal.τ).loc Cert.SguFwdRefIdeal.main_arg1))
    (h2 : V0 (Proc.devRef .tc main_arg3) = m ((c.tc : Thread Cert.SguFwdRefIdeal.nD Cert.SguFwdRefIdeal.τ).loc Cert.SguFwdRefIdeal.main_arg2))
    (h3 : V0 (Proc.devRef .tc main_arg4) = m ((c.tc : Thread Cert.SguFwdRefIdeal.nD Cert.SguFwdRefIdeal.τ).loc Cert.SguFwdRefIdeal.main_arg3))
    (h4 : V0 (Proc.devRef .tc main_arg5) = m ((c.tc : Thread Cert.SguFwdRefIdeal.nD Cert.SguFwdRefIdeal.τ).loc Cert.SguFwdRefIdeal.main_arg4)) :
    Cert.SguFwdRefIdeal.Value.res_main_v70 (F := Ideal) m c
      = (shapeCast S8192x768 (truncf .bf16 (mulf (res_main_v24 V0 : Rows) (res_main_v88 V0 : Rows)) bitsLt_bf16_f32) shapeCasts_S4x2048x768_S8192x768 : FVec Ideal S8192x768 .bf16) := by
  unfold Cert.SguFwdRefIdeal.Value.res_main_v70
  rw [← h0, ← h1, ← h2, ← h3, ← h4]
  unfold res_main_v24 res_main_v88 res_main_v23 res_main_v14 res_main_v76 res_main_v81 res_main_v69 res_main_v79 res_main_v64 res_main_v63
    res_main_v61 res_main_v52 res_main_v50 res_main_v46 res_main_v45 res_main_v36 res_main_v25 res_main_v3 res_main_v1 res_main_v0 res_main_v70
  rfl

end reference

open Cert.SguFwdIdeal.Pay Cert.SguProof in
set_option maxHeartbeats 1600000 in
/-- The kernel and the forward lines compute the same outputs of finite arrays. -/
theorem algebraic : Cert.algebraic_SguFwdIdeal_SguFwdRefIdeal_pre_sgu_fwd_finite (hSguFwdIdeal := Cert.SguFwdIdeal.Gen.facts)
    (hSguFwdRefIdeal := Cert.SguFwdRefIdeal.Gen.facts) (hPre_sgu_fwd_finite := Cert.Pre_sgu_fwd_finite.Gen.facts) := by
  intro m ρ m' ρ' hpre hag
  refine ⟨fun c => (Cert.SguFwdIdeal.Gen.dats m 0 c).arrAt 6 Cert.SguFwdIdeal.cfg0.N,
    Cert.SguFwdIdeal.Value.run_blocks m ρ, θ_run_mono (Cert.SguFwdRefIdeal.Value.run m' ρ') fun r h c => ?_⟩
  obtain ⟨⟨x, hx⟩, ⟨g, hg⟩, ⟨b, hb⟩, ⟨w, hw⟩, ⟨s, hs⟩⟩ := Cert.SguFwdProof.finite (hpre c)
  obtain ⟨a0, a1, a2, a3, a4⟩ := hag c
  obtain ⟨h0, hrest⟩ := h c
  rw [hx] at a0
  rw [hg] at a1
  rw [hb] at a2
  rw [hw] at a3
  rw [hs] at a4
  obtain ⟨V0, v0, v1, v2, v3, v4⟩ := valuation (re x) (re g) (re b) (re w) (re s)
  have U := u_real x (fun _ => 0) g b w s V0 v0
  have Vv := v_real x (fun _ => 0) g b w s V0 v0
  have G := line_real g _ v1
  have B := line_real b _ v2
  have S := bias_real x (fun _ => 0) g b w s (V0 (Proc.devRef .tc Cert.SguGradIdeal.main_arg5)) v4
  have L := bias_lane x (fun _ => 0) g b w s
  refine ⟨?_, hrest⟩
  refine (h0.trans (result m' c V0 (v0.trans a0.symm) (v1.trans a1.symm) (v2.trans a2.symm) (v3.trans a3.symm) (v4.trans a4.symm))).trans ?_
  rw [Cert.SguGradIdeal.Ref.v24_real V0 _ U, Cert.SguGradIdeal.Ref.v88_real V0 _ Vv G B v3 S L, Cert.SguGradIdeal.Ref.muls]
  exact (Cert.SguGradIdeal.Ref.flat_real _).trans (final6 m c _ (fun _ => 0) _ _ _ _ (entry0 m c x hx) (entry1 m c g hg) (entry2 m c b hb)
    (entryW m c w hw) (entry5 m c s hs)).symm

end Cert.SguFwdProof

end
-- ==== Proof.GateRun.lean ====
/- The run of the two calls of the gated feed-forward layer's backward pass: what its two result arrays end as. -/
module

public import proofs.«01_k».proof.Proof.Gen.GateBwdIdeal.Frame

@[expose] public section

set_option maxRecDepth 16384

noncomputable section

namespace Cert.GateBwdIdeal.Pay

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.GateBwdIdeal Cert.GateBwdIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every execution ends, the two results are what the second call's write-backs leave, and the arguments are as they were. -/
theorem run : θ_run defs (onTc (τ := τ) (main (F := F))) ⟨m, fun _ => 0, ρ⟩ (fun r => ∀ c : Dev nD,
      r.2.mem ((c.tc : Thread nD τ).loc main_v10_0) = (dat1 (V3 m ρ) c).arrAt 4 cfg1.N
      ∧ r.2.mem ((c.tc : Thread nD τ).loc main_v10_1) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h _ c =>
      ⟨(h c _ (mem_uc main_v10_0 (by decide))).trans (W4_arr m ρ c 4),
       (h c _ (mem_uc main_v10_1 (by decide))).trans (W4_arr m ρ c 5),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.GateBwdIdeal.Pay

end
-- ==== Proof.GateMath.lean ====
/- The gated feed-forward layer's gate and the gradients through it, at real numbers. -/
module

public import proofs.«01_k».proof.Proof.RealLift

@[expose] public section

set_option maxRecDepth 16384

noncomputable section

open Idealize.ShloMosaic

namespace Cert.GateMath

open Cert.RealLift

/-- The logistic function. -/
def lgs (a : ℝ) : ℝ := 1 / (1 + Real.exp (-a))

theorem one_add_exp_ne (a : ℝ) : 1 + Real.exp (-a) ≠ 0 := (add_pos one_pos (Real.exp_pos _)).ne'

/-- The pattern of `1`. -/
theorem ofBits_1 : Ideal.ofBits .f32 0x3F800000#32 = ((1 : ℝ) : EReal) := by
  simp [Ideal.ofBits, Ideal.ieee, -EReal.coe_mul]
  norm_num

/-- The quotient by which the reference writes the logistic function. -/
theorem lgs_ref (a : ℝ) : Ideal.div 1 (1 + Ideal.exp (-(a : EReal))) = ((lgs a : ℝ) : EReal) := by
  rw [← EReal.coe_neg, Ideal.exp_coe, ← EReal.coe_one, ← EReal.coe_add]
  exact div_real 1 (one_add_exp_ne a)

/-- The quotient by which the kernel writes it. -/
theorem lgs_kernel (a : ℝ) : Ideal.div 1 (1 + Ideal.exp (0 - (a : EReal))) = ((lgs a : ℝ) : EReal) := by
  rw [zero_sub, lgs_ref]

/-- The derivative of `a · lgs a`. -/
def dsilu (a : ℝ) : ℝ := lgs a + a * lgs a * (1 - lgs a)

variable (x dz : (⟨3, ![4, 2048, 1024]⟩ : Shape).Idx → ℝ) (wg wu : (⟨2, ![1024, 2816]⟩ : Shape).Idx → ℝ)
  (wd : (⟨2, ![2816, 1024]⟩ : Shape).Idx → ℝ)

/-- A hidden column of a row: the row times a column of the weights. -/
def pre (w : (⟨2, ![1024, 2816]⟩ : Shape).Idx → ℝ) (a : Fin 4) (b : Fin 2048) (f : Fin 2816) : ℝ := ∑ k : Fin 1024, x (ix3 a b k) * w (ix2 k f)

/-- The gradient of the gated product. -/
def dh (a : Fin 4) (b : Fin 2048) (f : Fin 2816) : ℝ := ∑ k : Fin 1024, dz (ix3 a b k) * wd (ix2 f k)

/-- The gradient of the gate's hidden column. -/
def da (a : Fin 4) (b : Fin 2048) (f : Fin 2816) : ℝ := dh dz wd a b f * (pre x wu a b f * dsilu (pre x wg a b f))

/-- The gradient of the other hidden column. -/
def db (a : Fin 4) (b : Fin 2048) (f : Fin 2816) : ℝ := dh dz wd a b f * (pre x wg a b f * lgs (pre x wg a b f))

end Cert.GateMath

end
-- ==== Proof.GatePay.lean ====
/- What the two calls of the gated feed-forward layer's backward pass compute in one block, at real numbers. -/
module

public import proofs.«01_k».proof.Proof.Gen.GateBwdIdeal.Skeleton
public import proofs.«01_k».proof.Proof.GateMath

@[expose] public section

set_option maxRecDepth 16384

noncomputable section

open Idealize.ShloMosaic Idealize.ShloMosaic.TcCoe Idealize.SL.Sem

namespace Cert.GateBwdIdeal.Pay

open Cert.GateBwdIdeal Cert.GateBwdIdeal.Gen Cert.RealLift Cert.GateMath

variable (x : S512x1024.Idx → ℝ) (w w' : S1408x1024.Idx → ℝ)

/-- A block of rows times a block of weights. -/
def mm (i : S512x1408.Idx) : ℝ := ∑ k : Fin 1024, x (ix2 (i 0) k) * w (ix2 (i 1) k)

theorem pay2_real : k0_pay2 (F := Ideal) (re x) (re w) = re (mm x w) := by
  funext i
  idx_vars i
  pointwise [k0_pay2, k0_pay1]
  simp only [← EReal.coe_mul, coe_sum]
  rfl

theorem pay3_real : k0_pay3 (F := Ideal) (re x) (re w) = re (mm x w) := pay2_real x w

theorem pay4_real : k0_pay4 (F := Ideal) (re x) (re w) = re fun i => lgs (mm x w i) := by
  funext i
  unfold k0_pay4
  rw [pay2_real]
  pointwise []
  exact lgs_kernel (mm x w i)

theorem pay5_real : k0_pay5 (F := Ideal) (re x) (re w) = re fun i => mm x w i * lgs (mm x w i) := by
  funext i
  unfold k0_pay5
  rw [pay2_real, pay4_real]
  pointwise []
  rw [← EReal.coe_mul]

/-- The factor that the gate's gradient is multiplied by. -/
theorem pay6_real : k0_pay6 (F := Ideal) (re x) (re w) (re w') = re fun i => mm x w' i * dsilu (mm x w i) := by
  funext i
  unfold k0_pay6
  rw [pay3_real, pay4_real, pay5_real]
  pointwise []
  simp only [ofBits_1, re, ← EReal.coe_one, ← EReal.coe_sub, ← EReal.coe_mul, ← EReal.coe_add, dsilu]

/-- The factor that the other half's gradient is multiplied by. -/
theorem pay7_real : k0_pay7 (F := Ideal) (re x) (re w) = re fun i => mm x w i * lgs (mm x w i) := by
  funext i
  unfold k0_pay7
  rw [pay5_real]
  pointwise []

theorem pay1_real' : k1_pay1 (F := Ideal) (re x) (re w) = re (mm x w) := pay2_real x w

/-- The gradient's block times the saved factor. -/
theorem pay2_real' (g : S512x1408.Idx → ℝ) : k1_pay2 (F := Ideal) (re x) (re w) (re g) = re fun i => mm x w i * g i := by
  funext i
  unfold k1_pay2
  rw [pay1_real']
  pointwise []
  rw [← EReal.coe_mul]

theorem pay3_real' (g : S512x1408.Idx → ℝ) : k1_pay3 (F := Ideal) (re x) (re w) (re g) = re fun i => mm x w i * g i := pay2_real' x w g

end Cert.GateBwdIdeal.Pay

end
-- ==== Proof.GateFinal.lean ====
/- The arrays the two calls of the gated feed-forward layer's backward pass leave, at real numbers. -/
module

public import proofs.«01_k».proof.Proof.Gen.GateBwdIdeal.Frame
public import Idealize.ShloMosaic.Lib.Pipeline.ValueKit
public import Idealize.ShloMosaic.Lib.Claim
public import proofs.«01_k».proof.Proof.GatePay

@[expose] public section

set_option maxRecDepth 16384

noncomputable section

open Idealize.ShloMosaic Idealize.ShloMosaic.TcCoe Idealize.SL.Sem
open Idealize.ShloMosaic.Pipeline (Dat)

namespace Cert.GateBwdIdeal.Pay

open Cert.GateBwdIdeal Cert.GateBwdIdeal.Gen Cert.RealLift Cert.GateMath

section First

variable (V : (c : Dev nD) → (b : Ref sig .tc) → Buf (Elt Ideal) ((c : Thread nD τ).loc b)) (c : Dev nD)

theorem idxA : ∀ t : Fin cfg0.N, win0_0.index t = ![t.val % 16, 0] ∧ win0_1.index t = ![t.val / 16, 0] ∧ win0_2.index t = ![t.val / 16, 0]
    ∧ win0_3.index t = ![t.val % 16, t.val / 16] ∧ win0_4.index t = ![t.val % 16, t.val / 16] :=
  (by decide +kernel : ∀ t : Fin grid0.N, _)

/-- Row `r` of point `t`'s block of rows. -/
def rowA (t : Fin cfg0.N) (r : Fin 512) : Fin 8192 := ⟨t.val % 16 * 512 + r.val, by omega⟩

/-- Column `f` of point `t`'s block of hidden columns. -/
def colA (t : Fin cfg0.N) (f : Fin 1408) : Fin 2816 := ⟨t.val / 16 * 1408 + f.val, by have := t.isLt; have h : cfg0.N = 32 := N_0; omega⟩

theorem iblkA0 (A : S8192x1024.Idx → ℝ) (h : V c main_v5 = fun i => ((A i : ℝ) : EReal)) (t : Fin cfg0.N) :
    (iblk0 V c 0 t : Vec Ideal S512x1024 .bf16) = re fun j => A (ix2 (rowA t (j 0)) (j 1)) := by
  funext j
  blk_simp [iblk0]
  rw [show V c (Pipeline.arrRef spec0 0) = _ from h]
  refine congrArg (fun i => ((A i : ℝ) : EReal)) ?_
  blk_ext [idxA t, rowA]

theorem iblkA1 (A : S2816x1024.Idx → ℝ) (h : V c main_v1 = fun i => ((A i : ℝ) : EReal)) (t : Fin cfg0.N) :
    (iblk0 V c 1 t : Vec Ideal S1408x1024 .bf16) = re fun j => A (ix2 (colA t (j 0)) (j 1)) := by
  funext j
  blk_simp [iblk0]
  rw [show V c (Pipeline.arrRef spec0 1) = _ from h]
  refine congrArg (fun i => ((A i : ℝ) : EReal)) ?_
  blk_ext [idxA t, colA]

theorem iblkA2 (A : S2816x1024.Idx → ℝ) (h : V c main_v3 = fun i => ((A i : ℝ) : EReal)) (t : Fin cfg0.N) :
    (iblk0 V c 2 t : Vec Ideal S1408x1024 .bf16) = re fun j => A (ix2 (colA t (j 0)) (j 1)) := by
  funext j
  blk_simp [iblk0]
  rw [show V c (Pipeline.arrRef spec0 2) = _ from h]
  refine congrArg (fun i => ((A i : ℝ) : EReal)) ?_
  blk_ext [idxA t, colA]

/-- All rows times all the hidden columns' weights. -/
def big (X : S8192x1024.Idx → ℝ) (W : S2816x1024.Idx → ℝ) (r : Fin 8192) (f : Fin 2816) : ℝ := ∑ k : Fin 1024, X (ix2 r k) * W (ix2 f k)

variable (X : S8192x1024.Idx → ℝ) (G U : S2816x1024.Idx → ℝ) (hX : V c main_v5 = fun i => ((X i : ℝ) : EReal))
  (hG : V c main_v1 = fun i => ((G i : ℝ) : EReal)) (hU : V c main_v3 = fun i => ((U i : ℝ) : EReal))
include hX hG hU

/-- The first saved factor. -/
theorem finalA3 : (dat0 V c).arrAt 3 cfg0.N
    = fun i : S8192x2816.Idx => ((big X U (i 0) (i 1) * dsilu (big X G (i 0) (i 1)) : ℝ) : EReal) := by
  refine (dat0 V c).arrAt_eq_of_covers 3 _ (by decide +kernel) fun t hf y => ?_
  have e : ((cfg0.win 3).blk t).view.emb y = ix2 (rowA t (y 0)) (colA t (y 1)) := by blk_ext [idxA t, rowA, colA]
  rw [e]
  blk_simp
  rw [after0_3]
  unfold out0_3
  frame_out
  rw [iblkA0 V c X hX t, iblkA1 V c G hG t, iblkA2 V c U hU t]
  exact congrFun (pay6_real _ _ _) y

/-- The second saved factor. -/
theorem finalA4 : (dat0 V c).arrAt 4 cfg0.N
    = fun i : S8192x2816.Idx => ((big X G (i 0) (i 1) * lgs (big X G (i 0) (i 1)) : ℝ) : EReal) := by
  refine (dat0 V c).arrAt_eq_of_covers 4 _ (by decide +kernel) fun t hf y => ?_
  have e : ((cfg0.win 4).blk t).view.emb y = ix2 (rowA t (y 0)) (colA t (y 1)) := by blk_ext [idxA t, rowA, colA]
  rw [e]
  blk_simp
  rw [after0_4]
  unfold out0_4
  frame_out
  rw [iblkA0 V c X hX t, iblkA1 V c G hG t]
  exact congrFun (pay7_real _ _) y

end First

section Second

variable (V : (c : Dev nD) → (b : Ref sig .tc) → Buf (Elt Ideal) ((c : Thread nD τ).loc b)) (c : Dev nD)

theorem idxB : ∀ t : Fin cfg1.N, win1_0.index t = ![t.val % 16, 0] ∧ win1_1.index t = ![t.val / 16, 0] ∧ win1_2.index t = ![t.val % 16, t.val / 16]
    ∧ win1_3.index t = ![t.val % 16, t.val / 16] ∧ win1_4.index t = ![t.val % 16, t.val / 16] ∧ win1_5.index t = ![t.val % 16, t.val / 16] :=
  (by decide +kernel : ∀ t : Fin grid1.N, _)

/-- Row `r` of point `t`'s block of rows. -/
def rowB (t : Fin cfg1.N) (r : Fin 512) : Fin 8192 := ⟨t.val % 16 * 512 + r.val, by omega⟩

/-- Column `f` of point `t`'s block of hidden columns. -/
def colB (t : Fin cfg1.N) (f : Fin 1408) : Fin 2816 := ⟨t.val / 16 * 1408 + f.val, by have := t.isLt; have h : cfg1.N = 32 := N_1; omega⟩

theorem iblkB0 (A : S8192x1024.Idx → ℝ) (h : V c main_v8 = fun i => ((A i : ℝ) : EReal)) (t : Fin cfg1.N) :
    (iblk1 V c 0 t : Vec Ideal S512x1024 .bf16) = re fun j => A (ix2 (rowB t (j 0)) (j 1)) := by
  funext j
  blk_simp [iblk1]
  rw [show V c (Pipeline.arrRef spec1 0) = _ from h]
  refine congrArg (fun i => ((A i : ℝ) : EReal)) ?_
  blk_ext [idxB t, rowB]

theorem iblkB1 (A : S2816x1024.Idx → ℝ) (h : V c main_v9 = fun i => ((A i : ℝ) : EReal)) (t : Fin cfg1.N) :
    (iblk1 V c 1 t : Vec Ideal S1408x1024 .bf16) = re fun j => A (ix2 (colB t (j 0)) (j 1)) := by
  funext j
  blk_simp [iblk1]
  rw [show V c (Pipeline.arrRef spec1 1) = _ from h]
  refine congrArg (fun i => ((A i : ℝ) : EReal)) ?_
  blk_ext [idxB t, colB]

theorem iblkB2 (A : S8192x2816.Idx → ℝ) (h : V c main_v6_0 = fun i => ((A i : ℝ) : EReal)) (t : Fin cfg1.N) :
    (iblk1 V c 2 t : Vec Ideal S512x1408 .bf16) = re fun j => A (ix2 (rowB t (j 0)) (colB t (j 1))) := by
  funext j
  blk_simp [iblk1]
  rw [show V c (Pipeline.arrRef spec1 2) = _ from h]
  refine congrArg (fun i => ((A i : ℝ) : EReal)) ?_
  blk_ext [idxB t, rowB, colB]

theorem iblkB3 (A : S8192x2816.Idx → ℝ) (h : V c main_v6_1 = fun i => ((A i : ℝ) : EReal)) (t : Fin cfg1.N) :
    (iblk1 V c 3 t : Vec Ideal S512x1408 .bf16) = re fun j => A (ix2 (rowB t (j 0)) (colB t (j 1))) := by
  funext j
  blk_simp [iblk1]
  rw [show V c (Pipeline.arrRef spec1 3) = _ from h]
  refine congrArg (fun i => ((A i : ℝ) : EReal)) ?_
  blk_ext [idxB t, rowB, colB]

variable (D : S8192x1024.Idx → ℝ) (W : S2816x1024.Idx → ℝ) (A : S8192x2816.Idx → ℝ) (hD : V c main_v8 = fun i => ((D i : ℝ) : EReal))
  (hW : V c main_v9 = fun i => ((W i : ℝ) : EReal))
include hD hW

/-- The gradient of the gate's hidden columns. -/
theorem finalB4 (hA : V c main_v6_0 = fun i => ((A i : ℝ) : EReal)) : (dat1 V c).arrAt 4 cfg1.N
    = fun i : S8192x2816.Idx => ((big D W (i 0) (i 1) * A (ix2 (i 0) (i 1)) : ℝ) : EReal) := by
  refine (dat1 V c).arrAt_eq_of_covers 4 _ (by decide +kernel) fun t hf y => ?_
  have e : ((cfg1.win 4).blk t).view.emb y = ix2 (rowB t (y 0)) (colB t (y 1)) := by blk_ext [idxB t, rowB, colB]
  rw [e]
  blk_simp
  rw [after1_4]
  unfold out1_4
  frame_out
  rw [iblkB0 V c D hD t, iblkB1 V c W hW t, iblkB2 V c A hA t]
  exact congrFun (pay2_real' _ _ _) y

/-- The gradient of the other hidden columns. -/
theorem finalB5 (hA : V c main_v6_1 = fun i => ((A i : ℝ) : EReal)) : (dat1 V c).arrAt 5 cfg1.N
    = fun i : S8192x2816.Idx => ((big D W (i 0) (i 1) * A (ix2 (i 0) (i 1)) : ℝ) : EReal) := by
  refine (dat1 V c).arrAt_eq_of_covers 5 _ (by decide +kernel) fun t hf y => ?_
  have e : ((cfg1.win 5).blk t).view.emb y = ix2 (rowB t (y 0)) (colB t (y 1)) := by blk_ext [idxB t, rowB, colB]
  rw [e]
  blk_simp
  rw [after1_5]
  unfold out1_5
  frame_out
  rw [iblkB0 V c D hD t, iblkB1 V c W hW t, iblkB3 V c A hA t]
  exact congrFun (pay3_real' _ _ _) y

end Second

end Cert.GateBwdIdeal.Pay

end
-- ==== Proof.GateEntry.lean ====
/- The arrays the two calls of the gated feed-forward layer's backward pass are given, and their results from the arguments. -/
module

public import proofs.«01_k».proof.Proof.GateFinal

@[expose] public section

set_option maxRecDepth 16384

noncomputable section

open Idealize.ShloMosaic Idealize.ShloMosaic.TcCoe Idealize.SL.Sem
open Idealize.ShloMosaic.Pipeline (Dat)

namespace Cert.GateBwdIdeal.Pay

open Cert.GateBwdIdeal Cert.GateBwdIdeal.Gen Cert.RealLift Cert.GateMath

variable (m : (ℓ : Loc nD τ sig) → Buf (Elt Ideal) ℓ) (ρ : Dev nD → PrngReg) (c : Dev nD)

/-- The layer's rows. -/
theorem in5 (x : S4x2048x1024.Idx → ℝ) (h : m ((c : Thread nD τ).loc main_arg0) = re x) : V1 m ρ c main_v5 = re (flat x) := by
  show StableHlo.after (hostOps0 (F := Ideal)) (W0 m ρ c) (Proc.devRef .tc main_v5) = _
  entry_read
  funext i
  idx_vars i
  pointwise []
  exact congrFun h _

/-- The gate's weights, transposed. -/
theorem in1 (w : S1024x2816.Idx → ℝ) (h : m ((c : Thread nD τ).loc main_arg1) = re w) :
    V1 m ρ c main_v1 = fun i : S2816x1024.Idx => ((w (ix2 (i 1) (i 0)) : ℝ) : EReal) := by
  show StableHlo.after (hostOps0 (F := Ideal)) (W0 m ρ c) (Proc.devRef .tc main_v1) = _
  entry_read
  funext i
  idx_vars i
  pointwise []
  exact congrFun h _

/-- The other half's weights, transposed. -/
theorem in3 (w : S1024x2816.Idx → ℝ) (h : m ((c : Thread nD τ).loc main_arg2) = re w) :
    V1 m ρ c main_v3 = fun i : S2816x1024.Idx => ((w (ix2 (i 1) (i 0)) : ℝ) : EReal) := by
  show StableHlo.after (hostOps0 (F := Ideal)) (W0 m ρ c) (Proc.devRef .tc main_v3) = _
  entry_read
  funext i
  idx_vars i
  pointwise []
  exact congrFun h _

/-- The gradient of the layer's rows. -/
theorem in8 (d : S4x2048x1024.Idx → ℝ) (h : m ((c : Thread nD τ).loc main_arg4) = re d) : V3 m ρ c main_v8 = re (flat d) := by
  have h2 : W2 m ρ c (Proc.devRef .tc main_arg4) = re d := (W2_args m ρ c main_arg4 (by decide)).trans h
  show StableHlo.after (hostOps1 (F := Ideal)) (W2 m ρ c) (Proc.devRef .tc main_v8) = _
  entry_read
  funext i
  idx_vars i
  pointwise []
  exact congrFun h2 _

/-- The weights down. -/
theorem in9 (w : S2816x1024.Idx → ℝ) (h : m ((c : Thread nD τ).loc main_arg3) = re w) : V3 m ρ c main_v9 = re w := by
  have h2 : W2 m ρ c (Proc.devRef .tc main_arg3) = re w := (W2_args m ρ c main_arg3 (by decide)).trans h
  show StableHlo.after (hostOps1 (F := Ideal)) (W2 m ρ c) (Proc.devRef .tc main_v9) = _
  entry_read
  funext i
  pointwise []
  exact congrFun h2 _

variable (x dz : S4x2048x1024.Idx → ℝ) (wg wu : S1024x2816.Idx → ℝ) (wd : S2816x1024.Idx → ℝ)

theorem big_pre (w : S1024x2816.Idx → ℝ) (r : Fin 8192) (f : Fin 2816) :
    big (flat x) (fun i => w (ix2 (i 1) (i 0))) r f = pre x w (blockOf r) (placeOf r) f := rfl

theorem big_dh (r : Fin 8192) (f : Fin 2816) : big (flat dz) wd r f = dh dz wd (blockOf r) (placeOf r) f := rfl

variable (hx : m ((c : Thread nD τ).loc main_arg0) = re x) (hg : m ((c : Thread nD τ).loc main_arg1) = re wg)
  (hu : m ((c : Thread nD τ).loc main_arg2) = re wu) (hw : m ((c : Thread nD τ).loc main_arg3) = re wd)
  (hd : m ((c : Thread nD τ).loc main_arg4) = re dz)
include hx hg hu hw hd

/-- The first result. -/
theorem result4 : (dat1 (V3 m ρ) c).arrAt 4 cfg1.N
    = fun i : S8192x2816.Idx => ((da x dz wg wu wd (blockOf (i 0)) (placeOf (i 0)) (i 1) : ℝ) : EReal) := by
  have hA := (W3_of m ρ c main_v6_0 (by decide)).trans ((W2_arr m ρ c 3).trans
    (finalA3 (V1 m ρ) c _ _ _ (in5 m ρ c x hx) (in1 m ρ c wg hg) (in3 m ρ c wu hu)))
  exact finalB4 (V3 m ρ) c _ _ _ (in8 m ρ c dz hd) (in9 m ρ c wd hw) hA

/-- The second result. -/
theorem result5 : (dat1 (V3 m ρ) c).arrAt 5 cfg1.N
    = fun i : S8192x2816.Idx => ((db x dz wg wd (blockOf (i 0)) (placeOf (i 0)) (i 1) : ℝ) : EReal) := by
  have hA := (W3_of m ρ c main_v6_1 (by decide)).trans ((W2_arr m ρ c 4).trans
    (finalA4 (V1 m ρ) c _ _ _ (in5 m ρ c x hx) (in1 m ρ c wg hg) (in3 m ρ c wu hu)))
  exact finalB5 (V3 m ρ) c _ _ _ (in8 m ρ c dz hd) (in9 m ρ c wd hw) hA

end Cert.GateBwdIdeal.Pay

end
-- ==== Proof.GateRef.lean ====
/- The derivative of the gated feed-forward layer's forward lines, one operation at a time, at real numbers. -/
module

public import proofs.«01_k».proof.Proof.Gen.GateGradIdeal.Read
public import proofs.«01_k».proof.Proof.GateMath

@[expose] public section

set_option maxRecDepth 16384

noncomputable section

open Idealize.ShloMosaic Idealize.ShloMosaic.TcCoe Idealize.SL.Sem

namespace Cert.GateGradIdeal.Real

open Cert.GateGradIdeal Cert.GateGradIdeal.Gen Cert.GateGradIdeal.Read Cert.RealLift Cert.GateMath

variable (x dz : S4x2048x1024.Idx → ℝ) (wg wu : S1024x2816.Idx → ℝ) (wd : S2816x1024.Idx → ℝ)

theorem v0_real : val_main_v0 (F := Ideal) (re x) (re wg) = re fun i => pre x wg (i 0) (i 1) (i 2) := by
  funext i
  idx_vars i
  pointwise [val_main_v0]
  simp only [← EReal.coe_mul, coe_sum]
  rfl

theorem v1_real : val_main_v1 (F := Ideal) (re x) (re wu) = re fun i => pre x wu (i 0) (i 1) (i 2) := v0_real x wu

theorem v5_real : val_main_v5 (F := Ideal) (re wd) (re dz) = re fun i => dh dz wd (i 0) (i 1) (i 2) := by
  funext i
  idx_vars i
  pointwise [val_main_v5]
  simp only [← EReal.coe_mul, coe_sum]
  rfl

/-- The logistic function of the gate's hidden columns. -/
theorem v2_2_real : val_main_v2_2 (F := Ideal) (re x) (re wg) = re fun i => lgs (pre x wg (i 0) (i 1) (i 2)) := by
  funext i
  unfold val_main_v2_2 val_main_call0_v3 val_main_call0_v1 val_main_call0_v0
  rw [v0_real]
  idx_vars i
  pointwise [val_main_call0_v4, val_main_call0_v2, val_main_call0_cst, val_main_call0_cst_0]
  exact lgs_ref (pre x wg i0 i1 i2)

theorem v2_0_real : val_main_v2_0 (F := Ideal) (re x) (re wg)
    = re fun i => pre x wg (i 0) (i 1) (i 2) * lgs (pre x wg (i 0) (i 1) (i 2)) := by
  funext i
  unfold val_main_v2_0
  rw [v0_real, v2_2_real]
  pointwise []
  rw [← EReal.coe_mul]

theorem v7_real : val_main_v7 (F := Ideal) (re x) (re wu) (re wd) (re dz)
    = re fun i => dh dz wd (i 0) (i 1) (i 2) * pre x wu (i 0) (i 1) (i 2) := by
  funext i
  unfold val_main_v7
  rw [v1_real, v5_real]
  pointwise []
  rw [← EReal.coe_mul]

theorem v2_1_real : val_main_v2_1 (F := Ideal) (re x) (re wg)
    = re fun i => lgs (pre x wg (i 0) (i 1) (i 2)) * (1 - lgs (pre x wg (i 0) (i 1) (i 2))) := by
  funext i
  unfold val_main_v2_1 val_main_call0_v7
  rw [v2_2_real]
  pointwise [val_main_call0_v6, val_main_call0_cst_1]
  simp only [re, ← EReal.coe_one, ← EReal.coe_sub, ← EReal.coe_mul]

/-- The gradient of the gate's hidden columns. -/
theorem v8_real : val_main_v8 (F := Ideal) (re x) (re wg) (re wu) (re wd) (re dz)
    = re fun i => da x dz wg wu wd (i 0) (i 1) (i 2) := by
  funext i
  unfold val_main_v8 val_main_call1_v1 val_main_call1_v2 val_main_call1_v0
  rw [v0_real, v7_real, v2_1_real, v2_2_real]
  pointwise []
  simp only [re, ← EReal.coe_mul, ← EReal.coe_add, da, dsilu]
  exact congrArg _ (by ring)

/-- The gradient of the other hidden columns. -/
theorem v6_real : val_main_v6 (F := Ideal) (re x) (re wg) (re wd) (re dz) = re fun i => db x dz wg wd (i 0) (i 1) (i 2) := by
  funext i
  unfold val_main_v6
  rw [v2_0_real, v5_real]
  pointwise []
  simp only [re, ← EReal.coe_mul, db]
  exact congrArg _ (by ring)

/-- The two results, row after row. -/
theorem v10_real : val_main_v10 (F := Ideal) (re x) (re wg) (re wu) (re wd) (re dz)
    = fun i : S8192x2816.Idx => ((da x dz wg wu wd (blockOf (i 0)) (placeOf (i 0)) (i 1) : ℝ) : EReal) := by
  funext i
  unfold val_main_v10 val_main_v9
  rw [v8_real]
  idx_vars i
  pointwise []
  rfl

theorem v12_real : val_main_v12 (F := Ideal) (re x) (re wg) (re wd) (re dz)
    = fun i : S8192x2816.Idx => ((db x dz wg wd (blockOf (i 0)) (placeOf (i 0)) (i 1) : ℝ) : EReal) := by
  funext i
  unfold val_main_v12 val_main_v11
  rw [v6_real]
  idx_vars i
  pointwise []
  rfl

end Cert.GateGradIdeal.Real

end
-- ==== Proof.GateClaim.lean ====
/- The gated feed-forward layer's backward pass through its gate: the two kernel calls compute the derivative of the forward lines. -/
module

public import proofs.«01_k».proof.Defs
public import proofs.«01_k».proof.Proof.Gen.Pre_gate_finite
public import proofs.«01_k».proof.Proof.Gen.GateGradIdeal.Run
public import proofs.«01_k».proof.Proof.GateRun
public import proofs.«01_k».proof.Proof.GateEntry
public import proofs.«01_k».proof.Proof.GateRef

@[expose] public section

set_option maxRecDepth 16384

noncomputable section

open Idealize.ShloMosaic Idealize.ShloMosaic.TcCoe Idealize.SL.Sem

namespace Cert.GateProof

open Cert.RealLift Cert.GateMath

/-- Arrays the precondition holds of are arrays of real numbers. -/
theorem finite {x0 x1 x2 x3 x4} (h : Cert.Pre_gate_finite.fn (F := Ideal) x0 x1 x2 x3 x4 = fun _ => 1#1) :
    (∃ y, x0 = re y) ∧ (∃ y, x1 = re y) ∧ (∃ y, x2 = re y) ∧ (∃ y, x3 = re y) ∧ ∃ y, x4 = re y := by
  have h := congrFun h fun a => a.elim0
  unfold Cert.Pre_gate_finite.fn Cert.Pre_gate_finite.fn_part1 Cert.Pre_gate_finite.fn_part2 at h
  dsimp only at h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨real_of_all ofBits_bot ofBits_top h0, real_of_all ofBits_bot ofBits_top h1, real_of_all ofBits_bot ofBits_top h2,
    real_of_all ofBits_bot ofBits_top h3, real_of_all ofBits_bot ofBits_top h4⟩

/-- The kernel's two calls and the derivative of the forward lines compute the same gradients of finite arrays. -/
theorem algebraic : Cert.algebraic_GateBwdIdeal_GateGradIdeal_pre_gate_finite (hGateBwdIdeal := Cert.GateBwdIdeal.Gen.facts)
    (hGateGradIdeal := Cert.GateGradIdeal.Gen.facts) (hPre_gate_finite := Cert.Pre_gate_finite.Gen.facts) := by
  intro m ρ m' ρ' hpre hag
  refine ⟨fun c => (Cert.GateBwdIdeal.Gen.dat1 (Cert.GateBwdIdeal.Gen.V3 m ρ) c).arrAt 4 Cert.GateBwdIdeal.cfg1.N,
    fun c => (Cert.GateBwdIdeal.Gen.dat1 (Cert.GateBwdIdeal.Gen.V3 m ρ) c).arrAt 5 Cert.GateBwdIdeal.cfg1.N,
    Cert.GateBwdIdeal.Pay.run m ρ, θ_run_mono (Cert.GateGradIdeal.Value.run m' ρ') fun r h c => ?_⟩
  obtain ⟨⟨x, hx⟩, ⟨wg, hg⟩, ⟨wu, hu⟩, ⟨wd, hw⟩, ⟨dz, hd⟩⟩ := finite (hpre c)
  obtain ⟨a0, a1, a2, a3, a4⟩ := hag c
  obtain ⟨h0, h1, hrest⟩ := h c
  have e4 := Cert.GateBwdIdeal.Pay.result4 m ρ c x dz wg wu wd hx hg hu hw hd
  have e5 := Cert.GateBwdIdeal.Pay.result5 m ρ c x dz wg wu wd hx hg hu hw hd
  rw [hx] at a0
  rw [hg] at a1
  rw [hu] at a2
  rw [hw] at a3
  rw [hd] at a4
  refine ⟨?_, ?_, hrest⟩
  · rw [h0, Cert.GateGradIdeal.Read.val_main_v10_eq, a0, a1, a2, a3, a4, Cert.GateGradIdeal.Real.v10_real]
    exact e4.symm
  · refine (h1.trans (Cert.GateGradIdeal.Read.val_main_v12_eq _ _ _ _)).trans ?_
    rw [a0, a1, a3, a4, Cert.GateGradIdeal.Real.v12_real]
    exact e5.symm

end Cert.GateProof

end
-- ==== Proof.UpClaim.lean ====
/- The feed-forward's hidden products and their gate, forward: the kernel leaves the gated product and the two factors
   that the derivative of the gate multiplies by. -/
module

public import proofs.«01_k».proof.Defs
public import proofs.«01_k».proof.Proof.Gen.Pre_up_finite
public import proofs.«01_k».proof.Proof.Gen.UpFwdIdeal.Value
public import proofs.«01_k».proof.Proof.Gen.UpFwdRefIdeal.Run
public import proofs.«01_k».proof.Proof.Gen.UpFwdRefIdeal.Read
public import Idealize.ShloMosaic.Lib.Pipeline.ValueKit
public import Idealize.ShloMosaic.Lib.Claim
public import proofs.«01_k».proof.Proof.GatePay
public import proofs.«01_k».proof.Proof.GateRef

@[expose] public section

set_option maxRecDepth 16384

noncomputable section

open Idealize.ShloMosaic Idealize.ShloMosaic.TcCoe Idealize.SL.Sem
open Idealize.ShloMosaic.Pipeline (Dat)

namespace Cert.UpFwdIdeal.Pay

open Cert.UpFwdIdeal Cert.UpFwdIdeal.Gen Cert.RealLift Cert.GateMath
open Cert.GateBwdIdeal.Pay (mm)

variable (m : (ℓ : Loc nD τ sig) → Buf (Elt Ideal) ℓ) (c : Dev nD)

theorem idx : ∀ t : Fin cfg0.N, win0_0.index t = ![t.val % 16, 0] ∧ win0_1.index t = ![t.val / 16, 0] ∧ win0_2.index t = ![t.val / 16, 0]
    ∧ win0_3.index t = ![t.val % 16, t.val / 16] ∧ win0_4.index t = ![t.val % 16, t.val / 16] ∧ win0_5.index t = ![t.val % 16, t.val / 16] :=
  (by decide +kernel : ∀ t : Fin grid0.N, _)

/-- The row of all 8192 at row `r` of point `t`'s block. -/
def gr (t : Fin cfg0.N) (r : Fin 512) : Fin 8192 := ⟨t.val % 16 * 512 + r.val, by omega⟩

/-- The hidden column at column `f` of point `t`'s block. -/
def gf (t : Fin cfg0.N) (f : Fin 1408) : Fin 2816 := ⟨t.val / 16 * 1408 + f.val, by have := t.isLt; have h : cfg0.N = 32 := N_0; omega⟩

variable (x : S4x2048x1024.Idx → ℝ) (wg wu : S1024x2816.Idx → ℝ)

/-- A hidden column of one of all rows. -/
def hid (w : S1024x2816.Idx → ℝ) (r : Fin 8192) (f : Fin 2816) : ℝ := pre x w (blockOf r) (placeOf r) f

/-- The rows of a point's block. -/
def xB (t : Fin cfg0.N) (j : S512x1024.Idx) : ℝ := flat x (ix2 (gr t (j 0)) (j 1))

/-- The weights of a point's block of hidden columns, transposed. -/
def wB (w : S1024x2816.Idx → ℝ) (t : Fin cfg0.N) (j : S1408x1024.Idx) : ℝ := w (ix2 (j 1) (gf t (j 0)))

theorem mm_eq (w : S1024x2816.Idx → ℝ) (t : Fin cfg0.N) (i : S512x1408.Idx) : mm (xB x t) (wB w t) i = hid x w (gr t (i 0)) (gf t (i 1)) := rfl

variable (hx : m ((c : Thread nD τ).loc main_arg0) = re x) (hg : m ((c : Thread nD τ).loc main_arg1) = re wg)
  (hu : m ((c : Thread nD τ).loc main_arg2) = re wu)

include hx in
theorem iblk0 (t : Fin cfg0.N) : (iblk m c 0 t : Vec Ideal S512x1024 .bf16) = re (xB x t) := by
  have h : V m c main_v5 = re (flat x) := by
    entry_read
    funext i
    idx_vars i
    pointwise []
    exact congrFun hx _
  funext j
  blk_simp [iblk]
  rw [show V m c (Pipeline.arrRef spec0 0) = _ from h]
  refine congrArg (re (flat x)) ?_
  blk_ext [idx t, gr]

include hg in
theorem iblk1 (t : Fin cfg0.N) : (iblk m c 1 t : Vec Ideal S1408x1024 .bf16) = re (wB wg t) := by
  have h : V m c main_v1 = re fun i : S2816x1024.Idx => wg (ix2 (i 1) (i 0)) := by
    entry_read
    funext i
    idx_vars i
    pointwise []
    exact congrFun hg _
  funext j
  blk_simp [iblk]
  rw [show V m c (Pipeline.arrRef spec0 1) = _ from h]
  refine congrArg (re wg) ?_
  blk_ext [idx t, gf]

include hu in
theorem iblk2 (t : Fin cfg0.N) : (iblk m c 2 t : Vec Ideal S1408x1024 .bf16) = re (wB wu t) := by
  have h : V m c main_v3 = re fun i : S2816x1024.Idx => wu (ix2 (i 1) (i 0)) := by
    entry_read
    funext i
    idx_vars i
    pointwise []
    exact congrFun hu _
  funext j
  blk_simp [iblk]
  rw [show V m c (Pipeline.arrRef spec0 2) = _ from h]
  refine congrArg (re wu) ?_
  blk_ext [idx t, gf]

/-- The gated product of a block. -/
theorem pay8_real (y : S512x1024.Idx → ℝ) (w w' : S1408x1024.Idx → ℝ) :
    k0_pay8 (F := Ideal) (re y) (re w) (re w') = re fun i => mm y w i * lgs (mm y w i) * mm y w' i := by
  funext i
  unfold k0_pay8
  rw [show k0_pay5 (F := Ideal) (re y) (re w) = re fun i => mm y w i * lgs (mm y w i) from Cert.GateBwdIdeal.Pay.pay5_real y w,
    show k0_pay3 (F := Ideal) (re y) (re w') = re (mm y w') from Cert.GateBwdIdeal.Pay.pay3_real y w']
  pointwise []
  exact (EReal.coe_mul _ _).symm

include hx hg

/-- The factor of the other half's gradient. -/
theorem final4 : (dats m 0 c).arrAt 4 cfg0.N = re fun i : S8192x2816.Idx => hid x wg (i 0) (i 1) * lgs (hid x wg (i 0) (i 1)) := by
  refine (dats m 0 c).arrAt_eq_of_covers 4 _ (by decide +kernel) fun t hf y => ?_
  have e : ((cfg0.win 4).blk t).view.emb y = ix2 (gr t (y 0)) (gf t (y 1)) := by blk_ext [idx t, gr, gf]
  rw [e]
  blk_simp
  rw [after0_4]
  unfold out0_4
  frame_out
  rw [iblk0 m c x hx t, iblk1 m c wg hg t]
  exact congrFun (Cert.GateBwdIdeal.Pay.pay7_real (xB x t) (wB wg t)) y

include hu

/-- The factor of the gate's gradient. -/
theorem final3 : (dats m 0 c).arrAt 3 cfg0.N = re fun i : S8192x2816.Idx => hid x wu (i 0) (i 1) * dsilu (hid x wg (i 0) (i 1)) := by
  refine (dats m 0 c).arrAt_eq_of_covers 3 _ (by decide +kernel) fun t hf y => ?_
  have e : ((cfg0.win 3).blk t).view.emb y = ix2 (gr t (y 0)) (gf t (y 1)) := by blk_ext [idx t, gr, gf]
  rw [e]
  blk_simp
  rw [after0_3]
  unfold out0_3
  frame_out
  rw [iblk0 m c x hx t, iblk1 m c wg hg t, iblk2 m c wu hu t]
  exact congrFun (Cert.GateBwdIdeal.Pay.pay6_real (xB x t) (wB wg t) (wB wu t)) y

/-- The gated product. -/
theorem final5 : (dats m 0 c).arrAt 5 cfg0.N
    = re fun i : S8192x2816.Idx => hid x wg (i 0) (i 1) * lgs (hid x wg (i 0) (i 1)) * hid x wu (i 0) (i 1) := by
  refine (dats m 0 c).arrAt_eq_of_covers 5 _ (by decide +kernel) fun t hf y => ?_
  have e : ((cfg0.win 5).blk t).view.emb y = ix2 (gr t (y 0)) (gf t (y 1)) := by blk_ext [idx t, gr, gf]
  rw [e]
  blk_simp
  rw [after0_5]
  unfold out0_5
  frame_out
  rw [iblk0 m c x hx t, iblk1 m c wg hg t, iblk2 m c wu hu t]
  exact congrFun (pay8_real (xB x t) (wB wg t) (wB wu t)) y

end Cert.UpFwdIdeal.Pay

namespace Cert.UpFwdRefIdeal.Real

open Cert.UpFwdRefIdeal Cert.UpFwdRefIdeal.Gen Cert.UpFwdRefIdeal.Read Cert.RealLift Cert.GateMath
open Cert.UpFwdIdeal.Pay (hid)

variable (x : S4x2048x1024.Idx → ℝ) (wg wu : S1024x2816.Idx → ℝ)

theorem v0_real : val_main_v0 (F := Ideal) (re x) (re wg) = re fun i => pre x wg (i 0) (i 1) (i 2) := Cert.GateGradIdeal.Real.v0_real x wg

theorem v1_real : val_main_v1 (F := Ideal) (re x) (re wu) = re fun i => pre x wu (i 0) (i 1) (i 2) := Cert.GateGradIdeal.Real.v0_real x wu

theorem v2_0_real : val_main_v2_0 (F := Ideal) (re x) (re wg)
    = re fun i => pre x wg (i 0) (i 1) (i 2) * lgs (pre x wg (i 0) (i 1) (i 2)) := Cert.GateGradIdeal.Real.v2_0_real x wg

theorem v2_2_real : val_main_v2_2 (F := Ideal) (re x) (re wg) = re fun i => lgs (pre x wg (i 0) (i 1) (i 2)) := Cert.GateGradIdeal.Real.v2_2_real x wg

theorem v2_1_real : val_main_v2_1 (F := Ideal) (re x) (re wg)
    = re fun i => lgs (pre x wg (i 0) (i 1) (i 2)) * (1 - lgs (pre x wg (i 0) (i 1) (i 2))) := Cert.GateGradIdeal.Real.v2_1_real x wg

/-- The array of ones. -/
theorem v4_real : val_main_v4 (F := Ideal) = re fun _ => 1 := by
  funext i
  pointwise [val_main_v4, val_main_cst]
  exact EReal.coe_one.symm

theorem v6_real : val_main_v6 (F := Ideal) (re x) (re wu) = re fun i => pre x wu (i 0) (i 1) (i 2) := by
  funext i
  unfold val_main_v6
  rw [v4_real, v1_real]
  pointwise []
  rw [← EReal.coe_mul, one_mul]

/-- The factor of the gate's gradient. -/
theorem v9_real : val_main_v9 (F := Ideal) (re x) (re wg) (re wu)
    = re fun i : S8192x2816.Idx => hid x wu (i 0) (i 1) * dsilu (hid x wg (i 0) (i 1)) := by
  have h : val_main_v7 (F := Ideal) (re x) (re wg) (re wu)
      = re fun i => pre x wu (i 0) (i 1) (i 2) * dsilu (pre x wg (i 0) (i 1) (i 2)) := by
    funext i
    unfold val_main_v7 val_main_call1_v1 val_main_call1_v2 val_main_call1_v0
    rw [v0_real, v6_real, v2_1_real, v2_2_real]
    pointwise []
    simp only [re, ← EReal.coe_mul, ← EReal.coe_add, dsilu]
    exact congrArg _ (by ring)
  funext i
  unfold val_main_v9 val_main_v8
  rw [h]
  idx_vars i
  pointwise []
  rfl

/-- The factor of the other half's gradient. -/
theorem v11_real : val_main_v11 (F := Ideal) (re x) (re wg)
    = re fun i : S8192x2816.Idx => hid x wg (i 0) (i 1) * lgs (hid x wg (i 0) (i 1)) := by
  funext i
  unfold val_main_v11 val_main_v10 val_main_v5
  rw [v2_0_real, v4_real]
  idx_vars i
  pointwise []
  rw [← EReal.coe_mul, mul_one]
  rfl

/-- The gated product. -/
theorem v13_real : val_main_v13 (F := Ideal) (re x) (re wg) (re wu)
    = re fun i : S8192x2816.Idx => hid x wg (i 0) (i 1) * lgs (hid x wg (i 0) (i 1)) * hid x wu (i 0) (i 1) := by
  funext i
  unfold val_main_v13 val_main_v12 val_main_v3
  rw [v2_0_real, v1_real]
  idx_vars i
  pointwise []
  rw [← EReal.coe_mul]
  rfl

end Cert.UpFwdRefIdeal.Real

namespace Cert.UpProof

open Cert.RealLift

/-- Arrays the precondition holds of are arrays of real numbers. -/
theorem finite {x0 x1 x2} (h : Cert.Pre_up_finite.fn (F := Ideal) x0 x1 x2 = fun _ => 1#1) :
    (∃ y, x0 = re y) ∧ (∃ y, x1 = re y) ∧ ∃ y, x2 = re y := by
  have h := congrFun h fun a => a.elim0
  unfold Cert.Pre_up_finite.fn Cert.Pre_up_finite.fn_part1 at h
  dsimp only at h
  obtain ⟨h, h2⟩ := IntOp.andi_eq_one.1 h
  obtain ⟨h0, h1⟩ := IntOp.andi_eq_one.1 h
  exact ⟨real_of_all ofBits_bot ofBits_top h0, real_of_all ofBits_bot ofBits_top h1, real_of_all ofBits_bot ofBits_top h2⟩

open Cert.UpFwdIdeal.Pay in
/-- The kernel and the forward lines with their derivative leave the same arrays. -/
theorem algebraic : Cert.algebraic_UpFwdIdeal_UpFwdRefIdeal_pre_up_finite (hUpFwdIdeal := Cert.UpFwdIdeal.Gen.facts)
    (hUpFwdRefIdeal := Cert.UpFwdRefIdeal.Gen.facts) (hPre_up_finite := Cert.Pre_up_finite.Gen.facts) := by
  intro m ρ m' ρ' hpre hag
  refine ⟨fun c => (Cert.UpFwdIdeal.Gen.dats m 0 c).arrAt 3 Cert.UpFwdIdeal.cfg0.N, fun c => (Cert.UpFwdIdeal.Gen.dats m 0 c).arrAt 4 Cert.UpFwdIdeal.cfg0.N,
    fun c => (Cert.UpFwdIdeal.Gen.dats m 0 c).arrAt 5 Cert.UpFwdIdeal.cfg0.N,
    Cert.UpFwdIdeal.Value.run_blocks m ρ, θ_run_mono (Cert.UpFwdRefIdeal.Value.run m' ρ') fun r h c => ?_⟩
  obtain ⟨⟨x, hx⟩, ⟨wg, hg⟩, ⟨wu, hu⟩⟩ := finite (hpre c)
  obtain ⟨a0, a1, a2⟩ := hag c
  obtain ⟨h0, h1, h2, hrest⟩ := h c
  have e3 := final3 m c x wg wu hx hg hu
  have e4 := final4 m c x wg hx hg
  have e5 := final5 m c x wg wu hx hg hu
  rw [hx] at a0
  rw [hg] at a1
  rw [hu] at a2
  refine ⟨?_, ?_, ?_, hrest⟩
  · refine (h0.trans (Cert.UpFwdRefIdeal.Read.val_main_v9_eq _ _ _)).trans ?_
    rw [a0, a1, a2, Cert.UpFwdRefIdeal.Real.v9_real]
    exact e3.symm
  · refine (h1.trans (Cert.UpFwdRefIdeal.Read.val_main_v11_eq _ _)).trans ?_
    rw [a0, a1, Cert.UpFwdRefIdeal.Real.v11_real]
    exact e4.symm
  · refine (h2.trans (Cert.UpFwdRefIdeal.Read.val_main_v13_eq _ _ _)).trans ?_
    rw [a0, a1, a2, Cert.UpFwdRefIdeal.Real.v13_real]
    exact e5.symm

end Cert.UpProof

end
-- ==== Proof.NormFwd.lean ====
/- The normalisation of rows, forward, over extended reals: the kernels' blocks and the references' arrays hold the same
   function of a row, whatever its entries. -/
module

public import proofs.«01_k».proof.Proof.Gen.OutFwdIdeal.Skeleton
public import proofs.«01_k».proof.Proof.Gen.OutFwdRefIdeal.Read
public import Idealize.ShloMosaic.Lib.Pointwise
public import proofs.«01_k».proof.Proof.RealLift

@[expose] public section

set_option maxRecDepth 16384

noncomputable section

open Idealize.ShloMosaic Idealize.ShloMosaic.TcCoe Idealize.SL.Sem

namespace Cert.NormFwd

/-- The mean of a row. -/
def avg (x : Fin 1024 → EReal) : EReal := Ideal.div (∑ k, x k) (Ideal.ofBits .f32 0x44800000#32)

/-- A row less its mean. -/
def dev (x : Fin 1024 → EReal) (d : Fin 1024) : EReal := x d - avg x

/-- The normalised row, scaled by `g` and shifted by `b`. -/
def norm (x g b : Fin 1024 → EReal) (d : Fin 1024) : EReal :=
  dev x d * Ideal.rsqrt (avg (fun k => dev x k * dev x k) + Ideal.ofBits .f32 0x3727C5AC#32) * g d + b d

/-- The row before the normalisation, at one column: the scaled entry of the residual row and a row times a column. -/
def mix {n : ℕ} (x : EReal) (h w : Fin n → EReal) : EReal := Ideal.ofBits .f32 0x3FD744FD#32 * x + ∑ k, h k * w k

section All

open Cert.RealLift (blockOf placeOf)

variable {n : ℕ} (h : (⟨3, ![4, 2048, n]⟩ : Shape).Idx → EReal) (w : (⟨2, ![n, 1024]⟩ : Shape).Idx → EReal)
  (x : (⟨3, ![4, 2048, 1024]⟩ : Shape).Idx → EReal) (g b : (⟨1, ![1024]⟩ : Shape).Idx → EReal)

/-- The sum of the residual branch and the product, in one row of a sequence. -/
def sumAt (s : Fin 4) (p : Fin 2048) (d : Fin 1024) : EReal := mix (x (ix3 s p d)) (fun k => h (ix3 s p k)) fun k => w (ix2 k d)

/-- The sums, row after row. -/
def sums : (⟨2, ![8192, 1024]⟩ : Shape).Idx → EReal := fun i => sumAt h w x (blockOf (i 0)) (placeOf (i 0)) (i 1)

/-- The normalised rows. -/
def norms : (⟨2, ![8192, 1024]⟩ : Shape).Idx → EReal := fun i =>
  norm (sumAt h w x (blockOf (i 0)) (placeOf (i 0))) (fun d => g (ix1 d)) (fun d => b (ix1 d)) (i 1)

end All

section Kernel

open Cert.OutFwdIdeal Cert.OutFwdIdeal.Gen

/-- The block of normalised rows. -/
theorem pay4_apply (r a : Vec Ideal S512x1024 .f32) (g b : Vec Ideal S1x1024 .f32) (i : S512x1024.Idx) :
    k0_pay4 (F := Ideal) r a g b i
      = norm (fun d => k0_pay3 (F := Ideal) r a (ix2 (i 0) d)) (fun d => g (ix2 0 d)) (fun d => b (ix2 0 d)) (i 1) := by
  idx_vars i
  unfold k0_pay4
  generalize k0_pay3 (F := Ideal) r a = z
  pointwise [norm, avg, dev]

/-- The block before the normalisation: the residual rows scaled, and what was summed up. -/
theorem pay3_apply (r a : Vec Ideal S512x1024 .f32) (i : S512x1024.Idx) :
    k0_pay3 (F := Ideal) r a i = Ideal.ofBits .f32 0x3FD744FD#32 * r i + a i := by
  idx_vars i
  pointwise [k0_pay3]

end Kernel

section Reference

open Cert.OutFwdRefIdeal Cert.OutFwdRefIdeal.Gen Cert.OutFwdRefIdeal.Read

/-- An array of all rows. -/
abbrev Rows : Type := FVec Ideal S4x2048x1024 .f32

/-- One number a row. -/
abbrev Col : Type := FVec Ideal S4x2048x1 .f32

/-- One number a column. -/
abbrev Line : Type := FVec Ideal S1024 .f32

/-- One number a row, repeated along the row. -/
def spread (x : Col) : Rows := broadcastInDim S4x2048x1024 ![0, 1, 2] bcast_S4x2048x1_S4x2048x1024_0_1_2 x

/-- The mean of each row. -/
def mean (x : Rows) : Col :=
  Host.divf (broadcastInDim S4x2048x1 ![0, 1] bcast_S4x2048_S4x2048x1_0_1
    (Host.reduceAdd x (val_main_cst_0 (F := Ideal)) reducesTo_S4x2048x1024_S4x2048_d2 h_S_ : FVec Ideal S4x2048 .f32) : Col) (val_main_v8 (F := Ideal))

/-- One number a column, repeated in every row. -/
def line (x : Line) : Rows :=
  broadcastInDim S4x2048x1024 ![0, 1, 2] bcast_S1x1x1024_S4x2048x1024_0_1_2 (broadcastInDim S1x1x1024 ![2] bcast_S1024_S1x1x1024_2 x : FVec Ideal S1x1x1024 .f32)

/-- The deviations of each row. -/
def cen (x : Rows) : Rows := subf x (spread (mean x))

/-- The normalisation as the references compute it. -/
def ref (x : Rows) (g b : Line) : Rows :=
  addf (mulf (mulf (cen x) (spread (Host.rsqrt (addf (mean (mulf (cen x) (cen x))) (val_main_v19 (F := Ideal)) : Col)))) (line g)) (line b)

theorem mean_apply (x : Rows) (i : S4x2048x1.Idx) : mean x i = avg fun d => x (ix3 (i 0) (i 1) d) := by
  idx_vars i
  pointwise [mean, avg, val_main_cst_0, val_main_v8, val_main_cst_1]

theorem spread_apply (x : Col) (i : S4x2048x1024.Idx) : spread x i = x (ix3 (i 0) (i 1) 0) := by
  idx_vars i
  pointwise [spread]

theorem line_apply (x : Line) (i : S4x2048x1024.Idx) : line x i = x (ix1 (i 2)) := by
  idx_vars i
  pointwise [line]

theorem cen_apply (x : Rows) (i : S4x2048x1024.Idx) : cen x i = dev (fun d => x (ix3 (i 0) (i 1) d)) (i 2) := by
  show x i - spread (mean x) i = _
  rw [spread_apply, mean_apply]
  idx_vars i
  rfl

/-- The references' normalised rows. -/
theorem ref_apply (x : Rows) (g b : Line) (i : S4x2048x1024.Idx) :
    ref x g b i = norm (fun d => x (ix3 (i 0) (i 1) d)) (fun d => g (ix1 d)) (fun d => b (ix1 d)) (i 2) := by
  show cen x i * spread (Host.rsqrt (addf (mean (mulf (cen x) (cen x))) (val_main_v19 (F := Ideal)) : Col)) i * line g i + line b i = _
  rw [line_apply, line_apply, spread_apply, cen_apply]
  show _ * Ideal.rsqrt (mean (mulf (cen x) (cen x)) (ix3 (i 0) (i 1) 0) + val_main_v19 (F := Ideal) (ix3 (i 0) (i 1) 0)) * _ + _ = _
  rw [mean_apply]
  unfold norm
  refine congrArg (fun s => dev _ _ * Ideal.rsqrt (avg s + _) * _ + _) (funext fun d => ?_)
  show cen x _ * cen x _ = _
  rw [cen_apply]
  rfl

end Reference

end Cert.NormFwd

end
-- ==== Proof.OutClaim.lean ====
/- The mixed columns' product with the residual branch and the normalisation after it: the kernel leaves the sum, the
   normalised rows and these rounded, whatever the arguments hold. -/
module

public import proofs.«01_k».proof.Defs
public import proofs.«01_k».proof.Proof.Gen.OutFwdIdeal.Value
public import proofs.«01_k».proof.Proof.Gen.OutFwdRefIdeal.Run
public import proofs.«01_k».proof.Proof.Gen.OutFwdRefIdeal.Read
public import Idealize.ShloMosaic.Lib.Pipeline.ValueKit
public import Idealize.ShloMosaic.Lib.Claim
public import proofs.«01_k».proof.Proof.NormFwd
public import proofs.«01_k».proof.Proof.RealLift

@[expose] public section

set_option maxRecDepth 16384

noncomputable section

open Idealize.ShloMosaic Idealize.ShloMosaic.TcCoe Idealize.SL.Sem
open Idealize.ShloMosaic.Pipeline (Dat)

namespace Cert.OutFwdIdeal.Pay

open Cert.OutFwdIdeal Cert.OutFwdIdeal.Gen Cert.NormFwd
open Cert.RealLift (blockOf placeOf)

/-- The mixed columns and the memory's of every row, side by side. -/
def both (u : S4x2048x768.Idx → EReal) (v : S4x2048x256.Idx → EReal) (i : S4x2048x1024.Idx) : EReal :=
  if h : (i 2).val < 768 then u (ix3 (i 0) (i 1) ⟨(i 2).val, h⟩) else v (ix3 (i 0) (i 1) ⟨(i 2).val - 768, by have := (i 2).isLt; simp at this; omega⟩)

theorem both_apply (u : S4x2048x768.Idx → EReal) (v : S4x2048x256.Idx → EReal) (s : Fin 4) (p : Fin 2048) (k : Fin 1024) :
    both u v (ix3 s p k) = if h : k.val < 768 then u (ix3 s p ⟨k.val, h⟩) else v (ix3 s p ⟨k.val - 768, by omega⟩) := rfl

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0]
    ∧ win0_7.index t = ![t.val, 0] :=
  (by decide +kernel : ∀ t : Fin grid0.N, _)

/-- The row of all 8192 at row `r` of point `t`'s block. -/
def gr (t : Fin cfg0.N) (r : Fin 512) : Fin 8192 := ⟨t.val * 512 + r.val, by have := t.isLt; have h : cfg0.N = 16 := N_0; omega⟩

/-- The mixed columns and the memory's, side by side. -/
def aH : S4x2048x1024.Idx → EReal := both (m ((c : Thread nD τ).loc main_arg0)) (m ((c : Thread nD τ).loc main_arg1))
/-- The weights. -/
abbrev aW : Vec Ideal S1024x1024 .f32 := m ((c : Thread nD τ).loc main_arg2)
/-- The residual branch. -/
abbrev aX : Vec Ideal S4x2048x1024 .f32 := m ((c : Thread nD τ).loc main_arg3)
/-- The scale. -/
abbrev aG : Vec Ideal S1024 .f32 := m ((c : Thread nD τ).loc main_arg4)
/-- The shift. -/
abbrev aB : Vec Ideal S1024 .f32 := m ((c : Thread nD τ).loc main_arg5)

/-- Two arrays of columns put side by side, at one index. -/
theorem cat2 (x0 : Vec Ideal S8192x768 .bf16) (x1 : Vec Ideal S8192x256 .bf16) (h) (r : Fin 8192) (k : Fin 1024) :
    (concatenate S8192x1024 1 [⟨S8192x768, x0⟩, ⟨S8192x256, x1⟩] h : Vec Ideal S8192x1024 .bf16) (ix2 r k)
      = if h1 : k.val < 768 then x0 (ix2 r ⟨k.val, h1⟩) else x1 (ix2 r ⟨k.val - 768, by omega⟩) := by
  pointwise []

theorem entry0 : V m c main_v2 = fun i : S8192x1024.Idx => aH m c (ix3 (blockOf (i 0)) (placeOf (i 0)) (i 1)) := by
  show StableHlo.after (hostOps0 (F := Ideal)) _ _ = _
  unfold hostOps0
  simp only [StableHlo.after_cons, StableHlo.after_nil]
  after_results_simp
  funext i
  idx_vars i
  refine (cat2 _ _ _ i0 i1).trans ?_
  after_results_simp
  pointwise []
  rw [aH, both_apply]

theorem iblk0 (t : Fin cfg0.N) : (iblk m c 0 t : Vec Ideal S512x1024 .bf16)
    = fun j => aH m c (ix3 (blockOf (gr t (j 0))) (placeOf (gr t (j 0))) (j 1)) := by
  funext j
  blk_simp [iblk]
  rw [show V m c (Pipeline.arrRef spec0 0) = _ from entry0 m c]
  refine congrArg (fun i : S8192x1024.Idx => aH m c (ix3 (blockOf (i 0)) (placeOf (i 0)) (i 1))) (?_ : _ = ix2 (gr t (j 0)) (j 1))
  blk_ext [idx t, gr]

theorem iblk1 (t : Fin cfg0.N) : (iblk m c 1 t : Vec Ideal S1024x1024 .bf16) = fun j => aW m c j := by
  have h : V m c main_v3 = fun i : S1024x1024.Idx => aW m c i := by
    entry_read
    funext i
    idx_vars i
    pointwise []
  funext j
  blk_simp [iblk]
  rw [show V m c (Pipeline.arrRef spec0 1) = _ from h]
  refine congrArg (fun i : S1024x1024.Idx => aW m c i) (?_ : _ = j)
  blk_ext [idx t]

theorem iblk2 (t : Fin cfg0.N) : (iblk m c 2 t : Vec Ideal S512x1024 .f32)
    = fun j => aX m c (ix3 (blockOf (gr t (j 0))) (placeOf (gr t (j 0))) (j 1)) := by
  have h : V m c main_v4 = fun i : S8192x1024.Idx => aX m c (ix3 (blockOf (i 0)) (placeOf (i 0)) (i 1)) := by
    entry_read
    funext i
    idx_vars i
    pointwise []
  funext j
  blk_simp [iblk]
  rw [show V m c (Pipeline.arrRef spec0 2) = _ from h]
  refine congrArg (fun i : S8192x1024.Idx => aX m c (ix3 (blockOf (i 0)) (placeOf (i 0)) (i 1))) (?_ : _ = ix2 (gr t (j 0)) (j 1))
  blk_ext [idx t, gr]

theorem iblk3 (t : Fin cfg0.N) : (iblk m c 3 t : Vec Ideal S1x1024 .f32) = fun j => aG m c (ix1 (j 1)) := by
  have h : V m c main_v5 = fun i : S1x1024.Idx => aG m c (ix1 (i 1)) := by
    entry_read
    funext i
    idx_vars i
    pointwise []
  funext j
  blk_simp [iblk]
  rw [show V m c (Pipeline.arrRef spec0 3) = _ from h]
  refine congrArg (fun i : S1x1024.Idx => aG m c (ix1 (i 1))) (?_ : _ = j)
  blk_ext [idx t]

theorem iblk4 (t : Fin cfg0.N) : (iblk m c 4 t : Vec Ideal S1x1024 .f32) = fun j => aB m c (ix1 (j 1)) := by
  have h : V m c main_v6 = fun i : S1x1024.Idx => aB m c (ix1 (i 1)) := by
    entry_read
    funext i
    idx_vars i
    pointwise []
  funext j
  blk_simp [iblk]
  rw [show V m c (Pipeline.arrRef spec0 4) = _ from h]
  refine congrArg (fun i : S1x1024.Idx => aB m c (ix1 (i 1))) (?_ : _ = j)
  blk_ext [idx t]

/-- The product of a block, summed up from nothing. -/
theorem pay2_apply (h : Vec Ideal S512x1024 .bf16) (w : Vec Ideal S1024x1024 .bf16) (i : S512x1024.Idx) :
    k0_pay2 (F := Ideal) (k0_pay1 (F := Ideal)) h w i = ∑ k, h (ix2 (i 0) k) * w (ix2 k (i 1)) := by
  idx_vars i
  pointwise [k0_pay2, k0_pay1]

/-- The block of sums. -/
theorem block_sum (t : Fin cfg0.N) (y : S512x1024.Idx) :
    k0_pay3 (F := Ideal) (iblk m c 2 t) (k0_pay2 (F := Ideal) (k0_pay1 (F := Ideal)) (iblk m c 0 t) (iblk m c 1 t)) y
      = sums (aH m c) (aW m c) (aX m c) (ix2 (gr t (y 0)) (y 1)) := by
  refine (Cert.NormFwd.pay3_apply _ _ y).trans ?_
  rw [pay2_apply, iblk0, iblk1, iblk2]
  idx_vars y
  rfl

/-- The block of normalised rows. -/
theorem block_norm (t : Fin cfg0.N) (y : S512x1024.Idx) :
    k0_pay4 (F := Ideal) (iblk m c 2 t) (k0_pay2 (F := Ideal) (k0_pay1 (F := Ideal)) (iblk m c 0 t) (iblk m c 1 t)) (iblk m c 3 t) (iblk m c 4 t) y
      = norms (aH m c) (aW m c) (aX m c) (aG m c) (aB m c) (ix2 (gr t (y 0)) (y 1)) := by
  refine (Cert.NormFwd.pay4_apply _ _ _ _ y).trans ?_
  have e : (fun d : Fin 1024 => Cert.OutFwdIdeal.Gen.k0_pay3 (F := Ideal) (iblk m c 2 t)
      (k0_pay2 (F := Ideal) (k0_pay1 (F := Ideal)) (iblk m c 0 t) (iblk m c 1 t)) (ix2 (y 0) d))
      = sumAt (aH m c) (aW m c) (aX m c) (blockOf (gr t (y 0))) (placeOf (gr t (y 0))) :=
    funext fun d => block_sum m c t (ix2 (y 0) d)
  rw [e, iblk3, iblk4]
  idx_vars y
  rfl

theorem final5 : (dats m 0 c).arrAt 5 cfg0.N = sums (aH m c) (aW m c) (aX m c) := by
  refine (dats m 0 c).arrAt_eq_of_covers 5 _ (by decide +kernel) fun t hf y => ?_
  have e : ((cfg0.win 5).blk t).view.emb y = ix2 (gr t (y 0)) (y 1) := by blk_ext [idx t, gr]
  rw [e]
  blk_simp
  rw [after0_5]
  unfold outsAt0 out0_A_5
  frame_out
  exact block_sum m c t y

theorem final6 : (dats m 0 c).arrAt 6 cfg0.N = norms (aH m c) (aW m c) (aX m c) (aG m c) (aB m c) := by
  refine (dats m 0 c).arrAt_eq_of_covers 6 _ (by decide +kernel) fun t hf y => ?_
  have e : ((cfg0.win 6).blk t).view.emb y = ix2 (gr t (y 0)) (y 1) := by blk_ext [idx t, gr]
  rw [e]
  blk_simp
  rw [after0_6]
  unfold outsAt0 out0_A_6
  frame_out
  exact block_norm m c t y

theorem final7 : (dats m 0 c).arrAt 7 cfg0.N = norms (aH m c) (aW m c) (aX m c) (aG m c) (aB m c) := by
  refine (dats m 0 c).arrAt_eq_of_covers 7 _ (by decide +kernel) fun t hf y => ?_
  have e : ((cfg0.win 7).blk t).view.emb y = ix2 (gr t (y 0)) (y 1) := by blk_ext [idx t, gr]
  rw [e]
  blk_simp
  rw [after0_7]
  unfold outsAt0 out0_A_7
  frame_out
  exact block_norm m c t y

end Cert.OutFwdIdeal.Pay

namespace Cert.OutFwdRefIdeal.Real

open Cert.OutFwdRefIdeal Cert.OutFwdRefIdeal.Gen Cert.OutFwdRefIdeal.Read
open Cert.NormFwd (sumAt sums norms)
open Cert.OutFwdIdeal.Pay (both both_apply)

variable (u : Vec Ideal S4x2048x768 .bf16) (v : Vec Ideal S4x2048x256 .bf16) (w : Vec Ideal S1024x1024 .f32) (x : Vec Ideal S4x2048x1024 .f32)
  (g b : Vec Ideal S1024 .f32)

/-- The columns side by side. -/
theorem v2_eq : val_main_v2 (F := Ideal) u v = both u v := by
  funext i
  idx_vars i
  rw [both_apply]
  pointwise [val_main_v2]

/-- The reference's sum. -/
theorem v5_apply (i : S4x2048x1024.Idx) : val_main_v5 (F := Ideal) u v w x i = sumAt (both u v) w x (i 0) (i 1) (i 2) := by
  unfold val_main_v5 val_main_v4 val_main_v3
  rw [v2_eq]
  generalize both u v = h
  idx_vars i
  pointwise [val_main_v1, val_main_v0, val_main_cst, sumAt, Cert.NormFwd.mix]

/-- The reference's normalised rows. -/
theorem v29_apply (i : S4x2048x1024.Idx) : val_main_v29 (F := Ideal) u v w x g b i
    = Cert.NormFwd.norm (sumAt (both u v) w x (i 0) (i 1)) (fun d => g (ix1 d)) (fun d => b (ix1 d)) (i 2) := by
  refine (Cert.NormFwd.ref_apply (val_main_v5 (F := Ideal) u v w x) g b i).trans ?_
  exact congrArg (fun z => Cert.NormFwd.norm z _ _ _) (funext fun d => v5_apply u v w x _)

theorem v30_eq : val_main_v30 (F := Ideal) u v w x = sums (both u v) w x := by
  funext i
  unfold val_main_v30
  idx_vars i
  pointwise []
  exact v5_apply u v w x _

theorem v31_eq : val_main_v31 (F := Ideal) u v w x g b = norms (both u v) w x g b := by
  funext i
  unfold val_main_v31
  idx_vars i
  pointwise []
  exact v29_apply u v w x g b _

theorem v33_eq : val_main_v33 (F := Ideal) u v w x g b = norms (both u v) w x g b := v31_eq u v w x g b

end Cert.OutFwdRefIdeal.Real

namespace Cert.OutProof

open Cert.OutFwdIdeal.Pay in
/-- The kernel and the forward lines leave the same arrays. -/
theorem algebraic : Cert.algebraic_OutFwdIdeal_OutFwdRefIdeal (hOutFwdIdeal := Cert.OutFwdIdeal.Gen.facts)
    (hOutFwdRefIdeal := Cert.OutFwdRefIdeal.Gen.facts) := by
  intro m ρ m' ρ' _ hag
  refine ⟨fun c => (Cert.OutFwdIdeal.Gen.dats m 0 c).arrAt 5 Cert.OutFwdIdeal.cfg0.N, fun c => (Cert.OutFwdIdeal.Gen.dats m 0 c).arrAt 6 Cert.OutFwdIdeal.cfg0.N,
    fun c => (Cert.OutFwdIdeal.Gen.dats m 0 c).arrAt 7 Cert.OutFwdIdeal.cfg0.N,
    Cert.OutFwdIdeal.Value.run_blocks m ρ, θ_run_mono (Cert.OutFwdRefIdeal.Value.run m' ρ') fun r h c => ?_⟩
  obtain ⟨a0, a1, a2, a3, a4, a5⟩ := hag c
  obtain ⟨h0, h1, h2, hrest⟩ := h c
  refine ⟨?_, ?_, ?_, hrest⟩
  · refine (h0.trans (Cert.OutFwdRefIdeal.Read.val_main_v30_eq _ _ _ _)).trans ?_
    rw [a0, a1, a2, a3]
    exact (Cert.OutFwdRefIdeal.Real.v30_eq _ _ _ _).trans (final5 m c).symm
  · refine (h1.trans (Cert.OutFwdRefIdeal.Read.val_main_v31_eq m' c)).trans ?_
    rw [a0, a1, a2, a3, a4, a5]
    exact (Cert.OutFwdRefIdeal.Real.v31_eq _ _ _ _ _ _).trans (final6 m c).symm
  · refine (h2.trans (Cert.OutFwdRefIdeal.Read.val_main_v33_eq m' c)).trans ?_
    rw [a0, a1, a2, a3, a4, a5]
    exact (Cert.OutFwdRefIdeal.Real.v33_eq _ _ _ _ _ _).trans (final7 m c).symm

end Cert.OutProof

end
-- ==== Proof.DownClaim.lean ====
/- The feed-forward's second product with the residual branch and the normalisation after it: the kernel leaves the sum,
   the normalised rows and these rounded, whatever the arguments hold. -/
module

public import proofs.«01_k».proof.Defs
public import proofs.«01_k».proof.Proof.Gen.DownFwdIdeal.Value
public import proofs.«01_k».proof.Proof.Gen.DownFwdRefIdeal.Run
public import proofs.«01_k».proof.Proof.Gen.DownFwdRefIdeal.Read
public import Idealize.ShloMosaic.Lib.Pipeline.ValueKit
public import Idealize.ShloMosaic.Lib.Claim
public import proofs.«01_k».proof.Proof.NormFwd
public import proofs.«01_k».proof.Proof.RealLift

@[expose] public section

set_option maxRecDepth 16384

noncomputable section

open Idealize.ShloMosaic Idealize.ShloMosaic.TcCoe Idealize.SL.Sem
open Idealize.ShloMosaic.Pipeline (Dat)

namespace Cert.DownFwdIdeal.Pay

open Cert.DownFwdIdeal Cert.DownFwdIdeal.Gen Cert.NormFwd
open Cert.RealLift (blockOf placeOf)

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0]
    ∧ win0_7.index t = ![t.val, 0] :=
  (by decide +kernel : ∀ t : Fin grid0.N, _)

/-- The row of all 8192 at row `r` of point `t`'s block. -/
def gr (t : Fin cfg0.N) (r : Fin 512) : Fin 8192 := ⟨t.val * 512 + r.val, by have := t.isLt; have h : cfg0.N = 16 := N_0; omega⟩

/-- The hidden columns. -/
abbrev aH : Vec Ideal S4x2048x2816 .bf16 := m ((c : Thread nD τ).loc main_arg0)
/-- The weights. -/
abbrev aW : Vec Ideal S2816x1024 .f32 := m ((c : Thread nD τ).loc main_arg1)
/-- The residual branch. -/
abbrev aX : Vec Ideal S4x2048x1024 .f32 := m ((c : Thread nD τ).loc main_arg2)
/-- The scale. -/
abbrev aG : Vec Ideal S1024 .f32 := m ((c : Thread nD τ).loc main_arg3)
/-- The shift. -/
abbrev aB : Vec Ideal S1024 .f32 := m ((c : Thread nD τ).loc main_arg4)

theorem iblk0 (t : Fin cfg0.N) : (iblk m c 0 t : Vec Ideal S512x2816 .bf16)
    = fun j => aH m c (ix3 (blockOf (gr t (j 0))) (placeOf (gr t (j 0))) (j 1)) := by
  have h : V m c main_v0 = fun i : S8192x2816.Idx => aH m c (ix3 (blockOf (i 0)) (placeOf (i 0)) (i 1)) := by
    entry_read
    funext i
    idx_vars i
    pointwise []
  funext j
  blk_simp [iblk]
  rw [show V m c (Pipeline.arrRef spec0 0) = _ from h]
  refine congrArg (fun i : S8192x2816.Idx => aH m c (ix3 (blockOf (i 0)) (placeOf (i 0)) (i 1))) (?_ : _ = ix2 (gr t (j 0)) (j 1))
  blk_ext [idx t, gr]

theorem iblk1 (t : Fin cfg0.N) : (iblk m c 1 t : Vec Ideal S2816x1024 .bf16) = fun j => aW m c j := by
  have h : V m c main_v1 = fun i : S2816x1024.Idx => aW m c i := by
    entry_read
    funext i
    idx_vars i
    pointwise []
  funext j
  blk_simp [iblk]
  rw [show V m c (Pipeline.arrRef spec0 1) = _ from h]
  refine congrArg (fun i : S2816x1024.Idx => aW m c i) (?_ : _ = j)
  blk_ext [idx t]

theorem iblk2 (t : Fin cfg0.N) : (iblk m c 2 t : Vec Ideal S512x1024 .f32)
    = fun j => aX m c (ix3 (blockOf (gr t (j 0))) (placeOf (gr t (j 0))) (j 1)) := by
  have h : V m c main_v2 = fun i : S8192x1024.Idx => aX m c (ix3 (blockOf (i 0)) (placeOf (i 0)) (i 1)) := by
    entry_read
    funext i
    idx_vars i
    pointwise []
  funext j
  blk_simp [iblk]
  rw [show V m c (Pipeline.arrRef spec0 2) = _ from h]
  refine congrArg (fun i : S8192x1024.Idx => aX m c (ix3 (blockOf (i 0)) (placeOf (i 0)) (i 1))) (?_ : _ = ix2 (gr t (j 0)) (j 1))
  blk_ext [idx t, gr]

theorem iblk3 (t : Fin cfg0.N) : (iblk m c 3 t : Vec Ideal S1x1024 .f32) = fun j => aG m c (ix1 (j 1)) := by
  have h : V m c main_v3 = fun i : S1x1024.Idx => aG m c (ix1 (i 1)) := by
    entry_read
    funext i
    idx_vars i
    pointwise []
  funext j
  blk_simp [iblk]
  rw [show V m c (Pipeline.arrRef spec0 3) = _ from h]
  refine congrArg (fun i : S1x1024.Idx => aG m c (ix1 (i 1))) (?_ : _ = j)
  blk_ext [idx t]

theorem iblk4 (t : Fin cfg0.N) : (iblk m c 4 t : Vec Ideal S1x1024 .f32) = fun j => aB m c (ix1 (j 1)) := by
  have h : V m c main_v4 = fun i : S1x1024.Idx => aB m c (ix1 (i 1)) := by
    entry_read
    funext i
    idx_vars i
    pointwise []
  funext j
  blk_simp [iblk]
  rw [show V m c (Pipeline.arrRef spec0 4) = _ from h]
  refine congrArg (fun i : S1x1024.Idx => aB m c (ix1 (i 1))) (?_ : _ = j)
  blk_ext [idx t]

/-- The product of a block, summed up from nothing. -/
theorem pay2_apply (h : Vec Ideal S512x2816 .bf16) (w : Vec Ideal S2816x1024 .bf16) (i : S512x1024.Idx) :
    k0_pay2 (F := Ideal) (k0_pay1 (F := Ideal)) h w i = ∑ k, h (ix2 (i 0) k) * w (ix2 k (i 1)) := by
  idx_vars i
  pointwise [k0_pay2, k0_pay1]

/-- The block of sums. -/
theorem block_sum (t : Fin cfg0.N) (y : S512x1024.Idx) :
    k0_pay3 (F := Ideal) (iblk m c 2 t) (k0_pay2 (F := Ideal) (k0_pay1 (F := Ideal)) (iblk m c 0 t) (iblk m c 1 t)) y
      = sums (aH m c) (aW m c) (aX m c) (ix2 (gr t (y 0)) (y 1)) := by
  refine (Cert.NormFwd.pay3_apply _ _ y).trans ?_
  rw [pay2_apply, iblk0, iblk1, iblk2]
  idx_vars y
  rfl

/-- The block of normalised rows. -/
theorem block_norm (t : Fin cfg0.N) (y : S512x1024.Idx) :
    k0_pay4 (F := Ideal) (iblk m c 2 t) (k0_pay2 (F := Ideal) (k0_pay1 (F := Ideal)) (iblk m c 0 t) (iblk m c 1 t)) (iblk m c 3 t) (iblk m c 4 t) y
      = norms (aH m c) (aW m c) (aX m c) (aG m c) (aB m c) (ix2 (gr t (y 0)) (y 1)) := by
  refine (Cert.NormFwd.pay4_apply _ _ _ _ y).trans ?_
  have e : (fun d : Fin 1024 => Cert.OutFwdIdeal.Gen.k0_pay3 (F := Ideal) (iblk m c 2 t)
      (k0_pay2 (F := Ideal) (k0_pay1 (F := Ideal)) (iblk m c 0 t) (iblk m c 1 t)) (ix2 (y 0) d))
      = sumAt (aH m c) (aW m c) (aX m c) (blockOf (gr t (y 0))) (placeOf (gr t (y 0))) :=
    funext fun d => block_sum m c t (ix2 (y 0) d)
  rw [e, iblk3, iblk4]
  idx_vars y
  rfl

theorem final5 : (dats m 0 c).arrAt 5 cfg0.N = sums (aH m c) (aW m c) (aX m c) := by
  refine (dats m 0 c).arrAt_eq_of_covers 5 _ (by decide +kernel) fun t hf y => ?_
  have e : ((cfg0.win 5).blk t).view.emb y = ix2 (gr t (y 0)) (y 1) := by blk_ext [idx t, gr]
  rw [e]
  blk_simp
  rw [after0_5]
  unfold outsAt0 out0_A_5
  frame_out
  exact block_sum m c t y

theorem final6 : (dats m 0 c).arrAt 6 cfg0.N = norms (aH m c) (aW m c) (aX m c) (aG m c) (aB m c) := by
  refine (dats m 0 c).arrAt_eq_of_covers 6 _ (by decide +kernel) fun t hf y => ?_
  have e : ((cfg0.win 6).blk t).view.emb y = ix2 (gr t (y 0)) (y 1) := by blk_ext [idx t, gr]
  rw [e]
  blk_simp
  rw [after0_6]
  unfold outsAt0 out0_A_6
  frame_out
  exact block_norm m c t y

theorem final7 : (dats m 0 c).arrAt 7 cfg0.N = norms (aH m c) (aW m c) (aX m c) (aG m c) (aB m c) := by
  refine (dats m 0 c).arrAt_eq_of_covers 7 _ (by decide +kernel) fun t hf y => ?_
  have e : ((cfg0.win 7).blk t).view.emb y = ix2 (gr t (y 0)) (y 1) := by blk_ext [idx t, gr]
  rw [e]
  blk_simp
  rw [after0_7]
  unfold outsAt0 out0_A_7
  frame_out
  exact block_norm m c t y

end Cert.DownFwdIdeal.Pay

namespace Cert.DownFwdRefIdeal.Real

open Cert.DownFwdRefIdeal Cert.DownFwdRefIdeal.Gen Cert.DownFwdRefIdeal.Read
open Cert.NormFwd (sumAt sums norms)

variable (h : Vec Ideal S4x2048x2816 .bf16) (w : Vec Ideal S2816x1024 .f32) (x : Vec Ideal S4x2048x1024 .f32) (g b : Vec Ideal S1024 .f32)

/-- The reference's sum. -/
theorem v4_apply (i : S4x2048x1024.Idx) : val_main_v4 (F := Ideal) h w x i = sumAt h w x (i 0) (i 1) (i 2) := by
  idx_vars i
  pointwise [val_main_v4, val_main_v1, val_main_v0, val_main_cst, val_main_v3, val_main_v2, sumAt, Cert.NormFwd.mix]

/-- The reference's normalised rows. -/
theorem v28_apply (i : S4x2048x1024.Idx) : val_main_v28 (F := Ideal) h w x g b i
    = Cert.NormFwd.norm (sumAt h w x (i 0) (i 1)) (fun d => g (ix1 d)) (fun d => b (ix1 d)) (i 2) := by
  refine (Cert.NormFwd.ref_apply (val_main_v4 (F := Ideal) h w x) g b i).trans ?_
  exact congrArg (fun z => Cert.NormFwd.norm z _ _ _) (funext fun d => v4_apply h w x _)

theorem v29_eq : val_main_v29 (F := Ideal) h w x = sums h w x := by
  funext i
  unfold val_main_v29
  idx_vars i
  pointwise []
  exact v4_apply h w x _

theorem v30_eq : val_main_v30 (F := Ideal) h w x g b = norms h w x g b := by
  funext i
  unfold val_main_v30
  idx_vars i
  pointwise []
  exact v28_apply h w x g b _

theorem v32_eq : val_main_v32 (F := Ideal) h w x g b = norms h w x g b := v30_eq h w x g b

end Cert.DownFwdRefIdeal.Real

namespace Cert.DownProof

open Cert.DownFwdIdeal.Pay in
/-- The kernel and the forward lines leave the same arrays. -/
theorem algebraic : Cert.algebraic_DownFwdIdeal_DownFwdRefIdeal (hDownFwdIdeal := Cert.DownFwdIdeal.Gen.facts)
    (hDownFwdRefIdeal := Cert.DownFwdRefIdeal.Gen.facts) := by
  intro m ρ m' ρ' _ hag
  refine ⟨fun c => (Cert.DownFwdIdeal.Gen.dats m 0 c).arrAt 5 Cert.DownFwdIdeal.cfg0.N, fun c => (Cert.DownFwdIdeal.Gen.dats m 0 c).arrAt 6 Cert.DownFwdIdeal.cfg0.N,
    fun c => (Cert.DownFwdIdeal.Gen.dats m 0 c).arrAt 7 Cert.DownFwdIdeal.cfg0.N,
    Cert.DownFwdIdeal.Value.run_blocks m ρ, θ_run_mono (Cert.DownFwdRefIdeal.Value.run m' ρ') fun r h c => ?_⟩
  obtain ⟨a0, a1, a2, a3, a4⟩ := hag c
  obtain ⟨h0, h1, h2, hrest⟩ := h c
  refine ⟨?_, ?_, ?_, hrest⟩
  · refine (h0.trans (Cert.DownFwdRefIdeal.Read.val_main_v29_eq _ _ _)).trans ?_
    rw [a0, a1, a2]
    exact (Cert.DownFwdRefIdeal.Real.v29_eq _ _ _).trans (final5 m c).symm
  · refine (h1.trans (Cert.DownFwdRefIdeal.Read.val_main_v30_eq _ _ _ _ _)).trans ?_
    rw [a0, a1, a2, a3, a4]
    exact (Cert.DownFwdRefIdeal.Real.v30_eq _ _ _ _ _).trans (final6 m c).symm
  · refine (h2.trans (Cert.DownFwdRefIdeal.Read.val_main_v32_eq _ _ _ _ _)).trans ?_
    rw [a0, a1, a2, a3, a4]
    exact (Cert.DownFwdRefIdeal.Real.v32_eq _ _ _ _ _).trans (final7 m c).symm

end Cert.DownProof

end
-- ==== Proof.ProjPay.lean ====
/- What the kernel of the input projection's backward pass computes in one block of rows, at real numbers. -/
module

public import proofs.«01_k».proof.Proof.Gen.ProjBwdIdeal.Skeleton
public import proofs.«01_k».proof.Proof.RealLift
public import proofs.«01_k».proof.Proof.LayerNorm

@[expose] public section

set_option maxRecDepth 16384

noncomputable section

open Idealize.ShloMosaic Idealize.ShloMosaic.TcCoe Idealize.SL.Sem

namespace Cert.ProjBwdIdeal.Pay

open Cert.ProjBwdIdeal Cert.ProjBwdIdeal.Gen Cert.RealLift Cert.LayerNorm

/-- Row `r` of a block. -/
abbrev row {n k : ℕ} (z : (⟨2, ![n, k]⟩ : Shape).Idx → ℝ) (r : Fin n) : Fin k → ℝ := fun d => z (ix2 r d)

/-- The deviations of each row from its mean. -/
theorem pay8_real (z : S512x1024.Idx → ℝ) :
    k0_pay8 (F := Ideal) (fun i => ((z i : ℝ) : EReal)) = fun i => ((cen (row z (i 0)) (i 1) : ℝ) : EReal) := by
  funext i
  idx_vars i
  pointwise [k0_pay8]
  simp only [coe_sum, div_1024, ← EReal.coe_sub, cen, mean, Nat.cast_ofNat]

/-- The reciprocal standard deviation of each row. -/
theorem pay9_real (z : S512x1024.Idx → ℝ) :
    k0_pay9 (F := Ideal) (fun i => ((z i : ℝ) : EReal)) = fun i => ((rstd eps (row z (i 0)) : ℝ) : EReal) := by
  funext i
  unfold k0_pay9
  rw [pay8_real]
  idx_vars i
  pointwise []
  simp only [coe_sum, ← EReal.coe_mul, div_1024, ofBits_eps, ← EReal.coe_add]
  rw [show (∑ x : Fin 1024, cen (row z i0) x * cen (row z i0) x) / 1024 + eps = var (row z i0) + eps by
    simp only [var, mean, Nat.cast_ofNat], rsqrt_real (var_add_pos eps_pos _), rstd]

/-- Each row normalised. -/
theorem pay10_real (z : S512x1024.Idx → ℝ) :
    k0_pay10 (F := Ideal) (fun i => ((z i : ℝ) : EReal)) = fun i => ((xhat eps (row z (i 0)) (i 1) : ℝ) : EReal) := by
  funext i
  unfold k0_pay10
  rw [pay9_real, pay8_real]
  idx_vars i
  pointwise []
  simp only [← EReal.coe_mul, xhat]

/-- The gradient that reaches the normalisation: the residual branch's, and the product of the gradients of the
    projected columns with the weights. -/
def dy (a : S512x1024.Idx → ℝ) (h : S512x2560.Idx → ℝ) (w : S2560x1024.Idx → ℝ) (i : S512x1024.Idx) : ℝ :=
  alpha * a i + ∑ k : Fin 2560, h (ix2 (i 0) k) * w (ix2 k (i 1))

theorem pay5_real (a : S512x1024.Idx → ℝ) (h : S512x2560.Idx → ℝ) (w : S2560x1024.Idx → ℝ) :
    k0_pay5 (F := Ideal) (fun i => ((a i : ℝ) : EReal)) (fun i => ((h i : ℝ) : EReal)) (fun i => ((w i : ℝ) : EReal))
      = fun i => ((dy a h w i : ℝ) : EReal) := by
  funext i
  idx_vars i
  pointwise [k0_pay5]
  simp only [ofBits_alpha, ← EReal.coe_mul, coe_sum, ← EReal.coe_add]
  rfl

/-- The gradient of the normalised row, scaled by the weights `g`. -/
theorem pay11_real (a : S512x1024.Idx → ℝ) (h : S512x2560.Idx → ℝ) (w : S2560x1024.Idx → ℝ) (g : S1x1024.Idx → ℝ) :
    k0_pay11 (F := Ideal) (fun i => ((a i : ℝ) : EReal)) (fun i => ((h i : ℝ) : EReal)) (fun i => ((w i : ℝ) : EReal))
      (fun i => ((g i : ℝ) : EReal)) = fun i => ((dy a h w i * g (ix2 0 (i 1)) : ℝ) : EReal) := by
  funext i
  unfold k0_pay11
  rw [pay5_real]
  idx_vars i
  pointwise []
  rw [← EReal.coe_mul]

/-- The block of the gradient of the rows before the normalisation. -/
theorem pay1_real (z a : S512x1024.Idx → ℝ) (h : S512x2560.Idx → ℝ) (w : S2560x1024.Idx → ℝ) (g : S1x1024.Idx → ℝ) :
    k0_pay1 (F := Ideal) (k0_pay9 (fun i => ((z i : ℝ) : EReal))) (k0_pay10 (fun i => ((z i : ℝ) : EReal)))
      (k0_pay11 (fun i => ((a i : ℝ) : EReal)) (fun i => ((h i : ℝ) : EReal)) (fun i => ((w i : ℝ) : EReal)) (fun i => ((g i : ℝ) : EReal)))
      (k0_pay12 (fun i => ((a i : ℝ) : EReal)) (fun i => ((h i : ℝ) : EReal)) (fun i => ((w i : ℝ) : EReal)) (fun i => ((g i : ℝ) : EReal)))
      (Scalar.ofBits .f32 0x44800000#32)
      = fun i => ((back eps (row z (i 0)) (fun d => dy a h w (ix2 (i 0) d) * g (ix2 0 d)) (i 1) : ℝ) : EReal) := by
  funext i
  unfold k0_pay12
  rw [pay9_real, pay10_real, pay11_real]
  idx_vars i
  pointwise [k0_pay1]
  simp only [← EReal.coe_mul, coe_sum, div_1024, ← EReal.coe_sub, back, mean, Nat.cast_ofNat]

/-- The block's rows add to the running gradient of the scale. -/
theorem pay3_real (z a : S512x1024.Idx → ℝ) (h : S512x2560.Idx → ℝ) (w : S2560x1024.Idx → ℝ) (s : Vec Ideal S1x1024 .f32) :
    k0_pay3 (F := Ideal) (k0_pay5 (fun i => ((a i : ℝ) : EReal)) (fun i => ((h i : ℝ) : EReal)) (fun i => ((w i : ℝ) : EReal)))
      (k0_pay10 (fun i => ((z i : ℝ) : EReal))) s
      = fun i => s i + ((∑ r : Fin 512, dy a h w (ix2 r (i 1)) * xhat eps (row z r) (i 1) : ℝ) : EReal) := by
  funext i
  rw [pay5_real, pay10_real]
  idx_vars i
  pointwise [k0_pay3]
  simp only [← EReal.coe_mul, coe_sum]

/-- The block's rows add to the running gradient of the shift. -/
theorem pay4_real (a : S512x1024.Idx → ℝ) (h : S512x2560.Idx → ℝ) (w : S2560x1024.Idx → ℝ) (s : Vec Ideal S1x1024 .f32) :
    k0_pay4 (F := Ideal) (k0_pay5 (fun i => ((a i : ℝ) : EReal)) (fun i => ((h i : ℝ) : EReal)) (fun i => ((w i : ℝ) : EReal))) s
      = fun i => s i + ((∑ r : Fin 512, dy a h w (ix2 r (i 1)) : ℝ) : EReal) := by
  funext i
  rw [pay5_real]
  idx_vars i
  pointwise [k0_pay4]
  simp only [coe_sum]

end Cert.ProjBwdIdeal.Pay

end
-- ==== Proof.ProjFinal.lean ====
/- The arrays the kernel of the input projection's backward pass leaves, at real numbers. -/
module

public import proofs.«01_k».proof.Proof.Gen.ProjBwdIdeal.Value
public import Idealize.ShloMosaic.Lib.Pipeline.ValueKit
public import Idealize.ShloMosaic.Lib.Claim
public import proofs.«01_k».proof.Proof.ProjPay

@[expose] public section

set_option maxRecDepth 16384

noncomputable section

open Idealize.ShloMosaic Idealize.ShloMosaic.TcCoe Idealize.SL.Sem
open Idealize.ShloMosaic.Pipeline (Dat)

namespace Cert.ProjBwdIdeal.Pay

open Cert.ProjBwdIdeal Cert.ProjBwdIdeal.Gen Cert.RealLift Cert.LayerNorm

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0]
    ∧ win0_3.index t = ![t.val, 0] ∧ win0_4.index t = ![0, 0]
    ∧ win0_5.index t = ![t.val, 0] ∧ win0_6.index t = ![t.val, 0] ∧ win0_7.index t = ![0, 0] ∧ win0_8.index t = ![0, 0] :=
  (by decide +kernel : ∀ t : Fin grid0.N, _)

/-- Row `r` of block `t` in the whole array. -/
def gr (t : Fin cfg0.N) (r : Fin 512) : Fin 8192 := ⟨t.val * 512 + r.val, by have := t.isLt; have h : cfg0.N = 16 := N_0; omega⟩

/-- A sum over the blocks of the sums over each block's rows is the sum over all rows. -/
theorem sum_rows (f : Fin 8192 → ℝ) : ∑ t : Fin cfg0.N, ∑ r : Fin 512, f (gr t r) = ∑ r, f r :=
  (Fin.sum_univ_tiles cfg0.N 512 (by rw [show cfg0.N = 16 from N_0]) f).symm

/-- Window 0's block at point `t`, read as real numbers. -/
theorem iblk0 (A : S8192x2560.Idx → ℝ) (h : V m c main_v4 = fun i => ((A i : ℝ) : EReal)) (t : Fin cfg0.N) :
    (iblk m c 0 t : Vec Ideal S512x2560 .bf16) = fun j => ((A (ix2 (gr t (j 0)) (j 1)) : ℝ) : EReal) := by
  funext j
  blk_simp [iblk]
  rw [show V m c (Pipeline.arrRef spec0 0) = _ from h]
  refine congrArg (fun i => ((A i : ℝ) : EReal)) ?_
  blk_ext [idx t, gr]

/-- Window 1's block is the whole array, read as real numbers. -/
theorem iblk1 (A : S2560x1024.Idx → ℝ) (h : V m c main_v6 = fun i => ((A i : ℝ) : EReal)) (t : Fin cfg0.N) :
    (iblk m c 1 t : Vec Ideal S2560x1024 .bf16) = fun j => ((A j : ℝ) : EReal) := by
  funext j
  blk_simp [iblk]
  rw [show V m c (Pipeline.arrRef spec0 1) = _ from h]
  refine congrArg (fun i => ((A i : ℝ) : EReal)) ?_
  blk_ext [idx t]

/-- Window 2's block at point `t`, read as real numbers. -/
theorem iblk2 (A : S8192x1024.Idx → ℝ) (h : V m c main_v7 = fun i => ((A i : ℝ) : EReal)) (t : Fin cfg0.N) :
    (iblk m c 2 t : Vec Ideal S512x1024 .f32) = fun j => ((A (ix2 (gr t (j 0)) (j 1)) : ℝ) : EReal) := by
  funext j
  blk_simp [iblk]
  rw [show V m c (Pipeline.arrRef spec0 2) = _ from h]
  refine congrArg (fun i => ((A i : ℝ) : EReal)) ?_
  blk_ext [idx t, gr]

/-- Window 3's block at point `t`, read as real numbers. -/
theorem iblk3 (A : S8192x1024.Idx → ℝ) (h : V m c main_v8 = fun i => ((A i : ℝ) : EReal)) (t : Fin cfg0.N) :
    (iblk m c 3 t : Vec Ideal S512x1024 .f32) = fun j => ((A (ix2 (gr t (j 0)) (j 1)) : ℝ) : EReal) := by
  funext j
  blk_simp [iblk]
  rw [show V m c (Pipeline.arrRef spec0 3) = _ from h]
  refine congrArg (fun i => ((A i : ℝ) : EReal)) ?_
  blk_ext [idx t, gr]

/-- Window 4's block is the whole array, read as real numbers. -/
theorem iblk4 (A : S1x1024.Idx → ℝ) (h : V m c main_v9 = fun i => ((A i : ℝ) : EReal)) (t : Fin cfg0.N) :
    (iblk m c 4 t : Vec Ideal S1x1024 .f32) = fun j => ((A j : ℝ) : EReal) := by
  funext j
  blk_simp [iblk]
  rw [show V m c (Pipeline.arrRef spec0 4) = _ from h]
  refine congrArg (fun i => ((A i : ℝ) : EReal)) ?_
  blk_ext [idx t]

/-- The gradient that reaches the normalisation, over all rows. -/
def dyF (A : S8192x1024.Idx → ℝ) (H : S8192x2560.Idx → ℝ) (W : S2560x1024.Idx → ℝ) (r : Fin 8192) (d : Fin 1024) : ℝ :=
  alpha * A (ix2 r d) + ∑ k : Fin 2560, H (ix2 r k) * W (ix2 k d)

variable (H : S8192x2560.Idx → ℝ) (W : S2560x1024.Idx → ℝ) (A Z : S8192x1024.Idx → ℝ) (G : S1x1024.Idx → ℝ)
  (hH : V m c main_v4 = fun i => ((H i : ℝ) : EReal)) (hW : V m c main_v6 = fun i => ((W i : ℝ) : EReal))
  (hA : V m c main_v7 = fun i => ((A i : ℝ) : EReal)) (hZ : V m c main_v8 = fun i => ((Z i : ℝ) : EReal))
  (hG : V m c main_v9 = fun i => ((G i : ℝ) : EReal))
include hH hW hA hZ hG

/-- What every point computes for its block of the gradient. -/
theorem point1 (t : Fin cfg0.N) (y : S512x1024.Idx) :
    k0_pay1 (F := Ideal) (k0_pay9 (iblk m c 3 t)) (k0_pay10 (iblk m c 3 t))
      (k0_pay11 (iblk m c 2 t) (iblk m c 0 t) (iblk m c 1 t) (iblk m c 4 t))
      (k0_pay12 (iblk m c 2 t) (iblk m c 0 t) (iblk m c 1 t) (iblk m c 4 t)) (FloatOps.ofBits FTy.f32 0x44800000#32) y
      = ((back eps (row Z (gr t (y 0))) (fun d => dyF A H W (gr t (y 0)) d * G (ix2 0 d)) (y 1) : ℝ) : EReal) := by
  rw [iblk0 m c H hH t, iblk1 m c W hW t, iblk2 m c A hA t, iblk3 m c Z hZ t, iblk4 m c G hG t]
  exact congrFun (pay1_real _ _ _ _ _) y

/-- The gradient of the rows before the normalisation. -/
theorem final5 : (dats m 0 c).arrAt 5 cfg0.N = fun i : S8192x1024.Idx =>
    ((back eps (row Z (i 0)) (fun d => dyF A H W (i 0) d * G (ix2 0 d)) (i 1) : ℝ) : EReal) := by
  refine (dats m 0 c).arrAt_eq_of_covers 5 _ (by decide +kernel) fun t hf y => ?_
  have e : ((cfg0.win 5).blk t).view.emb y = ix2 (gr t (y 0)) (y 1) := by blk_ext [idx t, gr]
  rw [e]
  blk_simp
  rw [after0_5]
  by_cases h : t.val % 16 = 0
  · rw [outsAt0_A m c t h]
    frame_out
    exact point1 m c H W A Z G hH hW hA hZ hG t y
  · rw [outsAt0_B m c t h]
    frame_out
    exact point1 m c H W A Z G hH hW hA hZ hG t y

/-- The same gradient in the narrow format, which at real numbers is the same array. -/
theorem final6 : (dats m 0 c).arrAt 6 cfg0.N = fun i : S8192x1024.Idx =>
    ((back eps (row Z (i 0)) (fun d => dyF A H W (i 0) d * G (ix2 0 d)) (i 1) : ℝ) : EReal) := by
  refine (dats m 0 c).arrAt_eq_of_covers 6 _ (by decide +kernel) fun t hf y => ?_
  have e : ((cfg0.win 6).blk t).view.emb y = ix2 (gr t (y 0)) (y 1) := by blk_ext [idx t, gr]
  rw [e]
  blk_simp
  rw [after0_6]
  by_cases h : t.val % 16 = 0
  · rw [outsAt0_A m c t h]
    frame_out
    exact point1 m c H W A Z G hH hW hA hZ hG t y
  · rw [outsAt0_B m c t h]
    frame_out
    exact point1 m c H W A Z G hH hW hA hZ hG t y

/-- The gradient of the normalisation's scale: over all rows, `dy · xhat`. -/
theorem final7 : (dats m 0 c).arrAt 7 cfg0.N = fun i : S1x1024.Idx =>
    ((∑ r : Fin 8192, dyF A H W r (i 1) * xhat eps (row Z r) (i 1) : ℝ) : EReal) := by
  have hpay (t : Fin cfg0.N) (s : Vec Ideal S1x1024 .f32) (i : S1x1024.Idx) :
      k0_pay3 (F := Ideal) (k0_pay5 (iblk m c 2 t) (iblk m c 0 t) (iblk m c 1 t)) (k0_pay10 (iblk m c 3 t)) s i
        = s i + ((∑ r : Fin 512, dyF A H W (gr t r) (i 1) * xhat eps (row Z (gr t r)) (i 1) : ℝ) : EReal) := by
    rw [iblk0 m c H hH t, iblk1 m c W hW t, iblk2 m c A hA t, iblk3 m c Z hZ t]
    exact congrFun (pay3_real _ _ _ _ _) i
  have hzero (i : S1x1024.Idx) : k0_pay6 (F := Ideal) i = 0 := by pointwise [k0_pay6]
  refine (dats m 0 c).arrAt_eq_of_after_last 7 t0_15 (by decide +kernel) _ fun j => ?_
  blk_simp
  rw [after0_7, Pipeline.eq_sum_fin_of_reset_step_apply_last (fun n h => (outsAt0 m c n h).2.2.1) 16 (fun _ => 0)
    (fun t i => ((∑ r : Fin 512, dyF A H W (gr t r) (i 1) * xhat eps (row Z (gr t r)) (i 1) : ℝ) : EReal))
    (fun t h i => by rw [outsAt0_A m c t h]; frame_out; exact (hpay t _ i).trans (congrArg (· + _) (hzero i)))
    (fun t h i => by rw [outsAt0_B m c t h]; frame_out; exact hpay t _ i) (le_of_eq N_0) t0_15 rfl j, zero_add, coe_sum]
  exact congrArg _ (sum_rows fun r => dyF A H W r (j 1) * xhat eps (row Z r) (j 1))

/-- The gradient of the normalisation's shift: over all rows, `dy`. -/
theorem final8 : (dats m 0 c).arrAt 8 cfg0.N = fun i : S1x1024.Idx =>
    ((∑ r : Fin 8192, dyF A H W r (i 1) : ℝ) : EReal) := by
  have hpay (t : Fin cfg0.N) (s : Vec Ideal S1x1024 .f32) (i : S1x1024.Idx) :
      k0_pay4 (F := Ideal) (k0_pay5 (iblk m c 2 t) (iblk m c 0 t) (iblk m c 1 t)) s i
        = s i + ((∑ r : Fin 512, dyF A H W (gr t r) (i 1) : ℝ) : EReal) := by
    rw [iblk0 m c H hH t, iblk1 m c W hW t, iblk2 m c A hA t]
    exact congrFun (pay4_real _ _ _ _) i
  have hzero (i : S1x1024.Idx) : k0_pay7 (F := Ideal) i = 0 := by pointwise [k0_pay7]
  refine (dats m 0 c).arrAt_eq_of_after_last 8 t0_15 (by decide +kernel) _ fun j => ?_
  blk_simp
  rw [after0_8, Pipeline.eq_sum_fin_of_reset_step_apply_last (fun n h => (outsAt0 m c n h).2.2.2) 16 (fun _ => 0)
    (fun t i => ((∑ r : Fin 512, dyF A H W (gr t r) (i 1) : ℝ) : EReal))
    (fun t h i => by rw [outsAt0_A m c t h]; frame_out; exact (hpay t _ i).trans (congrArg (· + _) (hzero i)))
    (fun t h i => by rw [outsAt0_B m c t h]; frame_out; exact hpay t _ i) (le_of_eq N_0) t0_15 rfl j, zero_add, coe_sum]
  exact congrArg _ (sum_rows fun r => dyF A H W r (j 1))

end Cert.ProjBwdIdeal.Pay

end
-- ==== Proof.ProjMath.lean ====
/- The gradient of the input projection and of the normalisation before it, at real numbers. -/
module

public import proofs.«01_k».proof.Proof.RealLift
public import proofs.«01_k».proof.Proof.LayerNorm

@[expose] public section

set_option maxRecDepth 16384

noncomputable section

open Idealize.ShloMosaic

namespace Cert.ProjMath

open Cert.RealLift Cert.LayerNorm

variable (q k v : (⟨3, ![4, 2048, 768]⟩ : Shape).Idx → ℝ) (qm : (⟨3, ![4, 2048, 256]⟩ : Shape).Idx → ℝ)
  (w : (⟨2, ![1024, 2560]⟩ : Shape).Idx → ℝ) (dz z : (⟨3, ![4, 2048, 1024]⟩ : Shape).Idx → ℝ)
  (g : (⟨1, ![1024]⟩ : Shape).Idx → ℝ)

/-- The gradients of the projection's columns, side by side. -/
def cols (a : Fin 4) (b : Fin 2048) (j : Fin 2560) : ℝ :=
  if h1 : j.val < 768 then q (ix3 a b ⟨j.val, h1⟩) else if h2 : j.val - 768 < 768 then k (ix3 a b ⟨j.val - 768, h2⟩)
    else if h3 : j.val - 768 - 768 < 768 then v (ix3 a b ⟨j.val - 768 - 768, h3⟩)
    else qm (ix3 a b ⟨j.val - 768 - 768 - 768, by omega⟩)

/-- The gradient that reaches the normalisation: the residual branch's and the projection's. -/
def dy (a : Fin 4) (b : Fin 2048) (d : Fin 1024) : ℝ :=
  alpha * dz (ix3 a b d) + ∑ j : Fin 2560, cols q k v qm a b j * w (ix2 d j)

/-- The gradient of the rows before the normalisation. -/
def dx (a : Fin 4) (b : Fin 2048) (d : Fin 1024) : ℝ :=
  back eps (row3 z a b) (fun e => dy q k v qm w dz a b e * g (ix1 e)) d

end Cert.ProjMath

end
-- ==== Proof.ProjEntry.lean ====
/- The arrays the kernel of the input projection's backward pass is given, at real numbers. -/
module

public import proofs.«01_k».proof.Proof.ProjFinal
public import proofs.«01_k».proof.Proof.ProjMath

@[expose] public section

set_option maxRecDepth 16384

noncomputable section

open Idealize.ShloMosaic Idealize.ShloMosaic.TcCoe Idealize.SL.Sem
open Idealize.ShloMosaic.Pipeline (Dat)

namespace Cert.ProjBwdIdeal.Pay

open Cert.ProjBwdIdeal Cert.ProjBwdIdeal.Gen Cert.RealLift Cert.LayerNorm Cert.ProjMath

variable (m : (ℓ : Loc nD τ sig) → Buf (Elt Ideal) ℓ) (c : Dev nD)

/-- Four arrays of columns put side by side, at one index. -/
theorem cat4 (x0 x1 x2 : Vec Ideal S8192x768 .bf16) (x3 : Vec Ideal S8192x256 .bf16) (h) (r : Fin 8192) (k : Fin 2560) :
    (concatenate S8192x2560 1 [⟨S8192x768, x0⟩, ⟨S8192x768, x1⟩, ⟨S8192x768, x2⟩, ⟨S8192x256, x3⟩] h : Vec Ideal S8192x2560 .bf16) (ix2 r k)
      = if h1 : k.val < 768 then x0 (ix2 r ⟨k.val, h1⟩) else if h2 : k.val - 768 < 768 then x1 (ix2 r ⟨k.val - 768, h2⟩)
        else if h3 : k.val - 768 - 768 < 768 then x2 (ix2 r ⟨k.val - 768 - 768, h3⟩)
        else x3 (ix2 r ⟨k.val - 768 - 768 - 768, by omega⟩) := by
  pointwise []

/-- The gradients of the projection's columns, side by side. -/
theorem entry4 (q k v : S4x2048x768.Idx → ℝ) (qm : S4x2048x256.Idx → ℝ) (hq : m ((c : Thread nD τ).loc main_arg0) = re q)
    (hk : m ((c : Thread nD τ).loc main_arg1) = re k) (hv : m ((c : Thread nD τ).loc main_arg2) = re v)
    (hm : m ((c : Thread nD τ).loc main_arg3) = re qm) :
    V m c main_v4 = fun i : S8192x2560.Idx => ((cols q k v qm (blockOf (i 0)) (placeOf (i 0)) (i 1) : ℝ) : EReal) := by
  show StableHlo.after (hostOps0 (F := Ideal)) _ _ = _
  unfold hostOps0
  simp only [StableHlo.after_cons, StableHlo.after_nil]
  after_results_simp
  funext i
  idx_vars i
  refine (cat4 _ _ _ _ _ i0 i1).trans ?_
  dsimp only [Matrix.cons_val]
  after_results_simp
  pointwise []
  unfold cols
  split_ifs
  · exact congrFun hq _
  · exact congrFun hk _
  · exact congrFun hv _
  · exact congrFun hm _

/-- The projection's weights, transposed. -/
theorem entry6 (w : S1024x2560.Idx → ℝ) (h : m ((c : Thread nD τ).loc main_arg4) = re w) :
    V m c main_v6 = fun i : S2560x1024.Idx => ((w (ix2 (i 1) (i 0)) : ℝ) : EReal) := by
  entry_read
  funext i
  idx_vars i
  pointwise []
  exact congrFun h _

/-- The gradient of the residual branch, row after row. -/
theorem entry7 (a : S4x2048x1024.Idx → ℝ) (h : m ((c : Thread nD τ).loc main_arg5) = re a) : V m c main_v7 = re (flat a) := by
  entry_read
  funext i
  idx_vars i
  pointwise []
  exact congrFun h _

/-- The rows before the normalisation, row after row. -/
theorem entry8 (z : S4x2048x1024.Idx → ℝ) (h : m ((c : Thread nD τ).loc main_arg6) = re z) : V m c main_v8 = re (flat z) := by
  entry_read
  funext i
  idx_vars i
  pointwise []
  exact congrFun h _

/-- The normalisation's scale, as one row. -/
theorem entry9 (g : S1024.Idx → ℝ) (h : m ((c : Thread nD τ).loc main_arg7) = re g) :
    V m c main_v9 = fun i : S1x1024.Idx => ((g (ix1 (i 1)) : ℝ) : EReal) := by
  entry_read
  funext i
  idx_vars i
  pointwise []
  exact congrFun h _

end Cert.ProjBwdIdeal.Pay

end
-- ==== Proof.XClaim.lean ====
/- The gradient of a mixing layer's input: the kernel leaves the product of the columns' gradients with the transposed
   weights and the scaled gradient of the residual branch on top of it, whatever the arguments hold. -/
module

public import proofs.«01_k».proof.Defs
public import proofs.«01_k».proof.Proof.Gen.XBwdIdeal.Value
public import proofs.«01_k».proof.Proof.Gen.XGradIdeal.Run
public import proofs.«01_k».proof.Proof.Gen.XGradIdeal.Read
public import Idealize.ShloMosaic.Lib.Pipeline.ValueKit
public import Idealize.ShloMosaic.Lib.Claim
public import proofs.«01_k».proof.Proof.ProjEntry

@[expose] public section

set_option maxRecDepth 16384

noncomputable section

open Idealize.ShloMosaic Idealize.ShloMosaic.TcCoe Idealize.SL.Sem
open Idealize.ShloMosaic.Pipeline (Dat)

namespace Cert.XBwdIdeal.Pay

open Cert.XBwdIdeal Cert.XBwdIdeal.Gen
open Cert.RealLift (blockOf placeOf)

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

/-- The row of all 8192 at row `r` of point `t`'s block. -/
def gr (t : Fin cfg0.N) (r : Fin 512) : Fin 8192 := ⟨t.val * 512 + r.val, by have := t.isLt; have h : cfg0.N = 16 := N_0; omega⟩

/-- The queries' gradient. -/
abbrev aQ : Vec Ideal S4x2048x768 .bf16 := m ((c : Thread nD τ).loc main_arg0)
/-- The keys' gradient. -/
abbrev aK : Vec Ideal S4x2048x768 .bf16 := m ((c : Thread nD τ).loc main_arg1)
/-- The values' gradient. -/
abbrev aV : Vec Ideal S4x2048x768 .bf16 := m ((c : Thread nD τ).loc main_arg2)
/-- The memory queries' gradient. -/
abbrev aM : Vec Ideal S4x2048x256 .bf16 := m ((c : Thread nD τ).loc main_arg3)
/-- The weights. -/
abbrev aW : Vec Ideal S1024x2560 .f32 := m ((c : Thread nD τ).loc main_arg4)
/-- The residual branch's gradient. -/
abbrev aZ : Vec Ideal S4x2048x1024 .f32 := m ((c : Thread nD τ).loc main_arg5)

/-- The gradients of the columns, side by side. -/
def side (q k v : Vec Ideal S4x2048x768 .bf16) (n : Vec Ideal S4x2048x256 .bf16) (a : Fin 4) (b : Fin 2048) (j : Fin 2560) : EReal :=
  if h1 : j.val < 768 then q (ix3 a b ⟨j.val, h1⟩) else if h2 : j.val - 768 < 768 then k (ix3 a b ⟨j.val - 768, h2⟩)
    else if h3 : j.val - 768 - 768 < 768 then v (ix3 a b ⟨j.val - 768 - 768, h3⟩)
    else n (ix3 a b ⟨j.val - 768 - 768 - 768, by omega⟩)

/-- The gradient of the input. -/
def grad (q k v : Vec Ideal S4x2048x768 .bf16) (n : Vec Ideal S4x2048x256 .bf16) (w : Vec Ideal S1024x2560 .f32)
    (z : Vec Ideal S4x2048x1024 .f32) : Vec Ideal S8192x1024 .f32 := fun i =>
  Ideal.ofBits .f32 0x3FD744FD#32 * z (ix3 (blockOf (i 0)) (placeOf (i 0)) (i 1))
    + ∑ j : Fin 2560, side q k v n (blockOf (i 0)) (placeOf (i 0)) j * w (ix2 (i 1) j)

theorem entry4 : V m c main_v4 = fun i : S8192x2560.Idx => side (aQ m c) (aK m c) (aV m c) (aM m c) (blockOf (i 0)) (placeOf (i 0)) (i 1) := by
  show StableHlo.after (hostOps0 (F := Ideal)) _ _ = _
  unfold hostOps0
  simp only [StableHlo.after_cons, StableHlo.after_nil]
  after_results_simp
  funext i
  idx_vars i
  refine (Cert.ProjBwdIdeal.Pay.cat4 _ _ _ _ _ i0 i1).trans ?_
  dsimp only [Matrix.cons_val]
  after_results_simp
  pointwise []
  unfold side
  split_ifs <;> rfl

theorem iblk0 (t : Fin cfg0.N) : (iblk m c 0 t : Vec Ideal S512x2560 .bf16)
    = fun j => side (aQ m c) (aK m c) (aV m c) (aM m c) (blockOf (gr t (j 0))) (placeOf (gr t (j 0))) (j 1) := by
  funext j
  blk_simp [iblk]
  rw [show V m c (Pipeline.arrRef spec0 0) = _ from entry4 m c]
  refine congrArg (fun i : S8192x2560.Idx => side (aQ m c) (aK m c) (aV m c) (aM m c) (blockOf (i 0)) (placeOf (i 0)) (i 1))
    (?_ : _ = ix2 (gr t (j 0)) (j 1))
  blk_ext [idx t, gr]

theorem iblk1 (t : Fin cfg0.N) : (iblk m c 1 t : Vec Ideal S2560x1024 .bf16) = fun j => aW m c (ix2 (j 1) (j 0)) := by
  have h : V m c main_v6 = fun i : S2560x1024.Idx => aW m c (ix2 (i 1) (i 0)) := by
    entry_read
    funext i
    idx_vars i
    pointwise []
  funext j
  blk_simp [iblk]
  rw [show V m c (Pipeline.arrRef spec0 1) = _ from h]
  refine congrArg (fun i : S2560x1024.Idx => aW m c (ix2 (i 1) (i 0))) (?_ : _ = j)
  blk_ext [idx t]

theorem iblk2 (t : Fin cfg0.N) : (iblk m c 2 t : Vec Ideal S512x1024 .f32)
    = fun j => aZ m c (ix3 (blockOf (gr t (j 0))) (placeOf (gr t (j 0))) (j 1)) := by
  have h : V m c main_v7 = fun i : S8192x1024.Idx => aZ m c (ix3 (blockOf (i 0)) (placeOf (i 0)) (i 1)) := by
    entry_read
    funext i
    idx_vars i
    pointwise []
  funext j
  blk_simp [iblk]
  rw [show V m c (Pipeline.arrRef spec0 2) = _ from h]
  refine congrArg (fun i : S8192x1024.Idx => aZ m c (ix3 (blockOf (i 0)) (placeOf (i 0)) (i 1))) (?_ : _ = ix2 (gr t (j 0)) (j 1))
  blk_ext [idx t, gr]

/-- The product of a block, summed up from nothing. -/
theorem pay2_apply (x : Vec Ideal S512x2560 .bf16) (w : Vec Ideal S2560x1024 .bf16) (i : S512x1024.Idx) :
    k0_pay2 (F := Ideal) (k0_pay1 (F := Ideal)) x w i = ∑ k, x (ix2 (i 0) k) * w (ix2 k (i 1)) := by
  idx_vars i
  pointwise [k0_pay2, k0_pay1]

/-- The scaled residual branch on top of the product. -/
theorem pay3_apply (p z : Vec Ideal S512x1024 .f32) (i : S512x1024.Idx) :
    k0_pay3 (F := Ideal) p z i = Ideal.ofBits .f32 0x3FD744FD#32 * z i + p i := by
  refine Eq.trans ?_ (add_comm _ _)
  idx_vars i
  pointwise [k0_pay3]

theorem final3 : (dats m 0 c).arrAt 3 cfg0.N = grad (aQ m c) (aK m c) (aV m c) (aM m c) (aW m c) (aZ m c) := by
  refine (dats m 0 c).arrAt_eq_of_covers 3 _ (by decide +kernel) fun t hf y => ?_
  have e : ((cfg0.win 3).blk t).view.emb y = ix2 (gr t (y 0)) (y 1) := by blk_ext [idx t, gr]
  rw [e]
  blk_simp
  rw [after0_3]
  unfold outsAt0 out0_A_3
  frame_out
  refine (pay3_apply _ _ y).trans ?_
  rw [pay2_apply, iblk0, iblk1, iblk2]
  idx_vars y
  rfl

end Cert.XBwdIdeal.Pay

namespace Cert.XGradIdeal.Real

open Cert.XGradIdeal Cert.XGradIdeal.Gen Cert.XGradIdeal.Read
open Cert.XBwdIdeal.Pay (side grad)

variable (q k v : Vec Ideal S4x2048x768 .bf16) (n : Vec Ideal S4x2048x256 .bf16) (w : Vec Ideal S1024x2560 .f32)
  (z : Vec Ideal S4x2048x1024 .f32)

/-- The gradients of the columns side by side. -/
theorem v14_apply (a : Fin 4) (b : Fin 2048) (j : Fin 2560) : val_main_v14 (F := Ideal) q k v n (ix3 a b j) = side q k v n a b j := by
  pointwise [val_main_v14, val_main_v8, val_main_v9, val_main_v10, val_main_v11]
  unfold side
  split_ifs <;> rfl

/-- The gradient that differentiating the forward lines gives. -/
theorem v17_eq : val_main_v17 (F := Ideal) q k v n w z = grad q k v n w z := by
  have h : val_main_v14 (F := Ideal) q k v n = fun i => side q k v n (i 0) (i 1) (i 2) := by
    funext i
    idx_vars i
    exact v14_apply q k v n _ _ _
  funext i
  unfold val_main_v17 val_main_v16 val_main_v15
  rw [h]
  idx_vars i
  pointwise [val_main_v13, val_main_v12, val_main_cst_1, grad]

end Cert.XGradIdeal.Real

namespace Cert.XProof

open Cert.XBwdIdeal.Pay in
/-- The kernel and the differentiated forward lines leave the same array. -/
theorem algebraic : Cert.algebraic_XBwdIdeal_XGradIdeal (hXBwdIdeal := Cert.XBwdIdeal.Gen.facts)
    (hXGradIdeal := Cert.XGradIdeal.Gen.facts) := by
  intro m ρ m' ρ' _ hag
  refine ⟨fun c => (Cert.XBwdIdeal.Gen.dats m 0 c).arrAt 3 Cert.XBwdIdeal.cfg0.N,
    Cert.XBwdIdeal.Value.run_blocks m ρ, θ_run_mono (Cert.XGradIdeal.Value.run m' ρ') fun r h c => ?_⟩
  obtain ⟨a0, a1, a2, a3, a4, a5⟩ := hag c
  obtain ⟨h0, hrest⟩ := h c
  refine ⟨?_, hrest⟩
  refine (h0.trans (Cert.XGradIdeal.Read.val_main_v17_eq _ _ _ _ _ _)).trans ?_
  rw [a0, a1, a2, a3, a4, a5]
  exact (Cert.XGradIdeal.Real.v17_eq _ _ _ _ _ _).trans (final3 m c).symm

end Cert.XProof

end
-- ==== Proof.CatClaim.lean ====
/- The gradient of the mixing layer's columns through the output projection: the kernel leaves the product of the
   gradient's rows with the transposed weights, whatever the arguments hold. -/
module

public import proofs.«01_k».proof.Defs
public import proofs.«01_k».proof.Proof.Gen.CatBwdIdeal.Value
public import proofs.«01_k».proof.Proof.Gen.CatGradIdeal.Run
public import proofs.«01_k».proof.Proof.Gen.CatGradIdeal.Read
public import Idealize.ShloMosaic.Lib.Pipeline.ValueKit
public import Idealize.ShloMosaic.Lib.Claim
public import proofs.«01_k».proof.Proof.RealLift

@[expose] public section

set_option maxRecDepth 16384

noncomputable section

open Idealize.ShloMosaic Idealize.ShloMosaic.TcCoe Idealize.SL.Sem
open Idealize.ShloMosaic.Pipeline (Dat)

namespace Cert.CatBwdIdeal.Pay

open Cert.CatBwdIdeal Cert.CatBwdIdeal.Gen
open Cert.RealLift (blockOf placeOf)

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

/-- The row of all 8192 at row `r` of point `t`'s block. -/
def gr (t : Fin cfg0.N) (r : Fin 1024) : Fin 8192 := ⟨t.val * 1024 + r.val, by have := t.isLt; have h : cfg0.N = 8 := N_0; omega⟩

/-- The gradient of the projection's rows. -/
abbrev aZ : Vec Ideal S4x2048x1024 .f32 := m ((c : Thread nD τ).loc main_arg0)
/-- The weights. -/
abbrev aW : Vec Ideal S1024x1024 .f32 := m ((c : Thread nD τ).loc main_arg1)

/-- The gradient of the projection's columns. -/
def grad (z : Vec Ideal S4x2048x1024 .f32) (w : Vec Ideal S1024x1024 .f32) : Vec Ideal S8192x1024 .f32 := fun i =>
  ∑ k : Fin 1024, z (ix3 (blockOf (i 0)) (placeOf (i 0)) k) * w (ix2 (i 1) k)

theorem iblk0 (t : Fin cfg0.N) : (iblk m c 0 t : Vec Ideal S1024x1024 .bf16)
    = fun j => aZ m c (ix3 (blockOf (gr t (j 0))) (placeOf (gr t (j 0))) (j 1)) := by
  have h : V m c main_v1 = fun i : S8192x1024.Idx => aZ m c (ix3 (blockOf (i 0)) (placeOf (i 0)) (i 1)) := by
    entry_read
    funext i
    idx_vars i
    pointwise []
  funext j
  blk_simp [iblk]
  rw [show V m c (Pipeline.arrRef spec0 0) = _ from h]
  refine congrArg (fun i : S8192x1024.Idx => aZ m c (ix3 (blockOf (i 0)) (placeOf (i 0)) (i 1))) (?_ : _ = ix2 (gr t (j 0)) (j 1))
  blk_ext [idx t, gr]

theorem iblk1 (t : Fin cfg0.N) : (iblk m c 1 t : Vec Ideal S1024x1024 .bf16) = fun j => aW m c j := by
  have h : V m c main_v2 = fun i : S1024x1024.Idx => aW m c i := by
    entry_read
    funext i
    idx_vars i
    pointwise []
  funext j
  blk_simp [iblk]
  rw [show V m c (Pipeline.arrRef spec0 1) = _ from h]
  refine congrArg (fun i : S1024x1024.Idx => aW m c i) (?_ : _ = j)
  blk_ext [idx t]

theorem final2 : (dats m 0 c).arrAt 2 cfg0.N = grad (aZ m c) (aW m c) := by
  refine (dats m 0 c).arrAt_eq_of_covers 2 _ (by decide +kernel) fun t hf y => ?_
  have e : ((cfg0.win 2).blk t).view.emb y = ix2 (gr t (y 0)) (y 1) := by blk_ext [idx t, gr]
  rw [e]
  blk_simp
  rw [after0_2]
  unfold outsAt0 out0_A_2
  frame_out
  rw [iblk0, iblk1]
  idx_vars y
  pointwise [k0_pay2, k0_pay1, grad]

end Cert.CatBwdIdeal.Pay

namespace Cert.CatProof

/-- The gradient that differentiating the forward line gives. -/
theorem ref_eq (z : Vec Ideal Cert.CatGradIdeal.S4x2048x1024 .f32) (w : Vec Ideal Cert.CatGradIdeal.S1024x1024 .f32) :
    Cert.CatGradIdeal.Read.val_main_v3 (F := Ideal) z w = Cert.CatBwdIdeal.Pay.grad z w := by
  funext i
  idx_vars i
  pointwise [Cert.CatGradIdeal.Read.val_main_v3, Cert.CatGradIdeal.Read.val_main_v2, Cert.CatBwdIdeal.Pay.grad]

open Cert.CatBwdIdeal.Pay in
/-- The kernel and the differentiated forward line leave the same array. -/
theorem algebraic : Cert.algebraic_CatBwdIdeal_CatGradIdeal (hCatBwdIdeal := Cert.CatBwdIdeal.Gen.facts)
    (hCatGradIdeal := Cert.CatGradIdeal.Gen.facts) := by
  intro m ρ m' ρ' _ hag
  refine ⟨fun c => (Cert.CatBwdIdeal.Gen.dats m 0 c).arrAt 2 Cert.CatBwdIdeal.cfg0.N,
    Cert.CatBwdIdeal.Value.run_blocks m ρ, θ_run_mono (Cert.CatGradIdeal.Value.run m' ρ') fun r h c => ?_⟩
  obtain ⟨a0, a1⟩ := hag c
  obtain ⟨h0, hrest⟩ := h c
  refine ⟨?_, hrest⟩
  refine (h0.trans (Cert.CatGradIdeal.Read.val_main_v3_eq _ _)).trans ?_
  rw [a0, a1]
  exact (ref_eq _ _).trans (final2 m c).symm

end Cert.CatProof

end
-- ==== Proof.KvClaim.lean ====
/- The keys and values of the memory, forward: the kernel leaves the product of the memory's rows with the weights,
   whatever the arguments hold. -/
module

public import proofs.«01_k».proof.Defs
public import proofs.«01_k».proof.Proof.Gen.KvFwdIdeal.Value
public import proofs.«01_k».proof.Proof.Gen.KvFwdRefIdeal.Run
public import proofs.«01_k».proof.Proof.Gen.KvFwdRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KvFwdIdeal.Pay

open Cert.KvFwdIdeal Cert.KvFwdIdeal.Gen

/-- Which of the four blocks of 256 rows row `r` of all 1024 lies in. -/
def quarter (r : Fin 1024) : Fin 4 := ⟨r.val / 256, by omega⟩

/-- Where in its block of 256 rows row `r` lies. -/
def spot (r : Fin 1024) : Fin 256 := ⟨r.val % 256, by omega⟩

variable (m : (ℓ : Loc nD τ sig) → Buf (Elt Ideal) ℓ) (c : Dev nD)

theorem idx : ∀ t : Fin cfg0.N, win0_0.index t = ![0, 0] ∧ win0_1.index t = ![0, 0] ∧ win0_2.index t = ![0, 0] :=
  (by decide +kernel : ∀ t : Fin grid0.N, _)

/-- The memory. -/
abbrev aM : Vec Ideal S4x256x1024 .f32 := m ((c : Thread nD τ).loc main_arg0)
/-- The weights. -/
abbrev aW : Vec Ideal S1024x512 .f32 := m ((c : Thread nD τ).loc main_arg1)

/-- The memory's product with the weights. -/
def prod (x : Vec Ideal S4x256x1024 .f32) (w : Vec Ideal S1024x512 .f32) : Vec Ideal S1024x512 .f32 := fun i =>
  ∑ k : Fin 1024, x (ix3 (quarter (i 0)) (spot (i 0)) k) * w (ix2 k (i 1))

theorem iblk0 (t : Fin cfg0.N) : (iblk m c 0 t : Vec Ideal S1024x1024 .f32) = fun j => aM m c (ix3 (quarter (j 0)) (spot (j 0)) (j 1)) := by
  have h : V m c main_v0 = fun i : S1024x1024.Idx => aM m c (ix3 (quarter (i 0)) (spot (i 0)) (i 1)) := by
    entry_read
    funext i
    idx_vars i
    pointwise []
    rfl
  funext j
  blk_simp [iblk]
  rw [show V m c (Pipeline.arrRef spec0 0) = _ from h]
  refine congrArg (fun i : S1024x1024.Idx => aM m c (ix3 (quarter (i 0)) (spot (i 0)) (i 1))) (?_ : _ = j)
  blk_ext [idx t]

theorem iblk1 (t : Fin cfg0.N) : (iblk m c 1 t : Vec Ideal S1024x512 .bf16) = fun j => aW m c j := by
  have h : V m c main_v1 = fun i : S1024x512.Idx => aW m c i := by
    entry_read
    funext i
    idx_vars i
    pointwise []
  funext j
  blk_simp [iblk]
  rw [show V m c (Pipeline.arrRef spec0 1) = _ from h]
  refine congrArg (fun i : S1024x512.Idx => aW m c i) (?_ : _ = j)
  blk_ext [idx t]

theorem final2 : (dats m 0 c).arrAt 2 cfg0.N = prod (aM m c) (aW m c) := by
  refine (dats m 0 c).arrAt_eq_of_covers 2 _ (by decide +kernel) fun t hf y => ?_
  have e : ((cfg0.win 2).blk t).view.emb y = y := by blk_ext [idx t]
  rw [e]
  blk_simp
  rw [after0_2]
  unfold outsAt0 out0_A_2
  frame_out
  rw [iblk0, iblk1]
  idx_vars y
  pointwise [k0_pay2, k0_pay1, prod]

end Cert.KvFwdIdeal.Pay

namespace Cert.KvProof

/-- The reference's product. -/
theorem ref_eq (x : Vec Ideal Cert.KvFwdRefIdeal.S4x256x1024 .f32) (w : Vec Ideal Cert.KvFwdRefIdeal.S1024x512 .f32) :
    Cert.KvFwdRefIdeal.Read.val_main_v1 (F := Ideal) x w = Cert.KvFwdIdeal.Pay.prod x w := by
  funext i
  idx_vars i
  pointwise [Cert.KvFwdRefIdeal.Read.val_main_v1, Cert.KvFwdRefIdeal.Read.val_main_v0, Cert.KvFwdIdeal.Pay.prod]
  rfl

open Cert.KvFwdIdeal.Pay in
/-- The kernel and the forward line leave the same array. -/
theorem algebraic : Cert.algebraic_KvFwdIdeal_KvFwdRefIdeal (hKvFwdIdeal := Cert.KvFwdIdeal.Gen.facts)
    (hKvFwdRefIdeal := Cert.KvFwdRefIdeal.Gen.facts) := by
  intro m ρ m' ρ' _ hag
  refine ⟨fun c => (Cert.KvFwdIdeal.Gen.dats m 0 c).arrAt 2 Cert.KvFwdIdeal.cfg0.N,
    Cert.KvFwdIdeal.Value.run_blocks m ρ, θ_run_mono (Cert.KvFwdRefIdeal.Value.run m' ρ') fun r h c => ?_⟩
  obtain ⟨a0, a1⟩ := hag c
  obtain ⟨h0, hrest⟩ := h c
  refine ⟨?_, hrest⟩
  refine (h0.trans (Cert.KvFwdRefIdeal.Read.val_main_v1_eq _ _)).trans ?_
  rw [a0, a1]
  exact (ref_eq _ _).trans (final2 m c).symm

end Cert.KvProof

end
-- ==== Proof.InClaim.lean ====
/- The projection of the mixing layers' input, forward, at the first width: the kernel leaves the product of the rows
   with the weights, whatever the arguments hold. -/
module

public import proofs.«01_k».proof.Defs
public import proofs.«01_k».proof.Proof.Gen.InFwdIdeal.Value
public import proofs.«01_k».proof.Proof.Gen.InFwdRefIdeal.Run
public import proofs.«01_k».proof.Proof.Gen.InFwdRefIdeal.Read
public import Idealize.ShloMosaic.Lib.Pipeline.ValueKit
public import Idealize.ShloMosaic.Lib.Claim
public import proofs.«01_k».proof.Proof.RealLift

@[expose] public section

set_option maxRecDepth 16384

noncomputable section

open Idealize.ShloMosaic Idealize.ShloMosaic.TcCoe Idealize.SL.Sem
open Idealize.ShloMosaic.Pipeline (Dat)

namespace Cert.InFwdIdeal.Pay

open Cert.InFwdIdeal Cert.InFwdIdeal.Gen
open Cert.RealLift (blockOf placeOf)

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

/-- The row of all 8192 at row `r` of point `t`'s block. -/
def gr (t : Fin cfg0.N) (r : Fin 512) : Fin 8192 := ⟨t.val * 512 + r.val, by have := t.isLt; have h : cfg0.N = 16 := N_0; omega⟩

/-- The rows. -/
abbrev aX : Vec Ideal S4x2048x1024 .f32 := m ((c : Thread nD τ).loc main_arg0)
/-- The weights. -/
abbrev aW : Vec Ideal S1024x2560 .f32 := m ((c : Thread nD τ).loc main_arg1)

/-- The rows' product with the weights. -/
def prod (x : Vec Ideal S4x2048x1024 .f32) (w : Vec Ideal S1024x2560 .f32) : Vec Ideal S8192x2560 .f32 := fun i =>
  ∑ k : Fin 1024, x (ix3 (blockOf (i 0)) (placeOf (i 0)) k) * w (ix2 k (i 1))

theorem iblk0 (t : Fin cfg0.N) : (iblk m c 0 t : Vec Ideal S512x1024 .f32)
    = fun j => aX m c (ix3 (blockOf (gr t (j 0))) (placeOf (gr t (j 0))) (j 1)) := by
  have h : V m c main_v2 = fun i : S8192x1024.Idx => aX m c (ix3 (blockOf (i 0)) (placeOf (i 0)) (i 1)) := by
    entry_read
    funext i
    idx_vars i
    pointwise []
  funext j
  blk_simp [iblk]
  rw [show V m c (Pipeline.arrRef spec0 0) = _ from h]
  refine congrArg (fun i : S8192x1024.Idx => aX m c (ix3 (blockOf (i 0)) (placeOf (i 0)) (i 1))) (?_ : _ = ix2 (gr t (j 0)) (j 1))
  blk_ext [idx t, gr]

theorem iblk1 (t : Fin cfg0.N) : (iblk m c 1 t : Vec Ideal S2560x1024 .bf16) = fun j => aW m c (ix2 (j 1) (j 0)) := by
  have h : V m c main_v1 = fun i : S2560x1024.Idx => aW m c (ix2 (i 1) (i 0)) := by
    entry_read
    funext i
    idx_vars i
    pointwise []
  funext j
  blk_simp [iblk]
  rw [show V m c (Pipeline.arrRef spec0 1) = _ from h]
  refine congrArg (fun i : S2560x1024.Idx => aW m c (ix2 (i 1) (i 0))) (?_ : _ = j)
  blk_ext [idx t]

/-- The product of a block, summed up from nothing. -/
theorem pay2_apply (x : Vec Ideal S512x1024 .f32) (w : Vec Ideal S2560x1024 .bf16) (i : S512x2560.Idx) :
    k0_pay2 (F := Ideal) (k0_pay1 (F := Ideal)) x w i = ∑ k, x (ix2 (i 0) k) * w (ix2 (i 1) k) := by
  idx_vars i
  pointwise [k0_pay2, k0_pay1]

theorem final2 : (dats m 0 c).arrAt 2 cfg0.N = prod (aX m c) (aW m c) := by
  refine (dats m 0 c).arrAt_eq_of_covers 2 _ (by decide +kernel) fun t hf y => ?_
  have e : ((cfg0.win 2).blk t).view.emb y = ix2 (gr t (y 0)) (y 1) := by blk_ext [idx t, gr]
  rw [e]
  blk_simp
  rw [after0_2]
  unfold outsAt0 out0_A_2
  frame_out
  refine (pay2_apply _ _ y).trans ?_
  rw [iblk0, iblk1]
  idx_vars y
  rfl

end Cert.InFwdIdeal.Pay

namespace Cert.InProof

/-- The reference's product. -/
theorem ref_eq (x : Vec Ideal Cert.InFwdRefIdeal.S4x2048x1024 .f32) (w : Vec Ideal Cert.InFwdRefIdeal.S1024x2560 .f32) :
    Cert.InFwdRefIdeal.Read.val_main_v1 (F := Ideal) x w = Cert.InFwdIdeal.Pay.prod x w := by
  funext i
  idx_vars i
  pointwise [Cert.InFwdRefIdeal.Read.val_main_v1, Cert.InFwdRefIdeal.Read.val_main_v0, Cert.InFwdIdeal.Pay.prod]

open Cert.InFwdIdeal.Pay in
/-- The kernel and the forward line leave the same array. -/
theorem algebraic : Cert.algebraic_InFwdIdeal_InFwdRefIdeal (hInFwdIdeal := Cert.InFwdIdeal.Gen.facts)
    (hInFwdRefIdeal := Cert.InFwdRefIdeal.Gen.facts) := by
  intro m ρ m' ρ' _ hag
  refine ⟨fun c => (Cert.InFwdIdeal.Gen.dats m 0 c).arrAt 2 Cert.InFwdIdeal.cfg0.N,
    Cert.InFwdIdeal.Value.run_blocks m ρ, θ_run_mono (Cert.InFwdRefIdeal.Value.run m' ρ') fun r h c => ?_⟩
  obtain ⟨a0, a1⟩ := hag c
  obtain ⟨h0, hrest⟩ := h c
  refine ⟨?_, hrest⟩
  refine (h0.trans (Cert.InFwdRefIdeal.Read.val_main_v1_eq _ _)).trans ?_
  rw [a0, a1]
  exact (ref_eq _ _).trans (final2 m c).symm

end Cert.InProof

end
-- ==== Proof.InOddClaim.lean ====
/- The projection of the mixing layers' input, forward, at the second width: the kernel leaves the product of the rounded
   rows with the weights, whatever the arguments hold. -/
module

public import proofs.«01_k».proof.Defs
public import proofs.«01_k».proof.Proof.Gen.InOddFwdIdeal.Value
public import proofs.«01_k».proof.Proof.Gen.InOddFwdRefIdeal.Run
public import proofs.«01_k».proof.Proof.Gen.InOddFwdRefIdeal.Read
public import Idealize.ShloMosaic.Lib.Pipeline.ValueKit
public import Idealize.ShloMosaic.Lib.Claim
public import proofs.«01_k».proof.Proof.RealLift

@[expose] public section

set_option maxRecDepth 16384

noncomputable section

open Idealize.ShloMosaic Idealize.ShloMosaic.TcCoe Idealize.SL.Sem
open Idealize.ShloMosaic.Pipeline (Dat)

namespace Cert.InOddFwdIdeal.Pay

open Cert.InOddFwdIdeal Cert.InOddFwdIdeal.Gen
open Cert.RealLift (blockOf placeOf)

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, _)

/-- The row of all 8192 at row `r` of point `t`'s block. -/
def gr (t : Fin cfg0.N) (r : Fin 512) : Fin 8192 := ⟨t.val * 512 + r.val, by have := t.isLt; have h : cfg0.N = 16 := N_0; omega⟩

/-- The rows. -/
abbrev aX : Vec Ideal S4x2048x1024 .f32 := m ((c : Thread nD τ).loc main_arg0)
/-- The weights. -/
abbrev aW : Vec Ideal S1024x1792 .f32 := m ((c : Thread nD τ).loc main_arg1)

/-- The rows' product with the weights. -/
def prod (x : Vec Ideal S4x2048x1024 .f32) (w : Vec Ideal S1024x1792 .f32) : Vec Ideal S8192x1792 .f32 := fun i =>
  ∑ k : Fin 1024, x (ix3 (blockOf (i 0)) (placeOf (i 0)) k) * w (ix2 k (i 1))

theorem iblk0 (t : Fin cfg0.N) : (iblk m c 0 t : Vec Ideal S512x1024 .bf16)
    = fun j => aX m c (ix3 (blockOf (gr t (j 0))) (placeOf (gr t (j 0))) (j 1)) := by
  have h : V m c main_v3 = fun i : S8192x1024.Idx => aX m c (ix3 (blockOf (i 0)) (placeOf (i 0)) (i 1)) := by
    entry_read
    funext i
    idx_vars i
    pointwise []
  funext j
  blk_simp [iblk]
  rw [show V m c (Pipeline.arrRef spec0 0) = _ from h]
  refine congrArg (fun i : S8192x1024.Idx => aX m c (ix3 (blockOf (i 0)) (placeOf (i 0)) (i 1))) (?_ : _ = ix2 (gr t (j 0)) (j 1))
  blk_ext [idx t, gr]

theorem iblk1 (t : Fin cfg0.N) : (iblk m c 1 t : Vec Ideal S1792x1024 .bf16) = fun j => aW m c (ix2 (j 1) (j 0)) := by
  have h : V m c main_v1 = fun i : S1792x1024.Idx => aW m c (ix2 (i 1) (i 0)) := by
    entry_read
    funext i
    idx_vars i
    pointwise []
  funext j
  blk_simp [iblk]
  rw [show V m c (Pipeline.arrRef spec0 1) = _ from h]
  refine congrArg (fun i : S1792x1024.Idx => aW m c (ix2 (i 1) (i 0))) (?_ : _ = j)
  blk_ext [idx t]

theorem final2 : (dats m 0 c).arrAt 2 cfg0.N = prod (aX m c) (aW m c) := by
  refine (dats m 0 c).arrAt_eq_of_covers 2 _ (by decide +kernel) fun t hf y => ?_
  have e : ((cfg0.win 2).blk t).view.emb y = ix2 (gr t (y 0)) (y 1) := by blk_ext [idx t, gr]
  rw [e]
  blk_simp
  rw [after0_2]
  unfold outsAt0 out0_A_2
  frame_out
  rw [iblk0, iblk1]
  idx_vars y
  pointwise [k0_pay2, k0_pay1, prod]

end Cert.InOddFwdIdeal.Pay

namespace Cert.InOddProof

/-- The reference's product. -/
theorem ref_eq (x : Vec Ideal Cert.InOddFwdRefIdeal.S4x2048x1024 .f32) (w : Vec Ideal Cert.InOddFwdRefIdeal.S1024x1792 .f32) :
    Cert.InOddFwdRefIdeal.Read.val_main_v1 (F := Ideal) x w = Cert.InOddFwdIdeal.Pay.prod x w := by
  funext i
  idx_vars i
  pointwise [Cert.InOddFwdRefIdeal.Read.val_main_v1, Cert.InOddFwdRefIdeal.Read.val_main_v0, Cert.InOddFwdIdeal.Pay.prod]

open Cert.InOddFwdIdeal.Pay in
/-- The kernel and the forward line leave the same array. -/
theorem algebraic : Cert.algebraic_InOddFwdIdeal_InOddFwdRefIdeal (hInOddFwdIdeal := Cert.InOddFwdIdeal.Gen.facts)
    (hInOddFwdRefIdeal := Cert.InOddFwdRefIdeal.Gen.facts) := by
  intro m ρ m' ρ' _ hag
  refine ⟨fun c => (Cert.InOddFwdIdeal.Gen.dats m 0 c).arrAt 2 Cert.InOddFwdIdeal.cfg0.N,
    Cert.InOddFwdIdeal.Value.run_blocks m ρ, θ_run_mono (Cert.InOddFwdRefIdeal.Value.run m' ρ') fun r h c => ?_⟩
  obtain ⟨a0, a1⟩ := hag c
  obtain ⟨h0, hrest⟩ := h c
  refine ⟨?_, hrest⟩
  refine (h0.trans (Cert.InOddFwdRefIdeal.Read.val_main_v1_eq _ _)).trans ?_
  rw [a0, a1]
  exact (ref_eq _ _).trans (final2 m c).symm

end Cert.InOddProof

end
-- ==== Proof.AdamClaim.lean ====
/- The optimiser's step on the output projection's weights: the kernel leaves the step and the two new moments, whatever
   the arguments hold. -/
module

public import proofs.«01_k».proof.Defs
public import proofs.«01_k».proof.Proof.Gen.AdamIdeal.Value
public import proofs.«01_k».proof.Proof.Gen.AdamRefIdeal.Run
public import proofs.«01_k».proof.Proof.Gen.AdamRefIdeal.Read
public import Idealize.ShloMosaic.Lib.Pipeline.ValueKit
public import Idealize.ShloMosaic.Lib.Claim
public import proofs.«01_k».proof.Proof.KvClaim

@[expose] public section

set_option maxRecDepth 16384

noncomputable section

open Idealize.ShloMosaic Idealize.ShloMosaic.TcCoe Idealize.SL.Sem
open Idealize.ShloMosaic.Pipeline (Dat)

namespace Cert.AdamIdeal.Pay

open Cert.AdamIdeal Cert.AdamIdeal.Gen
open Cert.KvFwdIdeal.Pay (quarter spot)

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- The row of all 1024 at row `r` of point `t`'s block. -/
def gr (t : Fin cfg0.N) (r : Fin 256) : Fin 1024 := ⟨t.val * 256 + r.val, by have := t.isLt; have h : cfg0.N = 4 := N_0; omega⟩

/-- The weights. -/
abbrev aW : Vec Ideal S4x256x1024 .f32 := m ((c : Thread nD τ).loc main_arg0)
/-- Their gradient. -/
abbrev aG : Vec Ideal S4x256x1024 .f32 := m ((c : Thread nD τ).loc main_arg1)
/-- The first moment. -/
abbrev aM : Vec Ideal S4x256x1024 .f32 := m ((c : Thread nD τ).loc main_arg2)
/-- The second moment. -/
abbrev aV : Vec Ideal S4x256x1024 .f32 := m ((c : Thread nD τ).loc main_arg3)

/-- An array of four blocks of rows, row after row. -/
def rows (x : Vec Ideal S4x256x1024 .f32) : Vec Ideal S1024x1024 .f32 := fun i => x (ix3 (quarter (i 0)) (spot (i 0)) (i 1))

/-- The new first moment, at one place. -/
def first (g a : EReal) : EReal := Ideal.ofBits .f32 0x3F666666#32 * a + Ideal.ofBits .f32 0x3DCCCCCD#32 * g

/-- The new second moment, at one place. -/
def second (g b : EReal) : EReal := Ideal.ofBits .f32 0x3F7FBE77#32 * b + Ideal.ofBits .f32 0x3A83126F#32 * (g * g)

/-- The step, at one place. -/
def step (w g a b : EReal) : EReal :=
  Ideal.ofBits .f32 0xBA83126F#32 * (Ideal.div (Ideal.div (first g a) (Ideal.ofBits .f32 0x3F26BD02#32))
      (Ideal.sqrt (Ideal.div (second g b) (Ideal.ofBits .f32 0x3C231ACC#32)) + Ideal.ofBits .f32 0x322BCC77#32)
    + Ideal.ofBits .f32 0x3C23D70A#32 * w)

/-- The steps. -/
def steps (w g a b : Vec Ideal S4x256x1024 .f32) : Vec Ideal S1024x1024 .f32 := fun i => step (rows w i) (rows g i) (rows a i) (rows b i)
/-- The new first moments. -/
def firsts (g a : Vec Ideal S4x256x1024 .f32) : Vec Ideal S1024x1024 .f32 := fun i => first (rows g i) (rows a i)
/-- The new second moments. -/
def seconds (g b : Vec Ideal S4x256x1024 .f32) : Vec Ideal S1024x1024 .f32 := fun i => second (rows g i) (rows b i)

/-- The four arguments as the region finds them. -/
theorem entries : V m c main_v0 = rows (aW m c) ∧ V m c main_v1 = rows (aG m c) ∧ V m c main_v2 = rows (aM m c)
    ∧ V m c main_v3 = rows (aV m c) := by
  refine ⟨?_, ?_, ?_, ?_⟩ <;>
  · entry_read
    funext i
    idx_vars i
    pointwise []
    rfl

theorem iblk0 (t : Fin cfg0.N) (j : S256x1024.Idx) : (iblk m c 0 t : Vec Ideal S256x1024 .f32) j = rows (aW m c) (ix2 (gr t (j 0)) (j 1)) := by
  blk_simp [iblk]
  rw [show V m c (Pipeline.arrRef spec0 0) = _ from (entries m c).1]
  refine congrArg (rows (aW m c)) ?_
  blk_ext [idx t, gr]

theorem iblk1 (t : Fin cfg0.N) (j : S256x1024.Idx) : (iblk m c 1 t : Vec Ideal S256x1024 .f32) j = rows (aG m c) (ix2 (gr t (j 0)) (j 1)) := by
  blk_simp [iblk]
  rw [show V m c (Pipeline.arrRef spec0 1) = _ from (entries m c).2.1]
  refine congrArg (rows (aG m c)) ?_
  blk_ext [idx t, gr]

theorem iblk2 (t : Fin cfg0.N) (j : S256x1024.Idx) : (iblk m c 2 t : Vec Ideal S256x1024 .f32) j = rows (aM m c) (ix2 (gr t (j 0)) (j 1)) := by
  blk_simp [iblk]
  rw [show V m c (Pipeline.arrRef spec0 2) = _ from (entries m c).2.2.1]
  refine congrArg (rows (aM m c)) ?_
  blk_ext [idx t, gr]

theorem iblk3 (t : Fin cfg0.N) (j : S256x1024.Idx) : (iblk m c 3 t : Vec Ideal S256x1024 .f32) j = rows (aV m c) (ix2 (gr t (j 0)) (j 1)) := by
  blk_simp [iblk]
  rw [show V m c (Pipeline.arrRef spec0 3) = _ from (entries m c).2.2.2]
  refine congrArg (rows (aV m c)) ?_
  blk_ext [idx t, gr]

variable (w g a b : Vec Ideal S256x1024 .f32) (i : S256x1024.Idx)

theorem pay2_apply : k0_pay2 (F := Ideal) g a i = first (g i) (a i) := by
  idx_vars i
  pointwise [k0_pay2, k0_pay1, first]

theorem pay3_apply : k0_pay3 (F := Ideal) g b i = second (g i) (b i) := by
  idx_vars i
  pointwise [k0_pay3, k0_pay1, second]

theorem pay4_apply : k0_pay4 (F := Ideal) g a b w i = step (w i) (g i) (a i) (b i) := by
  unfold step
  rw [← pay2_apply, ← pay3_apply]
  idx_vars i
  pointwise [k0_pay4]

theorem final4 : (dats m 0 c).arrAt 4 cfg0.N = steps (aW m c) (aG m c) (aM m c) (aV m c) := by
  refine (dats m 0 c).arrAt_eq_of_covers 4 _ (by decide +kernel) fun t hf y => ?_
  have e : ((cfg0.win 4).blk t).view.emb y = ix2 (gr t (y 0)) (y 1) := by blk_ext [idx t, gr]
  rw [e]
  blk_simp
  rw [after0_4]
  unfold out0_4
  frame_out
  refine (pay4_apply _ _ _ _ y).trans ?_
  rw [iblk0, iblk1, iblk2, iblk3]
  rfl

theorem final5 : (dats m 0 c).arrAt 5 cfg0.N = firsts (aG m c) (aM m c) := by
  refine (dats m 0 c).arrAt_eq_of_covers 5 _ (by decide +kernel) fun t hf y => ?_
  have e : ((cfg0.win 5).blk t).view.emb y = ix2 (gr t (y 0)) (y 1) := by blk_ext [idx t, gr]
  rw [e]
  blk_simp
  rw [after0_5]
  unfold out0_5
  frame_out
  refine (pay2_apply _ _ y).trans ?_
  rw [iblk1, iblk2]
  rfl

theorem final6 : (dats m 0 c).arrAt 6 cfg0.N = seconds (aG m c) (aV m c) := by
  refine (dats m 0 c).arrAt_eq_of_covers 6 _ (by decide +kernel) fun t hf y => ?_
  have e : ((cfg0.win 6).blk t).view.emb y = ix2 (gr t (y 0)) (y 1) := by blk_ext [idx t, gr]
  rw [e]
  blk_simp
  rw [after0_6]
  unfold out0_6
  frame_out
  refine (pay3_apply _ _ y).trans ?_
  rw [iblk1, iblk3]
  rfl

end Cert.AdamIdeal.Pay

namespace Cert.AdamRefIdeal.Real

open Cert.AdamRefIdeal Cert.AdamRefIdeal.Gen Cert.AdamRefIdeal.Read
open Cert.AdamIdeal.Pay (rows first second step steps firsts seconds)

variable (w g a b : Vec Ideal S4x256x1024 .f32)

theorem v4_apply (i : S4x256x1024.Idx) : val_main_v4 (F := Ideal) g a i = first (g i) (a i) := by
  idx_vars i
  pointwise [val_main_v4, val_main_v3, val_main_v2, val_main_v1, val_main_v0, val_main_cst, val_main_cst_0, first]

theorem v10_apply (i : S4x256x1024.Idx) : val_main_v10 (F := Ideal) g b i = second (g i) (b i) := by
  idx_vars i
  pointwise [val_main_v10, val_main_v9, val_main_v8, val_main_v7, val_main_v6, val_main_v5, val_main_cst_1, val_main_cst_2, second]

theorem v23_apply (i : S4x256x1024.Idx) : val_main_v23 (F := Ideal) w g a b i = step (w i) (g i) (a i) (b i) := by
  unfold step
  rw [← v4_apply, ← v10_apply]
  idx_vars i
  pointwise [val_main_v23, val_main_v22, val_main_v21, val_main_v20, val_main_v19, val_main_v18, val_main_v17, val_main_v16, val_main_v15,
    val_main_v14, val_main_v13, val_main_v12, val_main_v11, val_main_cst_3, val_main_cst_4, val_main_cst_5, val_main_cst_6, val_main_cst_7]

theorem v24_eq : val_main_v24 (F := Ideal) w g a b = steps w g a b := by
  funext i
  unfold val_main_v24
  idx_vars i
  pointwise []
  exact v23_apply w g a b _

theorem v25_eq : val_main_v25 (F := Ideal) g a = firsts g a := by
  funext i
  unfold val_main_v25
  idx_vars i
  pointwise []
  exact v4_apply g a _

theorem v26_eq : val_main_v26 (F := Ideal) g b = seconds g b := by
  funext i
  unfold val_main_v26
  idx_vars i
  pointwise []
  exact v10_apply g b _

end Cert.AdamRefIdeal.Real

namespace Cert.AdamProof

open Cert.AdamIdeal.Pay in
/-- The kernel and the reference's lines leave the same arrays. -/
theorem algebraic : Cert.algebraic_AdamIdeal_AdamRefIdeal (hAdamIdeal := Cert.AdamIdeal.Gen.facts)
    (hAdamRefIdeal := Cert.AdamRefIdeal.Gen.facts) := by
  intro m ρ m' ρ' _ hag
  refine ⟨fun c => (Cert.AdamIdeal.Gen.dats m 0 c).arrAt 4 Cert.AdamIdeal.cfg0.N, fun c => (Cert.AdamIdeal.Gen.dats m 0 c).arrAt 5 Cert.AdamIdeal.cfg0.N,
    fun c => (Cert.AdamIdeal.Gen.dats m 0 c).arrAt 6 Cert.AdamIdeal.cfg0.N,
    Cert.AdamIdeal.Value.run_blocks m ρ, θ_run_mono (Cert.AdamRefIdeal.Value.run m' ρ') fun r h c => ?_⟩
  obtain ⟨a0, a1, a2, a3⟩ := hag c
  obtain ⟨h0, h1, h2, hrest⟩ := h c
  refine ⟨?_, ?_, ?_, hrest⟩
  · refine (h0.trans (Cert.AdamRefIdeal.Read.val_main_v24_eq _ _ _ _)).trans ?_
    rw [a0, a1, a2, a3]
    exact (Cert.AdamRefIdeal.Real.v24_eq _ _ _ _).trans (final4 m c).symm
  · refine (h1.trans (Cert.AdamRefIdeal.Read.val_main_v25_eq _ _)).trans ?_
    rw [a1, a2]
    exact (Cert.AdamRefIdeal.Real.v25_eq _ _).trans (final5 m c).symm
  · refine (h2.trans (Cert.AdamRefIdeal.Read.val_main_v26_eq _ _)).trans ?_
    rw [a1, a3]
    exact (Cert.AdamRefIdeal.Real.v26_eq _ _).trans (final6 m c).symm

end Cert.AdamProof

end
-- ==== Proof.RowSum.lean ====
/- Sums over rows that a kernel walks block by block: the sum of the blocks' sums is the sum over all rows, and the sum
   over all rows is the sum over the sequences of the sums over their places. -/
module

public import proofs.«01_k».proof.Defs
public import Idealize.ShloMosaic.Lib.Pipeline.ValueKit
public import Idealize.ShloMosaic.Lib.Claim
public import proofs.«01_k».proof.Proof.RealLift

@[expose] public section

noncomputable section

open Idealize.ShloMosaic

namespace Cert.RowSum

open Cert.RealLift (blockOf placeOf)

/-- Row `r` of the block of 1024 rows that grid point `n` reads; the point's last coordinate counts eight blocks. -/
def rowAt (n : ℕ) (r : Fin 1024) : Fin 8192 := ⟨n % 8 * 1024 + r.val, by omega⟩

/-- A sum over rows numbered through, as a sum over blocks and places. -/
theorem sum_pairs {J T N : ℕ} (hN : J * T = N) (b : Fin N → Fin J) (p : Fin N → Fin T) (hb : ∀ r, (b r).val = r.val / T)
    (hp : ∀ r, (p r).val = r.val % T) (f : Fin J → Fin T → EReal) : ∑ r, f (b r) (p r) = ∑ i, ∑ j, f i j := by
  rw [Fin.sum_univ_tiles J T hN]
  refine Finset.sum_congr rfl fun i _ => Finset.sum_congr rfl fun j _ => congrArg₂ f (Fin.ext ?_) (Fin.ext ?_)
  · rw [hb]
    show (i.val * T + j.val) / T = i.val
    rw [Nat.add_comm, Nat.add_mul_div_right _ _ (by have := j.isLt; omega), Nat.div_eq_of_lt j.isLt, Nat.zero_add]
  · rw [hp]
    show (i.val * T + j.val) % T = j.val
    rw [Nat.add_comm, Nat.add_mul_mod_self_right, Nat.mod_eq_of_lt j.isLt]

/-- Eight blocks of 1024 rows are all rows. -/
theorem sum_tiles (f : Fin 4 → Fin 2048 → EReal) (q : ℕ) :
    ∑ k ∈ Finset.range 8, ∑ r : Fin 1024, f (blockOf (rowAt (8 * q + k) r)) (placeOf (rowAt (8 * q + k) r)) = ∑ i, ∑ j, f i j := by
  rw [← sum_pairs (N := 8192) rfl blockOf placeOf (fun _ => rfl) (fun _ => rfl) f,
    Fin.sum_univ_tiles 8 1024 rfl fun r => f (blockOf r) (placeOf r), Finset.sum_range]
  refine Finset.sum_congr rfl fun k _ => Finset.sum_congr rfl fun r _ => ?_
  have e : rowAt (8 * q + k.val) r = ⟨k.val * 1024 + r.val, by omega⟩ := Fin.ext (by
    show (8 * q + k.val) % 8 * 1024 + r.val = k.val * 1024 + r.val
    omega)
  rw [e]

/-- What the block of rows that grid point `n` reads gives of a sum over all rows; the terms may depend on the point's
    other coordinates. -/
def part {ι : Type} (f : ℕ → ι → Fin 4 → Fin 2048 → EReal) (n : ℕ) (i : ι) : EReal :=
  ∑ r : Fin 1024, f (n / 8) i (blockOf (rowAt n r)) (placeOf (rowAt n r))

/-- A sum that starts anew every eight points and to which each point adds its part is, after the eighth, the sum over
    all rows. -/
theorem total {N : ℕ} {ι : Type} (g : (n : ℕ) → n < N → ι → EReal) (f : ℕ → ι → Fin 4 → Fin 2048 → EReal)
    (h0 : ∀ t : Fin N, t.val % 8 = 0 → ∀ i, g t.val t.isLt i = 0 + part f t.val i)
    (hs : ∀ t : Fin N, ¬t.val % 8 = 0 → ∀ i,
      g t.val t.isLt i = g (t.val - 1) (Nat.lt_of_le_of_lt (Nat.sub_le _ _) t.isLt) i + part f t.val i)
    (t : Fin N) (ht : t.val % 8 = 7) (i : ι) : g t.val t.isLt i = ∑ a, ∑ b, f (t.val / 8) i a b := by
  rw [Pipeline.eq_sum_of_reset_step_apply_of_mod g 8 (fun _ => 0) (part f) h0 hs t ht i, zero_add,
    ← sum_tiles (f (t.val / 8) i) (t.val / 8)]
  refine Finset.sum_congr rfl fun k hk => ?_
  have := Finset.mem_range.mp hk
  unfold part
  rw [show (8 * (t.val / 8) + k) / 8 = t.val / 8 by omega]

end Cert.RowSum

end
-- ==== Proof.KvGradClaim.lean ====
/- The gradient of the weights of the memory's keys and values: the kernel leaves the sum over the memory's rows of the
   row's product with the gradient of the result, whatever the arguments hold. -/
module

public import proofs.«01_k».proof.Defs
public import proofs.«01_k».proof.Proof.Gen.KvBwdIdeal.Value
public import proofs.«01_k».proof.Proof.Gen.KvGradIdeal.Run
public import proofs.«01_k».proof.Proof.Gen.KvGradIdeal.Read
public import Idealize.ShloMosaic.Lib.Pipeline.ValueKit
public import Idealize.ShloMosaic.Lib.Claim
public import proofs.«01_k».proof.Proof.KvClaim
public import proofs.«01_k».proof.Proof.RowSum

@[expose] public section

set_option maxRecDepth 16384

noncomputable section

open Idealize.ShloMosaic Idealize.ShloMosaic.TcCoe Idealize.SL.Sem
open Idealize.ShloMosaic.Pipeline (Dat)

namespace Cert.KvBwdIdeal.Pay

open Cert.KvBwdIdeal Cert.KvBwdIdeal.Gen
open Cert.KvFwdIdeal.Pay (quarter spot)

variable (m : (ℓ : Loc nD τ sig) → Buf (Elt Ideal) ℓ) (c : Dev nD)

theorem idx : ∀ t : Fin cfg0.N, win0_0.index t = ![0, 0] ∧ win0_1.index t = ![0, 0] ∧ win0_2.index t = ![0, 0] :=
  (by decide +kernel : ∀ t : Fin grid0.N, _)

/-- The memory. -/
abbrev aM : Vec Ideal S4x256x1024 .f32 := m ((c : Thread nD τ).loc main_arg0)
/-- The gradient of the keys and values. -/
abbrev aD : Vec Ideal S4x256x512 .f32 := m ((c : Thread nD τ).loc main_arg1)

/-- The gradient of the weights. -/
def grad (x : Vec Ideal S4x256x1024 .f32) (d : Vec Ideal S4x256x512 .f32) : Vec Ideal S1024x512 .f32 := fun i =>
  ∑ a : Fin 4, ∑ b : Fin 256, x (ix3 a b (i 0)) * d (ix3 a b (i 1))

theorem iblk0 (t : Fin cfg0.N) : (iblk m c 0 t : Vec Ideal S1024x1024 .f32) = fun j => aM m c (ix3 (quarter (j 0)) (spot (j 0)) (j 1)) := by
  have h : V m c main_v0 = fun i : S1024x1024.Idx => aM m c (ix3 (quarter (i 0)) (spot (i 0)) (i 1)) := by
    entry_read
    funext i
    idx_vars i
    pointwise []
    rfl
  funext j
  blk_simp [iblk]
  rw [show V m c (Pipeline.arrRef spec0 0) = _ from h]
  refine congrArg (fun i : S1024x1024.Idx => aM m c (ix3 (quarter (i 0)) (spot (i 0)) (i 1))) (?_ : _ = j)
  blk_ext [idx t]

theorem iblk1 (t : Fin cfg0.N) : (iblk m c 1 t : Vec Ideal S1024x512 .f32) = fun j => aD m c (ix3 (quarter (j 0)) (spot (j 0)) (j 1)) := by
  have h : V m c main_v1 = fun i : S1024x512.Idx => aD m c (ix3 (quarter (i 0)) (spot (i 0)) (i 1)) := by
    entry_read
    funext i
    idx_vars i
    pointwise []
    rfl
  funext j
  blk_simp [iblk]
  rw [show V m c (Pipeline.arrRef spec0 1) = _ from h]
  refine congrArg (fun i : S1024x512.Idx => aD m c (ix3 (quarter (i 0)) (spot (i 0)) (i 1))) (?_ : _ = j)
  blk_ext [idx t]

/-- The product of the transposed rows with the gradient, summed up from nothing. -/
theorem pay2_apply (x : Vec Ideal S1024x1024 .f32) (d : Vec Ideal S1024x512 .f32) (i : S1024x512.Idx) :
    k0_pay2 (F := Ideal) (k0_pay1 (F := Ideal)) x d i = ∑ r, x (ix2 r (i 0)) * d (ix2 r (i 1)) := by
  idx_vars i
  pointwise [k0_pay2, k0_pay1]

theorem final2 : (dats m 0 c).arrAt 2 cfg0.N = grad (aM m c) (aD m c) := by
  refine (dats m 0 c).arrAt_eq_of_covers 2 _ (by decide +kernel) fun t hf y => ?_
  have e : ((cfg0.win 2).blk t).view.emb y = y := by blk_ext [idx t]
  rw [e]
  blk_simp
  rw [after0_2]
  unfold outsAt0 out0_A_2
  frame_out
  refine (pay2_apply _ _ y).trans ?_
  rw [iblk0, iblk1]
  exact Cert.RowSum.sum_pairs rfl quarter spot (fun _ => rfl) (fun _ => rfl)
    fun a b => aM m c (ix3 a b (y 0)) * aD m c (ix3 a b (y 1))

end Cert.KvBwdIdeal.Pay

namespace Cert.KvGradProof

/-- The gradient that differentiating the forward line gives. -/
theorem ref_eq (x : Vec Ideal Cert.KvGradIdeal.S4x256x1024 .f32) (d : Vec Ideal Cert.KvGradIdeal.S4x256x512 .f32) :
    Cert.KvGradIdeal.Read.val_main_v3 (F := Ideal) x d = Cert.KvBwdIdeal.Pay.grad x d := by
  funext i
  idx_vars i
  pointwise [Cert.KvGradIdeal.Read.val_main_v3, Cert.KvGradIdeal.Read.val_main_v2, Cert.KvBwdIdeal.Pay.grad]
  simp only [mul_comm]

open Cert.KvBwdIdeal.Pay in
/-- The kernel and the differentiated forward line leave the same array. -/
theorem algebraic : Cert.algebraic_KvBwdIdeal_KvGradIdeal (hKvBwdIdeal := Cert.KvBwdIdeal.Gen.facts)
    (hKvGradIdeal := Cert.KvGradIdeal.Gen.facts) := by
  intro m ρ m' ρ' _ hag
  refine ⟨fun c => (Cert.KvBwdIdeal.Gen.dats m 0 c).arrAt 2 Cert.KvBwdIdeal.cfg0.N,
    Cert.KvBwdIdeal.Value.run_blocks m ρ, θ_run_mono (Cert.KvGradIdeal.Value.run m' ρ') fun r h c => ?_⟩
  obtain ⟨a0, a1⟩ := hag c
  obtain ⟨h0, hrest⟩ := h c
  refine ⟨?_, hrest⟩
  refine (h0.trans (Cert.KvGradIdeal.Read.val_main_v3_eq _ _)).trans ?_
  rw [a0, a1]
  exact (ref_eq _ _).trans (final2 m c).symm

end Cert.KvGradProof

end
-- ==== Proof.HidGradClaim.lean ====
/- The gradient of the gate's weights (and, with its own arguments, of the up branch's): the kernel adds up, block of
   rows by block of rows, the product of the transposed gradient of the result with the layer's input, whatever the
   arguments hold. -/
module

public import proofs.«01_k».proof.Defs
public import proofs.«01_k».proof.Proof.Gen.HidBwdIdeal.Value
public import proofs.«01_k».proof.Proof.Gen.HidGradIdeal.Run
public import proofs.«01_k».proof.Proof.Gen.HidGradIdeal.Read
public import Idealize.ShloMosaic.Lib.Pipeline.ValueKit
public import Idealize.ShloMosaic.Lib.Claim
public import proofs.«01_k».proof.Proof.RowSum

@[expose] public section

set_option maxRecDepth 16384

noncomputable section

open Idealize.ShloMosaic Idealize.ShloMosaic.TcCoe Idealize.SL.Sem
open Idealize.ShloMosaic.Pipeline (Dat)

namespace Cert.HidBwdIdeal.Pay

open Cert.HidBwdIdeal Cert.HidBwdIdeal.Gen
open Cert.RealLift (blockOf placeOf)
open Cert.RowSum (rowAt part total)

variable (m : (ℓ : Loc nD τ sig) → Buf (Elt Ideal) ℓ) (c : Dev nD)

theorem idx : ∀ t : Fin cfg0.N, win0_0.index t = ![t.val % 8, t.val / 8] ∧ win0_1.index t = ![t.val % 8, 0]
    ∧ win0_2.index t = ![t.val / 8, 0] :=
  (by decide +kernel : ∀ t : Fin grid0.N, _)

/-- The column of all 2816 at column `j` of the half number `q`. -/
def colAt (q : ℕ) (j : Fin 1408) : Fin 2816 := ⟨q % 2 * 1408 + j.val, by omega⟩

/-- The gradient of the branch's columns. -/
abbrev aD : Vec Ideal S4x2048x2816 .bf16 := m ((c : Thread nD τ).loc main_arg0)
/-- The layer's input. -/
abbrev aX : Vec Ideal S4x2048x1024 .f32 := m ((c : Thread nD τ).loc main_arg1)

/-- The gradient of the weights, its rows the branch's columns. -/
def grad (d : Vec Ideal S4x2048x2816 .bf16) (x : Vec Ideal S4x2048x1024 .f32) : Vec Ideal S2816x1024 .f32 := fun i =>
  ∑ a : Fin 4, ∑ b : Fin 2048, d (ix3 a b (i 0)) * x (ix3 a b (i 1))

theorem iblk0 (t : Fin cfg0.N) : (iblk m c 0 t : Vec Ideal S1024x1408 .bf16)
    = fun j => aD m c (ix3 (blockOf (rowAt t.val (j 0))) (placeOf (rowAt t.val (j 0))) (colAt (t.val / 8) (j 1))) := by
  have h : V m c main_v0 = fun i : S8192x2816.Idx => aD m c (ix3 (blockOf (i 0)) (placeOf (i 0)) (i 1)) := by
    entry_read
    funext i
    idx_vars i
    pointwise []
  funext j
  blk_simp [iblk]
  rw [show V m c (Pipeline.arrRef spec0 0) = _ from h]
  refine congrArg (fun i : S8192x2816.Idx => aD m c (ix3 (blockOf (i 0)) (placeOf (i 0)) (i 1)))
    (?_ : _ = ix2 (rowAt t.val (j 0)) (colAt (t.val / 8) (j 1)))
  have ht : t.val < 16 := lt_of_lt_of_eq t.isLt N_0
  have hc : t.val / 8 % 2 = t.val / 8 := by omega
  blk_ext [idx t, rowAt, colAt, hc]

theorem iblk1 (t : Fin cfg0.N) : (iblk m c 1 t : Vec Ideal S1024x1024 .bf16)
    = fun j => aX m c (ix3 (blockOf (rowAt t.val (j 0))) (placeOf (rowAt t.val (j 0))) (j 1)) := by
  have h : V m c main_v2 = fun i : S8192x1024.Idx => aX m c (ix3 (blockOf (i 0)) (placeOf (i 0)) (i 1)) := by
    entry_read
    funext i
    idx_vars i
    pointwise []
  funext j
  blk_simp [iblk]
  rw [show V m c (Pipeline.arrRef spec0 1) = _ from h]
  refine congrArg (fun i : S8192x1024.Idx => aX m c (ix3 (blockOf (i 0)) (placeOf (i 0)) (i 1)))
    (?_ : _ = ix2 (rowAt t.val (j 0)) (j 1))
  blk_ext [idx t, rowAt]

/-- What a point adds to the sum so far. -/
theorem pay2_apply (s : Vec Ideal S1408x1024 .f32) (d : Vec Ideal S1024x1408 .bf16) (x : Vec Ideal S1024x1024 .bf16) (i : S1408x1024.Idx) :
    k0_pay2 (F := Ideal) s d x i = s i + ∑ r, d (ix2 r (i 0)) * x (ix2 r (i 1)) := by
  idx_vars i
  pointwise [k0_pay2]

theorem pay1_apply (i : S1408x1024.Idx) : k0_pay1 (F := Ideal) i = 0 := by pointwise [k0_pay1]

/-- What row `b` of sequence `a` gives of the sums of half `q` of the branch's columns. -/
def term (d : Vec Ideal S4x2048x2816 .bf16) (x : Vec Ideal S4x2048x1024 .f32) (q : ℕ) (i : S1408x1024.Idx) (a : Fin 4) (b : Fin 2048) : EReal :=
  d (ix3 a b (colAt q (i 0))) * x (ix3 a b (i 1))

theorem step (t : Fin cfg0.N) (s : Vec Ideal S1408x1024 .f32) (i : S1408x1024.Idx) :
    k0_pay2 (F := Ideal) s (iblk m c 0 t) (iblk m c 1 t) i = s i + part (term (aD m c) (aX m c)) t.val i := by
  refine (pay2_apply s _ _ i).trans ?_
  rw [iblk0, iblk1]
  rfl

/-- The sum that the points keep between them, at the last block of rows. -/
theorem kept (t : Fin cfg0.N) (ht : t.val % 8 = 7) (i : S1408x1024.Idx) :
    (outsAt0 m c t.val t.isLt).2 i = grad (aD m c) (aX m c) (ix2 (colAt (t.val / 8) (i 0)) (i 1)) :=
  total (fun n h => (outsAt0 m c n h).2) (term (aD m c) (aX m c))
    (fun t h i => by
      rw [outsAt0_A m c t h (by omega)]
      unfold sout0_A_0
      frame_out
      exact (step m c t _ i).trans (congrArg (· + _) (pay1_apply i)))
    (fun t h i => by
      by_cases h1 : t.val % 8 = 7
      · rw [outsAt0_C m c t h h1]
        unfold sout0_C_0
        frame_out
        rw [show View.read (Elt Ideal) (View.whole cc0_scratch0) _ = _ from (Memref.isWhole_whole cc0_scratch0).read_unread _]
        exact step m c t _ i
      · rw [outsAt0_B m c t h h1]
        unfold sout0_B_0
        frame_out
        rw [show View.read (Elt Ideal) (View.whole cc0_scratch0) _ = _ from (Memref.isWhole_whole cc0_scratch0).read_unread _]
        exact step m c t _ i) t ht i

/-- At the last block of rows the output is the kept sum. -/
theorem out_eq (t : Fin cfg0.N) (ht : t.val % 8 = 7) : (outsAt0 m c t.val t.isLt).1 = (outsAt0 m c t.val t.isLt).2 := by
  rw [outsAt0_C m c t (by omega) ht]
  unfold out0_C_2 sout0_C_0
  frame_out

theorem final2 : (dats m 0 c).arrAt 2 cfg0.N = grad (aD m c) (aX m c) := by
  refine (dats m 0 c).arrAt_eq_of_covers 2 _ (by decide +kernel) fun t hf y => ?_
  have h7 : t.val % 8 = 7 := (flush0_2 t).mp hf
  have ht : t.val < 16 := lt_of_lt_of_eq t.isLt N_0
  have hc : t.val / 8 % 2 = t.val / 8 := by omega
  have e : ((cfg0.win 2).blk t).view.emb y = ix2 (colAt (t.val / 8) (y 0)) (y 1) := by blk_ext [idx t, colAt, hc]
  rw [e]
  blk_simp
  rw [after0_2, out_eq m c t h7]
  exact kept m c t h7 y

end Cert.HidBwdIdeal.Pay

namespace Cert.HidGradProof

/-- The gradient that differentiating the forward line gives. -/
theorem ref_eq (d : Vec Ideal Cert.HidGradIdeal.S4x2048x2816 .bf16) (x : Vec Ideal Cert.HidGradIdeal.S4x2048x1024 .f32) :
    Cert.HidGradIdeal.Read.val_main_v5 (F := Ideal) d x = Cert.HidBwdIdeal.Pay.grad d x := by
  funext i
  idx_vars i
  pointwise [Cert.HidGradIdeal.Read.val_main_v5, Cert.HidGradIdeal.Read.val_main_v4, Cert.HidGradIdeal.Read.val_main_v3,
    Cert.HidGradIdeal.Read.val_main_v2, Cert.HidBwdIdeal.Pay.grad]

open Cert.HidBwdIdeal.Pay in
/-- The kernel and the differentiated forward line leave the same array. -/
theorem algebraic : Cert.algebraic_HidBwdIdeal_HidGradIdeal (hHidBwdIdeal := Cert.HidBwdIdeal.Gen.facts)
    (hHidGradIdeal := Cert.HidGradIdeal.Gen.facts) := by
  intro m ρ m' ρ' _ hag
  refine ⟨fun c => (Cert.HidBwdIdeal.Gen.dats m 0 c).arrAt 2 Cert.HidBwdIdeal.cfg0.N,
    Cert.HidBwdIdeal.Value.run_blocks m ρ, θ_run_mono (Cert.HidGradIdeal.Value.run m' ρ') fun r h c => ?_⟩
  obtain ⟨a0, a1⟩ := hag c
  obtain ⟨h0, hrest⟩ := h c
  refine ⟨?_, hrest⟩
  refine (h0.trans (Cert.HidGradIdeal.Read.val_main_v5_eq _ _)).trans ?_
  rw [a0, a1]
  exact (ref_eq _ _).trans (final2 m c).symm

end Cert.HidGradProof

end
-- ==== Proof.DownGradClaim.lean ====
/- The gradient of the down projection's weights: the kernel adds up, block of rows by block of rows, the product of the
   transposed hidden columns with the gradient of the result, whatever the arguments hold. -/
module

public import proofs.«01_k».proof.Defs
public import proofs.«01_k».proof.Proof.Gen.DownBwdIdeal.Value
public import proofs.«01_k».proof.Proof.Gen.DownGradIdeal.Run
public import proofs.«01_k».proof.Proof.Gen.DownGradIdeal.Read
public import Idealize.ShloMosaic.Lib.Pipeline.ValueKit
public import Idealize.ShloMosaic.Lib.Claim
public import proofs.«01_k».proof.Proof.RowSum

@[expose] public section

set_option maxRecDepth 16384

noncomputable section

open Idealize.ShloMosaic Idealize.ShloMosaic.TcCoe Idealize.SL.Sem
open Idealize.ShloMosaic.Pipeline (Dat)

namespace Cert.DownBwdIdeal.Pay

open Cert.DownBwdIdeal Cert.DownBwdIdeal.Gen
open Cert.RealLift (blockOf placeOf)
open Cert.RowSum (rowAt part total)

variable (m : (ℓ : Loc nD τ sig) → Buf (Elt Ideal) ℓ) (c : Dev nD)

theorem idx : ∀ t : Fin cfg0.N, win0_0.index t = ![t.val % 8, t.val / 8] ∧ win0_1.index t = ![t.val % 8, 0]
    ∧ win0_2.index t = ![t.val / 8, 0] :=
  (by decide +kernel : ∀ t : Fin grid0.N, _)

/-- The column of all 2816 at column `j` of the half number `q`. -/
def colAt (q : ℕ) (j : Fin 1408) : Fin 2816 := ⟨q % 2 * 1408 + j.val, by omega⟩

/-- The hidden columns. -/
abbrev aH : Vec Ideal S4x2048x2816 .bf16 := m ((c : Thread nD τ).loc main_arg0)
/-- The gradient of the result. -/
abbrev aD : Vec Ideal S4x2048x1024 .f32 := m ((c : Thread nD τ).loc main_arg1)

/-- The gradient of the weights, its rows the hidden columns. -/
def grad (h : Vec Ideal S4x2048x2816 .bf16) (d : Vec Ideal S4x2048x1024 .f32) : Vec Ideal S2816x1024 .f32 := fun i =>
  ∑ a : Fin 4, ∑ b : Fin 2048, h (ix3 a b (i 0)) * d (ix3 a b (i 1))

theorem iblk0 (t : Fin cfg0.N) : (iblk m c 0 t : Vec Ideal S1024x1408 .bf16)
    = fun j => aH m c (ix3 (blockOf (rowAt t.val (j 0))) (placeOf (rowAt t.val (j 0))) (colAt (t.val / 8) (j 1))) := by
  have h : V m c main_v0 = fun i : S8192x2816.Idx => aH m c (ix3 (blockOf (i 0)) (placeOf (i 0)) (i 1)) := by
    entry_read
    funext i
    idx_vars i
    pointwise []
  funext j
  blk_simp [iblk]
  rw [show V m c (Pipeline.arrRef spec0 0) = _ from h]
  refine congrArg (fun i : S8192x2816.Idx => aH m c (ix3 (blockOf (i 0)) (placeOf (i 0)) (i 1)))
    (?_ : _ = ix2 (rowAt t.val (j 0)) (colAt (t.val / 8) (j 1)))
  have ht : t.val < 16 := lt_of_lt_of_eq t.isLt N_0
  have hc : t.val / 8 % 2 = t.val / 8 := by omega
  blk_ext [idx t, rowAt, colAt, hc]

theorem iblk1 (t : Fin cfg0.N) : (iblk m c 1 t : Vec Ideal S1024x1024 .bf16)
    = fun j => aD m c (ix3 (blockOf (rowAt t.val (j 0))) (placeOf (rowAt t.val (j 0))) (j 1)) := by
  have h : V m c main_v2 = fun i : S8192x1024.Idx => aD m c (ix3 (blockOf (i 0)) (placeOf (i 0)) (i 1)) := by
    entry_read
    funext i
    idx_vars i
    pointwise []
  funext j
  blk_simp [iblk]
  rw [show V m c (Pipeline.arrRef spec0 1) = _ from h]
  refine congrArg (fun i : S8192x1024.Idx => aD m c (ix3 (blockOf (i 0)) (placeOf (i 0)) (i 1)))
    (?_ : _ = ix2 (rowAt t.val (j 0)) (j 1))
  blk_ext [idx t, rowAt]

/-- What a point adds to the sum so far. -/
theorem pay2_apply (s : Vec Ideal S1408x1024 .f32) (h : Vec Ideal S1024x1408 .bf16) (d : Vec Ideal S1024x1024 .bf16) (i : S1408x1024.Idx) :
    k0_pay2 (F := Ideal) s h d i = s i + ∑ r, h (ix2 r (i 0)) * d (ix2 r (i 1)) := by
  idx_vars i
  pointwise [k0_pay2]

theorem pay1_apply (i : S1408x1024.Idx) : k0_pay1 (F := Ideal) i = 0 := by pointwise [k0_pay1]

/-- What row `b` of sequence `a` gives of the sums of half `q` of the hidden columns. -/
def term (h : Vec Ideal S4x2048x2816 .bf16) (d : Vec Ideal S4x2048x1024 .f32) (q : ℕ) (i : S1408x1024.Idx) (a : Fin 4) (b : Fin 2048) : EReal :=
  h (ix3 a b (colAt q (i 0))) * d (ix3 a b (i 1))

theorem step (t : Fin cfg0.N) (s : Vec Ideal S1408x1024 .f32) (i : S1408x1024.Idx) :
    k0_pay2 (F := Ideal) s (iblk m c 0 t) (iblk m c 1 t) i = s i + part (term (aH m c) (aD m c)) t.val i := by
  refine (pay2_apply s _ _ i).trans ?_
  rw [iblk0, iblk1]
  rfl

/-- The sum that the points keep between them, at the last block of rows. -/
theorem kept (t : Fin cfg0.N) (ht : t.val % 8 = 7) (i : S1408x1024.Idx) :
    (outsAt0 m c t.val t.isLt).2 i = grad (aH m c) (aD m c) (ix2 (colAt (t.val / 8) (i 0)) (i 1)) :=
  total (fun n h => (outsAt0 m c n h).2) (term (aH m c) (aD m c))
    (fun t h i => by
      rw [outsAt0_A m c t h (by omega)]
      unfold sout0_A_0
      frame_out
      exact (step m c t _ i).trans (congrArg (· + _) (pay1_apply i)))
    (fun t h i => by
      by_cases h1 : t.val % 8 = 7
      · rw [outsAt0_C m c t h h1]
        unfold sout0_C_0
        frame_out
        rw [show View.read (Elt Ideal) (View.whole cc0_scratch0) _ = _ from (Memref.isWhole_whole cc0_scratch0).read_unread _]
        exact step m c t _ i
      · rw [outsAt0_B m c t h h1]
        unfold sout0_B_0
        frame_out
        rw [show View.read (Elt Ideal) (View.whole cc0_scratch0) _ = _ from (Memref.isWhole_whole cc0_scratch0).read_unread _]
        exact step m c t _ i) t ht i

/-- At the last block of rows the output is the kept sum. -/
theorem out_eq (t : Fin cfg0.N) (ht : t.val % 8 = 7) : (outsAt0 m c t.val t.isLt).1 = (outsAt0 m c t.val t.isLt).2 := by
  rw [outsAt0_C m c t (by omega) ht]
  unfold out0_C_2 sout0_C_0
  frame_out

theorem final2 : (dats m 0 c).arrAt 2 cfg0.N = grad (aH m c) (aD m c) := by
  refine (dats m 0 c).arrAt_eq_of_covers 2 _ (by decide +kernel) fun t hf y => ?_
  have h7 : t.val % 8 = 7 := (flush0_2 t).mp hf
  have ht : t.val < 16 := lt_of_lt_of_eq t.isLt N_0
  have hc : t.val / 8 % 2 = t.val / 8 := by omega
  have e : ((cfg0.win 2).blk t).view.emb y = ix2 (colAt (t.val / 8) (y 0)) (y 1) := by blk_ext [idx t, colAt, hc]
  rw [e]
  blk_simp
  rw [after0_2, out_eq m c t h7]
  exact kept m c t h7 y

end Cert.DownBwdIdeal.Pay

namespace Cert.DownGradProof

/-- The gradient that differentiating the forward line gives. -/
theorem ref_eq (h : Vec Ideal Cert.DownGradIdeal.S4x2048x2816 .bf16) (d : Vec Ideal Cert.DownGradIdeal.S4x2048x1024 .f32) :
    Cert.DownGradIdeal.Read.val_main_v4 (F := Ideal) h d = Cert.DownBwdIdeal.Pay.grad h d := by
  funext i
  idx_vars i
  pointwise [Cert.DownGradIdeal.Read.val_main_v4, Cert.DownGradIdeal.Read.val_main_v3, Cert.DownGradIdeal.Read.val_main_v1,
    Cert.DownBwdIdeal.Pay.grad]
  simp only [mul_comm]

open Cert.DownBwdIdeal.Pay in
/-- The kernel and the differentiated forward line leave the same array. -/
theorem algebraic : Cert.algebraic_DownBwdIdeal_DownGradIdeal (hDownBwdIdeal := Cert.DownBwdIdeal.Gen.facts)
    (hDownGradIdeal := Cert.DownGradIdeal.Gen.facts) := by
  intro m ρ m' ρ' _ hag
  refine ⟨fun c => (Cert.DownBwdIdeal.Gen.dats m 0 c).arrAt 2 Cert.DownBwdIdeal.cfg0.N,
    Cert.DownBwdIdeal.Value.run_blocks m ρ, θ_run_mono (Cert.DownGradIdeal.Value.run m' ρ') fun r h c => ?_⟩
  obtain ⟨a0, a1⟩ := hag c
  obtain ⟨h0, hrest⟩ := h c
  refine ⟨?_, hrest⟩
  refine (h0.trans (Cert.DownGradIdeal.Read.val_main_v4_eq _ _)).trans ?_
  rw [a0, a1]
  exact (ref_eq _ _).trans (final2 m c).symm

end Cert.DownGradProof

end
-- ==== Proof.OutGradClaim.lean ====
/- The gradient of the output projection's weights: the kernel adds up, block of rows by block of rows, the product of
   the transposed mixed columns, the memory's beside them, with the gradient of the result, whatever the arguments
   hold. -/
module

public import proofs.«01_k».proof.Defs
public import proofs.«01_k».proof.Proof.Gen.OutBwdIdeal.Value
public import proofs.«01_k».proof.Proof.Gen.OutGradIdeal.Run
public import proofs.«01_k».proof.Proof.Gen.OutGradIdeal.Read
public import Idealize.ShloMosaic.Lib.Pipeline.ValueKit
public import Idealize.ShloMosaic.Lib.Claim
public import proofs.«01_k».proof.Proof.OutClaim
public import proofs.«01_k».proof.Proof.RowSum

@[expose] public section

set_option maxRecDepth 16384

noncomputable section

open Idealize.ShloMosaic Idealize.ShloMosaic.TcCoe Idealize.SL.Sem
open Idealize.ShloMosaic.Pipeline (Dat)

namespace Cert.OutBwdIdeal.Pay

open Cert.OutBwdIdeal Cert.OutBwdIdeal.Gen
open Cert.RealLift (blockOf placeOf)
open Cert.RowSum (rowAt part total)
open Cert.OutFwdIdeal.Pay (both both_apply cat2)

variable (m : (ℓ : Loc nD τ sig) → Buf (Elt Ideal) ℓ) (c : Dev nD)

theorem idx : ∀ t : Fin cfg0.N, win0_0.index t = ![t.val % 8, 0] ∧ win0_1.index t = ![t.val % 8, 0] ∧ win0_2.index t = ![0, 0] :=
  (by decide +kernel : ∀ t : Fin grid0.N, _)

/-- The mixed columns and the memory's, side by side. -/
def aH : S4x2048x1024.Idx → EReal := both (m ((c : Thread nD τ).loc main_arg0)) (m ((c : Thread nD τ).loc main_arg1))
/-- The gradient of the result. -/
abbrev aD : Vec Ideal S4x2048x1024 .f32 := m ((c : Thread nD τ).loc main_arg2)

/-- What row `b` of sequence `a` gives of the gradient of the weights. -/
def term (h : S4x2048x1024.Idx → EReal) (d : Vec Ideal S4x2048x1024 .f32) (i : S1024x1024.Idx) (a : Fin 4) (b : Fin 2048) : EReal :=
  h (ix3 a b (i 0)) * d (ix3 a b (i 1))

/-- The gradient of the weights. -/
def grad (h : S4x2048x1024.Idx → EReal) (d : Vec Ideal S4x2048x1024 .f32) : Vec Ideal S1024x1024 .f32 := fun i =>
  ∑ a : Fin 4, ∑ b : Fin 2048, term h d i a b

theorem entry0 : V m c main_v2 = fun i : S8192x1024.Idx => aH m c (ix3 (blockOf (i 0)) (placeOf (i 0)) (i 1)) := by
  show StableHlo.after (hostOps0 (F := Ideal)) _ _ = _
  unfold hostOps0
  simp only [StableHlo.after_cons, StableHlo.after_nil]
  after_results_simp
  funext i
  idx_vars i
  refine (cat2 _ _ _ i0 i1).trans ?_
  after_results_simp
  pointwise []
  rw [aH, both_apply]

theorem entry1 : V m c main_v4 = fun i : S8192x1024.Idx => aD m c (ix3 (blockOf (i 0)) (placeOf (i 0)) (i 1)) := by
  entry_read
  funext i
  idx_vars i
  pointwise []

theorem iblk0 (t : Fin cfg0.N) : (iblk m c 0 t : Vec Ideal S1024x1024 .bf16)
    = fun j => aH m c (ix3 (blockOf (rowAt t.val (j 0))) (placeOf (rowAt t.val (j 0))) (j 1)) := by
  funext j
  blk_simp [iblk]
  rw [show V m c (Pipeline.arrRef spec0 0) = _ from entry0 m c]
  refine congrArg (fun i : S8192x1024.Idx => aH m c (ix3 (blockOf (i 0)) (placeOf (i 0)) (i 1))) (?_ : _ = ix2 (rowAt t.val (j 0)) (j 1))
  blk_ext [idx t, rowAt]

theorem iblk1 (t : Fin cfg0.N) : (iblk m c 1 t : Vec Ideal S1024x1024 .bf16)
    = fun j => aD m c (ix3 (blockOf (rowAt t.val (j 0))) (placeOf (rowAt t.val (j 0))) (j 1)) := by
  funext j
  blk_simp [iblk]
  rw [show V m c (Pipeline.arrRef spec0 1) = _ from entry1 m c]
  refine congrArg (fun i : S8192x1024.Idx => aD m c (ix3 (blockOf (i 0)) (placeOf (i 0)) (i 1))) (?_ : _ = ix2 (rowAt t.val (j 0)) (j 1))
  blk_ext [idx t, rowAt]

/-- What a point adds to the sum so far. -/
theorem pay2_apply (s : Vec Ideal S1024x1024 .f32) (h d : Vec Ideal S1024x1024 .bf16) (i : S1024x1024.Idx) :
    k0_pay2 (F := Ideal) s h d i = s i + ∑ r, h (ix2 r (i 0)) * d (ix2 r (i 1)) := by
  idx_vars i
  pointwise [k0_pay2]

theorem step (t : Fin cfg0.N) (s : Vec Ideal S1024x1024 .f32) (i : S1024x1024.Idx) :
    k0_pay2 (F := Ideal) s (iblk m c 0 t) (iblk m c 1 t) i = s i + part (fun _ => term (aH m c) (aD m c)) t.val i := by
  refine (pay2_apply s _ _ i).trans ?_
  rw [iblk0, iblk1]
  rfl

/-- The sum that the points keep between them, at the last block of rows. -/
theorem kept (t : Fin cfg0.N) (ht : t.val % 8 = 7) (i : S1024x1024.Idx) :
    (outsAt0 m c t.val t.isLt).2 i = grad (aH m c) (aD m c) i := by
  refine total (fun n h => (outsAt0 m c n h).2) (fun _ => term (aH m c) (aD m c)) (fun t h i => ?_) (fun t h i => ?_) t ht i
  · rw [outsAt0_A m c t h (by omega)]
    unfold sout0_A_0
    frame_out
    exact (step m c t _ i).trans (congrArg (· + _) (by pointwise [k0_pay1]))
  by_cases h1 : t.val % 8 = 7
  · rw [outsAt0_C m c t h h1]
    unfold sout0_C_0
    frame_out
    rw [show View.read (Elt Ideal) (View.whole cc0_scratch0) _ = _ from (Memref.isWhole_whole cc0_scratch0).read_unread _]
    exact step m c t _ i
  · rw [outsAt0_B m c t h h1]
    unfold sout0_B_0
    frame_out
    rw [show View.read (Elt Ideal) (View.whole cc0_scratch0) _ = _ from (Memref.isWhole_whole cc0_scratch0).read_unread _]
    exact step m c t _ i

theorem final2 : (dats m 0 c).arrAt 2 cfg0.N = grad (aH m c) (aD m c) := by
  refine (dats m 0 c).arrAt_eq_of_covers 2 _ (by decide +kernel) fun t hf y => ?_
  have h7 : t.val % 8 = 7 := (flush0_2 t).mp hf
  have e : ((cfg0.win 2).blk t).view.emb y = y := by blk_ext [idx t]
  have o : (outsAt0 m c t.val t.isLt).1 = (outsAt0 m c t.val t.isLt).2 := by
    rw [outsAt0_C m c t (by omega) h7]
    unfold out0_C_2 sout0_C_0
    frame_out
  rw [e]
  blk_simp
  rw [after0_2, o]
  exact kept m c t h7 y

end Cert.OutBwdIdeal.Pay

namespace Cert.OutGradIdeal.Real

open Cert.OutGradIdeal Cert.OutGradIdeal.Read
open Cert.OutFwdIdeal.Pay (both both_apply)

/-- The mixed columns and the memory's side by side. -/
theorem v2_apply (u : Vec Ideal S4x2048x768 .bf16) (v : Vec Ideal S4x2048x256 .bf16) (a : Fin 4) (b : Fin 2048) (k : Fin 1024) :
    val_main_v2 (F := Ideal) u v (ix3 a b k) = both u v (ix3 a b k) := by
  rw [both_apply]
  pointwise [val_main_v2, val_main_v1]

/-- The gradient that differentiating the forward line gives. -/
theorem v5_eq (u : Vec Ideal S4x2048x768 .bf16) (v : Vec Ideal S4x2048x256 .bf16) (d : Vec Ideal S4x2048x1024 .f32) :
    val_main_v5 (F := Ideal) u v d = Cert.OutBwdIdeal.Pay.grad (both u v) d := by
  have h : val_main_v2 (F := Ideal) u v = both u v := by
    funext i
    idx_vars i
    exact v2_apply u v _ _ _
  funext i
  unfold val_main_v5 val_main_v4
  rw [h]
  idx_vars i
  pointwise [Cert.OutBwdIdeal.Pay.grad, Cert.OutBwdIdeal.Pay.term]
  simp only [mul_comm]

end Cert.OutGradIdeal.Real

namespace Cert.OutGradProof

open Cert.OutBwdIdeal.Pay in
/-- The kernel and the differentiated forward line leave the same array. -/
theorem algebraic : Cert.algebraic_OutBwdIdeal_OutGradIdeal (hOutBwdIdeal := Cert.OutBwdIdeal.Gen.facts)
    (hOutGradIdeal := Cert.OutGradIdeal.Gen.facts) := by
  intro m ρ m' ρ' _ hag
  refine ⟨fun c => (Cert.OutBwdIdeal.Gen.dats m 0 c).arrAt 2 Cert.OutBwdIdeal.cfg0.N,
    Cert.OutBwdIdeal.Value.run_blocks m ρ, θ_run_mono (Cert.OutGradIdeal.Value.run m' ρ') fun r h c => ?_⟩
  obtain ⟨a0, a1, a2⟩ := hag c
  obtain ⟨h0, hrest⟩ := h c
  refine ⟨?_, hrest⟩
  refine (h0.trans (Cert.OutGradIdeal.Read.val_main_v5_eq _ _ _)).trans ?_
  rw [a0, a1, a2]
  exact (Cert.OutGradIdeal.Real.v5_eq _ _ _).trans (final2 m c).symm

end Cert.OutGradProof

end
-- ==== Proof.InGradClaim.lean ====
/- In the first layer, the gradient of the input projection's weights: the kernel adds up, block of rows by block of
   rows, the product of the transposed gradients of the columns with the layer's input, whatever the arguments hold. -/
module

public import proofs.«01_k».proof.Defs
public import proofs.«01_k».proof.Proof.Gen.InBwdIdeal.Value
public import proofs.«01_k».proof.Proof.Gen.InGradIdeal.Run
public import proofs.«01_k».proof.Proof.Gen.InGradIdeal.Read
public import Idealize.ShloMosaic.Lib.Pipeline.ValueKit
public import Idealize.ShloMosaic.Lib.Claim
public import proofs.«01_k».proof.Proof.XClaim
public import proofs.«01_k».proof.Proof.RowSum

@[expose] public section

set_option maxRecDepth 16384

noncomputable section

open Idealize.ShloMosaic Idealize.ShloMosaic.TcCoe Idealize.SL.Sem
open Idealize.ShloMosaic.Pipeline (Dat)

namespace Cert.InBwdIdeal.Pay

open Cert.InBwdIdeal Cert.InBwdIdeal.Gen
open Cert.RealLift (blockOf placeOf)
open Cert.RowSum (rowAt part total)
open Cert.XBwdIdeal.Pay (side)

variable (m : (ℓ : Loc nD τ sig) → Buf (Elt Ideal) ℓ) (c : Dev nD)

theorem idx : ∀ t : Fin cfg0.N, win0_0.index t = ![t.val % 8, t.val / 8] ∧ win0_1.index t = ![t.val % 8, 0]
    ∧ win0_2.index t = ![t.val / 8, 0] :=
  (by decide +kernel : ∀ t : Fin grid0.N, _)

/-- The column of all 2560 at column `j` of half number `q`. -/
def colAt (q : ℕ) (j : Fin 1280) : Fin 2560 := ⟨q % 2 * 1280 + j.val, by omega⟩

theorem half (t : Fin cfg0.N) : t.val / 8 % 2 = t.val / 8 := by
  have ht : t.val < 16 := lt_of_lt_of_eq t.isLt N_0
  omega

/-- The gradients of the columns, side by side. -/
def aD : Fin 4 → Fin 2048 → Fin 2560 → EReal := side (m ((c : Thread nD τ).loc main_arg0)) (m ((c : Thread nD τ).loc main_arg1))
  (m ((c : Thread nD τ).loc main_arg2)) (m ((c : Thread nD τ).loc main_arg3))
/-- The layer's input. -/
abbrev aX : Vec Ideal S4x2048x1024 .f32 := m ((c : Thread nD τ).loc main_arg4)

/-- The gradient of the weights, its rows the projection's columns. -/
def grad (d : Fin 4 → Fin 2048 → Fin 2560 → EReal) (x : Vec Ideal S4x2048x1024 .f32) : Vec Ideal S2560x1024 .f32 := fun i =>
  ∑ a : Fin 4, ∑ b : Fin 2048, d a b (i 0) * x (ix3 a b (i 1))

theorem entry0 : V m c main_v4 = fun i : S8192x2560.Idx => aD m c (blockOf (i 0)) (placeOf (i 0)) (i 1) := by
  show StableHlo.after (hostOps0 (F := Ideal)) _ _ = _
  unfold hostOps0
  simp only [StableHlo.after_cons, StableHlo.after_nil]
  after_results_simp
  funext i
  idx_vars i
  refine (Cert.ProjBwdIdeal.Pay.cat4 _ _ _ _ _ i0 i1).trans ?_
  dsimp only [Matrix.cons_val]
  after_results_simp
  pointwise []
  unfold aD side
  split_ifs <;> rfl

theorem entry1 : V m c main_v5 = fun i : S8192x1024.Idx => aX m c (ix3 (blockOf (i 0)) (placeOf (i 0)) (i 1)) := by
  entry_read
  funext i
  idx_vars i
  pointwise []

theorem iblk0 (t : Fin cfg0.N) : (iblk m c 0 t : Vec Ideal S1024x1280 .bf16)
    = fun j => aD m c (blockOf (rowAt t.val (j 0))) (placeOf (rowAt t.val (j 0))) (colAt (t.val / 8) (j 1)) := by
  funext j
  blk_simp [iblk]
  rw [show V m c (Pipeline.arrRef spec0 0) = _ from entry0 m c]
  refine congrArg (fun i : S8192x2560.Idx => aD m c (blockOf (i 0)) (placeOf (i 0)) (i 1))
    (?_ : _ = ix2 (rowAt t.val (j 0)) (colAt (t.val / 8) (j 1)))
  blk_ext [idx t, rowAt, colAt, half t]

theorem iblk1 (t : Fin cfg0.N) : (iblk m c 1 t : Vec Ideal S1024x1024 .f32)
    = fun j => aX m c (ix3 (blockOf (rowAt t.val (j 0))) (placeOf (rowAt t.val (j 0))) (j 1)) := by
  funext j
  blk_simp [iblk]
  rw [show V m c (Pipeline.arrRef spec0 1) = _ from entry1 m c]
  refine congrArg (fun i : S8192x1024.Idx => aX m c (ix3 (blockOf (i 0)) (placeOf (i 0)) (i 1))) (?_ : _ = ix2 (rowAt t.val (j 0)) (j 1))
  blk_ext [idx t, rowAt]

/-- What a point adds to the sum so far. -/
theorem pay2_apply (s : Vec Ideal S1280x1024 .f32) (d : Vec Ideal S1024x1280 .bf16) (x : Vec Ideal S1024x1024 .f32) (i : S1280x1024.Idx) :
    k0_pay2 (F := Ideal) s d x i = s i + ∑ r, d (ix2 r (i 0)) * x (ix2 r (i 1)) := by
  idx_vars i
  pointwise [k0_pay2]

/-- What row `b` of sequence `a` gives of the sums of half `q` of the projection's columns. -/
def term (d : Fin 4 → Fin 2048 → Fin 2560 → EReal) (x : Vec Ideal S4x2048x1024 .f32) (q : ℕ) (i : S1280x1024.Idx) (a : Fin 4)
    (b : Fin 2048) : EReal := d a b (colAt q (i 0)) * x (ix3 a b (i 1))

theorem step (t : Fin cfg0.N) (s : Vec Ideal S1280x1024 .f32) (i : S1280x1024.Idx) :
    k0_pay2 (F := Ideal) s (iblk m c 0 t) (iblk m c 1 t) i = s i + part (term (aD m c) (aX m c)) t.val i := by
  refine (pay2_apply s _ _ i).trans ?_
  rw [iblk0, iblk1]
  rfl

/-- The sum that the points keep between them, at the last block of rows. -/
theorem kept (t : Fin cfg0.N) (ht : t.val % 8 = 7) (i : S1280x1024.Idx) :
    (outsAt0 m c t.val t.isLt).2 i = grad (aD m c) (aX m c) (ix2 (colAt (t.val / 8) (i 0)) (i 1)) := by
  refine total (fun n h => (outsAt0 m c n h).2) (term (aD m c) (aX m c)) (fun t h i => ?_) (fun t h i => ?_) t ht i
  · rw [outsAt0_A m c t h (by omega)]
    unfold sout0_A_0
    frame_out
    exact (step m c t _ i).trans (congrArg (· + _) (by pointwise [k0_pay1]))
  by_cases h1 : t.val % 8 = 7
  · rw [outsAt0_C m c t h h1]
    unfold sout0_C_0
    frame_out
    rw [show View.read (Elt Ideal) (View.whole cc0_scratch0) _ = _ from (Memref.isWhole_whole cc0_scratch0).read_unread _]
    exact step m c t _ i
  · rw [outsAt0_B m c t h h1]
    unfold sout0_B_0
    frame_out
    rw [show View.read (Elt Ideal) (View.whole cc0_scratch0) _ = _ from (Memref.isWhole_whole cc0_scratch0).read_unread _]
    exact step m c t _ i

theorem final2 : (dats m 0 c).arrAt 2 cfg0.N = grad (aD m c) (aX m c) := by
  refine (dats m 0 c).arrAt_eq_of_covers 2 _ (by decide +kernel) fun t hf y => ?_
  have h7 : t.val % 8 = 7 := (flush0_2 t).mp hf
  have e : ((cfg0.win 2).blk t).view.emb y = ix2 (colAt (t.val / 8) (y 0)) (y 1) := by blk_ext [idx t, colAt, half t]
  have o : (outsAt0 m c t.val t.isLt).1 = (outsAt0 m c t.val t.isLt).2 := by
    rw [outsAt0_C m c t (by omega) h7]
    unfold out0_C_2 sout0_C_0
    frame_out
  rw [e]
  blk_simp
  rw [after0_2, o]
  exact kept m c t h7 y

end Cert.InBwdIdeal.Pay

namespace Cert.InGradIdeal.Real

open Cert.InGradIdeal Cert.InGradIdeal.Read
open Cert.XBwdIdeal.Pay (side)
open Cert.InBwdIdeal.Pay (grad)

variable (q k v : Vec Ideal S4x2048x768 .bf16) (n : Vec Ideal S4x2048x256 .bf16)

/-- The gradients of the columns side by side. -/
theorem v10_apply (a : Fin 4) (b : Fin 2048) (j : Fin 2560) : val_main_v10 (F := Ideal) q k v n (ix3 a b j) = side q k v n a b j := by
  pointwise [val_main_v10, val_main_v0, val_main_v1, val_main_v2, val_main_v3]
  unfold side
  split_ifs <;> rfl

/-- The gradient that differentiating the forward lines gives. -/
theorem v13_eq (x : Vec Ideal S4x2048x1024 .f32) : val_main_v13 (F := Ideal) q k v n x = grad (side q k v n) x := by
  have h : val_main_v10 (F := Ideal) q k v n = fun i => side q k v n (i 0) (i 1) (i 2) := by
    funext i
    idx_vars i
    exact v10_apply q k v n _ _ _
  funext i
  unfold val_main_v13 val_main_v12 val_main_v11
  rw [h]
  idx_vars i
  pointwise [grad]

end Cert.InGradIdeal.Real

namespace Cert.InGradProof

open Cert.InBwdIdeal.Pay in
/-- The kernel and the differentiated forward lines leave the same array. -/
theorem algebraic : Cert.algebraic_InBwdIdeal_InGradIdeal (hInBwdIdeal := Cert.InBwdIdeal.Gen.facts)
    (hInGradIdeal := Cert.InGradIdeal.Gen.facts) := by
  intro m ρ m' ρ' _ hag
  refine ⟨fun c => (Cert.InBwdIdeal.Gen.dats m 0 c).arrAt 2 Cert.InBwdIdeal.cfg0.N,
    Cert.InBwdIdeal.Value.run_blocks m ρ, θ_run_mono (Cert.InGradIdeal.Value.run m' ρ') fun r h c => ?_⟩
  obtain ⟨a0, a1, a2, a3, a4⟩ := hag c
  obtain ⟨h0, hrest⟩ := h c
  refine ⟨?_, hrest⟩
  refine (h0.trans (Cert.InGradIdeal.Read.val_main_v13_eq _ _ _ _ _)).trans ?_
  rw [a0, a1, a2, a3, a4]
  exact (Cert.InGradIdeal.Real.v13_eq _ _ _ _ _).trans (final2 m c).symm

end Cert.InGradProof

end
-- ==== Proof.InLateGradClaim.lean ====
/- In the later attention layers, the gradient of the input projection's weights: as in the first layer, but from rounded
   rows of the layer's input. -/
module

public import proofs.«01_k».proof.Defs
public import proofs.«01_k».proof.Proof.Gen.InLateBwdIdeal.Value
public import proofs.«01_k».proof.Proof.Gen.InLateGradIdeal.Run
public import proofs.«01_k».proof.Proof.Gen.InLateGradIdeal.Read
public import Idealize.ShloMosaic.Lib.Pipeline.ValueKit
public import Idealize.ShloMosaic.Lib.Claim
public import proofs.«01_k».proof.Proof.InGradClaim

@[expose] public section

set_option maxRecDepth 16384

noncomputable section

open Idealize.ShloMosaic Idealize.ShloMosaic.TcCoe Idealize.SL.Sem
open Idealize.ShloMosaic.Pipeline (Dat)

namespace Cert.InLateBwdIdeal.Pay

open Cert.InLateBwdIdeal Cert.InLateBwdIdeal.Gen
open Cert.RealLift (blockOf placeOf)
open Cert.RowSum (rowAt part total)
open Cert.XBwdIdeal.Pay (side)
open Cert.InBwdIdeal.Pay (colAt grad term)

variable (m : (ℓ : Loc nD τ sig) → Buf (Elt Ideal) ℓ) (c : Dev nD)

theorem idx : ∀ t : Fin cfg0.N, win0_0.index t = ![t.val % 8, t.val / 8] ∧ win0_1.index t = ![t.val % 8, 0]
    ∧ win0_2.index t = ![t.val / 8, 0] ∧ t.val / 8 % 2 = t.val / 8 :=
  (by decide +kernel : ∀ t : Fin grid0.N, _)

/-- The gradients of the columns, side by side. -/
def aD : Fin 4 → Fin 2048 → Fin 2560 → EReal := side (m ((c : Thread nD τ).loc main_arg0)) (m ((c : Thread nD τ).loc main_arg1))
  (m ((c : Thread nD τ).loc main_arg2)) (m ((c : Thread nD τ).loc main_arg3))
/-- The layer's input. -/
abbrev aX : Vec Ideal S4x2048x1024 .f32 := m ((c : Thread nD τ).loc main_arg4)

theorem entry0 : V m c main_v4 = fun i : S8192x2560.Idx => aD m c (blockOf (i 0)) (placeOf (i 0)) (i 1) := by
  show StableHlo.after (hostOps0 (F := Ideal)) _ _ = _
  unfold hostOps0
  simp only [StableHlo.after_cons, StableHlo.after_nil]
  after_results_simp
  funext i
  idx_vars i
  refine (Cert.ProjBwdIdeal.Pay.cat4 _ _ _ _ _ i0 i1).trans ?_
  dsimp only [Matrix.cons_val]
  after_results_simp
  pointwise []
  unfold aD side
  split_ifs <;> rfl

theorem entry1 : V m c main_v6 = fun i : S8192x1024.Idx => aX m c (ix3 (blockOf (i 0)) (placeOf (i 0)) (i 1)) := by
  entry_read
  funext i
  idx_vars i
  pointwise []

theorem iblk0 (t : Fin cfg0.N) : (iblk m c 0 t : Vec Ideal S1024x1280 .bf16)
    = fun j => aD m c (blockOf (rowAt t.val (j 0))) (placeOf (rowAt t.val (j 0))) (colAt (t.val / 8) (j 1)) := by
  funext j
  blk_simp [iblk]
  rw [show V m c (Pipeline.arrRef spec0 0) = _ from entry0 m c]
  refine congrArg (fun i : S8192x2560.Idx => aD m c (blockOf (i 0)) (placeOf (i 0)) (i 1))
    (?_ : _ = ix2 (rowAt t.val (j 0)) (colAt (t.val / 8) (j 1)))
  blk_ext [idx t, rowAt, colAt]

theorem iblk1 (t : Fin cfg0.N) : (iblk m c 1 t : Vec Ideal S1024x1024 .bf16)
    = fun j => aX m c (ix3 (blockOf (rowAt t.val (j 0))) (placeOf (rowAt t.val (j 0))) (j 1)) := by
  funext j
  blk_simp [iblk]
  rw [show V m c (Pipeline.arrRef spec0 1) = _ from entry1 m c]
  refine congrArg (fun i : S8192x1024.Idx => aX m c (ix3 (blockOf (i 0)) (placeOf (i 0)) (i 1))) (?_ : _ = ix2 (rowAt t.val (j 0)) (j 1))
  blk_ext [idx t, rowAt]

/-- What a point adds to the sum so far. -/
theorem pay2_apply (s : Vec Ideal S1280x1024 .f32) (d : Vec Ideal S1024x1280 .bf16) (x : Vec Ideal S1024x1024 .bf16) (i : S1280x1024.Idx) :
    k0_pay2 (F := Ideal) s d x i = s i + ∑ r, d (ix2 r (i 0)) * x (ix2 r (i 1)) := by
  idx_vars i
  pointwise [k0_pay2]

theorem step (t : Fin cfg0.N) (s : Vec Ideal S1280x1024 .f32) (i : S1280x1024.Idx) :
    k0_pay2 (F := Ideal) s (iblk m c 0 t) (iblk m c 1 t) i = s i + part (term (aD m c) (aX m c)) t.val i := by
  refine (pay2_apply s _ _ i).trans ?_
  rw [iblk0, iblk1]
  rfl

/-- The sum that the points keep between them, at the last block of rows. -/
theorem kept (t : Fin cfg0.N) (ht : t.val % 8 = 7) (i : S1280x1024.Idx) :
    (outsAt0 m c t.val t.isLt).2 i = grad (aD m c) (aX m c) (ix2 (colAt (t.val / 8) (i 0)) (i 1)) := by
  refine total (fun n h => (outsAt0 m c n h).2) (term (aD m c) (aX m c)) (fun t h i => ?_) (fun t h i => ?_) t ht i
  · rw [outsAt0_A m c t h (by omega)]
    unfold sout0_A_0
    frame_out
    exact (step m c t _ i).trans (congrArg (· + _) (by pointwise [k0_pay1]))
  by_cases h1 : t.val % 8 = 7
  · rw [outsAt0_C m c t h h1]
    unfold sout0_C_0
    frame_out
    rw [show View.read (Elt Ideal) (View.whole cc0_scratch0) _ = _ from (Memref.isWhole_whole cc0_scratch0).read_unread _]
    exact step m c t _ i
  · rw [outsAt0_B m c t h h1]
    unfold sout0_B_0
    frame_out
    rw [show View.read (Elt Ideal) (View.whole cc0_scratch0) _ = _ from (Memref.isWhole_whole cc0_scratch0).read_unread _]
    exact step m c t _ i

theorem final2 : (dats m 0 c).arrAt 2 cfg0.N = grad (aD m c) (aX m c) := by
  refine (dats m 0 c).arrAt_eq_of_covers 2 _ (by decide +kernel) fun t hf y => ?_
  have h7 : t.val % 8 = 7 := (flush0_2 t).mp hf
  have e : ((cfg0.win 2).blk t).view.emb y = ix2 (colAt (t.val / 8) (y 0)) (y 1) := by blk_ext [idx t, colAt]
  have o : (outsAt0 m c t.val t.isLt).1 = (outsAt0 m c t.val t.isLt).2 := by
    rw [outsAt0_C m c t (by omega) h7]
    unfold out0_C_2 sout0_C_0
    frame_out
  rw [e]
  blk_simp
  rw [after0_2, o]
  exact kept m c t h7 y

end Cert.InLateBwdIdeal.Pay

namespace Cert.InLateGradProof

open Cert.InLateBwdIdeal.Pay in
/-- The kernel and the differentiated forward lines leave the same array. -/
theorem algebraic : Cert.algebraic_InLateBwdIdeal_InLateGradIdeal (hInLateBwdIdeal := Cert.InLateBwdIdeal.Gen.facts)
    (hInLateGradIdeal := Cert.InLateGradIdeal.Gen.facts) := by
  intro m ρ m' ρ' _ hag
  refine ⟨fun c => (Cert.InLateBwdIdeal.Gen.dats m 0 c).arrAt 2 Cert.InLateBwdIdeal.cfg0.N,
    Cert.InLateBwdIdeal.Value.run_blocks m ρ, θ_run_mono (Cert.InLateGradIdeal.Value.run m' ρ') fun r h c => ?_⟩
  obtain ⟨a0, a1, a2, a3, a4⟩ := hag c
  obtain ⟨h0, hrest⟩ := h c
  refine ⟨?_, hrest⟩
  refine (h0.trans (Cert.InLateGradIdeal.Read.val_main_v13_eq _ _ _ _ _)).trans ?_
  rw [a0, a1, a2, a3, a4]
  exact (Cert.InGradIdeal.Real.v13_eq _ _ _ _ _).trans (final2 m c).symm

end Cert.InLateGradProof

end
-- ==== Proof.ProjOddPay.lean ====
/- What the kernel of the input projection's backward pass computes in one block of rows, at real numbers. -/
module

public import proofs.«01_k».proof.Proof.Gen.ProjOddBwdIdeal.Skeleton
public import proofs.«01_k».proof.Proof.RealLift
public import proofs.«01_k».proof.Proof.LayerNorm

@[expose] public section

set_option maxRecDepth 16384

noncomputable section

open Idealize.ShloMosaic Idealize.ShloMosaic.TcCoe Idealize.SL.Sem

namespace Cert.ProjOddBwdIdeal.Pay

open Cert.ProjOddBwdIdeal Cert.ProjOddBwdIdeal.Gen Cert.RealLift Cert.LayerNorm

/-- Row `r` of a block. -/
abbrev row {n k : ℕ} (z : (⟨2, ![n, k]⟩ : Shape).Idx → ℝ) (r : Fin n) : Fin k → ℝ := fun d => z (ix2 r d)

/-- The deviations of each row from its mean. -/
theorem pay8_real (z : S512x1024.Idx → ℝ) :
    k0_pay8 (F := Ideal) (fun i => ((z i : ℝ) : EReal)) = fun i => ((cen (row z (i 0)) (i 1) : ℝ) : EReal) := by
  funext i
  idx_vars i
  pointwise [k0_pay8]
  simp only [coe_sum, div_1024, ← EReal.coe_sub, cen, mean, Nat.cast_ofNat]

/-- The reciprocal standard deviation of each row. -/
theorem pay9_real (z : S512x1024.Idx → ℝ) :
    k0_pay9 (F := Ideal) (fun i => ((z i : ℝ) : EReal)) = fun i => ((rstd eps (row z (i 0)) : ℝ) : EReal) := by
  funext i
  unfold k0_pay9
  rw [pay8_real]
  idx_vars i
  pointwise []
  simp only [coe_sum, ← EReal.coe_mul, div_1024, ofBits_eps, ← EReal.coe_add]
  rw [show (∑ x : Fin 1024, cen (row z i0) x * cen (row z i0) x) / 1024 + eps = var (row z i0) + eps by
    simp only [var, mean, Nat.cast_ofNat], rsqrt_real (var_add_pos eps_pos _), rstd]

/-- Each row normalised. -/
theorem pay10_real (z : S512x1024.Idx → ℝ) :
    k0_pay10 (F := Ideal) (fun i => ((z i : ℝ) : EReal)) = fun i => ((xhat eps (row z (i 0)) (i 1) : ℝ) : EReal) := by
  funext i
  unfold k0_pay10
  rw [pay9_real, pay8_real]
  idx_vars i
  pointwise []
  simp only [← EReal.coe_mul, xhat]

/-- The gradient that reaches the normalisation: the residual branch's, and the product of the gradients of the
    projected columns with the weights. -/
def dy (a : S512x1024.Idx → ℝ) (h : S512x1792.Idx → ℝ) (w : S1792x1024.Idx → ℝ) (i : S512x1024.Idx) : ℝ :=
  alpha * a i + ∑ k : Fin 1792, h (ix2 (i 0) k) * w (ix2 k (i 1))

theorem pay5_real (a : S512x1024.Idx → ℝ) (h : S512x1792.Idx → ℝ) (w : S1792x1024.Idx → ℝ) :
    k0_pay5 (F := Ideal) (fun i => ((a i : ℝ) : EReal)) (fun i => ((h i : ℝ) : EReal)) (fun i => ((w i : ℝ) : EReal))
      = fun i => ((dy a h w i : ℝ) : EReal) := by
  funext i
  idx_vars i
  pointwise [k0_pay5]
  simp only [ofBits_alpha, ← EReal.coe_mul, coe_sum, ← EReal.coe_add]
  rfl

/-- The gradient of the normalised row, scaled by the weights `g`. -/
theorem pay11_real (a : S512x1024.Idx → ℝ) (h : S512x1792.Idx → ℝ) (w : S1792x1024.Idx → ℝ) (g : S1x1024.Idx → ℝ) :
    k0_pay11 (F := Ideal) (fun i => ((a i : ℝ) : EReal)) (fun i => ((h i : ℝ) : EReal)) (fun i => ((w i : ℝ) : EReal))
      (fun i => ((g i : ℝ) : EReal)) = fun i => ((dy a h w i * g (ix2 0 (i 1)) : ℝ) : EReal) := by
  funext i
  unfold k0_pay11
  rw [pay5_real]
  idx_vars i
  pointwise []
  rw [← EReal.coe_mul]

/-- The block of the gradient of the rows before the normalisation. -/
theorem pay1_real (z a : S512x1024.Idx → ℝ) (h : S512x1792.Idx → ℝ) (w : S1792x1024.Idx → ℝ) (g : S1x1024.Idx → ℝ) :
    k0_pay1 (F := Ideal) (k0_pay9 (fun i => ((z i : ℝ) : EReal))) (k0_pay10 (fun i => ((z i : ℝ) : EReal)))
      (k0_pay11 (fun i => ((a i : ℝ) : EReal)) (fun i => ((h i : ℝ) : EReal)) (fun i => ((w i : ℝ) : EReal)) (fun i => ((g i : ℝ) : EReal)))
      (k0_pay12 (fun i => ((a i : ℝ) : EReal)) (fun i => ((h i : ℝ) : EReal)) (fun i => ((w i : ℝ) : EReal)) (fun i => ((g i : ℝ) : EReal)))
      (Scalar.ofBits .f32 0x44800000#32)
      = fun i => ((back eps (row z (i 0)) (fun d => dy a h w (ix2 (i 0) d) * g (ix2 0 d)) (i 1) : ℝ) : EReal) := by
  funext i
  unfold k0_pay12
  rw [pay9_real, pay10_real, pay11_real]
  idx_vars i
  pointwise [k0_pay1]
  simp only [← EReal.coe_mul, coe_sum, div_1024, ← EReal.coe_sub, back, mean, Nat.cast_ofNat]

/-- The block's rows add to the running gradient of the scale. -/
theorem pay3_real (z a : S512x1024.Idx → ℝ) (h : S512x1792.Idx → ℝ) (w : S1792x1024.Idx → ℝ) (s : Vec Ideal S1x1024 .f32) :
    k0_pay3 (F := Ideal) (k0_pay5 (fun i => ((a i : ℝ) : EReal)) (fun i => ((h i : ℝ) : EReal)) (fun i => ((w i : ℝ) : EReal)))
      (k0_pay10 (fun i => ((z i : ℝ) : EReal))) s
      = fun i => s i + ((∑ r : Fin 512, dy a h w (ix2 r (i 1)) * xhat eps (row z r) (i 1) : ℝ) : EReal) := by
  funext i
  rw [pay5_real, pay10_real]
  idx_vars i
  pointwise [k0_pay3]
  simp only [← EReal.coe_mul, coe_sum]

/-- The block's rows add to the running gradient of the shift. -/
theorem pay4_real (a : S512x1024.Idx → ℝ) (h : S512x1792.Idx → ℝ) (w : S1792x1024.Idx → ℝ) (s : Vec Ideal S1x1024 .f32) :
    k0_pay4 (F := Ideal) (k0_pay5 (fun i => ((a i : ℝ) : EReal)) (fun i => ((h i : ℝ) : EReal)) (fun i => ((w i : ℝ) : EReal))) s
      = fun i => s i + ((∑ r : Fin 512, dy a h w (ix2 r (i 1)) : ℝ) : EReal) := by
  funext i
  rw [pay5_real]
  idx_vars i
  pointwise [k0_pay4]
  simp only [coe_sum]

end Cert.ProjOddBwdIdeal.Pay

end
-- ==== Proof.ProjOddFinal.lean ====
/- In the gMLP layers: the arrays the kernel of the input projection's backward pass leaves, at real numbers. -/
module

public import proofs.«01_k».proof.Proof.Gen.ProjOddBwdIdeal.Value
public import Idealize.ShloMosaic.Lib.Pipeline.ValueKit
public import Idealize.ShloMosaic.Lib.Claim
public import proofs.«01_k».proof.Proof.ProjOddPay

@[expose] public section

set_option maxRecDepth 16384

noncomputable section

open Idealize.ShloMosaic Idealize.ShloMosaic.TcCoe Idealize.SL.Sem
open Idealize.ShloMosaic.Pipeline (Dat)

namespace Cert.ProjOddBwdIdeal.Pay

open Cert.ProjOddBwdIdeal Cert.ProjOddBwdIdeal.Gen Cert.RealLift Cert.LayerNorm

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0]
    ∧ win0_3.index t = ![t.val, 0] ∧ win0_4.index t = ![0, 0]
    ∧ win0_5.index t = ![t.val, 0] ∧ win0_6.index t = ![t.val, 0] ∧ win0_7.index t = ![0, 0] ∧ win0_8.index t = ![0, 0] :=
  (by decide +kernel : ∀ t : Fin grid0.N, _)

/-- Row `r` of block `t` in the whole array. -/
def gr (t : Fin cfg0.N) (r : Fin 512) : Fin 8192 := ⟨t.val * 512 + r.val, by have := t.isLt; have h : cfg0.N = 16 := N_0; omega⟩

/-- A sum over the blocks of the sums over each block's rows is the sum over all rows. -/
theorem sum_rows (f : Fin 8192 → ℝ) : ∑ t : Fin cfg0.N, ∑ r : Fin 512, f (gr t r) = ∑ r, f r :=
  (Fin.sum_univ_tiles cfg0.N 512 (by rw [show cfg0.N = 16 from N_0]) f).symm

/-- Window 0's block at point `t`, read as real numbers. -/
theorem iblk0 (A : S8192x1792.Idx → ℝ) (h : V m c main_v3 = fun i => ((A i : ℝ) : EReal)) (t : Fin cfg0.N) :
    (iblk m c 0 t : Vec Ideal S512x1792 .bf16) = fun j => ((A (ix2 (gr t (j 0)) (j 1)) : ℝ) : EReal) := by
  funext j
  blk_simp [iblk]
  rw [show V m c (Pipeline.arrRef spec0 0) = _ from h]
  refine congrArg (fun i => ((A i : ℝ) : EReal)) ?_
  blk_ext [idx t, gr]

/-- Window 1's block is the whole array, read as real numbers. -/
theorem iblk1 (A : S1792x1024.Idx → ℝ) (h : V m c main_v5 = fun i => ((A i : ℝ) : EReal)) (t : Fin cfg0.N) :
    (iblk m c 1 t : Vec Ideal S1792x1024 .bf16) = fun j => ((A j : ℝ) : EReal) := by
  funext j
  blk_simp [iblk]
  rw [show V m c (Pipeline.arrRef spec0 1) = _ from h]
  refine congrArg (fun i => ((A i : ℝ) : EReal)) ?_
  blk_ext [idx t]

/-- Window 2's block at point `t`, read as real numbers. -/
theorem iblk2 (A : S8192x1024.Idx → ℝ) (h : V m c main_v6 = fun i => ((A i : ℝ) : EReal)) (t : Fin cfg0.N) :
    (iblk m c 2 t : Vec Ideal S512x1024 .f32) = fun j => ((A (ix2 (gr t (j 0)) (j 1)) : ℝ) : EReal) := by
  funext j
  blk_simp [iblk]
  rw [show V m c (Pipeline.arrRef spec0 2) = _ from h]
  refine congrArg (fun i => ((A i : ℝ) : EReal)) ?_
  blk_ext [idx t, gr]

/-- Window 3's block at point `t`, read as real numbers. -/
theorem iblk3 (A : S8192x1024.Idx → ℝ) (h : V m c main_v7 = fun i => ((A i : ℝ) : EReal)) (t : Fin cfg0.N) :
    (iblk m c 3 t : Vec Ideal S512x1024 .f32) = fun j => ((A (ix2 (gr t (j 0)) (j 1)) : ℝ) : EReal) := by
  funext j
  blk_simp [iblk]
  rw [show V m c (Pipeline.arrRef spec0 3) = _ from h]
  refine congrArg (fun i => ((A i : ℝ) : EReal)) ?_
  blk_ext [idx t, gr]

/-- Window 4's block is the whole array, read as real numbers. -/
theorem iblk4 (A : S1x1024.Idx → ℝ) (h : V m c main_v8 = fun i => ((A i : ℝ) : EReal)) (t : Fin cfg0.N) :
    (iblk m c 4 t : Vec Ideal S1x1024 .f32) = fun j => ((A j : ℝ) : EReal) := by
  funext j
  blk_simp [iblk]
  rw [show V m c (Pipeline.arrRef spec0 4) = _ from h]
  refine congrArg (fun i => ((A i : ℝ) : EReal)) ?_
  blk_ext [idx t]

/-- The gradient that reaches the normalisation, over all rows. -/
def dyF (A : S8192x1024.Idx → ℝ) (H : S8192x1792.Idx → ℝ) (W : S1792x1024.Idx → ℝ) (r : Fin 8192) (d : Fin 1024) : ℝ :=
  alpha * A (ix2 r d) + ∑ k : Fin 1792, H (ix2 r k) * W (ix2 k d)

variable (H : S8192x1792.Idx → ℝ) (W : S1792x1024.Idx → ℝ) (A Z : S8192x1024.Idx → ℝ) (G : S1x1024.Idx → ℝ)
  (hH : V m c main_v3 = fun i => ((H i : ℝ) : EReal)) (hW : V m c main_v5 = fun i => ((W i : ℝ) : EReal))
  (hA : V m c main_v6 = fun i => ((A i : ℝ) : EReal)) (hZ : V m c main_v7 = fun i => ((Z i : ℝ) : EReal))
  (hG : V m c main_v8 = fun i => ((G i : ℝ) : EReal))
include hH hW hA hZ hG

/-- What every point computes for its block of the gradient. -/
theorem point1 (t : Fin cfg0.N) (y : S512x1024.Idx) :
    k0_pay1 (F := Ideal) (k0_pay9 (iblk m c 3 t)) (k0_pay10 (iblk m c 3 t))
      (k0_pay11 (iblk m c 2 t) (iblk m c 0 t) (iblk m c 1 t) (iblk m c 4 t))
      (k0_pay12 (iblk m c 2 t) (iblk m c 0 t) (iblk m c 1 t) (iblk m c 4 t)) (FloatOps.ofBits FTy.f32 0x44800000#32) y
      = ((back eps (row Z (gr t (y 0))) (fun d => dyF A H W (gr t (y 0)) d * G (ix2 0 d)) (y 1) : ℝ) : EReal) := by
  rw [iblk0 m c H hH t, iblk1 m c W hW t, iblk2 m c A hA t, iblk3 m c Z hZ t, iblk4 m c G hG t]
  exact congrFun (pay1_real _ _ _ _ _) y

/-- The gradient of the rows before the normalisation. -/
theorem final5 : (dats m 0 c).arrAt 5 cfg0.N = fun i : S8192x1024.Idx =>
    ((back eps (row Z (i 0)) (fun d => dyF A H W (i 0) d * G (ix2 0 d)) (i 1) : ℝ) : EReal) := by
  refine (dats m 0 c).arrAt_eq_of_covers 5 _ (by decide +kernel) fun t hf y => ?_
  have e : ((cfg0.win 5).blk t).view.emb y = ix2 (gr t (y 0)) (y 1) := by blk_ext [idx t, gr]
  rw [e]
  blk_simp
  rw [after0_5]
  by_cases h : t.val % 16 = 0
  · rw [outsAt0_A m c t h]
    frame_out
    exact point1 m c H W A Z G hH hW hA hZ hG t y
  · rw [outsAt0_B m c t h]
    frame_out
    exact point1 m c H W A Z G hH hW hA hZ hG t y

/-- The same gradient in the narrow format, which at real numbers is the same array. -/
theorem final6 : (dats m 0 c).arrAt 6 cfg0.N = fun i : S8192x1024.Idx =>
    ((back eps (row Z (i 0)) (fun d => dyF A H W (i 0) d * G (ix2 0 d)) (i 1) : ℝ) : EReal) := by
  refine (dats m 0 c).arrAt_eq_of_covers 6 _ (by decide +kernel) fun t hf y => ?_
  have e : ((cfg0.win 6).blk t).view.emb y = ix2 (gr t (y 0)) (y 1) := by blk_ext [idx t, gr]
  rw [e]
  blk_simp
  rw [after0_6]
  by_cases h : t.val % 16 = 0
  · rw [outsAt0_A m c t h]
    frame_out
    exact point1 m c H W A Z G hH hW hA hZ hG t y
  · rw [outsAt0_B m c t h]
    frame_out
    exact point1 m c H W A Z G hH hW hA hZ hG t y

/-- The gradient of the normalisation's scale: over all rows, `dy · xhat`. -/
theorem final7 : (dats m 0 c).arrAt 7 cfg0.N = fun i : S1x1024.Idx =>
    ((∑ r : Fin 8192, dyF A H W r (i 1) * xhat eps (row Z r) (i 1) : ℝ) : EReal) := by
  have hpay (t : Fin cfg0.N) (s : Vec Ideal S1x1024 .f32) (i : S1x1024.Idx) :
      k0_pay3 (F := Ideal) (k0_pay5 (iblk m c 2 t) (iblk m c 0 t) (iblk m c 1 t)) (k0_pay10 (iblk m c 3 t)) s i
        = s i + ((∑ r : Fin 512, dyF A H W (gr t r) (i 1) * xhat eps (row Z (gr t r)) (i 1) : ℝ) : EReal) := by
    rw [iblk0 m c H hH t, iblk1 m c W hW t, iblk2 m c A hA t, iblk3 m c Z hZ t]
    exact congrFun (pay3_real _ _ _ _ _) i
  have hzero (i : S1x1024.Idx) : k0_pay6 (F := Ideal) i = 0 := by pointwise [k0_pay6]
  refine (dats m 0 c).arrAt_eq_of_after_last 7 t0_15 (by decide +kernel) _ fun j => ?_
  blk_simp
  rw [after0_7, Pipeline.eq_sum_fin_of_reset_step_apply_last (fun n h => (outsAt0 m c n h).2.2.1) 16 (fun _ => 0)
    (fun t i => ((∑ r : Fin 512, dyF A H W (gr t r) (i 1) * xhat eps (row Z (gr t r)) (i 1) : ℝ) : EReal))
    (fun t h i => by rw [outsAt0_A m c t h]; frame_out; exact (hpay t _ i).trans (congrArg (· + _) (hzero i)))
    (fun t h i => by rw [outsAt0_B m c t h]; frame_out; exact hpay t _ i) (le_of_eq N_0) t0_15 rfl j, zero_add, coe_sum]
  exact congrArg _ (sum_rows fun r => dyF A H W r (j 1) * xhat eps (row Z r) (j 1))

/-- The gradient of the normalisation's shift: over all rows, `dy`. -/
theorem final8 : (dats m 0 c).arrAt 8 cfg0.N = fun i : S1x1024.Idx =>
    ((∑ r : Fin 8192, dyF A H W r (i 1) : ℝ) : EReal) := by
  have hpay (t : Fin cfg0.N) (s : Vec Ideal S1x1024 .f32) (i : S1x1024.Idx) :
      k0_pay4 (F := Ideal) (k0_pay5 (iblk m c 2 t) (iblk m c 0 t) (iblk m c 1 t)) s i
        = s i + ((∑ r : Fin 512, dyF A H W (gr t r) (i 1) : ℝ) : EReal) := by
    rw [iblk0 m c H hH t, iblk1 m c W hW t, iblk2 m c A hA t]
    exact congrFun (pay4_real _ _ _ _) i
  have hzero (i : S1x1024.Idx) : k0_pay7 (F := Ideal) i = 0 := by pointwise [k0_pay7]
  refine (dats m 0 c).arrAt_eq_of_after_last 8 t0_15 (by decide +kernel) _ fun j => ?_
  blk_simp
  rw [after0_8, Pipeline.eq_sum_fin_of_reset_step_apply_last (fun n h => (outsAt0 m c n h).2.2.2) 16 (fun _ => 0)
    (fun t i => ((∑ r : Fin 512, dyF A H W (gr t r) (i 1) : ℝ) : EReal))
    (fun t h i => by rw [outsAt0_A m c t h]; frame_out; exact (hpay t _ i).trans (congrArg (· + _) (hzero i)))
    (fun t h i => by rw [outsAt0_B m c t h]; frame_out; exact hpay t _ i) (le_of_eq N_0) t0_15 rfl j, zero_add, coe_sum]
  exact congrArg _ (sum_rows fun r => dyF A H W r (j 1))

end Cert.ProjOddBwdIdeal.Pay

end
-- ==== Proof.ProjOddMath.lean ====
/- In the gMLP layers: the gradient of the input projection and of the normalisation before it, at real numbers. -/
module

public import proofs.«01_k».proof.Proof.RealLift
public import proofs.«01_k».proof.Proof.LayerNorm

@[expose] public section

set_option maxRecDepth 16384

noncomputable section

open Idealize.ShloMosaic

namespace Cert.ProjOddMath

open Cert.RealLift Cert.LayerNorm

variable (u v : (⟨3, ![4, 2048, 768]⟩ : Shape).Idx → ℝ) (qm : (⟨3, ![4, 2048, 256]⟩ : Shape).Idx → ℝ)
  (w : (⟨2, ![1024, 1792]⟩ : Shape).Idx → ℝ) (dz z : (⟨3, ![4, 2048, 1024]⟩ : Shape).Idx → ℝ)
  (g : (⟨1, ![1024]⟩ : Shape).Idx → ℝ)

/-- The gradients of the projection's columns, side by side. -/
def cols (a : Fin 4) (b : Fin 2048) (j : Fin 1792) : ℝ :=
  if h1 : j.val < 768 then u (ix3 a b ⟨j.val, h1⟩) else if h2 : j.val - 768 < 768 then v (ix3 a b ⟨j.val - 768, h2⟩)
    else qm (ix3 a b ⟨j.val - 768 - 768, by omega⟩)

/-- The gradient that reaches the normalisation: the residual branch's and the projection's. -/
def dy (a : Fin 4) (b : Fin 2048) (d : Fin 1024) : ℝ :=
  alpha * dz (ix3 a b d) + ∑ j : Fin 1792, cols u v qm a b j * w (ix2 d j)

/-- The gradient of the rows before the normalisation. -/
def dx (a : Fin 4) (b : Fin 2048) (d : Fin 1024) : ℝ :=
  back eps (row3 z a b) (fun e => dy u v qm w dz a b e * g (ix1 e)) d

end Cert.ProjOddMath

end
-- ==== Proof.ProjOddEntry.lean ====
/- In the gMLP layers: the arrays the kernel of the input projection's backward pass is given, at real numbers. -/
module

public import proofs.«01_k».proof.Proof.ProjOddFinal
public import proofs.«01_k».proof.Proof.ProjOddMath

@[expose] public section

set_option maxRecDepth 16384

noncomputable section

open Idealize.ShloMosaic Idealize.ShloMosaic.TcCoe Idealize.SL.Sem
open Idealize.ShloMosaic.Pipeline (Dat)

namespace Cert.ProjOddBwdIdeal.Pay

open Cert.ProjOddBwdIdeal Cert.ProjOddBwdIdeal.Gen Cert.RealLift Cert.LayerNorm Cert.ProjOddMath

variable (m : (ℓ : Loc nD τ sig) → Buf (Elt Ideal) ℓ) (c : Dev nD)

/-- Three arrays of columns put side by side, at one index. -/
theorem cat3 (x0 x1 : Vec Ideal S8192x768 .bf16) (x2 : Vec Ideal S8192x256 .bf16) (h) (r : Fin 8192) (k : Fin 1792) :
    (concatenate S8192x1792 1 [⟨S8192x768, x0⟩, ⟨S8192x768, x1⟩, ⟨S8192x256, x2⟩] h : Vec Ideal S8192x1792 .bf16) (ix2 r k)
      = if h1 : k.val < 768 then x0 (ix2 r ⟨k.val, h1⟩) else if h2 : k.val - 768 < 768 then x1 (ix2 r ⟨k.val - 768, h2⟩)
        else x2 (ix2 r ⟨k.val - 768 - 768, by omega⟩) := by
  pointwise []

/-- The gradients of the projection's columns, side by side. -/
theorem entry4 (u v : S4x2048x768.Idx → ℝ) (qm : S4x2048x256.Idx → ℝ) (hu : m ((c : Thread nD τ).loc main_arg0) = re u)
    (hv : m ((c : Thread nD τ).loc main_arg1) = re v) (hm : m ((c : Thread nD τ).loc main_arg2) = re qm) :
    V m c main_v3 = fun i : S8192x1792.Idx => ((cols u v qm (blockOf (i 0)) (placeOf (i 0)) (i 1) : ℝ) : EReal) := by
  show StableHlo.after (hostOps0 (F := Ideal)) _ _ = _
  unfold hostOps0
  simp only [StableHlo.after_cons, StableHlo.after_nil]
  after_results_simp
  funext i
  idx_vars i
  refine (cat3 _ _ _ _ i0 i1).trans ?_
  dsimp only [Matrix.cons_val]
  after_results_simp
  pointwise []
  unfold cols
  split_ifs
  · exact congrFun hu _
  · exact congrFun hv _
  · exact congrFun hm _

/-- The projection's weights, transposed. -/
theorem entry6 (w : S1024x1792.Idx → ℝ) (h : m ((c : Thread nD τ).loc main_arg3) = re w) :
    V m c main_v5 = fun i : S1792x1024.Idx => ((w (ix2 (i 1) (i 0)) : ℝ) : EReal) := by
  entry_read
  funext i
  idx_vars i
  pointwise []
  exact congrFun h _

/-- The gradient of the residual branch, row after row. -/
theorem entry7 (a : S4x2048x1024.Idx → ℝ) (h : m ((c : Thread nD τ).loc main_arg4) = re a) : V m c main_v6 = re (flat a) := by
  entry_read
  funext i
  idx_vars i
  pointwise []
  exact congrFun h _

/-- The rows before the normalisation, row after row. -/
theorem entry8 (z : S4x2048x1024.Idx → ℝ) (h : m ((c : Thread nD τ).loc main_arg5) = re z) : V m c main_v7 = re (flat z) := by
  entry_read
  funext i
  idx_vars i
  pointwise []
  exact congrFun h _

/-- The normalisation's scale, as one row. -/
theorem entry9 (g : S1024.Idx → ℝ) (h : m ((c : Thread nD τ).loc main_arg6) = re g) :
    V m c main_v8 = fun i : S1x1024.Idx => ((g (ix1 (i 1)) : ℝ) : EReal) := by
  entry_read
  funext i
  idx_vars i
  pointwise []
  exact congrFun h _

end Cert.ProjOddBwdIdeal.Pay

end
-- ==== Proof.InOddGradClaim.lean ====
/- In the gMLP layers, the gradient of the input projection's weights: the kernel adds up, block of rows by block of rows,
   the product of the transposed gradients of the columns with the layer's input, whatever the arguments hold. -/
module

public import proofs.«01_k».proof.Defs
public import proofs.«01_k».proof.Proof.Gen.InOddBwdIdeal.Value
public import proofs.«01_k».proof.Proof.Gen.InOddGradIdeal.Run
public import proofs.«01_k».proof.Proof.Gen.InOddGradIdeal.Read
public import Idealize.ShloMosaic.Lib.Pipeline.ValueKit
public import Idealize.ShloMosaic.Lib.Claim
public import proofs.«01_k».proof.Proof.ProjOddEntry
public import proofs.«01_k».proof.Proof.RowSum

@[expose] public section

set_option maxRecDepth 16384

noncomputable section

open Idealize.ShloMosaic Idealize.ShloMosaic.TcCoe Idealize.SL.Sem
open Idealize.ShloMosaic.Pipeline (Dat)

namespace Cert.InOddBwdIdeal.Pay

open Cert.InOddBwdIdeal Cert.InOddBwdIdeal.Gen
open Cert.RealLift (blockOf placeOf)
open Cert.RowSum (rowAt part total)

variable (m : (ℓ : Loc nD τ sig) → Buf (Elt Ideal) ℓ) (c : Dev nD)

theorem idx : ∀ t : Fin cfg0.N, win0_0.index t = ![t.val % 8, t.val / 8] ∧ win0_1.index t = ![t.val % 8, 0]
    ∧ win0_2.index t = ![t.val / 8, 0] ∧ t.val / 8 % 2 = t.val / 8 :=
  (by decide +kernel : ∀ t : Fin grid0.N, _)

/-- The column of all 1792 at column `j` of half number `q`. -/
def colAt (q : ℕ) (j : Fin 896) : Fin 1792 := ⟨q % 2 * 896 + j.val, by omega⟩

/-- The gradients of the columns, side by side: the two branches' and the memory queries'. -/
def trio (u v : Vec Ideal S4x2048x768 .bf16) (n : Vec Ideal S4x2048x256 .bf16) (a : Fin 4) (b : Fin 2048) (j : Fin 1792) : EReal :=
  if h1 : j.val < 768 then u (ix3 a b ⟨j.val, h1⟩) else if h2 : j.val - 768 < 768 then v (ix3 a b ⟨j.val - 768, h2⟩)
    else n (ix3 a b ⟨j.val - 768 - 768, by omega⟩)

/-- The gradients of the columns, side by side. -/
def aD : Fin 4 → Fin 2048 → Fin 1792 → EReal := trio (m ((c : Thread nD τ).loc main_arg0)) (m ((c : Thread nD τ).loc main_arg1))
  (m ((c : Thread nD τ).loc main_arg2))
/-- The layer's input. -/
abbrev aX : Vec Ideal S4x2048x1024 .f32 := m ((c : Thread nD τ).loc main_arg3)

/-- The gradient of the weights, its rows the projection's columns. -/
def grad (d : Fin 4 → Fin 2048 → Fin 1792 → EReal) (x : Vec Ideal S4x2048x1024 .f32) : Vec Ideal S1792x1024 .f32 := fun i =>
  ∑ a : Fin 4, ∑ b : Fin 2048, d a b (i 0) * x (ix3 a b (i 1))

theorem entry0 : V m c main_v3 = fun i : S8192x1792.Idx => aD m c (blockOf (i 0)) (placeOf (i 0)) (i 1) := by
  show StableHlo.after (hostOps0 (F := Ideal)) _ _ = _
  unfold hostOps0
  simp only [StableHlo.after_cons, StableHlo.after_nil]
  after_results_simp
  funext i
  idx_vars i
  refine (Cert.ProjOddBwdIdeal.Pay.cat3 _ _ _ _ i0 i1).trans ?_
  dsimp only [Matrix.cons_val]
  after_results_simp
  pointwise []
  unfold aD trio
  split_ifs <;> rfl

theorem entry1 : V m c main_v5 = fun i : S8192x1024.Idx => aX m c (ix3 (blockOf (i 0)) (placeOf (i 0)) (i 1)) := by
  entry_read
  funext i
  idx_vars i
  pointwise []

theorem iblk0 (t : Fin cfg0.N) : (iblk m c 0 t : Vec Ideal S1024x896 .bf16)
    = fun j => aD m c (blockOf (rowAt t.val (j 0))) (placeOf (rowAt t.val (j 0))) (colAt (t.val / 8) (j 1)) := by
  funext j
  blk_simp [iblk]
  rw [show V m c (Pipeline.arrRef spec0 0) = _ from entry0 m c]
  refine congrArg (fun i : S8192x1792.Idx => aD m c (blockOf (i 0)) (placeOf (i 0)) (i 1))
    (?_ : _ = ix2 (rowAt t.val (j 0)) (colAt (t.val / 8) (j 1)))
  blk_ext [idx t, rowAt, colAt]

theorem iblk1 (t : Fin cfg0.N) : (iblk m c 1 t : Vec Ideal S1024x1024 .bf16)
    = fun j => aX m c (ix3 (blockOf (rowAt t.val (j 0))) (placeOf (rowAt t.val (j 0))) (j 1)) := by
  funext j
  blk_simp [iblk]
  rw [show V m c (Pipeline.arrRef spec0 1) = _ from entry1 m c]
  refine congrArg (fun i : S8192x1024.Idx => aX m c (ix3 (blockOf (i 0)) (placeOf (i 0)) (i 1))) (?_ : _ = ix2 (rowAt t.val (j 0)) (j 1))
  blk_ext [idx t, rowAt]

/-- What a point adds to the sum so far. -/
theorem pay2_apply (s : Vec Ideal S896x1024 .f32) (d : Vec Ideal S1024x896 .bf16) (x : Vec Ideal S1024x1024 .bf16) (i : S896x1024.Idx) :
    k0_pay2 (F := Ideal) s d x i = s i + ∑ r, d (ix2 r (i 0)) * x (ix2 r (i 1)) := by
  idx_vars i
  pointwise [k0_pay2]

/-- What row `b` of sequence `a` gives of the sums of half `q` of the projection's columns. -/
def term (d : Fin 4 → Fin 2048 → Fin 1792 → EReal) (x : Vec Ideal S4x2048x1024 .f32) (q : ℕ) (i : S896x1024.Idx) (a : Fin 4)
    (b : Fin 2048) : EReal := d a b (colAt q (i 0)) * x (ix3 a b (i 1))

theorem step (t : Fin cfg0.N) (s : Vec Ideal S896x1024 .f32) (i : S896x1024.Idx) :
    k0_pay2 (F := Ideal) s (iblk m c 0 t) (iblk m c 1 t) i = s i + part (term (aD m c) (aX m c)) t.val i := by
  refine (pay2_apply s _ _ i).trans ?_
  rw [iblk0, iblk1]
  rfl

/-- The sum that the points keep between them, at the last block of rows. -/
theorem kept (t : Fin cfg0.N) (ht : t.val % 8 = 7) (i : S896x1024.Idx) :
    (outsAt0 m c t.val t.isLt).2 i = grad (aD m c) (aX m c) (ix2 (colAt (t.val / 8) (i 0)) (i 1)) := by
  refine total (fun n h => (outsAt0 m c n h).2) (term (aD m c) (aX m c)) (fun t h i => ?_) (fun t h i => ?_) t ht i
  · rw [outsAt0_A m c t h (by omega)]
    unfold sout0_A_0
    frame_out
    exact (step m c t _ i).trans (congrArg (· + _) (by pointwise [k0_pay1]))
  by_cases h1 : t.val % 8 = 7
  · rw [outsAt0_C m c t h h1]
    unfold sout0_C_0
    frame_out
    rw [show View.read (Elt Ideal) (View.whole cc0_scratch0) _ = _ from (Memref.isWhole_whole cc0_scratch0).read_unread _]
    exact step m c t _ i
  · rw [outsAt0_B m c t h h1]
    unfold sout0_B_0
    frame_out
    rw [show View.read (Elt Ideal) (View.whole cc0_scratch0) _ = _ from (Memref.isWhole_whole cc0_scratch0).read_unread _]
    exact step m c t _ i

theorem final2 : (dats m 0 c).arrAt 2 cfg0.N = grad (aD m c) (aX m c) := by
  refine (dats m 0 c).arrAt_eq_of_covers 2 _ (by decide +kernel) fun t hf y => ?_
  have h7 : t.val % 8 = 7 := (flush0_2 t).mp hf
  have e : ((cfg0.win 2).blk t).view.emb y = ix2 (colAt (t.val / 8) (y 0)) (y 1) := by blk_ext [idx t, colAt]
  have o : (outsAt0 m c t.val t.isLt).1 = (outsAt0 m c t.val t.isLt).2 := by
    rw [outsAt0_C m c t (by omega) h7]
    unfold out0_C_2 sout0_C_0
    frame_out
  rw [e]
  blk_simp
  rw [after0_2, o]
  exact kept m c t h7 y

end Cert.InOddBwdIdeal.Pay

namespace Cert.InOddGradIdeal.Real

open Cert.InOddGradIdeal Cert.InOddGradIdeal.Read
open Cert.InOddBwdIdeal.Pay (trio grad)

variable (u v : Vec Ideal S4x2048x768 .bf16) (n : Vec Ideal S4x2048x256 .bf16)

/-- The gradients of the columns side by side. -/
theorem v8_apply (a : Fin 4) (b : Fin 2048) (j : Fin 1792) : val_main_v8 (F := Ideal) u v n (ix3 a b j) = trio u v n a b j := by
  pointwise [val_main_v8, val_main_v0, val_main_v1, val_main_v2]
  unfold trio
  split_ifs <;> rfl

/-- The gradient that differentiating the forward lines gives. -/
theorem v11_eq (x : Vec Ideal S4x2048x1024 .f32) : val_main_v11 (F := Ideal) u v n x = grad (trio u v n) x := by
  have h : val_main_v8 (F := Ideal) u v n = fun i => trio u v n (i 0) (i 1) (i 2) := by
    funext i
    idx_vars i
    exact v8_apply u v n _ _ _
  funext i
  unfold val_main_v11 val_main_v10 val_main_v9
  rw [h]
  idx_vars i
  pointwise [grad]

end Cert.InOddGradIdeal.Real

namespace Cert.InOddGradProof

open Cert.InOddBwdIdeal.Pay in
/-- The kernel and the differentiated forward lines leave the same array. -/
theorem algebraic : Cert.algebraic_InOddBwdIdeal_InOddGradIdeal (hInOddBwdIdeal := Cert.InOddBwdIdeal.Gen.facts)
    (hInOddGradIdeal := Cert.InOddGradIdeal.Gen.facts) := by
  intro m ρ m' ρ' _ hag
  refine ⟨fun c => (Cert.InOddBwdIdeal.Gen.dats m 0 c).arrAt 2 Cert.InOddBwdIdeal.cfg0.N,
    Cert.InOddBwdIdeal.Value.run_blocks m ρ, θ_run_mono (Cert.InOddGradIdeal.Value.run m' ρ') fun r h c => ?_⟩
  obtain ⟨a0, a1, a2, a3⟩ := hag c
  obtain ⟨h0, hrest⟩ := h c
  refine ⟨?_, hrest⟩
  refine (h0.trans (Cert.InOddGradIdeal.Read.val_main_v11_eq _ _ _ _)).trans ?_
  rw [a0, a1, a2, a3]
  exact (Cert.InOddGradIdeal.Real.v11_eq _ _ _ _).trans (final2 m c).symm

end Cert.InOddGradProof

end
-- ==== Proof.InLateClaim.lean ====
/- The later attention layer's input projection, forward: its rows are rounded before the product. The result is the
   same product that InClaim.lean names, whatever the arguments hold. -/
module

public import proofs.«01_k».proof.Defs
public import proofs.«01_k».proof.Proof.Gen.InLateFwdIdeal.Value
public import proofs.«01_k».proof.Proof.Gen.InLateFwdRefIdeal.Run
public import proofs.«01_k».proof.Proof.Gen.InLateFwdRefIdeal.Read
public import Idealize.ShloMosaic.Lib.Pipeline.ValueKit
public import Idealize.ShloMosaic.Lib.Claim
public import proofs.«01_k».proof.Proof.InClaim

@[expose] public section

set_option maxRecDepth 16384

noncomputable section

open Idealize.ShloMosaic Idealize.ShloMosaic.TcCoe Idealize.SL.Sem
open Idealize.ShloMosaic.Pipeline (Dat)

namespace Cert.InLateFwdIdeal.Pay

open Cert.InLateFwdIdeal Cert.InLateFwdIdeal.Gen
open Cert.RealLift (blockOf placeOf)
open Cert.InFwdIdeal.Pay (prod)

variable (m : (ℓ : Loc nD τ sig) → Buf (Elt Ideal) ℓ) (c : Dev nD)

/-- Which blocks a point works on. -/
theorem at_point : ∀ t : Fin cfg0.N, win0_0.index t = ![t.val, 0] ∧ win0_1.index t = ![0, 0] ∧ win0_2.index t = ![t.val, 0] :=
  (by decide +kernel : ∀ t : Fin grid0.N, _)

/-- Row `r` of point `t`'s block, among all rows. -/
def rowOf (t : Fin cfg0.N) (r : Fin 512) : Fin 8192 :=
  ⟨512 * t.val + r.val, by have h := lt_of_lt_of_eq t.isLt N_0; omega⟩

/-- The rows as the kernel reads them: flattened, and rounded, which changes no extended real. -/
theorem rows_read (t : Fin cfg0.N) : (iblk m c 0 t : Vec Ideal S512x1024 .bf16) = fun j =>
    m ((c : Thread nD τ).loc main_arg0) (ix3 (blockOf (rowOf t (j 0))) (placeOf (rowOf t (j 0))) (j 1)) := by
  have flat : V m c main_v3 = fun i : S8192x1024.Idx =>
      m ((c : Thread nD τ).loc main_arg0) (ix3 (blockOf (i 0)) (placeOf (i 0)) (i 1)) := by
    entry_read
    funext i
    idx_vars i
    pointwise []
  funext j
  blk_simp [iblk]
  rw [show V m c (Pipeline.arrRef spec0 0) = _ from flat]
  have e : (((cfg0.win 0).blk t).view.emb j : S8192x1024.Idx) = ix2 (rowOf t (j 0)) (j 1) := by blk_ext [at_point t, rowOf]
  exact congrArg (fun i : S8192x1024.Idx => m ((c : Thread nD τ).loc main_arg0) (ix3 (blockOf (i 0)) (placeOf (i 0)) (i 1))) e

/-- The weights as the kernel reads them: turned over. -/
theorem weights_read (t : Fin cfg0.N) : (iblk m c 1 t : Vec Ideal S2560x1024 .bf16) = fun j =>
    m ((c : Thread nD τ).loc main_arg1) (ix2 (j 1) (j 0)) := by
  have turned : V m c main_v1 = fun i : S2560x1024.Idx => m ((c : Thread nD τ).loc main_arg1) (ix2 (i 1) (i 0)) := by
    entry_read
    funext i
    idx_vars i
    pointwise []
  funext j
  blk_simp [iblk]
  rw [show V m c (Pipeline.arrRef spec0 1) = _ from turned]
  have e : (((cfg0.win 1).blk t).view.emb j : S2560x1024.Idx) = j := by blk_ext [at_point t]
  exact congrArg (fun i : S2560x1024.Idx => m ((c : Thread nD τ).loc main_arg1) (ix2 (i 1) (i 0))) e

/-- What the kernel leaves. -/
theorem left : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  have e : ((cfg0.win 2).blk t).view.emb y = ix2 (rowOf t (y 0)) (y 1) := by blk_ext [at_point t, rowOf]
  rw [e]
  blk_simp
  rw [after0_2]
  unfold outsAt0 out0_A_2
  frame_out
  rw [rows_read, weights_read]
  idx_vars y
  pointwise [k0_pay2, k0_pay1, prod]

end Cert.InLateFwdIdeal.Pay

namespace Cert.InLateProof

/-- The rounded rows' kernel and the forward line leave the same array. -/
theorem algebraic : Cert.algebraic_InLateFwdIdeal_InLateFwdRefIdeal (hInLateFwdIdeal := Cert.InLateFwdIdeal.Gen.facts)
    (hInLateFwdRefIdeal := Cert.InLateFwdRefIdeal.Gen.facts) := by
  intro m ρ m' ρ' _ hag
  refine ⟨fun c => (Cert.InLateFwdIdeal.Gen.dats m 0 c).arrAt 2 Cert.InLateFwdIdeal.cfg0.N,
    Cert.InLateFwdIdeal.Value.run_blocks m ρ, θ_run_mono (Cert.InLateFwdRefIdeal.Value.run m' ρ') fun r h c => ⟨?_, (h c).2⟩⟩
  refine ((h c).1.trans (Cert.InLateFwdRefIdeal.Read.val_main_v1_eq _ _)).trans ?_
  rw [(hag c).1, (hag c).2]
  exact (InProof.ref_eq _ _).trans (Cert.InLateFwdIdeal.Pay.left m c).symm

end Cert.InLateProof

end
-- ==== Proof.AdamHidClaim.lean ====
/- The optimiser's step on the gate's hidden weights: the same formulas at every place as in AdamClaim.lean, on arrays of
   four layers of 1024 rows and 704 columns. -/
module

public import proofs.«01_k».proof.Defs
public import proofs.«01_k».proof.Proof.Gen.AdamHidIdeal.Value
public import proofs.«01_k».proof.Proof.Gen.AdamHidRefIdeal.Run
public import proofs.«01_k».proof.Proof.Gen.AdamHidRefIdeal.Read
public import Idealize.ShloMosaic.Lib.Pipeline.ValueKit
public import Idealize.ShloMosaic.Lib.Claim
public import proofs.«01_k».proof.Proof.AdamClaim

@[expose] public section

set_option maxRecDepth 16384

noncomputable section

open Idealize.ShloMosaic Idealize.ShloMosaic.TcCoe Idealize.SL.Sem
open Idealize.ShloMosaic.Pipeline (Dat)
open Cert.AdamIdeal.Pay (first second step)

namespace Cert.AdamHidIdeal.Pay

open Cert.AdamHidIdeal Cert.AdamHidIdeal.Gen

/-- The layers' rows, one layer after another. -/
def stacked (x : Vec Ideal S4x1024x704 .f32) : Vec Ideal S4096x704 .f32 := fun i =>
  x (ix3 (⟨(i 0).val / 1024, by have h : (i 0).val < 4096 := (i 0).isLt; omega⟩ : Fin 4) (⟨(i 0).val % 1024, by omega⟩ : Fin 1024) (i 1))

variable (m : (ℓ : Loc nD τ sig) → Buf (Elt Ideal) ℓ) (c : Dev nD)

/-- Every window of a point is the point's own block of rows. -/
theorem at_point : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

/-- Place `j` of point `t`'s block, among all places. -/
def placeIn (t : Fin cfg0.N) (j : S256x704.Idx) : S4096x704.Idx :=
  ix2 (⟨256 * t.val + (j 0).val, by
    have h := lt_of_lt_of_eq t.isLt N_0
    have h' : (j 0).val < 256 := (j 0).isLt
    omega⟩ : Fin 4096) (j 1)

/-- The kernel's four inputs at a place of a block: the weights, the gradient and the two moments. -/
theorem inputs (t : Fin cfg0.N) (j : S256x704.Idx) :
    (iblk m c 0 t : Vec Ideal S256x704 .f32) j = stacked (m ((c : Thread nD τ).loc main_arg0)) (placeIn t j)
    ∧ (iblk m c 1 t : Vec Ideal S256x704 .f32) j = stacked (m ((c : Thread nD τ).loc main_arg1)) (placeIn t j)
    ∧ (iblk m c 2 t : Vec Ideal S256x704 .f32) j = stacked (m ((c : Thread nD τ).loc main_arg2)) (placeIn t j)
    ∧ (iblk m c 3 t : Vec Ideal S256x704 .f32) j = stacked (m ((c : Thread nD τ).loc main_arg3)) (placeIn t j) := by
  have e0 : V m c main_v0 = stacked (m ((c : Thread nD τ).loc main_arg0)) := by
    entry_read; funext i; idx_vars i; pointwise []; rfl
  have e1 : V m c main_v1 = stacked (m ((c : Thread nD τ).loc main_arg1)) := by
    entry_read; funext i; idx_vars i; pointwise []; rfl
  have e2 : V m c main_v2 = stacked (m ((c : Thread nD τ).loc main_arg2)) := by
    entry_read; funext i; idx_vars i; pointwise []; rfl
  have e3 : V m c main_v3 = stacked (m ((c : Thread nD τ).loc main_arg3)) := by
    entry_read; funext i; idx_vars i; pointwise []; rfl
  refine ⟨?_, ?_, ?_, ?_⟩
  · blk_simp [iblk]
    rw [show V m c (Pipeline.arrRef spec0 0) = _ from e0]
    exact congrArg (stacked _) (by blk_ext [at_point t, placeIn])
  · blk_simp [iblk]
    rw [show V m c (Pipeline.arrRef spec0 1) = _ from e1]
    exact congrArg (stacked _) (by blk_ext [at_point t, placeIn])
  · blk_simp [iblk]
    rw [show V m c (Pipeline.arrRef spec0 2) = _ from e2]
    exact congrArg (stacked _) (by blk_ext [at_point t, placeIn])
  · blk_simp [iblk]
    rw [show V m c (Pipeline.arrRef spec0 3) = _ from e3]
    exact congrArg (stacked _) (by blk_ext [at_point t, placeIn])

/-- What the kernel's body stores, at a place. -/
theorem stored (w g a b : Vec Ideal S256x704 .f32) (i : S256x704.Idx) :
    k0_pay2 (F := Ideal) g a i = first (g i) (a i) ∧ k0_pay3 (F := Ideal) g b i = second (g i) (b i)
      ∧ k0_pay4 (F := Ideal) g a b w i = step (w i) (g i) (a i) (b i) := by
  have h2 : k0_pay2 (F := Ideal) g a i = first (g i) (a i) := by
    idx_vars i
    pointwise [k0_pay2, k0_pay1, first]
  have h3 : k0_pay3 (F := Ideal) g b i = second (g i) (b i) := by
    idx_vars i
    pointwise [k0_pay3, k0_pay1, second]
  refine ⟨h2, h3, ?_⟩
  unfold step
  rw [← h2, ← h3]
  idx_vars i
  pointwise [k0_pay4]

/-- The array of steps the kernel leaves. -/
theorem steps_left : (dats m 0 c).arrAt 4 cfg0.N = fun i : S4096x704.Idx =>
    step (stacked (m ((c : Thread nD τ).loc main_arg0)) i) (stacked (m ((c : Thread nD τ).loc main_arg1)) i)
      (stacked (m ((c : Thread nD τ).loc main_arg2)) i) (stacked (m ((c : Thread nD τ).loc main_arg3)) i) := by
  refine (dats m 0 c).arrAt_eq_of_covers 4 _ (by decide +kernel) fun t hf y => ?_
  have e : ((cfg0.win 4).blk t).view.emb y = placeIn t y := by blk_ext [at_point t, placeIn]
  rw [e]
  blk_simp
  rw [after0_4]
  unfold out0_4
  frame_out
  obtain ⟨i0, i1, i2, i3⟩ := inputs m c t y
  refine (stored _ _ _ _ y).2.2.trans ?_
  rw [i0, i1, i2, i3]

/-- The array of first moments the kernel leaves. -/
theorem firsts_left : (dats m 0 c).arrAt 5 cfg0.N = fun i : S4096x704.Idx =>
    first (stacked (m ((c : Thread nD τ).loc main_arg1)) i) (stacked (m ((c : Thread nD τ).loc main_arg2)) i) := by
  refine (dats m 0 c).arrAt_eq_of_covers 5 _ (by decide +kernel) fun t hf y => ?_
  have e : ((cfg0.win 5).blk t).view.emb y = placeIn t y := by blk_ext [at_point t, placeIn]
  rw [e]
  blk_simp
  rw [after0_5]
  unfold out0_5
  frame_out
  obtain ⟨-, i1, i2, -⟩ := inputs m c t y
  refine (stored (iblk m c 0 t) _ _ (iblk m c 3 t) y).1.trans ?_
  rw [i1, i2]

/-- The array of second moments the kernel leaves. -/
theorem seconds_left : (dats m 0 c).arrAt 6 cfg0.N = fun i : S4096x704.Idx =>
    second (stacked (m ((c : Thread nD τ).loc main_arg1)) i) (stacked (m ((c : Thread nD τ).loc main_arg3)) i) := by
  refine (dats m 0 c).arrAt_eq_of_covers 6 _ (by decide +kernel) fun t hf y => ?_
  have e : ((cfg0.win 6).blk t).view.emb y = placeIn t y := by blk_ext [at_point t, placeIn]
  rw [e]
  blk_simp
  rw [after0_6]
  unfold out0_6
  frame_out
  obtain ⟨-, i1, -, i3⟩ := inputs m c t y
  refine (stored (iblk m c 0 t) _ (iblk m c 2 t) _ y).2.1.trans ?_
  rw [i1, i3]

end Cert.AdamHidIdeal.Pay

namespace Cert.AdamHidProof

open Cert.AdamHidRefIdeal Cert.AdamHidRefIdeal.Gen Cert.AdamHidRefIdeal.Read
open Cert.AdamHidIdeal.Pay (stacked)

/-- The reference's lines, at a place, before the rows are stacked. -/
theorem lines (w g a b : Vec Ideal S4x1024x704 .f32) (i : S4x1024x704.Idx) :
    val_main_v4 (F := Ideal) g a i = first (g i) (a i) ∧ val_main_v10 (F := Ideal) g b i = second (g i) (b i)
      ∧ val_main_v23 (F := Ideal) w g a b i = step (w i) (g i) (a i) (b i) := by
  have h4 : val_main_v4 (F := Ideal) g a i = first (g i) (a i) := by
    idx_vars i
    pointwise [val_main_v4, val_main_v3, val_main_v2, val_main_v1, val_main_v0, val_main_cst, val_main_cst_0, first]
  have h10 : val_main_v10 (F := Ideal) g b i = second (g i) (b i) := by
    idx_vars i
    pointwise [val_main_v10, val_main_v9, val_main_v8, val_main_v7, val_main_v6, val_main_v5, val_main_cst_1, val_main_cst_2, second]
  refine ⟨h4, h10, ?_⟩
  unfold step
  rw [← h4, ← h10]
  idx_vars i
  pointwise [val_main_v23, val_main_v22, val_main_v21, val_main_v20, val_main_v19, val_main_v18, val_main_v17, val_main_v16, val_main_v15,
    val_main_v14, val_main_v13, val_main_v12, val_main_v11, val_main_cst_3, val_main_cst_4, val_main_cst_5, val_main_cst_6, val_main_cst_7]

/-- The reference's results: the same formulas on the stacked rows. -/
theorem results (w g a b : Vec Ideal S4x1024x704 .f32) :
    val_main_v24 (F := Ideal) w g a b = (fun i => step (stacked w i) (stacked g i) (stacked a i) (stacked b i))
      ∧ val_main_v25 (F := Ideal) g a = (fun i => first (stacked g i) (stacked a i))
      ∧ val_main_v26 (F := Ideal) g b = (fun i => second (stacked g i) (stacked b i)) := by
  refine ⟨?_, ?_, ?_⟩ <;> funext i
  · unfold val_main_v24
    idx_vars i
    pointwise []
    exact (lines w g a b _).2.2
  · unfold val_main_v25
    idx_vars i
    pointwise []
    exact (lines w g a b _).1
  · unfold val_main_v26
    idx_vars i
    pointwise []
    exact (lines w g a b _).2.1

open Cert.AdamHidIdeal.Pay in
/-- The kernel and the reference's lines leave the same arrays. -/
theorem algebraic : Cert.algebraic_AdamHidIdeal_AdamHidRefIdeal (hAdamHidIdeal := Cert.AdamHidIdeal.Gen.facts)
    (hAdamHidRefIdeal := Cert.AdamHidRefIdeal.Gen.facts) := by
  intro m ρ m' ρ' _ hag
  refine ⟨fun c => (Cert.AdamHidIdeal.Gen.dats m 0 c).arrAt 4 Cert.AdamHidIdeal.cfg0.N,
    fun c => (Cert.AdamHidIdeal.Gen.dats m 0 c).arrAt 5 Cert.AdamHidIdeal.cfg0.N,
    fun c => (Cert.AdamHidIdeal.Gen.dats m 0 c).arrAt 6 Cert.AdamHidIdeal.cfg0.N,
    Cert.AdamHidIdeal.Value.run_blocks m ρ, θ_run_mono (Cert.AdamHidRefIdeal.Value.run m' ρ') fun r h c => ?_⟩
  obtain ⟨a0, a1, a2, a3⟩ := hag c
  obtain ⟨h0, h1, h2, hrest⟩ := h c
  refine ⟨?_, ?_, ?_, hrest⟩
  · refine (h0.trans (val_main_v24_eq _ _ _ _)).trans ?_
    rw [a0, a1, a2, a3]
    exact (results _ _ _ _).1.trans (steps_left m c).symm
  · refine (h1.trans (val_main_v25_eq _ _)).trans ?_
    rw [a1, a2]
    exact (results (fun _ => 0) _ _ (fun _ => 0)).2.1.trans
      (firsts_left m c).symm
  · refine (h2.trans (val_main_v26_eq _ _)).trans ?_
    rw [a1, a3]
    exact (results (fun _ => 0) _ (fun _ => 0) _).2.2.trans
      (seconds_left m c).symm

end Cert.AdamHidProof

end
-- ==== Proof.FfnPay.lean ====
/- What the kernel of the feed-forward input's backward pass computes in one block of rows, at real numbers. -/
module

public import proofs.«01_k».proof.Proof.Gen.FfnInIdeal.Skeleton
public import proofs.«01_k».proof.Proof.ProjPay

@[expose] public section

set_option maxRecDepth 16384

noncomputable section

open Idealize.ShloMosaic Idealize.ShloMosaic.TcCoe Idealize.SL.Sem

namespace Cert.FfnInIdeal.Pay

open Cert.FfnInIdeal Cert.FfnInIdeal.Gen Cert.RealLift Cert.LayerNorm
open Cert.ProjBwdIdeal.Pay (row)

/-- The deviations of each row from its mean. -/
theorem pay4_real (z : S512x1024.Idx → ℝ) : k0_pay4 (F := Ideal) (re z) = fun i => ((cen (row z (i 0)) (i 1) : ℝ) : EReal) :=
  Cert.ProjBwdIdeal.Pay.pay8_real z

/-- The reciprocal standard deviation of each row. -/
theorem pay5_real (z : S512x1024.Idx → ℝ) : k0_pay5 (F := Ideal) (re z) = fun i => ((rstd eps (row z (i 0)) : ℝ) : EReal) :=
  Cert.ProjBwdIdeal.Pay.pay9_real z

/-- Each row normalised. -/
theorem pay7_real (z : S512x1024.Idx → ℝ) : k0_pay7 (F := Ideal) (k0_pay4 (re z)) (k0_pay6 (re z)) = fun i => ((xhat eps (row z (i 0)) (i 1) : ℝ) : EReal) :=
  Cert.ProjBwdIdeal.Pay.pay10_real z

/-- The gradient that reaches the normalisation: the residual branch's, and the products of the gradients of the two
    hidden layers with their weights. -/
def dy (a : S512x1024.Idx → ℝ) (h : S512x2816.Idx → ℝ) (w : S2816x1024.Idx → ℝ) (h' : S512x2816.Idx → ℝ)
    (w' : S2816x1024.Idx → ℝ) (i : S512x1024.Idx) : ℝ :=
  alpha * a i + ∑ k : Fin 2816, h (ix2 (i 0) k) * w (ix2 k (i 1)) + ∑ k : Fin 2816, h' (ix2 (i 0) k) * w' (ix2 k (i 1))

theorem pay1_real (a : S512x1024.Idx → ℝ) (h : S512x2816.Idx → ℝ) (w : S2816x1024.Idx → ℝ) (h' : S512x2816.Idx → ℝ)
    (w' : S2816x1024.Idx → ℝ) : k0_pay1 (F := Ideal) (re a) (re h) (re w) (re h') (re w') = re (dy a h w h' w') := by
  funext i
  idx_vars i
  pointwise [k0_pay1]
  simp only [ofBits_alpha, ← EReal.coe_mul, coe_sum, ← EReal.coe_add]
  rfl

/-- The block of the gradient of the rows before the normalisation, from the gradient `y` that reaches it. -/
theorem pay8_real (y z : S512x1024.Idx → ℝ) (g : S1x1024.Idx → ℝ) :
    k0_pay8 (F := Ideal) (re y) (k0_pay4 (re z)) (k0_pay5 (re z)) (k0_pay6 (re z)) (re g)
      = fun i => ((back eps (row z (i 0)) (fun d => y (ix2 (i 0) d) * g (ix2 0 d)) (i 1) : ℝ) : EReal) := by
  funext i
  unfold k0_pay8
  rw [pay7_real, pay5_real]
  idx_vars i
  pointwise []
  simp only [← EReal.coe_mul, coe_sum, div_1024, ← EReal.coe_sub, back, mean, Nat.cast_ofNat]

/-- The block's rows add to the running gradient of the scale. -/
theorem pay10_real (y z : S512x1024.Idx → ℝ) (s : Vec Ideal S1x1024 .f32) :
    k0_pay10 (F := Ideal) (re y) (k0_pay4 (re z)) (k0_pay6 (re z)) s
      = fun i => s i + ((∑ r : Fin 512, y (ix2 r (i 1)) * xhat eps (row z r) (i 1) : ℝ) : EReal) := by
  funext i
  unfold k0_pay10
  rw [pay7_real]
  idx_vars i
  pointwise []
  simp only [← EReal.coe_mul, coe_sum]

/-- The block's rows add to the running gradient of the shift. -/
theorem pay11_real (y : S512x1024.Idx → ℝ) (s : Vec Ideal S1x1024 .f32) :
    k0_pay11 (F := Ideal) (re y) s = fun i => s i + ((∑ r : Fin 512, y (ix2 r (i 1)) : ℝ) : EReal) := by
  funext i
  idx_vars i
  pointwise [k0_pay11]
  simp only [coe_sum]

end Cert.FfnInIdeal.Pay

end
-- ==== Proof.FfnFinal.lean ====
/- The arrays the kernel of the feed-forward input's backward pass leaves, at real numbers. -/
module

public import proofs.«01_k».proof.Proof.Gen.FfnInIdeal.Value
public import Idealize.ShloMosaic.Lib.Pipeline.ValueKit
public import Idealize.ShloMosaic.Lib.Claim
public import proofs.«01_k».proof.Proof.FfnPay

@[expose] public section

set_option maxRecDepth 16384

noncomputable section

open Idealize.ShloMosaic Idealize.ShloMosaic.TcCoe Idealize.SL.Sem
open Idealize.ShloMosaic.Pipeline (Dat)

namespace Cert.FfnInIdeal.Pay

open Cert.FfnInIdeal Cert.FfnInIdeal.Gen Cert.RealLift Cert.LayerNorm
open Cert.ProjBwdIdeal.Pay (row)

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ win0_6.index t = ![0, 0]
    ∧ win0_7.index t = ![t.val, 0] ∧ win0_8.index t = ![t.val, 0] ∧ win0_9.index t = ![0, 0] ∧ win0_10.index t = ![0, 0] :=
  (by decide +kernel : ∀ t : Fin grid0.N, _)

/-- Row `r` of block `t` in the whole array. -/
def gr (t : Fin cfg0.N) (r : Fin 512) : Fin 8192 := ⟨t.val * 512 + r.val, by have := t.isLt; have h : cfg0.N = 16 := N_0; omega⟩

/-- A sum over the blocks of the sums over each block's rows is the sum over all rows. -/
theorem sum_rows (f : Fin 8192 → ℝ) : ∑ t : Fin cfg0.N, ∑ r : Fin 512, f (gr t r) = ∑ r, f r :=
  (Fin.sum_univ_tiles cfg0.N 512 (by rw [show cfg0.N = 16 from N_0]) f).symm

/-- Window 0's block at a point, read as real numbers. -/
theorem iblk0 (A : S8192x2816.Idx → ℝ) (h : V m c main_v4 = re A) (t : Fin cfg0.N) :
    (iblk m c 0 t : Vec Ideal S512x2816 .bf16) = re fun j => A (ix2 (gr t (j 0)) (j 1)) := by
  funext j
  blk_simp [iblk]
  rw [show V m c (Pipeline.arrRef spec0 0) = _ from h]
  refine congrArg (re A) ?_
  blk_ext [idx t, gr]

/-- Window 1's block at a point, read as real numbers. -/
theorem iblk1 (A : S8192x2816.Idx → ℝ) (h : V m c main_v5 = re A) (t : Fin cfg0.N) :
    (iblk m c 1 t : Vec Ideal S512x2816 .bf16) = re fun j => A (ix2 (gr t (j 0)) (j 1)) := by
  funext j
  blk_simp [iblk]
  rw [show V m c (Pipeline.arrRef spec0 1) = _ from h]
  refine congrArg (re A) ?_
  blk_ext [idx t, gr]

/-- Window 2's block at a point, read as real numbers. -/
theorem iblk2 (A : S2816x1024.Idx → ℝ) (h : V m c main_v1 = re A) (t : Fin cfg0.N) :
    (iblk m c 2 t : Vec Ideal S2816x1024 .bf16) = re fun j => A j := by
  funext j
  blk_simp [iblk]
  rw [show V m c (Pipeline.arrRef spec0 2) = _ from h]
  refine congrArg (re A) ?_
  blk_ext [idx t]

/-- Window 3's block at a point, read as real numbers. -/
theorem iblk3 (A : S2816x1024.Idx → ℝ) (h : V m c main_v3 = re A) (t : Fin cfg0.N) :
    (iblk m c 3 t : Vec Ideal S2816x1024 .bf16) = re fun j => A j := by
  funext j
  blk_simp [iblk]
  rw [show V m c (Pipeline.arrRef spec0 3) = _ from h]
  refine congrArg (re A) ?_
  blk_ext [idx t]

/-- Window 4's block at a point, read as real numbers. -/
theorem iblk4 (A : S8192x1024.Idx → ℝ) (h : V m c main_v6 = re A) (t : Fin cfg0.N) :
    (iblk m c 4 t : Vec Ideal S512x1024 .f32) = re fun j => A (ix2 (gr t (j 0)) (j 1)) := by
  funext j
  blk_simp [iblk]
  rw [show V m c (Pipeline.arrRef spec0 4) = _ from h]
  refine congrArg (re A) ?_
  blk_ext [idx t, gr]

/-- Window 5's block at a point, read as real numbers. -/
theorem iblk5 (A : S8192x1024.Idx → ℝ) (h : V m c main_v7 = re A) (t : Fin cfg0.N) :
    (iblk m c 5 t : Vec Ideal S512x1024 .f32) = re fun j => A (ix2 (gr t (j 0)) (j 1)) := by
  funext j
  blk_simp [iblk]
  rw [show V m c (Pipeline.arrRef spec0 5) = _ from h]
  refine congrArg (re A) ?_
  blk_ext [idx t, gr]

/-- Window 6's block at a point, read as real numbers. -/
theorem iblk6 (A : S1x1024.Idx → ℝ) (h : V m c main_v8 = re A) (t : Fin cfg0.N) :
    (iblk m c 6 t : Vec Ideal S1x1024 .f32) = re fun j => A j := by
  funext j
  blk_simp [iblk]
  rw [show V m c (Pipeline.arrRef spec0 6) = _ from h]
  refine congrArg (re A) ?_
  blk_ext [idx t]

/-- The gradient that reaches the normalisation, over all rows. -/
def dyF (D : S8192x1024.Idx → ℝ) (H : S8192x2816.Idx → ℝ) (W : S2816x1024.Idx → ℝ) (H' : S8192x2816.Idx → ℝ) (W' : S2816x1024.Idx → ℝ)
    (r : Fin 8192) (d : Fin 1024) : ℝ :=
  alpha * D (ix2 r d) + ∑ k : Fin 2816, H (ix2 r k) * W (ix2 k d) + ∑ k : Fin 2816, H' (ix2 r k) * W' (ix2 k d)

variable (H H' : S8192x2816.Idx → ℝ) (W W' : S2816x1024.Idx → ℝ) (D Z : S8192x1024.Idx → ℝ) (G : S1x1024.Idx → ℝ)
  (hH : V m c main_v4 = re H) (hH' : V m c main_v5 = re H') (hW : V m c main_v1 = re W) (hW' : V m c main_v3 = re W')
  (hD : V m c main_v6 = re D) (hZ : V m c main_v7 = re Z) (hG : V m c main_v8 = re G)
include hH hH' hW hW' hD

/-- The gradient that reaches the normalisation, in one block. -/
theorem block (t : Fin cfg0.N) : k0_pay1 (F := Ideal) (iblk m c 4 t) (iblk m c 0 t) (iblk m c 2 t) (iblk m c 1 t) (iblk m c 3 t)
    = re fun i : S512x1024.Idx => dyF D H W H' W' (gr t (i 0)) (i 1) := by
  rw [iblk0 m c H hH t, iblk1 m c H' hH' t, iblk2 m c W hW t, iblk3 m c W' hW' t, iblk4 m c D hD t]
  exact pay1_real _ _ _ _ _

include hZ hG

/-- What every point computes for its block of the gradient. -/
theorem point (t : Fin cfg0.N) (y : S512x1024.Idx) :
    k0_pay8 (F := Ideal) (k0_pay1 (iblk m c 4 t) (iblk m c 0 t) (iblk m c 2 t) (iblk m c 1 t) (iblk m c 3 t))
      (k0_pay4 (iblk m c 5 t)) (k0_pay5 (iblk m c 5 t)) (k0_pay6 (iblk m c 5 t)) (iblk m c 6 t) y
      = ((back eps (row Z (gr t (y 0))) (fun d => dyF D H W H' W' (gr t (y 0)) d * G (ix2 0 d)) (y 1) : ℝ) : EReal) := by
  rw [block m c H H' W W' D hH hH' hW hW' hD t, iblk5 m c Z hZ t, iblk6 m c G hG t]
  exact congrFun (pay8_real _ _ _) y

/-- The gradient of the rows before the normalisation. -/
theorem final7 : (dats m 0 c).arrAt 7 cfg0.N = fun i : S8192x1024.Idx =>
    ((back eps (row Z (i 0)) (fun d => dyF D H W H' W' (i 0) d * G (ix2 0 d)) (i 1) : ℝ) : EReal) := by
  refine (dats m 0 c).arrAt_eq_of_covers 7 _ (by decide +kernel) fun t hf y => ?_
  have e : ((cfg0.win 7).blk t).view.emb y = ix2 (gr t (y 0)) (y 1) := by blk_ext [idx t, gr]
  rw [e]
  blk_simp
  rw [after0_7]
  by_cases h : t.val % 16 = 0
  · rw [outsAt0_A m c t h]
    frame_out
    exact point m c H H' W W' D Z G hH hH' hW hW' hD hZ hG t y
  · rw [outsAt0_B m c t h]
    frame_out
    exact point m c H H' W W' D Z G hH hH' hW hW' hD hZ hG t y

/-- The same gradient in the narrow format, which at real numbers is the same array. -/
theorem final8 : (dats m 0 c).arrAt 8 cfg0.N = fun i : S8192x1024.Idx =>
    ((back eps (row Z (i 0)) (fun d => dyF D H W H' W' (i 0) d * G (ix2 0 d)) (i 1) : ℝ) : EReal) := by
  refine (dats m 0 c).arrAt_eq_of_covers 8 _ (by decide +kernel) fun t hf y => ?_
  have e : ((cfg0.win 8).blk t).view.emb y = ix2 (gr t (y 0)) (y 1) := by blk_ext [idx t, gr]
  rw [e]
  blk_simp
  rw [after0_8]
  by_cases h : t.val % 16 = 0
  · rw [outsAt0_A m c t h]
    frame_out
    exact point m c H H' W W' D Z G hH hH' hW hW' hD hZ hG t y
  · rw [outsAt0_B m c t h]
    frame_out
    exact point m c H H' W W' D Z G hH hH' hW hW' hD hZ hG t y

omit hG

/-- The gradient of the normalisation's scale: over all rows, `dy · xhat`. -/
theorem final9 : (dats m 0 c).arrAt 9 cfg0.N = fun i : S1x1024.Idx =>
    ((∑ r : Fin 8192, dyF D H W H' W' r (i 1) * xhat eps (row Z r) (i 1) : ℝ) : EReal) := by
  have hpay (t : Fin cfg0.N) (s : Vec Ideal S1x1024 .f32) (i : S1x1024.Idx) :
      k0_pay10 (F := Ideal) (k0_pay1 (iblk m c 4 t) (iblk m c 0 t) (iblk m c 2 t) (iblk m c 1 t) (iblk m c 3 t))
          (k0_pay4 (iblk m c 5 t)) (k0_pay6 (iblk m c 5 t)) s i
        = s i + ((∑ r : Fin 512, dyF D H W H' W' (gr t r) (i 1) * xhat eps (row Z (gr t r)) (i 1) : ℝ) : EReal) := by
    rw [block m c H H' W W' D hH hH' hW hW' hD t, iblk5 m c Z hZ t]
    exact congrFun (pay10_real _ _ _) i
  have hzero (i : S1x1024.Idx) : k0_pay2 (F := Ideal) i = 0 := by pointwise [k0_pay2]
  refine (dats m 0 c).arrAt_eq_of_after_last 9 t0_15 (by decide +kernel) _ fun j => ?_
  blk_simp
  rw [after0_9, Pipeline.eq_sum_fin_of_reset_step_apply_last (fun n h => (outsAt0 m c n h).2.2.1) 16 (fun _ => 0)
    (fun t i => ((∑ r : Fin 512, dyF D H W H' W' (gr t r) (i 1) * xhat eps (row Z (gr t r)) (i 1) : ℝ) : EReal))
    (fun t h i => by rw [outsAt0_A m c t h]; frame_out; exact (hpay t _ i).trans (congrArg (· + _) (hzero i)))
    (fun t h i => by rw [outsAt0_B m c t h]; frame_out; exact hpay t _ i) (le_of_eq N_0) t0_15 rfl j, zero_add, coe_sum]
  exact congrArg _ (sum_rows fun r => dyF D H W H' W' r (j 1) * xhat eps (row Z r) (j 1))

omit hZ

/-- The gradient of the normalisation's shift: over all rows, `dy`. -/
theorem final10 : (dats m 0 c).arrAt 10 cfg0.N = fun i : S1x1024.Idx =>
    ((∑ r : Fin 8192, dyF D H W H' W' r (i 1) : ℝ) : EReal) := by
  have hpay (t : Fin cfg0.N) (s : Vec Ideal S1x1024 .f32) (i : S1x1024.Idx) :
      k0_pay11 (F := Ideal) (k0_pay1 (iblk m c 4 t) (iblk m c 0 t) (iblk m c 2 t) (iblk m c 1 t) (iblk m c 3 t)) s i
        = s i + ((∑ r : Fin 512, dyF D H W H' W' (gr t r) (i 1) : ℝ) : EReal) := by
    rw [block m c H H' W W' D hH hH' hW hW' hD t]
    exact congrFun (pay11_real _ _) i
  have hzero (i : S1x1024.Idx) : k0_pay3 (F := Ideal) i = 0 := by pointwise [k0_pay3]
  refine (dats m 0 c).arrAt_eq_of_after_last 10 t0_15 (by decide +kernel) _ fun j => ?_
  blk_simp
  rw [after0_10, Pipeline.eq_sum_fin_of_reset_step_apply_last (fun n h => (outsAt0 m c n h).2.2.2) 16 (fun _ => 0)
    (fun t i => ((∑ r : Fin 512, dyF D H W H' W' (gr t r) (i 1) : ℝ) : EReal))
    (fun t h i => by rw [outsAt0_A m c t h]; frame_out; exact (hpay t _ i).trans (congrArg (· + _) (hzero i)))
    (fun t h i => by rw [outsAt0_B m c t h]; frame_out; exact hpay t _ i) (le_of_eq N_0) t0_15 rfl j, zero_add, coe_sum]
  exact congrArg _ (sum_rows fun r => dyF D H W H' W' r (j 1))

end Cert.FfnInIdeal.Pay

end
-- ==== Proof.NormRef.lean ====
/- The derivative of the normalisation of rows as the reference programs compute it, one operation at a time, at real
   numbers. Three references share these lines. -/
module

public import proofs.«01_k».proof.Proof.Gen.ProjGradIdeal.Read
public import proofs.«01_k».proof.Proof.RealLift
public import proofs.«01_k».proof.Proof.LayerNorm

@[expose] public section

set_option maxRecDepth 16384

noncomputable section

open Idealize.ShloMosaic Idealize.ShloMosaic.TcCoe Idealize.SL.Sem

namespace Cert.NormRef

open Cert.ProjGradIdeal Cert.ProjGradIdeal.Gen Cert.ProjGradIdeal.Read Cert.RealLift Cert.LayerNorm

variable (z : S4x2048x1024.Idx → ℝ)

/-- The deviations of each row from its mean. -/
theorem v5_real : val_main_v5 (F := Ideal) (re z) = fun i => ((cen (row3 z (i 0) (i 1)) (i 2) : ℝ) : EReal) := by
  funext i
  idx_vars i
  pointwise [val_main_v5, val_main_v4, val_main_v3, val_main_v2, val_main_v1, val_main_v0, val_main_cst, val_main_cst_0]
  simp only [coe_sum, div_1024, ← EReal.coe_sub, cen, mean, Nat.cast_ofNat, zero_add]

theorem v14_eq : val_main_v14 (F := Ideal) (re z) = val_main_v5 (re z) := rfl

/-- The variance of each row with the small constant added. -/
theorem v16_real : val_main_v16 (F := Ideal) (re z) = fun i => ((var (row3 z (i 0) (i 1)) + eps : ℝ) : EReal) := by
  funext i
  unfold val_main_v16 val_main_v12 val_main_v10 val_main_v9 val_main_v6
  rw [v5_real]
  idx_vars i
  pointwise [val_main_v15, val_main_cst_4, val_main_v11, val_main_cst_3, val_main_cst_2]
  simp only [← EReal.coe_mul, coe_sum, div_1024, ofBits_eps, ← EReal.coe_add, var, mean, Nat.cast_ofNat, zero_add]

/-- The reciprocal standard deviation of each row. -/
theorem v17_real : val_main_v17 (F := Ideal) (re z) = fun i => ((rstd eps (row3 z (i 0) (i 1)) : ℝ) : EReal) := by
  funext i
  unfold val_main_v17
  rw [v16_real]
  exact rsqrt_real (var_add_pos eps_pos _)

/-- The derivative of the reciprocal root. -/
theorem v20_real : val_main_v20 (F := Ideal) (re z)
    = fun i => ((-1 / 2 * (rstd eps (row3 z (i 0) (i 1)) / (var (row3 z (i 0) (i 1)) + eps)) : ℝ) : EReal) := by
  funext i
  unfold val_main_v20 val_main_v18
  rw [v16_real, v17_real]
  idx_vars i
  pointwise [val_main_v19, val_main_cst_5]
  rw [ofBits_neg_half, div_real _ (var_add_pos eps_pos _).ne', ← EReal.coe_mul]

/-- Each row normalised. -/
theorem v22_real : val_main_v22 (F := Ideal) (re z) = fun i => ((xhat eps (row3 z (i 0) (i 1)) (i 2) : ℝ) : EReal) := by
  funext i
  unfold val_main_v22 val_main_v21
  rw [v14_eq, v5_real, v17_real]
  idx_vars i
  pointwise []
  rw [← EReal.coe_mul, xhat]

/-- Twice the deviations. -/
theorem v8_real : val_main_v8 (F := Ideal) (re z) = fun i => ((2 * cen (row3 z (i 0) (i 1)) (i 2) : ℝ) : EReal) := by
  funext i
  unfold val_main_v8
  rw [v5_real]
  idx_vars i
  pointwise [val_main_v7, val_main_cst_1]
  rw [ofBits_2, ← EReal.coe_mul]

/-- An array of all rows. -/
abbrev Rows : Type := FVec Ideal S4x2048x1024 .f32

/-- One number a row. -/
abbrev Col : Type := FVec Ideal S4x2048x1 .f32

/-- One number a column. -/
abbrev Line : Type := FVec Ideal S1024 .f32

/-- The sums over all rows. -/
def colSum (x : Rows) : Line :=
  Host.reduceAdd (shapeCast S1x1x1024 (Host.reduceAdd x (val_main_cst_8 (F := Ideal)) reducesTo_S4x2048x1024_S1024_d0_1 h_S_ : Line)
    shapeCasts_S1024_S1x1x1024 : FVec Ideal S1x1x1024 .f32) (val_main_cst_9 (F := Ideal)) reducesTo_S1x1x1024_S1024_d0_1 h_S_

/-- One number a row: the sum of the row. -/
def rowSum (x : Rows) : Col :=
  shapeCast S4x2048x1 (Host.reduceAdd x (val_main_cst_12 (F := Ideal)) reducesTo_S4x2048x1024_S4x2048_d2 h_S_ :
    FVec Ideal S4x2048 .f32) shapeCasts_S4x2048_S4x2048x1

/-- One number a row divided by the width and repeated along the row. -/
def spread (x : Col) : Rows :=
  broadcastInDim S4x2048x1024 ![0, 1] bcast_S4x2048_S4x2048x1024_0_1
    (Host.reduceAdd (Host.divf x (val_main_v63 (F := Ideal))) (val_main_cst_15 (F := Ideal)) reducesTo_S4x2048x1_S4x2048_d2 h_S_ :
      FVec Ideal S4x2048 .f32)

/-- The gradient scaled by the reciprocal deviation. -/
def direct (r : Col) (u : Rows) : Rows := mulf u (broadcastInDim S4x2048x1024 ![0, 1, 2] bcast_S4x2048x1_S4x2048x1024_0_1_2 r : Rows)

/-- What flows back through the variance. -/
def viaVar (c c2 : Rows) (f : Col) (u : Rows) : Rows := mulf (spread (mulf (rowSum (mulf c u)) f)) c2

/-- The gradient of the rows, from the gradient `u` of the normalised rows. -/
def normGrad (c c2 : Rows) (r f : Col) (u : Rows) : Rows :=
  addf (addf (direct r u) (viaVar c c2 f u))
    (spread (addf (rowSum (Host.negf (direct r u))) (rowSum (Host.negf (viaVar c c2 f u)))))

/-- The sums over all rows, at real numbers. -/
theorem colSum_real (x : S4x2048x1024.Idx → ℝ) : colSum (re x) = fun i : S1024.Idx => ((∑ a, ∑ b, x (ix3 a b (i 0)) : ℝ) : EReal) := by
  funext i
  idx_vars i
  have h0 (b : S_.Idx) : val_main_cst_9 (F := Ideal) b = 0 := by pointwise [val_main_cst_9]
  have h1 (b : S_.Idx) : val_main_cst_8 (F := Ideal) b = 0 := by pointwise [val_main_cst_8]
  refine (hostReduceAdd_axes01 reducesTo_S1x1x1024_S1024_d0_1 _ _ _).trans ?_
  rw [h0, zero_add]
  simp only [Finset.univ_unique, Finset.sum_singleton]
  pointwise []
  refine (hostReduceAdd_axes01 reducesTo_S4x2048x1024_S1024_d0_1 _ _ _).trans ?_
  rw [h1, zero_add]
  simp only [coe_sum]
  rfl

/-- The sum of each row, at real numbers. -/
theorem rowSum_real (x : S4x2048x1024.Idx → ℝ) : rowSum (re x) = fun i : S4x2048x1.Idx => ((∑ d, x (ix3 (i 0) (i 1) d) : ℝ) : EReal) := by
  funext i
  idx_vars i
  pointwise [rowSum, val_main_cst_12]
  simp only [coe_sum, zero_add]

/-- A number a row, divided by the width and repeated, at real numbers. -/
theorem spread_real (x : S4x2048x1.Idx → ℝ) : spread (re x) = fun i : S4x2048x1024.Idx => ((x (ix3 (i 0) (i 1) 0) / 1024 : ℝ) : EReal) := by
  funext i
  idx_vars i
  pointwise [spread, val_main_cst_15, val_main_v63, val_main_cst_14]
  simp only [div_1024, zero_add, Finset.univ_unique, Finset.sum_singleton]
  rfl

/-- The gradient of the rows, at real numbers. -/
theorem normGrad_real (u : S4x2048x1024.Idx → ℝ) :
    normGrad (val_main_v14 (F := Ideal) (re z)) (val_main_v8 (F := Ideal) (re z)) (val_main_v17 (F := Ideal) (re z)) (val_main_v20 (F := Ideal) (re z)) (re u)
      = fun i => ((back eps (row3 z (i 0) (i 1)) (row3 u (i 0) (i 1)) (i 2) : ℝ) : EReal) := by
  have hd : direct (val_main_v17 (F := Ideal) (re z)) (re u) = re fun i => u i * rstd eps (row3 z (i 0) (i 1)) := by
    rw [v17_real]
    funext i
    idx_vars i
    pointwise [direct]
    exact (EReal.coe_mul _ _).symm
  have hv : viaVar (val_main_v14 (F := Ideal) (re z)) (val_main_v8 (F := Ideal) (re z)) (val_main_v20 (F := Ideal) (re z)) (re u)
      = re fun i => varGrad eps (row3 z (i 0) (i 1)) (row3 u (i 0) (i 1)) * (2 * cen (row3 z (i 0) (i 1)) (i 2)) := by
    unfold viaVar
    have h1 : (mulf (F := Ideal) (val_main_v14 (F := Ideal) (re z) : Rows) (re u : Rows) : Rows) = re fun i => cen (row3 z (i 0) (i 1)) (i 2) * u i := by
      rw [v14_eq, v5_real]
      funext i
      pointwise []
      rw [← EReal.coe_mul]
    rw [h1, rowSum_real, v20_real]
    have h2 (x y : S4x2048x1.Idx → ℝ) : (mulf (F := Ideal) (re x : Col) (re y : Col) : Col) = re fun i => x i * y i := by
      funext i
      pointwise []
      rw [← EReal.coe_mul]
    rw [h2, spread_real, v8_real]
    funext i
    idx_vars i
    pointwise []
    exact (EReal.coe_mul _ _).symm
  have hn (x : S4x2048x1024.Idx → ℝ) : (Host.negf (F := Ideal) (re x : Rows) : Rows) = re fun i => -x i := by
    funext i
    exact (EReal.coe_neg _).symm
  have ha (x y : S4x2048x1.Idx → ℝ) : (addf (F := Ideal) (re x : Col) (re y : Col) : Col) = re fun i => x i + y i := by
    funext i
    exact (EReal.coe_add _ _).symm
  unfold normGrad
  rw [hd, hv, hn, hn, rowSum_real, rowSum_real, ha, spread_real]
  funext i
  idx_vars i
  pointwise []
  rw [← EReal.coe_add, ← EReal.coe_add]
  exact congrArg _ (vjp_eq_back eps_pos (by norm_num) (row3 z i0 i1) (row3 u i0 i1) i2)

end Cert.NormRef

end
-- ==== Proof.FfnRef.lean ====
/- The derivative of the feed-forward layers' forward lines by their input, one operation at a time, at real numbers. -/
module

public import proofs.«01_k».proof.Proof.Gen.FfnGradIdeal.Read
public import proofs.«01_k».proof.Proof.NormRef

@[expose] public section

set_option maxRecDepth 16384

noncomputable section

open Idealize.ShloMosaic Idealize.ShloMosaic.TcCoe Idealize.SL.Sem

namespace Cert.FfnGradIdeal.Real

open Cert.FfnGradIdeal Cert.FfnGradIdeal.Gen Cert.FfnGradIdeal.Read Cert.RealLift Cert.LayerNorm Cert.NormRef

variable (da db : S4x2048x2816.Idx → ℝ) (wg wu : S1024x2816.Idx → ℝ) (dz z : S4x2048x1024.Idx → ℝ) (g : S1024.Idx → ℝ)

/-- The gradient that reaches the normalisation: the residual branch's and the two hidden layers'. -/
def dy (a : Fin 4) (b : Fin 2048) (d : Fin 1024) : ℝ :=
  alpha * dz (ix3 a b d) + ∑ j : Fin 2816, db (ix3 a b j) * wu (ix2 d j) + ∑ j : Fin 2816, da (ix3 a b j) * wg (ix2 d j)

/-- The gradient of the rows before the normalisation. -/
def dx (a : Fin 4) (b : Fin 2048) (d : Fin 1024) : ℝ :=
  back eps (row3 z a b) (fun e => dy da db wg wu dz a b e * g (ix1 e)) d

theorem v40_real : val_main_v40 (F := Ideal) (re da) (re db) (re wg) (re wu) (re dz)
    = re fun i => dy da db wg wu dz (i 0) (i 1) (i 2) := by
  funext i
  idx_vars i
  pointwise [val_main_v40, val_main_v39, val_main_v38, val_main_v37, val_main_v36, val_main_v35, val_main_v34, val_main_v33, val_main_cst_7]
  simp only [ofBits_alpha, ← EReal.coe_mul, coe_sum, ← EReal.coe_add]
  rfl

/-- The same scaled by the weights. -/
theorem v48_real : val_main_v48 (F := Ideal) (re da) (re db) (re wg) (re wu) (re dz) (re g)
    = re fun i => dy da db wg wu dz (i 0) (i 1) (i 2) * g (ix1 (i 2)) := by
  funext i
  unfold val_main_v48
  rw [v40_real]
  idx_vars i
  pointwise [val_main_v47, val_main_v23]
  exact (EReal.coe_mul _ _).symm

/-- The gradient of the rows. -/
theorem v73_real : val_main_v73 (F := Ideal) (re da) (re db) (re wg) (re wu) (re dz) (re z) (re g)
    = re fun i => dx da db wg wu dz z g (i 0) (i 1) (i 2) := by
  rw [show val_main_v73 (F := Ideal) (re da) (re db) (re wg) (re wu) (re dz) (re z) (re g)
    = normGrad (Cert.ProjGradIdeal.Read.val_main_v14 (F := Ideal) (re z)) (Cert.ProjGradIdeal.Read.val_main_v8 (F := Ideal) (re z))
      (Cert.ProjGradIdeal.Read.val_main_v17 (F := Ideal) (re z)) (Cert.ProjGradIdeal.Read.val_main_v20 (F := Ideal) (re z))
      (val_main_v48 (F := Ideal) (re da) (re db) (re wg) (re wu) (re dz) (re g)) from rfl, v48_real]
  exact normGrad_real z fun i => dy da db wg wu dz (i 0) (i 1) (i 2) * g (ix1 (i 2))

/-- The gradient of the normalisation's scale. -/
theorem v49_real : val_main_v49 (F := Ideal) (re da) (re db) (re wg) (re wu) (re dz) (re z)
    = fun i => ((∑ a, ∑ b, xhat eps (row3 z a b) (i 0) * dy da db wg wu dz a b (i 0) : ℝ) : EReal) := by
  rw [show val_main_v49 (F := Ideal) (re da) (re db) (re wg) (re wu) (re dz) (re z)
    = colSum (val_main_v44 (F := Ideal) (re da) (re db) (re wg) (re wu) (re dz) (re z)) from rfl]
  have h : val_main_v44 (F := Ideal) (re da) (re db) (re wg) (re wu) (re dz) (re z)
      = re fun i => xhat eps (row3 z (i 0) (i 1)) (i 2) * dy da db wg wu dz (i 0) (i 1) (i 2) := by
    unfold val_main_v44
    rw [v40_real, show val_main_v22 (F := Ideal) (re z) = Cert.ProjGradIdeal.Read.val_main_v22 (re z) from rfl, v22_real]
    funext i
    exact (EReal.coe_mul _ _).symm
  rw [h]
  exact colSum_real _

/-- The gradient of the normalisation's shift. -/
theorem v43_real : val_main_v43 (F := Ideal) (re da) (re db) (re wg) (re wu) (re dz)
    = fun i => ((∑ a, ∑ b, dy da db wg wu dz a b (i 0) : ℝ) : EReal) := by
  rw [show val_main_v43 (F := Ideal) (re da) (re db) (re wg) (re wu) (re dz)
    = colSum (val_main_v40 (F := Ideal) (re da) (re db) (re wg) (re wu) (re dz)) from rfl, v40_real]
  exact colSum_real _

/-- The four results. -/
theorem results :
    (val_main_v74 (F := Ideal) (re da) (re db) (re wg) (re wu) (re dz) (re z) (re g)
      = re fun i => dx da db wg wu dz z g (blockOf (i 0)) (placeOf (i 0)) (i 1))
    ∧ (val_main_v76 (F := Ideal) (re da) (re db) (re wg) (re wu) (re dz) (re z) (re g)
      = re fun i => dx da db wg wu dz z g (blockOf (i 0)) (placeOf (i 0)) (i 1))
    ∧ (val_main_v77 (F := Ideal) (re da) (re db) (re wg) (re wu) (re dz) (re z)
      = re fun i => ∑ r : Fin 8192, xhat eps (row3 z (blockOf r) (placeOf r)) (i 1) * dy da db wg wu dz (blockOf r) (placeOf r) (i 1))
    ∧ (val_main_v78 (F := Ideal) (re da) (re db) (re wg) (re wu) (re dz)
      = re fun i => ∑ r : Fin 8192, dy da db wg wu dz (blockOf r) (placeOf r) (i 1)) := by
  refine ⟨?_, ?_, ?_, ?_⟩ <;> funext i
  · unfold val_main_v74
    rw [v73_real]
    idx_vars i
    pointwise []
    rfl
  · unfold val_main_v76 val_main_v75
    rw [v73_real]
    idx_vars i
    pointwise []
    rfl
  · unfold val_main_v77
    rw [v49_real]
    idx_vars i
    pointwise []
    exact congrArg _ (sum_blocks fun a b => xhat eps (row3 z a b) i1 * dy da db wg wu dz a b i1).symm
  · unfold val_main_v78
    rw [v43_real]
    idx_vars i
    pointwise []
    exact congrArg _ (sum_blocks fun a b => dy da db wg wu dz a b i1).symm

end Cert.FfnGradIdeal.Real

end
-- ==== Proof.FfnClaim.lean ====
/- The backward pass of the feed-forward layers' input and the normalisation before it: the kernel computes the
   derivative of the forward lines. -/
module

public import proofs.«01_k».proof.Defs
public import proofs.«01_k».proof.Proof.Gen.Pre_ffn_in_finite
public import proofs.«01_k».proof.Proof.Gen.FfnGradIdeal.Run
public import proofs.«01_k».proof.Proof.FfnFinal
public import proofs.«01_k».proof.Proof.FfnRef

@[expose] public section

set_option maxRecDepth 16384

noncomputable section

open Idealize.ShloMosaic Idealize.ShloMosaic.TcCoe Idealize.SL.Sem

namespace Cert.FfnInIdeal.Pay

open Cert.FfnInIdeal Cert.FfnInIdeal.Gen Cert.RealLift Cert.LayerNorm

variable (m : (ℓ : Loc nD τ sig) → Buf (Elt Ideal) ℓ) (c : Dev nD)

/-- The first hidden layer's weights, transposed. -/
theorem entry1 (x : S1024x2816.Idx → ℝ) (h : m ((c : Thread nD τ).loc main_arg2) = re x) :
    V m c main_v1 = re fun i : S2816x1024.Idx => x (ix2 (i 1) (i 0)) := by
  entry_read
  funext i
  idx_vars i
  pointwise []
  exact congrFun h _

/-- The second hidden layer's weights, transposed. -/
theorem entry3 (x : S1024x2816.Idx → ℝ) (h : m ((c : Thread nD τ).loc main_arg3) = re x) :
    V m c main_v3 = re fun i : S2816x1024.Idx => x (ix2 (i 1) (i 0)) := by
  entry_read
  funext i
  idx_vars i
  pointwise []
  exact congrFun h _

/-- The gradient of the first hidden layer, row after row. -/
theorem entry4 (x : S4x2048x2816.Idx → ℝ) (h : m ((c : Thread nD τ).loc main_arg0) = re x) :
    V m c main_v4 = re (flat x) := by
  entry_read
  funext i
  idx_vars i
  pointwise []
  exact congrFun h _

/-- The gradient of the second hidden layer, row after row. -/
theorem entry5 (x : S4x2048x2816.Idx → ℝ) (h : m ((c : Thread nD τ).loc main_arg1) = re x) :
    V m c main_v5 = re (flat x) := by
  entry_read
  funext i
  idx_vars i
  pointwise []
  exact congrFun h _

/-- The gradient of the residual branch, row after row. -/
theorem entry6 (x : S4x2048x1024.Idx → ℝ) (h : m ((c : Thread nD τ).loc main_arg4) = re x) :
    V m c main_v6 = re (flat x) := by
  entry_read
  funext i
  idx_vars i
  pointwise []
  exact congrFun h _

/-- The rows before the normalisation, row after row. -/
theorem entry7 (x : S4x2048x1024.Idx → ℝ) (h : m ((c : Thread nD τ).loc main_arg5) = re x) :
    V m c main_v7 = re (flat x) := by
  entry_read
  funext i
  idx_vars i
  pointwise []
  exact congrFun h _

/-- The normalisation's scale, as one row. -/
theorem entry8 (x : S1024.Idx → ℝ) (h : m ((c : Thread nD τ).loc main_arg6) = re x) :
    V m c main_v8 = re fun i : S1x1024.Idx => x (ix1 (i 1)) := by
  entry_read
  funext i
  idx_vars i
  pointwise []
  exact congrFun h _

end Cert.FfnInIdeal.Pay

namespace Cert.FfnProof

open Cert.RealLift Cert.LayerNorm

/-- Arrays the precondition holds of are arrays of real numbers. -/
theorem finite {x0 x1 x2 x3 x4 x5 x6 x7}
    (h : Cert.Pre_ffn_in_finite.fn (F := Ideal) x0 x1 x2 x3 x4 x5 x6 x7 = fun _ => 1#1) :
    (∃ y, x0 = re y) ∧ (∃ y, x1 = re y) ∧ (∃ y, x2 = re y) ∧ (∃ y, x3 = re y) ∧ (∃ y, x4 = re y) ∧ (∃ y, x5 = re y) ∧ ∃ y, x6 = re y := by
  have h := congrFun h fun a => a.elim0
  unfold Cert.Pre_ffn_in_finite.fn Cert.Pre_ffn_in_finite.fn_part1 Cert.Pre_ffn_in_finite.fn_part2 at h
  dsimp only at h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨real_of_all ofBits_bot16 ofBits_top16 h0, real_of_all ofBits_bot16 ofBits_top16 h1, real_of_all ofBits_bot ofBits_top h2,
    real_of_all ofBits_bot ofBits_top h3, real_of_all ofBits_bot ofBits_top h4, real_of_all ofBits_bot ofBits_top h5,
    real_of_all ofBits_bot ofBits_top h6⟩

open Cert.FfnGradIdeal.Real in
/-- The kernel adds the products in the other order. -/
theorem dy_eq (da db : Cert.FfnGradIdeal.S4x2048x2816.Idx → ℝ) (wg wu : Cert.FfnGradIdeal.S1024x2816.Idx → ℝ) (dz : Cert.FfnGradIdeal.S4x2048x1024.Idx → ℝ) :
    Cert.FfnInIdeal.Pay.dyF (flat dz) (flat da) (fun i => wg (ix2 (i 1) (i 0))) (flat db) (fun i => wu (ix2 (i 1) (i 0)))
      = fun r d => dy da db wg wu dz (blockOf r) (placeOf r) d :=
  funext fun _ => funext fun _ => add_right_comm _ _ _

open Cert.FfnInIdeal.Pay in
set_option maxHeartbeats 1600000 in
/-- The kernel and the derivative of the forward lines compute the same gradients of finite arrays. -/
theorem algebraic : Cert.algebraic_FfnInIdeal_FfnGradIdeal_pre_ffn_in_finite (hFfnInIdeal := Cert.FfnInIdeal.Gen.facts)
    (hFfnGradIdeal := Cert.FfnGradIdeal.Gen.facts) (hPre_ffn_in_finite := Cert.Pre_ffn_in_finite.Gen.facts) := by
  intro m ρ m' ρ' hpre hag
  refine ⟨fun c => (Cert.FfnInIdeal.Gen.dats m 0 c).arrAt 7 Cert.FfnInIdeal.cfg0.N, fun c => (Cert.FfnInIdeal.Gen.dats m 0 c).arrAt 8 Cert.FfnInIdeal.cfg0.N,
    fun c => (Cert.FfnInIdeal.Gen.dats m 0 c).arrAt 9 Cert.FfnInIdeal.cfg0.N, fun c => (Cert.FfnInIdeal.Gen.dats m 0 c).arrAt 10 Cert.FfnInIdeal.cfg0.N,
    Cert.FfnInIdeal.Value.run_blocks m ρ, θ_run_mono (Cert.FfnGradIdeal.Value.run m' ρ') fun r h c => ?_⟩
  obtain ⟨⟨da, hda⟩, ⟨db, hdb⟩, ⟨wg, hwg⟩, ⟨wu, hwu⟩, ⟨dz, hdz⟩, ⟨z, hz⟩, ⟨g, hg⟩⟩ := finite (hpre c)
  obtain ⟨a0, a1, a2, a3, a4, a5, a6, -⟩ := hag c
  obtain ⟨h0, h1, h2, h3, hrest⟩ := h c
  obtain ⟨e0, e1, e2, e3⟩ := Cert.FfnGradIdeal.Real.results da db wg wu dz z g
  have W := entry1 m c wg hwg
  have W' := entry3 m c wu hwu
  have H := entry4 m c da hda
  have H' := entry5 m c db hdb
  have D := entry6 m c dz hdz
  have Z := entry7 m c z hz
  have G := entry8 m c g hg
  have hy := dy_eq da db wg wu dz
  rw [hda] at a0
  rw [hdb] at a1
  rw [hwg] at a2
  rw [hwu] at a3
  rw [hdz] at a4
  rw [hz] at a5
  rw [hg] at a6
  refine ⟨?_, ?_, ?_, ?_, hrest⟩
  · rw [h0, Cert.FfnGradIdeal.Read.val_main_v74_eq, a0, a1, a2, a3, a4, a5, a6, e0]
    refine ((final7 m c _ _ _ _ _ _ _ H H' W W' D Z G).trans ?_).symm
    rw [hy]
    rfl
  · rw [h1, Cert.FfnGradIdeal.Read.val_main_v76_eq, a0, a1, a2, a3, a4, a5, a6, e1]
    refine ((final8 m c _ _ _ _ _ _ _ H H' W W' D Z G).trans ?_).symm
    rw [hy]
    rfl
  · refine (h2.trans (Cert.FfnGradIdeal.Read.val_main_v77_eq _ _ _ _ _ _)).trans ?_
    rw [a0, a1, a2, a3, a4, a5, e2]
    refine ((final9 m c _ _ _ _ _ _ H H' W W' D Z).trans ?_).symm
    rw [hy]
    funext i
    exact congrArg _ (Finset.sum_congr rfl fun r _ => mul_comm _ _)
  · refine (h3.trans (Cert.FfnGradIdeal.Read.val_main_v78_eq _ _ _ _ _)).trans ?_
    rw [a0, a1, a2, a3, a4, e3]
    refine ((final10 m c _ _ _ _ _ H H' W W' D).trans ?_).symm
    rw [hy]

end Cert.FfnProof

end
-- ==== Proof.ProjRef.lean ====
/- The derivative of the input projection's forward lines, one operation at a time, at real numbers. -/
module

public import proofs.«01_k».proof.Proof.NormRef
public import proofs.«01_k».proof.Proof.ProjMath

@[expose] public section

set_option maxRecDepth 16384

noncomputable section

open Idealize.ShloMosaic Idealize.ShloMosaic.TcCoe Idealize.SL.Sem

namespace Cert.ProjGradIdeal.Real

open Cert.ProjGradIdeal Cert.ProjGradIdeal.Gen Cert.ProjGradIdeal.Read Cert.RealLift Cert.LayerNorm Cert.NormRef Cert.ProjMath

variable (q k v : S4x2048x768.Idx → ℝ) (qm : S4x2048x256.Idx → ℝ) (w : S1024x2560.Idx → ℝ)
  (dz z : S4x2048x1024.Idx → ℝ) (g : S1024.Idx → ℝ)

/-- The gradients of the columns side by side. -/
theorem v42_real : val_main_v42 (F := Ideal) (re q) (re k) (re v) (re qm) = fun i => ((cols q k v qm (i 0) (i 1) (i 2) : ℝ) : EReal) := by
  funext i
  idx_vars i
  pointwise [val_main_v42, val_main_v36, val_main_v37, val_main_v38, val_main_v39]
  unfold cols
  split_ifs <;> rfl

/-- The gradient that reaches the normalisation. -/
theorem v44_real : val_main_v44 (F := Ideal) (re q) (re k) (re v) (re qm) (re w) (re dz)
    = fun i => ((dy q k v qm w dz (i 0) (i 1) (i 2) : ℝ) : EReal) := by
  funext i
  unfold val_main_v44 val_main_v43
  rw [v42_real]
  idx_vars i
  pointwise [val_main_v41, val_main_v40, val_main_cst_7]
  simp only [ofBits_alpha, ← EReal.coe_mul, coe_sum, ← EReal.coe_add, dy]

/-- The same scaled by the weights. -/
theorem v52_real : val_main_v52 (F := Ideal) (re q) (re k) (re v) (re qm) (re w) (re dz) (re g)
    = fun i => ((dy q k v qm w dz (i 0) (i 1) (i 2) * g (ix1 (i 2)) : ℝ) : EReal) := by
  funext i
  unfold val_main_v52
  rw [v44_real]
  idx_vars i
  pointwise [val_main_v51, val_main_v23]
  rw [← EReal.coe_mul]

/-- The gradient of the rows. -/
theorem v77_real : val_main_v77 (F := Ideal) (re q) (re k) (re v) (re qm) (re w) (re dz) (re z) (re g)
    = fun i => ((dx q k v qm w dz z g (i 0) (i 1) (i 2) : ℝ) : EReal) := by
  rw [show val_main_v77 (F := Ideal) (re q) (re k) (re v) (re qm) (re w) (re dz) (re z) (re g)
    = normGrad (val_main_v14 (F := Ideal) (re z)) (val_main_v8 (F := Ideal) (re z)) (val_main_v17 (F := Ideal) (re z)) (val_main_v20 (F := Ideal) (re z))
      (val_main_v52 (F := Ideal) (re q) (re k) (re v) (re qm) (re w) (re dz) (re g)) from rfl, v52_real]
  exact normGrad_real z fun i => dy q k v qm w dz (i 0) (i 1) (i 2) * g (ix1 (i 2))

/-- The gradient of the normalisation's scale. -/
theorem v53_real : val_main_v53 (F := Ideal) (re q) (re k) (re v) (re qm) (re w) (re dz) (re z)
    = fun i => ((∑ a, ∑ b, xhat eps (row3 z a b) (i 0) * dy q k v qm w dz a b (i 0) : ℝ) : EReal) := by
  rw [show val_main_v53 (F := Ideal) (re q) (re k) (re v) (re qm) (re w) (re dz) (re z)
    = colSum (val_main_v48 (F := Ideal) (re q) (re k) (re v) (re qm) (re w) (re dz) (re z)) from rfl]
  have h : val_main_v48 (F := Ideal) (re q) (re k) (re v) (re qm) (re w) (re dz) (re z)
      = re fun i => xhat eps (row3 z (i 0) (i 1)) (i 2) * dy q k v qm w dz (i 0) (i 1) (i 2) := by
    unfold val_main_v48
    rw [v22_real, v44_real]
    funext i
    pointwise []
    rw [← EReal.coe_mul]
  rw [h]
  exact colSum_real _

/-- The gradient of the normalisation's shift. -/
theorem v47_real : val_main_v47 (F := Ideal) (re q) (re k) (re v) (re qm) (re w) (re dz)
    = fun i => ((∑ a, ∑ b, dy q k v qm w dz a b (i 0) : ℝ) : EReal) := by
  rw [show val_main_v47 (F := Ideal) (re q) (re k) (re v) (re qm) (re w) (re dz)
    = colSum (val_main_v44 (F := Ideal) (re q) (re k) (re v) (re qm) (re w) (re dz)) from rfl, v44_real]
  exact colSum_real _

end Cert.ProjGradIdeal.Real

end
-- ==== Proof.ProjClaim.lean ====
/- The backward pass of the input projection and the normalisation before it: the kernel computes the derivative of the
   forward lines. -/
module

public import proofs.«01_k».proof.Defs
public import proofs.«01_k».proof.Proof.Gen.Pre_proj_finite
public import proofs.«01_k».proof.Proof.Gen.ProjGradIdeal.Run
public import proofs.«01_k».proof.Proof.ProjEntry
public import proofs.«01_k».proof.Proof.ProjRef

@[expose] public section

set_option maxRecDepth 16384

noncomputable section

open Idealize.ShloMosaic Idealize.ShloMosaic.TcCoe Idealize.SL.Sem

namespace Cert.ProjProof

open Cert.RealLift Cert.LayerNorm Cert.ProjMath

/-- Arrays the precondition holds of are arrays of real numbers. -/
theorem finite {x0 x1 x2 x3 x4 x5 x6 x7 x8}
    (h : Cert.Pre_proj_finite.fn (F := Ideal) x0 x1 x2 x3 x4 x5 x6 x7 x8 = fun _ => 1#1) :
    (∃ y, x0 = re y) ∧ (∃ y, x1 = re y) ∧ (∃ y, x2 = re y) ∧ (∃ y, x3 = re y) ∧ (∃ y, x4 = re y) ∧ (∃ y, x5 = re y)
      ∧ (∃ y, x6 = re y) ∧ ∃ y, x7 = re y := by
  have h := congrFun h fun a => a.elim0
  unfold Cert.Pre_proj_finite.fn Cert.Pre_proj_finite.fn_part1 Cert.Pre_proj_finite.fn_part2 Cert.Pre_proj_finite.fn_part3 at h
  dsimp only at h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨real_of_all ofBits_bot16 ofBits_top16 h0, real_of_all ofBits_bot16 ofBits_top16 h1, real_of_all ofBits_bot16 ofBits_top16 h2,
    real_of_all ofBits_bot16 ofBits_top16 h3, real_of_all ofBits_bot ofBits_top h4, real_of_all ofBits_bot ofBits_top h5,
    real_of_all ofBits_bot ofBits_top h6, real_of_all ofBits_bot ofBits_top h7⟩

open Cert.ProjGradIdeal Cert.ProjGradIdeal.Gen Cert.ProjGradIdeal.Read in
/-- The reference's four results at real numbers. -/
theorem reference (q k v : S4x2048x768.Idx → ℝ) (qm : S4x2048x256.Idx → ℝ) (w : S1024x2560.Idx → ℝ)
    (dz z : S4x2048x1024.Idx → ℝ) (g : S1024.Idx → ℝ) :
    (val_main_v78 (F := Ideal) (re q) (re k) (re v) (re qm) (re w) (re dz) (re z) (re g)
      = fun i => ((dx q k v qm w dz z g (blockOf (i 0)) (placeOf (i 0)) (i 1) : ℝ) : EReal))
    ∧ (val_main_v80 (F := Ideal) (re q) (re k) (re v) (re qm) (re w) (re dz) (re z) (re g)
      = fun i => ((dx q k v qm w dz z g (blockOf (i 0)) (placeOf (i 0)) (i 1) : ℝ) : EReal))
    ∧ (val_main_v81 (F := Ideal) (re q) (re k) (re v) (re qm) (re w) (re dz) (re z)
      = fun i => ((∑ r : Fin 8192, dy q k v qm w dz (blockOf r) (placeOf r) (i 1) * xhat eps (row3 z (blockOf r) (placeOf r)) (i 1) : ℝ) : EReal))
    ∧ (val_main_v82 (F := Ideal) (re q) (re k) (re v) (re qm) (re w) (re dz)
      = fun i => ((∑ r : Fin 8192, dy q k v qm w dz (blockOf r) (placeOf r) (i 1) : ℝ) : EReal)) := by
  refine ⟨?_, ?_, ?_, ?_⟩ <;> funext i
  · unfold val_main_v78
    rw [Real.v77_real]
    idx_vars i
    pointwise []
  · unfold val_main_v80 val_main_v79
    rw [Real.v77_real]
    idx_vars i
    pointwise []
  · unfold val_main_v81
    rw [Real.v53_real]
    idx_vars i
    pointwise []
    rw [sum_blocks fun a b => dy q k v qm w dz a b i1 * xhat eps (row3 z a b) i1]
    simp only [mul_comm (xhat _ _ _)]
  · unfold val_main_v82
    rw [Real.v47_real]
    idx_vars i
    pointwise []
    rw [sum_blocks fun a b => dy q k v qm w dz a b i1]

set_option maxHeartbeats 1600000 in
/-- The kernel and the derivative of the forward lines compute the same gradients of finite arrays. -/
theorem algebraic : Cert.algebraic_ProjBwdIdeal_ProjGradIdeal_pre_proj_finite (hProjBwdIdeal := Cert.ProjBwdIdeal.Gen.facts)
    (hProjGradIdeal := Cert.ProjGradIdeal.Gen.facts) (hPre_proj_finite := Cert.Pre_proj_finite.Gen.facts) := by
  intro m ρ m' ρ' hpre hag
  refine ⟨fun c => (Cert.ProjBwdIdeal.Gen.dats m 0 c).arrAt 5 Cert.ProjBwdIdeal.cfg0.N, fun c => (Cert.ProjBwdIdeal.Gen.dats m 0 c).arrAt 6 Cert.ProjBwdIdeal.cfg0.N,
    fun c => (Cert.ProjBwdIdeal.Gen.dats m 0 c).arrAt 7 Cert.ProjBwdIdeal.cfg0.N, fun c => (Cert.ProjBwdIdeal.Gen.dats m 0 c).arrAt 8 Cert.ProjBwdIdeal.cfg0.N,
    Cert.ProjBwdIdeal.Value.run_blocks m ρ, θ_run_mono (Cert.ProjGradIdeal.Value.run m' ρ') fun r h c => ?_⟩
  obtain ⟨⟨q, hq⟩, ⟨k, hk⟩, ⟨v, hv⟩, ⟨qm, hm⟩, ⟨w, hw⟩, ⟨dz, hd⟩, ⟨z, hz⟩, ⟨g, hg⟩⟩ := finite (hpre c)
  obtain ⟨a0, a1, a2, a3, a4, a5, a6, a7, -⟩ := hag c
  obtain ⟨h0, h1, h2, h3, hrest⟩ := h c
  obtain ⟨e0, e1, e2, e3⟩ := reference q k v qm w dz z g
  have H := Cert.ProjBwdIdeal.Pay.entry4 m c q k v qm hq hk hv hm
  have W := Cert.ProjBwdIdeal.Pay.entry6 m c w hw
  have A := Cert.ProjBwdIdeal.Pay.entry7 m c dz hd
  have Z := Cert.ProjBwdIdeal.Pay.entry8 m c z hz
  have G := Cert.ProjBwdIdeal.Pay.entry9 m c g hg
  rw [hq] at a0
  rw [hk] at a1
  rw [hv] at a2
  rw [hm] at a3
  rw [hw] at a4
  rw [hd] at a5
  rw [hz] at a6
  rw [hg] at a7
  refine ⟨?_, ?_, ?_, ?_, hrest⟩
  · rw [h0, Cert.ProjGradIdeal.Read.val_main_v78_eq, a0, a1, a2, a3, a4, a5, a6, a7, e0]
    exact (Cert.ProjBwdIdeal.Pay.final5 m c _ _ _ _ _ H W A Z G).symm
  · rw [h1, Cert.ProjGradIdeal.Read.val_main_v80_eq, a0, a1, a2, a3, a4, a5, a6, a7, e1]
    exact (Cert.ProjBwdIdeal.Pay.final6 m c _ _ _ _ _ H W A Z G).symm
  · refine (h2.trans (Cert.ProjGradIdeal.Read.val_main_v81_eq _ _ _ _ _ _ _)).trans ?_
    rw [a0, a1, a2, a3, a4, a5, a6, e2]
    exact (Cert.ProjBwdIdeal.Pay.final7 m c _ _ _ _ _ H W A Z G).symm
  · refine (h3.trans (Cert.ProjGradIdeal.Read.val_main_v82_eq _ _ _ _ _ _)).trans ?_
    rw [a0, a1, a2, a3, a4, a5, e3]
    exact (Cert.ProjBwdIdeal.Pay.final8 m c _ _ _ _ _ H W A Z G).symm

end Cert.ProjProof

end
-- ==== Proof.ProjOddRef.lean ====
/- In the gMLP layers: the derivative of the input projection's forward lines, one operation at a time, at real numbers. -/
module

public import proofs.«01_k».proof.Proof.Gen.ProjOddGradIdeal.Read
public import proofs.«01_k».proof.Proof.NormRef
public import proofs.«01_k».proof.Proof.ProjOddMath

@[expose] public section

set_option maxRecDepth 16384

noncomputable section

open Idealize.ShloMosaic Idealize.ShloMosaic.TcCoe Idealize.SL.Sem

namespace Cert.ProjOddGradIdeal.Real

open Cert.ProjOddGradIdeal Cert.ProjOddGradIdeal.Gen Cert.ProjOddGradIdeal.Read Cert.RealLift Cert.LayerNorm Cert.NormRef Cert.ProjOddMath

variable (u v : S4x2048x768.Idx → ℝ) (qm : S4x2048x256.Idx → ℝ) (w : S1024x1792.Idx → ℝ)
  (dz z : S4x2048x1024.Idx → ℝ) (g : S1024.Idx → ℝ)

/-- The gradients of the columns side by side. -/
theorem v40_real : val_main_v40 (F := Ideal) (re u) (re v) (re qm) = fun i => ((cols u v qm (i 0) (i 1) (i 2) : ℝ) : EReal) := by
  funext i
  idx_vars i
  pointwise [val_main_v40, val_main_v35, val_main_v36, val_main_v37]
  unfold cols
  split_ifs <;> rfl

/-- The gradient that reaches the normalisation. -/
theorem v42_real : val_main_v42 (F := Ideal) (re u) (re v) (re qm) (re w) (re dz)
    = fun i => ((dy u v qm w dz (i 0) (i 1) (i 2) : ℝ) : EReal) := by
  funext i
  unfold val_main_v42 val_main_v41
  rw [v40_real]
  idx_vars i
  pointwise [val_main_v39, val_main_v38, val_main_cst_7]
  simp only [ofBits_alpha, ← EReal.coe_mul, coe_sum, ← EReal.coe_add, dy]

/-- The same scaled by the weights. -/
theorem v50_real : val_main_v50 (F := Ideal) (re u) (re v) (re qm) (re w) (re dz) (re g)
    = fun i => ((dy u v qm w dz (i 0) (i 1) (i 2) * g (ix1 (i 2)) : ℝ) : EReal) := by
  funext i
  unfold val_main_v50
  rw [v42_real]
  idx_vars i
  pointwise [val_main_v49, val_main_v23]
  rw [← EReal.coe_mul]

/-- The gradient of the rows. -/
theorem v75_real : val_main_v75 (F := Ideal) (re u) (re v) (re qm) (re w) (re dz) (re z) (re g)
    = fun i => ((dx u v qm w dz z g (i 0) (i 1) (i 2) : ℝ) : EReal) := by
  rw [show val_main_v75 (F := Ideal) (re u) (re v) (re qm) (re w) (re dz) (re z) (re g)
    = normGrad (Cert.ProjGradIdeal.Read.val_main_v14 (F := Ideal) (re z)) (Cert.ProjGradIdeal.Read.val_main_v8 (F := Ideal) (re z)) (Cert.ProjGradIdeal.Read.val_main_v17 (F := Ideal) (re z)) (Cert.ProjGradIdeal.Read.val_main_v20 (F := Ideal) (re z))
      (val_main_v50 (F := Ideal) (re u) (re v) (re qm) (re w) (re dz) (re g)) from rfl, v50_real]
  exact normGrad_real z fun i => dy u v qm w dz (i 0) (i 1) (i 2) * g (ix1 (i 2))

/-- The gradient of the normalisation's scale. -/
theorem v51_real : val_main_v51 (F := Ideal) (re u) (re v) (re qm) (re w) (re dz) (re z)
    = fun i => ((∑ a, ∑ b, xhat eps (row3 z a b) (i 0) * dy u v qm w dz a b (i 0) : ℝ) : EReal) := by
  rw [show val_main_v51 (F := Ideal) (re u) (re v) (re qm) (re w) (re dz) (re z)
    = colSum (val_main_v46 (F := Ideal) (re u) (re v) (re qm) (re w) (re dz) (re z)) from rfl]
  have h : val_main_v46 (F := Ideal) (re u) (re v) (re qm) (re w) (re dz) (re z)
      = re fun i => xhat eps (row3 z (i 0) (i 1)) (i 2) * dy u v qm w dz (i 0) (i 1) (i 2) := by
    unfold val_main_v46
    rw [show val_main_v22 (F := Ideal) (re z) = Cert.ProjGradIdeal.Read.val_main_v22 (re z) from rfl, v22_real, v42_real]
    funext i
    pointwise []
    rw [← EReal.coe_mul]
  rw [h]
  exact colSum_real _

/-- The gradient of the normalisation's shift. -/
theorem v45_real : val_main_v45 (F := Ideal) (re u) (re v) (re qm) (re w) (re dz)
    = fun i => ((∑ a, ∑ b, dy u v qm w dz a b (i 0) : ℝ) : EReal) := by
  rw [show val_main_v45 (F := Ideal) (re u) (re v) (re qm) (re w) (re dz)
    = colSum (val_main_v42 (F := Ideal) (re u) (re v) (re qm) (re w) (re dz)) from rfl, v42_real]
  exact colSum_real _

end Cert.ProjOddGradIdeal.Real

end
-- ==== Proof.ProjOddClaim.lean ====
/- In the gMLP layers, the backward pass of the input projection and the normalisation before it: the kernel computes the derivative of the
   forward lines. -/
module

public import proofs.«01_k».proof.Defs
public import proofs.«01_k».proof.Proof.Gen.Pre_proj_odd_finite
public import proofs.«01_k».proof.Proof.Gen.ProjOddGradIdeal.Run
public import proofs.«01_k».proof.Proof.ProjOddEntry
public import proofs.«01_k».proof.Proof.ProjOddRef

@[expose] public section

set_option maxRecDepth 16384

noncomputable section

open Idealize.ShloMosaic Idealize.ShloMosaic.TcCoe Idealize.SL.Sem

namespace Cert.ProjOddProof

open Cert.RealLift Cert.LayerNorm Cert.ProjOddMath

/-- Arrays the precondition holds of are arrays of real numbers. -/
theorem finite {x0 x1 x2 x3 x4 x5 x6 x7}
    (h : Cert.Pre_proj_odd_finite.fn (F := Ideal) x0 x1 x2 x3 x4 x5 x6 x7 = fun _ => 1#1) :
    (∃ y, x0 = re y) ∧ (∃ y, x1 = re y) ∧ (∃ y, x2 = re y) ∧ (∃ y, x3 = re y) ∧ (∃ y, x4 = re y) ∧ (∃ y, x5 = re y)
      ∧ ∃ y, x6 = re y := by
  have h := congrFun h fun a => a.elim0
  unfold Cert.Pre_proj_odd_finite.fn Cert.Pre_proj_odd_finite.fn_part1 Cert.Pre_proj_odd_finite.fn_part2 at h
  dsimp only at h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨real_of_all ofBits_bot16 ofBits_top16 h0, real_of_all ofBits_bot16 ofBits_top16 h1, real_of_all ofBits_bot16 ofBits_top16 h2,
    real_of_all ofBits_bot ofBits_top h3, real_of_all ofBits_bot ofBits_top h4, real_of_all ofBits_bot ofBits_top h5,
    real_of_all ofBits_bot ofBits_top h6⟩

open Cert.ProjOddGradIdeal Cert.ProjOddGradIdeal.Gen Cert.ProjOddGradIdeal.Read in
/-- The reference's four results at real numbers. -/
theorem reference (u v : S4x2048x768.Idx → ℝ) (qm : S4x2048x256.Idx → ℝ) (w : S1024x1792.Idx → ℝ)
    (dz z : S4x2048x1024.Idx → ℝ) (g : S1024.Idx → ℝ) :
    (val_main_v76 (F := Ideal) (re u) (re v) (re qm) (re w) (re dz) (re z) (re g)
      = fun i => ((dx u v qm w dz z g (blockOf (i 0)) (placeOf (i 0)) (i 1) : ℝ) : EReal))
    ∧ (val_main_v78 (F := Ideal) (re u) (re v) (re qm) (re w) (re dz) (re z) (re g)
      = fun i => ((dx u v qm w dz z g (blockOf (i 0)) (placeOf (i 0)) (i 1) : ℝ) : EReal))
    ∧ (val_main_v79 (F := Ideal) (re u) (re v) (re qm) (re w) (re dz) (re z)
      = fun i => ((∑ r : Fin 8192, dy u v qm w dz (blockOf r) (placeOf r) (i 1) * xhat eps (row3 z (blockOf r) (placeOf r)) (i 1) : ℝ) : EReal))
    ∧ (val_main_v80 (F := Ideal) (re u) (re v) (re qm) (re w) (re dz)
      = fun i => ((∑ r : Fin 8192, dy u v qm w dz (blockOf r) (placeOf r) (i 1) : ℝ) : EReal)) := by
  refine ⟨?_, ?_, ?_, ?_⟩ <;> funext i
  · unfold val_main_v76
    rw [Real.v75_real]
    idx_vars i
    pointwise []
  · unfold val_main_v78 val_main_v77
    rw [Real.v75_real]
    idx_vars i
    pointwise []
  · unfold val_main_v79
    rw [Real.v51_real]
    idx_vars i
    pointwise []
    rw [sum_blocks fun a b => dy u v qm w dz a b i1 * xhat eps (row3 z a b) i1]
    simp only [mul_comm (xhat _ _ _)]
  · unfold val_main_v80
    rw [Real.v45_real]
    idx_vars i
    pointwise []
    rw [sum_blocks fun a b => dy u v qm w dz a b i1]

set_option maxHeartbeats 1600000 in
/-- The kernel and the derivative of the forward lines compute the same gradients of finite arrays. -/
theorem algebraic : Cert.algebraic_ProjOddBwdIdeal_ProjOddGradIdeal_pre_proj_odd_finite (hProjOddBwdIdeal := Cert.ProjOddBwdIdeal.Gen.facts)
    (hProjOddGradIdeal := Cert.ProjOddGradIdeal.Gen.facts) (hPre_proj_odd_finite := Cert.Pre_proj_odd_finite.Gen.facts) := by
  intro m ρ m' ρ' hpre hag
  refine ⟨fun c => (Cert.ProjOddBwdIdeal.Gen.dats m 0 c).arrAt 5 Cert.ProjOddBwdIdeal.cfg0.N, fun c => (Cert.ProjOddBwdIdeal.Gen.dats m 0 c).arrAt 6 Cert.ProjOddBwdIdeal.cfg0.N,
    fun c => (Cert.ProjOddBwdIdeal.Gen.dats m 0 c).arrAt 7 Cert.ProjOddBwdIdeal.cfg0.N, fun c => (Cert.ProjOddBwdIdeal.Gen.dats m 0 c).arrAt 8 Cert.ProjOddBwdIdeal.cfg0.N,
    Cert.ProjOddBwdIdeal.Value.run_blocks m ρ, θ_run_mono (Cert.ProjOddGradIdeal.Value.run m' ρ') fun r h c => ?_⟩
  obtain ⟨⟨u, hu⟩, ⟨v, hv⟩, ⟨qm, hm⟩, ⟨w, hw⟩, ⟨dz, hd⟩, ⟨z, hz⟩, ⟨g, hg⟩⟩ := finite (hpre c)
  obtain ⟨a0, a1, a2, a3, a4, a5, a6, -⟩ := hag c
  obtain ⟨h0, h1, h2, h3, hrest⟩ := h c
  obtain ⟨e0, e1, e2, e3⟩ := reference u v qm w dz z g
  have H := Cert.ProjOddBwdIdeal.Pay.entry4 m c u v qm hu hv hm
  have W := Cert.ProjOddBwdIdeal.Pay.entry6 m c w hw
  have A := Cert.ProjOddBwdIdeal.Pay.entry7 m c dz hd
  have Z := Cert.ProjOddBwdIdeal.Pay.entry8 m c z hz
  have G := Cert.ProjOddBwdIdeal.Pay.entry9 m c g hg
  rw [hu] at a0
  rw [hv] at a1
  rw [hm] at a2
  rw [hw] at a3
  rw [hd] at a4
  rw [hz] at a5
  rw [hg] at a6
  refine ⟨?_, ?_, ?_, ?_, hrest⟩
  · rw [h0, Cert.ProjOddGradIdeal.Read.val_main_v76_eq, a0, a1, a2, a3, a4, a5, a6, e0]
    exact (Cert.ProjOddBwdIdeal.Pay.final5 m c _ _ _ _ _ H W A Z G).symm
  · rw [h1, Cert.ProjOddGradIdeal.Read.val_main_v78_eq, a0, a1, a2, a3, a4, a5, a6, e1]
    exact (Cert.ProjOddBwdIdeal.Pay.final6 m c _ _ _ _ _ H W A Z G).symm
  · refine (h2.trans (Cert.ProjOddGradIdeal.Read.val_main_v79_eq _ _ _ _ _ _)).trans ?_
    rw [a0, a1, a2, a3, a4, a5, e2]
    exact (Cert.ProjOddBwdIdeal.Pay.final7 m c _ _ _ _ _ H W A Z G).symm
  · refine (h3.trans (Cert.ProjOddGradIdeal.Read.val_main_v80_eq _ _ _ _ _)).trans ?_
    rw [a0, a1, a2, a3, a4, e3]
    exact (Cert.ProjOddBwdIdeal.Pay.final8 m c _ _ _ _ _ H W A Z G).symm

end Cert.ProjOddProof

end
-- ==== Proof.LossPay.lean ====
/- What the kernel of the loss and the normalisation before it computes in one block of rows, at real numbers. -/
module

public import proofs.«01_k».proof.Proof.Gen.LossBwdIdeal.Skeleton
public import proofs.«01_k».proof.Proof.ProjPay

@[expose] public section

set_option maxRecDepth 16384

noncomputable section

open Idealize.ShloMosaic Idealize.ShloMosaic.TcCoe Idealize.SL.Sem

namespace Cert.LossBwdIdeal.Pay

open Cert.LossBwdIdeal Cert.LossBwdIdeal.Gen Cert.RealLift Cert.LayerNorm
open Cert.ProjBwdIdeal.Pay (row)

/-- Half of one over the width. -/
theorem ofBits_half_1024 : Ideal.ofBits .f32 0x3A000000#32 = ((1 / 2048 : ℝ) : EReal) := by
  simp [Ideal.ofBits, Ideal.ieee, -EReal.coe_mul]; norm_num

/-- One over the width. -/
theorem ofBits_one_1024 : Ideal.ofBits .f32 0x3A800000#32 = ((1 / 1024 : ℝ) : EReal) := by
  simp [Ideal.ofBits, Ideal.ieee, -EReal.coe_mul]; norm_num

/-- The deviations of each row from its mean. -/
theorem pay8_real (z : S512x1024.Idx → ℝ) : k0_pay8 (F := Ideal) (re z) = fun i => ((cen (row z (i 0)) (i 1) : ℝ) : EReal) :=
  Cert.ProjBwdIdeal.Pay.pay8_real z

/-- The reciprocal standard deviation of each row. -/
theorem pay10_real (z : S512x1024.Idx → ℝ) : k0_pay10 (F := Ideal) (k0_pay9 (re z)) = fun i => ((rstd eps (row z (i 0)) : ℝ) : EReal) :=
  Cert.ProjBwdIdeal.Pay.pay9_real z

/-- Each row normalised. -/
theorem pay11_real (z : S512x1024.Idx → ℝ) :
    k0_pay11 (F := Ideal) (k0_pay8 (re z)) (k0_pay9 (re z)) = fun i => ((xhat eps (row z (i 0)) (i 1) : ℝ) : EReal) :=
  Cert.ProjBwdIdeal.Pay.pay10_real z

/-- The errors over the width. -/
theorem pay5_real (x t : S512x1024.Idx → ℝ) : k0_pay5 (F := Ideal) (re x) (re t) = re fun i => (x i - t i) / 1024 := by
  funext i
  idx_vars i
  pointwise [k0_pay5, k0_pay3]
  rw [ofBits_one_1024, ← EReal.coe_sub, ← EReal.coe_mul, mul_one_div]

/-- The sum of each row. -/
theorem rowSums (y : FVec Ideal S512x1024 .f32) (i : S512.Idx) :
    multiReduction (F := Ideal) .add [1] S512 y 0x00000000#32 reduces_S512x1024_S512 (.inl rfl) rfl i = ∑ d : Fin 1024, y (ix2 (i 0) d) := by
  idx_vars i
  pointwise []

/-- The sum of a column. -/
theorem colTotal (y : FVec Ideal S512x1 .f32) (i : S1.Idx) :
    multiReduction (F := Ideal) .add [0] S1 y 0x00000000#32 reduces_S512x1_S1 (.inl rfl) rfl i = ∑ r : Fin 512, y (ix2 r 0) := by
  idx_vars i
  pointwise []

/-- A vector read as a column. -/
theorem shapeCast_expand (y : FVec Ideal S512 .f32) (r : Fin 512) : shapeCast S512x1 y shapeCasts_S512_S512x1 (ix2 r 0) = y (ix1 r) := by
  pointwise []

/-- One number added to every place of the running loss. -/
theorem addAll (y : FVec Ideal S1 .f32) (s : Vec Ideal S8x128 .f32) (i : S8x128.Idx) :
    addf (F := Ideal) (shapeCast S8x128 s shapeCasts_S8x128_S8x128) (broadcastTo S8x128 (shapeCast S1x1 (mulf (shapeCast S1x1 y shapeCasts_S1_S1x1)
      (broadcast S1x1 (Scalar.ofBits .f32 0x3A000000#32 : Ideal .f32))) shapeCasts_S1x1_S1x1) broadcasts_S1x1_S8x128) i
      = s i + y (ix1 0) * Ideal.ofBits .f32 0x3A000000#32 := by
  idx_vars i
  pointwise []

/-- The block's rows add to the running loss. -/
theorem pay4_real (x t : S512x1024.Idx → ℝ) (s : Vec Ideal S8x128 .f32) :
    k0_pay4 (F := Ideal) (re x) (re t) s
      = fun i => s i + ((∑ r : Fin 512, ∑ d : Fin 1024, (x (ix2 r d) - t (ix2 r d)) * (x (ix2 r d) - t (ix2 r d)) * (1 / 2048) : ℝ) : EReal) := by
  funext i
  unfold k0_pay4
  rw [addAll, colTotal, ofBits_half_1024]
  refine congrArg (s i + ·) ?_
  have h (r : Fin 512) : shapeCast S512x1 (multiReduction (F := Ideal) .add [1] S512 (mulf (k0_pay3 (F := Ideal) (re x) (re t)) (k0_pay3 (F := Ideal) (re x) (re t)))
      0x00000000#32 reduces_S512x1024_S512 (.inl rfl) rfl) shapeCasts_S512_S512x1 (ix2 r 0)
      = ((∑ d : Fin 1024, (x (ix2 r d) - t (ix2 r d)) * (x (ix2 r d) - t (ix2 r d)) : ℝ) : EReal) := by
    refine (shapeCast_expand _ r).trans ((rowSums _ _).trans ?_)
    refine Eq.trans (Finset.sum_congr rfl fun d _ => ?_) (coe_sum _ _)
    pointwise [k0_pay3]
    rw [← EReal.coe_sub, ← EReal.coe_mul]
  simp only [h, coe_sum, ← EReal.coe_mul, Finset.sum_mul]

/-- The block of the gradient of the rows before the normalisation, from the gradient `y` that reaches it. -/
theorem pay12_real (y z : S512x1024.Idx → ℝ) (g : S1x1024.Idx → ℝ) :
    k0_pay12 (F := Ideal) (re y) (k0_pay8 (re z)) (k0_pay9 (re z)) (re g)
      = fun i => ((back eps (row z (i 0)) (fun d => y (ix2 (i 0) d) * g (ix2 0 d)) (i 1) : ℝ) : EReal) := by
  funext i
  unfold k0_pay12
  rw [pay11_real, pay10_real]
  idx_vars i
  pointwise []
  simp only [← EReal.coe_mul, coe_sum, div_1024, ← EReal.coe_sub, back, mean, Nat.cast_ofNat]

/-- The block's rows add to the running gradient of the scale. -/
theorem pay14_real (y z : S512x1024.Idx → ℝ) (s : Vec Ideal S1x1024 .f32) :
    k0_pay14 (F := Ideal) (re y) (k0_pay8 (re z)) (k0_pay9 (re z)) s
      = fun i => s i + ((∑ r : Fin 512, y (ix2 r (i 1)) * xhat eps (row z r) (i 1) : ℝ) : EReal) := by
  funext i
  unfold k0_pay14
  rw [pay11_real]
  idx_vars i
  pointwise []
  simp only [← EReal.coe_mul, coe_sum]

/-- The block's rows add to the running gradient of the shift. -/
theorem pay1_real (y : S512x1024.Idx → ℝ) (s : Vec Ideal S1x1024 .f32) :
    k0_pay1 (F := Ideal) (re y) s = fun i => s i + ((∑ r : Fin 512, y (ix2 r (i 1)) : ℝ) : EReal) := by
  funext i
  idx_vars i
  pointwise [k0_pay1]
  simp only [coe_sum]

end Cert.LossBwdIdeal.Pay

end
-- ==== Proof.LossFinal.lean ====
/- The arrays the kernel of the loss and the normalisation before it leaves, at real numbers. -/
module

public import proofs.«01_k».proof.Proof.Gen.LossBwdIdeal.Value
public import Idealize.ShloMosaic.Lib.Pipeline.ValueKit
public import Idealize.ShloMosaic.Lib.Claim
public import proofs.«01_k».proof.Proof.LossPay

@[expose] public section

set_option maxRecDepth 16384

noncomputable section

open Idealize.ShloMosaic Idealize.ShloMosaic.TcCoe Idealize.SL.Sem
open Idealize.ShloMosaic.Pipeline (Dat)

namespace Cert.LossBwdIdeal.Pay

open Cert.LossBwdIdeal Cert.LossBwdIdeal.Gen Cert.RealLift Cert.LayerNorm
open Cert.ProjBwdIdeal.Pay (row)

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![t.val, 0]
    ∧ win0_7.index t = ![0, 0] ∧ win0_8.index t = ![0, 0] :=
  (by decide +kernel : ∀ t : Fin grid0.N, _)

/-- Row `r` of block `t` in the whole array. -/
def gr (t : Fin cfg0.N) (r : Fin 512) : Fin 8192 := ⟨t.val * 512 + r.val, by have := t.isLt; have h : cfg0.N = 16 := N_0; omega⟩

/-- A sum over the blocks of the sums over each block's rows is the sum over all rows. -/
theorem sum_rows (f : Fin 8192 → ℝ) : ∑ t : Fin cfg0.N, ∑ r : Fin 512, f (gr t r) = ∑ r, f r :=
  (Fin.sum_univ_tiles cfg0.N 512 (by rw [show cfg0.N = 16 from N_0]) f).symm

/-- Window 0's block at a point, read as real numbers. -/
theorem iblk0 (A : S8192x1024.Idx → ℝ) (h : V m c main_v24 = re A) (t : Fin cfg0.N) :
    (iblk m c 0 t : Vec Ideal S512x1024 .f32) = re fun j => A (ix2 (gr t (j 0)) (j 1)) := by
  funext j
  blk_simp [iblk]
  rw [show V m c (Pipeline.arrRef spec0 0) = _ from h]
  refine congrArg (re A) ?_
  blk_ext [idx t, gr]

/-- Window 1's block at a point, read as real numbers. -/
theorem iblk1 (A : S8192x1024.Idx → ℝ) (h : V m c main_v25 = re A) (t : Fin cfg0.N) :
    (iblk m c 1 t : Vec Ideal S512x1024 .f32) = re fun j => A (ix2 (gr t (j 0)) (j 1)) := by
  funext j
  blk_simp [iblk]
  rw [show V m c (Pipeline.arrRef spec0 1) = _ from h]
  refine congrArg (re A) ?_
  blk_ext [idx t, gr]

/-- Window 2's block at a point, read as real numbers. -/
theorem iblk2 (A : S8192x1024.Idx → ℝ) (h : V m c main_v26 = re A) (t : Fin cfg0.N) :
    (iblk m c 2 t : Vec Ideal S512x1024 .f32) = re fun j => A (ix2 (gr t (j 0)) (j 1)) := by
  funext j
  blk_simp [iblk]
  rw [show V m c (Pipeline.arrRef spec0 2) = _ from h]
  refine congrArg (re A) ?_
  blk_ext [idx t, gr]

/-- Window 3's block at a point, read as real numbers. -/
theorem iblk3 (A : S1x1024.Idx → ℝ) (h : V m c main_v27 = re A) (t : Fin cfg0.N) :
    (iblk m c 3 t : Vec Ideal S1x1024 .f32) = re fun j => A j := by
  funext j
  blk_simp [iblk]
  rw [show V m c (Pipeline.arrRef spec0 3) = _ from h]
  refine congrArg (re A) ?_
  blk_ext [idx t]

variable (X T Z : S8192x1024.Idx → ℝ) (G : S1x1024.Idx → ℝ) (hX : V m c main_v24 = re X) (hT : V m c main_v25 = re T)
  (hZ : V m c main_v26 = re Z) (hG : V m c main_v27 = re G)

/-- The errors over the width: the gradient that reaches the normalisation. -/
def dyF (r : Fin 8192) (d : Fin 1024) : ℝ := (X (ix2 r d) - T (ix2 r d)) / 1024

include hX hT

/-- The gradient that reaches the normalisation, in one block. -/
theorem block (t : Fin cfg0.N) : k0_pay5 (F := Ideal) (iblk m c 0 t) (iblk m c 1 t) = re fun i : S512x1024.Idx => dyF X T (gr t (i 0)) (i 1) := by
  rw [iblk0 m c X hX t, iblk1 m c T hT t]
  exact pay5_real _ _

/-- The loss: over all rows, half the mean of the squared errors. -/
theorem final4 : (dats m 0 c).arrAt 4 cfg0.N = fun _ : S8x128.Idx =>
    ((∑ r : Fin 8192, ∑ d : Fin 1024, (X (ix2 r d) - T (ix2 r d)) * (X (ix2 r d) - T (ix2 r d)) * (1 / 2048) : ℝ) : EReal) := by
  have hpay (t : Fin cfg0.N) (s : Vec Ideal S8x128 .f32) (i : S8x128.Idx) :
      k0_pay4 (F := Ideal) (iblk m c 0 t) (iblk m c 1 t) s i
        = s i + ((∑ r : Fin 512, ∑ d : Fin 1024, (X (ix2 (gr t r) d) - T (ix2 (gr t r) d)) * (X (ix2 (gr t r) d) - T (ix2 (gr t r) d)) * (1 / 2048) : ℝ) : EReal) := by
    rw [iblk0 m c X hX t, iblk1 m c T hT t]
    exact congrFun (pay4_real _ _ _) i
  have hzero (i : S8x128.Idx) : k0_pay2 (F := Ideal) i = 0 := by pointwise [k0_pay2]
  refine (dats m 0 c).arrAt_eq_of_after_last 4 t0_15 (by decide +kernel) _ fun j => ?_
  blk_simp
  rw [after0_4, Pipeline.eq_sum_fin_of_reset_step_apply_last (fun n h => (outsAt0 m c n h).1) 16 (fun _ => 0)
    (fun t _ => ((∑ r : Fin 512, ∑ d : Fin 1024, (X (ix2 (gr t r) d) - T (ix2 (gr t r) d)) * (X (ix2 (gr t r) d) - T (ix2 (gr t r) d)) * (1 / 2048) : ℝ) : EReal))
    (fun t h i => by rw [outsAt0_A m c t h h]; frame_out; exact (hpay t _ i).trans (congrArg (· + _) (hzero i)))
    (fun t h i => by rw [outsAt0_B m c t h h]; frame_out; exact hpay t _ i) (le_of_eq N_0) t0_15 rfl j, zero_add, coe_sum]
  exact congrArg _ (sum_rows fun r => ∑ d : Fin 1024, (X (ix2 r d) - T (ix2 r d)) * (X (ix2 r d) - T (ix2 r d)) * (1 / 2048))

/-- The gradient of the normalisation's shift: over all rows, `dy`. -/
theorem final8 : (dats m 0 c).arrAt 8 cfg0.N = fun i : S1x1024.Idx => ((∑ r : Fin 8192, dyF X T r (i 1) : ℝ) : EReal) := by
  have hpay (t : Fin cfg0.N) (s : Vec Ideal S1x1024 .f32) (i : S1x1024.Idx) :
      k0_pay1 (F := Ideal) (k0_pay5 (iblk m c 0 t) (iblk m c 1 t)) s i
        = s i + ((∑ r : Fin 512, dyF X T (gr t r) (i 1) : ℝ) : EReal) := by
    rw [block m c X T hX hT t]
    exact congrFun (pay1_real _ _) i
  have hzero (i : S1x1024.Idx) : k0_pay7 (F := Ideal) i = 0 := by pointwise [k0_pay7]
  refine (dats m 0 c).arrAt_eq_of_after_last 8 t0_15 (by decide +kernel) _ fun j => ?_
  blk_simp
  rw [after0_8, Pipeline.eq_sum_fin_of_reset_step_apply_last (fun n h => (outsAt0 m c n h).2.2.2.2) 16 (fun _ => 0)
    (fun t i => ((∑ r : Fin 512, dyF X T (gr t r) (i 1) : ℝ) : EReal))
    (fun t h i => by rw [outsAt0_A m c t h h]; frame_out; exact (hpay t _ i).trans (congrArg (· + _) (hzero i)))
    (fun t h i => by rw [outsAt0_B m c t h h]; frame_out; exact hpay t _ i) (le_of_eq N_0) t0_15 rfl j, zero_add, coe_sum]
  exact congrArg _ (sum_rows fun r => dyF X T r (j 1))

include hZ

/-- The gradient of the normalisation's scale: over all rows, `dy · xhat`. -/
theorem final7 : (dats m 0 c).arrAt 7 cfg0.N = fun i : S1x1024.Idx =>
    ((∑ r : Fin 8192, dyF X T r (i 1) * xhat eps (row Z r) (i 1) : ℝ) : EReal) := by
  have hpay (t : Fin cfg0.N) (s : Vec Ideal S1x1024 .f32) (i : S1x1024.Idx) :
      k0_pay14 (F := Ideal) (k0_pay5 (iblk m c 0 t) (iblk m c 1 t)) (k0_pay8 (iblk m c 2 t)) (k0_pay9 (iblk m c 2 t)) s i
        = s i + ((∑ r : Fin 512, dyF X T (gr t r) (i 1) * xhat eps (row Z (gr t r)) (i 1) : ℝ) : EReal) := by
    rw [block m c X T hX hT t, iblk2 m c Z hZ t]
    exact congrFun (pay14_real _ _ _) i
  have hzero (i : S1x1024.Idx) : k0_pay6 (F := Ideal) i = 0 := by pointwise [k0_pay6]
  refine (dats m 0 c).arrAt_eq_of_after_last 7 t0_15 (by decide +kernel) _ fun j => ?_
  blk_simp
  rw [after0_7, Pipeline.eq_sum_fin_of_reset_step_apply_last (fun n h => (outsAt0 m c n h).2.2.2.1) 16 (fun _ => 0)
    (fun t i => ((∑ r : Fin 512, dyF X T (gr t r) (i 1) * xhat eps (row Z (gr t r)) (i 1) : ℝ) : EReal))
    (fun t h i => by rw [outsAt0_A m c t h h]; frame_out; exact (hpay t _ i).trans (congrArg (· + _) (hzero i)))
    (fun t h i => by rw [outsAt0_B m c t h h]; frame_out; exact hpay t _ i) (le_of_eq N_0) t0_15 rfl j, zero_add, coe_sum]
  exact congrArg _ (sum_rows fun r => dyF X T r (j 1) * xhat eps (row Z r) (j 1))

include hG

/-- What every point computes for its block of the gradient. -/
theorem point (t : Fin cfg0.N) (y : S512x1024.Idx) :
    k0_pay12 (F := Ideal) (k0_pay5 (iblk m c 0 t) (iblk m c 1 t)) (k0_pay8 (iblk m c 2 t)) (k0_pay9 (iblk m c 2 t)) (iblk m c 3 t) y
      = ((back eps (row Z (gr t (y 0))) (fun d => dyF X T (gr t (y 0)) d * G (ix2 0 d)) (y 1) : ℝ) : EReal) := by
  rw [block m c X T hX hT t, iblk2 m c Z hZ t, iblk3 m c G hG t]
  exact congrFun (pay12_real _ _ _) y

/-- The gradient of the rows before the normalisation. -/
theorem final5 : (dats m 0 c).arrAt 5 cfg0.N = fun i : S8192x1024.Idx =>
    ((back eps (row Z (i 0)) (fun d => dyF X T (i 0) d * G (ix2 0 d)) (i 1) : ℝ) : EReal) := by
  refine (dats m 0 c).arrAt_eq_of_covers 5 _ (by decide +kernel) fun t hf y => ?_
  have e : ((cfg0.win 5).blk t).view.emb y = ix2 (gr t (y 0)) (y 1) := by blk_ext [idx t, gr]
  rw [e]
  blk_simp
  rw [after0_5]
  by_cases h : t.val % 16 = 0
  · rw [outsAt0_A m c t h h]
    frame_out
    exact point m c X T Z G hX hT hZ hG t y
  · rw [outsAt0_B m c t h h]
    frame_out
    exact point m c X T Z G hX hT hZ hG t y

/-- The same gradient in the narrow format, which at real numbers is the same array. -/
theorem final6 : (dats m 0 c).arrAt 6 cfg0.N = fun i : S8192x1024.Idx =>
    ((back eps (row Z (i 0)) (fun d => dyF X T (i 0) d * G (ix2 0 d)) (i 1) : ℝ) : EReal) := by
  refine (dats m 0 c).arrAt_eq_of_covers 6 _ (by decide +kernel) fun t hf y => ?_
  have e : ((cfg0.win 6).blk t).view.emb y = ix2 (gr t (y 0)) (y 1) := by blk_ext [idx t, gr]
  rw [e]
  blk_simp
  rw [after0_6]
  by_cases h : t.val % 16 = 0
  · rw [outsAt0_A m c t h h]
    frame_out
    exact point m c X T Z G hX hT hZ hG t y
  · rw [outsAt0_B m c t h h]
    frame_out
    exact point m c X T Z G hX hT hZ hG t y

end Cert.LossBwdIdeal.Pay

end
-- ==== Proof.LossRef.lean ====
/- The loss and the derivative of its forward lines, one operation at a time, at real numbers. -/
module

public import proofs.«01_k».proof.Proof.Gen.LossGradIdeal.Read
public import proofs.«01_k».proof.Proof.NormRef

@[expose] public section

set_option maxRecDepth 16384

noncomputable section

open Idealize.ShloMosaic Idealize.ShloMosaic.TcCoe Idealize.SL.Sem

namespace Cert.LossGradIdeal.Real

open Cert.LossGradIdeal Cert.LossGradIdeal.Gen Cert.LossGradIdeal.Read Cert.RealLift Cert.LayerNorm Cert.NormRef

variable (z : S4x2048x1024.Idx → ℝ) (g b : S1024.Idx → ℝ) (t : S4x2048x1024.Idx → ℝ)

/-- The normalised rows, scaled and shifted. -/
def out (i : Fin 4) (j : Fin 2048) (d : Fin 1024) : ℝ := xhat eps (row3 z i j) d * g (ix1 d) + b (ix1 d)

/-- The error. -/
def err (i : Fin 4) (j : Fin 2048) (d : Fin 1024) : ℝ := out z g b i j d - t (ix3 i j d)

/-- One half. -/
theorem ofBits_half : Ideal.ofBits .f32 0x3F000000#32 = ((1 / 2 : ℝ) : EReal) := by
  simp [Ideal.ofBits, Ideal.ieee, -EReal.coe_mul]; norm_num

/-- One. -/
theorem ofBits_one : Ideal.ofBits .f32 0x3F800000#32 = ((1 : ℝ) : EReal) := by
  simp [Ideal.ofBits, Ideal.ieee, -EReal.coe_mul]; norm_num

theorem v28_real : val_main_v28 (F := Ideal) (re z) (re g) (re b) = re fun i : S4x2048x1024.Idx => out z g b (i 0) (i 1) (i 2) := by
  funext i
  unfold val_main_v28 val_main_v25
  rw [show val_main_v22 (F := Ideal) (re z) = Cert.ProjGradIdeal.Read.val_main_v22 (re z) from rfl, v22_real]
  idx_vars i
  pointwise [val_main_v24, val_main_v23, val_main_v27, val_main_v26]
  rw [← EReal.coe_mul, ← EReal.coe_add]
  rfl

theorem v29_real : val_main_v29 (F := Ideal) (re z) (re g) (re b) (re t) = re fun i : S4x2048x1024.Idx => err z g b t (i 0) (i 1) (i 2) := by
  unfold val_main_v29
  rw [v28_real]
  funext i
  idx_vars i
  exact (EReal.coe_sub _ _).symm

/-- The gradient that reaches the normalisation. -/
theorem v43_real : val_main_v43 (F := Ideal) (re z) (re g) (re b) (re t) = re fun i : S4x2048x1024.Idx => err z g b t (i 0) (i 1) (i 2) / 1024 := by
  funext i
  unfold val_main_v43 val_main_v32
  idx_vars i
  pointwise [val_main_v42, val_main_v41, val_main_v40, val_main_v39, val_main_v38, val_main_v31, val_main_cst_11, val_main_cst_12, val_main_cst_13, val_main_cst_6]
  rw [v29_real, ofBits_half, ofBits_2]
  rw [div_1024]
  refine (congrArg (_ * ·) (EReal.coe_mul _ _).symm).trans ((EReal.coe_mul _ _).symm.trans (congrArg _ ?_))
  dsimp only
  ring

/-- The same scaled by the weights. -/
theorem v51_real : val_main_v51 (F := Ideal) (re z) (re g) (re b) (re t)
    = re fun i : S4x2048x1024.Idx => err z g b t (i 0) (i 1) (i 2) / 1024 * g (ix1 (i 2)) := by
  funext i
  unfold val_main_v51
  rw [v43_real]
  idx_vars i
  pointwise [val_main_v50, val_main_v23]
  exact (EReal.coe_mul _ _).symm

/-- The gradient of the rows. -/
def dx (i : Fin 4) (j : Fin 2048) (d : Fin 1024) : ℝ := back eps (row3 z i j) (fun e => err z g b t i j e / 1024 * g (ix1 e)) d

theorem v76_real : val_main_v76 (F := Ideal) (re z) (re g) (re b) (re t) = re fun i => dx z g b t (i 0) (i 1) (i 2) := by
  rw [show val_main_v76 (F := Ideal) (re z) (re g) (re b) (re t)
    = normGrad (Cert.ProjGradIdeal.Read.val_main_v14 (F := Ideal) (re z)) (Cert.ProjGradIdeal.Read.val_main_v8 (F := Ideal) (re z))
      (Cert.ProjGradIdeal.Read.val_main_v17 (F := Ideal) (re z)) (Cert.ProjGradIdeal.Read.val_main_v20 (F := Ideal) (re z))
      (val_main_v51 (F := Ideal) (re z) (re g) (re b) (re t)) from rfl, v51_real]
  exact normGrad_real z fun i : S4x2048x1024.Idx => err z g b t (i 0) (i 1) (i 2) / 1024 * g (ix1 (i 2))

/-- The gradient of the normalisation's scale. -/
theorem v52_real : val_main_v52 (F := Ideal) (re z) (re g) (re b) (re t)
    = fun i => ((∑ a, ∑ c, xhat eps (row3 z a c) (i 0) * (err z g b t a c (i 0) / 1024) : ℝ) : EReal) := by
  rw [show val_main_v52 (F := Ideal) (re z) (re g) (re b) (re t) = colSum (val_main_v47 (F := Ideal) (re z) (re g) (re b) (re t)) from rfl]
  have h : val_main_v47 (F := Ideal) (re z) (re g) (re b) (re t)
      = re fun i : S4x2048x1024.Idx => xhat eps (row3 z (i 0) (i 1)) (i 2) * (err z g b t (i 0) (i 1) (i 2) / 1024) := by
    unfold val_main_v47
    rw [v43_real, show val_main_v22 (F := Ideal) (re z) = Cert.ProjGradIdeal.Read.val_main_v22 (re z) from rfl, v22_real]
    funext i
    exact (EReal.coe_mul _ _).symm
  rw [h]
  exact colSum_real _

/-- The gradient of the normalisation's shift. -/
theorem v46_real : val_main_v46 (F := Ideal) (re z) (re g) (re b) (re t)
    = fun i => ((∑ a, ∑ c, err z g b t a c (i 0) / 1024 : ℝ) : EReal) := by
  rw [show val_main_v46 (F := Ideal) (re z) (re g) (re b) (re t) = colSum (val_main_v43 (F := Ideal) (re z) (re g) (re b) (re t)) from rfl, v43_real]
  exact colSum_real _

/-- The mean of the squared errors of each row. -/
theorem v35_real : val_main_v35 (F := Ideal) (re z) (re g) (re b) (re t)
    = re fun i => (∑ d, err z g b t (i 0) (i 1) d * err z g b t (i 0) (i 1) d) / 1024 := by
  funext i
  unfold val_main_v35 val_main_v33 val_main_v30
  rw [v29_real]
  idx_vars i
  pointwise [val_main_v34, val_main_cst_8, val_main_cst_7]
  simp only [← EReal.coe_mul, coe_sum, zero_add, div_1024]
  rfl

/-- The loss. -/
theorem v37_real : val_main_v37 (F := Ideal) (re z) (re g) (re b) (re t)
    = fun _ => ((∑ a, ∑ c, ∑ d, err z g b t a c d * err z g b t a c d * (1 / 2048) : ℝ) : EReal) := by
  funext i
  unfold val_main_v37
  pointwise [val_main_cst_10]
  rw [val_main_v36_apply, v35_real, ofBits_half, sum_idx2]
  simp only [coe_sum, ← EReal.coe_mul]
  rw [show val_main_cst_9 (F := Ideal) (Shape.Idx.first h_S_) = 0 from by pointwise [val_main_cst_9], zero_add, ← EReal.coe_mul]
  refine congrArg _ ?_
  simp only [Finset.mul_sum]
  refine Finset.sum_congr rfl fun a _ => Finset.sum_congr rfl fun c _ => ?_
  change 1 / 2 * ((∑ d, err z g b t a c d * err z g b t a c d) / 1024) = _
  rw [← Finset.sum_mul]
  ring

/-- The five results. -/
theorem results :
    (val_main_v77 (F := Ideal) (re z) (re g) (re b) (re t)
      = fun _ => ((∑ r : Fin 8192, ∑ d, err z g b t (blockOf r) (placeOf r) d * err z g b t (blockOf r) (placeOf r) d * (1 / 2048) : ℝ) : EReal))
    ∧ (val_main_v78 (F := Ideal) (re z) (re g) (re b) (re t) = re fun i => dx z g b t (blockOf (i 0)) (placeOf (i 0)) (i 1))
    ∧ (val_main_v80 (F := Ideal) (re z) (re g) (re b) (re t) = re fun i => dx z g b t (blockOf (i 0)) (placeOf (i 0)) (i 1))
    ∧ (val_main_v81 (F := Ideal) (re z) (re g) (re b) (re t)
      = re fun i => ∑ r : Fin 8192, xhat eps (row3 z (blockOf r) (placeOf r)) (i 1) * (err z g b t (blockOf r) (placeOf r) (i 1) / 1024))
    ∧ (val_main_v82 (F := Ideal) (re z) (re g) (re b) (re t)
      = re fun i => ∑ r : Fin 8192, err z g b t (blockOf r) (placeOf r) (i 1) / 1024) := by
  refine ⟨?_, ?_, ?_, ?_, ?_⟩ <;> funext i
  · unfold val_main_v77
    rw [v37_real]
    idx_vars i
    pointwise []
    exact congrArg _ (sum_blocks fun a c => ∑ d, err z g b t a c d * err z g b t a c d * (1 / 2048)).symm
  · unfold val_main_v78
    rw [v76_real]
    idx_vars i
    pointwise []
    rfl
  · unfold val_main_v80 val_main_v79
    rw [v76_real]
    idx_vars i
    pointwise []
    rfl
  · unfold val_main_v81
    rw [v52_real]
    idx_vars i
    pointwise []
    exact congrArg _ (sum_blocks fun a c => xhat eps (row3 z a c) i1 * (err z g b t a c i1 / 1024)).symm
  · unfold val_main_v82
    rw [v46_real]
    idx_vars i
    pointwise []
    exact congrArg _ (sum_blocks fun a c => err z g b t a c i1 / 1024).symm

end Cert.LossGradIdeal.Real

end
-- ==== Proof.LossClaim.lean ====
/- The loss and its gradient through the last normalisation: the kernel computes the loss and the derivative of the
   forward lines. -/
module

public import proofs.«01_k».proof.Defs
public import proofs.«01_k».proof.Proof.Gen.Pre_loss_finite
public import proofs.«01_k».proof.Proof.Gen.LossGradIdeal.Run
public import proofs.«01_k».proof.Proof.LossFinal
public import proofs.«01_k».proof.Proof.LossRef

@[expose] public section

set_option maxRecDepth 16384

noncomputable section

open Idealize.ShloMosaic Idealize.ShloMosaic.TcCoe Idealize.SL.Sem

namespace Cert.LossBwdIdeal.Pay

open Cert.LossBwdIdeal Cert.LossBwdIdeal.Gen Cert.RealLift Cert.LayerNorm

variable (m : (ℓ : Loc nD τ sig) → Buf (Elt Ideal) ℓ) (c : Dev nD)

/-- Three axes of real numbers laid out row after row. -/
theorem rows (x : FVec Ideal S4x2048x1024 .f32) (y : Fin 4 → Fin 2048 → Fin 1024 → ℝ) (h : x = re fun i : S4x2048x1024.Idx => y (i 0) (i 1) (i 2)) :
    shapeCast S8192x1024 x shapeCasts_S4x2048x1024_S8192x1024 = re fun i : S8192x1024.Idx => y (blockOf (i 0)) (placeOf (i 0)) (i 1) := by
  rw [h]
  funext i
  idx_vars i
  pointwise []
  rfl

/-- The normalised rows that the host prepares, row after row. -/
theorem entry24 (z : S4x2048x1024.Idx → ℝ) (g b : S1024.Idx → ℝ) (hz : m ((c : Thread nD τ).loc main_arg0) = re z)
    (hg : m ((c : Thread nD τ).loc main_arg1) = re g) (hb : m ((c : Thread nD τ).loc main_arg2) = re b) :
    V m c main_v24 = re fun i : S8192x1024.Idx => Cert.LossGradIdeal.Real.out z g b (blockOf (i 0)) (placeOf (i 0)) (i 1) := by
  entry_read
  simp only [show m (c, Proc.tc.devRef main_arg0) = _ from hz, show m (c, Proc.tc.devRef main_arg1) = _ from hg, show m (c, Proc.tc.devRef main_arg2) = _ from hb]
  exact rows _ _ (Cert.LossGradIdeal.Real.v28_real z g b)

/-- The targets, row after row. -/
theorem entry25 (x : S4x2048x1024.Idx → ℝ) (h : m ((c : Thread nD τ).loc main_arg3) = re x) :
    V m c main_v25 = re (flat x) := by
  entry_read
  funext i
  idx_vars i
  pointwise []
  exact congrFun h _

/-- The rows before the normalisation, row after row. -/
theorem entry26 (x : S4x2048x1024.Idx → ℝ) (h : m ((c : Thread nD τ).loc main_arg0) = re x) :
    V m c main_v26 = re (flat x) := by
  entry_read
  funext i
  idx_vars i
  pointwise []
  exact congrFun h _

/-- The normalisation's scale, as one row. -/
theorem entry27 (x : S1024.Idx → ℝ) (h : m ((c : Thread nD τ).loc main_arg1) = re x) :
    V m c main_v27 = re fun i : S1x1024.Idx => x (ix1 (i 1)) := by
  entry_read
  funext i
  idx_vars i
  pointwise []
  exact congrFun h _

end Cert.LossBwdIdeal.Pay

namespace Cert.LossProof

open Cert.RealLift Cert.LayerNorm

/-- Arrays the precondition holds of are arrays of real numbers. -/
theorem finite {x0 x1 x2 x3} (h : Cert.Pre_loss_finite.fn (F := Ideal) x0 x1 x2 x3 = fun _ => 1#1) :
    (∃ y, x0 = re y) ∧ (∃ y, x1 = re y) ∧ (∃ y, x2 = re y) ∧ ∃ y, x3 = re y := by
  have h := congrFun h fun a => a.elim0
  unfold Cert.Pre_loss_finite.fn Cert.Pre_loss_finite.fn_part1 at h
  dsimp only at h
  obtain ⟨h, h3⟩ := IntOp.andi_eq_one.1 h
  obtain ⟨h, h2⟩ := IntOp.andi_eq_one.1 h
  obtain ⟨h0, h1⟩ := IntOp.andi_eq_one.1 h
  exact ⟨real_of_all ofBits_bot ofBits_top h0, real_of_all ofBits_bot ofBits_top h1, real_of_all ofBits_bot ofBits_top h2,
    real_of_all ofBits_bot ofBits_top h3⟩

open Cert.LossBwdIdeal.Pay in
set_option maxHeartbeats 1600000 in
/-- The kernel and the derivative of the forward lines compute the same loss and gradients of finite arrays. -/
theorem algebraic : Cert.algebraic_LossBwdIdeal_LossGradIdeal_pre_loss_finite (hLossBwdIdeal := Cert.LossBwdIdeal.Gen.facts)
    (hLossGradIdeal := Cert.LossGradIdeal.Gen.facts) (hPre_loss_finite := Cert.Pre_loss_finite.Gen.facts) := by
  intro m ρ m' ρ' hpre hag
  refine ⟨fun c => (Cert.LossBwdIdeal.Gen.dats m 0 c).arrAt 4 Cert.LossBwdIdeal.cfg0.N, fun c => (Cert.LossBwdIdeal.Gen.dats m 0 c).arrAt 5 Cert.LossBwdIdeal.cfg0.N,
    fun c => (Cert.LossBwdIdeal.Gen.dats m 0 c).arrAt 6 Cert.LossBwdIdeal.cfg0.N,
    fun c => (Cert.LossBwdIdeal.Gen.dats m 0 c).arrAt 7 Cert.LossBwdIdeal.cfg0.N, fun c => (Cert.LossBwdIdeal.Gen.dats m 0 c).arrAt 8 Cert.LossBwdIdeal.cfg0.N,
    Cert.LossBwdIdeal.Value.run_blocks m ρ, θ_run_mono (Cert.LossGradIdeal.Value.run m' ρ') fun r h c => ?_⟩
  obtain ⟨⟨z, hz⟩, ⟨g, hg⟩, ⟨b, hb⟩, ⟨t, ht⟩⟩ := finite (hpre c)
  obtain ⟨a0, a1, a2, a3⟩ := hag c
  obtain ⟨h0, h1, h2, h3, h4, hrest⟩ := h c
  obtain ⟨e0, e1, e2, e3, e4⟩ := Cert.LossGradIdeal.Real.results z g b t
  have X := entry24 m c z g b hz hg hb
  have T := entry25 m c t ht
  have Z := entry26 m c z hz
  have G := entry27 m c g hg
  rw [hz] at a0
  rw [hg] at a1
  rw [hb] at a2
  rw [ht] at a3
  refine ⟨?_, ?_, ?_, ?_, ?_, hrest⟩
  · rw [h0, Cert.LossGradIdeal.Read.val_main_v77_eq, a0, a1, a2, a3, e0]
    exact (final4 m c _ _ X T).symm
  · rw [h1, Cert.LossGradIdeal.Read.val_main_v78_eq, a0, a1, a2, a3, e1]
    exact (final5 m c _ _ _ _ X T Z G).symm
  · rw [h2, Cert.LossGradIdeal.Read.val_main_v80_eq, a0, a1, a2, a3, e2]
    exact (final6 m c _ _ _ _ X T Z G).symm
  · rw [h3, Cert.LossGradIdeal.Read.val_main_v81_eq, a0, a1, a2, a3, e3]
    refine ((final7 m c _ _ _ X T Z).trans ?_).symm
    funext i
    exact congrArg _ (Finset.sum_congr rfl fun r _ => mul_comm _ _)
  · refine (h4.trans (Cert.LossGradIdeal.Read.val_main_v82_eq _ _ _ _)).trans ?_
    rw [a0, a1, a2, a3, e4]
    exact (final8 m c _ _ X T).symm

end Cert.LossProof

end
-- ==== Proof.lean ====
module

public import proofs.«01_k».proof.Defs
public import proofs.«01_k».proof.Proof.Frames
public import proofs.«01_k».proof.Proof.MemClaim
public import proofs.«01_k».proof.Proof.MemOddClaim
public import proofs.«01_k».proof.Proof.MemFwdClaim
public import proofs.«01_k».proof.Proof.MemFwdOddClaim
public import proofs.«01_k».proof.Proof.SguClaim
public import proofs.«01_k».proof.Proof.SguFwdClaim
public import proofs.«01_k».proof.Proof.GateClaim
public import proofs.«01_k».proof.Proof.UpClaim
public import proofs.«01_k».proof.Proof.OutClaim
public import proofs.«01_k».proof.Proof.DownClaim
public import proofs.«01_k».proof.Proof.XClaim
public import proofs.«01_k».proof.Proof.CatClaim
public import proofs.«01_k».proof.Proof.KvClaim
public import proofs.«01_k».proof.Proof.InClaim
public import proofs.«01_k».proof.Proof.InOddClaim
public import proofs.«01_k».proof.Proof.AdamClaim
public import proofs.«01_k».proof.Proof.KvGradClaim
public import proofs.«01_k».proof.Proof.HidGradClaim
public import proofs.«01_k».proof.Proof.DownGradClaim
public import proofs.«01_k».proof.Proof.OutGradClaim
public import proofs.«01_k».proof.Proof.InGradClaim
public import proofs.«01_k».proof.Proof.InLateGradClaim
public import proofs.«01_k».proof.Proof.InOddGradClaim
public import proofs.«01_k».proof.Proof.InLateClaim
public import proofs.«01_k».proof.Proof.AdamHidClaim
public import proofs.«01_k».proof.Proof.FfnClaim
public import proofs.«01_k».proof.Proof.ProjClaim
public import proofs.«01_k».proof.Proof.ProjOddClaim
public import proofs.«01_k».proof.Proof.LossClaim

@[expose] public section

noncomputable section

namespace Cert.Proof

open Idealize.ShloMosaic Idealize.SL.Sem

/-- Everything the certificate claims. -/
theorem claim : Cert.Claim :=
  ⟨Cert.MemBwd.Gen.facts,
    Cert.MemBwdIdeal.Gen.facts,
    Cert.MemGradIdeal.Gen.facts,
    Cert.SguBwd.Gen.facts,
    Cert.SguBwdIdeal.Gen.facts,
    Cert.SguGradIdeal.Gen.facts,
    Cert.GateBwd.Gen.facts,
    Cert.GateBwdIdeal.Gen.facts,
    Cert.GateGradIdeal.Gen.facts,
    Cert.FfnIn.Gen.facts,
    Cert.FfnInIdeal.Gen.facts,
    Cert.FfnGradIdeal.Gen.facts,
    Cert.ProjBwd.Gen.facts,
    Cert.ProjBwdIdeal.Gen.facts,
    Cert.ProjGradIdeal.Gen.facts,
    Cert.LossBwd.Gen.facts,
    Cert.LossBwdIdeal.Gen.facts,
    Cert.LossGradIdeal.Gen.facts,
    Cert.MemOddBwd.Gen.facts,
    Cert.MemOddBwdIdeal.Gen.facts,
    Cert.MemOddGradIdeal.Gen.facts,
    Cert.ProjOddBwd.Gen.facts,
    Cert.ProjOddBwdIdeal.Gen.facts,
    Cert.ProjOddGradIdeal.Gen.facts,
    Cert.MemFwd.Gen.facts,
    Cert.MemFwdIdeal.Gen.facts,
    Cert.MemFwdRefIdeal.Gen.facts,
    Cert.MemFwdOdd.Gen.facts,
    Cert.MemFwdOddIdeal.Gen.facts,
    Cert.MemFwdOddRefIdeal.Gen.facts,
    Cert.SguFwd.Gen.facts,
    Cert.SguFwdIdeal.Gen.facts,
    Cert.SguFwdRefIdeal.Gen.facts,
    Cert.UpFwd.Gen.facts,
    Cert.UpFwdIdeal.Gen.facts,
    Cert.UpFwdRefIdeal.Gen.facts,
    Cert.OutFwd.Gen.facts,
    Cert.OutFwdIdeal.Gen.facts,
    Cert.OutFwdRefIdeal.Gen.facts,
    Cert.DownFwd.Gen.facts,
    Cert.DownFwdIdeal.Gen.facts,
    Cert.DownFwdRefIdeal.Gen.facts,
    Cert.XBwd.Gen.facts,
    Cert.XBwdIdeal.Gen.facts,
    Cert.XGradIdeal.Gen.facts,
    Cert.CatBwd.Gen.facts,
    Cert.CatBwdIdeal.Gen.facts,
    Cert.CatGradIdeal.Gen.facts,
    Cert.KvFwd.Gen.facts,
    Cert.KvFwdIdeal.Gen.facts,
    Cert.KvFwdRefIdeal.Gen.facts,
    Cert.InFwd.Gen.facts,
    Cert.InFwdIdeal.Gen.facts,
    Cert.InFwdRefIdeal.Gen.facts,
    Cert.InOddFwd.Gen.facts,
    Cert.InOddFwdIdeal.Gen.facts,
    Cert.InOddFwdRefIdeal.Gen.facts,
    Cert.Adam.Gen.facts,
    Cert.AdamIdeal.Gen.facts,
    Cert.AdamRefIdeal.Gen.facts,
    Cert.KvBwd.Gen.facts,
    Cert.KvBwdIdeal.Gen.facts,
    Cert.KvGradIdeal.Gen.facts,
    Cert.HidBwd.Gen.facts,
    Cert.HidBwdIdeal.Gen.facts,
    Cert.HidGradIdeal.Gen.facts,
    Cert.DownBwd.Gen.facts,
    Cert.DownBwdIdeal.Gen.facts,
    Cert.DownGradIdeal.Gen.facts,
    Cert.OutBwd.Gen.facts,
    Cert.OutBwdIdeal.Gen.facts,
    Cert.OutGradIdeal.Gen.facts,
    Cert.InBwd.Gen.facts,
    Cert.InBwdIdeal.Gen.facts,
    Cert.InGradIdeal.Gen.facts,
    Cert.InLateBwd.Gen.facts,
    Cert.InLateBwdIdeal.Gen.facts,
    Cert.InLateGradIdeal.Gen.facts,
    Cert.InOddBwd.Gen.facts,
    Cert.InOddBwdIdeal.Gen.facts,
    Cert.InOddGradIdeal.Gen.facts,
    Cert.InLateFwd.Gen.facts,
    Cert.InLateFwdIdeal.Gen.facts,
    Cert.InLateFwdRefIdeal.Gen.facts,
    Cert.AdamHid.Gen.facts,
    Cert.AdamHidIdeal.Gen.facts,
    Cert.AdamHidRefIdeal.Gen.facts,
    Cert.Pre_mem_finite.Gen.facts,
    Cert.Pre_sgu_finite.Gen.facts,
    Cert.Pre_gate_finite.Gen.facts,
    Cert.Pre_ffn_in_finite.Gen.facts,
    Cert.Pre_proj_finite.Gen.facts,
    Cert.Pre_loss_finite.Gen.facts,
    Cert.Pre_mem_odd_finite.Gen.facts,
    Cert.Pre_proj_odd_finite.Gen.facts,
    Cert.Pre_mem_fwd_finite.Gen.facts,
    Cert.Pre_mem_fwd_odd_finite.Gen.facts,
    Cert.Pre_sgu_fwd_finite.Gen.facts,
    Cert.Pre_up_finite.Gen.facts,
    Cert.Frames.mem_bits,
    Cert.Frames.mem_ideal,
    fun m g _ => Cert.Frames.mem_ideal m g trivial,
    Cert.Frames.mem_ref,
    fun m g _ => Cert.Frames.mem_ref m g trivial,
    Cert.Frames.sgu_bits,
    Cert.Frames.sgu_ideal,
    fun m g _ => Cert.Frames.sgu_ideal m g trivial,
    Cert.Frames.sgu_ref,
    fun m g _ => Cert.Frames.sgu_ref m g trivial,
    Cert.Frames.gate_bits,
    Cert.Frames.gate_ideal,
    fun m g _ => Cert.Frames.gate_ideal m g trivial,
    Cert.Frames.gate_ref,
    fun m g _ => Cert.Frames.gate_ref m g trivial,
    Cert.Frames.ffn_bits,
    Cert.Frames.ffn_ideal,
    fun m g _ => Cert.Frames.ffn_ideal m g trivial,
    Cert.Frames.ffn_ref,
    fun m g _ => Cert.Frames.ffn_ref m g trivial,
    Cert.Frames.proj_bits,
    Cert.Frames.proj_ideal,
    fun m g _ => Cert.Frames.proj_ideal m g trivial,
    Cert.Frames.proj_ref,
    fun m g _ => Cert.Frames.proj_ref m g trivial,
    Cert.Frames.loss_bits,
    Cert.Frames.loss_ideal,
    fun m g _ => Cert.Frames.loss_ideal m g trivial,
    Cert.Frames.loss_ref,
    fun m g _ => Cert.Frames.loss_ref m g trivial,
    Cert.Frames.mem_odd_bits,
    Cert.Frames.mem_odd_ideal,
    fun m g _ => Cert.Frames.mem_odd_ideal m g trivial,
    Cert.Frames.mem_odd_ref,
    fun m g _ => Cert.Frames.mem_odd_ref m g trivial,
    Cert.Frames.proj_odd_bits,
    Cert.Frames.proj_odd_ideal,
    fun m g _ => Cert.Frames.proj_odd_ideal m g trivial,
    Cert.Frames.proj_odd_ref,
    fun m g _ => Cert.Frames.proj_odd_ref m g trivial,
    Cert.Frames.mem_fwd_bits,
    Cert.Frames.mem_fwd_ideal,
    fun m g _ => Cert.Frames.mem_fwd_ideal m g trivial,
    Cert.Frames.mem_fwd_ref,
    fun m g _ => Cert.Frames.mem_fwd_ref m g trivial,
    Cert.Frames.mem_fwd_odd_bits,
    Cert.Frames.mem_fwd_odd_ideal,
    fun m g _ => Cert.Frames.mem_fwd_odd_ideal m g trivial,
    Cert.Frames.mem_fwd_odd_ref,
    fun m g _ => Cert.Frames.mem_fwd_odd_ref m g trivial,
    Cert.Frames.sgu_fwd_bits,
    Cert.Frames.sgu_fwd_ideal,
    fun m g _ => Cert.Frames.sgu_fwd_ideal m g trivial,
    Cert.Frames.sgu_fwd_ref,
    fun m g _ => Cert.Frames.sgu_fwd_ref m g trivial,
    Cert.Frames.up_fwd_bits,
    Cert.Frames.up_fwd_ideal,
    fun m g _ => Cert.Frames.up_fwd_ideal m g trivial,
    Cert.Frames.up_fwd_ref,
    fun m g _ => Cert.Frames.up_fwd_ref m g trivial,
    Cert.Frames.out_fwd_bits,
    Cert.Frames.out_fwd_ideal,
    Cert.Frames.out_fwd_ref,
    Cert.Frames.down_fwd_bits,
    Cert.Frames.down_fwd_ideal,
    Cert.Frames.down_fwd_ref,
    Cert.Frames.x_bits,
    Cert.Frames.x_ideal,
    Cert.Frames.x_ref,
    Cert.Frames.cat_bits,
    Cert.Frames.cat_ideal,
    Cert.Frames.cat_ref,
    Cert.Frames.kv_bits,
    Cert.Frames.kv_ideal,
    Cert.Frames.kv_ref,
    Cert.Frames.inp_bits,
    Cert.Frames.inp_ideal,
    Cert.Frames.inp_ref,
    Cert.Frames.inp_odd_bits,
    Cert.Frames.inp_odd_ideal,
    Cert.Frames.inp_odd_ref,
    Cert.Frames.adam_bits,
    Cert.Frames.adam_ideal,
    Cert.Frames.adam_ref,
    Cert.Frames.kv_grad_bits,
    Cert.Frames.kv_grad_ideal,
    Cert.Frames.kv_grad_ref,
    Cert.Frames.hid_grad_bits,
    Cert.Frames.hid_grad_ideal,
    Cert.Frames.hid_grad_ref,
    Cert.Frames.down_grad_bits,
    Cert.Frames.down_grad_ideal,
    Cert.Frames.down_grad_ref,
    Cert.Frames.out_grad_bits,
    Cert.Frames.out_grad_ideal,
    Cert.Frames.out_grad_ref,
    Cert.Frames.in_grad_bits,
    Cert.Frames.in_grad_ideal,
    Cert.Frames.in_grad_ref,
    Cert.Frames.in_late_grad_bits,
    Cert.Frames.in_late_grad_ideal,
    Cert.Frames.in_late_grad_ref,
    Cert.Frames.in_odd_grad_bits,
    Cert.Frames.in_odd_grad_ideal,
    Cert.Frames.in_odd_grad_ref,
    Cert.Frames.inp_late_bits,
    Cert.Frames.inp_late_ideal,
    Cert.Frames.inp_late_ref,
    Cert.Frames.adam_hid_bits,
    Cert.Frames.adam_hid_ideal,
    Cert.Frames.adam_hid_ref,
    trivial,
    Cert.MemProof.algebraic,
    ⟨IdealRules.named_const.statement Cert.SguBwdIdeal.κ "cubic" .f32 0x3D372713#32 ((8943 / 200000 : ℝ) : EReal) rfl,
    IdealRules.named_const.statement Cert.SguBwdIdeal.κ "cubic3" .f32 0x3E095D4F#32 ((26829 / 200000 : ℝ) : EReal) rfl⟩,
    Cert.SguProof.algebraic,
    trivial,
    Cert.GateProof.algebraic,
    trivial,
    Cert.FfnProof.algebraic,
    trivial,
    Cert.ProjProof.algebraic,
    trivial,
    Cert.LossProof.algebraic,
    trivial,
    Cert.MemOddProof.algebraic,
    trivial,
    Cert.ProjOddProof.algebraic,
    trivial,
    Cert.MemFwdProof.algebraic,
    trivial,
    Cert.MemFwdOddProof.algebraic,
    IdealRules.named_const.statement Cert.SguFwdIdeal.κ "cubic" .f32 0x3D372713#32 ((8943 / 200000 : ℝ) : EReal) rfl,
    Cert.SguFwdProof.algebraic,
    trivial,
    Cert.UpProof.algebraic,
    trivial,
    Cert.OutProof.algebraic,
    trivial,
    Cert.DownProof.algebraic,
    trivial,
    Cert.XProof.algebraic,
    trivial,
    Cert.CatProof.algebraic,
    trivial,
    Cert.KvProof.algebraic,
    trivial,
    Cert.InProof.algebraic,
    trivial,
    Cert.InOddProof.algebraic,
    trivial,
    Cert.AdamProof.algebraic,
    trivial,
    Cert.KvGradProof.algebraic,
    trivial,
    Cert.HidGradProof.algebraic,
    trivial,
    Cert.DownGradProof.algebraic,
    trivial,
    Cert.OutGradProof.algebraic,
    trivial,
    Cert.InGradProof.algebraic,
    trivial,
    Cert.InLateGradProof.algebraic,
    trivial,
    Cert.InOddGradProof.algebraic,
    trivial,
    Cert.InLateProof.algebraic,
    trivial,
    Cert.AdamHidProof.algebraic⟩

end Cert.Proof

end
